-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_all_finite [hPre_all_finite : Cert.Pre_all_finite.Facts] (m : (ℓ : Loc Cert.KernelIdeal.nD Cert.KernelIdeal.τ Cert.KernelIdeal.sig) → Buf (Elt Ideal) ℓ) : Prop :=
  ∀ c : Dev Cert.KernelIdeal.nD,
    (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_all_finite [hPre_all_finite : Cert.Pre_all_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_rows_finite [hPre_rows_finite : Cert.Pre_rows_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_rows_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).1 = (fun _ => 1#1)
    ∧ (Cert.Pre_rows_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.1 = (fun _ => 1#1)
    ∧ (Cert.Pre_rows_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_rows_finite [hPre_rows_finite : Cert.Pre_rows_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_rows_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).1 = (fun _ => 1#1)
    ∧ (Cert.Pre_rows_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.1 = (fun _ => 1#1)
    ∧ (Cert.Pre_rows_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_head_finite [hPre_head_finite : Cert.Pre_head_finite.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_head_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))).1 = (fun _ => 1#1)
    ∧ (Cert.Pre_head_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))).2.1 = (fun _ => 1#1)
    ∧ (Cert.Pre_head_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))).2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_head_finite [hPre_head_finite : Cert.Pre_head_finite.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_head_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2))).1 = (fun _ => 1#1)
    ∧ (Cert.Pre_head_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2))).2.1 = (fun _ => 1#1)
    ∧ (Cert.Pre_head_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2))).2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_gate_finite [hPre_gate_finite : Cert.Pre_gate_finite.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_gate_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).1 = (fun _ => 1#1)
    ∧ (Cert.Pre_gate_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.1 = (fun _ => 1#1)
    ∧ (Cert.Pre_gate_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.2.1 = (fun _ => 1#1)
    ∧ (Cert.Pre_gate_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.2.2.1 = (fun _ => 1#1)
    ∧ (Cert.Pre_gate_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_gate_finite [hPre_gate_finite : Cert.Pre_gate_finite.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_gate_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).1 = (fun _ => 1#1)
    ∧ (Cert.Pre_gate_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.1 = (fun _ => 1#1)
    ∧ (Cert.Pre_gate_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.2.1 = (fun _ => 1#1)
    ∧ (Cert.Pre_gate_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.2.2.1 = (fun _ => 1#1)
    ∧ (Cert.Pre_gate_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.2.2.2 = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_gates_finite [hPre_gates_finite : Cert.Pre_gates_finite.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_gates_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_gates_finite [hPre_gates_finite : Cert.Pre_gates_finite.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_gates_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 [hPre_core_of_two : Cert.Pre_core_of_two.Facts] (m : (ℓ : Loc Cert.Kernel13.nD Cert.Kernel13.τ Cert.Kernel13.sig) → Buf (Elt Bits) ℓ) : Prop :=
  ∀ c : Dev Cert.Kernel13.nD,
    (Cert.Pre_core_of_two.fn (F := Bits) (m ((c.tc : Thread Cert.Kernel13.nD Cert.Kernel13.τ).loc Cert.Kernel13.main_arg0)) (m ((c.tc : Thread Cert.Kernel13.nD Cert.Kernel13.τ).loc Cert.Kernel13.main_arg1)) (m ((c.tc : Thread Cert.Kernel13.nD Cert.Kernel13.τ).loc Cert.Kernel13.main_arg2))) = (fun _ => 1#1)

def Pre_Kernel13Ideal [hPre_core_of_two : Cert.Pre_core_of_two.Facts] (m : (ℓ : Loc Cert.Kernel13Ideal.nD Cert.Kernel13Ideal.τ Cert.Kernel13Ideal.sig) → Buf (Elt Ideal) ℓ) : Prop :=
  ∀ c : Dev Cert.Kernel13Ideal.nD,
    (Cert.Pre_core_of_two.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2))) = (fun _ => 1#1)

def Pre_Reference13Ideal (m : (ℓ : Loc Cert.Reference13Ideal.nD Cert.Reference13Ideal.τ Cert.Reference13Ideal.sig) → Buf (Elt Ideal) ℓ) : Prop :=
  True

def Pre_Reference13Ideal_core_of_two [hPre_core_of_two : Cert.Pre_core_of_two.Facts] (m : (ℓ : Loc Cert.Reference13Ideal.nD Cert.Reference13Ideal.τ Cert.Reference13Ideal.sig) → Buf (Elt Ideal) ℓ) : Prop :=
  ∀ c : Dev Cert.Reference13Ideal.nD,
    (Cert.Pre_core_of_two.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2))) = (fun _ => 1#1)

def Pre_Kernel14 [hPre_chip_of_four : Cert.Pre_chip_of_four.Facts] (m : (ℓ : Loc Cert.Kernel14.nD Cert.Kernel14.τ Cert.Kernel14.sig) → Buf (Elt Bits) ℓ) : Prop :=
  ∀ c : Dev Cert.Kernel14.nD,
    (Cert.Pre_chip_of_four.fn (F := Bits) (m ((c.tc : Thread Cert.Kernel14.nD Cert.Kernel14.τ).loc Cert.Kernel14.main_arg0)) (m ((c.tc : Thread Cert.Kernel14.nD Cert.Kernel14.τ).loc Cert.Kernel14.main_arg1)) (m ((c.tc : Thread Cert.Kernel14.nD Cert.Kernel14.τ).loc Cert.Kernel14.main_arg2))) = (fun _ => 1#1)

def Pre_Kernel14Ideal [hPre_chip_of_four : Cert.Pre_chip_of_four.Facts] (m : (ℓ : Loc Cert.Kernel14Ideal.nD Cert.Kernel14Ideal.τ Cert.Kernel14Ideal.sig) → Buf (Elt Ideal) ℓ) : Prop :=
  ∀ c : Dev Cert.Kernel14Ideal.nD,
    (Cert.Pre_chip_of_four.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2))) = (fun _ => 1#1)

def Pre_Reference14Ideal (m : (ℓ : Loc Cert.Reference14Ideal.nD Cert.Reference14Ideal.τ Cert.Reference14Ideal.sig) → Buf (Elt Ideal) ℓ) : Prop :=
  True

def Pre_Reference14Ideal_chip_of_four [hPre_chip_of_four : Cert.Pre_chip_of_four.Facts] (m : (ℓ : Loc Cert.Reference14Ideal.nD Cert.Reference14Ideal.τ Cert.Reference14Ideal.sig) → Buf (Elt Ideal) ℓ) : Prop :=
  ∀ c : Dev Cert.Reference14Ideal.nD,
    (Cert.Pre_chip_of_four.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2))) = (fun _ => 1#1)

def Pre_Kernel15 [hPre_device_of_eight : Cert.Pre_device_of_eight.Facts] (m : (ℓ : Loc Cert.Kernel15.nD Cert.Kernel15.τ Cert.Kernel15.sig) → Buf (Elt Bits) ℓ) : Prop :=
  ∀ c : Dev Cert.Kernel15.nD,
    (Cert.Pre_device_of_eight.fn (F := Bits) (m ((c.tc : Thread Cert.Kernel15.nD Cert.Kernel15.τ).loc Cert.Kernel15.main_arg0)) (m ((c.tc : Thread Cert.Kernel15.nD Cert.Kernel15.τ).loc Cert.Kernel15.main_arg1)) (m ((c.tc : Thread Cert.Kernel15.nD Cert.Kernel15.τ).loc Cert.Kernel15.main_arg2))) = (fun _ => 1#1)

def Pre_Kernel15Ideal [hPre_device_of_eight : Cert.Pre_device_of_eight.Facts] (m : (ℓ : Loc Cert.Kernel15Ideal.nD Cert.Kernel15Ideal.τ Cert.Kernel15Ideal.sig) → Buf (Elt Ideal) ℓ) : Prop :=
  ∀ c : Dev Cert.Kernel15Ideal.nD,
    (Cert.Pre_device_of_eight.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2))) = (fun _ => 1#1)

def Pre_Reference15Ideal (m : (ℓ : Loc Cert.Reference15Ideal.nD Cert.Reference15Ideal.τ Cert.Reference15Ideal.sig) → Buf (Elt Ideal) ℓ) : Prop :=
  True

def Pre_Reference15Ideal_device_of_eight [hPre_device_of_eight : Cert.Pre_device_of_eight.Facts] (m : (ℓ : Loc Cert.Reference15Ideal.nD Cert.Reference15Ideal.τ Cert.Reference15Ideal.sig) → Buf (Elt Ideal) ℓ) : Prop :=
  ∀ c : Dev Cert.Reference15Ideal.nD,
    (Cert.Pre_device_of_eight.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_all_finite [hKernelIdeal : Cert.KernelIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_all_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_all_finite [hReferenceIdeal : Cert.ReferenceIdeal.Facts] [hPre_all_finite : Cert.Pre_all_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_all_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_rows_finite [hKernel2Ideal : Cert.Kernel2Ideal.Facts] [hPre_rows_finite : Cert.Pre_rows_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_rows_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_rows_finite [hReference2Ideal : Cert.Reference2Ideal.Facts] [hPre_rows_finite : Cert.Pre_rows_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_rows_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Kernel3Ideal_pre_head_finite [hKernel3Ideal : Cert.Kernel3Ideal.Facts] [hPre_head_finite : Cert.Pre_head_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_head_finite m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Reference3Ideal_pre_head_finite [hReference3Ideal : Cert.Reference3Ideal.Facts] [hPre_head_finite : Cert.Pre_head_finite.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_head_finite m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Kernel4Ideal_pre_gate_finite [hKernel4Ideal : Cert.Kernel4Ideal.Facts] [hPre_gate_finite : Cert.Pre_gate_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_gate_finite m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Reference4Ideal_pre_gate_finite [hReference4Ideal : Cert.Reference4Ideal.Facts] [hPre_gate_finite : Cert.Pre_gate_finite.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_gate_finite m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Kernel5Ideal_pre_gates_finite [hKernel5Ideal : Cert.Kernel5Ideal.Facts] [hPre_gates_finite : Cert.Pre_gates_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_gates_finite m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Reference5Ideal_pre_gates_finite [hReference5Ideal : Cert.Reference5Ideal.Facts] [hPre_gates_finite : Cert.Pre_gates_finite.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_gates_finite m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5)
      ∧ r.2.mem ((c.tc : Thread Cert.Kernel12.nD Cert.Kernel12.τ).loc Cert.Kernel12.main_arg6) = m ((c.tc : Thread Cert.Kernel12.nD Cert.Kernel12.τ).loc Cert.Kernel12.main_arg6)
      ∧ r.2.mem ((c.tc : Thread Cert.Kernel12.nD Cert.Kernel12.τ).loc Cert.Kernel12.main_arg7) = m ((c.tc : Thread Cert.Kernel12.nD Cert.Kernel12.τ).loc Cert.Kernel12.main_arg7))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
      ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6)
      ∧ r.2.mem ((c.tc : Thread Cert.Reference12Ideal.nD Cert.Reference12Ideal.τ).loc Cert.Reference12Ideal.main_arg7) = m ((c.tc : Thread Cert.Reference12Ideal.nD Cert.Reference12Ideal.τ).loc Cert.Reference12Ideal.main_arg7))
      ∧ r.2.sem = fun _ => 0)

def quiescent_Kernel13 [hKernel13 : Cert.Kernel13.Facts] [hPre_core_of_two : Cert.Pre_core_of_two.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] [hPre_core_of_two : Cert.Pre_core_of_two.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Reference13Ideal_pre_core_of_two [hReference13Ideal : Cert.Reference13Ideal.Facts] [hPre_core_of_two : Cert.Pre_core_of_two.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal_core_of_two m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] [hPre_chip_of_four : Cert.Pre_chip_of_four.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] [hPre_chip_of_four : Cert.Pre_chip_of_four.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Reference14Ideal_pre_chip_of_four [hReference14Ideal : Cert.Reference14Ideal.Facts] [hPre_chip_of_four : Cert.Pre_chip_of_four.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal_chip_of_four m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] [hPre_device_of_eight : Cert.Pre_device_of_eight.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] [hPre_device_of_eight : Cert.Pre_device_of_eight.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Reference15Ideal_pre_device_of_eight [hReference15Ideal : Cert.Reference15Ideal.Facts] [hPre_device_of_eight : Cert.Pre_device_of_eight.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal_device_of_eight m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def preserves_Kernel_KernelIdeal : Prop :=
  IdealRules.named_const.Statement Cert.KernelIdeal.κ "gelu_ck" .f32 0x3D122279#32 ((80338380498831 / 2251799813685248 : ℝ) : EReal)
  ∧ IdealRules.named_const.Statement Cert.KernelIdeal.κ "gelu_3ck" .f32 0x3DDB33B6#32 ((241015141496493 / 2251799813685248 : ℝ) : EReal)

def algebraic_KernelIdeal_ReferenceIdeal_pre_all_finite [hKernelIdeal : Cert.KernelIdeal.Facts] [hReferenceIdeal : Cert.ReferenceIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_all_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v18_0)) (v1 : (c : Dev Cert.KernelIdeal.nD) → Buf (Elt Ideal) ((c.tc : Thread Cert.KernelIdeal.nD Cert.KernelIdeal.τ).loc Cert.KernelIdeal.main_v18_1)) (v2 : (c : Dev Cert.KernelIdeal.nD) → Buf (Elt Ideal) ((c.tc : Thread Cert.KernelIdeal.nD Cert.KernelIdeal.τ).loc Cert.KernelIdeal.main_v18_2)) (v3 : (c : Dev Cert.KernelIdeal.nD) → Buf (Elt Ideal) ((c.tc : Thread Cert.KernelIdeal.nD Cert.KernelIdeal.τ).loc Cert.KernelIdeal.main_v18_3)) (v4 : (c : Dev Cert.KernelIdeal.nD) → Buf (Elt Ideal) ((c.tc : Thread Cert.KernelIdeal.nD Cert.KernelIdeal.τ).loc Cert.KernelIdeal.main_v18_4)) (v5 : (c : Dev Cert.KernelIdeal.nD) → Buf (Elt Ideal) ((c.tc : Thread Cert.KernelIdeal.nD Cert.KernelIdeal.τ).loc Cert.KernelIdeal.main_v18_5)) (v6 : (c : Dev Cert.KernelIdeal.nD) → Buf (Elt Ideal) ((c.tc : Thread Cert.KernelIdeal.nD Cert.KernelIdeal.τ).loc Cert.KernelIdeal.main_v18_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18_0) = v0 c
          ∧ r.2.mem ((c.tc : Thread Cert.KernelIdeal.nD Cert.KernelIdeal.τ).loc Cert.KernelIdeal.main_v18_1) = v1 c
          ∧ r.2.mem ((c.tc : Thread Cert.KernelIdeal.nD Cert.KernelIdeal.τ).loc Cert.KernelIdeal.main_v18_2) = v2 c
          ∧ r.2.mem ((c.tc : Thread Cert.KernelIdeal.nD Cert.KernelIdeal.τ).loc Cert.KernelIdeal.main_v18_3) = v3 c
          ∧ r.2.mem ((c.tc : Thread Cert.KernelIdeal.nD Cert.KernelIdeal.τ).loc Cert.KernelIdeal.main_v18_4) = v4 c
          ∧ r.2.mem ((c.tc : Thread Cert.KernelIdeal.nD Cert.KernelIdeal.τ).loc Cert.KernelIdeal.main_v18_5) = v5 c
          ∧ r.2.mem ((c.tc : Thread Cert.KernelIdeal.nD Cert.KernelIdeal.τ).loc Cert.KernelIdeal.main_v18_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v286) = v0 c
          ∧ r.2.mem ((c.tc : Thread Cert.ReferenceIdeal.nD Cert.ReferenceIdeal.τ).loc Cert.ReferenceIdeal.main_v287) = v1 c
          ∧ r.2.mem ((c.tc : Thread Cert.ReferenceIdeal.nD Cert.ReferenceIdeal.τ).loc Cert.ReferenceIdeal.main_v288) = v2 c
          ∧ r.2.mem ((c.tc : Thread Cert.ReferenceIdeal.nD Cert.ReferenceIdeal.τ).loc Cert.ReferenceIdeal.main_v289) = v3 c
          ∧ r.2.mem ((c.tc : Thread Cert.ReferenceIdeal.nD Cert.ReferenceIdeal.τ).loc Cert.ReferenceIdeal.main_v228) = v4 c
          ∧ r.2.mem ((c.tc : Thread Cert.ReferenceIdeal.nD Cert.ReferenceIdeal.τ).loc Cert.ReferenceIdeal.main_v284) = v5 c
          ∧ r.2.mem ((c.tc : Thread Cert.ReferenceIdeal.nD Cert.ReferenceIdeal.τ).loc Cert.ReferenceIdeal.main_v285) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal_pre_rows_finite [hKernel2Ideal : Cert.Kernel2Ideal.Facts] [hReference2Ideal : Cert.Reference2Ideal.Facts] [hPre_rows_finite : Cert.Pre_rows_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_rows_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v1_0)) (v1 : (c : Dev Cert.Kernel2Ideal.nD) → Buf (Elt Ideal) ((c.tc : Thread Cert.Kernel2Ideal.nD Cert.Kernel2Ideal.τ).loc Cert.Kernel2Ideal.main_v1_1)) (v2 : (c : Dev Cert.Kernel2Ideal.nD) → Buf (Elt Ideal) ((c.tc : Thread Cert.Kernel2Ideal.nD Cert.Kernel2Ideal.τ).loc Cert.Kernel2Ideal.main_v1_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1_0) = v0 c
          ∧ r.2.mem ((c.tc : Thread Cert.Kernel2Ideal.nD Cert.Kernel2Ideal.τ).loc Cert.Kernel2Ideal.main_v1_1) = v1 c
          ∧ r.2.mem ((c.tc : Thread Cert.Kernel2Ideal.nD Cert.Kernel2Ideal.τ).loc Cert.Kernel2Ideal.main_v1_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v37) = v0 c
          ∧ r.2.mem ((c.tc : Thread Cert.Reference2Ideal.nD Cert.Reference2Ideal.τ).loc Cert.Reference2Ideal.main_v38) = v1 c
          ∧ r.2.mem ((c.tc : Thread Cert.Reference2Ideal.nD Cert.Reference2Ideal.τ).loc Cert.Reference2Ideal.main_v39) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal_pre_head_finite [hKernel3Ideal : Cert.Kernel3Ideal.Facts] [hReference3Ideal : Cert.Reference3Ideal.Facts] [hPre_head_finite : Cert.Pre_head_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_head_finite m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v1_0)) (v1 : (c : Dev Cert.Kernel3Ideal.nD) → Buf (Elt Ideal) ((c.tc : Thread Cert.Kernel3Ideal.nD Cert.Kernel3Ideal.τ).loc Cert.Kernel3Ideal.main_v1_1)) (v2 : (c : Dev Cert.Kernel3Ideal.nD) → Buf (Elt Ideal) ((c.tc : Thread Cert.Kernel3Ideal.nD Cert.Kernel3Ideal.τ).loc Cert.Kernel3Ideal.main_v1_2)) (v3 : (c : Dev Cert.Kernel3Ideal.nD) → Buf (Elt Ideal) ((c.tc : Thread Cert.Kernel3Ideal.nD Cert.Kernel3Ideal.τ).loc Cert.Kernel3Ideal.main_v1_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1_0) = v0 c
          ∧ r.2.mem ((c.tc : Thread Cert.Kernel3Ideal.nD Cert.Kernel3Ideal.τ).loc Cert.Kernel3Ideal.main_v1_1) = v1 c
          ∧ r.2.mem ((c.tc : Thread Cert.Kernel3Ideal.nD Cert.Kernel3Ideal.τ).loc Cert.Kernel3Ideal.main_v1_2) = v2 c
          ∧ r.2.mem ((c.tc : Thread Cert.Kernel3Ideal.nD Cert.Kernel3Ideal.τ).loc Cert.Kernel3Ideal.main_v1_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v51) = v0 c
          ∧ r.2.mem ((c.tc : Thread Cert.Reference3Ideal.nD Cert.Reference3Ideal.τ).loc Cert.Reference3Ideal.main_v50) = v1 c
          ∧ r.2.mem ((c.tc : Thread Cert.Reference3Ideal.nD Cert.Reference3Ideal.τ).loc Cert.Reference3Ideal.main_v52) = v2 c
          ∧ r.2.mem ((c.tc : Thread Cert.Reference3Ideal.nD Cert.Reference3Ideal.τ).loc Cert.Reference3Ideal.main_v53) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal_pre_gate_finite [hKernel4Ideal : Cert.Kernel4Ideal.Facts] [hReference4Ideal : Cert.Reference4Ideal.Facts] [hPre_gate_finite : Cert.Pre_gate_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_gate_finite m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v1_1)) (v1 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1_1) = v0 c
          ∧ r.2.mem ((c.tc : Thread Cert.Kernel4Ideal.nD Cert.Kernel4Ideal.τ).loc Cert.Kernel4Ideal.main_v2) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v17) = v0 c
          ∧ r.2.mem ((c.tc : Thread Cert.Reference4Ideal.nD Cert.Reference4Ideal.τ).loc Cert.Reference4Ideal.main_v21) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v13) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v1_0)) (v1 : (c : Dev Cert.Kernel6Ideal.nD) → Buf (Elt Ideal) ((c.tc : Thread Cert.Kernel6Ideal.nD Cert.Kernel6Ideal.τ).loc Cert.Kernel6Ideal.main_v1_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1_0) = v0 c
          ∧ r.2.mem ((c.tc : Thread Cert.Kernel6Ideal.nD Cert.Kernel6Ideal.τ).loc Cert.Kernel6Ideal.main_v1_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_v17) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel5_Kernel5Ideal : Prop :=
  IdealRules.named_const.Statement Cert.Kernel5Ideal.κ "gelu_ck" .f32 0x3D122279#32 ((80338380498831 / 2251799813685248 : ℝ) : EReal)

def algebraic_Kernel5Ideal_Reference5Ideal_pre_gates_finite [hKernel5Ideal : Cert.Kernel5Ideal.Facts] [hReference5Ideal : Cert.Reference5Ideal.Facts] [hPre_gates_finite : Cert.Pre_gates_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_gates_finite m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v17)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v17) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v116) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v3) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v8) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v4)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v4) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v7) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)
      ∧ m' ((c.tc : Thread Cert.Reference12Ideal.nD Cert.Reference12Ideal.τ).loc Cert.Reference12Ideal.main_arg6) = m ((c.tc : Thread Cert.Kernel12Ideal.nD Cert.Kernel12Ideal.τ).loc Cert.Kernel12Ideal.main_arg6)
      ∧ m' ((c.tc : Thread Cert.Reference12Ideal.nD Cert.Reference12Ideal.τ).loc Cert.Reference12Ideal.main_arg7) = m ((c.tc : Thread Cert.Kernel12Ideal.nD Cert.Kernel12Ideal.τ).loc Cert.Kernel12Ideal.main_arg7)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)) (v3 : (c : Dev Cert.Kernel12Ideal.nD) → Buf (Elt Ideal) ((c.tc : Thread Cert.Kernel12Ideal.nD Cert.Kernel12Ideal.τ).loc Cert.Kernel12Ideal.main_v0_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_v0_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
          ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
          ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v32) = v0 c
          ∧ r.2.mem ((c.tc : Thread Cert.Reference12Ideal.nD Cert.Reference12Ideal.τ).loc Cert.Reference12Ideal.main_v35) = v1 c
          ∧ r.2.mem ((c.tc : Thread Cert.Reference12Ideal.nD Cert.Reference12Ideal.τ).loc Cert.Reference12Ideal.main_v38) = v2 c
          ∧ r.2.mem ((c.tc : Thread Cert.Reference12Ideal.nD Cert.Reference12Ideal.τ).loc Cert.Reference12Ideal.main_v41) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5)
          ∧ r.2.mem ((c.tc : Thread Cert.Reference12Ideal.nD Cert.Reference12Ideal.τ).loc Cert.Reference12Ideal.main_arg6) = m' ((c.tc : Thread Cert.Reference12Ideal.nD Cert.Reference12Ideal.τ).loc Cert.Reference12Ideal.main_arg6)
          ∧ r.2.mem ((c.tc : Thread Cert.Reference12Ideal.nD Cert.Reference12Ideal.τ).loc Cert.Reference12Ideal.main_arg7) = m' ((c.tc : Thread Cert.Reference12Ideal.nD Cert.Reference12Ideal.τ).loc Cert.Reference12Ideal.main_arg7))

def preserves_Kernel13_Kernel13Ideal : Prop :=
  True

def algebraic_Kernel13Ideal_Reference13Ideal [hKernel13Ideal : Cert.Kernel13Ideal.Facts] [hReference13Ideal : Cert.Reference13Ideal.Facts] [hPre_core_of_two : Cert.Pre_core_of_two.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v9) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] [hPre_chip_of_four : Cert.Pre_chip_of_four.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v13) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal_on_rows_of_core [hKernel15Ideal : Cert.Kernel15Ideal.Facts] [hReference15Ideal : Cert.Reference15Ideal.Facts] [hPre_device_of_eight : Cert.Pre_device_of_eight.Facts] [hOn_rows_of_core : Cert.On_rows_of_core.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          (∀ i : (⟨2, ![2048, 1408]⟩ : Shape).Idx, (Cert.On_rows_of_core.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2))) i = 1#1 → r.2.mem ((c.tc : Thread Cert.Kernel15Ideal.nD Cert.Kernel15Ideal.τ).loc Cert.Kernel15Ideal.main_v0) i = v0 c i)
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          (∀ i : (⟨2, ![2048, 1408]⟩ : Shape).Idx, (Cert.On_rows_of_core.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2))) i = 1#1 → r.2.mem ((c.tc : Thread Cert.Reference15Ideal.nD Cert.Reference15Ideal.τ).loc Cert.Reference15Ideal.main_v20) i = v0 c i)
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel7 : Cert.Kernel7.Facts) (hKernel7Ideal : Cert.Kernel7Ideal.Facts) (hReference7Ideal : Cert.Reference7Ideal.Facts) (hKernel6 : Cert.Kernel6.Facts) (hKernel6Ideal : Cert.Kernel6Ideal.Facts) (hReference6Ideal : Cert.Reference6Ideal.Facts) (hKernel5 : Cert.Kernel5.Facts) (hKernel5Ideal : Cert.Kernel5Ideal.Facts) (hReference5Ideal : Cert.Reference5Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hPre_all_finite : Cert.Pre_all_finite.Facts) (hPre_rows_finite : Cert.Pre_rows_finite.Facts) (hPre_head_finite : Cert.Pre_head_finite.Facts) (hPre_gate_finite : Cert.Pre_gate_finite.Facts) (hPre_gates_finite : Cert.Pre_gates_finite.Facts) (hPre_core_of_two : Cert.Pre_core_of_two.Facts) (hPre_chip_of_four : Cert.Pre_chip_of_four.Facts) (hPre_device_of_eight : Cert.Pre_device_of_eight.Facts) (hOn_rows_of_core : Cert.On_rows_of_core.Facts),
    quiescent_Kernel (hKernel := hKernel)
    ∧ quiescent_KernelIdeal (hKernelIdeal := hKernelIdeal)
    ∧ quiescent_KernelIdeal_pre_all_finite (hKernelIdeal := hKernelIdeal) (hPre_all_finite := hPre_all_finite)
    ∧ quiescent_ReferenceIdeal (hReferenceIdeal := hReferenceIdeal)
    ∧ quiescent_ReferenceIdeal_pre_all_finite (hReferenceIdeal := hReferenceIdeal) (hPre_all_finite := hPre_all_finite)
    ∧ quiescent_Kernel2 (hKernel2 := hKernel2)
    ∧ quiescent_Kernel2Ideal (hKernel2Ideal := hKernel2Ideal)
    ∧ quiescent_Kernel2Ideal_pre_rows_finite (hKernel2Ideal := hKernel2Ideal) (hPre_rows_finite := hPre_rows_finite)
    ∧ quiescent_Reference2Ideal (hReference2Ideal := hReference2Ideal)
    ∧ quiescent_Reference2Ideal_pre_rows_finite (hReference2Ideal := hReference2Ideal) (hPre_rows_finite := hPre_rows_finite)
    ∧ quiescent_Kernel3 (hKernel3 := hKernel3)
    ∧ quiescent_Kernel3Ideal (hKernel3Ideal := hKernel3Ideal)
    ∧ quiescent_Kernel3Ideal_pre_head_finite (hKernel3Ideal := hKernel3Ideal) (hPre_head_finite := hPre_head_finite)
    ∧ quiescent_Reference3Ideal (hReference3Ideal := hReference3Ideal)
    ∧ quiescent_Reference3Ideal_pre_head_finite (hReference3Ideal := hReference3Ideal) (hPre_head_finite := hPre_head_finite)
    ∧ quiescent_Kernel4 (hKernel4 := hKernel4)
    ∧ quiescent_Kernel4Ideal (hKernel4Ideal := hKernel4Ideal)
    ∧ quiescent_Kernel4Ideal_pre_gate_finite (hKernel4Ideal := hKernel4Ideal) (hPre_gate_finite := hPre_gate_finite)
    ∧ quiescent_Reference4Ideal (hReference4Ideal := hReference4Ideal)
    ∧ quiescent_Reference4Ideal_pre_gate_finite (hReference4Ideal := hReference4Ideal) (hPre_gate_finite := hPre_gate_finite)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel5 (hKernel5 := hKernel5)
    ∧ quiescent_Kernel5Ideal (hKernel5Ideal := hKernel5Ideal)
    ∧ quiescent_Kernel5Ideal_pre_gates_finite (hKernel5Ideal := hKernel5Ideal) (hPre_gates_finite := hPre_gates_finite)
    ∧ quiescent_Reference5Ideal (hReference5Ideal := hReference5Ideal)
    ∧ quiescent_Reference5Ideal_pre_gates_finite (hReference5Ideal := hReference5Ideal) (hPre_gates_finite := hPre_gates_finite)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13) (hPre_core_of_two := hPre_core_of_two)
    ∧ quiescent_Kernel13Ideal (hKernel13Ideal := hKernel13Ideal) (hPre_core_of_two := hPre_core_of_two)
    ∧ quiescent_Reference13Ideal (hReference13Ideal := hReference13Ideal)
    ∧ quiescent_Reference13Ideal_pre_core_of_two (hReference13Ideal := hReference13Ideal) (hPre_core_of_two := hPre_core_of_two)
    ∧ quiescent_Kernel14 (hKernel14 := hKernel14) (hPre_chip_of_four := hPre_chip_of_four)
    ∧ quiescent_Kernel14Ideal (hKernel14Ideal := hKernel14Ideal) (hPre_chip_of_four := hPre_chip_of_four)
    ∧ quiescent_Reference14Ideal (hReference14Ideal := hReference14Ideal)
    ∧ quiescent_Reference14Ideal_pre_chip_of_four (hReference14Ideal := hReference14Ideal) (hPre_chip_of_four := hPre_chip_of_four)
    ∧ quiescent_Kernel15 (hKernel15 := hKernel15) (hPre_device_of_eight := hPre_device_of_eight)
    ∧ quiescent_Kernel15Ideal (hKernel15Ideal := hKernel15Ideal) (hPre_device_of_eight := hPre_device_of_eight)
    ∧ quiescent_Reference15Ideal (hReference15Ideal := hReference15Ideal)
    ∧ quiescent_Reference15Ideal_pre_device_of_eight (hReference15Ideal := hReference15Ideal) (hPre_device_of_eight := hPre_device_of_eight)
    ∧ preserves_Kernel_KernelIdeal
    ∧ algebraic_KernelIdeal_ReferenceIdeal_pre_all_finite (hKernelIdeal := hKernelIdeal) (hReferenceIdeal := hReferenceIdeal) (hPre_all_finite := hPre_all_finite)
    ∧ preserves_Kernel2_Kernel2Ideal
    ∧ algebraic_Kernel2Ideal_Reference2Ideal_pre_rows_finite (hKernel2Ideal := hKernel2Ideal) (hReference2Ideal := hReference2Ideal) (hPre_rows_finite := hPre_rows_finite)
    ∧ preserves_Kernel3_Kernel3Ideal
    ∧ algebraic_Kernel3Ideal_Reference3Ideal_pre_head_finite (hKernel3Ideal := hKernel3Ideal) (hReference3Ideal := hReference3Ideal) (hPre_head_finite := hPre_head_finite)
    ∧ preserves_Kernel4_Kernel4Ideal
    ∧ algebraic_Kernel4Ideal_Reference4Ideal_pre_gate_finite (hKernel4Ideal := hKernel4Ideal) (hReference4Ideal := hReference4Ideal) (hPre_gate_finite := hPre_gate_finite)
    ∧ preserves_Kernel7_Kernel7Ideal
    ∧ algebraic_Kernel7Ideal_Reference7Ideal (hKernel7Ideal := hKernel7Ideal) (hReference7Ideal := hReference7Ideal)
    ∧ preserves_Kernel6_Kernel6Ideal
    ∧ algebraic_Kernel6Ideal_Reference6Ideal (hKernel6Ideal := hKernel6Ideal) (hReference6Ideal := hReference6Ideal)
    ∧ preserves_Kernel5_Kernel5Ideal
    ∧ algebraic_Kernel5Ideal_Reference5Ideal_pre_gates_finite (hKernel5Ideal := hKernel5Ideal) (hReference5Ideal := hReference5Ideal) (hPre_gates_finite := hPre_gates_finite)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal) (hPre_core_of_two := hPre_core_of_two)
    ∧ preserves_Kernel14_Kernel14Ideal
    ∧ algebraic_Kernel14Ideal_Reference14Ideal (hKernel14Ideal := hKernel14Ideal) (hReference14Ideal := hReference14Ideal) (hPre_chip_of_four := hPre_chip_of_four)
    ∧ preserves_Kernel15_Kernel15Ideal
    ∧ algebraic_Kernel15Ideal_Reference15Ideal_on_rows_of_core (hKernel15Ideal := hKernel15Ideal) (hReference15Ideal := hReference15Ideal) (hPre_device_of_eight := hPre_device_of_eight) (hOn_rows_of_core := hOn_rows_of_core)
-- ==== On_rows_of_core.lean ====
abbrev S1024x11264 : Shape := ⟨2, ![1024, 11264]⟩
abbrev S3x1024x1408 : Shape := ⟨3, ![3, 1024, 1408]⟩
abbrev S2 : Shape := ⟨1, ![2]⟩
abbrev S2048x1408 : Shape := ⟨2, ![2048, 1408]⟩
abbrev S_ : Shape := ⟨0, ![]⟩
abbrev S1 : Shape := ⟨1, ![1]⟩

class Facts : Prop where
  bcast_S_S2048x1408 : S_.BroadcastsInDim S2048x1408 (![] : Fin 0 → Fin S2048x1408.rank)
  slices_S2_S1_1 : S2.Slices ![1] S1
  shapeCasts_S1_S_ : S1.ShapeCasts S_

variable [Facts]

def fn {F : FTy → Type} [FloatOps F] (main_arg0 : FVec F S1024x11264 .bf16) (main_arg1 : FVec F S3x1024x1408 .bf16) (main_arg2 : IVec S2 32) : IVec S2048x1408 1 :=
  let main_v0 : IVec S2048x1408 32 := iotaInDim S2048x1408 32 0
  let main_c : IVec S_ 32 := constantI S_ 32 1024#32
  let main_v1 : IVec S2048x1408 32 := broadcastInDim S2048x1408 ![] bcast_S_S2048x1408 main_c
  let main_v2 : IVec S2048x1408 1 := cmpi .slt main_v0 main_v1
  let main_v3 : IVec S1 32 := (extractStridedSlice S1 ![1] · slices_S2_S1_1) main_arg2
  let main_v4 : IVec S_ 32 := shapeCast S_ main_v3 shapeCasts_S1_S_
  let main_c_0 : IVec S_ 32 := constantI S_ 32 0#32
  let main_v5 : IVec S_ 1 := cmpi .eq main_v4 main_c_0
  let main_v6 : IVec S2048x1408 1 := broadcastInDim S2048x1408 ![] bcast_S_S2048x1408 main_v5
  let main_v7 : IVec S2048x1408 1 := cmpi .eq main_v2 main_v6
  main_v7
-- ==== Pre_all_finite.lean ====
abbrev S4096x5120 : Shape := ⟨2, ![4096, 5120]⟩
abbrev S4096x2048 : Shape := ⟨2, ![4096, 2048]⟩
abbrev S1024 : Shape := ⟨1, ![1024]⟩
abbrev S8x128x128 : Shape := ⟨3, ![8, 128, 128]⟩
abbrev S8x128 : Shape := ⟨2, ![8, 128]⟩
abbrev S3x1024 : Shape := ⟨2, ![3, 1024]⟩
abbrev S2048 : Shape := ⟨1, ![2048]⟩
abbrev S_ : Shape := ⟨0, ![]⟩

class Facts : Prop where
  bcast_S_S4096x5120 : S_.BroadcastsInDim S4096x5120 (![] : Fin 0 → Fin S4096x5120.rank)
  bcast_S_S4096x2048 : S_.BroadcastsInDim S4096x2048 (![] : Fin 0 → Fin S4096x2048.rank)
  bcast_S_S1024 : S_.BroadcastsInDim S1024 (![] : Fin 0 → Fin S1024.rank)
  bcast_S_S8x128x128 : S_.BroadcastsInDim S8x128x128 (![] : Fin 0 → Fin S8x128x128.rank)
  bcast_S_S8x128 : S_.BroadcastsInDim S8x128 (![] : Fin 0 → Fin S8x128.rank)
  bcast_S_S3x1024 : S_.BroadcastsInDim S3x1024 (![] : Fin 0 → Fin S3x1024.rank)
  bcast_S_S2048 : S_.BroadcastsInDim S2048 (![] : Fin 0 → Fin S2048.rank)

variable [Facts]

def fn_part1 {F : FTy → Type} [FloatOps F] (main_arg6 : FVec F S3x1024 .f32) (main_arg7 : FVec F S2048 .f32) (main_v2 : IVec S4096x5120 1) (main_v5 : IVec S4096x2048 1) (main_v8 : IVec S1024 1) (main_v11 : IVec S1024 1) (main_v14 : IVec S8x128x128 1) (main_v17 : IVec S8x128 1) : IVec S4096x5120 1 × IVec S4096x2048 1 × IVec S1024 1 × IVec S1024 1 × IVec S8x128x128 1 × IVec S8x128 1 × IVec S3x1024 1 × IVec S2048 1 :=
  let main_v18 : FVec F S3x1024 .f32 := Host.absf main_arg6
  let main_cst_5 : FVec F S_ .f32 := constant S_ .f32 0x7F800000#32
  let main_v19 : FVec F S3x1024 .f32 := broadcastInDim S3x1024 ![] bcast_S_S3x1024 main_cst_5
  let main_v20 : IVec S3x1024 1 := cmpf .olt main_v18 main_v19
  let main_v21 : FVec F S2048 .f32 := Host.absf main_arg7
  let main_cst_6 : FVec F S_ .f32 := constant S_ .f32 0x7F800000#32
  let main_v22 : FVec F S2048 .f32 := broadcastInDim S2048 ![] bcast_S_S2048 main_cst_6
  let main_v23 : IVec S2048 1 := cmpf .olt main_v21 main_v22
  (main_v2, main_v5, main_v8, main_v11, main_v14, main_v17, main_v20, main_v23)

def fn {F : FTy → Type} [FloatOps F] (main_arg0 : FVec F S4096x5120 .bf16) (main_arg1 : FVec F S4096x2048 .bf16) (main_arg2 : FVec F S1024 .f32) (main_arg3 : FVec F S1024 .f32) (main_arg4 : FVec F S8x128x128 .f32) (main_arg5 : FVec F S8x128 .f32) (main_arg6 : FVec F S3x1024 .f32) (main_arg7 : FVec F S2048 .f32) : IVec S4096x5120 1 × IVec S4096x2048 1 × IVec S1024 1 × IVec S1024 1 × IVec S8x128x128 1 × IVec S8x128 1 × IVec S3x1024 1 × IVec S2048 1 :=
  let main_v0 : FVec F S4096x5120 .bf16 := Host.absf main_arg0
  let main_cst : FVec F S_ .bf16 := constant S_ .bf16 0x7F80#16
  let main_v1 : FVec F S4096x5120 .bf16 := broadcastInDim S4096x5120 ![] bcast_S_S4096x5120 main_cst
  let main_v2 : IVec S4096x5120 1 := cmpf .olt main_v0 main_v1
  let main_v3 : FVec F S4096x2048 .bf16 := Host.absf main_arg1
  let main_cst_0 : FVec F S_ .bf16 := constant S_ .bf16 0x7F80#16
  let main_v4 : FVec F S4096x2048 .bf16 := broadcastInDim S4096x2048 ![] bcast_S_S4096x2048 main_cst_0
  let main_v5 : IVec S4096x2048 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_v12 : FVec F S8x128x128 .f32 := Host.absf main_arg4
  let main_cst_3 : FVec F S_ .f32 := constant S_ .f32 0x7F800000#32
  let main_v13 : FVec F S8x128x128 .f32 := broadcastInDim S8x128x128 ![] bcast_S_S8x128x128 main_cst_3
  let main_v14 : IVec S8x128x128 1 := cmpf .olt main_v12 main_v13
  let main_v15 : FVec F S8x128 .f32 := Host.absf main_arg5
  let main_cst_4 : FVec F S_ .f32 := constant S_ .f32 0x7F800000#32
  let main_v16 : FVec F S8x128 .f32 := broadcastInDim S8x128 ![] bcast_S_S8x128 main_cst_4
  let main_v17 : IVec S8x128 1 := cmpf .olt main_v15 main_v16
  fn_part1 (F := F) main_arg6 main_arg7 main_v2 main_v5 main_v8 main_v11 main_v14 main_v17
-- ==== Pre_chip_of_four.lean ====
abbrev S2x2048x1408 : Shape := ⟨3, ![2, 2048, 1408]⟩
abbrev S2048x11264 : Shape := ⟨2, ![2048, 11264]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_

variable [Facts]

def fn {F : FTy → Type} [FloatOps F] (main_arg0 : FVec F S2x2048x1408 .f32) (main_arg1 : FVec F S2048x11264 .bf16) (main_arg2 : IVec S2 32) : IVec S_ 1 :=
  let main_v0 : IVec S1 32 := (extractStridedSlice S1 ![0] · slices_S2_S1_0) main_arg2
  let main_v1 : IVec S_ 32 := shapeCast S_ main_v0 shapeCasts_S1_S_
  let main_c : IVec S_ 32 := constantI S_ 32 0#32
  let main_v2 : IVec S_ 1 := cmpi .sge main_v1 main_c
  let main_v3 : IVec S1 32 := (extractStridedSlice S1 ![0] · slices_S2_S1_0) main_arg2
  let main_v4 : IVec S_ 32 := shapeCast S_ main_v3 shapeCasts_S1_S_
  let main_c_0 : IVec S_ 32 := constantI S_ 32 4#32
  let main_v5 : IVec S_ 1 := cmpi .slt main_v4 main_c_0
  let main_v6 : IVec S_ 1 := andi main_v2 main_v5
  main_v6
-- ==== Pre_core_of_two.lean ====
abbrev S2048x11264 : Shape := ⟨2, ![2048, 11264]⟩
abbrev S1024x11264 : Shape := ⟨2, ![1024, 11264]⟩
abbrev S2 : Shape := ⟨1, ![2]⟩
abbrev S1 : Shape := ⟨1, ![1]⟩
abbrev S_ : Shape := ⟨0, ![]⟩

class Facts : Prop where
  slices_S2_S1_1 : S2.Slices ![1] S1
  shapeCasts_S1_S_ : S1.ShapeCasts S_

variable [Facts]

def fn {F : FTy → Type} [FloatOps F] (main_arg0 : FVec F S2048x11264 .bf16) (main_arg1 : FVec F S1024x11264 .bf16) (main_arg2 : IVec S2 32) : IVec S_ 1 :=
  let main_v0 : IVec S1 32 := (extractStridedSlice S1 ![1] · slices_S2_S1_1) main_arg2
  let main_v1 : IVec S_ 32 := shapeCast S_ main_v0 shapeCasts_S1_S_
  let main_c : IVec S_ 32 := constantI S_ 32 0#32
  let main_v2 : IVec S_ 1 := cmpi .sge main_v1 main_c
  let main_v3 : IVec S1 32 := (extractStridedSlice S1 ![1] · slices_S2_S1_1) main_arg2
  let main_v4 : IVec S_ 32 := shapeCast S_ main_v3 shapeCasts_S1_S_
  let main_c_0 : IVec S_ 32 := constantI S_ 32 2#32
  let main_v5 : IVec S_ 1 := cmpi .slt main_v4 main_c_0
  let main_v6 : IVec S_ 1 := andi main_v2 main_v5
  main_v6
-- ==== Pre_device_of_eight.lean ====
abbrev S1024x11264 : Shape := ⟨2, ![1024, 11264]⟩
abbrev S3x1024x1408 : Shape := ⟨3, ![3, 1024, 1408]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S1024x11264 .bf16) (main_arg1 : FVec F S3x1024x1408 .bf16) (main_arg2 : IVec S2 32) : IVec S_ 1 :=
  let main_v0 : IVec S1 32 := (extractStridedSlice S1 ![0] · slices_S2_S1_0) main_arg2
  let main_v1 : IVec S_ 32 := shapeCast S_ main_v0 shapeCasts_S1_S_
  let main_c : IVec S_ 32 := constantI S_ 32 0#32
  let main_v2 : IVec S_ 1 := cmpi .sge main_v1 main_c
  let main_v3 : IVec S1 32 := (extractStridedSlice S1 ![0] · slices_S2_S1_0) main_arg2
  let main_v4 : IVec S_ 32 := shapeCast S_ main_v3 shapeCasts_S1_S_
  let main_c_0 : IVec S_ 32 := constantI S_ 32 4#32
  let main_v5 : IVec S_ 1 := cmpi .slt main_v4 main_c_0
  let main_v6 : IVec S_ 1 := andi main_v2 main_v5
  let main_v7 : IVec S1 32 := (extractStridedSlice S1 ![1] · slices_S2_S1_1) main_arg2
  let main_v8 : IVec S_ 32 := shapeCast S_ main_v7 shapeCasts_S1_S_
  let main_c_1 : IVec S_ 32 := constantI S_ 32 0#32
  let main_v9 : IVec S_ 1 := cmpi .sge main_v8 main_c_1
  let main_v10 : IVec S_ 1 := andi main_v6 main_v9
  let main_v11 : IVec S1 32 := (extractStridedSlice S1 ![1] · slices_S2_S1_1) main_arg2
  let main_v12 : IVec S_ 32 := shapeCast S_ main_v11 shapeCasts_S1_S_
  let main_c_2 : IVec S_ 32 := constantI S_ 32 2#32
  let main_v13 : IVec S_ 1 := cmpi .slt main_v12 main_c_2
  let main_v14 : IVec S_ 1 := andi main_v10 main_v13
  main_v14
-- ==== Pre_gate_finite.lean ====
abbrev S4096x2048 : Shape := ⟨2, ![4096, 2048]⟩
abbrev S2048x5632 : Shape := ⟨2, ![2048, 5632]⟩
abbrev S5632x2048 : Shape := ⟨2, ![5632, 2048]⟩
abbrev S_ : Shape := ⟨0, ![]⟩

class Facts : Prop where
  bcast_S_S4096x2048 : S_.BroadcastsInDim S4096x2048 (![] : Fin 0 → Fin S4096x2048.rank)
  bcast_S_S2048x5632 : S_.BroadcastsInDim S2048x5632 (![] : Fin 0 → Fin S2048x5632.rank)
  bcast_S_S5632x2048 : S_.BroadcastsInDim S5632x2048 (![] : Fin 0 → Fin S5632x2048.rank)

variable [Facts]

def fn {F : FTy → Type} [FloatOps F] (main_arg0 : FVec F S4096x2048 .bf16) (main_arg1 : FVec F S2048x5632 .bf16) (main_arg2 : FVec F S2048x5632 .bf16) (main_arg3 : FVec F S5632x2048 .bf16) (main_arg4 : FVec F S4096x2048 .bf16) : IVec S4096x2048 1 × IVec S2048x5632 1 × IVec S2048x5632 1 × IVec S5632x2048 1 × IVec S4096x2048 1 :=
  let main_v0 : FVec F S4096x2048 .bf16 := Host.absf main_arg0
  let main_cst : FVec F S_ .bf16 := constant S_ .bf16 0x7F80#16
  let main_v1 : FVec F S4096x2048 .bf16 := broadcastInDim S4096x2048 ![] bcast_S_S4096x2048 main_cst
  let main_v2 : IVec S4096x2048 1 := cmpf .olt main_v0 main_v1
  let main_v3 : FVec F S2048x5632 .bf16 := Host.absf main_arg1
  let main_cst_0 : FVec F S_ .bf16 := constant S_ .bf16 0x7F80#16
  let main_v4 : FVec F S2048x5632 .bf16 := broadcastInDim S2048x5632 ![] bcast_S_S2048x5632 main_cst_0
  let main_v5 : IVec S2048x5632 1 := cmpf .olt main_v3 main_v4
  let main_v6 : FVec F S2048x5632 .bf16 := Host.absf main_arg2
  let main_cst_1 : FVec F S_ .bf16 := constant S_ .bf16 0x7F80#16
  let main_v7 : FVec F S2048x5632 .bf16 := broadcastInDim S2048x5632 ![] bcast_S_S2048x5632 main_cst_1
  let main_v8 : IVec S2048x5632 1 := cmpf .olt main_v6 main_v7
  let main_v9 : FVec F S5632x2048 .bf16 := Host.absf main_arg3
  let main_cst_2 : FVec F S_ .bf16 := constant S_ .bf16 0x7F80#16
  let main_v10 : FVec F S5632x2048 .bf16 := broadcastInDim S5632x2048 ![] bcast_S_S5632x2048 main_cst_2
  let main_v11 : IVec S5632x2048 1 := cmpf .olt main_v9 main_v10
  let main_v12 : FVec F S4096x2048 .bf16 := Host.absf main_arg4
  let main_cst_3 : FVec F S_ .bf16 := constant S_ .bf16 0x7F80#16
  let main_v13 : FVec F S4096x2048 .bf16 := broadcastInDim S4096x2048 ![] bcast_S_S4096x2048 main_cst_3
  let main_v14 : IVec S4096x2048 1 := cmpf .olt main_v12 main_v13
  (main_v2, main_v5, main_v8, main_v11, main_v14)
-- ==== Pre_gates_finite.lean ====
abbrev S4096x5120 : Shape := ⟨2, ![4096, 5120]⟩
abbrev S1024 : Shape := ⟨1, ![1024]⟩
abbrev S8x128x128 : Shape := ⟨3, ![8, 128, 128]⟩
abbrev S8x128 : Shape := ⟨2, ![8, 128]⟩
abbrev S3x1024 : Shape := ⟨2, ![3, 1024]⟩
abbrev S2048 : Shape := ⟨1, ![2048]⟩
abbrev S_ : Shape := ⟨0, ![]⟩

class Facts : Prop where
  bcast_S_S4096x5120 : S_.BroadcastsInDim S4096x5120 (![] : Fin 0 → Fin S4096x5120.rank)

variable [Facts]

def fn {F : FTy → Type} [FloatOps F] (main_arg0 : FVec F S4096x5120 .bf16) (main_arg1 : FVec F S1024 .f32) (main_arg2 : FVec F S1024 .f32) (main_arg3 : FVec F S8x128x128 .f32) (main_arg4 : FVec F S8x128 .f32) (main_arg5 : FVec F S3x1024 .f32) (main_arg6 : FVec F S2048 .f32) : IVec S4096x5120 1 :=
  let main_v0 : FVec F S4096x5120 .bf16 := Host.absf main_arg0
  let main_cst : FVec F S_ .bf16 := constant S_ .bf16 0x7F80#16
  let main_v1 : FVec F S4096x5120 .bf16 := broadcastInDim S4096x5120 ![] bcast_S_S4096x5120 main_cst
  let main_v2 : IVec S4096x5120 1 := cmpf .olt main_v0 main_v1
  main_v2
-- ==== Pre_head_finite.lean ====
abbrev S4096x2048 : Shape := ⟨2, ![4096, 2048]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  bcast_S_S2048 : S_.BroadcastsInDim S2048 (![] : Fin 0 → Fin S2048.rank)

variable [Facts]

def fn {F : FTy → Type} [FloatOps F] (main_arg0 : FVec F S4096x2048 .f32) (main_arg1 : FVec F S2048 .f32) (main_arg2 : FVec F S4096x2048 .f32) : IVec S4096x2048 1 × IVec S2048 1 × IVec S4096x2048 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_v3 : FVec F S2048 .f32 := Host.absf main_arg1
  let main_cst_0 : FVec F S_ .f32 := constant S_ .f32 0x7F800000#32
  let main_v4 : FVec F S2048 .f32 := broadcastInDim S2048 ![] bcast_S_S2048 main_cst_0
  let main_v5 : IVec S2048 1 := cmpf .olt main_v3 main_v4
  let main_v6 : FVec F S4096x2048 .f32 := Host.absf main_arg2
  let main_cst_1 : FVec F S_ .f32 := constant S_ .f32 0x7F800000#32
  let main_v7 : FVec F S4096x2048 .f32 := broadcastInDim S4096x2048 ![] bcast_S_S4096x2048 main_cst_1
  let main_v8 : IVec S4096x2048 1 := cmpf .olt main_v6 main_v7
  (main_v2, main_v5, main_v8)
-- ==== Pre_rows_finite.lean ====
abbrev S4096x2048 : Shape := ⟨2, ![4096, 2048]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  bcast_S_S2048 : S_.BroadcastsInDim S2048 (![] : Fin 0 → Fin S2048.rank)

variable [Facts]

def fn {F : FTy → Type} [FloatOps F] (main_arg0 : FVec F S4096x2048 .f32) (main_arg1 : FVec F S2048 .f32) (main_arg2 : FVec F S4096x2048 .bf16) (main_arg3 : FVec F S4096x2048 .f32) : IVec S4096x2048 1 × IVec S2048 1 × IVec S4096x2048 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_v3 : FVec F S2048 .f32 := Host.absf main_arg1
  let main_cst_0 : FVec F S_ .f32 := constant S_ .f32 0x7F800000#32
  let main_v4 : FVec F S2048 .f32 := broadcastInDim S2048 ![] bcast_S_S2048 main_cst_0
  let main_v5 : IVec S2048 1 := cmpf .olt main_v3 main_v4
  let main_v6 : FVec F S4096x2048 .bf16 := Host.absf main_arg2
  let main_cst_1 : FVec F S_ .bf16 := constant S_ .bf16 0x7F80#16
  let main_v7 : FVec F S4096x2048 .bf16 := broadcastInDim S4096x2048 ![] bcast_S_S4096x2048 main_cst_1
  let main_v8 : IVec S4096x2048 1 := cmpf .olt main_v6 main_v7
  (main_v2, main_v5, main_v8)
-- ==== Kernel.lean ====
abbrev S4096x5120 : Shape := ⟨2, ![4096, 5120]⟩
abbrev S4096x2048 : Shape := ⟨2, ![4096, 2048]⟩
abbrev S1024 : Shape := ⟨1, ![1024]⟩
abbrev S8x128x128 : Shape := ⟨3, ![8, 128, 128]⟩
abbrev S8x128 : Shape := ⟨2, ![8, 128]⟩
abbrev S3x1024 : Shape := ⟨2, ![3, 1024]⟩
abbrev S2048 : Shape := ⟨1, ![2048]⟩
abbrev S128 : Shape := ⟨1, ![128]⟩
abbrev S1x128 : Shape := ⟨2, ![1, 128]⟩
abbrev S_ : Shape := ⟨0, ![]⟩
abbrev S128x1 : Shape := ⟨2, ![128, 1]⟩
abbrev S128x128 : Shape := ⟨2, ![128, 128]⟩
abbrev S1x128x128 : Shape := ⟨3, ![1, 128, 128]⟩
abbrev S8x128x1 : Shape := ⟨3, ![8, 128, 1]⟩
abbrev S8x1024 : Shape := ⟨2, ![8, 1024]⟩
abbrev S1x1024 : Shape := ⟨2, ![1, 1024]⟩
abbrev S1x2048 : Shape := ⟨2, ![1, 2048]⟩
abbrev S8x8x128 : Shape := ⟨3, ![8, 8, 128]⟩
abbrev S16x5120 : Shape := ⟨2, ![16, 5120]⟩
abbrev S256x5120 : Shape := ⟨2, ![256, 5120]⟩
abbrev S256x2048 : Shape := ⟨2, ![256, 2048]⟩
abbrev S16x2048 : Shape := ⟨2, ![16, 2048]⟩
abbrev S256x1024 : Shape := ⟨2, ![256, 1024]⟩
abbrev S256 : Shape := ⟨1, ![256]⟩
abbrev S256x1 : Shape := ⟨2, ![256, 1]⟩
abbrev S1x8x128 : Shape := ⟨3, ![1, 8, 128]⟩
abbrev S16x1024 : Shape := ⟨2, ![16, 1024]⟩
abbrev S288x1024 : Shape := ⟨2, ![288, 1024]⟩
abbrev S288x1 : Shape := ⟨2, ![288, 1]⟩
abbrev S288 : Shape := ⟨1, ![288]⟩

abbrev nBuf : Space → Nat
  | .hbm => 73
  | .vmem => 29
  | .smem => 0
  | _ => 0

abbrev bufTy : (tb : Table) → Fin (tcTables nBuf tb) → BufTy
  | .hbm, ⟨0, _⟩ => ⟨S4096x5120, .bf16⟩
  | .hbm, ⟨1, _⟩ => ⟨S4096x2048, .bf16⟩
  | .hbm, ⟨2, _⟩ => ⟨S1024, .f32⟩
  | .hbm, ⟨3, _⟩ => ⟨S1024, .f32⟩
  | .hbm, ⟨4, _⟩ => ⟨S8x128x128, .f32⟩
  | .hbm, ⟨5, _⟩ => ⟨S8x128, .f32⟩
  | .hbm, ⟨6, _⟩ => ⟨S3x1024, .f32⟩
  | .hbm, ⟨7, _⟩ => ⟨S2048, .f32⟩
  | .hbm, ⟨8, _⟩ => ⟨S128, .i32⟩
  | .hbm, ⟨9, _⟩ => ⟨S1x128, .i32⟩
  | .hbm, ⟨10, _⟩ => ⟨S_, .i32⟩
  | .hbm, ⟨11, _⟩ => ⟨S_, .i32⟩
  | .hbm, ⟨12, _⟩ => ⟨S1x128, .i32⟩
  | .hbm, ⟨13, _⟩ => ⟨S1x128, .i32⟩
  | .hbm, ⟨14, _⟩ => ⟨S1x128, .i32⟩
  | .hbm, ⟨15, _⟩ => ⟨S_, .i32⟩
  | .hbm, ⟨16, _⟩ => ⟨S1x128, .i32⟩
  | .hbm, ⟨17, _⟩ => ⟨S1x128, .i1⟩
  | .hbm, ⟨18, _⟩ => ⟨S1x128, .i32⟩
  | .hbm, ⟨19, _⟩ => ⟨S1x128, .i32⟩
  | .hbm, ⟨20, _⟩ => ⟨S_, .i32⟩
  | .hbm, ⟨21, _⟩ => ⟨S1x128, .i32⟩
  | .hbm, ⟨22, _⟩ => ⟨S1x128, .i1⟩
  | .hbm, ⟨23, _⟩ => ⟨S1x128, .i1⟩
  | .hbm, ⟨24, _⟩ => ⟨S_, .i32⟩
  | .hbm, ⟨25, _⟩ => ⟨S1x128, .i32⟩
  | .hbm, ⟨26, _⟩ => ⟨S1x128, .i32⟩
  | .hbm, ⟨27, _⟩ => ⟨S1x128, .i32⟩
  | .hbm, ⟨28, _⟩ => ⟨S128x1, .i32⟩
  | .hbm, ⟨29, _⟩ => ⟨S_, .i32⟩
  | .hbm, ⟨30, _⟩ => ⟨S_, .i32⟩
  | .hbm, ⟨31, _⟩ => ⟨S128x1, .i32⟩
  | .hbm, ⟨32, _⟩ => ⟨S128x1, .i32⟩
  | .hbm, ⟨33, _⟩ => ⟨S128x1, .i32⟩
  | .hbm, ⟨34, _⟩ => ⟨S_, .i32⟩
  | .hbm, ⟨35, _⟩ => ⟨S128x1, .i32⟩
  | .hbm, ⟨36, _⟩ => ⟨S128x1, .i1⟩
  | .hbm, ⟨37, _⟩ => ⟨S128x1, .i32⟩
  | .hbm, ⟨38, _⟩ => ⟨S128x1, .i32⟩
  | .hbm, ⟨39, _⟩ => ⟨S_, .i32⟩
  | .hbm, ⟨40, _⟩ => ⟨S128x1, .i32⟩
  | .hbm, ⟨41, _⟩ => ⟨S128x1, .i1⟩
  | .hbm, ⟨42, _⟩ => ⟨S128x1, .i1⟩
  | .hbm, ⟨43, _⟩ => ⟨S_, .i32⟩
  | .hbm, ⟨44, _⟩ => ⟨S128x1, .i32⟩
  | .hbm, ⟨45, _⟩ => ⟨S128x1, .i32⟩
  | .hbm, ⟨46, _⟩ => ⟨S128x1, .i32⟩
  | .hbm, ⟨47, _⟩ => ⟨S128x128, .i32⟩
  | .hbm, ⟨48, _⟩ => ⟨S128x128, .i32⟩
  | .hbm, ⟨49, _⟩ => ⟨S128x128, .i1⟩
  | .hbm, ⟨50, _⟩ => ⟨S1x128x128, .i1⟩
  | .hbm, ⟨51, _⟩ => ⟨S_, .f32⟩
  | .hbm, ⟨52, _⟩ => ⟨S_, .f32⟩
  | .hbm, ⟨53, _⟩ => ⟨S8x128x128, .i1⟩
  | .hbm, ⟨54, _⟩ => ⟨S8x128x128, .f32⟩
  | .hbm, ⟨55, _⟩ => ⟨S8x128x128, .f32⟩
  | .hbm, ⟨56, _⟩ => ⟨S8x128x128, .bf16⟩
  | .hbm, ⟨57, _⟩ => ⟨S8x128x128, .bf16⟩
  | .hbm, ⟨58, _⟩ => ⟨S8x128x1, .f32⟩
  | .hbm, ⟨59, _⟩ => ⟨S8x128x128, .f32⟩
  | .hbm, ⟨60, _⟩ => ⟨S_, .i32⟩
  | .hbm, ⟨61, _⟩ => ⟨S_, .f32⟩
  | .hbm, ⟨62, _⟩ => ⟨S8x1024, .f32⟩
  | .hbm, ⟨63, _⟩ => ⟨S1x1024, .f32⟩
  | .hbm, ⟨64, _⟩ => ⟨S1x1024, .f32⟩
  | .hbm, ⟨65, _⟩ => ⟨S1x2048, .f32⟩
  | .hbm, ⟨66, _⟩ => ⟨S4096x5120, .bf16⟩
  | .hbm, ⟨67, _⟩ => ⟨S1x2048, .f32⟩
  | .hbm, ⟨68, _⟩ => ⟨S1x1024, .f32⟩
  | .hbm, ⟨69, _⟩ => ⟨S1x1024, .f32⟩
  | .hbm, ⟨70, _⟩ => ⟨S8x128x128, .f32⟩
  | .hbm, ⟨71, _⟩ => ⟨S8x8x128, .f32⟩
  | .hbm, ⟨72, _⟩ => ⟨S8x1024, .f32⟩
  | .local _ .vmem, ⟨0, _⟩ => ⟨S16x5120, .bf16⟩
  | .local _ .vmem, ⟨1, _⟩ => ⟨S16x5120, .bf16⟩
  | .local _ .vmem, ⟨2, _⟩ => ⟨S256x5120, .bf16⟩
  | .local _ .vmem, ⟨3, _⟩ => ⟨S256x5120, .bf16⟩
  | .local _ .vmem, ⟨4, _⟩ => ⟨S16x5120, .bf16⟩
  | .local _ .vmem, ⟨5, _⟩ => ⟨S16x5120, .bf16⟩
  | .local _ .vmem, ⟨6, _⟩ => ⟨S256x2048, .bf16⟩
  | .local _ .vmem, ⟨7, _⟩ => ⟨S256x2048, .bf16⟩
  | .local _ .vmem, ⟨8, _⟩ => ⟨S16x2048, .bf16⟩
  | .local _ .vmem, ⟨9, _⟩ => ⟨S16x2048, .bf16⟩
  | .local _ .vmem, ⟨10, _⟩ => ⟨S1x1024, .f32⟩
  | .local _ .vmem, ⟨11, _⟩ => ⟨S1x1024, .f32⟩
  | .local _ .vmem, ⟨12, _⟩ => ⟨S8x128x128, .bf16⟩
  | .local _ .vmem, ⟨13, _⟩ => ⟨S8x128x128, .bf16⟩
  | .local _ .vmem, ⟨14, _⟩ => ⟨S8x128x128, .f32⟩
  | .local _ .vmem, ⟨15, _⟩ => ⟨S8x1024, .f32⟩
  | .local _ .vmem, ⟨16, _⟩ => ⟨S1x2048, .f32⟩
  | .local _ .vmem, ⟨17, _⟩ => ⟨S256x5120, .bf16⟩
  | .local _ .vmem, ⟨18, _⟩ => ⟨S256x5120, .bf16⟩
  | .local _ .vmem, ⟨19, _⟩ => ⟨S1x2048, .f32⟩
  | .local _ .vmem, ⟨20, _⟩ => ⟨S1x1024, .f32⟩
  | .local _ .vmem, ⟨21, _⟩ => ⟨S1x1024, .f32⟩
  | .local _ .vmem, ⟨22, _⟩ => ⟨S8x128x128, .f32⟩
  | .local _ .vmem, ⟨23, _⟩ => ⟨S8x8x128, .f32⟩
  | .local _ .vmem, ⟨24, _⟩ => ⟨S8x1024, .f32⟩
  | .local _ .vmem, ⟨25, _⟩ => ⟨S256x1024, .bf16⟩
  | .local _ .vmem, ⟨26, _⟩ => ⟨S256x1024, .f32⟩
  | .local _ .vmem, ⟨27, _⟩ => ⟨S256x1024, .bf16⟩
  | .local _ .vmem, ⟨28, _⟩ => ⟨S256x1024, .f32⟩
  | _, _ => ⟨S4096x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v2 : Ref sig .tc := ⟨.hbm, 27, rfl⟩
abbrev main_v3 : Ref sig .tc := ⟨.hbm, 28, rfl⟩
abbrev main_c_0 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_c : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_0 : Ref sig .tc := ⟨.hbm, 43, rfl⟩
abbrev main_call1_v12 : Ref sig .tc := ⟨.hbm, 44, rfl⟩
abbrev main_call1_v13 : Ref sig .tc := ⟨.hbm, 45, rfl⟩
abbrev main_v4 : Ref sig .tc := ⟨.hbm, 46, rfl⟩
abbrev main_v5 : Ref sig .tc := ⟨.hbm, 47, rfl⟩
abbrev main_v6 : Ref sig .tc := ⟨.hbm, 48, rfl⟩
abbrev main_v7 : Ref sig .tc := ⟨.hbm, 49, rfl⟩
abbrev main_v8 : Ref sig .tc := ⟨.hbm, 50, rfl⟩
abbrev main_cst : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_v9 : Ref sig .tc := ⟨.hbm, 55, rfl⟩
abbrev main_v10 : Ref sig .tc := ⟨.hbm, 56, rfl⟩
abbrev main_v11 : Ref sig .tc := ⟨.hbm, 57, rfl⟩
abbrev main_v12 : Ref sig .tc := ⟨.hbm, 58, rfl⟩
abbrev main_v13 : Ref sig .tc := ⟨.hbm, 59, rfl⟩
abbrev main_c_1 : Ref sig .tc := ⟨.hbm, 60, rfl⟩
abbrev main_call3_v0 : Ref sig .tc := ⟨.hbm, 61, rfl⟩
abbrev main_v14 : Ref sig .tc := ⟨.hbm, 62, rfl⟩
abbrev main_v15 : Ref sig .tc := ⟨.hbm, 63, rfl⟩
abbrev main_v16 : Ref sig .tc := ⟨.hbm, 64, rfl⟩
abbrev main_v17 : Ref sig .tc := ⟨.hbm, 65, rfl⟩
abbrev main_v18_0 : Ref sig .tc := ⟨.hbm, 66, rfl⟩
abbrev main_v18_1 : Ref sig .tc := ⟨.hbm, 67, rfl⟩
abbrev main_v18_2 : Ref sig .tc := ⟨.hbm, 68, rfl⟩
abbrev main_v18_3 : Ref sig .tc := ⟨.hbm, 69, rfl⟩
abbrev main_v18_4 : Ref sig .tc := ⟨.hbm, 70, rfl⟩
abbrev main_v18_5 : Ref sig .tc := ⟨.hbm, 71, rfl⟩
abbrev main_v18_6 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg17_0 : Ref sig .tc := ⟨.vmem, 23, rfl⟩
abbrev cc0_stg18_0 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_scratch3 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem14_0 : DmaSem sig := 20
abbrev cc0_sem15_0 : DmaSem sig := 21
abbrev cc0_sem16_0 : DmaSem sig := 22
abbrev cc0_sem17_0 : DmaSem sig := 23
abbrev cc0_sem18_0 : DmaSem sig := 24

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x5120 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x5120 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x5120 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S8x128x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S8x8x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S8x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== KernelIdeal.lean ====
variable {F : FTy → Type} [FloatOps F] [Named F]
def κ : String → Option EReal := fun
  | "gelu_3ck" => some ((241015141496493 / 2251799813685248 : ℝ) : EReal)
  | "gelu_ck" => some ((80338380498831 / 2251799813685248 : ℝ) : EReal)
  | _ => none
-- ==== ReferenceIdeal.lean ====
abbrev S4096x5120 : Shape := ⟨2, ![4096, 5120]⟩
abbrev S4096x2048 : Shape := ⟨2, ![4096, 2048]⟩
abbrev S1024 : Shape := ⟨1, ![1024]⟩
abbrev S8x128x128 : Shape := ⟨3, ![8, 128, 128]⟩
abbrev S8x128 : Shape := ⟨2, ![8, 128]⟩
abbrev S3x1024 : Shape := ⟨2, ![3, 1024]⟩
abbrev S2048 : Shape := ⟨1, ![2048]⟩
abbrev S_ : Shape := ⟨0, ![]⟩
abbrev S4096x1024 : Shape := ⟨2, ![4096, 1024]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S4096 : Shape := ⟨1, ![4096]⟩
abbrev S4096x1 : Shape := ⟨2, ![4096, 1]⟩
abbrev S1x1024 : Shape := ⟨2, ![1, 1024]⟩
abbrev S32x128x8x128 : Shape := ⟨4, ![32, 128, 8, 128]⟩
abbrev S1x128x128 : Shape := ⟨3, ![1, 128, 128]⟩
abbrev S8x32x128x128 : Shape := ⟨4, ![8, 32, 128, 128]⟩
abbrev S128x8 : Shape := ⟨2, ![128, 8]⟩
abbrev S1x128x8x1 : Shape := ⟨4, ![1, 128, 8, 1]⟩
abbrev S2x1024 : Shape := ⟨2, ![2, 1024]⟩
abbrev S4098x1024 : Shape := ⟨2, ![4098, 1024]⟩
abbrev S8x1x128 : Shape := ⟨3, ![8, 1, 128]⟩
abbrev S8x8x128 : Shape := ⟨3, ![8, 8, 128]⟩
abbrev S8x1024 : Shape := ⟨2, ![8, 1024]⟩
abbrev S1x2048 : Shape := ⟨2, ![1, 2048]⟩

abbrev nBuf : Space → Nat
  | .hbm => 410
  | .vmem => 0
  | .smem => 0
  | _ => 0

abbrev hbmTy0_0 (i : Nat) : BufTy := match i % 128 with
  | 0 => ⟨S4096x5120, .bf16⟩
  | 1 => ⟨S4096x2048, .bf16⟩
  | 2 => ⟨S1024, .f32⟩
  | 3 => ⟨S1024, .f32⟩
  | 4 => ⟨S8x128x128, .f32⟩
  | 5 => ⟨S8x128, .f32⟩
  | 6 => ⟨S3x1024, .f32⟩
  | 7 => ⟨S2048, .f32⟩
  | 8 => ⟨S4096x5120, .f32⟩
  | 9 => ⟨S4096x2048, .f32⟩
  | 10 => ⟨S4096x2048, .f32⟩
  | 11 => ⟨S4096x2048, .f32⟩
  | 12 => ⟨S4096x2048, .f32⟩
  | 13 => ⟨S_, .f32⟩
  | 14 => ⟨S4096x2048, .f32⟩
  | 15 => ⟨S4096x2048, .f32⟩
  | 16 => ⟨S_, .f32⟩
  | 17 => ⟨S4096x2048, .f32⟩
  | 18 => ⟨S4096x2048, .f32⟩
  | 19 => ⟨S4096x2048, .f32⟩
  | 20 => ⟨S_, .f32⟩
  | 21 => ⟨S4096x2048, .f32⟩
  | 22 => ⟨S4096x2048, .f32⟩
  | 23 => ⟨S4096x2048, .f32⟩
  | 24 => ⟨S_, .f32⟩
  | 25 => ⟨S4096x2048, .f32⟩
  | 26 => ⟨S4096x2048, .f32⟩
  | 27 => ⟨S_, .f32⟩
  | 28 => ⟨S4096x2048, .f32⟩
  | 29 => ⟨S4096x2048, .f32⟩
  | 30 => ⟨S4096x2048, .f32⟩
  | 31 => ⟨S_, .f32⟩
  | 32 => ⟨S4096x2048, .f32⟩
  | 33 => ⟨S4096x2048, .f32⟩
  | 34 => ⟨S_, .f32⟩
  | 35 => ⟨S4096x2048, .f32⟩
  | 36 => ⟨S4096x2048, .f32⟩
  | 37 => ⟨S4096x2048, .f32⟩
  | 38 => ⟨S4096x1024, .f32⟩
  | 39 => ⟨S4096x1024, .f32⟩
  | 40 => ⟨S4096x1024, .f32⟩
  | 41 => ⟨S4096x1024, .f32⟩
  | 42 => ⟨S4096x1024, .f32⟩
  | 43 => ⟨S128, .i32⟩
  | 44 => ⟨S1x128, .i32⟩
  | 45 => ⟨S_, .i32⟩
  | 46 => ⟨S_, .i32⟩
  | 47 => ⟨S1x128, .i32⟩
  | 48 => ⟨S1x128, .i32⟩
  | 49 => ⟨S1x128, .i32⟩
  | 50 => ⟨S_, .i32⟩
  | 51 => ⟨S1x128, .i32⟩
  | 52 => ⟨S1x128, .i1⟩
  | 53 => ⟨S1x128, .i32⟩
  | 54 => ⟨S1x128, .i32⟩
  | 55 => ⟨S_, .i32⟩
  | 56 => ⟨S1x128, .i32⟩
  | 57 => ⟨S1x128, .i1⟩
  | 58 => ⟨S1x128, .i1⟩
  | 59 => ⟨S_, .i32⟩
  | 60 => ⟨S1x128, .i32⟩
  | 61 => ⟨S1x128, .i32⟩
  | 62 => ⟨S1x128, .i32⟩
  | 63 => ⟨S128x1, .i32⟩
  | 64 => ⟨S_, .i32⟩
  | 65 => ⟨S_, .i32⟩
  | 66 => ⟨S128x1, .i32⟩
  | 67 => ⟨S128x1, .i32⟩
  | 68 => ⟨S128x1, .i32⟩
  | 69 => ⟨S_, .i32⟩
  | 70 => ⟨S128x1, .i32⟩
  | 71 => ⟨S128x1, .i1⟩
  | 72 => ⟨S128x1, .i32⟩
  | 73 => ⟨S128x1, .i32⟩
  | 74 => ⟨S_, .i32⟩
  | 75 => ⟨S128x1, .i32⟩
  | 76 => ⟨S128x1, .i1⟩
  | 77 => ⟨S128x1, .i1⟩
  | 78 => ⟨S_, .i32⟩
  | 79 => ⟨S128x1, .i32⟩
  | 80 => ⟨S128x1, .i32⟩
  | 81 => ⟨S128x1, .i32⟩
  | 82 => ⟨S128x128, .i32⟩
  | 83 => ⟨S128x128, .i32⟩
  | 84 => ⟨S128x128, .i1⟩
  | 85 => ⟨S_, .f32⟩
  | 86 => ⟨S4096, .f32⟩
  | 87 => ⟨S4096x1, .f32⟩
  | 88 => ⟨S_, .f32⟩
  | 89 => ⟨S4096x1, .f32⟩
  | 90 => ⟨S4096x1, .f32⟩
  | 91 => ⟨S4096x1024, .f32⟩
  | 92 => ⟨S4096x1024, .f32⟩
  | 93 => ⟨S4096x1024, .f32⟩
  | 94 => ⟨S_, .f32⟩
  | 95 => ⟨S4096, .f32⟩
  | 96 => ⟨S4096x1, .f32⟩
  | 97 => ⟨S_, .f32⟩
  | 98 => ⟨S4096x1, .f32⟩
  | 99 => ⟨S4096x1, .f32⟩
  | 100 => ⟨S_, .f32⟩
  | 101 => ⟨S4096x1, .f32⟩
  | 102 => ⟨S4096x1, .f32⟩
  | 103 => ⟨S4096x1, .f32⟩
  | 104 => ⟨S4096x1, .f32⟩
  | 105 => ⟨S_, .f32⟩
  | 106 => ⟨S4096x1, .f32⟩
  | 107 => ⟨S4096x1, .f32⟩
  | 108 => ⟨S4096x1024, .f32⟩
  | 109 => ⟨S4096x1024, .f32⟩
  | 110 => ⟨S1x1024, .f32⟩
  | 111 => ⟨S4096x1024, .f32⟩
  | 112 => ⟨S4096x1024, .f32⟩
  | 113 => ⟨S1x1024, .f32⟩
  | 114 => ⟨S4096x1024, .f32⟩
  | 115 => ⟨S4096x1024, .f32⟩
  | 116 => ⟨S32x128x8x128, .f32⟩
  | 117 => ⟨S1x128x128, .i1⟩
  | 118 => ⟨S_, .f32⟩
  | 119 => ⟨S8x128x128, .i1⟩
  | 120 => ⟨S8x128x128, .f32⟩
  | 121 => ⟨S8x128x128, .f32⟩
  | 122 => ⟨S_, .f32⟩
  | 123 => ⟨S8x128x128, .f32⟩
  | 124 => ⟨S8x32x128x128, .f32⟩
  | 125 => ⟨S32x128x8x128, .f32⟩
  | 126 => ⟨S128x8, .f32⟩
  | 127 => ⟨S1x128x8x1, .f32⟩
  | _ => ⟨S4096x5120, .bf16⟩

abbrev hbmTy0_1 (i : Nat) : BufTy := match i % 128 with
  | 0 => ⟨S32x128x8x128, .f32⟩
  | 1 => ⟨S32x128x8x128, .f32⟩
  | 2 => ⟨S4096x1024, .f32⟩
  | 3 => ⟨S4096x1024, .f32⟩
  | 4 => ⟨S4096x1024, .f32⟩
  | 5 => ⟨S_, .f32⟩
  | 6 => ⟨S2x1024, .f32⟩
  | 7 => ⟨S4098x1024, .f32⟩
  | 8 => ⟨S_, .f32⟩
  | 9 => ⟨S2x1024, .f32⟩
  | 10 => ⟨S4096x1024, .f32⟩
  | 11 => ⟨S1x1024, .f32⟩
  | 12 => ⟨S1024, .f32⟩
  | 13 => ⟨S1x1024, .f32⟩
  | 14 => ⟨S4096x1024, .f32⟩
  | 15 => ⟨S4096x1024, .f32⟩
  | 16 => ⟨S_, .f32⟩
  | 17 => ⟨S4096x1024, .f32⟩
  | 18 => ⟨S4096x1024, .f32⟩
  | 19 => ⟨S4096x1024, .f32⟩
  | 20 => ⟨S1x1024, .f32⟩
  | 21 => ⟨S1024, .f32⟩
  | 22 => ⟨S1x1024, .f32⟩
  | 23 => ⟨S4096x1024, .f32⟩
  | 24 => ⟨S4096x1024, .f32⟩
  | 25 => ⟨S4096x1024, .f32⟩
  | 26 => ⟨S4096x1024, .f32⟩
  | 27 => ⟨S1x1024, .f32⟩
  | 28 => ⟨S1024, .f32⟩
  | 29 => ⟨S1x1024, .f32⟩
  | 30 => ⟨S4096x1024, .f32⟩
  | 31 => ⟨S4096x1024, .f32⟩
  | 32 => ⟨S4096x1024, .f32⟩
  | 33 => ⟨S4096x1024, .f32⟩
  | 34 => ⟨S1024, .f32⟩
  | 35 => ⟨S4096x1024, .f32⟩
  | 36 => ⟨S_, .f32⟩
  | 37 => ⟨S4096, .f32⟩
  | 38 => ⟨S4096x1, .f32⟩
  | 39 => ⟨S_, .f32⟩
  | 40 => ⟨S4096x1, .f32⟩
  | 41 => ⟨S4096x1, .f32⟩
  | 42 => ⟨S_, .f32⟩
  | 43 => ⟨S4096x1, .f32⟩
  | 44 => ⟨S4096x1, .f32⟩
  | 45 => ⟨S4096x1, .f32⟩
  | 46 => ⟨S4096x1, .f32⟩
  | 47 => ⟨S_, .f32⟩
  | 48 => ⟨S4096x1, .f32⟩
  | 49 => ⟨S4096x1, .f32⟩
  | 50 => ⟨S4096x1024, .f32⟩
  | 51 => ⟨S4096x1024, .f32⟩
  | 52 => ⟨S1x1024, .f32⟩
  | 53 => ⟨S4096x1024, .f32⟩
  | 54 => ⟨S4096x1024, .f32⟩
  | 55 => ⟨S1024, .f32⟩
  | 56 => ⟨S4096x1024, .f32⟩
  | 57 => ⟨S_, .f32⟩
  | 58 => ⟨S4096, .f32⟩
  | 59 => ⟨S4096x1, .f32⟩
  | 60 => ⟨S_, .f32⟩
  | 61 => ⟨S4096x1, .f32⟩
  | 62 => ⟨S4096x1, .f32⟩
  | 63 => ⟨S_, .f32⟩
  | 64 => ⟨S4096x1, .f32⟩
  | 65 => ⟨S4096x1, .f32⟩
  | 66 => ⟨S4096x1, .f32⟩
  | 67 => ⟨S4096x1, .f32⟩
  | 68 => ⟨S_, .f32⟩
  | 69 => ⟨S4096x1, .f32⟩
  | 70 => ⟨S4096x1, .f32⟩
  | 71 => ⟨S4096x1024, .f32⟩
  | 72 => ⟨S4096x1024, .f32⟩
  | 73 => ⟨S1x1024, .f32⟩
  | 74 => ⟨S4096x1024, .f32⟩
  | 75 => ⟨S4096x1024, .f32⟩
  | 76 => ⟨S4096x2048, .f32⟩
  | 77 => ⟨S4096x2048, .f32⟩
  | 78 => ⟨S4096x1024, .f32⟩
  | 79 => ⟨S4096x1024, .f32⟩
  | 80 => ⟨S4096x1024, .f32⟩
  | 81 => ⟨S_, .f32⟩
  | 82 => ⟨S1024, .f32⟩
  | 83 => ⟨S1x1024, .f32⟩
  | 84 => ⟨S4096x1024, .f32⟩
  | 85 => ⟨S4096x1024, .f32⟩
  | 86 => ⟨S_, .f32⟩
  | 87 => ⟨S1024, .f32⟩
  | 88 => ⟨S4096x1024, .f32⟩
  | 89 => ⟨S_, .f32⟩
  | 90 => ⟨S4096, .f32⟩
  | 91 => ⟨S4096x1, .f32⟩
  | 92 => ⟨S4096x1024, .f32⟩
  | 93 => ⟨S4096x1024, .f32⟩
  | 94 => ⟨S4096x1, .f32⟩
  | 95 => ⟨S_, .f32⟩
  | 96 => ⟨S4096x1, .f32⟩
  | 97 => ⟨S4096x1, .f32⟩
  | 98 => ⟨S_, .f32⟩
  | 99 => ⟨S4096, .f32⟩
  | 100 => ⟨S4096x1024, .f32⟩
  | 101 => ⟨S4096x1024, .f32⟩
  | 102 => ⟨S4096x1024, .f32⟩
  | 103 => ⟨S4096x1024, .f32⟩
  | 104 => ⟨S4096x1024, .f32⟩
  | 105 => ⟨S_, .f32⟩
  | 106 => ⟨S2048, .f32⟩
  | 107 => ⟨S4096x1024, .f32⟩
  | 108 => ⟨S_, .f32⟩
  | 109 => ⟨S1024, .f32⟩
  | 110 => ⟨S1x1024, .f32⟩
  | 111 => ⟨S4096x1024, .f32⟩
  | 112 => ⟨S4096x1024, .f32⟩
  | 113 => ⟨S_, .f32⟩
  | 114 => ⟨S1024, .f32⟩
  | 115 => ⟨S4096x1024, .f32⟩
  | 116 => ⟨S_, .f32⟩
  | 117 => ⟨S4096, .f32⟩
  | 118 => ⟨S4096x1, .f32⟩
  | 119 => ⟨S4096x1024, .f32⟩
  | 120 => ⟨S4096x1024, .f32⟩
  | 121 => ⟨S4096x1, .f32⟩
  | 122 => ⟨S_, .f32⟩
  | 123 => ⟨S4096x1, .f32⟩
  | 124 => ⟨S4096x1, .f32⟩
  | 125 => ⟨S_, .f32⟩
  | 126 => ⟨S4096, .f32⟩
  | 127 => ⟨S4096x1024, .f32⟩
  | _ => ⟨S4096x5120, .bf16⟩

abbrev hbmTy0_2 (i : Nat) : BufTy := match i % 128 with
  | 0 => ⟨S4096x1024, .f32⟩
  | 1 => ⟨S4096x1024, .f32⟩
  | 2 => ⟨S4096x1024, .f32⟩
  | 3 => ⟨S4096x1024, .f32⟩
  | 4 => ⟨S_, .f32⟩
  | 5 => ⟨S2048, .f32⟩
  | 6 => ⟨S2048, .f32⟩
  | 7 => ⟨S4096x1024, .f32⟩
  | 8 => ⟨S4096x1024, .f32⟩
  | 9 => ⟨S4096x1024, .f32⟩
  | 10 => ⟨S_, .f32⟩
  | 11 => ⟨S1024, .f32⟩
  | 12 => ⟨S1x1024, .f32⟩
  | 13 => ⟨S4096x1024, .f32⟩
  | 14 => ⟨S4096x1024, .f32⟩
  | 15 => ⟨S_, .f32⟩
  | 16 => ⟨S1024, .f32⟩
  | 17 => ⟨S1x1024, .f32⟩
  | 18 => ⟨S_, .f32⟩
  | 19 => ⟨S3x1024, .f32⟩
  | 20 => ⟨S_, .f32⟩
  | 21 => ⟨S4098x1024, .f32⟩
  | 22 => ⟨S4096x1024, .f32⟩
  | 23 => ⟨S_, .f32⟩
  | 24 => ⟨S1024, .f32⟩
  | 25 => ⟨S1x1024, .f32⟩
  | 26 => ⟨S4096x1024, .f32⟩
  | 27 => ⟨S4096x1024, .f32⟩
  | 28 => ⟨S_, .f32⟩
  | 29 => ⟨S1024, .f32⟩
  | 30 => ⟨S1x1024, .f32⟩
  | 31 => ⟨S_, .f32⟩
  | 32 => ⟨S3x1024, .f32⟩
  | 33 => ⟨S3x1024, .f32⟩
  | 34 => ⟨S_, .f32⟩
  | 35 => ⟨S4098x1024, .f32⟩
  | 36 => ⟨S4098x1024, .f32⟩
  | 37 => ⟨S4096x1024, .f32⟩
  | 38 => ⟨S_, .f32⟩
  | 39 => ⟨S1024, .f32⟩
  | 40 => ⟨S1x1024, .f32⟩
  | 41 => ⟨S4096x1024, .f32⟩
  | 42 => ⟨S4096x1024, .f32⟩
  | 43 => ⟨S_, .f32⟩
  | 44 => ⟨S1024, .f32⟩
  | 45 => ⟨S1x1024, .f32⟩
  | 46 => ⟨S_, .f32⟩
  | 47 => ⟨S3x1024, .f32⟩
  | 48 => ⟨S3x1024, .f32⟩
  | 49 => ⟨S_, .f32⟩
  | 50 => ⟨S4098x1024, .f32⟩
  | 51 => ⟨S4098x1024, .f32⟩
  | 52 => ⟨S2x1024, .f32⟩
  | 53 => ⟨S4096x1024, .f32⟩
  | 54 => ⟨S4096x1024, .f32⟩
  | 55 => ⟨S4096x1024, .f32⟩
  | 56 => ⟨S4096x1024, .f32⟩
  | 57 => ⟨S4096x1024, .f32⟩
  | 58 => ⟨S32x128x8x128, .f32⟩
  | 59 => ⟨S_, .f32⟩
  | 60 => ⟨S128x8, .f32⟩
  | 61 => ⟨S1x128x8x1, .f32⟩
  | 62 => ⟨S_, .f32⟩
  | 63 => ⟨S128x8, .f32⟩
  | 64 => ⟨S8x128, .f32⟩
  | 65 => ⟨S8x32x128x128, .f32⟩
  | 66 => ⟨S8x128x128, .f32⟩
  | 67 => ⟨S8x32x128x128, .f32⟩
  | 68 => ⟨S32x128x8x128, .f32⟩
  | 69 => ⟨S_, .f32⟩
  | 70 => ⟨S8x128x128, .f32⟩
  | 71 => ⟨S8x128x128, .f32⟩
  | 72 => ⟨S4096x1024, .f32⟩
  | 73 => ⟨S_, .f32⟩
  | 74 => ⟨S1024, .f32⟩
  | 75 => ⟨S1x1024, .f32⟩
  | 76 => ⟨S_, .f32⟩
  | 77 => ⟨S1024, .f32⟩
  | 78 => ⟨S4096x1024, .f32⟩
  | 79 => ⟨S_, .f32⟩
  | 80 => ⟨S1024, .f32⟩
  | 81 => ⟨S1x1024, .f32⟩
  | 82 => ⟨S4096x1024, .f32⟩
  | 83 => ⟨S4096x1024, .f32⟩
  | 84 => ⟨S_, .f32⟩
  | 85 => ⟨S1024, .f32⟩
  | 86 => ⟨S4096x1024, .f32⟩
  | 87 => ⟨S_, .f32⟩
  | 88 => ⟨S4096, .f32⟩
  | 89 => ⟨S4096x1, .f32⟩
  | 90 => ⟨S4096x1024, .f32⟩
  | 91 => ⟨S4096x1024, .f32⟩
  | 92 => ⟨S4096x1, .f32⟩
  | 93 => ⟨S_, .f32⟩
  | 94 => ⟨S4096x1, .f32⟩
  | 95 => ⟨S4096x1, .f32⟩
  | 96 => ⟨S_, .f32⟩
  | 97 => ⟨S4096, .f32⟩
  | 98 => ⟨S4096x1024, .f32⟩
  | 99 => ⟨S4096x1024, .f32⟩
  | 100 => ⟨S4096x1024, .f32⟩
  | 101 => ⟨S4096x1024, .f32⟩
  | 102 => ⟨S4096x1024, .f32⟩
  | 103 => ⟨S4096x1024, .f32⟩
  | 104 => ⟨S_, .f32⟩
  | 105 => ⟨S4096, .f32⟩
  | 106 => ⟨S4096x1, .f32⟩
  | 107 => ⟨S_, .f32⟩
  | 108 => ⟨S4096x1, .f32⟩
  | 109 => ⟨S4096x1, .f32⟩
  | 110 => ⟨S_, .f32⟩
  | 111 => ⟨S4096, .f32⟩
  | 112 => ⟨S4096x1024, .f32⟩
  | 113 => ⟨S4096x1024, .f32⟩
  | 114 => ⟨S_, .f32⟩
  | 115 => ⟨S4096x5120, .f32⟩
  | 116 => ⟨S_, .f32⟩
  | 117 => ⟨S4096x5120, .f32⟩
  | 118 => ⟨S4096x5120, .f32⟩
  | 119 => ⟨S_, .f32⟩
  | 120 => ⟨S4096x5120, .f32⟩
  | 121 => ⟨S4096x5120, .f32⟩
  | 122 => ⟨S_, .f32⟩
  | 123 => ⟨S4096x2048, .f32⟩
  | 124 => ⟨S_, .f32⟩
  | 125 => ⟨S4096x2048, .f32⟩
  | 126 => ⟨S4096x2048, .f32⟩
  | 127 => ⟨S4096x2048, .f32⟩
  | _ => ⟨S4096x5120, .bf16⟩

abbrev hbmTy0_3 (i : Nat) : BufTy := match i % 128 with
  | 0 => ⟨S4096x2048, .f32⟩
  | 1 => ⟨S_, .f32⟩
  | 2 => ⟨S4096x2048, .f32⟩
  | 3 => ⟨S4096x2048, .f32⟩
  | 4 => ⟨S4096x2048, .f32⟩
  | 5 => ⟨S_, .f32⟩
  | 6 => ⟨S4096x2048, .f32⟩
  | 7 => ⟨S4096x2048, .f32⟩
  | 8 => ⟨S4096x2048, .f32⟩
  | 9 => ⟨S_, .f32⟩
  | 10 => ⟨S4096x2048, .f32⟩
  | 11 => ⟨S4096x2048, .f32⟩
  | 12 => ⟨S4096x2048, .f32⟩
  | 13 => ⟨S4096x2048, .f32⟩
  | 14 => ⟨S_, .f32⟩
  | 15 => ⟨S4096x5120, .f32⟩
  | 16 => ⟨S4096x5120, .f32⟩
  | 17 => ⟨S8x1x128, .f32⟩
  | 18 => ⟨S8x8x128, .f32⟩
  | 19 => ⟨S_, .i32⟩
  | 20 => ⟨S_, .f32⟩
  | 21 => ⟨S8x1024, .f32⟩
  | 22 => ⟨S4096x5120, .bf16⟩
  | 23 => ⟨S1x2048, .f32⟩
  | 24 => ⟨S1x1024, .f32⟩
  | 25 => ⟨S1x1024, .f32⟩
  | _ => ⟨S4096x5120, .bf16⟩

abbrev hbmTy (i : Nat) : BufTy := match i / 128 with
  | 0 => hbmTy0_0 i
  | 1 => hbmTy0_1 i
  | 2 => hbmTy0_2 i
  | 3 => hbmTy0_3 i
  | _ => ⟨S4096x5120, .bf16⟩

abbrev bufTy : (tb : Table) → Fin (tcTables nBuf tb) → BufTy
  | .hbm, ⟨i, _⟩ => hbmTy i
  | _, _ => ⟨S4096x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_v18 : Ref sig .tc := ⟨.hbm, 32, rfl⟩
abbrev main_v19 : Ref sig .tc := ⟨.hbm, 33, rfl⟩
abbrev main_cst_5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c : Ref sig .tc := ⟨.hbm, 45, rfl⟩
abbrev main_call0_v0 : Ref sig .tc := ⟨.hbm, 46, rfl⟩
abbrev main_call0_v1 : Ref sig .tc := ⟨.hbm, 47, rfl⟩
abbrev main_call0_v2 : Ref sig .tc := ⟨.hbm, 48, rfl⟩
abbrev main_call0_v3 : Ref sig .tc := ⟨.hbm, 49, rfl⟩
abbrev main_call0_v4 : Ref sig .tc := ⟨.hbm, 50, rfl⟩
abbrev main_call0_v5 : Ref sig .tc := ⟨.hbm, 51, rfl⟩
abbrev main_call0_v6 : Ref sig .tc := ⟨.hbm, 52, rfl⟩
abbrev main_call0_v7 : Ref sig .tc := ⟨.hbm, 53, rfl⟩
abbrev main_call0_v8 : Ref sig .tc := ⟨.hbm, 54, rfl⟩
abbrev main_call0_c : Ref sig .tc := ⟨.hbm, 55, rfl⟩
abbrev main_call0_v9 : Ref sig .tc := ⟨.hbm, 56, rfl⟩
abbrev main_call0_v10 : Ref sig .tc := ⟨.hbm, 57, rfl⟩
abbrev main_call0_v11 : Ref sig .tc := ⟨.hbm, 58, rfl⟩
abbrev main_call0_c_0 : Ref sig .tc := ⟨.hbm, 59, rfl⟩
abbrev main_call0_v12 : Ref sig .tc := ⟨.hbm, 60, rfl⟩
abbrev main_call0_v13 : Ref sig .tc := ⟨.hbm, 61, rfl⟩
abbrev main_v30 : Ref sig .tc := ⟨.hbm, 62, rfl⟩
abbrev main_v31 : Ref sig .tc := ⟨.hbm, 63, rfl⟩
abbrev main_c_6 : Ref sig .tc := ⟨.hbm, 64, rfl⟩
abbrev main_call1_v0 : Ref sig .tc := ⟨.hbm, 65, rfl⟩
abbrev main_call1_v1 : Ref sig .tc := ⟨.hbm, 66, rfl⟩
abbrev main_call1_v2 : Ref sig .tc := ⟨.hbm, 67, rfl⟩
abbrev main_call1_v3 : Ref sig .tc := ⟨.hbm, 68, rfl⟩
abbrev main_call1_v4 : Ref sig .tc := ⟨.hbm, 69, rfl⟩
abbrev main_call1_v5 : Ref sig .tc := ⟨.hbm, 70, rfl⟩
abbrev main_call1_v6 : Ref sig .tc := ⟨.hbm, 71, rfl⟩
abbrev main_call1_v7 : Ref sig .tc := ⟨.hbm, 72, rfl⟩
abbrev main_call1_v8 : Ref sig .tc := ⟨.hbm, 73, rfl⟩
abbrev main_call1_c : Ref sig .tc := ⟨.hbm, 74, rfl⟩
abbrev main_call1_v9 : Ref sig .tc := ⟨.hbm, 75, rfl⟩
abbrev main_call1_v10 : Ref sig .tc := ⟨.hbm, 76, rfl⟩
abbrev main_call1_v11 : Ref sig .tc := ⟨.hbm, 77, rfl⟩
abbrev main_call1_c_0 : Ref sig .tc := ⟨.hbm, 78, rfl⟩
abbrev main_call1_v12 : Ref sig .tc := ⟨.hbm, 79, rfl⟩
abbrev main_call1_v13 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_v35 : Ref sig .tc := ⟨.hbm, 84, rfl⟩
abbrev main_cst_7 : Ref sig .tc := ⟨.hbm, 85, rfl⟩
abbrev main_v36 : Ref sig .tc := ⟨.hbm, 86, rfl⟩
abbrev main_v37 : Ref sig .tc := ⟨.hbm, 87, rfl⟩
abbrev main_cst_8 : Ref sig .tc := ⟨.hbm, 88, rfl⟩
abbrev main_v38 : Ref sig .tc := ⟨.hbm, 89, rfl⟩
abbrev main_v39 : Ref sig .tc := ⟨.hbm, 90, rfl⟩
abbrev main_v40 : Ref sig .tc := ⟨.hbm, 91, rfl⟩
abbrev main_v41 : Ref sig .tc := ⟨.hbm, 92, rfl⟩
abbrev main_v42 : Ref sig .tc := ⟨.hbm, 93, rfl⟩
abbrev main_cst_9 : Ref sig .tc := ⟨.hbm, 94, rfl⟩
abbrev main_v43 : Ref sig .tc := ⟨.hbm, 95, rfl⟩
abbrev main_v44 : Ref sig .tc := ⟨.hbm, 96, rfl⟩
abbrev main_cst_10 : Ref sig .tc := ⟨.hbm, 97, rfl⟩
abbrev main_v45 : Ref sig .tc := ⟨.hbm, 98, rfl⟩
abbrev main_v46 : Ref sig .tc := ⟨.hbm, 99, rfl⟩
abbrev main_cst_11 : Ref sig .tc := ⟨.hbm, 100, rfl⟩
abbrev main_v47 : Ref sig .tc := ⟨.hbm, 101, rfl⟩
abbrev main_v48 : Ref sig .tc := ⟨.hbm, 102, rfl⟩
abbrev main_v49 : Ref sig .tc := ⟨.hbm, 103, rfl⟩
abbrev main_v50 : Ref sig .tc := ⟨.hbm, 104, rfl⟩
abbrev main_cst_12 : Ref sig .tc := ⟨.hbm, 105, rfl⟩
abbrev main_v51 : Ref sig .tc := ⟨.hbm, 106, rfl⟩
abbrev main_v52 : Ref sig .tc := ⟨.hbm, 107, rfl⟩
abbrev main_v53 : Ref sig .tc := ⟨.hbm, 108, rfl⟩
abbrev main_v54 : Ref sig .tc := ⟨.hbm, 109, rfl⟩
abbrev main_v55 : Ref sig .tc := ⟨.hbm, 110, rfl⟩
abbrev main_v56 : Ref sig .tc := ⟨.hbm, 111, rfl⟩
abbrev main_v57 : Ref sig .tc := ⟨.hbm, 112, rfl⟩
abbrev main_v58 : Ref sig .tc := ⟨.hbm, 113, rfl⟩
abbrev main_v59 : Ref sig .tc := ⟨.hbm, 114, rfl⟩
abbrev main_v60 : Ref sig .tc := ⟨.hbm, 115, rfl⟩
abbrev main_v61 : Ref sig .tc := ⟨.hbm, 116, rfl⟩
abbrev main_v62 : Ref sig .tc := ⟨.hbm, 117, rfl⟩
abbrev main_cst_13 : Ref sig .tc := ⟨.hbm, 118, rfl⟩
abbrev main_v63_1 : Ref sig .tc := ⟨.hbm, 119, rfl⟩
abbrev main_call2_v1 : Ref sig .tc := ⟨.hbm, 120, rfl⟩
abbrev main_v63_0 : Ref sig .tc := ⟨.hbm, 121, rfl⟩
abbrev main_call2_cst : Ref sig .tc := ⟨.hbm, 122, rfl⟩
abbrev main_v63_2 : Ref sig .tc := ⟨.hbm, 123, rfl⟩
abbrev main_v64 : Ref sig .tc := ⟨.hbm, 124, rfl⟩
abbrev main_v65 : Ref sig .tc := ⟨.hbm, 125, rfl⟩
abbrev main_v66 : Ref sig .tc := ⟨.hbm, 126, rfl⟩
abbrev main_v67 : Ref sig .tc := ⟨.hbm, 127, rfl⟩
abbrev main_v68 : Ref sig .tc := ⟨.hbm, 128, rfl⟩
abbrev main_v69 : Ref sig .tc := ⟨.hbm, 129, rfl⟩
abbrev main_v70 : Ref sig .tc := ⟨.hbm, 130, rfl⟩
abbrev main_v71 : Ref sig .tc := ⟨.hbm, 131, rfl⟩
abbrev main_v72 : Ref sig .tc := ⟨.hbm, 132, rfl⟩
abbrev main_cst_14 : Ref sig .tc := ⟨.hbm, 133, rfl⟩
abbrev main_v73 : Ref sig .tc := ⟨.hbm, 134, rfl⟩
abbrev main_v74 : Ref sig .tc := ⟨.hbm, 135, rfl⟩
abbrev main_cst_15 : Ref sig .tc := ⟨.hbm, 136, rfl⟩
abbrev main_v75 : Ref sig .tc := ⟨.hbm, 137, rfl⟩
abbrev main_v76 : Ref sig .tc := ⟨.hbm, 138, rfl⟩
abbrev main_v77 : Ref sig .tc := ⟨.hbm, 139, rfl⟩
abbrev main_v78 : Ref sig .tc := ⟨.hbm, 140, rfl⟩
abbrev main_v79 : Ref sig .tc := ⟨.hbm, 141, rfl⟩
abbrev main_v80 : Ref sig .tc := ⟨.hbm, 142, rfl⟩
abbrev main_v81 : Ref sig .tc := ⟨.hbm, 143, rfl⟩
abbrev main_cst_16 : Ref sig .tc := ⟨.hbm, 144, rfl⟩
abbrev main_v82 : Ref sig .tc := ⟨.hbm, 145, rfl⟩
abbrev main_v83 : Ref sig .tc := ⟨.hbm, 146, rfl⟩
abbrev main_v84 : Ref sig .tc := ⟨.hbm, 147, rfl⟩
abbrev main_v85 : Ref sig .tc := ⟨.hbm, 148, rfl⟩
abbrev main_v86 : Ref sig .tc := ⟨.hbm, 149, rfl⟩
abbrev main_v87 : Ref sig .tc := ⟨.hbm, 150, rfl⟩
abbrev main_v88 : Ref sig .tc := ⟨.hbm, 151, rfl⟩
abbrev main_v89 : Ref sig .tc := ⟨.hbm, 152, rfl⟩
abbrev main_v90 : Ref sig .tc := ⟨.hbm, 153, rfl⟩
abbrev main_v91 : Ref sig .tc := ⟨.hbm, 154, rfl⟩
abbrev main_v92 : Ref sig .tc := ⟨.hbm, 155, rfl⟩
abbrev main_v93 : Ref sig .tc := ⟨.hbm, 156, rfl⟩
abbrev main_v94 : Ref sig .tc := ⟨.hbm, 157, rfl⟩
abbrev main_v95 : Ref sig .tc := ⟨.hbm, 158, rfl⟩
abbrev main_v96 : Ref sig .tc := ⟨.hbm, 159, rfl⟩
abbrev main_v97 : Ref sig .tc := ⟨.hbm, 160, rfl⟩
abbrev main_v98 : Ref sig .tc := ⟨.hbm, 161, rfl⟩
abbrev main_v99 : Ref sig .tc := ⟨.hbm, 162, rfl⟩
abbrev main_v100 : Ref sig .tc := ⟨.hbm, 163, rfl⟩
abbrev main_cst_17 : Ref sig .tc := ⟨.hbm, 164, rfl⟩
abbrev main_v101 : Ref sig .tc := ⟨.hbm, 165, rfl⟩
abbrev main_v102 : Ref sig .tc := ⟨.hbm, 166, rfl⟩
abbrev main_cst_18 : Ref sig .tc := ⟨.hbm, 167, rfl⟩
abbrev main_v103 : Ref sig .tc := ⟨.hbm, 168, rfl⟩
abbrev main_v104 : Ref sig .tc := ⟨.hbm, 169, rfl⟩
abbrev main_cst_19 : Ref sig .tc := ⟨.hbm, 170, rfl⟩
abbrev main_v105 : Ref sig .tc := ⟨.hbm, 171, rfl⟩
abbrev main_v106 : Ref sig .tc := ⟨.hbm, 172, rfl⟩
abbrev main_v107 : Ref sig .tc := ⟨.hbm, 173, rfl⟩
abbrev main_v108 : Ref sig .tc := ⟨.hbm, 174, rfl⟩
abbrev main_cst_20 : Ref sig .tc := ⟨.hbm, 175, rfl⟩
abbrev main_v109 : Ref sig .tc := ⟨.hbm, 176, rfl⟩
abbrev main_v110 : Ref sig .tc := ⟨.hbm, 177, rfl⟩
abbrev main_v111 : Ref sig .tc := ⟨.hbm, 178, rfl⟩
abbrev main_v112 : Ref sig .tc := ⟨.hbm, 179, rfl⟩
abbrev main_v113 : Ref sig .tc := ⟨.hbm, 180, rfl⟩
abbrev main_v114 : Ref sig .tc := ⟨.hbm, 181, rfl⟩
abbrev main_v115 : Ref sig .tc := ⟨.hbm, 182, rfl⟩
abbrev main_v116 : Ref sig .tc := ⟨.hbm, 183, rfl⟩
abbrev main_v117 : Ref sig .tc := ⟨.hbm, 184, rfl⟩
abbrev main_cst_21 : Ref sig .tc := ⟨.hbm, 185, rfl⟩
abbrev main_v118 : Ref sig .tc := ⟨.hbm, 186, rfl⟩
abbrev main_v119 : Ref sig .tc := ⟨.hbm, 187, rfl⟩
abbrev main_cst_22 : Ref sig .tc := ⟨.hbm, 188, rfl⟩
abbrev main_v120 : Ref sig .tc := ⟨.hbm, 189, rfl⟩
abbrev main_v121 : Ref sig .tc := ⟨.hbm, 190, rfl⟩
abbrev main_cst_23 : Ref sig .tc := ⟨.hbm, 191, rfl⟩
abbrev main_v122 : Ref sig .tc := ⟨.hbm, 192, rfl⟩
abbrev main_v123 : Ref sig .tc := ⟨.hbm, 193, rfl⟩
abbrev main_v124 : Ref sig .tc := ⟨.hbm, 194, rfl⟩
abbrev main_v125 : Ref sig .tc := ⟨.hbm, 195, rfl⟩
abbrev main_cst_24 : Ref sig .tc := ⟨.hbm, 196, rfl⟩
abbrev main_v126 : Ref sig .tc := ⟨.hbm, 197, rfl⟩
abbrev main_v127 : Ref sig .tc := ⟨.hbm, 198, rfl⟩
abbrev main_v128 : Ref sig .tc := ⟨.hbm, 199, rfl⟩
abbrev main_v129 : Ref sig .tc := ⟨.hbm, 200, rfl⟩
abbrev main_v130 : Ref sig .tc := ⟨.hbm, 201, rfl⟩
abbrev main_v131 : Ref sig .tc := ⟨.hbm, 202, rfl⟩
abbrev main_v132 : Ref sig .tc := ⟨.hbm, 203, rfl⟩
abbrev main_v133 : Ref sig .tc := ⟨.hbm, 204, rfl⟩
abbrev main_v134 : Ref sig .tc := ⟨.hbm, 205, rfl⟩
abbrev main_v135 : Ref sig .tc := ⟨.hbm, 206, rfl⟩
abbrev main_v136 : Ref sig .tc := ⟨.hbm, 207, rfl⟩
abbrev main_v137 : Ref sig .tc := ⟨.hbm, 208, rfl⟩
abbrev main_cst_25 : Ref sig .tc := ⟨.hbm, 209, rfl⟩
abbrev main_v138 : Ref sig .tc := ⟨.hbm, 210, rfl⟩
abbrev main_v139 : Ref sig .tc := ⟨.hbm, 211, rfl⟩
abbrev main_v140 : Ref sig .tc := ⟨.hbm, 212, rfl⟩
abbrev main_v141 : Ref sig .tc := ⟨.hbm, 213, rfl⟩
abbrev main_cst_26 : Ref sig .tc := ⟨.hbm, 214, rfl⟩
abbrev main_v142 : Ref sig .tc := ⟨.hbm, 215, rfl⟩
abbrev main_v143 : Ref sig .tc := ⟨.hbm, 216, rfl⟩
abbrev main_cst_27 : Ref sig .tc := ⟨.hbm, 217, rfl⟩
abbrev main_v144 : Ref sig .tc := ⟨.hbm, 218, rfl⟩
abbrev main_v145 : Ref sig .tc := ⟨.hbm, 219, rfl⟩
abbrev main_v146 : Ref sig .tc := ⟨.hbm, 220, rfl⟩
abbrev main_v147 : Ref sig .tc := ⟨.hbm, 221, rfl⟩
abbrev main_v148 : Ref sig .tc := ⟨.hbm, 222, rfl⟩
abbrev main_cst_28 : Ref sig .tc := ⟨.hbm, 223, rfl⟩
abbrev main_v149 : Ref sig .tc := ⟨.hbm, 224, rfl⟩
abbrev main_v150 : Ref sig .tc := ⟨.hbm, 225, rfl⟩
abbrev main_cst_29 : Ref sig .tc := ⟨.hbm, 226, rfl⟩
abbrev main_v151 : Ref sig .tc := ⟨.hbm, 227, rfl⟩
abbrev main_v152 : Ref sig .tc := ⟨.hbm, 228, rfl⟩
abbrev main_v153 : Ref sig .tc := ⟨.hbm, 229, rfl⟩
abbrev main_v154 : Ref sig .tc := ⟨.hbm, 230, rfl⟩
abbrev main_v155 : Ref sig .tc := ⟨.hbm, 231, rfl⟩
abbrev main_v156 : Ref sig .tc := ⟨.hbm, 232, rfl⟩
abbrev main_cst_30 : Ref sig .tc := ⟨.hbm, 233, rfl⟩
abbrev main_v157 : Ref sig .tc := ⟨.hbm, 234, rfl⟩
abbrev main_v158 : Ref sig .tc := ⟨.hbm, 235, rfl⟩
abbrev main_cst_31 : Ref sig .tc := ⟨.hbm, 236, rfl⟩
abbrev main_v159 : Ref sig .tc := ⟨.hbm, 237, rfl⟩
abbrev main_v160 : Ref sig .tc := ⟨.hbm, 238, rfl⟩
abbrev main_v161 : Ref sig .tc := ⟨.hbm, 239, rfl⟩
abbrev main_v162 : Ref sig .tc := ⟨.hbm, 240, rfl⟩
abbrev main_cst_32 : Ref sig .tc := ⟨.hbm, 241, rfl⟩
abbrev main_v163 : Ref sig .tc := ⟨.hbm, 242, rfl⟩
abbrev main_v164 : Ref sig .tc := ⟨.hbm, 243, rfl⟩
abbrev main_cst_33 : Ref sig .tc := ⟨.hbm, 244, rfl⟩
abbrev main_v165 : Ref sig .tc := ⟨.hbm, 245, rfl⟩
abbrev main_v166 : Ref sig .tc := ⟨.hbm, 246, rfl⟩
abbrev main_v167 : Ref sig .tc := ⟨.hbm, 247, rfl⟩
abbrev main_v168 : Ref sig .tc := ⟨.hbm, 248, rfl⟩
abbrev main_v169 : Ref sig .tc := ⟨.hbm, 249, rfl⟩
abbrev main_cst_34 : Ref sig .tc := ⟨.hbm, 250, rfl⟩
abbrev main_v170 : Ref sig .tc := ⟨.hbm, 251, rfl⟩
abbrev main_v171 : Ref sig .tc := ⟨.hbm, 252, rfl⟩
abbrev main_cst_35 : Ref sig .tc := ⟨.hbm, 253, rfl⟩
abbrev main_v172 : Ref sig .tc := ⟨.hbm, 254, rfl⟩
abbrev main_v173 : Ref sig .tc := ⟨.hbm, 255, rfl⟩
abbrev main_v174 : Ref sig .tc := ⟨.hbm, 256, rfl⟩
abbrev main_v175 : Ref sig .tc := ⟨.hbm, 257, rfl⟩
abbrev main_v176 : Ref sig .tc := ⟨.hbm, 258, rfl⟩
abbrev main_v177 : Ref sig .tc := ⟨.hbm, 259, rfl⟩
abbrev main_cst_36 : Ref sig .tc := ⟨.hbm, 260, rfl⟩
abbrev main_v178 : Ref sig .tc := ⟨.hbm, 261, rfl⟩
abbrev main_v179 : Ref sig .tc := ⟨.hbm, 262, rfl⟩
abbrev main_v180 : Ref sig .tc := ⟨.hbm, 263, rfl⟩
abbrev main_v181 : Ref sig .tc := ⟨.hbm, 264, rfl⟩
abbrev main_v182 : Ref sig .tc := ⟨.hbm, 265, rfl⟩
abbrev main_cst_37 : Ref sig .tc := ⟨.hbm, 266, rfl⟩
abbrev main_v183 : Ref sig .tc := ⟨.hbm, 267, rfl⟩
abbrev main_v184 : Ref sig .tc := ⟨.hbm, 268, rfl⟩
abbrev main_v185 : Ref sig .tc := ⟨.hbm, 269, rfl⟩
abbrev main_v186 : Ref sig .tc := ⟨.hbm, 270, rfl⟩
abbrev main_cst_38 : Ref sig .tc := ⟨.hbm, 271, rfl⟩
abbrev main_v187 : Ref sig .tc := ⟨.hbm, 272, rfl⟩
abbrev main_v188 : Ref sig .tc := ⟨.hbm, 273, rfl⟩
abbrev main_cst_39 : Ref sig .tc := ⟨.hbm, 274, rfl⟩
abbrev main_v189 : Ref sig .tc := ⟨.hbm, 275, rfl⟩
abbrev main_cst_40 : Ref sig .tc := ⟨.hbm, 276, rfl⟩
abbrev main_v190 : Ref sig .tc := ⟨.hbm, 277, rfl⟩
abbrev main_v191 : Ref sig .tc := ⟨.hbm, 278, rfl⟩
abbrev main_cst_41 : Ref sig .tc := ⟨.hbm, 279, rfl⟩
abbrev main_v192 : Ref sig .tc := ⟨.hbm, 280, rfl⟩
abbrev main_v193 : Ref sig .tc := ⟨.hbm, 281, rfl⟩
abbrev main_v194 : Ref sig .tc := ⟨.hbm, 282, rfl⟩
abbrev main_v195 : Ref sig .tc := ⟨.hbm, 283, rfl⟩
abbrev main_cst_42 : Ref sig .tc := ⟨.hbm, 284, rfl⟩
abbrev main_v196 : Ref sig .tc := ⟨.hbm, 285, rfl⟩
abbrev main_v197 : Ref sig .tc := ⟨.hbm, 286, rfl⟩
abbrev main_cst_43 : Ref sig .tc := ⟨.hbm, 287, rfl⟩
abbrev main_v198 : Ref sig .tc := ⟨.hbm, 288, rfl⟩
abbrev main_v199 : Ref sig .tc := ⟨.hbm, 289, rfl⟩
abbrev main_cst_44 : Ref sig .tc := ⟨.hbm, 290, rfl⟩
abbrev main_v200 : Ref sig .tc := ⟨.hbm, 291, rfl⟩
abbrev main_v201 : Ref sig .tc := ⟨.hbm, 292, rfl⟩
abbrev main_v202 : Ref sig .tc := ⟨.hbm, 293, rfl⟩
abbrev main_cst_45 : Ref sig .tc := ⟨.hbm, 294, rfl⟩
abbrev main_v203 : Ref sig .tc := ⟨.hbm, 295, rfl⟩
abbrev main_v204 : Ref sig .tc := ⟨.hbm, 296, rfl⟩
abbrev main_v205 : Ref sig .tc := ⟨.hbm, 297, rfl⟩
abbrev main_v206 : Ref sig .tc := ⟨.hbm, 298, rfl⟩
abbrev main_cst_46 : Ref sig .tc := ⟨.hbm, 299, rfl⟩
abbrev main_v207 : Ref sig .tc := ⟨.hbm, 300, rfl⟩
abbrev main_v208 : Ref sig .tc := ⟨.hbm, 301, rfl⟩
abbrev main_cst_47 : Ref sig .tc := ⟨.hbm, 302, rfl⟩
abbrev main_v209 : Ref sig .tc := ⟨.hbm, 303, rfl⟩
abbrev main_v210 : Ref sig .tc := ⟨.hbm, 304, rfl⟩
abbrev main_cst_48 : Ref sig .tc := ⟨.hbm, 305, rfl⟩
abbrev main_v211 : Ref sig .tc := ⟨.hbm, 306, rfl⟩
abbrev main_v212 : Ref sig .tc := ⟨.hbm, 307, rfl⟩
abbrev main_v213 : Ref sig .tc := ⟨.hbm, 308, rfl⟩
abbrev main_v214 : Ref sig .tc := ⟨.hbm, 309, rfl⟩
abbrev main_v215 : Ref sig .tc := ⟨.hbm, 310, rfl⟩
abbrev main_v216 : Ref sig .tc := ⟨.hbm, 311, rfl⟩
abbrev main_v217 : Ref sig .tc := ⟨.hbm, 312, rfl⟩
abbrev main_v218 : Ref sig .tc := ⟨.hbm, 313, rfl⟩
abbrev main_v219 : Ref sig .tc := ⟨.hbm, 314, rfl⟩
abbrev main_cst_49 : Ref sig .tc := ⟨.hbm, 315, rfl⟩
abbrev main_v220 : Ref sig .tc := ⟨.hbm, 316, rfl⟩
abbrev main_v221 : Ref sig .tc := ⟨.hbm, 317, rfl⟩
abbrev main_cst_50 : Ref sig .tc := ⟨.hbm, 318, rfl⟩
abbrev main_v222 : Ref sig .tc := ⟨.hbm, 319, rfl⟩
abbrev main_v223 : Ref sig .tc := ⟨.hbm, 320, rfl⟩
abbrev main_v224 : Ref sig .tc := ⟨.hbm, 321, rfl⟩
abbrev main_v225 : Ref sig .tc := ⟨.hbm, 322, rfl⟩
abbrev main_v226 : Ref sig .tc := ⟨.hbm, 323, rfl⟩
abbrev main_v227 : Ref sig .tc := ⟨.hbm, 324, rfl⟩
abbrev main_call3_cst : Ref sig .tc := ⟨.hbm, 325, rfl⟩
abbrev main_call3_v0 : Ref sig .tc := ⟨.hbm, 326, rfl⟩
abbrev main_v228 : Ref sig .tc := ⟨.hbm, 327, rfl⟩
abbrev main_v229 : Ref sig .tc := ⟨.hbm, 328, rfl⟩
abbrev main_cst_51 : Ref sig .tc := ⟨.hbm, 329, rfl⟩
abbrev main_v230 : Ref sig .tc := ⟨.hbm, 330, rfl⟩
abbrev main_v231 : Ref sig .tc := ⟨.hbm, 331, rfl⟩
abbrev main_cst_52 : Ref sig .tc := ⟨.hbm, 332, rfl⟩
abbrev main_v232 : Ref sig .tc := ⟨.hbm, 333, rfl⟩
abbrev main_v233 : Ref sig .tc := ⟨.hbm, 334, rfl⟩
abbrev main_cst_53 : Ref sig .tc := ⟨.hbm, 335, rfl⟩
abbrev main_v234 : Ref sig .tc := ⟨.hbm, 336, rfl⟩
abbrev main_v235 : Ref sig .tc := ⟨.hbm, 337, rfl⟩
abbrev main_v236 : Ref sig .tc := ⟨.hbm, 338, rfl⟩
abbrev main_v237 : Ref sig .tc := ⟨.hbm, 339, rfl⟩
abbrev main_cst_54 : Ref sig .tc := ⟨.hbm, 340, rfl⟩
abbrev main_v238 : Ref sig .tc := ⟨.hbm, 341, rfl⟩
abbrev main_v239 : Ref sig .tc := ⟨.hbm, 342, rfl⟩
abbrev main_cst_55 : Ref sig .tc := ⟨.hbm, 343, rfl⟩
abbrev main_v240 : Ref sig .tc := ⟨.hbm, 344, rfl⟩
abbrev main_v241 : Ref sig .tc := ⟨.hbm, 345, rfl⟩
abbrev main_v242 : Ref sig .tc := ⟨.hbm, 346, rfl⟩
abbrev main_v243 : Ref sig .tc := ⟨.hbm, 347, rfl⟩
abbrev main_v244 : Ref sig .tc := ⟨.hbm, 348, rfl⟩
abbrev main_cst_56 : Ref sig .tc := ⟨.hbm, 349, rfl⟩
abbrev main_v245 : Ref sig .tc := ⟨.hbm, 350, rfl⟩
abbrev main_v246 : Ref sig .tc := ⟨.hbm, 351, rfl⟩
abbrev main_cst_57 : Ref sig .tc := ⟨.hbm, 352, rfl⟩
abbrev main_v247 : Ref sig .tc := ⟨.hbm, 353, rfl⟩
abbrev main_v248 : Ref sig .tc := ⟨.hbm, 354, rfl⟩
abbrev main_v249 : Ref sig .tc := ⟨.hbm, 355, rfl⟩
abbrev main_v250 : Ref sig .tc := ⟨.hbm, 356, rfl⟩
abbrev main_v251 : Ref sig .tc := ⟨.hbm, 357, rfl⟩
abbrev main_v252 : Ref sig .tc := ⟨.hbm, 358, rfl⟩
abbrev main_v253 : Ref sig .tc := ⟨.hbm, 359, rfl⟩
abbrev main_cst_58 : Ref sig .tc := ⟨.hbm, 360, rfl⟩
abbrev main_v254 : Ref sig .tc := ⟨.hbm, 361, rfl⟩
abbrev main_v255 : Ref sig .tc := ⟨.hbm, 362, rfl⟩
abbrev main_cst_59 : Ref sig .tc := ⟨.hbm, 363, rfl⟩
abbrev main_v256 : Ref sig .tc := ⟨.hbm, 364, rfl⟩
abbrev main_v257 : Ref sig .tc := ⟨.hbm, 365, rfl⟩
abbrev main_cst_60 : Ref sig .tc := ⟨.hbm, 366, rfl⟩
abbrev main_v258 : Ref sig .tc := ⟨.hbm, 367, rfl⟩
abbrev main_v259 : Ref sig .tc := ⟨.hbm, 368, rfl⟩
abbrev main_v260 : Ref sig .tc := ⟨.hbm, 369, rfl⟩
abbrev main_cst_61 : Ref sig .tc := ⟨.hbm, 370, rfl⟩
abbrev main_v261 : Ref sig .tc := ⟨.hbm, 371, rfl⟩
abbrev main_cst_62 : Ref sig .tc := ⟨.hbm, 372, rfl⟩
abbrev main_v262 : Ref sig .tc := ⟨.hbm, 373, rfl⟩
abbrev main_v263 : Ref sig .tc := ⟨.hbm, 374, rfl⟩
abbrev main_cst_63 : Ref sig .tc := ⟨.hbm, 375, rfl⟩
abbrev main_v264 : Ref sig .tc := ⟨.hbm, 376, rfl⟩
abbrev main_v265 : Ref sig .tc := ⟨.hbm, 377, rfl⟩
abbrev main_cst_64 : Ref sig .tc := ⟨.hbm, 378, rfl⟩
abbrev main_v266 : Ref sig .tc := ⟨.hbm, 379, rfl⟩
abbrev main_cst_65 : Ref sig .tc := ⟨.hbm, 380, rfl⟩
abbrev main_v267 : Ref sig .tc := ⟨.hbm, 381, rfl⟩
abbrev main_v268 : Ref sig .tc := ⟨.hbm, 382, rfl⟩
abbrev main_v269 : Ref sig .tc := ⟨.hbm, 383, rfl⟩
abbrev main_v270 : Ref sig .tc := ⟨.hbm, 384, rfl⟩
abbrev main_cst_66 : Ref sig .tc := ⟨.hbm, 385, rfl⟩
abbrev main_v271 : Ref sig .tc := ⟨.hbm, 386, rfl⟩
abbrev main_v272 : Ref sig .tc := ⟨.hbm, 387, rfl⟩
abbrev main_v273 : Ref sig .tc := ⟨.hbm, 388, rfl⟩
abbrev main_cst_67 : Ref sig .tc := ⟨.hbm, 389, rfl⟩
abbrev main_v274 : Ref sig .tc := ⟨.hbm, 390, rfl⟩
abbrev main_v275 : Ref sig .tc := ⟨.hbm, 391, rfl⟩
abbrev main_v276 : Ref sig .tc := ⟨.hbm, 392, rfl⟩
abbrev main_cst_68 : Ref sig .tc := ⟨.hbm, 393, rfl⟩
abbrev main_v277 : Ref sig .tc := ⟨.hbm, 394, rfl⟩
abbrev main_v278 : Ref sig .tc := ⟨.hbm, 395, rfl⟩
abbrev main_v279 : Ref sig .tc := ⟨.hbm, 396, rfl⟩
abbrev main_v280 : Ref sig .tc := ⟨.hbm, 397, rfl⟩
abbrev main_cst_69 : Ref sig .tc := ⟨.hbm, 398, rfl⟩
abbrev main_v281 : Ref sig .tc := ⟨.hbm, 399, rfl⟩
abbrev main_v282 : Ref sig .tc := ⟨.hbm, 400, rfl⟩
abbrev main_v283 : Ref sig .tc := ⟨.hbm, 401, rfl⟩
abbrev main_v284 : Ref sig .tc := ⟨.hbm, 402, rfl⟩
abbrev main_c_70 : Ref sig .tc := ⟨.hbm, 403, rfl⟩
abbrev main_call4_v0 : Ref sig .tc := ⟨.hbm, 404, rfl⟩
abbrev main_v285 : Ref sig .tc := ⟨.hbm, 405, rfl⟩
abbrev main_v286 : Ref sig .tc := ⟨.hbm, 406, rfl⟩
abbrev main_v287 : Ref sig .tc := ⟨.hbm, 407, rfl⟩
abbrev main_v288 : Ref sig .tc := ⟨.hbm, 408, rfl⟩
abbrev main_v289 : Ref sig .tc := ⟨.hbm, 409, rfl⟩

abbrev nD : Nat := 1
abbrev τ : Topo := Topo.v7x

variable {F : FTy → Type} [FloatOps F]
-- ==== Kernel2.lean ====
abbrev S4096x2048 : Shape := ⟨2, ![4096, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 8
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .bf16⟩
  | .hbm, ⟨3, _⟩ => ⟨S4096x2048, .f32⟩
  | .hbm, ⟨4, _⟩ => ⟨S1x2048, .f32⟩
  | .hbm, ⟨5, _⟩ => ⟨S4096x2048, .f32⟩
  | .hbm, ⟨6, _⟩ => ⟨S4096x2048, .bf16⟩
  | .hbm, ⟨7, _⟩ => ⟨S1x2048, .f32⟩
  | .local _ .vmem, ⟨0, _⟩ => ⟨S256x2048, .bf16⟩
  | .local _ .vmem, ⟨1, _⟩ => ⟨S256x2048, .bf16⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v35 : BitVec 1 := Scalar.cmpi .eq arg0 c0_i32
  let v36 : BitVec 32 := Scalar.extui v35
  let c0_i32_16 : BitVec 32 := 0#32
  let v37 : BitVec 1 := Scalar.cmpi .ne v36 c0_i32_16
  v37

def k0_cond2 (i : grid0.Coords) : BitVec 1 :=
  let arg0 : BitVec 32 := BitVec.ofNat 32 (i 0).val
  let c0_i32_17 : BitVec 32 := 0#32
  let v38 : BitVec 1 := Scalar.cmpi .sgt arg0 c0_i32_17
  let v39 : BitVec 32 := Scalar.extui v38
  let c0_i32_18 : BitVec 32 := 0#32
  let v40 : BitVec 1 := Scalar.cmpi .ne v39 c0_i32_18
  v40

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference2Ideal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 53
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .bf16⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S1x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S2048, .f32⟩
  | .hbm, ⟨28, _⟩ => ⟨S1x2048, .f32⟩
  | .hbm, ⟨29, _⟩ => ⟨S4096x2048, .f32⟩
  | .hbm, ⟨30, _⟩ => ⟨S4096x2048, .f32⟩
  | .hbm, ⟨31, _⟩ => ⟨S_, .f32⟩
  | .hbm, ⟨32, _⟩ => ⟨S2048, .f32⟩
  | .hbm, ⟨33, _⟩ => ⟨S4096x2048, .f32⟩
  | .hbm, ⟨34, _⟩ => ⟨S_, .f32⟩
  | .hbm, ⟨35, _⟩ => ⟨S4096, .f32⟩
  | .hbm, ⟨36, _⟩ => ⟨S4096x1, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S_, .f32⟩
  | .hbm, ⟨45, _⟩ => ⟨S4096, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S4096x2048, .bf16⟩
  | .hbm, ⟨52, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Kernel3.lean ====
abbrev S4096x2048 : Shape := ⟨2, ![4096, 2048]⟩
abbrev S2048 : Shape := ⟨1, ![2048]⟩
abbrev S1x2048 : Shape := ⟨2, ![1, 2048]⟩
abbrev S1x128 : Shape := ⟨2, ![1, 128]⟩
abbrev S256x2048 : Shape := ⟨2, ![256, 2048]⟩
abbrev S256 : Shape := ⟨1, ![256]⟩
abbrev S256x1 : Shape := ⟨2, ![256, 1]⟩
abbrev S1x256x1 : Shape := ⟨3, ![1, 256, 1]⟩
abbrev S1 : Shape := ⟨1, ![1]⟩
abbrev S1x1x1 : Shape := ⟨3, ![1, 1, 1]⟩

abbrev nBuf : Space → Nat
  | .hbm => 8
  | .vmem => 11
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S1x2048, .f32⟩
  | .hbm, ⟨4, _⟩ => ⟨S1x128, .f32⟩
  | .hbm, ⟨5, _⟩ => ⟨S4096x2048, .f32⟩
  | .hbm, ⟨6, _⟩ => ⟨S4096x2048, .bf16⟩
  | .hbm, ⟨7, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S1x128, .f32⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | .local _ .vmem, ⟨10, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v48 : BitVec 1 := Scalar.cmpi .eq arg0 c0_i32
  let v49 : BitVec 32 := Scalar.extui v48
  let c0_i32_19 : BitVec 32 := 0#32
  let v50 : BitVec 1 := Scalar.cmpi .ne v49 c0_i32_19
  v50

def k0_cond2 (i : grid0.Coords) : BitVec 1 :=
  let arg0 : BitVec 32 := BitVec.ofNat 32 (i 0).val
  let c0_i32_20 : BitVec 32 := 0#32
  let v51 : BitVec 1 := Scalar.cmpi .sgt arg0 c0_i32_20
  let v52 : BitVec 32 := Scalar.extui v51
  let c0_i32_21 : BitVec 32 := 0#32
  let v53 : BitVec 1 := Scalar.cmpi .ne v52 c0_i32_21
  v53

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference3Ideal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩
abbrev S1x128 : Shape := ⟨2, ![1, 128]⟩

abbrev nBuf : Space → Nat
  | .hbm => 74
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x2048, .f32⟩
  | .hbm, ⟨19, _⟩ => ⟨S4096x2048, .f32⟩
  | .hbm, ⟨20, _⟩ => ⟨S1x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S4096x2048, .f32⟩
  | .hbm, ⟨27, _⟩ => ⟨S4096x2048, .f32⟩
  | .hbm, ⟨28, _⟩ => ⟨S_, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S4096, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S_, .f32⟩
  | .hbm, ⟨48, _⟩ => ⟨S2048, .f32⟩
  | .hbm, ⟨49, _⟩ => ⟨S1x2048, .f32⟩
  | .hbm, ⟨50, _⟩ => ⟨S4096x2048, .f32⟩
  | .hbm, ⟨51, _⟩ => ⟨S4096x2048, .f32⟩
  | .hbm, ⟨52, _⟩ => ⟨S_, .f32⟩
  | .hbm, ⟨53, _⟩ => ⟨S2048, .f32⟩
  | .hbm, ⟨54, _⟩ => ⟨S4096x2048, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S4096x2048, .f32⟩
  | .hbm, ⟨59, _⟩ => ⟨S4096x2048, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096, .f32⟩
  | .hbm, ⟨66, _⟩ => ⟨S4096x2048, .f32⟩
  | .hbm, ⟨67, _⟩ => ⟨S4096x2048, .f32⟩
  | .hbm, ⟨68, _⟩ => ⟨S4096x2048, .f32⟩
  | .hbm, ⟨69, _⟩ => ⟨S4096x2048, .f32⟩
  | .hbm, ⟨70, _⟩ => ⟨S4096x2048, .f32⟩
  | .hbm, ⟨71, _⟩ => ⟨S1x128, .f32⟩
  | .hbm, ⟨72, _⟩ => ⟨S4096x2048, .bf16⟩
  | .hbm, ⟨73, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]
-- ==== Kernel4.lean ====
abbrev S4096x2048 : Shape := ⟨2, ![4096, 2048]⟩
abbrev S2048x5632 : Shape := ⟨2, ![2048, 5632]⟩
abbrev S5632x2048 : Shape := ⟨2, ![5632, 2048]⟩
abbrev S2048x11264 : Shape := ⟨2, ![2048, 11264]⟩
abbrev S2x4096x5632 : Shape := ⟨3, ![2, 4096, 5632]⟩
abbrev S4096x5632 : Shape := ⟨2, ![4096, 5632]⟩
abbrev S2048x2048 : Shape := ⟨2, ![2048, 2048]⟩
abbrev S2048x512 : Shape := ⟨2, ![2048, 512]⟩
abbrev S2x2048x512 : Shape := ⟨3, ![2, 2048, 512]⟩
abbrev S256x2048 : Shape := ⟨2, ![256, 2048]⟩
abbrev S256x512 : Shape := ⟨2, ![256, 512]⟩
abbrev S1x256x512 : Shape := ⟨3, ![1, 256, 512]⟩
abbrev S512x2048 : Shape := ⟨2, ![512, 2048]⟩
abbrev S1x2048x512 : Shape := ⟨3, ![1, 2048, 512]⟩

abbrev nBuf : Space → Nat
  | .hbm => 9
  | .vmem => 18
  | .smem => 0
  | _ => 0

abbrev bufTy : (tb : Table) → Fin (tcTables nBuf tb) → BufTy
  | .hbm, ⟨0, _⟩ => ⟨S4096x2048, .bf16⟩
  | .hbm, ⟨1, _⟩ => ⟨S2048x5632, .bf16⟩
  | .hbm, ⟨2, _⟩ => ⟨S2048x5632, .bf16⟩
  | .hbm, ⟨3, _⟩ => ⟨S5632x2048, .bf16⟩
  | .hbm, ⟨4, _⟩ => ⟨S4096x2048, .bf16⟩
  | .hbm, ⟨5, _⟩ => ⟨S2048x11264, .bf16⟩
  | .hbm, ⟨6, _⟩ => ⟨S2x4096x5632, .bf16⟩
  | .hbm, ⟨7, _⟩ => ⟨S4096x5632, .bf16⟩
  | .hbm, ⟨8, _⟩ => ⟨S2x4096x5632, .bf16⟩
  | .local _ .vmem, ⟨0, _⟩ => ⟨S2048x2048, .bf16⟩
  | .local _ .vmem, ⟨1, _⟩ => ⟨S2048x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2x2048x512, .bf16⟩
  | .local _ .vmem, ⟨7, _⟩ => ⟨S2x2048x512, .bf16⟩
  | .local _ .vmem, ⟨8, _⟩ => ⟨S2048x512, .bf16⟩
  | .local _ .vmem, ⟨9, _⟩ => ⟨S2048x512, .bf16⟩
  | .local _ .vmem, ⟨10, _⟩ => ⟨S2048x2048, .bf16⟩
  | .local _ .vmem, ⟨11, _⟩ => ⟨S2048x2048, .bf16⟩
  | .local _ .vmem, ⟨12, _⟩ => ⟨S512x2048, .bf16⟩
  | .local _ .vmem, ⟨13, _⟩ => ⟨S512x2048, .bf16⟩
  | .local _ .vmem, ⟨14, _⟩ => ⟨S2x2048x512, .bf16⟩
  | .local _ .vmem, ⟨15, _⟩ => ⟨S2x2048x512, .bf16⟩
  | .local _ .vmem, ⟨16, _⟩ => ⟨S2x2048x512, .bf16⟩
  | .local _ .vmem, ⟨17, _⟩ => ⟨S2x2048x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17

abbrev nD : Nat := 1
abbrev τ : Topo := Topo.v7x

variable {F : FTy → Type} [FloatOps F]

abbrev grid0 : Pipeline.Grid := ⟨2, ![2, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![2, 11], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage1_0 : Fin 2 → Memref sig .tc .vmem S2048x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2x2048x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S2x2048x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]
-- ==== Reference4Ideal.lean ====
abbrev S4096x2048 : Shape := ⟨2, ![4096, 2048]⟩
abbrev S2048x5632 : Shape := ⟨2, ![2048, 5632]⟩
abbrev S5632x2048 : Shape := ⟨2, ![5632, 2048]⟩
abbrev S4096x5632 : Shape := ⟨2, ![4096, 5632]⟩
abbrev S_ : Shape := ⟨0, ![]⟩
abbrev S1x4096x5632 : Shape := ⟨3, ![1, 4096, 5632]⟩
abbrev S2x4096x5632 : Shape := ⟨3, ![2, 4096, 5632]⟩

abbrev nBuf : Space → Nat
  | .hbm => 50
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x5632, .bf16⟩
  | .hbm, ⟨2, _⟩ => ⟨S2048x5632, .bf16⟩
  | .hbm, ⟨3, _⟩ => ⟨S5632x2048, .bf16⟩
  | .hbm, ⟨4, _⟩ => ⟨S4096x2048, .bf16⟩
  | .hbm, ⟨5, _⟩ => ⟨S4096x2048, .f32⟩
  | .hbm, ⟨6, _⟩ => ⟨S2048x5632, .f32⟩
  | .hbm, ⟨7, _⟩ => ⟨S4096x5632, .f32⟩
  | .hbm, ⟨8, _⟩ => ⟨S4096x2048, .f32⟩
  | .hbm, ⟨9, _⟩ => ⟨S2048x5632, .f32⟩
  | .hbm, ⟨10, _⟩ => ⟨S4096x5632, .f32⟩
  | .hbm, ⟨11, _⟩ => ⟨S4096x5632, .f32⟩
  | .hbm, ⟨12, _⟩ => ⟨S4096x5632, .f32⟩
  | .hbm, ⟨13, _⟩ => ⟨S_, .f32⟩
  | .hbm, ⟨14, _⟩ => ⟨S4096x5632, .f32⟩
  | .hbm, ⟨15, _⟩ => ⟨S4096x5632, .f32⟩
  | .hbm, ⟨16, _⟩ => ⟨S_, .f32⟩
  | .hbm, ⟨17, _⟩ => ⟨S4096x5632, .f32⟩
  | .hbm, ⟨18, _⟩ => ⟨S4096x5632, .f32⟩
  | .hbm, ⟨19, _⟩ => ⟨S_, .f32⟩
  | .hbm, ⟨20, _⟩ => ⟨S4096x5632, .f32⟩
  | .hbm, ⟨21, _⟩ => ⟨S4096x5632, .f32⟩
  | .hbm, ⟨22, _⟩ => ⟨S4096x5632, .f32⟩
  | .hbm, ⟨23, _⟩ => ⟨S4096x5632, .f32⟩
  | .hbm, ⟨24, _⟩ => ⟨S4096x5632, .f32⟩
  | .hbm, ⟨25, _⟩ => ⟨S5632x2048, .f32⟩
  | .hbm, ⟨26, _⟩ => ⟨S4096x2048, .f32⟩
  | .hbm, ⟨27, _⟩ => ⟨S4096x2048, .f32⟩
  | .hbm, ⟨28, _⟩ => ⟨S4096x5632, .f32⟩
  | .hbm, ⟨29, _⟩ => ⟨S4096x5632, .f32⟩
  | .hbm, ⟨30, _⟩ => ⟨S4096x5632, .f32⟩
  | .hbm, ⟨31, _⟩ => ⟨S4096x5632, .f32⟩
  | .hbm, ⟨32, _⟩ => ⟨S4096x5632, .f32⟩
  | .hbm, ⟨33, _⟩ => ⟨S4096x5632, .f32⟩
  | .hbm, ⟨34, _⟩ => ⟨S4096x5632, .f32⟩
  | .hbm, ⟨35, _⟩ => ⟨S4096x5632, .f32⟩
  | .hbm, ⟨36, _⟩ => ⟨S4096x5632, .f32⟩
  | .hbm, ⟨37, _⟩ => ⟨S_, .f32⟩
  | .hbm, ⟨38, _⟩ => ⟨S4096x5632, .f32⟩
  | .hbm, ⟨39, _⟩ => ⟨S4096x5632, .f32⟩
  | .hbm, ⟨40, _⟩ => ⟨S_, .f32⟩
  | .hbm, ⟨41, _⟩ => ⟨S4096x5632, .f32⟩
  | .hbm, ⟨42, _⟩ => ⟨S4096x5632, .f32⟩
  | .hbm, ⟨43, _⟩ => ⟨S4096x5632, .f32⟩
  | .hbm, ⟨44, _⟩ => ⟨S4096x5632, .f32⟩
  | .hbm, ⟨45, _⟩ => ⟨S4096x5632, .bf16⟩
  | .hbm, ⟨46, _⟩ => ⟨S1x4096x5632, .f32⟩
  | .hbm, ⟨47, _⟩ => ⟨S1x4096x5632, .f32⟩
  | .hbm, ⟨48, _⟩ => ⟨S2x4096x5632, .f32⟩
  | .hbm, ⟨49, _⟩ => ⟨S2x4096x5632, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_v6_2 : Ref sig .tc := ⟨.hbm, 18, rfl⟩
abbrev main_call0_cst_1 : Ref sig .tc := ⟨.hbm, 19, rfl⟩
abbrev main_call0_v6 : Ref sig .tc := ⟨.hbm, 20, rfl⟩
abbrev main_call0_v7 : Ref sig .tc := ⟨.hbm, 21, rfl⟩
abbrev main_v6_1 : Ref sig .tc := ⟨.hbm, 22, rfl⟩
abbrev main_v6_0 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v14 : Ref sig .tc := ⟨.hbm, 34, rfl⟩
abbrev main_call2_v0 : Ref sig .tc := ⟨.hbm, 35, rfl⟩
abbrev main_call2_v1 : Ref sig .tc := ⟨.hbm, 36, rfl⟩
abbrev main_call2_cst : Ref sig .tc := ⟨.hbm, 37, rfl⟩
abbrev main_call2_v2 : Ref sig .tc := ⟨.hbm, 38, rfl⟩
abbrev main_call2_v3 : Ref sig .tc := ⟨.hbm, 39, rfl⟩
abbrev main_call2_cst_0 : Ref sig .tc := ⟨.hbm, 40, rfl⟩
abbrev main_call2_v4 : Ref sig .tc := ⟨.hbm, 41, rfl⟩
abbrev main_call2_v5 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩

abbrev nD : Nat := 1
abbrev τ : Topo := Topo.v7x

variable {F : FTy → Type} [FloatOps F]
-- ==== Kernel7.lean ====
abbrev S4096x2048 : Shape := ⟨2, ![4096, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S1x2048, .f32⟩
  | .hbm, ⟨3, _⟩ => ⟨S4096x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference7Ideal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x2048, .f32⟩
  | .hbm, ⟨14, _⟩ => ⟨S4096x2048, .f32⟩
  | .hbm, ⟨15, _⟩ => ⟨S1x2048, .f32⟩
  | .hbm, ⟨16, _⟩ => ⟨S4096x2048, .f32⟩
  | .hbm, ⟨17, _⟩ => ⟨S4096x2048, .f32⟩
  | .hbm, ⟨18, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel6.lean ====
abbrev S4096x2048 : Shape := ⟨2, ![4096, 2048]⟩
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S2048, .f32⟩
  | .hbm, ⟨4, _⟩ => ⟨S1x2048, .f32⟩
  | .hbm, ⟨5, _⟩ => ⟨S4096x2048, .f32⟩
  | .hbm, ⟨6, _⟩ => ⟨S4096x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference6Ideal.lean ====
abbrev S4096x2048 : Shape := ⟨2, ![4096, 2048]⟩
abbrev S2048x2048 : Shape := ⟨2, ![2048, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 25
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S2048, .f32⟩
  | .hbm, ⟨4, _⟩ => ⟨S4096x2048, .f32⟩
  | .hbm, ⟨5, _⟩ => ⟨S2048x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S1x2048, .f32⟩
  | .hbm, ⟨22, _⟩ => ⟨S4096x2048, .f32⟩
  | .hbm, ⟨23, _⟩ => ⟨S4096x2048, .f32⟩
  | .hbm, ⟨24, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel5.lean ====
abbrev S4096x5120 : Shape := ⟨2, ![4096, 5120]⟩
abbrev S1024 : Shape := ⟨1, ![1024]⟩
abbrev S8x128x128 : Shape := ⟨3, ![8, 128, 128]⟩
abbrev S8x128 : Shape := ⟨2, ![8, 128]⟩
abbrev S3x1024 : Shape := ⟨2, ![3, 1024]⟩
abbrev S2048 : Shape := ⟨1, ![2048]⟩
abbrev S128 : Shape := ⟨1, ![128]⟩
abbrev S1x128 : Shape := ⟨2, ![1, 128]⟩
abbrev S_ : Shape := ⟨0, ![]⟩
abbrev S128x1 : Shape := ⟨2, ![128, 1]⟩
abbrev S128x128 : Shape := ⟨2, ![128, 128]⟩
abbrev S1x128x128 : Shape := ⟨3, ![1, 128, 128]⟩
abbrev S8x128x1 : Shape := ⟨3, ![8, 128, 1]⟩
abbrev S8x1024 : Shape := ⟨2, ![8, 1024]⟩
abbrev S1x1024 : Shape := ⟨2, ![1, 1024]⟩
abbrev S1x2048 : Shape := ⟨2, ![1, 2048]⟩
abbrev S4096x2048 : Shape := ⟨2, ![4096, 2048]⟩
abbrev S16x5120 : Shape := ⟨2, ![16, 5120]⟩
abbrev S256x5120 : Shape := ⟨2, ![256, 5120]⟩
abbrev S256x2048 : Shape := ⟨2, ![256, 2048]⟩
abbrev S256x1024 : Shape := ⟨2, ![256, 1024]⟩
abbrev S256 : Shape := ⟨1, ![256]⟩
abbrev S256x1 : Shape := ⟨2, ![256, 1]⟩
abbrev S16x1024 : Shape := ⟨2, ![16, 1024]⟩
abbrev S272x1024 : Shape := ⟨2, ![272, 1024]⟩

abbrev nBuf : Space → Nat
  | .hbm => 65
  | .vmem => 14
  | .smem => 0
  | _ => 0

abbrev bufTy : (tb : Table) → Fin (tcTables nBuf tb) → BufTy
  | .hbm, ⟨0, _⟩ => ⟨S4096x5120, .bf16⟩
  | .hbm, ⟨1, _⟩ => ⟨S1024, .f32⟩
  | .hbm, ⟨2, _⟩ => ⟨S1024, .f32⟩
  | .hbm, ⟨3, _⟩ => ⟨S8x128x128, .f32⟩
  | .hbm, ⟨4, _⟩ => ⟨S8x128, .f32⟩
  | .hbm, ⟨5, _⟩ => ⟨S3x1024, .f32⟩
  | .hbm, ⟨6, _⟩ => ⟨S2048, .f32⟩
  | .hbm, ⟨7, _⟩ => ⟨S128, .i32⟩
  | .hbm, ⟨8, _⟩ => ⟨S1x128, .i32⟩
  | .hbm, ⟨9, _⟩ => ⟨S_, .i32⟩
  | .hbm, ⟨10, _⟩ => ⟨S_, .i32⟩
  | .hbm, ⟨11, _⟩ => ⟨S1x128, .i32⟩
  | .hbm, ⟨12, _⟩ => ⟨S1x128, .i32⟩
  | .hbm, ⟨13, _⟩ => ⟨S1x128, .i32⟩
  | .hbm, ⟨14, _⟩ => ⟨S_, .i32⟩
  | .hbm, ⟨15, _⟩ => ⟨S1x128, .i32⟩
  | .hbm, ⟨16, _⟩ => ⟨S1x128, .i1⟩
  | .hbm, ⟨17, _⟩ => ⟨S1x128, .i32⟩
  | .hbm, ⟨18, _⟩ => ⟨S1x128, .i32⟩
  | .hbm, ⟨19, _⟩ => ⟨S_, .i32⟩
  | .hbm, ⟨20, _⟩ => ⟨S1x128, .i32⟩
  | .hbm, ⟨21, _⟩ => ⟨S1x128, .i1⟩
  | .hbm, ⟨22, _⟩ => ⟨S1x128, .i1⟩
  | .hbm, ⟨23, _⟩ => ⟨S_, .i32⟩
  | .hbm, ⟨24, _⟩ => ⟨S1x128, .i32⟩
  | .hbm, ⟨25, _⟩ => ⟨S1x128, .i32⟩
  | .hbm, ⟨26, _⟩ => ⟨S1x128, .i32⟩
  | .hbm, ⟨27, _⟩ => ⟨S128x1, .i32⟩
  | .hbm, ⟨28, _⟩ => ⟨S_, .i32⟩
  | .hbm, ⟨29, _⟩ => ⟨S_, .i32⟩
  | .hbm, ⟨30, _⟩ => ⟨S128x1, .i32⟩
  | .hbm, ⟨31, _⟩ => ⟨S128x1, .i32⟩
  | .hbm, ⟨32, _⟩ => ⟨S128x1, .i32⟩
  | .hbm, ⟨33, _⟩ => ⟨S_, .i32⟩
  | .hbm, ⟨34, _⟩ => ⟨S128x1, .i32⟩
  | .hbm, ⟨35, _⟩ => ⟨S128x1, .i1⟩
  | .hbm, ⟨36, _⟩ => ⟨S128x1, .i32⟩
  | .hbm, ⟨37, _⟩ => ⟨S128x1, .i32⟩
  | .hbm, ⟨38, _⟩ => ⟨S_, .i32⟩
  | .hbm, ⟨39, _⟩ => ⟨S128x1, .i32⟩
  | .hbm, ⟨40, _⟩ => ⟨S128x1, .i1⟩
  | .hbm, ⟨41, _⟩ => ⟨S128x1, .i1⟩
  | .hbm, ⟨42, _⟩ => ⟨S_, .i32⟩
  | .hbm, ⟨43, _⟩ => ⟨S128x1, .i32⟩
  | .hbm, ⟨44, _⟩ => ⟨S128x1, .i32⟩
  | .hbm, ⟨45, _⟩ => ⟨S128x1, .i32⟩
  | .hbm, ⟨46, _⟩ => ⟨S128x128, .i32⟩
  | .hbm, ⟨47, _⟩ => ⟨S128x128, .i32⟩
  | .hbm, ⟨48, _⟩ => ⟨S128x128, .i1⟩
  | .hbm, ⟨49, _⟩ => ⟨S1x128x128, .i1⟩
  | .hbm, ⟨50, _⟩ => ⟨S_, .f32⟩
  | .hbm, ⟨51, _⟩ => ⟨S_, .f32⟩
  | .hbm, ⟨52, _⟩ => ⟨S8x128x128, .i1⟩
  | .hbm, ⟨53, _⟩ => ⟨S8x128x128, .f32⟩
  | .hbm, ⟨54, _⟩ => ⟨S8x128x128, .f32⟩
  | .hbm, ⟨55, _⟩ => ⟨S8x128x128, .bf16⟩
  | .hbm, ⟨56, _⟩ => ⟨S8x128x1, .f32⟩
  | .hbm, ⟨57, _⟩ => ⟨S8x128x128, .f32⟩
  | .hbm, ⟨58, _⟩ => ⟨S_, .i32⟩
  | .hbm, ⟨59, _⟩ => ⟨S_, .f32⟩
  | .hbm, ⟨60, _⟩ => ⟨S8x1024, .f32⟩
  | .hbm, ⟨61, _⟩ => ⟨S1x1024, .f32⟩
  | .hbm, ⟨62, _⟩ => ⟨S1x1024, .f32⟩
  | .hbm, ⟨63, _⟩ => ⟨S1x2048, .f32⟩
  | .hbm, ⟨64, _⟩ => ⟨S4096x2048, .bf16⟩
  | .local _ .vmem, ⟨0, _⟩ => ⟨S16x5120, .bf16⟩
  | .local _ .vmem, ⟨1, _⟩ => ⟨S16x5120, .bf16⟩
  | .local _ .vmem, ⟨2, _⟩ => ⟨S256x5120, .bf16⟩
  | .local _ .vmem, ⟨3, _⟩ => ⟨S256x5120, .bf16⟩
  | .local _ .vmem, ⟨4, _⟩ => ⟨S1x1024, .f32⟩
  | .local _ .vmem, ⟨5, _⟩ => ⟨S1x1024, .f32⟩
  | .local _ .vmem, ⟨6, _⟩ => ⟨S8x128x128, .bf16⟩
  | .local _ .vmem, ⟨7, _⟩ => ⟨S8x128x128, .f32⟩
  | .local _ .vmem, ⟨8, _⟩ => ⟨S8x1024, .f32⟩
  | .local _ .vmem, ⟨9, _⟩ => ⟨S1x2048, .f32⟩
  | .local _ .vmem, ⟨10, _⟩ => ⟨S256x2048, .bf16⟩
  | .local _ .vmem, ⟨11, _⟩ => ⟨S256x2048, .bf16⟩
  | .local _ .vmem, ⟨12, _⟩ => ⟨S256x1024, .bf16⟩
  | .local _ .vmem, ⟨13, _⟩ => ⟨S256x1024, .f32⟩
  | _, _ => ⟨S4096x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v2 : Ref sig .tc := ⟨.hbm, 26, rfl⟩
abbrev main_v3 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v4 : Ref sig .tc := ⟨.hbm, 45, rfl⟩
abbrev main_v5 : Ref sig .tc := ⟨.hbm, 46, rfl⟩
abbrev main_v6 : Ref sig .tc := ⟨.hbm, 47, rfl⟩
abbrev main_v7 : Ref sig .tc := ⟨.hbm, 48, rfl⟩
abbrev main_v8 : Ref sig .tc := ⟨.hbm, 49, rfl⟩
abbrev main_cst : Ref sig .tc := ⟨.hbm, 50, rfl⟩
abbrev main_call2_v0 : Ref sig .tc := ⟨.hbm, 51, rfl⟩
abbrev main_call2_v1 : Ref sig .tc := ⟨.hbm, 52, rfl⟩
abbrev main_call2_v2 : Ref sig .tc := ⟨.hbm, 53, rfl⟩
abbrev main_v9 : Ref sig .tc := ⟨.hbm, 54, rfl⟩
abbrev main_v10 : Ref sig .tc := ⟨.hbm, 55, rfl⟩
abbrev main_v11 : Ref sig .tc := ⟨.hbm, 56, rfl⟩
abbrev main_v12 : Ref sig .tc := ⟨.hbm, 57, rfl⟩
abbrev main_c_1 : Ref sig .tc := ⟨.hbm, 58, rfl⟩
abbrev main_call3_v0 : Ref sig .tc := ⟨.hbm, 59, rfl⟩
abbrev main_v13 : Ref sig .tc := ⟨.hbm, 60, rfl⟩
abbrev main_v14 : Ref sig .tc := ⟨.hbm, 61, rfl⟩
abbrev main_v15 : Ref sig .tc := ⟨.hbm, 62, rfl⟩
abbrev main_v16 : Ref sig .tc := ⟨.hbm, 63, rfl⟩
abbrev main_v17 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x5120 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel5Ideal.lean ====
variable {F : FTy → Type} [FloatOps F] [Named F]
def κ : String → Option EReal := fun
  | "gelu_ck" => some ((80338380498831 / 2251799813685248 : ℝ) : EReal)
  | _ => none
-- ==== Reference5Ideal.lean ====
abbrev S4096x5120 : Shape := ⟨2, ![4096, 5120]⟩
abbrev S1024 : Shape := ⟨1, ![1024]⟩
abbrev S8x128x128 : Shape := ⟨3, ![8, 128, 128]⟩
abbrev S8x128 : Shape := ⟨2, ![8, 128]⟩
abbrev S3x1024 : Shape := ⟨2, ![3, 1024]⟩
abbrev S2048 : Shape := ⟨1, ![2048]⟩
abbrev S4096x2048 : Shape := ⟨2, ![4096, 2048]⟩
abbrev S_ : Shape := ⟨0, ![]⟩
abbrev S4096x1024 : Shape := ⟨2, ![4096, 1024]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S4096 : Shape := ⟨1, ![4096]⟩
abbrev S4096x1 : Shape := ⟨2, ![4096, 1]⟩
abbrev S1x1024 : Shape := ⟨2, ![1, 1024]⟩
abbrev S32x128x8x128 : Shape := ⟨4, ![32, 128, 8, 128]⟩
abbrev S1x128x128 : Shape := ⟨3, ![1, 128, 128]⟩
abbrev S8x32x128x128 : Shape := ⟨4, ![8, 32, 128, 128]⟩
abbrev S128x8 : Shape := ⟨2, ![128, 8]⟩
abbrev S1x128x8x1 : Shape := ⟨4, ![1, 128, 8, 1]⟩
abbrev S2x1024 : Shape := ⟨2, ![2, 1024]⟩
abbrev S4098x1024 : Shape := ⟨2, ![4098, 1024]⟩

abbrev nBuf : Space → Nat
  | .hbm => 178
  | .vmem => 0
  | .smem => 0
  | _ => 0

abbrev hbmTy0_0 (i : Nat) : BufTy := match i % 128 with
  | 0 => ⟨S4096x5120, .bf16⟩
  | 1 => ⟨S1024, .f32⟩
  | 2 => ⟨S1024, .f32⟩
  | 3 => ⟨S8x128x128, .f32⟩
  | 4 => ⟨S8x128, .f32⟩
  | 5 => ⟨S3x1024, .f32⟩
  | 6 => ⟨S2048, .f32⟩
  | 7 => ⟨S4096x5120, .f32⟩
  | 8 => ⟨S4096x2048, .f32⟩
  | 9 => ⟨S4096x2048, .f32⟩
  | 10 => ⟨S4096x2048, .f32⟩
  | 11 => ⟨S_, .f32⟩
  | 12 => ⟨S4096x2048, .f32⟩
  | 13 => ⟨S4096x2048, .f32⟩
  | 14 => ⟨S4096x2048, .f32⟩
  | 15 => ⟨S_, .f32⟩
  | 16 => ⟨S4096x2048, .f32⟩
  | 17 => ⟨S4096x2048, .f32⟩
  | 18 => ⟨S4096x2048, .f32⟩
  | 19 => ⟨S_, .f32⟩
  | 20 => ⟨S4096x2048, .f32⟩
  | 21 => ⟨S4096x2048, .f32⟩
  | 22 => ⟨S_, .f32⟩
  | 23 => ⟨S4096x2048, .f32⟩
  | 24 => ⟨S4096x2048, .f32⟩
  | 25 => ⟨S4096x2048, .f32⟩
  | 26 => ⟨S4096x1024, .f32⟩
  | 27 => ⟨S4096x1024, .f32⟩
  | 28 => ⟨S4096x1024, .f32⟩
  | 29 => ⟨S4096x1024, .f32⟩
  | 30 => ⟨S4096x1024, .f32⟩
  | 31 => ⟨S128, .i32⟩
  | 32 => ⟨S1x128, .i32⟩
  | 33 => ⟨S_, .i32⟩
  | 34 => ⟨S_, .i32⟩
  | 35 => ⟨S1x128, .i32⟩
  | 36 => ⟨S1x128, .i32⟩
  | 37 => ⟨S1x128, .i32⟩
  | 38 => ⟨S_, .i32⟩
  | 39 => ⟨S1x128, .i32⟩
  | 40 => ⟨S1x128, .i1⟩
  | 41 => ⟨S1x128, .i32⟩
  | 42 => ⟨S1x128, .i32⟩
  | 43 => ⟨S_, .i32⟩
  | 44 => ⟨S1x128, .i32⟩
  | 45 => ⟨S1x128, .i1⟩
  | 46 => ⟨S1x128, .i1⟩
  | 47 => ⟨S_, .i32⟩
  | 48 => ⟨S1x128, .i32⟩
  | 49 => ⟨S1x128, .i32⟩
  | 50 => ⟨S1x128, .i32⟩
  | 51 => ⟨S128x1, .i32⟩
  | 52 => ⟨S_, .i32⟩
  | 53 => ⟨S_, .i32⟩
  | 54 => ⟨S128x1, .i32⟩
  | 55 => ⟨S128x1, .i32⟩
  | 56 => ⟨S128x1, .i32⟩
  | 57 => ⟨S_, .i32⟩
  | 58 => ⟨S128x1, .i32⟩
  | 59 => ⟨S128x1, .i1⟩
  | 60 => ⟨S128x1, .i32⟩
  | 61 => ⟨S128x1, .i32⟩
  | 62 => ⟨S_, .i32⟩
  | 63 => ⟨S128x1, .i32⟩
  | 64 => ⟨S128x1, .i1⟩
  | 65 => ⟨S128x1, .i1⟩
  | 66 => ⟨S_, .i32⟩
  | 67 => ⟨S128x1, .i32⟩
  | 68 => ⟨S128x1, .i32⟩
  | 69 => ⟨S128x1, .i32⟩
  | 70 => ⟨S128x128, .i32⟩
  | 71 => ⟨S128x128, .i32⟩
  | 72 => ⟨S128x128, .i1⟩
  | 73 => ⟨S_, .f32⟩
  | 74 => ⟨S4096, .f32⟩
  | 75 => ⟨S4096x1, .f32⟩
  | 76 => ⟨S_, .f32⟩
  | 77 => ⟨S4096x1, .f32⟩
  | 78 => ⟨S4096x1, .f32⟩
  | 79 => ⟨S4096x1024, .f32⟩
  | 80 => ⟨S4096x1024, .f32⟩
  | 81 => ⟨S4096x1024, .f32⟩
  | 82 => ⟨S_, .f32⟩
  | 83 => ⟨S4096, .f32⟩
  | 84 => ⟨S4096x1, .f32⟩
  | 85 => ⟨S_, .f32⟩
  | 86 => ⟨S4096x1, .f32⟩
  | 87 => ⟨S4096x1, .f32⟩
  | 88 => ⟨S_, .f32⟩
  | 89 => ⟨S4096x1, .f32⟩
  | 90 => ⟨S4096x1, .f32⟩
  | 91 => ⟨S4096x1, .f32⟩
  | 92 => ⟨S4096x1024, .f32⟩
  | 93 => ⟨S4096x1024, .f32⟩
  | 94 => ⟨S1x1024, .f32⟩
  | 95 => ⟨S4096x1024, .f32⟩
  | 96 => ⟨S4096x1024, .f32⟩
  | 97 => ⟨S1x1024, .f32⟩
  | 98 => ⟨S4096x1024, .f32⟩
  | 99 => ⟨S4096x1024, .f32⟩
  | 100 => ⟨S32x128x8x128, .f32⟩
  | 101 => ⟨S1x128x128, .i1⟩
  | 102 => ⟨S_, .f32⟩
  | 103 => ⟨S8x128x128, .i1⟩
  | 104 => ⟨S8x128x128, .f32⟩
  | 105 => ⟨S8x128x128, .f32⟩
  | 106 => ⟨S8x32x128x128, .f32⟩
  | 107 => ⟨S32x128x8x128, .f32⟩
  | 108 => ⟨S128x8, .f32⟩
  | 109 => ⟨S1x128x8x1, .f32⟩
  | 110 => ⟨S32x128x8x128, .f32⟩
  | 111 => ⟨S32x128x8x128, .f32⟩
  | 112 => ⟨S4096x1024, .f32⟩
  | 113 => ⟨S4096x1024, .f32⟩
  | 114 => ⟨S4096x1024, .f32⟩
  | 115 => ⟨S_, .f32⟩
  | 116 => ⟨S2x1024, .f32⟩
  | 117 => ⟨S4098x1024, .f32⟩
  | 118 => ⟨S4096x1024, .f32⟩
  | 119 => ⟨S1x1024, .f32⟩
  | 120 => ⟨S1024, .f32⟩
  | 121 => ⟨S1x1024, .f32⟩
  | 122 => ⟨S4096x1024, .f32⟩
  | 123 => ⟨S4096x1024, .f32⟩
  | 124 => ⟨S_, .f32⟩
  | 125 => ⟨S4096x1024, .f32⟩
  | 126 => ⟨S4096x1024, .f32⟩
  | 127 => ⟨S4096x1024, .f32⟩
  | _ => ⟨S4096x5120, .bf16⟩

abbrev hbmTy0_1 (i : Nat) : BufTy := match i % 128 with
  | 0 => ⟨S1x1024, .f32⟩
  | 1 => ⟨S1024, .f32⟩
  | 2 => ⟨S1x1024, .f32⟩
  | 3 => ⟨S4096x1024, .f32⟩
  | 4 => ⟨S4096x1024, .f32⟩
  | 5 => ⟨S4096x1024, .f32⟩
  | 6 => ⟨S4096x1024, .f32⟩
  | 7 => ⟨S1x1024, .f32⟩
  | 8 => ⟨S1024, .f32⟩
  | 9 => ⟨S1x1024, .f32⟩
  | 10 => ⟨S4096x1024, .f32⟩
  | 11 => ⟨S4096x1024, .f32⟩
  | 12 => ⟨S4096x1024, .f32⟩
  | 13 => ⟨S4096x1024, .f32⟩
  | 14 => ⟨S1024, .f32⟩
  | 15 => ⟨S4096x1024, .f32⟩
  | 16 => ⟨S_, .f32⟩
  | 17 => ⟨S4096, .f32⟩
  | 18 => ⟨S4096x1, .f32⟩
  | 19 => ⟨S_, .f32⟩
  | 20 => ⟨S4096x1, .f32⟩
  | 21 => ⟨S4096x1, .f32⟩
  | 22 => ⟨S_, .f32⟩
  | 23 => ⟨S4096x1, .f32⟩
  | 24 => ⟨S4096x1, .f32⟩
  | 25 => ⟨S4096x1, .f32⟩
  | 26 => ⟨S4096x1024, .f32⟩
  | 27 => ⟨S4096x1024, .f32⟩
  | 28 => ⟨S1x1024, .f32⟩
  | 29 => ⟨S4096x1024, .f32⟩
  | 30 => ⟨S4096x1024, .f32⟩
  | 31 => ⟨S1024, .f32⟩
  | 32 => ⟨S4096x1024, .f32⟩
  | 33 => ⟨S_, .f32⟩
  | 34 => ⟨S4096, .f32⟩
  | 35 => ⟨S4096x1, .f32⟩
  | 36 => ⟨S_, .f32⟩
  | 37 => ⟨S4096x1, .f32⟩
  | 38 => ⟨S4096x1, .f32⟩
  | 39 => ⟨S_, .f32⟩
  | 40 => ⟨S4096x1, .f32⟩
  | 41 => ⟨S4096x1, .f32⟩
  | 42 => ⟨S4096x1, .f32⟩
  | 43 => ⟨S4096x1024, .f32⟩
  | 44 => ⟨S4096x1024, .f32⟩
  | 45 => ⟨S1x1024, .f32⟩
  | 46 => ⟨S4096x1024, .f32⟩
  | 47 => ⟨S4096x1024, .f32⟩
  | 48 => ⟨S4096x2048, .f32⟩
  | 49 => ⟨S4096x2048, .bf16⟩
  | _ => ⟨S4096x5120, .bf16⟩

abbrev hbmTy (i : Nat) : BufTy := match i / 128 with
  | 0 => hbmTy0_0 i
  | 1 => hbmTy0_1 i
  | _ => ⟨S4096x5120, .bf16⟩

abbrev bufTy : (tb : Table) → Fin (tcTables nBuf tb) → BufTy
  | .hbm, ⟨i, _⟩ => hbmTy i
  | _, _ => ⟨S4096x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_call0_v5 : Ref sig .tc := ⟨.hbm, 39, rfl⟩
abbrev main_call0_v6 : Ref sig .tc := ⟨.hbm, 40, rfl⟩
abbrev main_call0_v7 : Ref sig .tc := ⟨.hbm, 41, rfl⟩
abbrev main_call0_v8 : Ref sig .tc := ⟨.hbm, 42, rfl⟩
abbrev main_call0_c : Ref sig .tc := ⟨.hbm, 43, rfl⟩
abbrev main_call0_v9 : Ref sig .tc := ⟨.hbm, 44, rfl⟩
abbrev main_call0_v10 : Ref sig .tc := ⟨.hbm, 45, rfl⟩
abbrev main_call0_v11 : Ref sig .tc := ⟨.hbm, 46, rfl⟩
abbrev main_call0_c_0 : Ref sig .tc := ⟨.hbm, 47, rfl⟩
abbrev main_call0_v12 : Ref sig .tc := ⟨.hbm, 48, rfl⟩
abbrev main_call0_v13 : Ref sig .tc := ⟨.hbm, 49, rfl⟩
abbrev main_v22 : Ref sig .tc := ⟨.hbm, 50, rfl⟩
abbrev main_v23 : Ref sig .tc := ⟨.hbm, 51, rfl⟩
abbrev main_c_3 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_call1_v5 : Ref sig .tc := ⟨.hbm, 58, rfl⟩
abbrev main_call1_v6 : Ref sig .tc := ⟨.hbm, 59, rfl⟩
abbrev main_call1_v7 : Ref sig .tc := ⟨.hbm, 60, rfl⟩
abbrev main_call1_v8 : Ref sig .tc := ⟨.hbm, 61, rfl⟩
abbrev main_call1_c : Ref sig .tc := ⟨.hbm, 62, rfl⟩
abbrev main_call1_v9 : Ref sig .tc := ⟨.hbm, 63, rfl⟩
abbrev main_call1_v10 : Ref sig .tc := ⟨.hbm, 64, rfl⟩
abbrev main_call1_v11 : Ref sig .tc := ⟨.hbm, 65, rfl⟩
abbrev main_call1_c_0 : Ref sig .tc := ⟨.hbm, 66, rfl⟩
abbrev main_call1_v12 : Ref sig .tc := ⟨.hbm, 67, rfl⟩
abbrev main_call1_v13 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_cst_4 : Ref sig .tc := ⟨.hbm, 73, rfl⟩
abbrev main_v28 : Ref sig .tc := ⟨.hbm, 74, rfl⟩
abbrev main_v29 : Ref sig .tc := ⟨.hbm, 75, rfl⟩
abbrev main_cst_5 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev main_v34 : Ref sig .tc := ⟨.hbm, 81, rfl⟩
abbrev main_cst_6 : Ref sig .tc := ⟨.hbm, 82, rfl⟩
abbrev main_v35 : Ref sig .tc := ⟨.hbm, 83, rfl⟩
abbrev main_v36 : Ref sig .tc := ⟨.hbm, 84, rfl⟩
abbrev main_cst_7 : Ref sig .tc := ⟨.hbm, 85, rfl⟩
abbrev main_v37 : Ref sig .tc := ⟨.hbm, 86, rfl⟩
abbrev main_v38 : Ref sig .tc := ⟨.hbm, 87, rfl⟩
abbrev main_cst_8 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_cst_9 : Ref sig .tc := ⟨.hbm, 102, rfl⟩
abbrev main_call2_v0 : Ref sig .tc := ⟨.hbm, 103, rfl⟩
abbrev main_call2_v1 : Ref sig .tc := ⟨.hbm, 104, rfl⟩
abbrev main_v52 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_v56 : Ref sig .tc := ⟨.hbm, 109, rfl⟩
abbrev main_v57 : Ref sig .tc := ⟨.hbm, 110, rfl⟩
abbrev main_v58 : Ref sig .tc := ⟨.hbm, 111, rfl⟩
abbrev main_v59 : Ref sig .tc := ⟨.hbm, 112, rfl⟩
abbrev main_v60 : Ref sig .tc := ⟨.hbm, 113, rfl⟩
abbrev main_v61 : Ref sig .tc := ⟨.hbm, 114, rfl⟩
abbrev main_cst_10 : Ref sig .tc := ⟨.hbm, 115, rfl⟩
abbrev main_v62 : Ref sig .tc := ⟨.hbm, 116, rfl⟩
abbrev main_v63 : Ref sig .tc := ⟨.hbm, 117, rfl⟩
abbrev main_v64 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_cst_11 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_v83 : Ref sig .tc := ⟨.hbm, 138, rfl⟩
abbrev main_v84 : Ref sig .tc := ⟨.hbm, 139, rfl⟩
abbrev main_v85 : Ref sig .tc := ⟨.hbm, 140, rfl⟩
abbrev main_v86 : Ref sig .tc := ⟨.hbm, 141, rfl⟩
abbrev main_v87 : Ref sig .tc := ⟨.hbm, 142, rfl⟩
abbrev main_v88 : Ref sig .tc := ⟨.hbm, 143, rfl⟩
abbrev main_cst_12 : Ref sig .tc := ⟨.hbm, 144, rfl⟩
abbrev main_v89 : Ref sig .tc := ⟨.hbm, 145, rfl⟩
abbrev main_v90 : Ref sig .tc := ⟨.hbm, 146, rfl⟩
abbrev main_cst_13 : Ref sig .tc := ⟨.hbm, 147, rfl⟩
abbrev main_v91 : Ref sig .tc := ⟨.hbm, 148, rfl⟩
abbrev main_v92 : Ref sig .tc := ⟨.hbm, 149, rfl⟩
abbrev main_cst_14 : Ref sig .tc := ⟨.hbm, 150, rfl⟩
abbrev main_v93 : Ref sig .tc := ⟨.hbm, 151, rfl⟩
abbrev main_v94 : Ref sig .tc := ⟨.hbm, 152, rfl⟩
abbrev main_v95 : Ref sig .tc := ⟨.hbm, 153, rfl⟩
abbrev main_v96 : Ref sig .tc := ⟨.hbm, 154, rfl⟩
abbrev main_v97 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩
abbrev main_v101 : Ref sig .tc := ⟨.hbm, 159, rfl⟩
abbrev main_v102 : Ref sig .tc := ⟨.hbm, 160, rfl⟩
abbrev main_cst_15 : Ref sig .tc := ⟨.hbm, 161, rfl⟩
abbrev main_v103 : Ref sig .tc := ⟨.hbm, 162, rfl⟩
abbrev main_v104 : Ref sig .tc := ⟨.hbm, 163, rfl⟩
abbrev main_cst_16 : Ref sig .tc := ⟨.hbm, 164, rfl⟩
abbrev main_v105 : Ref sig .tc := ⟨.hbm, 165, rfl⟩
abbrev main_v106 : Ref sig .tc := ⟨.hbm, 166, rfl⟩
abbrev main_cst_17 : Ref sig .tc := ⟨.hbm, 167, rfl⟩
abbrev main_v107 : Ref sig .tc := ⟨.hbm, 168, rfl⟩
abbrev main_v108 : Ref sig .tc := ⟨.hbm, 169, rfl⟩
abbrev main_v109 : Ref sig .tc := ⟨.hbm, 170, rfl⟩
abbrev main_v110 : Ref sig .tc := ⟨.hbm, 171, rfl⟩
abbrev main_v111 : Ref sig .tc := ⟨.hbm, 172, rfl⟩
abbrev main_v112 : Ref sig .tc := ⟨.hbm, 173, rfl⟩
abbrev main_v113 : Ref sig .tc := ⟨.hbm, 174, rfl⟩
abbrev main_v114 : Ref sig .tc := ⟨.hbm, 175, rfl⟩
abbrev main_v115 : Ref sig .tc := ⟨.hbm, 176, rfl⟩
abbrev main_v116 : Ref sig .tc := ⟨.hbm, 177, rfl⟩

abbrev nD : Nat := 1
abbrev τ : Topo := Topo.v7x

variable {F : FTy → Type} [FloatOps F]
-- ==== Kernel8.lean ====
abbrev S4096x5632 : Shape := ⟨2, ![4096, 5632]⟩
abbrev S5632x2048 : Shape := ⟨2, ![5632, 2048]⟩
abbrev S4096x2048 : Shape := ⟨2, ![4096, 2048]⟩
abbrev S1024x5632 : Shape := ⟨2, ![1024, 5632]⟩
abbrev S5632x512 : Shape := ⟨2, ![5632, 512]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .hbm, ⟨3, _⟩ => ⟨S4096x2048, .f32⟩
  | .local _ .vmem, ⟨0, _⟩ => ⟨S1024x5632, .bf16⟩
  | .local _ .vmem, ⟨1, _⟩ => ⟨S1024x5632, .bf16⟩
  | .local _ .vmem, ⟨2, _⟩ => ⟨S5632x512, .bf16⟩
  | .local _ .vmem, ⟨3, _⟩ => ⟨S5632x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference8Ideal.lean ====
abbrev S4096x5632 : Shape := ⟨2, ![4096, 5632]⟩
abbrev S5632x2048 : Shape := ⟨2, ![5632, 2048]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .hbm, ⟨3, _⟩ => ⟨S4096x5632, .f32⟩
  | .hbm, ⟨4, _⟩ => ⟨S5632x2048, .f32⟩
  | .hbm, ⟨5, _⟩ => ⟨S4096x2048, .f32⟩
  | .hbm, ⟨6, _⟩ => ⟨S4096x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel9.lean ====
abbrev S4096x5120 : Shape := ⟨2, ![4096, 5120]⟩
abbrev S2048x5120 : Shape := ⟨2, ![2048, 5120]⟩
abbrev S4096x2048 : Shape := ⟨2, ![4096, 2048]⟩
abbrev S1024x5120 : Shape := ⟨2, ![1024, 5120]⟩
abbrev S512x5120 : Shape := ⟨2, ![512, 5120]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x5120, .bf16⟩
  | .hbm, ⟨1, _⟩ => ⟨S2048x5120, .bf16⟩
  | .hbm, ⟨2, _⟩ => ⟨S4096x2048, .bf16⟩
  | .local _ .vmem, ⟨0, _⟩ => ⟨S1024x5120, .bf16⟩
  | .local _ .vmem, ⟨1, _⟩ => ⟨S1024x5120, .bf16⟩
  | .local _ .vmem, ⟨2, _⟩ => ⟨S512x5120, .bf16⟩
  | .local _ .vmem, ⟨3, _⟩ => ⟨S512x5120, .bf16⟩
  | .local _ .vmem, ⟨4, _⟩ => ⟨S1024x512, .bf16⟩
  | .local _ .vmem, ⟨5, _⟩ => ⟨S1024x512, .bf16⟩
  | _, _ => ⟨S4096x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x5120 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x5120 : Shape := ⟨2, ![4096, 5120]⟩
abbrev S2048x5120 : Shape := ⟨2, ![2048, 5120]⟩
abbrev S4096x2048 : Shape := ⟨2, ![4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x5120, .bf16⟩
  | .hbm, ⟨1, _⟩ => ⟨S2048x5120, .bf16⟩
  | .hbm, ⟨2, _⟩ => ⟨S4096x5120, .f32⟩
  | .hbm, ⟨3, _⟩ => ⟨S2048x5120, .f32⟩
  | .hbm, ⟨4, _⟩ => ⟨S4096x2048, .f32⟩
  | .hbm, ⟨5, _⟩ => ⟨S4096x2048, .bf16⟩
  | _, _ => ⟨S4096x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel10.lean ====
abbrev S4096x2048 : Shape := ⟨2, ![4096, 2048]⟩
abbrev S4096x5632 : Shape := ⟨2, ![4096, 5632]⟩
abbrev S1x4096x5632 : Shape := ⟨3, ![1, 4096, 5632]⟩
abbrev S2x4096x5632 : Shape := ⟨3, ![2, 4096, 5632]⟩
abbrev S2048x11264 : Shape := ⟨2, ![2048, 11264]⟩
abbrev S4096x1024 : Shape := ⟨2, ![4096, 1024]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 7
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x5632, .bf16⟩
  | .hbm, ⟨2, _⟩ => ⟨S4096x5632, .bf16⟩
  | .hbm, ⟨3, _⟩ => ⟨S1x4096x5632, .bf16⟩
  | .hbm, ⟨4, _⟩ => ⟨S1x4096x5632, .bf16⟩
  | .hbm, ⟨5, _⟩ => ⟨S2x4096x5632, .bf16⟩
  | .hbm, ⟨6, _⟩ => ⟨S2048x11264, .bf16⟩
  | .local _ .vmem, ⟨0, _⟩ => ⟨S4096x1024, .bf16⟩
  | .local _ .vmem, ⟨1, _⟩ => ⟨S4096x1024, .bf16⟩
  | .local _ .vmem, ⟨2, _⟩ => ⟨S1x4096x512, .bf16⟩
  | .local _ .vmem, ⟨3, _⟩ => ⟨S1x4096x512, .bf16⟩
  | .local _ .vmem, ⟨4, _⟩ => ⟨S1024x512, .bf16⟩
  | .local _ .vmem, ⟨5, _⟩ => ⟨S1024x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 22], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.divsi arg1 c11_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c11_i32 c0_i32_1
  let v7 : BitVec 32 := Scalar.extui v6
  let c0_i32_2 : BitVec 32 := 0#32
  let v8 : BitVec 1 := Scalar.cmpi .slt c11_i32 c0_i32_2
  let v9 : BitVec 32 := Scalar.extui v8
  let v10 : BitVec 32 := Scalar.subi v7 v9
  let v11 : BitVec 1 := Scalar.cmpi .ne v5 v10
  let v12 : BitVec 32 := Scalar.remsi arg1 c11_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c11_i32_4 : BitVec 32 := 11#32
  let c0_i32_5 : BitVec 32 := 0#32
  let v17 : BitVec 1 := Scalar.cmpi .eq c11_i32_4 c0_i32_5
  let c1_i32_6 : BitVec 32 := 1#32
  let v18 : BitVec 32 := Scalar.select v17 c1_i32_6 c11_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference10Ideal.lean ====
abbrev S4096x2048 : Shape := ⟨2, ![4096, 2048]⟩
abbrev S4096x5632 : Shape := ⟨2, ![4096, 5632]⟩
abbrev S2048x5632 : Shape := ⟨2, ![2048, 5632]⟩
abbrev S2048x11264 : Shape := ⟨2, ![2048, 11264]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x5632, .bf16⟩
  | .hbm, ⟨2, _⟩ => ⟨S4096x5632, .bf16⟩
  | .hbm, ⟨3, _⟩ => ⟨S4096x2048, .f32⟩
  | .hbm, ⟨4, _⟩ => ⟨S4096x5632, .f32⟩
  | .hbm, ⟨5, _⟩ => ⟨S2048x5632, .f32⟩
  | .hbm, ⟨6, _⟩ => ⟨S2048x5632, .bf16⟩
  | .hbm, ⟨7, _⟩ => ⟨S4096x2048, .f32⟩
  | .hbm, ⟨8, _⟩ => ⟨S4096x5632, .f32⟩
  | .hbm, ⟨9, _⟩ => ⟨S2048x5632, .f32⟩
  | .hbm, ⟨10, _⟩ => ⟨S2048x5632, .bf16⟩
  | .hbm, ⟨11, _⟩ => ⟨S2048x11264, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel11.lean ====
abbrev S4096x5632 : Shape := ⟨2, ![4096, 5632]⟩
abbrev S2048x5632 : Shape := ⟨2, ![2048, 5632]⟩
abbrev S1x4096x5632 : Shape := ⟨3, ![1, 4096, 5632]⟩
abbrev S2x4096x5632 : Shape := ⟨3, ![2, 4096, 5632]⟩
abbrev S2048x11264 : Shape := ⟨2, ![2048, 11264]⟩
abbrev S4096x2048 : Shape := ⟨2, ![4096, 2048]⟩
abbrev S1x1024x2816 : Shape := ⟨3, ![1, 1024, 2816]⟩
abbrev S1024x2816 : Shape := ⟨2, ![1024, 2816]⟩
abbrev S1024x1024 : Shape := ⟨2, ![1024, 1024]⟩

abbrev nBuf : Space → Nat
  | .hbm => 9
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S4096x5632, .bf16⟩
  | .hbm, ⟨2, _⟩ => ⟨S2048x5632, .bf16⟩
  | .hbm, ⟨3, _⟩ => ⟨S2048x5632, .bf16⟩
  | .hbm, ⟨4, _⟩ => ⟨S1x4096x5632, .bf16⟩
  | .hbm, ⟨5, _⟩ => ⟨S1x4096x5632, .bf16⟩
  | .hbm, ⟨6, _⟩ => ⟨S2x4096x5632, .bf16⟩
  | .hbm, ⟨7, _⟩ => ⟨S2048x11264, .bf16⟩
  | .hbm, ⟨8, _⟩ => ⟨S4096x2048, .bf16⟩
  | .local _ .vmem, ⟨0, _⟩ => ⟨S1x1024x2816, .bf16⟩
  | .local _ .vmem, ⟨1, _⟩ => ⟨S1x1024x2816, .bf16⟩
  | .local _ .vmem, ⟨2, _⟩ => ⟨S1024x2816, .bf16⟩
  | .local _ .vmem, ⟨3, _⟩ => ⟨S1024x2816, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32_7 : BitVec 32 := 3#32
  let v13 : BitVec 1 := Scalar.cmpi .eq arg2 c3_i32_7
  let v14 : BitVec 32 := Scalar.extui v13
  let c0_i32_8 : BitVec 32 := 0#32
  let v15 : BitVec 1 := Scalar.cmpi .ne v14 c0_i32_8
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4096x5632 : Shape := ⟨2, ![4096, 5632]⟩
abbrev S2048x5632 : Shape := ⟨2, ![2048, 5632]⟩
abbrev S4096x2048 : Shape := ⟨2, ![4096, 2048]⟩

abbrev nBuf : Space → Nat
  | .hbm => 12
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x5632, .bf16⟩
  | .hbm, ⟨2, _⟩ => ⟨S2048x5632, .bf16⟩
  | .hbm, ⟨3, _⟩ => ⟨S2048x5632, .bf16⟩
  | .hbm, ⟨4, _⟩ => ⟨S4096x5632, .f32⟩
  | .hbm, ⟨5, _⟩ => ⟨S2048x5632, .f32⟩
  | .hbm, ⟨6, _⟩ => ⟨S4096x2048, .f32⟩
  | .hbm, ⟨7, _⟩ => ⟨S4096x5632, .f32⟩
  | .hbm, ⟨8, _⟩ => ⟨S2048x5632, .f32⟩
  | .hbm, ⟨9, _⟩ => ⟨S4096x2048, .f32⟩
  | .hbm, ⟨10, _⟩ => ⟨S4096x2048, .f32⟩
  | .hbm, ⟨11, _⟩ => ⟨S4096x2048, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel12.lean ====
abbrev S2x2048x1408 : Shape := ⟨3, ![2, 2048, 1408]⟩
abbrev S2048x1408 : Shape := ⟨2, ![2048, 1408]⟩
abbrev S1x256x1408 : Shape := ⟨3, ![1, 256, 1408]⟩
abbrev S256x1408 : Shape := ⟨2, ![256, 1408]⟩

abbrev nBuf : Space → Nat
  | .hbm => 12
  | .vmem => 16
  | .smem => 0
  | _ => 0

abbrev bufTy : (tb : Table) → Fin (tcTables nBuf tb) → BufTy
  | .hbm, ⟨0, _⟩ => ⟨S2x2048x1408, .f32⟩
  | .hbm, ⟨1, _⟩ => ⟨S2048x1408, .f32⟩
  | .hbm, ⟨2, _⟩ => ⟨S2x2048x1408, .f32⟩
  | .hbm, ⟨3, _⟩ => ⟨S2x2048x1408, .f32⟩
  | .hbm, ⟨4, _⟩ => ⟨S2x2048x1408, .f32⟩
  | .hbm, ⟨5, _⟩ => ⟨S2x2048x1408, .f32⟩
  | .hbm, ⟨6, _⟩ => ⟨S2x2048x1408, .f32⟩
  | .hbm, ⟨7, _⟩ => ⟨S2x2048x1408, .f32⟩
  | .hbm, ⟨8, _⟩ => ⟨S2x2048x1408, .f32⟩
  | .hbm, ⟨9, _⟩ => ⟨S2x2048x1408, .f32⟩
  | .hbm, ⟨10, _⟩ => ⟨S2x2048x1408, .f32⟩
  | .hbm, ⟨11, _⟩ => ⟨S2x2048x1408, .f32⟩
  | .local _ .vmem, ⟨0, _⟩ => ⟨S1x256x1408, .f32⟩
  | .local _ .vmem, ⟨1, _⟩ => ⟨S1x256x1408, .f32⟩
  | .local _ .vmem, ⟨2, _⟩ => ⟨S256x1408, .f32⟩
  | .local _ .vmem, ⟨3, _⟩ => ⟨S256x1408, .f32⟩
  | .local _ .vmem, ⟨4, _⟩ => ⟨S1x256x1408, .f32⟩
  | .local _ .vmem, ⟨5, _⟩ => ⟨S1x256x1408, .f32⟩
  | .local _ .vmem, ⟨6, _⟩ => ⟨S1x256x1408, .f32⟩
  | .local _ .vmem, ⟨7, _⟩ => ⟨S1x256x1408, .f32⟩
  | .local _ .vmem, ⟨8, _⟩ => ⟨S1x256x1408, .f32⟩
  | .local _ .vmem, ⟨9, _⟩ => ⟨S1x256x1408, .f32⟩
  | .local _ .vmem, ⟨10, _⟩ => ⟨S1x256x1408, .f32⟩
  | .local _ .vmem, ⟨11, _⟩ => ⟨S1x256x1408, .f32⟩
  | .local _ .vmem, ⟨12, _⟩ => ⟨S1x256x1408, .f32⟩
  | .local _ .vmem, ⟨13, _⟩ => ⟨S1x256x1408, .f32⟩
  | .local _ .vmem, ⟨14, _⟩ => ⟨S1x256x1408, .f32⟩
  | .local _ .vmem, ⟨15, _⟩ => ⟨S1x256x1408, .f32⟩
  | _, _ => ⟨S2x2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference12Ideal.lean ====
abbrev S2x2048x1408 : Shape := ⟨3, ![2, 2048, 1408]⟩
abbrev S2048x1408 : Shape := ⟨2, ![2048, 1408]⟩
abbrev S1x2048x1408 : Shape := ⟨3, ![1, 2048, 1408]⟩
abbrev S_ : Shape := ⟨0, ![]⟩

abbrev nBuf : Space → Nat
  | .hbm => 59
  | .vmem => 0
  | .smem => 0
  | _ => 0

abbrev bufTy : (tb : Table) → Fin (tcTables nBuf tb) → BufTy
  | .hbm, ⟨0, _⟩ => ⟨S2x2048x1408, .f32⟩
  | .hbm, ⟨1, _⟩ => ⟨S2048x1408, .f32⟩
  | .hbm, ⟨2, _⟩ => ⟨S2x2048x1408, .f32⟩
  | .hbm, ⟨3, _⟩ => ⟨S2x2048x1408, .f32⟩
  | .hbm, ⟨4, _⟩ => ⟨S2x2048x1408, .f32⟩
  | .hbm, ⟨5, _⟩ => ⟨S2x2048x1408, .f32⟩
  | .hbm, ⟨6, _⟩ => ⟨S2x2048x1408, .f32⟩
  | .hbm, ⟨7, _⟩ => ⟨S2x2048x1408, .f32⟩
  | .hbm, ⟨8, _⟩ => ⟨S1x2048x1408, .f32⟩
  | .hbm, ⟨9, _⟩ => ⟨S2048x1408, .f32⟩
  | .hbm, ⟨10, _⟩ => ⟨S1x2048x1408, .f32⟩
  | .hbm, ⟨11, _⟩ => ⟨S2048x1408, .f32⟩
  | .hbm, ⟨12, _⟩ => ⟨S1x2048x1408, .f32⟩
  | .hbm, ⟨13, _⟩ => ⟨S2048x1408, .f32⟩
  | .hbm, ⟨14, _⟩ => ⟨S_, .f32⟩
  | .hbm, ⟨15, _⟩ => ⟨S2048x1408, .f32⟩
  | .hbm, ⟨16, _⟩ => ⟨S2048x1408, .f32⟩
  | .hbm, ⟨17, _⟩ => ⟨S_, .f32⟩
  | .hbm, ⟨18, _⟩ => ⟨S2048x1408, .f32⟩
  | .hbm, ⟨19, _⟩ => ⟨S2048x1408, .f32⟩
  | .hbm, ⟨20, _⟩ => ⟨S2048x1408, .f32⟩
  | .hbm, ⟨21, _⟩ => ⟨S_, .f32⟩
  | .hbm, ⟨22, _⟩ => ⟨S2048x1408, .f32⟩
  | .hbm, ⟨23, _⟩ => ⟨S2048x1408, .f32⟩
  | .hbm, ⟨24, _⟩ => ⟨S2048x1408, .f32⟩
  | .hbm, ⟨25, _⟩ => ⟨S_, .f32⟩
  | .hbm, ⟨26, _⟩ => ⟨S2048x1408, .f32⟩
  | .hbm, ⟨27, _⟩ => ⟨S2048x1408, .f32⟩
  | .hbm, ⟨28, _⟩ => ⟨S2048x1408, .f32⟩
  | .hbm, ⟨29, _⟩ => ⟨S_, .f32⟩
  | .hbm, ⟨30, _⟩ => ⟨S2048x1408, .f32⟩
  | .hbm, ⟨31, _⟩ => ⟨S2048x1408, .f32⟩
  | .hbm, ⟨32, _⟩ => ⟨S_, .f32⟩
  | .hbm, ⟨33, _⟩ => ⟨S2048x1408, .f32⟩
  | .hbm, ⟨34, _⟩ => ⟨S2048x1408, .f32⟩
  | .hbm, ⟨35, _⟩ => ⟨S2048x1408, .f32⟩
  | .hbm, ⟨36, _⟩ => ⟨S_, .f32⟩
  | .hbm, ⟨37, _⟩ => ⟨S2048x1408, .f32⟩
  | .hbm, ⟨38, _⟩ => ⟨S2048x1408, .f32⟩
  | .hbm, ⟨39, _⟩ => ⟨S2048x1408, .f32⟩
  | .hbm, ⟨40, _⟩ => ⟨S_, .f32⟩
  | .hbm, ⟨41, _⟩ => ⟨S2048x1408, .f32⟩
  | .hbm, ⟨42, _⟩ => ⟨S2048x1408, .f32⟩
  | .hbm, ⟨43, _⟩ => ⟨S2048x1408, .f32⟩
  | .hbm, ⟨44, _⟩ => ⟨S_, .f32⟩
  | .hbm, ⟨45, _⟩ => ⟨S2048x1408, .f32⟩
  | .hbm, ⟨46, _⟩ => ⟨S2048x1408, .f32⟩
  | .hbm, ⟨47, _⟩ => ⟨S1x2048x1408, .f32⟩
  | .hbm, ⟨48, _⟩ => ⟨S1x2048x1408, .f32⟩
  | .hbm, ⟨49, _⟩ => ⟨S2x2048x1408, .f32⟩
  | .hbm, ⟨50, _⟩ => ⟨S1x2048x1408, .f32⟩
  | .hbm, ⟨51, _⟩ => ⟨S1x2048x1408, .f32⟩
  | .hbm, ⟨52, _⟩ => ⟨S2x2048x1408, .f32⟩
  | .hbm, ⟨53, _⟩ => ⟨S1x2048x1408, .f32⟩
  | .hbm, ⟨54, _⟩ => ⟨S1x2048x1408, .f32⟩
  | .hbm, ⟨55, _⟩ => ⟨S2x2048x1408, .f32⟩
  | .hbm, ⟨56, _⟩ => ⟨S1x2048x1408, .f32⟩
  | .hbm, ⟨57, _⟩ => ⟨S1x2048x1408, .f32⟩
  | .hbm, ⟨58, _⟩ => ⟨S2x2048x1408, .f32⟩
  | _, _ => ⟨S2x2048x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_6 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_7 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩

abbrev nD : Nat := 1
abbrev τ : Topo := Topo.v7x

variable {F : FTy → Type} [FloatOps F]
-- ==== Kernel13.lean ====
abbrev S2048x11264 : Shape := ⟨2, ![2048, 11264]⟩
abbrev S1024x11264 : Shape := ⟨2, ![1024, 11264]⟩
abbrev S2 : Shape := ⟨1, ![2]⟩
abbrev S128x11264 : Shape := ⟨2, ![128, 11264]⟩
abbrev S1 : Shape := ⟨1, ![1]⟩

abbrev nBuf : Space → Nat
  | .hbm => 3
  | .vmem => 6
  | .smem => 1
  | _ => 0

abbrev bufTy : (tb : Table) → Fin (tcTables nBuf tb) → BufTy
  | .hbm, ⟨0, _⟩ => ⟨S2048x11264, .bf16⟩
  | .hbm, ⟨1, _⟩ => ⟨S1024x11264, .bf16⟩
  | .hbm, ⟨2, _⟩ => ⟨S1024x11264, .bf16⟩
  | .local _ .vmem, ⟨0, _⟩ => ⟨S128x11264, .bf16⟩
  | .local _ .vmem, ⟨1, _⟩ => ⟨S128x11264, .bf16⟩
  | .local _ .vmem, ⟨2, _⟩ => ⟨S128x11264, .bf16⟩
  | .local _ .vmem, ⟨3, _⟩ => ⟨S128x11264, .bf16⟩
  | .local _ .vmem, ⟨4, _⟩ => ⟨S128x11264, .bf16⟩
  | .local _ .vmem, ⟨5, _⟩ => ⟨S128x11264, .bf16⟩
  | .local _ .smem, ⟨0, _⟩ => ⟨S2, .i32⟩
  | _, _ => ⟨S2048x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_1 : ∀ a, (![1] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let c1 : Index := 1#32
  let v0 : BitVec 32 := pf.at 0 (Rect.unit (s := S2) ![1] S1.size inb_S2_S1_1) numel1_S1
  let c8_i32 : BitVec 32 := 8#32
  let v1 : BitVec 32 := Scalar.muli v0 c8_i32
  let v2 : BitVec 32 := Scalar.addi v1 arg0
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x11264 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x11264 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x11264 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference13Ideal.lean ====
abbrev S2048x11264 : Shape := ⟨2, ![2048, 11264]⟩
abbrev S1024x11264 : Shape := ⟨2, ![1024, 11264]⟩
abbrev S2 : Shape := ⟨1, ![2]⟩
abbrev S1 : Shape := ⟨1, ![1]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S2048x11264, .bf16⟩
  | .hbm, ⟨1, _⟩ => ⟨S1024x11264, .bf16⟩
  | .hbm, ⟨2, _⟩ => ⟨S2, .i32⟩
  | .hbm, ⟨3, _⟩ => ⟨S1, .i32⟩
  | .hbm, ⟨4, _⟩ => ⟨S_, .i32⟩
  | .hbm, ⟨5, _⟩ => ⟨S_, .i32⟩
  | .hbm, ⟨6, _⟩ => ⟨S_, .i1⟩
  | .hbm, ⟨7, _⟩ => ⟨S1024x11264, .bf16⟩
  | .hbm, ⟨8, _⟩ => ⟨S1024x11264, .bf16⟩
  | .hbm, ⟨9, _⟩ => ⟨S1024x11264, .bf16⟩
  | .hbm, ⟨10, _⟩ => ⟨S1024x11264, .f32⟩
  | .hbm, ⟨11, _⟩ => ⟨S1024x11264, .f32⟩
  | .hbm, ⟨12, _⟩ => ⟨S1024x11264, .f32⟩
  | .hbm, ⟨13, _⟩ => ⟨S1024x11264, .bf16⟩
  | _, _ => ⟨S2048x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel14.lean ====
abbrev S2x2048x1408 : Shape := ⟨3, ![2, 2048, 1408]⟩
abbrev S2048x11264 : Shape := ⟨2, ![2048, 11264]⟩
abbrev S2 : Shape := ⟨1, ![2]⟩
abbrev S1x512x1408 : Shape := ⟨3, ![1, 512, 1408]⟩
abbrev S512x1408 : Shape := ⟨2, ![512, 1408]⟩
abbrev S1 : Shape := ⟨1, ![1]⟩

abbrev nBuf : Space → Nat
  | .hbm => 3
  | .vmem => 4
  | .smem => 1
  | _ => 0

abbrev bufTy : (tb : Table) → Fin (tcTables nBuf tb) → BufTy
  | .hbm, ⟨0, _⟩ => ⟨S2x2048x1408, .f32⟩
  | .hbm, ⟨1, _⟩ => ⟨S2048x11264, .bf16⟩
  | .hbm, ⟨2, _⟩ => ⟨S2048x11264, .bf16⟩
  | .local _ .vmem, ⟨0, _⟩ => ⟨S1x512x1408, .f32⟩
  | .local _ .vmem, ⟨1, _⟩ => ⟨S1x512x1408, .f32⟩
  | .local _ .vmem, ⟨2, _⟩ => ⟨S512x1408, .bf16⟩
  | .local _ .vmem, ⟨3, _⟩ => ⟨S512x1408, .bf16⟩
  | .local _ .smem, ⟨0, _⟩ => ⟨S2, .i32⟩
  | _, _ => ⟨S2x2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (inb_S2_S1_0 : ∀ a, (![0] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S2) ![0] S1.size inb_S2_S1_0) numel1_S1
  let c4_i32 : BitVec 32 := 4#32
  let v1 : BitVec 32 := Scalar.addi c4_i32 v0
  let c0_i32 : BitVec 32 := 0#32
  ![arg0.toNat, v1.toNat]

abbrev stage0_0 : Fin 2 → Memref sig .tc .vmem S1x512x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference14Ideal.lean ====
abbrev S2x2048x1408 : Shape := ⟨3, ![2, 2048, 1408]⟩
abbrev S2048x11264 : Shape := ⟨2, ![2048, 11264]⟩
abbrev S2 : Shape := ⟨1, ![2]⟩
abbrev S8 : Shape := ⟨1, ![8]⟩
abbrev S1 : Shape := ⟨1, ![1]⟩
abbrev S_ : Shape := ⟨0, ![]⟩
abbrev S1x8x1 : Shape := ⟨3, ![1, 8, 1]⟩
abbrev S1x2048x1408 : Shape := ⟨3, ![1, 2048, 1408]⟩
abbrev S2048x1408 : Shape := ⟨2, ![2048, 1408]⟩
abbrev S2048x1x1408 : Shape := ⟨3, ![2048, 1, 1408]⟩
abbrev S2048x8x1408 : Shape := ⟨3, ![2048, 8, 1408]⟩

abbrev nBuf : Space → Nat
  | .hbm => 20
  | .vmem => 0
  | .smem => 0
  | _ => 0

abbrev bufTy : (tb : Table) → Fin (tcTables nBuf tb) → BufTy
  | .hbm, ⟨0, _⟩ => ⟨S2x2048x1408, .f32⟩
  | .hbm, ⟨1, _⟩ => ⟨S2048x11264, .bf16⟩
  | .hbm, ⟨2, _⟩ => ⟨S2, .i32⟩
  | .hbm, ⟨3, _⟩ => ⟨S8, .i32⟩
  | .hbm, ⟨4, _⟩ => ⟨S1, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S8, .i32⟩
  | .hbm, ⟨9, _⟩ => ⟨S8, .i1⟩
  | .hbm, ⟨10, _⟩ => ⟨S1x8x1, .i1⟩
  | .hbm, ⟨11, _⟩ => ⟨S1x2048x1408, .f32⟩
  | .hbm, ⟨12, _⟩ => ⟨S2048x1408, .f32⟩
  | .hbm, ⟨13, _⟩ => ⟨S2048x1408, .bf16⟩
  | .hbm, ⟨14, _⟩ => ⟨S2048x1x1408, .bf16⟩
  | .hbm, ⟨15, _⟩ => ⟨S2048x8x1408, .bf16⟩
  | .hbm, ⟨16, _⟩ => ⟨S2048x8x1408, .i1⟩
  | .hbm, ⟨17, _⟩ => ⟨S2048x8x1408, .bf16⟩
  | .hbm, ⟨18, _⟩ => ⟨S2048x8x1408, .bf16⟩
  | .hbm, ⟨19, _⟩ => ⟨S2048x11264, .bf16⟩
  | _, _ => ⟨S2x2048x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_call0_v0 : Ref sig .tc := ⟨.hbm, 16, rfl⟩
abbrev main_call0_v1 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel15.lean ====
abbrev S1024x11264 : Shape := ⟨2, ![1024, 11264]⟩
abbrev S3x1024x1408 : Shape := ⟨3, ![3, 1024, 1408]⟩
abbrev S2 : Shape := ⟨1, ![2]⟩
abbrev S2048x1408 : Shape := ⟨2, ![2048, 1408]⟩
abbrev S512x1408 : Shape := ⟨2, ![512, 1408]⟩
abbrev S1 : Shape := ⟨1, ![1]⟩
abbrev S3x512x1408 : Shape := ⟨3, ![3, 512, 1408]⟩
abbrev S1x512x1408 : Shape := ⟨3, ![1, 512, 1408]⟩

abbrev nBuf : Space → Nat
  | .hbm => 3
  | .vmem => 6
  | .smem => 1
  | _ => 0

abbrev bufTy : (tb : Table) → Fin (tcTables nBuf tb) → BufTy
  | .hbm, ⟨0, _⟩ => ⟨S1024x11264, .bf16⟩
  | .hbm, ⟨1, _⟩ => ⟨S3x1024x1408, .bf16⟩
  | .hbm, ⟨2, _⟩ => ⟨S2048x1408, .f32⟩
  | .local _ .vmem, ⟨0, _⟩ => ⟨S512x1408, .bf16⟩
  | .local _ .vmem, ⟨1, _⟩ => ⟨S512x1408, .bf16⟩
  | .local _ .vmem, ⟨2, _⟩ => ⟨S3x512x1408, .bf16⟩
  | .local _ .vmem, ⟨3, _⟩ => ⟨S3x512x1408, .bf16⟩
  | .local _ .vmem, ⟨4, _⟩ => ⟨S512x1408, .f32⟩
  | .local _ .vmem, ⟨5, _⟩ => ⟨S512x1408, .f32⟩
  | .local _ .smem, ⟨0, _⟩ => ⟨S2, .i32⟩
  | _, _ => ⟨S1024x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_0 : ∀ a, (![0] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S2) ![0] S1.size inb_S2_S1_0) numel1_S1
  let c0_i32 : BitVec 32 := 0#32
  let v1 : BitVec 32 := Scalar.addi c0_i32 v0
  let c0_i32_0 : BitVec 32 := 0#32
  ![arg0.toNat, v1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (inb_S2_S1_1 : ∀ a, (![1] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let c1 : Index := 1#32
  let v0 : BitVec 32 := pf.at 0 (Rect.unit (s := S2) ![1] S1.size inb_S2_S1_1) numel1_S1
  let c2_i32 : BitVec 32 := 2#32
  let v1 : BitVec 32 := Scalar.muli v0 c2_i32
  let v2 : BitVec 32 := Scalar.addi v1 arg0
  let c0_i32 : BitVec 32 := 0#32
  let c0_i32_0 : BitVec 32 := 0#32
  ![v2.toNat, c0_i32.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference15Ideal.lean ====
abbrev S1024x11264 : Shape := ⟨2, ![1024, 11264]⟩
abbrev S3x1024x1408 : Shape := ⟨3, ![3, 1024, 1408]⟩
abbrev S2 : Shape := ⟨1, ![2]⟩
abbrev S1024x1408 : Shape := ⟨2, ![1024, 1408]⟩
abbrev S1 : Shape := ⟨1, ![1]⟩
abbrev S_ : Shape := ⟨0, ![]⟩
abbrev S2048x1408 : Shape := ⟨2, ![2048, 1408]⟩

abbrev nBuf : Space → Nat
  | .hbm => 28
  | .vmem => 0
  | .smem => 0
  | _ => 0

abbrev bufTy : (tb : Table) → Fin (tcTables nBuf tb) → BufTy
  | .hbm, ⟨0, _⟩ => ⟨S1024x11264, .bf16⟩
  | .hbm, ⟨1, _⟩ => ⟨S3x1024x1408, .bf16⟩
  | .hbm, ⟨2, _⟩ => ⟨S2, .i32⟩
  | .hbm, ⟨3, _⟩ => ⟨S1024x1408, .bf16⟩
  | .hbm, ⟨4, _⟩ => ⟨S1, .i32⟩
  | .hbm, ⟨5, _⟩ => ⟨S_, .i32⟩
  | .hbm, ⟨6, _⟩ => ⟨S_, .i32⟩
  | .hbm, ⟨7, _⟩ => ⟨S_, .i1⟩
  | .hbm, ⟨8, _⟩ => ⟨S1024x1408, .bf16⟩
  | .hbm, ⟨9, _⟩ => ⟨S1024x1408, .bf16⟩
  | .hbm, ⟨10, _⟩ => ⟨S1, .i32⟩
  | .hbm, ⟨11, _⟩ => ⟨S_, .i32⟩
  | .hbm, ⟨12, _⟩ => ⟨S_, .i32⟩
  | .hbm, ⟨13, _⟩ => ⟨S_, .i1⟩
  | .hbm, ⟨14, _⟩ => ⟨S1024x1408, .bf16⟩
  | .hbm, ⟨15, _⟩ => ⟨S1024x1408, .bf16⟩
  | .hbm, ⟨16, _⟩ => ⟨S1, .i32⟩
  | .hbm, ⟨17, _⟩ => ⟨S_, .i32⟩
  | .hbm, ⟨18, _⟩ => ⟨S_, .i32⟩
  | .hbm, ⟨19, _⟩ => ⟨S_, .i1⟩
  | .hbm, ⟨20, _⟩ => ⟨S1024x1408, .bf16⟩
  | .hbm, ⟨21, _⟩ => ⟨S1024x1408, .bf16⟩
  | .hbm, ⟨22, _⟩ => ⟨S1024x1408, .f32⟩
  | .hbm, ⟨23, _⟩ => ⟨S3x1024x1408, .f32⟩
  | .hbm, ⟨24, _⟩ => ⟨S_, .f32⟩
  | .hbm, ⟨25, _⟩ => ⟨S1024x1408, .f32⟩
  | .hbm, ⟨26, _⟩ => ⟨S1024x1408, .f32⟩
  | .hbm, ⟨27, _⟩ => ⟨S2048x1408, .f32⟩
  | _, _ => ⟨S1024x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Proof.Mixer.Block.lean ====
/-
  WHAT ONE GRID POINT OF THE MIXER'S BACKWARD KERNEL COMPUTES, from the blocks it is given. A point works on 256 rows. It keeps the normalised gate, the mixed gate, the
  mixed gate's gradient and the gate's gradient in four scratch buffers; the two that are products over a frame are filled tile by tile, a tile being one frame of 128 rows
  and one head of 128 columns.
-/
module

public import proofs.«01_k».proof.Proof.Gen.KernelIdeal.Value
public import Idealize.ShloMosaic.Lib.Pipeline.ValueKit
public import Idealize.ShloMosaic.Lib.Pipeline.ReadBack

@[expose] public section

set_option maxRecDepth 16384

noncomputable section

namespace Cert.Mixer

open Cert.KernelIdeal Cert.KernelIdeal.Gen
open Idealize.ShloMosaic Idealize.ShloMosaic.TcCoe Idealize.SL.Sem
open Idealize.ShloMosaic.Pipeline (Dat)

/-- A load of a whole buffer reads what the stores left. -/
theorem readCov_whole {sig : RefSig} {κ : Kind} {sp : Space} {S : Shape} {e : EltTy} (v : View sig κ sp S e) (L : List (View.Piece (Elt Ideal) S e))
    {off : Fin S.rank → Nat} (inb : ∀ a, off a + S.size a ≤ S.size a) (h : ∀ a, off a = 0) :
    v.readCov L (Rect.unit off (no_index S.size) inb).toLoadRect = View.canon L := by
  rw [View.readCov_eq_canon']
  exact View.ld_unit_lit inb (View.canon L) h

/-- A tile lies inside the block. -/
theorem tile_inb (k : Fin 2 × Fin 8) (a : Fin 2) : ![128 * k.1.val, 128 * k.2.val] a + S128x128.size a ≤ S256x1024.size a := by
  have h1 := k.1.isLt; have h2 := k.2.isLt; fin_cases a <;> simp [S256x1024, S128x128] <;> omega

/-- Tiles stored one after the other, in the order given, the last first. -/
def tiles {e : EltTy} (order : List (Fin 2 × Fin 8)) (P : Fin 2 → Fin 8 → Vec Ideal S128x128 e) : List (View.Piece (Elt Ideal) S256x1024 e) :=
  order.map fun k => ⟨Rect.unit ![128 * k.1.val, 128 * k.2.val] S128x128.size (tile_inb k), P k.1 k.2⟩

/-- Frame after frame, the heads in order. -/
def mixOrder : List (Fin 2 × Fin 8) :=
  [(1, 7), (1, 6), (1, 5), (1, 4), (1, 3), (1, 2), (1, 1), (1, 0), (0, 7), (0, 6), (0, 5), (0, 4), (0, 3), (0, 2), (0, 1), (0, 0)]

/-- Head after head, the frames in order. -/
def dvnOrder : List (Fin 2 × Fin 8) :=
  [(1, 7), (0, 7), (1, 6), (0, 6), (1, 5), (0, 5), (1, 4), (0, 4), (1, 3), (0, 3), (1, 2), (0, 2), (1, 1), (0, 1), (1, 0), (0, 0)]

/-- Tile `(b, h)` of a scratch buffer. -/
def tile {e : EltTy} (X : Vec Ideal S256x1024 e) (b : Fin 2) (h : Fin 8) : Vec Ideal S128x128 e :=
  View.ld X (Rect.unit ![128 * b.val, 128 * h.val] S128x128.size
    (by have h1 := b.isLt; have h2 := h.isLt; intro a; fin_cases a <;> simp [S256x1024, S128x128] <;> omega))

/-- Head `h` of a stack of eight squares. -/
def headOf {e : EltTy} (X : Vec Ideal S8x128x128 e) (h : Fin 8) : Vec Ideal S1x128x128 e :=
  View.ld X (Rect.unit ![h.val, 0, 0] S1x128x128.size
    (by have h2 := h.isLt; intro a; fin_cases a <;> simp [S8x128x128, S1x128x128] <;> omega))

section

variable (x1 : Vec Ideal S256x5120 .bf16) (x3 : Vec Ideal S256x2048 .bf16) (x5 x6 : Vec Ideal S1x1024 .f32) (x7 x8 : Vec Ideal S8x128x128 .bf16)
  (x9 : Vec Ideal S8x128x128 .f32) (x11 : Vec Ideal S1x2048 .f32)

/-- The first 1024 columns of the block, which the activation turns into `u`. -/
def zu : Vec Ideal S256x1024 .bf16 := View.ld x1 (Rect.unit ![0, 0] S256x1024.size inb_S256x5120_S256x1024_0_0)
/-- The next 1024 columns, which the activation turns into `v`. -/
def zv : Vec Ideal S256x1024 .bf16 := View.ld x1 (Rect.unit ![0, 1024] S256x1024.size inb_S256x5120_S256x1024_0_1024)

/-- The rows of `v` without their mean, scaled to unit variance. -/
def vhat : FVec Ideal S256x1024 .f32 := k0_pay21 (k0_pay16 (zv x1)) (k0_pay17 (zv x1))
/-- The rows' scale. -/
def rstd : FVec Ideal S256x1 .f32 := k0_pay20 (k0_pay16 (zv x1)) (k0_pay17 (zv x1))
/-- The normalised gate with its gains and shifts. -/
def vn : FVec Ideal S256x1024 .bf16 := k0_pay22 (k0_pay16 (zv x1)) (k0_pay17 (zv x1)) x5 x6

/-- A tile of the mixed gate: the head's weights times the tile of the normalised gate, plus the bias. -/
def mixTile (b : Fin 2) (h : Fin 8) : FVec Ideal S128x128 .f32 :=
  k0_pay23 (headOf x7 h) (tile (vn x1 x5 x6) b h) (headOf x9 h)
/-- The mixed gate. -/
def mixed : Vec Ideal S256x1024 .f32 := View.canon (tiles mixOrder (mixTile x1 x5 x6 x7 x9))

/-- The spatial branch before its norm. -/
def ya : FVec Ideal S256x1024 .f32 := k0_pay44 (k0_pay13 (zu x1)) (mixed x1 x5 x6 x7 x9)
/-- The sums of its rows' squares. -/
def yaSq : FVec Ideal S256 .f32 := k0_pay45 (k0_pay13 (zu x1)) (mixed x1 x5 x6 x7 x9)
/-- The spatial half of the incoming gradient. -/
def dyA : Vec Ideal S256x1024 .bf16 := View.ld x3 (Rect.unit ![0, 0] S256x1024.size inb_S256x2048_S256x1024_0_0)
/-- The spatial half of the norm's gains. -/
def gnA : Vec Ideal S1x1024 .f32 := View.ld x11 (Rect.unit ![0, 0] S1x1024.size inb_S1x2048_S1x1024_0_0)

/-- The gradient of the first 1024 columns. -/
def dzU : FVec Ideal S256x1024 .bf16 :=
  k0_pay51 (k0_pay12 (zu x1)) (mixed x1 x5 x6 x7 x9) (ya x1 x5 x6 x7 x9) (yaSq x1 x5 x6 x7 x9) (dyA x3) (gnA x11)
/-- The mixed gate's gradient. -/
def dmix : FVec Ideal S256x1024 .bf16 :=
  k0_pay52 (k0_pay13 (zu x1)) (ya x1 x5 x6 x7 x9) (yaSq x1 x5 x6 x7 x9) (dyA x3) (gnA x11)

/-- A tile of the normalised gate's gradient. -/
def dvnTile (b : Fin 2) (h : Fin 8) : FVec Ideal S128x128 .f32 :=
  k0_pay58 (tile (dmix x1 x3 x5 x6 x7 x9 x11) b h) (headOf x8 h)
/-- The normalised gate's gradient. -/
def dvn : Vec Ideal S256x1024 .f32 := View.canon (tiles dvnOrder (dvnTile x1 x3 x5 x6 x7 x8 x9 x11))

/-- The gradient of the second 1024 columns. -/
def dzV : FVec Ideal S256x1024 .bf16 :=
  k0_pay115 (k0_pay18 (k0_pay15 (zv x1)) (k0_pay16 (zv x1)) (k0_pay17 (zv x1))) (rstd x1) (vhat x1) (dvn x1 x3 x5 x6 x7 x8 x9 x11) x5

end

section

variable (c0 : BitVec 32) (x0 : Vec Ideal S16x5120 .bf16) (x1 : Vec Ideal S256x5120 .bf16) (x2 : Vec Ideal S16x5120 .bf16) (x3 : Vec Ideal S256x2048 .bf16)
  (x4 : Vec Ideal S16x2048 .bf16) (x10 : Vec Ideal S8x1024 .f32) (x11 : Vec Ideal S1x2048 .f32)

/-- The gate of the convolution branch, with 16 rows before and after the block. -/
def zb : FVec Ideal S288x1024 .f32 :=
  k0_pay116 (View.ld x1 (Rect.unit ![0, 2048] S256x1024.size inb_S256x5120_S256x1024_0_2048))
    (View.ld x0 (Rect.unit ![0, 2048] S16x1024.size inb_S16x5120_S16x1024_0_2048)) (View.ld x2 (Rect.unit ![0, 2048] S16x1024.size inb_S16x5120_S16x1024_0_2048))
/-- The first factor of what is convolved. -/
def zc : FVec Ideal S288x1024 .f32 :=
  k0_pay117 (View.ld x1 (Rect.unit ![0, 3072] S256x1024.size inb_S256x5120_S256x1024_0_3072))
    (View.ld x0 (Rect.unit ![0, 3072] S16x1024.size inb_S16x5120_S16x1024_0_3072)) (View.ld x2 (Rect.unit ![0, 3072] S16x1024.size inb_S16x5120_S16x1024_0_3072))
/-- The second factor. -/
def zh : FVec Ideal S288x1024 .f32 :=
  k0_pay118 (View.ld x1 (Rect.unit ![0, 4096] S256x1024.size inb_S256x5120_S256x1024_0_4096))
    (View.ld x0 (Rect.unit ![0, 4096] S16x1024.size inb_S16x5120_S16x1024_0_4096)) (View.ld x2 (Rect.unit ![0, 4096] S16x1024.size inb_S16x5120_S16x1024_0_4096))
/-- What is convolved: the product, nothing before the sequence's first row. -/
def pr : FVec Ideal S288x1024 .f32 :=
  k0_pay119 c0 (View.ld x1 (Rect.unit ![0, 3072] S256x1024.size inb_S256x5120_S256x1024_0_3072))
    (View.ld x0 (Rect.unit ![0, 3072] S16x1024.size inb_S16x5120_S16x1024_0_3072)) (View.ld x2 (Rect.unit ![0, 3072] S16x1024.size inb_S16x5120_S16x1024_0_3072))
    (View.ld x1 (Rect.unit ![0, 4096] S256x1024.size inb_S256x5120_S256x1024_0_4096))
    (View.ld x0 (Rect.unit ![0, 4096] S16x1024.size inb_S16x5120_S16x1024_0_4096)) (View.ld x2 (Rect.unit ![0, 4096] S16x1024.size inb_S16x5120_S16x1024_0_4096))
/-- The weights of the last tap times it. -/
def tap2 : FVec Ideal S288x1024 .f32 :=
  k0_pay120 c0 (View.ld x1 (Rect.unit ![0, 3072] S256x1024.size inb_S256x5120_S256x1024_0_3072))
    (View.ld x0 (Rect.unit ![0, 3072] S16x1024.size inb_S16x5120_S16x1024_0_3072)) (View.ld x2 (Rect.unit ![0, 3072] S16x1024.size inb_S16x5120_S16x1024_0_3072))
    (View.ld x1 (Rect.unit ![0, 4096] S256x1024.size inb_S256x5120_S256x1024_0_4096))
    (View.ld x0 (Rect.unit ![0, 4096] S16x1024.size inb_S16x5120_S16x1024_0_4096)) (View.ld x2 (Rect.unit ![0, 4096] S16x1024.size inb_S16x5120_S16x1024_0_4096))
    (View.ld x10 (Rect.unit ![2, 0] S1x1024.size inb_S8x1024_S1x1024_2_0))
/-- The weights of tap `k`. -/
def tapRow (k : Fin 3) : Vec Ideal S1x1024 .f32 :=
  View.ld x10 (Rect.unit ![k.val, 0] S1x1024.size (by have h2 := k.isLt; intro a; fin_cases a <;> simp [S8x1024, S1x1024] <;> omega))
/-- The convolution. -/
def cv : FVec Ideal S288x1024 .f32 :=
  k0_pay122 (pr c0 x0 x1 x2) (tap2 c0 x0 x1 x2 x10) (k0_pay121 (tapRow x10 1)) (tapRow x10 0)
/-- The scale of the convolution branch's rows. -/
def rb : FVec Ideal S288x1 .f32 :=
  k0_pay124 (zb x0 x1 x2) (pr c0 x0 x1 x2) (tap2 c0 x0 x1 x2 x10) (k0_pay121 (tapRow x10 1)) (tapRow x10 0)
/-- The convolution branch's rows, scaled. -/
def yhb : FVec Ideal S288x1024 .f32 :=
  k0_pay125 (zb x0 x1 x2) (pr c0 x0 x1 x2) (tap2 c0 x0 x1 x2 x10) (k0_pay121 (tapRow x10 1)) (tapRow x10 0)
/-- The incoming gradient of the convolution branch, nothing before the block and past the last row. -/
def dyb : FVec Ideal S288x1024 .f32 :=
  k0_pay126 c0 (View.ld x4 (Rect.unit ![0, 1024] S16x1024.size inb_S16x2048_S16x1024_0_1024))
    (View.ld x3 (Rect.unit ![0, 1024] S256x1024.size inb_S256x2048_S256x1024_0_1024))
/-- The convolution half of the norm's gains. -/
def gnB : Vec Ideal S1x1024 .f32 := View.ld x11 (Rect.unit ![0, 1024] S1x1024.size inb_S1x2048_S1x1024_0_1024)
/-- The convolution's gradient. -/
def dcv : FVec Ideal S288x1024 .f32 :=
  k0_pay129 (zb x0 x1 x2) (rb c0 x0 x1 x2 x10) (yhb c0 x0 x1 x2 x10) (dyb c0 x3 x4) (gnB x11)

/-- The gradient of the third 1024 columns. -/
def dzB : FVec Ideal S256x1024 .bf16 :=
  k0_pay131 (cv c0 x0 x1 x2 x10) (rb c0 x0 x1 x2 x10) (yhb c0 x0 x1 x2 x10) (dyb c0 x3 x4) (gnB x11)
/-- The gradient of the fourth. -/
def dzC : FVec Ideal S256x1024 .bf16 :=
  k0_pay132 (zb x0 x1 x2) (zh x0 x1 x2) (rb c0 x0 x1 x2 x10) (yhb c0 x0 x1 x2 x10) (dyb c0 x3 x4) (gnB x11) (tapRow x10 2) (tapRow x10 1) (tapRow x10 0)
/-- The gradient of the fifth. -/
def dzH : FVec Ideal S256x1024 .bf16 :=
  k0_pay133 (zb x0 x1 x2) (zc x0 x1 x2) (rb c0 x0 x1 x2 x10) (yhb c0 x0 x1 x2 x10) (dyb c0 x3 x4) (gnB x11) (tapRow x10 2) (tapRow x10 1) (tapRow x10 0)

end

/-! ## What a point makes of the accumulators -/

/-- The rows of head `h` of eight stacks of eight rows. -/
def rowsOf (X : Vec Ideal S8x8x128 .f32) (h : Fin 8) : Vec Ideal S1x8x128 .f32 :=
  View.ld X (Rect.unit ![h.val, 0, 0] S1x8x128.size
    (by have h2 := h.isLt; intro a; fin_cases a <;> simp [S8x8x128, S1x8x128] <;> omega))

/-- Squares stored head after head, the last first, over earlier stores. -/
def squares (P : Fin 8 → Vec Ideal S1x128x128 .f32) (L : List (View.Piece (Elt Ideal) S8x128x128 .f32)) : List (View.Piece (Elt Ideal) S8x128x128 .f32) :=
  (([7, 6, 5, 4, 3, 2, 1, 0] : List (Fin 8)).map fun h => ⟨Rect.unit ![h.val, 0, 0] S1x128x128.size
    (by have h2 := h.isLt; intro a; fin_cases a <;> simp [S8x128x128, S1x128x128] <;> omega), P h⟩) ++ L

/-- Stacks of rows stored head after head, the last first, over earlier stores. -/
def layers (P : Fin 8 → Vec Ideal S1x8x128 .f32) (L : List (View.Piece (Elt Ideal) S8x8x128 .f32)) : List (View.Piece (Elt Ideal) S8x8x128 .f32) :=
  (([7, 6, 5, 4, 3, 2, 1, 0] : List (Fin 8)).map fun h => ⟨Rect.unit ![h.val, 0, 0] S1x8x128.size
    (by have h2 := h.isLt; intro a; fin_cases a <;> simp [S8x8x128, S1x8x128] <;> omega), P h⟩) ++ L

/-- The two halves of a row of 2048, the second stored last, over earlier stores. -/
def halves (P Q : Vec Ideal S1x1024 .f32) (L : List (View.Piece (Elt Ideal) S1x2048 .f32)) : List (View.Piece (Elt Ideal) S1x2048 .f32) :=
  [⟨Rect.unit ![0, 1024] S1x1024.size inb_S1x2048_S1x1024_0_1024, Q⟩, ⟨Rect.unit ![0, 0] S1x1024.size inb_S1x2048_S1x1024_0_0, P⟩] ++ L

/-- The three rows of taps, the first stored last, over earlier stores. -/
def taps (P : Fin 3 → Vec Ideal S1x1024 .f32) (L : List (View.Piece (Elt Ideal) S8x1024 .f32)) : List (View.Piece (Elt Ideal) S8x1024 .f32) :=
  [⟨Rect.unit ![0, 0] S1x1024.size inb_S8x1024_S1x1024_0_0, P 0⟩, ⟨Rect.unit ![1, 0] S1x1024.size inb_S8x1024_S1x1024_1_0, P 1⟩,
    ⟨Rect.unit ![2, 0] S1x1024.size inb_S8x1024_S1x1024_2_0, P 2⟩] ++ L

section

variable (x1 : Vec Ideal S256x5120 .bf16) (x3 : Vec Ideal S256x2048 .bf16) (x5 x6 : Vec Ideal S1x1024 .f32) (x7 x8 : Vec Ideal S8x128x128 .bf16)
  (x9 : Vec Ideal S8x128x128 .f32) (x11 : Vec Ideal S1x2048 .f32)

/-- The shifts' gradient, over what the points before left. -/
def dlnb (prev : Vec Ideal S1x1024 .f32) : FVec Ideal S1x1024 .f32 := k0_pay113 (dvn x1 x3 x5 x6 x7 x8 x9 x11) prev
/-- The gains' gradient. -/
def dlng (prev : Vec Ideal S1x1024 .f32) : FVec Ideal S1x1024 .f32 := k0_pay114 (vhat x1) (dvn x1 x3 x5 x6 x7 x8 x9 x11) prev
/-- The spatial half of the norm's gains' gradient. -/
def dgnA (prev : Vec Ideal S1x1024 .f32) : FVec Ideal S1x1024 .f32 :=
  k0_pay49 (ya x1 x5 x6 x7 x9) (yaSq x1 x5 x6 x7 x9) (dyA x3) prev
/-- Head `h` of the spatial weights' gradient. -/
def dwsTile (h : Fin 8) (prev : Vec Ideal S1x128x128 .f32) : FVec Ideal S1x128x128 .f32 :=
  k0_pay63 (k0_pay56 k0_pay53 k0_pay54 k0_pay55)
    (k0_pay59 (tile (dmix x1 x3 x5 x6 x7 x9 x11) 0 h) (tile (vn x1 x5 x6) 0 h) (tile (dmix x1 x3 x5 x6 x7 x9 x11) 1 h) (tile (vn x1 x5 x6) 1 h)) prev
/-- Head `h` of the biases' gradient, in eight equal rows. -/
def dbsTile (h : Fin 8) (prev : Vec Ideal S1x8x128 .f32) : FVec Ideal S1x8x128 .f32 :=
  k0_pay64 (k0_pay60 (tile (dmix x1 x3 x5 x6 x7 x9 x11) 0 h) (tile (dmix x1 x3 x5 x6 x7 x9 x11) 1 h)) prev

end

section

variable (c0 : BitVec 32) (x0 : Vec Ideal S16x5120 .bf16) (x1 : Vec Ideal S256x5120 .bf16) (x2 : Vec Ideal S16x5120 .bf16) (x3 : Vec Ideal S256x2048 .bf16)
  (x4 : Vec Ideal S16x2048 .bf16) (x10 : Vec Ideal S8x1024 .f32) (x11 : Vec Ideal S1x2048 .f32)

/-- The convolution half of the norm's gains' gradient. -/
def dgnB (prev : Vec Ideal S1x1024 .f32) : FVec Ideal S1x1024 .f32 :=
  k0_pay127 c0 (zb x0 x1 x2) (pr c0 x0 x1 x2) (tap2 c0 x0 x1 x2 x10) (k0_pay121 (tapRow x10 1)) (tapRow x10 0)
    (View.ld x4 (Rect.unit ![0, 1024] S16x1024.size inb_S16x2048_S16x1024_0_1024))
    (View.ld x3 (Rect.unit ![0, 1024] S256x1024.size inb_S256x2048_S256x1024_0_1024)) prev
/-- The gradient of tap `k`. -/
def dtap (prev : Fin 3 → Vec Ideal S1x1024 .f32) : Fin 3 → FVec Ideal S1x1024 .f32 :=
  ![k0_pay1 (pr c0 x0 x1 x2) (dcv c0 x0 x1 x2 x3 x4 x10 x11) (prev 0), k0_pay135 (pr c0 x0 x1 x2) (dcv c0 x0 x1 x2 x3 x4 x10 x11) (prev 1),
    k0_pay134 (pr c0 x0 x1 x2) (dcv c0 x0 x1 x2 x3 x4 x10 x11) (prev 2)]

end

section

variable (x0 : Vec Ideal S16x5120 .bf16) (x1 : Vec Ideal S256x5120 .bf16) (x2 : Vec Ideal S16x5120 .bf16) (x3 : Vec Ideal S256x2048 .bf16)
  (x4 : Vec Ideal S16x2048 .bf16) (x5 x6 : Vec Ideal S1x1024 .f32) (x7 x8 : Vec Ideal S8x128x128 .bf16) (x9 : Vec Ideal S8x128x128 .f32)
  (x10 : Vec Ideal S8x1024 .f32) (x11 : Vec Ideal S1x2048 .f32)

/-- The five parts of the gradient's block, the last first. -/
def dzParts (c0 : BitVec 32) : List (View.Piece (Elt Ideal) S256x5120 .bf16) :=
  [⟨Rect.unit ![0, 4096] S256x1024.size inb_S256x5120_S256x1024_0_4096, dzH c0 x0 x1 x2 x3 x4 x10 x11⟩,
    ⟨Rect.unit ![0, 3072] S256x1024.size inb_S256x5120_S256x1024_0_3072, dzC c0 x0 x1 x2 x3 x4 x10 x11⟩,
    ⟨Rect.unit ![0, 2048] S256x1024.size inb_S256x5120_S256x1024_0_2048, dzB c0 x0 x1 x2 x3 x4 x10 x11⟩,
    ⟨Rect.unit ![0, 1024] S256x1024.size inb_S256x5120_S256x1024_0_1024, dzV x1 x3 x5 x6 x7 x8 x9 x11⟩,
    ⟨Rect.unit ![0, 0] S256x1024.size inb_S256x5120_S256x1024_0_0, dzU x1 x3 x5 x6 x7 x9 x11⟩]

end

end Cert.Mixer
end
-- ==== Proof.Lift.lean ====
/- Extended reals that are reals: the operations of the idealized programs on them, and the float words of the programs'
   constants. -/
module

public import Idealize.ShloMosaic.PureOps.Ideal
public import Idealize.ShloMosaic.Lib.Pointwise

@[expose] public section

noncomputable section

namespace Cert.Lift

open Idealize.ShloMosaic

/-- A finite sum of reals, taken in the extended reals, is the real sum. -/
theorem sum_coe {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A quotient of reals by a real that is not zero. -/
theorem div_real (a : ℝ) {b : ℝ} (hb : b ≠ 0) : Ideal.div (a : EReal) (b : EReal) = ((a / b : ℝ) : EReal) := by
  rw [Ideal.div_coe hb, ← EReal.coe_mul, mul_one_div]

/-- The reciprocal root of a positive real. -/
theorem rsqrt_real {r : ℝ} (h : 0 < r) : Ideal.rsqrt (r : EReal) = (((Real.sqrt r)⁻¹ : ℝ) : EReal) := by
  rw [Ideal.rsqrt_coe, if_neg h.le.not_gt, if_neg h.ne']

/-- An extended real whose magnitude is below infinity is a real. -/
theorem real_of_abs_lt {x : EReal} (h : max x (-x) < ⊤) : ∃ r : ℝ, x = (r : EReal) := by
  induction x using EReal.rec with
  | bot => simp at h
  | coe r => exact ⟨r, rfl⟩
  | top => simp at h

/-- An array of extended reals, each of magnitude below infinity, is an array of reals. -/
theorem reals_of_abs_lt {ι : Type*} {x : ι → EReal} (h : ∀ i, max (x i) (-x i) < ⊤) :
    ∃ X : ι → ℝ, x = fun i => (X i : EReal) :=
  ⟨fun i => (real_of_abs_lt (h i)).choose, funext fun i => (real_of_abs_lt (h i)).choose_spec⟩

/-- The word of `0.0`. -/
theorem word_zero : Ideal.ofBits .f32 0x00000000#32 = ((0 : ℝ) : EReal) := by
  simp [Ideal.ofBits, Ideal.ieee, -EReal.coe_mul]
/-- The word of `2048.0`. -/
theorem word_2048 : Ideal.ofBits .f32 0x45000000#32 = ((2048 : ℝ) : EReal) := by
  simp [Ideal.ofBits, Ideal.ieee, -EReal.coe_mul]; norm_num
/-- The word of `-0.5`. -/
theorem word_neg_half : Ideal.ofBits .f32 0xBF000000#32 = ((-(1 / 2) : ℝ) : EReal) := by
  simp [Ideal.ofBits, Ideal.ieee, -EReal.coe_mul]; norm_num
/-- The word of infinity. -/
theorem word_inf : Ideal.ofBits .f32 0x7F800000#32 = ⊤ := by
  simp [Ideal.ofBits, Ideal.ieee]
/-- The word of infinity, in the short format. -/
theorem word_inf_short : Ideal.ofBits .bf16 0x7F80#16 = ⊤ := by
  simp [Ideal.ofBits, Ideal.ieee]

/-- An array every entry of which has its magnitude below infinity, as the preconditions' comparison says, is an array of reals. -/
theorem reals_of_mask {S : Shape} (x : FVec Ideal S .f32)
    (b : (⟨0, ![]⟩ : Shape).BroadcastsInDim S (![] : Fin 0 → Fin S.rank))
    (h : cmpf .olt (Host.absf x) (broadcastInDim S ![] b (constant ⟨0, ![]⟩ .f32 0x7F800000#32)) = fun _ => 1#1) :
    ∃ X : S.Idx → ℝ, x = fun i => (X i : EReal) := by
  refine reals_of_abs_lt fun i => ?_
  have hi := congrFun h i
  pointwise [] at hi
  rw [word_inf] at hi
  change BitVec.ofBool (decide (max (x i) (-x i) < ⊤)) = 1#1 at hi
  by_contra hn
  rw [decide_eq_false hn] at hi
  exact absurd hi (by decide)

/-- The same in the short format. -/
theorem reals_of_mask_short {S : Shape} (x : FVec Ideal S .bf16)
    (b : (⟨0, ![]⟩ : Shape).BroadcastsInDim S (![] : Fin 0 → Fin S.rank))
    (h : cmpf .olt (Host.absf x) (broadcastInDim S ![] b (constant ⟨0, ![]⟩ .bf16 0x7F80#16)) = fun _ => 1#1) :
    ∃ X : S.Idx → ℝ, x = fun i => (X i : EReal) := by
  refine reals_of_abs_lt fun i => ?_
  have hi := congrFun h i
  pointwise [] at hi
  rw [word_inf_short] at hi
  change BitVec.ofBool (decide (max (x i) (-x i) < ⊤)) = 1#1 at hi
  by_contra hn
  rw [decide_eq_false hn] at hi
  exact absurd hi (by decide)

/-- What the norms add to the mean square: the rational the word of `1e-6` stands for. -/
def rmsEps : ℝ := 8796093 / 8796093022208
theorem word_rmsEps : Ideal.ofBits .f32 0x358637BD#32 = ((rmsEps : ℝ) : EReal) := by
  simp [Ideal.ofBits, Ideal.ieee, rmsEps, -EReal.coe_mul]; norm_num
theorem rmsEps_pos : 0 < rmsEps := by unfold rmsEps; norm_num

end Cert.Lift

end
-- ==== Proof.NormRow.lean ====
/- One row of a root-mean-square norm over the reals: the reciprocal root of the mean square, the gradient of the norm in
   the two forms the programs compute it in, and their equality. -/
module

public import proofs.«01_k».proof.Proof.Lift

@[expose] public section

noncomputable section

namespace Cert.NormRow

open Idealize.ShloMosaic Cert.Lift

variable {n : ℕ}

/-- The width of a row is positive. -/
theorem width_pos : (0 : ℝ) < 2048 := by norm_num

/-- A real divided by the width of a row. -/
theorem div_2048 (a : ℝ) : Ideal.div (a : EReal) ((2048 : ℝ) : EReal) = ((a / 2048 : ℝ) : EReal) :=
  div_real a width_pos.ne'

/-- The mean square of a row, with the norm's small constant added. -/
def meanSq (N : ℝ) (x : Fin n → ℝ) : ℝ := (∑ k, x k * x k) / N + rmsEps

/-- The factor the norm scales a row by. -/
def scale (N : ℝ) (x : Fin n → ℝ) : ℝ := (Real.sqrt (meanSq N x))⁻¹

/-- The gradient of the norm at a row `x`, for the cotangent `q` of the normed row: the form with the factor in front. -/
def grad (N : ℝ) (x q : Fin n → ℝ) (j : Fin n) : ℝ :=
  scale N x * (q j - x j * scale N x * ((∑ k, q k * (x k * scale N x)) / N))

/-- What comes back through the mean square: the cotangent of every entry's square. -/
def back (N : ℝ) (x q : Fin n → ℝ) : ℝ :=
  (∑ k, x k * q k) * (-(1 / 2) * (scale N x / meanSq N x)) / N

theorem meanSq_pos {N : ℝ} (hN : 0 < N) (x : Fin n → ℝ) : 0 < meanSq N x :=
  add_pos_of_nonneg_of_pos (div_nonneg (Finset.sum_nonneg fun k _ => mul_self_nonneg _) hN.le) rmsEps_pos

/-- The factor of a row of reals, in the extended reals. -/
theorem rsqrt_meanSq {N : ℝ} (hN : 0 < N) (x : Fin n → ℝ) :
    Ideal.rsqrt (((∑ k, x k * x k) / N + rmsEps : ℝ) : EReal) = ((scale N x : ℝ) : EReal) :=
  rsqrt_real (meanSq_pos hN x)

/-- The square of the factor is the reciprocal of the mean square. -/
theorem scale_sq {N : ℝ} (hN : 0 < N) (x : Fin n → ℝ) : scale N x * scale N x * meanSq N x = 1 := by
  have h := meanSq_pos hN x
  have hs : Real.sqrt (meanSq N x) * Real.sqrt (meanSq N x) = meanSq N x := Real.mul_self_sqrt h.le
  have h0 : Real.sqrt (meanSq N x) ≠ 0 := (Real.sqrt_pos.mpr h).ne'
  unfold scale
  calc (Real.sqrt (meanSq N x))⁻¹ * (Real.sqrt (meanSq N x))⁻¹ * meanSq N x
      = (Real.sqrt (meanSq N x))⁻¹ * (Real.sqrt (meanSq N x))⁻¹
          * (Real.sqrt (meanSq N x) * Real.sqrt (meanSq N x)) := by rw [hs]
    _ = 1 := by field_simp

/-- The gradient term by term: the scaled cotangent and the two halves of the square's part. -/
theorem grad_eq {N : ℝ} (hN : 0 < N) (x q : Fin n → ℝ) (j : Fin n) :
    q j * scale N x + x j * back N x q + back N x q * x j = grad N x q j := by
  have h := scale_sq hN x
  have hm := (meanSq_pos hN x).ne'
  have hs : ∑ k, q k * (x k * scale N x) = (∑ k, x k * q k) * scale N x := by
    rw [Finset.sum_mul]; exact Finset.sum_congr rfl fun k _ => by ring
  unfold grad back
  rw [hs]
  have hd : scale N x / meanSq N x = scale N x * scale N x * scale N x := by
    rw [div_eq_iff hm]; linear_combination (-scale N x) * h
  rw [hd]; ring

end Cert.NormRow

end
-- ==== Proof.Rows.lean ====
/- The rows a grid point is on: point `t` of sixteen holds rows `256 t … 256 t + 255` of an array of 4096 rows, point `t` of eight rows `512 t … 512 t + 511`. -/
module

public import proofs.«01_k».proof.Proof.Lift
public import Idealize.ShloMosaic.Lib.Pipeline.ValueKit

@[expose] public section

noncomputable section

namespace Cert.Rows

open Idealize.ShloMosaic

/-- The row of the whole array that is row `r` of point `t`'s block. -/
def rowAt {t : ℕ} (ht : t < 16) (r : Fin 256) : Fin 4096 := ⟨t * 256 + r.val, by omega⟩

theorem rowAt_val {t : ℕ} (ht : t < 16) (r : Fin 256) : (rowAt ht r).val = t * 256 + r.val := rfl

/-- The same for eight points of 512 rows each. -/
def rowAt8 {t : ℕ} (ht : t < 8) (r : Fin 512) : Fin 4096 := ⟨t * 512 + r.val, by omega⟩

theorem rowAt8_val {t : ℕ} (ht : t < 8) (r : Fin 512) : (rowAt8 ht r).val = t * 512 + r.val := rfl

/-- Point `t`'s block of rows of an array of `n` columns. -/
def rows {α : Type*} {n : ℕ} {t : ℕ} (ht : t < 16) (X : (⟨2, ![4096, n]⟩ : Shape).Idx → α) :
    (⟨2, ![256, n]⟩ : Shape).Idx → α :=
  fun y => X (ix2 (rowAt ht (y 0)) (y 1))

/-- A sum over the points and the rows of each is the sum over the rows. -/
theorem sum_rows {M : Type*} [AddCommMonoid M] {N : ℕ} (hN : N = 16) (f : Fin 4096 → M) :
    ∑ t : Fin N, ∑ r : Fin 256, f (rowAt (lt_of_lt_of_eq t.isLt hN) r) = ∑ i, f i := by
  subst hN
  exact Fin.sum_mul_add_congr fun t r h => rfl

end Cert.Rows

end
-- ==== Proof.Mixer.Math.lean ====
/-
  THE MIXER'S GRADIENT OVER THE REALS: the arguments and what the gradient is, row by row and column by column. Both programs are read into these functions.

  A row has five parts of 1024 columns. The first two give the spatial branch: the activation of the second, normalised over its columns, is mixed over the rows of its frame of
  128 rows, head by head, and multiplied into the activation of the first. The other three give the convolution branch: the third times the causal convolution, over three rows,
  of the product of the last two. Each branch then has a norm of its own.
-/
module

public import proofs.«01_k».proof.Proof.NormRow
public import proofs.«01_k».proof.Proof.Rows

@[expose] public section

noncomputable section

namespace Cert.Mixer

open Idealize.ShloMosaic Cert.NormRow Cert.Rows Cert.Lift

/-! ## The activation -/

/-- The first constant of the activation's inner polynomial: the rational its word stands for. -/
def geluC : ℝ := 6693141 / 8388608
/-- The second. -/
def geluK : ℝ := 12003091 / 268435456

/-- The hyperbolic tangent in the activation. -/
def geluT (x : ℝ) : ℝ := Real.tanh (x * (geluC + geluC * geluK * (x * x)))
/-- The activation. -/
def gelu (x : ℝ) : ℝ := 1 / 2 * x + 1 / 2 * x * geluT x
/-- Its derivative. -/
def geluD (x : ℝ) : ℝ :=
  (1 / 2 + 1 / 2 * geluT x) + 1 / 2 * x * (1 - geluT x * geluT x) * (geluC + 3 * geluC * geluK * (x * x))

/-! ## A row of the layer norm -/

/-- What the layer norm adds to the variance. -/
def lnEps : ℝ := 2748779 / 274877906944
theorem lnEps_pos : 0 < lnEps := by unfold lnEps; norm_num

/-- A row without its mean. -/
def lnXc (v : Fin 1024 → ℝ) (j : Fin 1024) : ℝ := v j - (∑ k, v k) / 1024
/-- The row's variance, with the small constant. -/
def lnVar (v : Fin 1024 → ℝ) : ℝ := (∑ k, lnXc v k * lnXc v k) / 1024 + lnEps
/-- The row's scale. -/
def lnScale (v : Fin 1024 → ℝ) : ℝ := (Real.sqrt (lnVar v))⁻¹
/-- The row, normalised. -/
def lnHat (v : Fin 1024 → ℝ) (j : Fin 1024) : ℝ := lnXc v j * lnScale v
/-- The gradient of the normalised row, for its cotangent `q`. -/
def lnGrad (v q : Fin 1024 → ℝ) (j : Fin 1024) : ℝ :=
  lnScale v * ((q j - (∑ k, q k) / 1024) - lnHat v j * ((∑ k, q k * lnHat v k) / 1024))

theorem lnVar_pos (v : Fin 1024 → ℝ) : 0 < lnVar v :=
  add_pos_of_nonneg_of_pos (div_nonneg (Finset.sum_nonneg fun k _ => mul_self_nonneg _) (by norm_num)) lnEps_pos

/-- The scale of a row of reals, in the extended reals. -/
theorem rsqrt_lnVar (v : Fin 1024 → ℝ) :
    Ideal.rsqrt (((∑ k, lnXc v k * lnXc v k) / 1024 + lnEps : ℝ) : EReal) = ((lnScale v : ℝ) : EReal) :=
  rsqrt_real (lnVar_pos v)

/-! ## Rows and columns -/

/-- Column `j` of part `k` of a row. -/
def col (k : Fin 5) (j : Fin 1024) : Fin 5120 := ⟨1024 * k.val + j.val, by omega⟩
/-- Column `j` of half `k` of a row of the output. -/
def half (k : Fin 2) (j : Fin 1024) : Fin 2048 := ⟨1024 * k.val + j.val, by omega⟩
/-- The head a column belongs to. -/
def head (j : Fin 1024) : Fin 8 := ⟨j.val / 128, by omega⟩
/-- Column `d` of head `h`. -/
def headCol (h : Fin 8) (d : Fin 128) : Fin 1024 := ⟨128 * h.val + d.val, by omega⟩
/-- A row's place in its frame. -/
def pos (i : Fin 4096) : Fin 128 := ⟨i.val % 128, by omega⟩
/-- Row `q` of frame `f`. -/
def frameRow (f : Fin 32) (q : Fin 128) : Fin 4096 := ⟨128 * f.val + q.val, by omega⟩
/-- The frame a row belongs to. -/
def frame (i : Fin 4096) : Fin 32 := ⟨i.val / 128, by omega⟩

theorem col_val (k : Fin 5) (j : Fin 1024) : (col k j).val = 1024 * k.val + j.val := rfl
theorem half_val (k : Fin 2) (j : Fin 1024) : (half k j).val = 1024 * k.val + j.val := rfl
theorem head_val (j : Fin 1024) : (head j).val = j.val / 128 := rfl
theorem headCol_val (h : Fin 8) (d : Fin 128) : (headCol h d).val = 128 * h.val + d.val := rfl
theorem pos_val (i : Fin 4096) : (pos i).val = i.val % 128 := rfl
theorem frameRow_val (f : Fin 32) (q : Fin 128) : (frameRow f q).val = 128 * f.val + q.val := rfl
theorem frame_val (i : Fin 4096) : (frame i).val = i.val / 128 := rfl

/-- The rows `k` earlier, nothing before the first. -/
def before (P : Fin 4096 → Fin 1024 → ℝ) (k : ℕ) (i : Fin 4096) (j : Fin 1024) : ℝ :=
  if k ≤ i.val then P ⟨i.val - k, by omega⟩ j else 0
/-- The rows `k` later, nothing past the last. -/
def after (P : Fin 4096 → Fin 1024 → ℝ) (k : ℕ) (i : Fin 4096) (j : Fin 1024) : ℝ :=
  if h : i.val + k < 4096 then P ⟨i.val + k, h⟩ j else 0

/-! ## The arguments and the gradient -/

/-- The arguments: the rows, the incoming gradient, the layer norm's gains and shifts, the spatial weights and biases, the taps and the norms' gains. -/
structure Args where
  z : Fin 4096 → Fin 5120 → ℝ
  dy : Fin 4096 → Fin 2048 → ℝ
  lnG : Fin 1024 → ℝ
  lnB : Fin 1024 → ℝ
  w : Fin 8 → Fin 128 → Fin 128 → ℝ
  b : Fin 8 → Fin 128 → ℝ
  cw : Fin 3 → Fin 1024 → ℝ
  gn : Fin 2048 → ℝ

namespace Args

variable (A : Args)

/-- The first gate. -/
def u (i : Fin 4096) (j : Fin 1024) : ℝ := gelu (A.z i (col 0 j))
/-- The second gate. -/
def v (i : Fin 4096) (j : Fin 1024) : ℝ := gelu (A.z i (col 1 j))
/-- The second gate, normalised, with its gains and shifts. -/
def vn (i : Fin 4096) (j : Fin 1024) : ℝ := lnHat (A.v i) j * A.lnG j + A.lnB j
/-- The spatial weights: a row sees the rows of its chunk of 64 and of those before. -/
def wm (h : Fin 8) (p q : Fin 128) : ℝ := if q.val / 64 ≤ p.val / 64 then A.w h p q else 0
/-- The mixed gate. -/
def mixed (i : Fin 4096) (j : Fin 1024) : ℝ :=
  ∑ q, A.wm (head j) (pos i) q * A.vn (frameRow (frame i) q) j + A.b (head j) (pos i)
/-- The spatial branch. -/
def ya (i : Fin 4096) (j : Fin 1024) : ℝ := A.u i j * A.mixed i j
/-- What comes back to the spatial branch's normed rows. -/
def qa (i : Fin 4096) (j : Fin 1024) : ℝ := A.dy i (half 0 j) * A.gn (half 0 j)
/-- The spatial branch's gradient. -/
def dya (i : Fin 4096) (j : Fin 1024) : ℝ := grad 1024 (A.ya i) (A.qa i) j
/-- The mixed gate's gradient. -/
def dmix (i : Fin 4096) (j : Fin 1024) : ℝ := A.dya i j * A.u i j
/-- The normalised gate's gradient. -/
def dvn (i : Fin 4096) (j : Fin 1024) : ℝ := ∑ p, A.wm (head j) p (pos i) * A.dmix (frameRow (frame i) p) j
/-- The second gate's gradient. -/
def dv (i : Fin 4096) (j : Fin 1024) : ℝ := lnGrad (A.v i) (fun k => A.dvn i k * A.lnG k) j

/-- The convolution branch's gate. -/
def zb (i : Fin 4096) (j : Fin 1024) : ℝ := A.z i (col 2 j)
/-- What is convolved. -/
def pr (i : Fin 4096) (j : Fin 1024) : ℝ := A.z i (col 3 j) * A.z i (col 4 j)
/-- The convolution. -/
def cv (i : Fin 4096) (j : Fin 1024) : ℝ := A.cw 2 j * A.pr i j + A.cw 1 j * before A.pr 1 i j + A.cw 0 j * before A.pr 2 i j
/-- The convolution branch. -/
def yb (i : Fin 4096) (j : Fin 1024) : ℝ := A.zb i j * A.cv i j
/-- What comes back to the convolution branch's normed rows. -/
def qb (i : Fin 4096) (j : Fin 1024) : ℝ := A.dy i (half 1 j) * A.gn (half 1 j)
/-- The convolution branch's gradient. -/
def dyb (i : Fin 4096) (j : Fin 1024) : ℝ := grad 1024 (A.yb i) (A.qb i) j
/-- The convolution's gradient. -/
def dcv (i : Fin 4096) (j : Fin 1024) : ℝ := A.dyb i j * A.zb i j
/-- The gradient of what is convolved. -/
def dp (i : Fin 4096) (j : Fin 1024) : ℝ := A.cw 2 j * A.dcv i j + A.cw 1 j * after A.dcv 1 i j + A.cw 0 j * after A.dcv 2 i j

/-- The gradient of the rows, part by part. -/
def dz (i : Fin 4096) : Fin 5 → Fin 1024 → ℝ :=
  ![fun j => A.dya i j * A.mixed i j * geluD (A.z i (col 0 j)), fun j => A.dv i j * geluD (A.z i (col 1 j)),
    fun j => A.dyb i j * A.cv i j, fun j => A.dp i j * A.z i (col 4 j), fun j => A.dp i j * A.z i (col 3 j)]
/-- The part of the norms' gains' gradient a row of the spatial branch adds. -/
def gnTermA (i : Fin 4096) (j : Fin 1024) : ℝ := A.dy i (half 0 j) * (A.ya i j * scale 1024 (A.ya i))
/-- The part a row of the convolution branch adds. -/
def gnTermB (i : Fin 4096) (j : Fin 1024) : ℝ := A.dy i (half 1 j) * (A.yb i j * scale 1024 (A.yb i))
/-- The gradient of the norms' gains, half by half. -/
def dgn : Fin 2 → Fin 1024 → ℝ := ![fun j => ∑ i, A.gnTermA i j, fun j => ∑ i, A.gnTermB i j]
/-- The gradient of the layer norm's gains. -/
def dlng (j : Fin 1024) : ℝ := ∑ i, A.dvn i j * lnHat (A.v i) j
/-- The gradient of the layer norm's shifts. -/
def dlnb (j : Fin 1024) : ℝ := ∑ i, A.dvn i j
/-- The gradient of the spatial weights. -/
def dws (h : Fin 8) (p q : Fin 128) : ℝ :=
  if q.val / 64 ≤ p.val / 64 then ∑ f, ∑ d, A.dmix (frameRow f p) (headCol h d) * A.vn (frameRow f q) (headCol h d) else 0
/-- The gradient of the spatial biases. -/
def dbs (h : Fin 8) (p : Fin 128) : ℝ := ∑ f, ∑ d, A.dmix (frameRow f p) (headCol h d)
/-- The gradient of the taps. -/
def dcw (k : Fin 3) (j : Fin 1024) : ℝ := ∑ i, A.dcv i j * before A.pr (2 - k.val) i j

end Args

/-! ## A point's rows with 16 rows on either side -/

/-- The row of the array that row `e` of point `t`'s extended block holds, as a number. -/
def extNat (t e : ℕ) : ℕ :=
  if e < 16 then (16 * t - 1) * 16 + e else if e < 272 then 256 * t + (e - 16) else min ((t + 1) * 16) 255 * 16 + (e - 272)

theorem extNat_lt {t e : ℕ} (ht : t < 16) (he : e < 288) : extNat t e < 4096 := by
  unfold extNat; split_ifs <;> omega

/-- The row of the array that row `e` of a point's extended block holds. -/
def extRow {t : ℕ} (ht : t < 16) (e : Fin 288) : Fin 4096 := ⟨extNat t e.val, extNat_lt ht e.isLt⟩

theorem extNat_eq {t e : ℕ} (ht : t < 16) (h0 : 14 ≤ e) (h1 : e < 272 ∨ t < 15) (h2 : 16 ≤ e ∨ t ≠ 0) (h3 : e < 288) :
    extNat t e = 256 * t + e - 16 := by
  unfold extNat; split_ifs <;> omega

/-- The row `k` earlier in the extended block, going round. -/
def back (k : ℕ) (e : Fin 288) : Fin 288 := ⟨(e.val + 288 - k) % 288, by omega⟩
/-- Row `r` of the block in the extended block. -/
def centre (r : Fin 256) : Fin 288 := ⟨16 + r.val, by omega⟩

namespace Args

variable (A : Args) {t : ℕ} (ht : t < 16)

/-- What is convolved, on the extended block: nothing before the first row. -/
def prE (e : Fin 288) (j : Fin 1024) : ℝ := if e.val < 16 ∧ t = 0 then 0 else A.pr (extRow ht e) j
/-- The convolution there, its rows going round. -/
def cvE (e : Fin 288) (j : Fin 1024) : ℝ :=
  A.cw 2 j * A.prE ht e j + A.cw 1 j * A.prE ht (back 1 e) j + A.cw 0 j * A.prE ht (back 2 e) j
/-- The convolution branch there. -/
def ybE (e : Fin 288) (j : Fin 1024) : ℝ := A.zb (extRow ht e) j * A.cvE ht e j
/-- The incoming gradient there: nothing before the block and past the last row. -/
def dyE (e : Fin 288) (j : Fin 1024) : ℝ :=
  if e.val < 16 then 0 else if e.val < 272 ∨ t < 15 then A.dy (extRow ht e) (half 1 j) else 0
/-- The convolution branch's gradient there. -/
def dybE (e : Fin 288) (j : Fin 1024) : ℝ := grad 1024 (A.ybE ht e) (fun k => A.dyE ht e k * A.gn (half 1 k)) j
/-- The convolution's gradient there. -/
def dcvE (e : Fin 288) (j : Fin 1024) : ℝ := A.dybE ht e j * A.zb (extRow ht e) j
/-- The gradient of what is convolved there, its rows going round. -/
def dpE (e : Fin 288) (j : Fin 1024) : ℝ :=
  A.cw 2 j * A.dcvE ht e j + A.cw 1 j * A.dcvE ht (back 287 e) j + A.cw 0 j * A.dcvE ht (back 286 e) j

variable {e : Fin 288}

/-- From two rows before the block on, but not before the first row of the array, and as long as the array goes on, the extended block holds the rows in order. -/
theorem extRow_val' (h0 : 14 ≤ e.val) (h1 : e.val < 272 ∨ t < 15) (h2 : 16 ≤ e.val ∨ t ≠ 0) : (extRow ht e).val = 256 * t + e.val - 16 :=
  extNat_eq ht h0 h1 h2 e.isLt

theorem extRow_val (h0 : 16 ≤ e.val) (h1 : e.val < 272 ∨ t < 15) : (extRow ht e).val = 256 * t + e.val - 16 :=
  extRow_val' ht (by omega) h1 (.inl h0)

theorem back_val {k : ℕ} (hk : k ≤ e.val) (h0 : 0 < k) : (back k e).val = e.val - k := by
  have := e.isLt
  unfold back
  rw [Fin.val_mk]; omega

/-- What is convolved, `k` rows before a row of the block. -/
theorem prE_back {k : ℕ} (hk : k ≤ 2) (hk0 : 0 < k) (h0 : 16 ≤ e.val) (h1 : e.val < 272 ∨ t < 15) (j : Fin 1024) :
    A.prE ht (back k e) j = before A.pr k (extRow ht e) j := by
  have hb := back_val (e := e) (k := k) (by omega) hk0
  have hr := extRow_val ht h0 h1
  unfold prE before
  by_cases hz : (back k e).val < 16 ∧ t = 0
  · rw [if_pos hz, if_neg (by omega)]
  · rw [if_neg hz, if_pos (by omega)]
    refine congrArg (fun i => A.pr i j) (Fin.ext ?_)
    exact (extRow_val' ht (by omega) (by omega) (by omega)).trans (show _ = (extRow ht e).val - k by omega)

theorem prE_eq (h0 : 16 ≤ e.val) (j : Fin 1024) : A.prE ht e j = A.pr (extRow ht e) j := if_neg (by omega)

/-- The convolution at a row of the block, and at the rows after it while the array goes on. -/
theorem cvE_eq (h0 : 16 ≤ e.val) (h1 : e.val < 272 ∨ t < 15) (j : Fin 1024) : A.cvE ht e j = A.cv (extRow ht e) j := by
  rw [cvE, cv, prE_eq A ht h0, prE_back A ht (by norm_num) (by norm_num) h0 h1, prE_back A ht (by norm_num) (by norm_num) h0 h1]

theorem ybE_eq (h0 : 16 ≤ e.val) (h1 : e.val < 272 ∨ t < 15) : A.ybE ht e = A.yb (extRow ht e) :=
  funext fun j => by rw [ybE, yb, cvE_eq A ht h0 h1]

theorem dybE_eq (h0 : 16 ≤ e.val) (h1 : e.val < 272 ∨ t < 15) (j : Fin 1024) : A.dybE ht e j = A.dyb (extRow ht e) j := by
  have hq : (fun k => A.dyE ht e k * A.gn (half 1 k)) = A.qb (extRow ht e) := funext fun k => by
    rw [dyE, if_neg (by omega), if_pos h1, qb]
  rw [dybE, dyb, ybE_eq A ht h0 h1, hq]

/-- Past the last row of the array nothing comes back. -/
theorem dybE_zero (h0 : 272 ≤ e.val) (h1 : ¬t < 15) (j : Fin 1024) : A.dybE ht e j = 0 := by
  have hq : ∀ k, A.dyE ht e k = 0 := fun k => by rw [dyE, if_neg (by omega), if_neg (by omega)]
  simp only [dybE, grad, hq, zero_mul, Finset.sum_const_zero, zero_div, mul_zero, sub_zero]

theorem dcvE_eq (h0 : 16 ≤ e.val) (h1 : e.val < 272 ∨ t < 15) (j : Fin 1024) : A.dcvE ht e j = A.dcv (extRow ht e) j := by
  rw [dcvE, dcv, dybE_eq A ht h0 h1, zb]

/-- The convolution's gradient, `k` rows after a row of the block. -/
theorem dcvE_after {k : ℕ} (hk : k ≤ 2) (hk0 : 0 < k) (h0 : 16 ≤ e.val) (h1 : e.val < 272) (j : Fin 1024) :
    A.dcvE ht (back (288 - k) e) j = after A.dcv k (extRow ht e) j := by
  have hb : (back (288 - k) e).val = e.val + k := by unfold back; rw [Fin.val_mk]; omega
  have hr := extRow_val ht h0 (.inl h1)
  unfold after
  split_ifs with h
  · rw [dcvE_eq A ht (by omega) (by omega)]
    refine congrArg (fun i => A.dcv i j) (Fin.ext ?_)
    exact (extRow_val ht (by omega) (by omega)).trans (show _ = (extRow ht e).val + k by omega)
  · rw [dcvE, dybE_zero A ht (by omega) (by omega), zero_mul]

theorem dpE_eq (h0 : 16 ≤ e.val) (h1 : e.val < 272) (j : Fin 1024) : A.dpE ht e j = A.dp (extRow ht e) j := by
  rw [dpE, dp, dcvE_eq A ht h0 (.inl h1), dcvE_after A ht (k := 1) (by norm_num) (by norm_num) h0 h1,
    dcvE_after A ht (k := 2) (by norm_num) (by norm_num) h0 h1]

/-- The block's own rows. -/
theorem extRow_centre (r : Fin 256) : extRow ht (centre r) = rowAt ht r := by
  have hr := r.isLt
  have hc : (centre r).val = 16 + r.val := rfl
  refine Fin.ext ?_
  rw [extRow_val ht (by omega) (by omega), rowAt_val, hc]; omega

end Args

end Cert.Mixer

end
-- ==== Proof.Arrays.lean ====
/- Arrays of reals among the extended reals, given by a function of their indices. -/
module

public import proofs.«01_k».proof.Proof.Lift
public import Idealize.ShloMosaic.Lib.Pipeline.ValueKit

@[expose] public section

noncomputable section

namespace Cert.Lift

open Idealize.ShloMosaic

/-- An array of reals of one axis. -/
def lift₁ {n : ℕ} (f : Fin n → ℝ) : (⟨1, ![n]⟩ : Shape).Idx → EReal := fun y => ((f (y 0) : ℝ) : EReal)
/-- An array of reals of two axes, in the extended reals. -/
def lift₂ {m n : ℕ} (f : Fin m → Fin n → ℝ) : (⟨2, ![m, n]⟩ : Shape).Idx → EReal := fun y => ((f (y 0) (y 1) : ℝ) : EReal)
/-- An array of reals of three axes. -/
def lift₃ {l m n : ℕ} (f : Fin l → Fin m → Fin n → ℝ) : (⟨3, ![l, m, n]⟩ : Shape).Idx → EReal := fun y => ((f (y 0) (y 1) (y 2) : ℝ) : EReal)

/-- A block loaded of an array of reals. -/
theorem ld_lift₂ {m n m' n' o₀ o₁ : ℕ} (inb : ∀ a, (![o₀, o₁] : Fin 2 → ℕ) a + (![m', n'] : Fin 2 → ℕ) a ≤ (⟨2, ![m, n]⟩ : Shape).size a)
    (f : Fin m → Fin n → ℝ) (ρ : Fin m' → Fin m) (κ : Fin n' → Fin n) (hρ : ∀ r, (ρ r).val = o₀ + r.val) (hκ : ∀ j, (κ j).val = o₁ + j.val) :
    (fun x => lift₂ f ((Rect.unit (s := ⟨2, ![m, n]⟩) ![o₀, o₁] ![m', n'] inb).idx x)) = lift₂ fun r j => f (ρ r) (κ j) := by
  funext x
  refine congrArg₂ (fun i j => ((f i j : ℝ) : EReal)) (Fin.ext ?_) (Fin.ext ?_)
  · exact (congrArg (o₀ + ·) (Nat.one_mul _)).trans (hρ _).symm
  · exact (congrArg (o₁ + ·) (Nat.one_mul _)).trans (hκ _).symm

theorem ix1_eta {a : ℕ} (y : (⟨1, ![a]⟩ : Shape).Idx) : ix1 (show Fin a from y 0) = y := funext fun i => match i with
  | ⟨0, _⟩ => rfl
theorem lift₁_eta {a : ℕ} (X : (⟨1, ![a]⟩ : Shape).Idx → ℝ) : (fun y => (X y : EReal)) = lift₁ fun i => X (ix1 i) :=
  funext fun y => congrArg (fun y => (X y : EReal)) (ix1_eta y).symm
theorem lift₂_eta {a b : ℕ} (X : (⟨2, ![a, b]⟩ : Shape).Idx → ℝ) : (fun y => (X y : EReal)) = lift₂ fun i j => X (ix2 i j) :=
  funext fun y => congrArg (fun y => (X y : EReal)) (ix2_eta y).symm
theorem lift₃_eta {a b c : ℕ} (X : (⟨3, ![a, b, c]⟩ : Shape).Idx → ℝ) : (fun y => (X y : EReal)) = lift₃ fun i j k => X (ix3 i j k) :=
  funext fun y => congrArg (fun y => (X y : EReal)) (ix3_eta y).symm

end Cert.Lift

end
-- ==== Proof.Mixer.Gate.lean ====
/-
  THE GATES OF A POINT'S BLOCK OVER THE REALS: the two activations and their derivatives, and the layer norm of the second gate.
-/
module

public import proofs.«01_k».proof.Proof.Mixer.Block
public import proofs.«01_k».proof.Proof.Mixer.Math
public import proofs.«01_k».proof.Proof.Arrays

@[expose] public section

set_option maxRecDepth 16384

noncomputable section

namespace Cert.Mixer

open Cert.KernelIdeal Cert.KernelIdeal.Gen
open Idealize.ShloMosaic Idealize.ShloMosaic.TcCoe Idealize.SL.Sem
open Cert.Lift Cert.NormRow Cert.Rows

/-! ## The constants' words -/

theorem word_half : Ideal.ofBits .f32 0x3F000000#32 = ((1 / 2 : ℝ) : EReal) := by
  simp [Ideal.ofBits, Ideal.ieee, -EReal.coe_mul]; norm_num
theorem word_one : Ideal.ofBits .f32 0x3F800000#32 = ((1 : ℝ) : EReal) := by
  simp [Ideal.ofBits, Ideal.ieee, -EReal.coe_mul]; norm_num
theorem word_three : Ideal.ofBits .f32 0x40400000#32 = ((3 : ℝ) : EReal) := by
  simp [Ideal.ofBits, Ideal.ieee, -EReal.coe_mul]; norm_num
theorem word_1024 : Ideal.ofBits .f32 0x44800000#32 = ((1024 : ℝ) : EReal) := by
  simp [Ideal.ofBits, Ideal.ieee, -EReal.coe_mul]; norm_num
theorem word_geluC : Ideal.ofBits .f32 0x3F4C422A#32 = ((geluC : ℝ) : EReal) := by
  simp [Ideal.ofBits, Ideal.ieee, geluC, -EReal.coe_mul]; norm_num
theorem word_geluK : Ideal.ofBits .f32 0x3D372713#32 = ((geluK : ℝ) : EReal) := by
  simp [Ideal.ofBits, Ideal.ieee, geluK, -EReal.coe_mul]; norm_num
theorem word_lnEps : Ideal.ofBits .f32 0x3727C5AC#32 = ((lnEps : ℝ) : EReal) := by
  simp [Ideal.ofBits, Ideal.ieee, lnEps, -EReal.coe_mul]; norm_num
/-- The product of the activation's two constants, which the kernel names. -/
theorem named_ck : Named.named (F := Ideal) Cert.KernelIdeal.κ "gelu_ck" (φ := .f32) 0x3D122279#32 = ((geluC * geluK : ℝ) : EReal) :=
  (IdealRules.named_const.ideal_named_scalar _ _ _ _ rfl).trans (congrArg (fun r : ℝ => (r : EReal)) (by unfold geluC geluK; norm_num))
/-- Three times the product, which the kernel names. -/
theorem named_3ck : Named.named (F := Ideal) Cert.KernelIdeal.κ "gelu_3ck" (φ := .f32) 0x3DDB33B6#32 = ((3 * geluC * geluK : ℝ) : EReal) :=
  (IdealRules.named_const.ideal_named_scalar _ _ _ _ rfl).trans (congrArg (fun r : ℝ => (r : EReal)) (by unfold geluC geluK; norm_num))

theorem div_1024 (a : ℝ) : Ideal.div (a : EReal) ((1024 : ℝ) : EReal) = ((a / 1024 : ℝ) : EReal) :=
  div_real a (by norm_num)

/-! ## The blocks -/

variable (A : Args) {t : ℕ} (ht : t < 16)

/-- The point's rows. -/
def zBlk : Vec Ideal S256x5120 .bf16 := lift₂ fun r j => A.z (rowAt ht r) j

theorem zu_eq : zu (zBlk A ht) = lift₂ fun r j => A.z (rowAt ht r) (col 0 j) :=
  ld_lift₂ (m := 256) (n := 5120) (m' := 256) (n' := 1024) inb_S256x5120_S256x1024_0_0 (fun r j => A.z (rowAt ht r) j) id (col 0)
    (fun r => (Nat.zero_add _).symm) fun j => rfl
theorem zv_eq : zv (zBlk A ht) = lift₂ fun r j => A.z (rowAt ht r) (col 1 j) :=
  ld_lift₂ (m := 256) (n := 5120) (m' := 256) (n' := 1024) inb_S256x5120_S256x1024_0_1024 (fun r j => A.z (rowAt ht r) j) id (col 1)
    (fun r => (Nat.zero_add _).symm) fun j => rfl

/-- The first gate. -/
theorem gelu_eq (Z : Fin 256 → Fin 1024 → ℝ) : k0_pay13 (F := Ideal) (lift₂ Z) = lift₂ fun r j => gelu (Z r j) := by
  funext y
  idx_vars y
  pointwise [k0_pay13, k0_pay11, k0_pay10, k0_pay9, k0_pay8, lift₂]
  simp only [word_half, word_geluC, named_ck, Ideal.tanh_coe, ← EReal.coe_mul, ← EReal.coe_add]
  rfl

/-- The first gate's derivative. -/
theorem geluD_eq (Z : Fin 256 → Fin 1024 → ℝ) : k0_pay12 (F := Ideal) (lift₂ Z) = lift₂ fun r j => geluD (Z r j) := by
  funext y
  idx_vars y
  pointwise [k0_pay12, k0_pay11, k0_pay10, k0_pay9, k0_pay8, lift₂]
  simp only [word_half, word_one, word_geluC, named_ck, named_3ck, Ideal.tanh_coe, ← EReal.coe_mul, ← EReal.coe_add, ← EReal.coe_sub]
  rfl

/-- The square of the second gate's argument. -/
theorem sq_eq (Z : Fin 256 → Fin 1024 → ℝ) : k0_pay15 (F := Ideal) (lift₂ Z) = lift₂ fun r j => Z r j * Z r j := by
  funext y
  idx_vars y
  pointwise [k0_pay15, k0_pay14, lift₂]
  rfl
/-- The hyperbolic tangent in the second gate. -/
theorem geluT_eq (Z : Fin 256 → Fin 1024 → ℝ) : k0_pay16 (F := Ideal) (lift₂ Z) = lift₂ fun r j => geluT (Z r j) := by
  funext y
  idx_vars y
  pointwise [k0_pay16, k0_pay15, k0_pay14, lift₂]
  simp only [word_geluC, named_ck, Ideal.tanh_coe, ← EReal.coe_mul, ← EReal.coe_add]
  rfl
/-- Half of the second gate's argument. -/
theorem geluH_eq (Z : Fin 256 → Fin 1024 → ℝ) : k0_pay17 (F := Ideal) (lift₂ Z) = lift₂ fun r j => 1 / 2 * Z r j := by
  funext y
  idx_vars y
  pointwise [k0_pay17, k0_pay14, lift₂]
  simp only [word_half, ← EReal.coe_mul]
/-- The second gate's derivative. -/
theorem geluD_eq' (Z : Fin 256 → Fin 1024 → ℝ) :
    k0_pay18 (F := Ideal) (k0_pay15 (lift₂ Z)) (k0_pay16 (lift₂ Z)) (k0_pay17 (lift₂ Z)) = lift₂ fun r j => geluD (Z r j) := by
  rw [sq_eq, geluT_eq, geluH_eq]
  funext y
  idx_vars y
  pointwise [k0_pay18, lift₂]
  simp only [word_half, word_one, word_geluC, named_3ck, ← EReal.coe_mul, ← EReal.coe_add, ← EReal.coe_sub]
  rfl

/-- The rows' scale in the layer norm. -/
theorem rstd_eq : rstd (zBlk A ht) = lift₂ fun r _ => lnScale (A.v (rowAt ht r)) := by
  rw [rstd, zv_eq, geluT_eq, geluH_eq]
  funext y
  idx_vars y
  pointwise [k0_pay20, k0_pay19, lift₂]
  simp only [word_1024, word_lnEps, ← EReal.coe_mul, ← EReal.coe_add, ← EReal.coe_sub, sum_coe, div_1024]
  exact rsqrt_lnVar (A.v (rowAt ht y0))
/-- The second gate's rows, normalised. -/
theorem vhat_eq : vhat (zBlk A ht) = lift₂ fun r j => lnHat (A.v (rowAt ht r)) j := by
  have h := rstd_eq A ht
  rw [rstd] at h
  rw [vhat]
  funext y
  idx_vars y
  pointwise [k0_pay21]
  rw [h, zv_eq, geluT_eq, geluH_eq]
  pointwise [k0_pay19, lift₂]
  simp only [word_1024, ← EReal.coe_mul, ← EReal.coe_add, ← EReal.coe_sub, sum_coe, div_1024]
  rfl

end Cert.Mixer

end
-- ==== Proof.Mixer.Spatial.lean ====
/-
  THE SPATIAL BRANCH OF A POINT'S BLOCK OVER THE REALS, forward and backward: the mixing of the second gate over the rows of a frame, the branch's norm, and the gradients of
  both gates.
-/
module

public import proofs.«01_k».proof.Proof.Mixer.Gate
public import Idealize.ShloMosaic.Lib.Pipeline.CanonAppend

@[expose] public section

set_option maxRecDepth 16384

noncomputable section

namespace Cert.Mixer

open Cert.KernelIdeal Cert.KernelIdeal.Gen
open Idealize.ShloMosaic Idealize.ShloMosaic.TcCoe Idealize.SL.Sem
open Cert.Lift Cert.NormRow Cert.Rows

/-! ## Tiles -/

/-- Row `p` of frame `b` of a block. -/
def tileRow (b : Fin 2) (p : Fin 128) : Fin 256 := ⟨128 * b.val + p.val, by omega⟩
theorem tileRow_val (b : Fin 2) (p : Fin 128) : (tileRow b p).val = 128 * b.val + p.val := rfl

/-- A tile of an array of reals. -/
theorem tile_lift (f : Fin 256 → Fin 1024 → ℝ) (b : Fin 2) (h : Fin 8) :
    tile (e := .bf16) (lift₂ f) b h = lift₂ fun p d => f (tileRow b p) (headCol h d) :=
  ld_lift₂ (m := 256) (n := 1024) (m' := 128) (n' := 128) _ f (tileRow b) (headCol h) (fun _ => rfl) fun _ => rfl

/-- A head of a stack of squares. -/
theorem headOf_apply {e : EltTy} (X : Vec Ideal S8x128x128 e) (h : Fin 8) (p q : Fin 128) : headOf X h (ix3 0 p q) = X (ix3 h p q) :=
  congrArg X (funext fun a => Fin.ext (match a with
    | 0 => rfl
    | 1 => (Nat.zero_add _).trans (Nat.one_mul _)
    | 2 => (Nat.zero_add _).trans (Nat.one_mul _)))

/-- Tiles that agree with an array make the array. -/
theorem canon_tiles_eq (order : List (Fin 2 × Fin 8)) (hall : ∀ k, k ∈ order) (P : Fin 2 → Fin 8 → Vec Ideal S128x128 .f32)
    (f : Fin 256 → Fin 1024 → EReal) (hP : ∀ b h p d, P b h (ix2 p d) = f (tileRow b p) (headCol h d)) :
    View.canon (tiles order P) = fun y : S256x1024.Idx => f (y 0) (y 1) := by
  funext y
  rw [← List.append_nil (tiles order P)]
  refine View.canon_append_of_pieces (Val := Elt Ideal) (e := .f32) (fun y : S256x1024.Idx => f (y 0) (y 1)) [] _ (fun p hp x => ?_) y ?_
  · obtain ⟨k, -, rfl⟩ := List.mem_map.mp hp
    refine (congrArg (P k.1 k.2) (ix2_eta x).symm).trans ((hP k.1 k.2 _ _).trans ?_)
    refine congrArg₂ f (Fin.ext ?_) (Fin.ext ?_)
    · exact congrArg (128 * k.1.val + ·) (Nat.one_mul _).symm
    · exact congrArg (128 * k.2.val + ·) (Nat.one_mul _).symm
  · idx_vars y
    refine ⟨_, List.mem_map.mpr ⟨(⟨y0.val / 128, by omega⟩, ⟨y1.val / 128, by omega⟩), hall _, rfl⟩, ?_⟩
    refine (Rect.mem_set_unit (inb := tile_inb _)).mpr fun a => ?_
    match a with
    | 0 => exact ⟨Nat.mul_div_le _ _, Nat.lt_mul_div_succ y0.val (by norm_num)⟩
    | 1 => exact ⟨Nat.mul_div_le _ _, Nat.lt_mul_div_succ y1.val (by norm_num)⟩

/-- Tiles that agree with an array of reals make the array. -/
theorem canon_tiles_lift (order : List (Fin 2 × Fin 8)) (hall : ∀ k, k ∈ order) (P : Fin 2 → Fin 8 → Vec Ideal S128x128 .f32)
    (f : Fin 256 → Fin 1024 → ℝ) (hP : ∀ b h, P b h = lift₂ fun p d => f (tileRow b p) (headCol h d)) :
    View.canon (tiles order P) = lift₂ f :=
  canon_tiles_eq order hall P (fun i j => ((f i j : ℝ) : EReal)) fun b h p d => congrFun (hP b h) (ix2 p d)

variable (A : Args) {t : ℕ} (ht : t < 16)

/-- A row of reals, as a block of one row. -/
def rowBlk {n : ℕ} (g : Fin n → ℝ) : (⟨2, ![1, n]⟩ : Shape).Idx → EReal := lift₂ fun _ j => g j
/-- The spatial biases, one per row, along every column. -/
def biasBlk : Vec Ideal S8x128x128 .f32 := lift₃ fun h p _ => A.b h p
/-- The spatial weights. -/
def wmBlk : Vec Ideal S8x128x128 .bf16 := lift₃ A.wm
/-- The spatial weights, each head transposed. -/
def wmtBlk : Vec Ideal S8x128x128 .bf16 := lift₃ fun h p q => A.wm h q p
/-- The point's rows of the incoming gradient. -/
def dyBlk : Vec Ideal S256x2048 .bf16 := lift₂ fun r j => A.dy (rowAt ht r) j

/-- The normalised gate. -/
theorem vn_eq : vn (zBlk A ht) (rowBlk A.lnG) (rowBlk A.lnB) = lift₂ fun r j => A.vn (rowAt ht r) j := by
  have h := vhat_eq A ht
  rw [vhat] at h
  rw [vn]
  funext y
  idx_vars y
  pointwise [k0_pay22]
  rw [h]
  pointwise [lift₂, rowBlk]
  simp only [← EReal.coe_mul, ← EReal.coe_add]
  rfl

theorem pos_tileRow (b : Fin 2) (p : Fin 128) : pos (rowAt ht (tileRow b p)) = p :=
  Fin.ext (by rw [pos_val, rowAt_val, tileRow_val]; omega)
theorem head_headCol (h : Fin 8) (d : Fin 128) : head (headCol h d) = h :=
  Fin.ext (by rw [head_val, headCol_val]; omega)
theorem frameRow_tileRow (b : Fin 2) (p q : Fin 128) : frameRow (frame (rowAt ht (tileRow b p))) q = rowAt ht (tileRow b q) :=
  Fin.ext (by rw [frameRow_val, frame_val, rowAt_val, rowAt_val, tileRow_val, tileRow_val]; omega)

/-- A tile of the mixed gate. -/
theorem mixTile_eq (b : Fin 2) (h : Fin 8) :
    mixTile (zBlk A ht) (rowBlk A.lnG) (rowBlk A.lnB) (wmBlk A) (biasBlk A) b h
      = lift₂ fun p d => A.mixed (rowAt ht (tileRow b p)) (headCol h d) := by
  rw [mixTile, vn_eq, tile_lift]
  funext y
  idx_vars y
  pointwise [k0_pay23]
  simp only [headOf_apply]
  pointwise [wmBlk, biasBlk, lift₂, lift₃]
  simp only [← EReal.coe_mul, sum_coe, ← EReal.coe_add, Args.mixed, head_headCol, pos_tileRow, frameRow_tileRow]

/-- The mixed gate. -/
theorem mixed_eq : mixed (zBlk A ht) (rowBlk A.lnG) (rowBlk A.lnB) (wmBlk A) (biasBlk A) = lift₂ fun r j => A.mixed (rowAt ht r) j :=
  canon_tiles_lift mixOrder (by decide) _ _ (mixTile_eq A ht)

/-- The spatial branch. -/
theorem ya_eq : ya (zBlk A ht) (rowBlk A.lnG) (rowBlk A.lnB) (wmBlk A) (biasBlk A) = lift₂ fun r j => A.ya (rowAt ht r) j := by
  rw [ya, mixed_eq, zu_eq, gelu_eq]
  funext y
  idx_vars y
  pointwise [k0_pay44, lift₂]
  simp only [← EReal.coe_mul]
  rfl

/-- The sums of its rows' squares. -/
theorem yaSq_eq : yaSq (zBlk A ht) (rowBlk A.lnG) (rowBlk A.lnB) (wmBlk A) (biasBlk A)
      = fun y => ((∑ k, A.ya (rowAt ht (y 0)) k * A.ya (rowAt ht (y 0)) k : ℝ) : EReal) := by
  have h := ya_eq A ht
  rw [ya] at h
  rw [yaSq]
  funext y
  idx_vars y
  pointwise [k0_pay45]
  rw [h]
  pointwise [lift₂]
  simp only [← EReal.coe_mul, sum_coe]

theorem dyA_eq : dyA (dyBlk A ht) = lift₂ fun r j => A.dy (rowAt ht r) (half 0 j) :=
  ld_lift₂ (m := 256) (n := 2048) (m' := 256) (n' := 1024) inb_S256x2048_S256x1024_0_0 (fun r j => A.dy (rowAt ht r) j) id (half 0)
    (fun r => (Nat.zero_add _).symm) fun j => rfl
theorem gnA_eq : gnA (rowBlk A.gn) = rowBlk fun j => A.gn (half 0 j) :=
  ld_lift₂ (m := 1) (n := 2048) (m' := 1) (n' := 1024) inb_S1x2048_S1x1024_0_0 (fun _ j => A.gn j) id (half 0)
    (fun r => (Nat.zero_add _).symm) fun j => rfl

/-- The spatial branch's norm's gradient, from the branch, its squares, the incoming gradient and the gains. -/
theorem dya_eq :
    k0_pay50 (F := Ideal) (lift₂ fun r j => A.ya (rowAt ht r) j)
        (fun y => ((∑ k, A.ya (rowAt ht (y 0)) k * A.ya (rowAt ht (y 0)) k : ℝ) : EReal))
        (lift₂ fun r j => A.dy (rowAt ht r) (half 0 j)) (rowBlk fun j => A.gn (half 0 j))
      = lift₂ fun r j => A.dya (rowAt ht r) j := by
  funext y
  idx_vars y
  pointwise [k0_pay50, k0_pay48, k0_pay47, k0_pay46, lift₂, rowBlk]
  simp only [word_1024, word_rmsEps, ← EReal.coe_mul, sum_coe, div_1024, ← EReal.coe_add, ← EReal.coe_sub, rsqrt_meanSq (show (0 : ℝ) < 1024 by norm_num)]
  rfl

/-- The gradient of the first columns. -/
theorem dzU_eq : dzU (zBlk A ht) (dyBlk A ht) (rowBlk A.lnG) (rowBlk A.lnB) (wmBlk A) (biasBlk A) (rowBlk A.gn)
      = lift₂ fun r j => A.dz (rowAt ht r) 0 j := by
  rw [dzU, mixed_eq, ya_eq, yaSq_eq, dyA_eq, gnA_eq, zu_eq, geluD_eq]
  funext y
  idx_vars y
  pointwise [k0_pay51]
  rw [dya_eq]
  pointwise [lift₂]
  simp only [← EReal.coe_mul]
  rfl

/-- The mixed gate's gradient. -/
theorem dmix_eq : dmix (zBlk A ht) (dyBlk A ht) (rowBlk A.lnG) (rowBlk A.lnB) (wmBlk A) (biasBlk A) (rowBlk A.gn)
      = lift₂ fun r j => A.dmix (rowAt ht r) j := by
  rw [dmix, ya_eq, yaSq_eq, dyA_eq, gnA_eq, zu_eq, gelu_eq]
  funext y
  idx_vars y
  pointwise [k0_pay52]
  rw [dya_eq]
  pointwise [lift₂]
  simp only [← EReal.coe_mul]
  rfl

/-- A tile of the normalised gate's gradient. -/
theorem dvnTile_eq (b : Fin 2) (h : Fin 8) :
    dvnTile (zBlk A ht) (dyBlk A ht) (rowBlk A.lnG) (rowBlk A.lnB) (wmBlk A) (wmtBlk A) (biasBlk A) (rowBlk A.gn) b h
      = lift₂ fun p d => A.dvn (rowAt ht (tileRow b p)) (headCol h d) := by
  rw [dvnTile, dmix_eq, tile_lift]
  funext y
  idx_vars y
  pointwise [k0_pay58]
  simp only [headOf_apply]
  pointwise [wmtBlk, lift₂, lift₃]
  simp only [← EReal.coe_mul, sum_coe, Args.dvn, head_headCol, pos_tileRow, frameRow_tileRow]

/-- The normalised gate's gradient. -/
theorem dvn_eq : dvn (zBlk A ht) (dyBlk A ht) (rowBlk A.lnG) (rowBlk A.lnB) (wmBlk A) (wmtBlk A) (biasBlk A) (rowBlk A.gn)
      = lift₂ fun r j => A.dvn (rowAt ht r) j :=
  canon_tiles_lift dvnOrder (by decide) _ _ (dvnTile_eq A ht)

/-- The gradient of the second columns. -/
theorem dzV_eq : dzV (zBlk A ht) (dyBlk A ht) (rowBlk A.lnG) (rowBlk A.lnB) (wmBlk A) (wmtBlk A) (biasBlk A) (rowBlk A.gn)
      = lift₂ fun r j => A.dz (rowAt ht r) 1 j := by
  rw [dzV, dvn_eq, rstd_eq, vhat_eq, zv_eq, geluD_eq']
  funext y
  idx_vars y
  pointwise [k0_pay115, lift₂, rowBlk]
  simp only [word_1024, ← EReal.coe_mul, sum_coe, div_1024, ← EReal.coe_sub]
  rfl

/-! ## What the point adds to the accumulators -/

/-- The spatial half of the norms' gains. -/
theorem dgnA_eq (prev : Vec Ideal S1x1024 .f32) (j : Fin 1024) :
    dgnA (zBlk A ht) (dyBlk A ht) (rowBlk A.lnG) (rowBlk A.lnB) (wmBlk A) (biasBlk A) prev (ix2 0 j)
      = prev (ix2 0 j) + ((∑ r, A.gnTermA (rowAt ht r) j : ℝ) : EReal) := by
  rw [dgnA, ya_eq, yaSq_eq, dyA_eq]
  pointwise [k0_pay49, k0_pay48, k0_pay47, k0_pay46, lift₂]
  simp only [word_1024, word_rmsEps, ← EReal.coe_mul, sum_coe, div_1024, ← EReal.coe_add, rsqrt_meanSq (show (0 : ℝ) < 1024 by norm_num)]
  rfl

/-- The layer norm's shifts. -/
theorem dlnb_eq (prev : Vec Ideal S1x1024 .f32) (j : Fin 1024) :
    dlnb (zBlk A ht) (dyBlk A ht) (rowBlk A.lnG) (rowBlk A.lnB) (wmBlk A) (wmtBlk A) (biasBlk A) (rowBlk A.gn) prev (ix2 0 j)
      = prev (ix2 0 j) + ((∑ r, A.dvn (rowAt ht r) j : ℝ) : EReal) := by
  rw [dlnb, dvn_eq]
  pointwise [k0_pay113, lift₂]
  simp only [sum_coe]

/-- The layer norm's gains. -/
theorem dlng_eq (prev : Vec Ideal S1x1024 .f32) (j : Fin 1024) :
    dlng (zBlk A ht) (dyBlk A ht) (rowBlk A.lnG) (rowBlk A.lnB) (wmBlk A) (wmtBlk A) (biasBlk A) (rowBlk A.gn) prev (ix2 0 j)
      = prev (ix2 0 j) + ((∑ r, A.dvn (rowAt ht r) j * lnHat (A.v (rowAt ht r)) j : ℝ) : EReal) := by
  rw [dlng, dvn_eq, vhat_eq]
  pointwise [k0_pay114, lift₂]
  simp only [← EReal.coe_mul, sum_coe]

/-- The chunk of a column. -/
theorem chunk_col (p q : Fin 128) : k0_pay53 (ix2 p q) = BitVec.ofNat 32 (q.val / 64) := by
  pointwise [k0_pay53]
  revert q
  decide +kernel

/-- Chunks in the order of their numbers, as words. -/
theorem chunk_le : ∀ a b : Fin 2, IntOp.cmpi .sle (BitVec.ofNat 32 a.val) (BitVec.ofNat 32 b.val) = BitVec.ofBool (decide (a.val ≤ b.val)) := by decide

/-- The mask is one where the column's chunk does not follow the row's and zero elsewhere. -/
theorem mask_eq (p q : Fin 128) :
    k0_pay56 (F := Ideal) k0_pay53 k0_pay54 k0_pay55 (ix2 p q) = ((if q.val / 64 ≤ p.val / 64 then 1 else 0 : ℝ) : EReal) := by
  have hrow := chunk_col q p
  pointwise [k0_pay53] at hrow
  pointwise [k0_pay56, k0_pay54, k0_pay55]
  rw [chunk_col, hrow, chunk_le ⟨q.val / 64, by omega⟩ ⟨p.val / 64, by omega⟩]
  show (((BitVec.setWidth 32 (BitVec.ofBool (decide (q.val / 64 ≤ p.val / 64)))).toInt : ℝ) : EReal) = _
  by_cases h : q.val / 64 ≤ p.val / 64
  · simp [h]
  · simp [h]

/-- A head of the spatial weights. -/
theorem dwsTile_eq (h : Fin 8) (prev : Vec Ideal S1x128x128 .f32) (p q : Fin 128) :
    dwsTile (zBlk A ht) (dyBlk A ht) (rowBlk A.lnG) (rowBlk A.lnB) (wmBlk A) (biasBlk A) (rowBlk A.gn) h prev (ix3 0 p q)
      = prev (ix3 0 p q) + ((if q.val / 64 ≤ p.val / 64 then ∑ b, ∑ d, A.dmix (rowAt ht (tileRow b p)) (headCol h d) * A.vn (rowAt ht (tileRow b q)) (headCol h d)
          else 0 : ℝ) : EReal) := by
  rw [dwsTile, dmix_eq, vn_eq]
  simp only [tile_lift]
  pointwise [k0_pay63, k0_pay59, lift₂]
  rw [mask_eq]
  simp only [← EReal.coe_mul, sum_coe, ← EReal.coe_add, mul_ite, mul_one, mul_zero, Fin.sum_univ_two]

/-- A head of the spatial biases. -/
theorem dbsTile_eq (h : Fin 8) (prev : Vec Ideal S1x8x128 .f32) (k : Fin 8) (p : Fin 128) :
    dbsTile (zBlk A ht) (dyBlk A ht) (rowBlk A.lnG) (rowBlk A.lnB) (wmBlk A) (biasBlk A) (rowBlk A.gn) h prev (ix3 0 k p)
      = prev (ix3 0 k p) + ((∑ b, ∑ d, A.dmix (rowAt ht (tileRow b p)) (headCol h d) : ℝ) : EReal) := by
  rw [dbsTile, dmix_eq]
  simp only [tile_lift]
  pointwise [k0_pay64, k0_pay60, k0_pay57, lift₂]
  simp only [sum_coe, ← EReal.coe_add, Fin.sum_univ_two]

end Cert.Mixer

end
-- ==== Proof.Mixer.Conv.lean ====
/-
  THE CONVOLUTION BRANCH OF A POINT'S BLOCK OVER THE REALS. The point reads its rows with 16 rows on either side and rolls them; what goes round falls on rows that are dropped.
-/
module

public import proofs.«01_k».proof.Proof.Mixer.Spatial

@[expose] public section

set_option maxRecDepth 16384

noncomputable section

namespace Cert.Mixer

open Cert.KernelIdeal Cert.KernelIdeal.Gen
open Idealize.ShloMosaic Idealize.ShloMosaic.TcCoe Idealize.SL.Sem
open Cert.Lift Cert.NormRow Cert.Rows

/-! ## The extended block -/

/-- A row before the block. -/
def first (r : Fin 16) : Fin 288 := ⟨r.val, by omega⟩
/-- A row after it. -/
def last (r : Fin 16) : Fin 288 := ⟨272 + r.val, by omega⟩

/-- Three pieces that agree with an array of reals make the array. -/
theorem ext_eq (f : Fin 288 → Fin 1024 → ℝ) :
    k0_pay116 (F := Ideal) (lift₂ fun r j => f (centre r) j) (lift₂ fun r j => f (first r) j) (lift₂ fun r j => f (last r) j) = lift₂ f := by
  funext y
  idx_vars y
  pointwise [k0_pay116, lift₂]
  by_cases h0 : y0.val < 16
  · rw [dif_pos h0]
    rfl
  rw [dif_neg h0]
  by_cases h1 : y0.val - 16 < 256
  · rw [dif_pos h1]
    exact congrArg (fun i => ((f i y1 : ℝ) : EReal)) (Fin.ext (show 16 + (y0.val - 16) = y0.val by omega))
  · rw [dif_neg h1]
    exact congrArg (fun i => ((f i y1 : ℝ) : EReal)) (Fin.ext (show 272 + (y0.val - 16 - 256) = y0.val by omega))

variable (A : Args) {t : ℕ} (ht : t < 16)

/-- The rows before the point's. -/
def zpBlk : Vec Ideal S16x5120 .bf16 := lift₂ fun r j => A.z (extRow ht (first r)) j
/-- The rows after the point's. -/
def znBlk : Vec Ideal S16x5120 .bf16 := lift₂ fun r j => A.z (extRow ht (last r)) j
/-- The rows of the incoming gradient after the point's. -/
def dynBlk : Vec Ideal S16x2048 .bf16 := lift₂ fun r j => A.dy (extRow ht (last r)) j
/-- The taps, in eight rows. -/
def cwBlk : Vec Ideal S8x1024 .f32 := fun y => ((if h : (y 0).val < 3 then A.cw ⟨(y 0).val, h⟩ (y 1) else 0 : ℝ) : EReal)
/-- The point's number as a word. -/
abbrev word (t : ℕ) : BitVec 32 := BitVec.ofNat 32 t

/-- The piece of the extended block in the columns from `o` on. -/
theorem zPiece_eq {o : ℕ} (k : Fin 5) (hk : o = 1024 * k.val)
    (i0 : ∀ a, (![0, o] : Fin 2 → ℕ) a + S256x1024.size a ≤ S256x5120.size a) (i1 : ∀ a, (![0, o] : Fin 2 → ℕ) a + S16x1024.size a ≤ S16x5120.size a) :
    k0_pay116 (F := Ideal) (View.ld (zBlk A ht) (Rect.unit ![0, o] S256x1024.size i0)) (View.ld (zpBlk A ht) (Rect.unit ![0, o] S16x1024.size i1))
        (View.ld (znBlk A ht) (Rect.unit ![0, o] S16x1024.size i1))
      = lift₂ fun e j => A.z (extRow ht e) (col k j) := by
  refine Eq.trans (congr (congr (congrArg _ ?_) ?_) ?_) (ext_eq fun e j => A.z (extRow ht e) (col k j))
  · refine (ld_lift₂ (m := 256) (n := 5120) (m' := 256) (n' := 1024) i0 (fun r j => A.z (rowAt ht r) j) id (col k)
      (fun r => (Nat.zero_add _).symm) fun j => congrArg (· + j.val) hk.symm).trans ?_
    exact congrArg lift₂ (funext fun r => funext fun j => congrArg (fun i => A.z i (col k j)) (Args.extRow_centre ht r).symm)
  · exact ld_lift₂ (m := 16) (n := 5120) (m' := 16) (n' := 1024) i1 (fun r j => A.z (extRow ht (first r)) j) id (col k)
      (fun r => (Nat.zero_add _).symm) fun j => congrArg (· + j.val) hk.symm
  · exact ld_lift₂ (m := 16) (n := 5120) (m' := 16) (n' := 1024) i1 (fun r j => A.z (extRow ht (last r)) j) id (col k)
      (fun r => (Nat.zero_add _).symm) fun j => congrArg (· + j.val) hk.symm

theorem zb_eq : zb (zpBlk A ht) (zBlk A ht) (znBlk A ht) = lift₂ fun e j => A.zb (extRow ht e) j := zPiece_eq A ht 2 rfl _ _
theorem zc_eq : zc (zpBlk A ht) (zBlk A ht) (znBlk A ht) = lift₂ fun e j => A.z (extRow ht e) (col 3 j) := zPiece_eq A ht 3 rfl _ _
theorem zh_eq : zh (zpBlk A ht) (zBlk A ht) (znBlk A ht) = lift₂ fun e j => A.z (extRow ht e) (col 4 j) := zPiece_eq A ht 4 rfl _ _

/-- Whether a row stands before the sequence's first. -/
theorem lead (t : Fin 16) (e : Fin 288) :
    IntOp.andi (IntOp.cmpi .slt (BitVec.ofNat 32 e.val) 16#32) (Scalar.cmpi .eq (word t.val) 0#32) = BitVec.ofBool (decide (e.val < 16 ∧ t.val = 0)) := by
  revert t e; decide +kernel

/-- What is convolved. -/
theorem pr_eq : pr (word t) (zpBlk A ht) (zBlk A ht) (znBlk A ht) = lift₂ (A.prE ht) := by
  have hc := zc_eq A ht
  have hh := zh_eq A ht
  rw [zc] at hc
  rw [zh] at hh
  rw [pr]
  funext y
  idx_vars y
  pointwise [k0_pay119]
  rw [hc, hh]
  pointwise [lift₂]
  rw [lead ⟨t, ht⟩ y0, Args.prE]
  by_cases h : y0.val < 16 ∧ t = 0
  · simp [h, Scalar.select]
  · rw [if_neg h, decide_eq_false h]
    rfl

/-- The weights of a tap. -/
theorem tapRow_eq (k : Fin 3) : tapRow (cwBlk A) k = lift₂ fun _ j => A.cw k j := by
  funext y
  idx_vars y
  have hk := k.isLt
  have h0 : k.val + 1 * y0.val = k.val := by omega
  show (((if h : k.val + 1 * y0.val < 3 then A.cw ⟨k.val + 1 * y0.val, h⟩ ⟨0 + 1 * y1.val, _⟩ else 0 : ℝ)) : EReal) = ((A.cw k y1 : ℝ) : EReal)
  rw [dif_pos (by omega)]
  exact congrArg₂ (fun a b => ((A.cw a b : ℝ) : EReal)) (Fin.ext h0) (Fin.ext (by simp))

/-- The weights of the last tap times it. -/
theorem tap2_eq : tap2 (word t) (zpBlk A ht) (zBlk A ht) (znBlk A ht) (cwBlk A) = lift₂ fun e j => A.cw 2 j * A.prE ht e j := by
  have hp := pr_eq A ht
  rw [pr] at hp
  rw [tap2]
  funext y
  idx_vars y
  have h2 := congrFun (tapRow_eq A 2) (ix2 0 y1)
  pointwise [tapRow] at h2
  pointwise [k0_pay120]
  rw [hp, h2]
  pointwise [lift₂]
  rfl

/-- The convolution, its rows going round. -/
theorem cv_eq : cv (word t) (zpBlk A ht) (zBlk A ht) (znBlk A ht) (cwBlk A) = lift₂ (A.cvE ht) := by
  rw [cv, pr_eq, tap2_eq, tapRow_eq, tapRow_eq]
  funext y
  idx_vars y
  pointwise [k0_pay122, k0_pay121, lift₂]
  simp only [← EReal.coe_mul, ← EReal.coe_add]
  rfl

/-- The scale of the branch's rows. -/
theorem rb_eq : rb (word t) (zpBlk A ht) (zBlk A ht) (znBlk A ht) (cwBlk A) = lift₂ fun e _ => scale 1024 (A.ybE ht e) := by
  have hc := cv_eq A ht
  rw [cv] at hc
  rw [rb, zb_eq]
  funext y
  idx_vars y
  pointwise [k0_pay124, k0_pay123]
  rw [hc]
  pointwise [lift₂]
  simp only [word_1024, word_rmsEps, ← EReal.coe_mul, sum_coe, div_1024, ← EReal.coe_add]
  exact rsqrt_meanSq (show (0 : ℝ) < 1024 by norm_num) (A.ybE ht y0)

/-- The branch's rows, scaled. -/
theorem yhb_eq : yhb (word t) (zpBlk A ht) (zBlk A ht) (znBlk A ht) (cwBlk A) = lift₂ fun e j => A.ybE ht e j * scale 1024 (A.ybE ht e) := by
  have hc := cv_eq A ht
  have hr := rb_eq A ht
  rw [cv] at hc
  rw [rb] at hr
  rw [yhb]
  funext y
  idx_vars y
  pointwise [k0_pay125, k0_pay123]
  rw [hc, hr, zb_eq]
  pointwise [lift₂]
  simp only [← EReal.coe_mul]
  rfl

/-- Whether the sequence goes on after the point's rows. -/
theorem goesOn : ∀ t : Fin 16, Scalar.cmpi .slt (word t.val) 15#32 = BitVec.ofBool (decide (t.val < 15)) := by decide +kernel

/-- The incoming gradient's three pieces. -/
theorem dyE_pieces (e : Fin 288) (j : Fin 1024) :
    (if _ : e.val < 16 then 0 else if _ : e.val - 16 < 256 then ((A.dy (rowAt ht ⟨e.val - 16, by omega⟩) (half 1 j) : ℝ) : EReal)
      else Scalar.select (Scalar.cmpi .slt (word t) 15#32) ((A.dy (extRow ht (last ⟨e.val - 16 - 256, by omega⟩)) (half 1 j) : ℝ) : EReal) 0)
      = ((A.dyE ht e j : ℝ) : EReal) := by
  rw [goesOn ⟨t, ht⟩, Args.dyE]
  by_cases h0 : e.val < 16
  · rw [dif_pos h0, if_pos h0]
    rfl
  rw [dif_neg h0, if_neg h0]
  by_cases h1 : e.val - 16 < 256
  · rw [dif_pos h1, if_pos (Or.inl (by omega))]
    refine congrArg (fun i => ((A.dy i (half 1 j) : ℝ) : EReal)) ((Args.extRow_centre ht _).symm.trans (congrArg (extRow ht) (Fin.ext ?_)))
    exact (show 16 + (e.val - 16) = e.val by omega)
  · rw [dif_neg h1]
    by_cases h2 : t < 15
    · rw [if_pos (Or.inr h2), decide_eq_true h2]
      refine congrArg (fun i => ((A.dy (extRow ht i) (half 1 j) : ℝ) : EReal)) (Fin.ext ?_)
      exact (show 272 + (e.val - 16 - 256) = e.val by omega)
    · rw [if_neg (by omega), decide_eq_false h2]
      rfl

/-- The incoming gradient. -/
theorem dyb_eq : dyb (word t) (dyBlk A ht) (dynBlk A ht) = lift₂ (A.dyE ht) := by
  rw [dyb]
  have hx := ld_lift₂ (m := 16) (n := 2048) (m' := 16) (n' := 1024) inb_S16x2048_S16x1024_0_1024 (fun r j => A.dy (extRow ht (last r)) j) id (half 1)
    (fun r => (Nat.zero_add _).symm) fun j => rfl
  have hc := ld_lift₂ (m := 256) (n := 2048) (m' := 256) (n' := 1024) inb_S256x2048_S256x1024_0_1024 (fun r j => A.dy (rowAt ht r) j) id (half 1)
    (fun r => (Nat.zero_add _).symm) fun j => rfl
  rw [show View.ld (dynBlk A ht) _ = _ from hx, show View.ld (dyBlk A ht) _ = _ from hc]
  funext y
  idx_vars y
  pointwise [k0_pay126, lift₂]
  exact dyE_pieces A ht y0 y1

theorem gnB_eq : gnB (rowBlk A.gn) = lift₂ fun _ j => A.gn (half 1 j) :=
  ld_lift₂ (m := 1) (n := 2048) (m' := 1) (n' := 1024) inb_S1x2048_S1x1024_0_1024 (fun _ j => A.gn j) id (half 1)
    (fun r => (Nat.zero_add _).symm) fun j => rfl

/-- The branch's gradient. -/
theorem dyb128_eq : k0_pay128 (F := Ideal) (rb (word t) (zpBlk A ht) (zBlk A ht) (znBlk A ht) (cwBlk A)) (yhb (word t) (zpBlk A ht) (zBlk A ht) (znBlk A ht) (cwBlk A))
      (dyb (word t) (dyBlk A ht) (dynBlk A ht)) (gnB (rowBlk A.gn)) = lift₂ (A.dybE ht) := by
  rw [rb_eq, yhb_eq, dyb_eq, gnB_eq]
  funext y
  idx_vars y
  pointwise [k0_pay128, lift₂]
  simp only [word_1024, ← EReal.coe_mul, sum_coe, div_1024, ← EReal.coe_sub]
  rfl

/-- The convolution's gradient. -/
theorem dcv_eq : dcv (word t) (zpBlk A ht) (zBlk A ht) (znBlk A ht) (dyBlk A ht) (dynBlk A ht) (cwBlk A) (rowBlk A.gn) = lift₂ (A.dcvE ht) := by
  rw [dcv]
  funext y
  idx_vars y
  pointwise [k0_pay129]
  rw [dyb128_eq, zb_eq]
  pointwise [lift₂]
  simp only [← EReal.coe_mul]
  rfl

/-- The gradient of what is convolved. -/
theorem dp_eq : k0_pay130 (F := Ideal) (zb (zpBlk A ht) (zBlk A ht) (znBlk A ht)) (rb (word t) (zpBlk A ht) (zBlk A ht) (znBlk A ht) (cwBlk A))
      (yhb (word t) (zpBlk A ht) (zBlk A ht) (znBlk A ht) (cwBlk A)) (dyb (word t) (dyBlk A ht) (dynBlk A ht)) (gnB (rowBlk A.gn))
      (tapRow (cwBlk A) 2) (tapRow (cwBlk A) 1) (tapRow (cwBlk A) 0) = lift₂ (A.dpE ht) := by
  have hd := dcv_eq A ht
  rw [dcv] at hd
  rw [tapRow_eq, tapRow_eq, tapRow_eq]
  funext y
  idx_vars y
  pointwise [k0_pay130]
  rw [hd]
  pointwise [lift₂]
  simp only [← EReal.coe_mul, ← EReal.coe_add]
  rfl

/-- A row of the block in the extended block. -/
theorem centre_eq (r : Fin 256) (h : 16 + r.val < 288) : (⟨16 + r.val, h⟩ : Fin 288) = centre r := rfl
theorem le_centre (r : Fin 256) : 16 ≤ (centre r).val := Nat.le_add_right _ _
theorem centre_lt (r : Fin 256) : (centre r).val < 272 := by have := r.isLt; show 16 + r.val < 272; omega

/-- The gradient of the third columns. -/
theorem dzB_eq : dzB (word t) (zpBlk A ht) (zBlk A ht) (znBlk A ht) (dyBlk A ht) (dynBlk A ht) (cwBlk A) (rowBlk A.gn)
      = lift₂ fun r j => A.dz (rowAt ht r) 2 j := by
  rw [dzB]
  funext y
  idx_vars y
  pointwise [k0_pay131]
  rw [dyb128_eq, cv_eq]
  pointwise [lift₂]
  rw [← EReal.coe_mul, centre_eq, A.dybE_eq ht (le_centre y0) (.inl (centre_lt y0)), A.cvE_eq ht (le_centre y0) (.inl (centre_lt y0)), Args.extRow_centre]
  rfl

/-- The gradient of the fourth. -/
theorem dzC_eq : dzC (word t) (zpBlk A ht) (zBlk A ht) (znBlk A ht) (dyBlk A ht) (dynBlk A ht) (cwBlk A) (rowBlk A.gn)
      = lift₂ fun r j => A.dz (rowAt ht r) 3 j := by
  rw [dzC]
  funext y
  idx_vars y
  pointwise [k0_pay132]
  rw [dp_eq, zh_eq]
  pointwise [lift₂]
  rw [← EReal.coe_mul, centre_eq, A.dpE_eq ht (le_centre y0) (centre_lt y0), Args.extRow_centre]
  rfl

/-- The gradient of the fifth. -/
theorem dzH_eq : dzH (word t) (zpBlk A ht) (zBlk A ht) (znBlk A ht) (dyBlk A ht) (dynBlk A ht) (cwBlk A) (rowBlk A.gn)
      = lift₂ fun r j => A.dz (rowAt ht r) 4 j := by
  rw [dzH]
  funext y
  idx_vars y
  pointwise [k0_pay133]
  rw [dp_eq, zc_eq]
  pointwise [lift₂]
  rw [← EReal.coe_mul, centre_eq, A.dpE_eq ht (le_centre y0) (centre_lt y0), Args.extRow_centre]
  rfl

/-! ## What the point adds to the accumulators -/

/-- The convolution half of the norms' gains. -/
theorem dgnB_eq (prev : Vec Ideal S1x1024 .f32) (j : Fin 1024) :
    dgnB (word t) (zpBlk A ht) (zBlk A ht) (znBlk A ht) (dyBlk A ht) (dynBlk A ht) (cwBlk A) prev (ix2 0 j)
      = prev (ix2 0 j) + ((∑ r, A.gnTermB (rowAt ht r) j : ℝ) : EReal) := by
  have hy := yhb_eq A ht
  have hd := dyb_eq A ht
  rw [yhb] at hy
  rw [dyb] at hd
  rw [dgnB]
  pointwise [k0_pay127]
  rw [hy, hd]
  pointwise [lift₂]
  simp only [← EReal.coe_mul, sum_coe]
  refine congrArg (fun r : ℝ => prev (ix2 0 j) + (r : EReal)) (Finset.sum_congr rfl fun r _ => ?_)
  rw [centre_eq, A.ybE_eq ht (le_centre r) (.inl (centre_lt r)), Args.dyE, if_neg (not_lt.mpr (le_centre r)), if_pos (.inl (centre_lt r)), Args.extRow_centre]
  rfl

/-- A tap. -/
theorem dtap_eq (prev : Fin 3 → Vec Ideal S1x1024 .f32) (k : Fin 3) (j : Fin 1024) :
    dtap (word t) (zpBlk A ht) (zBlk A ht) (znBlk A ht) (dyBlk A ht) (dynBlk A ht) (cwBlk A) (rowBlk A.gn) prev k (ix2 0 j)
      = prev k (ix2 0 j) + ((∑ r, A.dcv (rowAt ht r) j * before A.pr (2 - k.val) (rowAt ht r) j : ℝ) : EReal) := by
  rw [dtap, pr_eq, dcv_eq]
  have hr := fun r => A.dcvE_eq ht (le_centre r) (.inl (centre_lt r)) j
  have hb := fun k hk hk0 r => A.prE_back ht (k := k) hk hk0 (le_centre r) (.inl (centre_lt r)) j
  match k with
  | 0 =>
    show k0_pay1 _ _ (prev 0) (ix2 0 j) = _
    pointwise [k0_pay1, lift₂]
    simp only [← EReal.coe_mul, sum_coe]
    refine congrArg (fun r : ℝ => prev 0 (ix2 0 j) + (r : EReal)) (Finset.sum_congr rfl fun r _ => ?_)
    rw [← Args.extRow_centre ht]
    exact congrArg₂ (· * ·) (hr r) (hb 2 (by norm_num) (by norm_num) r)
  | 1 =>
    show k0_pay135 _ _ (prev 1) (ix2 0 j) = _
    pointwise [k0_pay135, lift₂]
    simp only [← EReal.coe_mul, sum_coe]
    refine congrArg (fun r : ℝ => prev 1 (ix2 0 j) + (r : EReal)) (Finset.sum_congr rfl fun r _ => ?_)
    rw [← Args.extRow_centre ht]
    exact congrArg₂ (· * ·) (hr r) (hb 1 (by norm_num) (by norm_num) r)
  | 2 =>
    show k0_pay134 _ _ (prev 2) (ix2 0 j) = _
    pointwise [k0_pay134, lift₂]
    simp only [← EReal.coe_mul, sum_coe]
    refine congrArg (fun r : ℝ => prev 2 (ix2 0 j) + (r : EReal)) (Finset.sum_congr rfl fun r _ => ?_)
    rw [← Args.extRow_centre ht]
    exact congrArg₂ (· * ·) (hr r) (A.prE_eq ht (le_centre r) j)

end Cert.Mixer

end
-- ==== Proof.Mixer.Words.lean ====
/-
  THE VALUES OF THE BODY'S RUN are the block functions: each value the run names, read off the loads and stores before it. The run at the first grid point and the run at the
  others give the same values here, since none of them looks at what the accumulators held.
-/
module

public import proofs.«01_k».proof.Proof.Mixer.Block

@[expose] public section

set_option maxRecDepth 16384

noncomputable section

namespace Cert.Mixer

open Cert.KernelIdeal Cert.KernelIdeal.Gen Cert.KernelIdeal.Gen.kernelRun0_B
open Idealize.ShloMosaic Idealize.ShloMosaic.TcCoe Idealize.SL.Sem

/-- A load of a whole buffer reads the buffer. -/
theorem ld_whole {S : Shape} {e : EltTy} {off : Fin S.rank → Nat} (inb : ∀ a, off a + S.size a ≤ S.size a) (X : Vec Ideal S e) (h : ∀ a, off a = 0) :
    View.ld X (Rect.unit off (no_index S.size) inb) = X :=
  View.ld_unit_lit inb X h

/-- A load of a buffer that holds a block reads the block. -/
theorem load {sp : Space} {S : Shape} {e : EltTy} {a : Memref sig .tc sp S e} (h : a.IsWhole) (x : Vec Ideal S e) (r : Rect S) :
    a.view.readAt (Elt Ideal) r.toLoadRect (h.unread x) = View.ld x r := by
  rw [View.readAt_eq_ld, Memref.IsWhole.read_unread]

/-- A function of three blocks at equal blocks. -/
theorem eq₃ {α β γ δ : Type} (f : α → β → γ → δ) {a a' : α} {b b' : β} {c c' : γ} (ha : a = a') (hb : b = b') (hc : c = c') : f a b c = f a' b' c' := by
  rw [ha, hb, hc]

/-- The mixed gate. -/
theorem word_mixed {c a2 h2 a6 h6 a7 h7 a8 h8 a10 h10 a20 a21} x1 x5 x6 x7 x9 :
    kernelRun0_B.sl.v245 (F := Ideal) c a2 h2 a6 h6 a7 h7 a8 h8 a10 h10 a20 a21 x1 x5 x6 x7 x9 = mixed x1 x5 x6 x7 x9 := by
  refine (readCov_whole _ _ _ (by decide)).trans (congrArg View.canon ?_)
  simp (disch := decide) only [sl.cst_34, sl.r_3, sl.r_4, sl.r_8, sl.v86, sl.v87, sl.v88, sl.v90, sl.v91, sl.v94, sl.v96, sl.v97, sl.v98, sl.v100, sl.v101, sl.v104,
    sl.v106, sl.v107, sl.v108, sl.v110, sl.v111, sl.v114, sl.v116, sl.v117, sl.v118, sl.v120, sl.v121, sl.v124, sl.v126, sl.v127, sl.v128, sl.v130,
    sl.v131, sl.v134, sl.v136, sl.v137, sl.v138, sl.v140, sl.v141, sl.v144, sl.v146, sl.v147, sl.v148, sl.v150, sl.v151, sl.v154, sl.v156, sl.v157,
    sl.v158, sl.v160, sl.v161, sl.v164, sl.v167, sl.v168, sl.v171, sl.v174, sl.v177, sl.v178, sl.v181, sl.v184, sl.v187, sl.v188, sl.v191, sl.v194,
    sl.v197, sl.v198, sl.v201, sl.v204, sl.v207, sl.v208, sl.v211, sl.v214, sl.v217, sl.v218, sl.v221, sl.v224, sl.v227, sl.v228, sl.v231, sl.v234,
    sl.v237, sl.v238, sl.v241, sl.v244, sl.HS0_1, sl.HS1_16, View.readCov_fill, View.readAt_eq_ld, Memref.IsWhole.read_unread, ld_whole]
  rfl

/-- The spatial branch. -/
theorem word_ya {c a2 h2 a6 h6 a7 h7 a8 h8 a10 h10 a20 a21} x1 x5 x6 x7 x9 :
    kernelRun0_B.sl.v246 (F := Ideal) c a2 h2 a6 h6 a7 h7 a8 h8 a10 h10 a20 a21 x1 x5 x6 x7 x9 = ya x1 x5 x6 x7 x9 := by
  simp (disch := decide) only [sl.r_1, sl.v246, word_mixed, View.readAt_eq_ld, Memref.IsWhole.read_unread, ld_whole]
  rfl

/-- The sums of its squares. -/
theorem word_yaSq {c a2 h2 a6 h6 a7 h7 a8 h8 a10 h10 a20 a21} x1 x5 x6 x7 x9 :
    kernelRun0_B.sl.v248 (F := Ideal) c a2 h2 a6 h6 a7 h7 a8 h8 a10 h10 a20 a21 x1 x5 x6 x7 x9 = yaSq x1 x5 x6 x7 x9 := by
  simp (disch := decide) only [sl.v247, sl.v248, word_ya, View.readAt_eq_ld, Memref.IsWhole.read_unread, ld_whole]
  rfl

/-- The gradient of the first columns. -/
theorem word_dzU {c a2 h2 a4 h4 a6 h6 a7 h7 a8 h8 a10 h10 a12 h12 a20 a21} x1 x3 x5 x6 x7 x9 x11 :
    kernelRun0_B.sl.v282 (F := Ideal) c a2 h2 a4 h4 a6 h6 a7 h7 a8 h8 a10 h10 a12 h12 a20 a21 x1 x3 x5 x6 x7 x9 x11 = dzU x1 x3 x5 x6 x7 x9 x11 := by
  simp (disch := decide) only [sl.cst_194, sl.cst_195, sl.r, sl.v249, sl.v250, sl.v251, sl.v252, sl.v253, sl.v254, sl.v255, sl.v256, sl.v258, sl.v267, sl.v268, sl.v269,
    sl.v270, sl.v271, sl.v272, sl.v274, sl.v275, sl.v276, sl.v277, sl.v279, sl.v280, sl.v281, sl.v282, word_mixed, word_ya, word_yaSq,
    View.readAt_eq_ld, Memref.IsWhole.read_unread, ld_whole]
  rfl

/-- The mixed gate's gradient. -/
theorem word_dmix {c a2 h2 a4 h4 a6 h6 a7 h7 a8 h8 a10 h10 a12 h12 a20 a21} x1 x3 x5 x6 x7 x9 x11 :
    kernelRun0_B.sl.v288 (F := Ideal) c a2 h2 a4 h4 a6 h6 a7 h7 a8 h8 a10 h10 a12 h12 a20 a21 x1 x3 x5 x6 x7 x9 x11 = dmix x1 x3 x5 x6 x7 x9 x11 := by
  simp (disch := decide) only [sl.cst_194, sl.cst_195, sl.r_1, sl.v249, sl.v250, sl.v251, sl.v252, sl.v253, sl.v254, sl.v255, sl.v256, sl.v258, sl.v267, sl.v268,
    sl.v269, sl.v270, sl.v271, sl.v272, sl.v274, sl.v275, sl.v276, sl.v277, sl.v279, sl.v284, sl.v285, sl.v288, word_ya, word_yaSq, View.readAt_eq_ld,
    Memref.IsWhole.read_unread, ld_whole]
  rfl

/-- The normalised gate's gradient. -/
theorem word_dvn {c a2 h2 a4 h4 a6 h6 a7 h7 a8 h8 a9 h9 a10 h10 a12 h12 a20 a21 a22 a23} x1 x3 x5 x6 x7 x8 x9 x11 :
    kernelRun0_B.sl.v (F := Ideal) c a2 h2 a4 h4 a6 h6 a7 h7 a8 h8 a9 h9 a10 h10 a12 h12 a20 a21 a22 a23 x1 x3 x5 x6 x7 x8 x9 x11 = dvn x1 x3 x5 x6 x7 x8 x9 x11 := by
  refine (readCov_whole _ _ _ (by decide)).trans (congrArg View.canon ?_)
  simp (disch := decide) only [sl.cst_34, sl.r_9, sl.v345, sl.v352, sl.v353, sl.v356, sl.v357, sl.v365, sl.v368, sl.v384, sl.v391, sl.v392, sl.v395, sl.v396, sl.v404,
    sl.v407, sl.v423, sl.v430, sl.v431, sl.v434, sl.v435, sl.v443, sl.v446, sl.v462, sl.v469, sl.v470, sl.v473, sl.v474, sl.v482, sl.v485, sl.v501,
    sl.v508, sl.v509, sl.v512, sl.v513, sl.v521, sl.v524, sl.v540, sl.v547, sl.v548, sl.v551, sl.v552, sl.v560, sl.v563, sl.v579, sl.v586, sl.v587,
    sl.v590, sl.v591, sl.v598, sl.v599, sl.v602, sl.v618, sl.v625, sl.v626, sl.v629, sl.v630, sl.v638, sl.v641, sl.HS2_1, sl.HS3_16, word_dmix,
    View.readCov_fill, View.readAt_eq_ld, Memref.IsWhole.read_unread, ld_whole]
  rfl

/-- The gradient of the second columns. -/
theorem word_dzV {c a2 h2 a4 h4 a6 h6 a7 h7 a8 h8 a9 h9 a10 h10 a12 h12 a20 a21 a22 a23} x1 x3 x5 x6 x7 x8 x9 x11 :
    kernelRun0_B.sl.v690 (F := Ideal) c a2 h2 a4 h4 a6 h6 a7 h7 a8 h8 a9 h9 a10 h10 a12 h12 a20 a21 a22 a23 x1 x3 x5 x6 x7 x8 x9 x11 = dzV x1 x3 x5 x6 x7 x8 x9 x11 := by
  simp (disch := decide) only [sl.cst_194, sl.r_2, sl.r_3, sl.r_4, sl.r_5, sl.r_6, sl.r_7, sl.v250, sl.v670, sl.v671, sl.v672, sl.v673, sl.v674, sl.v676, sl.v677,
    sl.v678, sl.v679, sl.v680, sl.v681, sl.v683, sl.v684, sl.v685, sl.v686, sl.v687, sl.v688, sl.v689, sl.v690, word_dvn, View.readAt_eq_ld,
    Memref.IsWhole.read_unread, ld_whole]
  rfl

/-- The convolution branch's gate. -/
theorem word_zb {c a1 h1 a2 h2 a3 h3} x0 x1 x2 :
    kernelRun0_B.sl.v698 (F := Ideal) c a1 h1 a2 h2 a3 h3 x0 x1 x2 = zb x0 x1 x2 :=
  eq₃ k0_pay116 (load h2 x1 _) (load h1 x0 _) (load h3 x2 _)

/-- The first factor. -/
theorem word_zc {c a1 h1 a2 h2 a3 h3} x0 x1 x2 :
    kernelRun0_B.sl.v705 (F := Ideal) c a1 h1 a2 h2 a3 h3 x0 x1 x2 = zc x0 x1 x2 :=
  eq₃ k0_pay117 (load h2 x1 _) (load h1 x0 _) (load h3 x2 _)

/-- The second factor. -/
theorem word_zh {c a1 h1 a2 h2 a3 h3} x0 x1 x2 :
    kernelRun0_B.sl.v712 (F := Ideal) c a1 h1 a2 h2 a3 h3 x0 x1 x2 = zh x0 x1 x2 :=
  eq₃ k0_pay118 (load h2 x1 _) (load h1 x0 _) (load h3 x2 _)

/-- The what is convolved. -/
theorem word_pr {c i a1 h1 a2 h2 a3 h3} x0 x1 x2 :
    kernelRun0_B.sl.v723 (F := Ideal) c i a1 h1 a2 h2 a3 h3 x0 x1 x2 = pr (BitVec.ofNat 32 (i 0).val) x0 x1 x2 := by
  simp (disch := decide) only [sl.cst_224, sl.v0, sl.v713, sl.v714, sl.v715, sl.v718, sl.v719, sl.v720, sl.v721, sl.v722, sl.v723, word_zc, word_zh, View.readAt_eq_ld,
    Memref.IsWhole.read_unread, ld_whole]
  rfl

/-- The last tap. -/
theorem word_tap2 {c i a1 h1 a2 h2 a3 h3 a11 h11} x0 x1 x2 x10 :
    kernelRun0_B.sl.v727 (F := Ideal) c i a1 h1 a2 h2 a3 h3 a11 h11 x0 x1 x2 x10 = tap2 (BitVec.ofNat 32 (i 0).val) x0 x1 x2 x10 := by
  simp (disch := decide) only [sl.v725, sl.v726, sl.v727, word_pr, View.readAt_eq_ld, Memref.IsWhole.read_unread, ld_whole]
  rfl

/-- The convolution. -/
theorem word_cv {c i a1 h1 a2 h2 a3 h3 a11 h11} x0 x1 x2 x10 :
    kernelRun0_B.sl.v739 (F := Ideal) c i a1 h1 a2 h2 a3 h3 a11 h11 x0 x1 x2 x10 = cv (BitVec.ofNat 32 (i 0).val) x0 x1 x2 x10 := by
  simp (disch := decide) only [sl.v729, sl.v730, sl.v731, sl.v732, sl.v733, sl.v735, sl.v736, sl.v737, sl.v738, sl.v739, word_pr, word_tap2, View.readAt_eq_ld,
    Memref.IsWhole.read_unread, ld_whole]
  rfl

/-- The branch's scale. -/
theorem word_rb {c i a1 h1 a2 h2 a3 h3 a11 h11} x0 x1 x2 x10 :
    kernelRun0_B.sl.v748 (F := Ideal) c i a1 h1 a2 h2 a3 h3 a11 h11 x0 x1 x2 x10 = rb (BitVec.ofNat 32 (i 0).val) x0 x1 x2 x10 := by
  simp (disch := decide) only [sl.cst_194, sl.cst_195, sl.v740, sl.v741, sl.v742, sl.v743, sl.v744, sl.v745, sl.v746, sl.v747, sl.v748, word_cv, word_zb,
    View.readAt_eq_ld, Memref.IsWhole.read_unread, ld_whole]
  rfl

/-- The scaled branch. -/
theorem word_yhb {c i a1 h1 a2 h2 a3 h3 a11 h11} x0 x1 x2 x10 :
    kernelRun0_B.sl.v750 (F := Ideal) c i a1 h1 a2 h2 a3 h3 a11 h11 x0 x1 x2 x10 = yhb (BitVec.ofNat 32 (i 0).val) x0 x1 x2 x10 := by
  simp (disch := decide) only [sl.v740, sl.v749, sl.v750, word_cv, word_rb, word_zb, View.readAt_eq_ld, Memref.IsWhole.read_unread, ld_whole]
  rfl

/-- The branch's incoming gradient. -/
theorem word_dyb {c i a4 h4 a5 h5} x3 x4 :
    kernelRun0_B.sl.v759 (F := Ideal) c i a4 h4 a5 h5 x3 x4 = dyb (BitVec.ofNat 32 (i 0).val) x3 x4 :=
  eq₃ k0_pay126 rfl (load h5 x4 _) (load h4 x3 _)

/-- The convolution's gradient. -/
theorem word_dcv {c i a1 h1 a2 h2 a3 h3 a4 h4 a5 h5 a11 h11 a12 h12} x0 x1 x2 x3 x4 x10 x11 :
    kernelRun0_B.sl.v782 (F := Ideal) c i a1 h1 a2 h2 a3 h3 a4 h4 a5 h5 a11 h11 a12 h12 x0 x1 x2 x3 x4 x10 x11 = dcv (BitVec.ofNat 32 (i 0).val) x0 x1 x2 x3 x4 x10 x11 := by
  simp (disch := decide) only [sl.cst_194, sl.v744, sl.v749, sl.v769, sl.v770, sl.v771, sl.v772, sl.v773, sl.v774, sl.v776, sl.v777, sl.v778, sl.v779, sl.v781, sl.v782,
    word_dyb, word_rb, word_yhb, word_zb, View.readAt_eq_ld, Memref.IsWhole.read_unread, ld_whole]
  rfl

/-- The gradient of the third columns. -/
theorem word_dzB {c i a1 h1 a2 h2 a3 h3 a4 h4 a5 h5 a11 h11 a12 h12} x0 x1 x2 x3 x4 x10 x11 :
    kernelRun0_B.sl.v801 (F := Ideal) c i a1 h1 a2 h2 a3 h3 a4 h4 a5 h5 a11 h11 a12 h12 x0 x1 x2 x3 x4 x10 x11 = dzB (BitVec.ofNat 32 (i 0).val) x0 x1 x2 x3 x4 x10 x11 := by
  simp (disch := decide) only [sl.cst_194, sl.v744, sl.v749, sl.v769, sl.v770, sl.v771, sl.v772, sl.v773, sl.v774, sl.v776, sl.v777, sl.v778, sl.v779, sl.v781, sl.v799,
    sl.v800, sl.v801, word_cv, word_dyb, word_rb, word_yhb, View.readAt_eq_ld, Memref.IsWhole.read_unread, ld_whole]
  rfl

/-- The gradient of the fourth columns. -/
theorem word_dzC {c i a1 h1 a2 h2 a3 h3 a4 h4 a5 h5 a11 h11 a12 h12} x0 x1 x2 x3 x4 x10 x11 :
    kernelRun0_B.sl.v805 (F := Ideal) c i a1 h1 a2 h2 a3 h3 a4 h4 a5 h5 a11 h11 a12 h12 x0 x1 x2 x3 x4 x10 x11 = dzC (BitVec.ofNat 32 (i 0).val) x0 x1 x2 x3 x4 x10 x11 := by
  simp (disch := decide) only [sl.v725, sl.v726, sl.v729, sl.v731, sl.v735, sl.v737, sl.v786, sl.v789, sl.v791, sl.v792, sl.v795, sl.v797, sl.v798, sl.v803, sl.v804,
    sl.v805, word_dcv, word_zh, View.readAt_eq_ld, Memref.IsWhole.read_unread, ld_whole]
  rfl

/-- The gradient of the fifth columns. -/
theorem word_dzH {c i a1 h1 a2 h2 a3 h3 a4 h4 a5 h5 a11 h11 a12 h12} x0 x1 x2 x3 x4 x10 x11 :
    kernelRun0_B.sl.v809 (F := Ideal) c i a1 h1 a2 h2 a3 h3 a4 h4 a5 h5 a11 h11 a12 h12 x0 x1 x2 x3 x4 x10 x11 = dzH (BitVec.ofNat 32 (i 0).val) x0 x1 x2 x3 x4 x10 x11 := by
  simp (disch := decide) only [sl.v725, sl.v726, sl.v729, sl.v731, sl.v735, sl.v737, sl.v786, sl.v789, sl.v791, sl.v792, sl.v795, sl.v797, sl.v798, sl.v807, sl.v808,
    sl.v809, word_dcv, word_zc, View.readAt_eq_ld, Memref.IsWhole.read_unread, ld_whole]
  rfl

end Cert.Mixer

end
-- ==== Proof.Mixer.Outs.lean ====
/-
  WHAT A GRID POINT LEAVES IN THE OUTPUT BLOCKS: the parts it stores, as the block functions of what it was given. The six accumulators start from the zeros the first point
  stores, or from what the point before left.
-/
module

public import proofs.«01_k».proof.Proof.Mixer.Words

@[expose] public section

set_option maxRecDepth 16384

noncomputable section

namespace Cert.Mixer

open Cert.KernelIdeal Cert.KernelIdeal.Gen
open Idealize.ShloMosaic Idealize.ShloMosaic.TcCoe Idealize.SL.Sem
open Idealize.ShloMosaic.Pipeline (Dat)

/-- The one block that fills a buffer. -/
def whole {S : Shape} {off : Fin S.rank → Nat} (inb : ∀ a, off a + S.size a ≤ S.size a) (X : Vec Ideal S .f32) : View.Piece (Elt Ideal) S .f32 :=
  ⟨Rect.unit off S.size inb, X⟩

/-- Storing into a buffer that holds `X` is storing after a store of `X`. -/
theorem read_writes_unread {sp : Space} {S : Shape} {a : Memref sig .tc sp S .f32} (h : a.IsWhole) (X : Vec Ideal S .f32)
    {off : Fin S.rank → Nat} (inb : ∀ a, off a + S.size a ≤ S.size a) (h0 : ∀ a, off a = 0) (L : List (View.Piece (Elt Ideal) S .f32)) : a.view.read (Elt Ideal) (a.view.writes (Elt Ideal) (h.unread X) L) = View.canon (L ++ [whole inb X]) := by
  funext y
  induction L with
  | nil =>
    refine (congrFun (Memref.IsWhole.read_unread h X) y).trans ?_
    exact (congrFun (View.canon_cons_unit_lit inb X [] h0) y).symm
  | cons p L ih =>
    by_cases hy : y ∈ p.1.set
    · rw [View.read_writes_apply_eq_canon a.view _ y (p :: L) ⟨p, List.mem_cons_self, hy⟩]
      obtain ⟨x, rfl⟩ := p.1.exists_idx_of_mem hy
      exact (View.canon_cons_emb p.1 p.2 L x).trans (View.canon_cons_emb p.1 p.2 (L ++ [whole inb X]) x).symm
    · rw [View.writes_cons, View.read_slice_write_of_not_mem p.1 _ _ _ (by rwa [Rect.map_emb_univ])]
      exact ih.trans (View.canon_cons_of_not_mem p (L ++ [whole inb X]) hy).symm

variable (m : (ℓ : Loc nD τ sig) → Buf (Elt Ideal) ℓ) (c : Dev nD) (t : Fin cfg0.N)

/-- The gradient's block after point `t`. -/
def dzAt : Vec Ideal S256x5120 .bf16 :=
  View.canon (dzParts (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (BitVec.ofNat 32 (grid0.coords t 0).val))

/-- The norm's gains' gradient after point `t`, when the block held `P` and `L` was stored before. -/
def dgnAt (P : Vec Ideal S1x2048 .f32) (L : List (View.Piece (Elt Ideal) S1x2048 .f32)) : Vec Ideal S1x2048 .f32 :=
  View.canon (halves (dgnA (iblk m c 1 t) (iblk m c 3 t) (iblk m c 5 t) (iblk m c 6 t) (iblk m c 7 t) (iblk m c 9 t) (View.ld P (Rect.unit ![0, 0] S1x1024.size inb_S1x2048_S1x1024_0_0)))
    (dgnB (BitVec.ofNat 32 (grid0.coords t 0).val) (iblk m c 0 t) (iblk m c 1 t) (iblk m c 2 t) (iblk m c 3 t) (iblk m c 4 t) (iblk m c 10 t) (View.ld P (Rect.unit ![0, 1024] S1x1024.size inb_S1x2048_S1x1024_0_1024))) L)

/-- The layer norm's gains' gradient after point `t`, when the block held `P` and `L` was stored before. -/
def dlngAt (P : Vec Ideal S1x1024 .f32) (L : List (View.Piece (Elt Ideal) S1x1024 .f32)) : Vec Ideal S1x1024 .f32 :=
  View.canon (whole inb_S1x1024_S1x1024_0_0 (dlng (iblk m c 1 t) (iblk m c 3 t) (iblk m c 5 t) (iblk m c 6 t) (iblk m c 7 t) (iblk m c 8 t) (iblk m c 9 t) (iblk m c 11 t) P) :: L)

/-- The layer norm's shifts' gradient after point `t`, when the block held `P` and `L` was stored before. -/
def dlnbAt (P : Vec Ideal S1x1024 .f32) (L : List (View.Piece (Elt Ideal) S1x1024 .f32)) : Vec Ideal S1x1024 .f32 :=
  View.canon (whole inb_S1x1024_S1x1024_0_0 (dlnb (iblk m c 1 t) (iblk m c 3 t) (iblk m c 5 t) (iblk m c 6 t) (iblk m c 7 t) (iblk m c 8 t) (iblk m c 9 t) (iblk m c 11 t) P) :: L)

/-- The spatial weights' gradient after point `t`, when the block held `P` and `L` was stored before. -/
def dwsAt (P : Vec Ideal S8x128x128 .f32) (L : List (View.Piece (Elt Ideal) S8x128x128 .f32)) : Vec Ideal S8x128x128 .f32 :=
  View.canon (squares (fun h => dwsTile (iblk m c 1 t) (iblk m c 3 t) (iblk m c 5 t) (iblk m c 6 t) (iblk m c 7 t) (iblk m c 9 t) (iblk m c 11 t) h (headOf P h)) L)

/-- The biases' gradient after point `t`, when the block held `P` and `L` was stored before. -/
def dbsAt (P : Vec Ideal S8x8x128 .f32) (L : List (View.Piece (Elt Ideal) S8x8x128 .f32)) : Vec Ideal S8x8x128 .f32 :=
  View.canon (layers (fun h => dbsTile (iblk m c 1 t) (iblk m c 3 t) (iblk m c 5 t) (iblk m c 6 t) (iblk m c 7 t) (iblk m c 9 t) (iblk m c 11 t) h (rowsOf P h)) L)

/-- The taps' gradient after point `t`, when the block held `P` and `L` was stored before. -/
def dcwAt (P : Vec Ideal S8x1024 .f32) (L : List (View.Piece (Elt Ideal) S8x1024 .f32)) : Vec Ideal S8x1024 .f32 :=
  View.canon (taps (dtap (BitVec.ofNat 32 (grid0.coords t 0).val) (iblk m c 0 t) (iblk m c 1 t) (iblk m c 2 t) (iblk m c 3 t) (iblk m c 4 t) (iblk m c 10 t) (iblk m c 11 t) fun k => View.ld P (Rect.unit ![k.val, 0] S1x1024.size
    (by have h2 := k.isLt; intro a; fin_cases a <;> simp [S8x1024, S1x1024] <;> omega))) L)

/-- The gradient's block after a point. -/
theorem outs_dz : (outsAt0 m c t.val t.isLt).1 = dzAt m c t := by
  by_cases h0 : t.val % 16 = 0
  on_goal 1 =>
    rw [outsAt0_A m c t h0]; dsimp only; rw [out0_A_12, View.read_writes_junk_eq_canon]; refine congrArg View.canon ?_
    show (_ :: _ : List _) = _
    simp only [show @kernelRun0_A.sl.v282 = @kernelRun0_B.sl.v282 from rfl, show @kernelRun0_A.sl.v690 = @kernelRun0_B.sl.v690 from rfl, show
      @kernelRun0_A.sl.v801 = @kernelRun0_B.sl.v801 from rfl, show @kernelRun0_A.sl.v805 = @kernelRun0_B.sl.v805 from rfl, show @kernelRun0_A.sl.v809
      = @kernelRun0_B.sl.v809 from rfl]
  on_goal 2 =>
    rw [outsAt0_B m c t h0]; dsimp only; rw [out0_B_12, View.read_writes_junk_eq_canon]; refine congrArg View.canon ?_
    show (_ :: _ : List _) = _
  all_goals
    simp only [word_dzU, word_dzV, word_dzB, word_dzC, word_dzH]
    rfl

/-- The norm's gains' gradient after a point. -/
theorem outs_dgn : (outsAt0 m c t.val t.isLt).2.1
      = if t.val % 16 = 0 then dgnAt m c t (k0_pay2 (F := Ideal)) [whole inb_S1x2048_S1x2048_0_0 (k0_pay2 (F := Ideal))]
        else dgnAt m c t (outsAt0 m c (t.val - 1) (Nat.lt_of_le_of_lt (Nat.sub_le _ _) t.isLt)).2.1 [] := by
  split_ifs with h0
  on_goal 1 =>
    rw [outsAt0_A m c t h0]; dsimp only; rw [out0_A_13, View.read_writes_junk_eq_canon]; refine congrArg View.canon ?_
    show (_ :: _ : List _) = _
    simp (disch := decide) only [kernelRun0_A.sl.v259, kernelRun0_A.sl.v260, kernelRun0_A.sl.v264, kernelRun0_A.sl.v760, kernelRun0_A.sl.v761,
      kernelRun0_A.sl.v766, kernelRun0_A.sl.H13_1, kernelRun0_A.sl.H13_2, show @kernelRun0_A.sl.v263 = @kernelRun0_B.sl.v263 from rfl, show
      @kernelRun0_A.sl.v765 = @kernelRun0_B.sl.v765 from rfl]
  on_goal 2 =>
    rw [outsAt0_B m c t h0]; dsimp only; rw [out0_B_13, View.read_writes_junk_eq_canon]; refine congrArg View.canon ?_
    show (_ :: _ : List _) = _
  all_goals
    simp (disch := decide) only [kernelRun0_B.sl.cst_194, kernelRun0_B.sl.cst_195, kernelRun0_B.sl.v249, kernelRun0_B.sl.v250, kernelRun0_B.sl.v251,
      kernelRun0_B.sl.v252, kernelRun0_B.sl.v253, kernelRun0_B.sl.v254, kernelRun0_B.sl.v255, kernelRun0_B.sl.v256, kernelRun0_B.sl.v258,
      kernelRun0_B.sl.v260, kernelRun0_B.sl.v261, kernelRun0_B.sl.v262, kernelRun0_B.sl.v263, kernelRun0_B.sl.v264, kernelRun0_B.sl.v760,
      kernelRun0_B.sl.v761, kernelRun0_B.sl.v762, kernelRun0_B.sl.v763, kernelRun0_B.sl.v764, kernelRun0_B.sl.v765, kernelRun0_B.sl.v766, word_ya,
      word_yaSq, word_yhb, word_dyb, load, View.readCov_fill, View.readCov_skip, ld_whole]
    rfl

/-- The layer norm's gains' gradient after a point. -/
theorem outs_dlng : (outsAt0 m c t.val t.isLt).2.2.1
      = if t.val % 16 = 0 then dlngAt m c t (k0_pay3 (F := Ideal)) [whole inb_S1x1024_S1x1024_0_0 (k0_pay3 (F := Ideal))]
        else dlngAt m c t (outsAt0 m c (t.val - 1) (Nat.lt_of_le_of_lt (Nat.sub_le _ _) t.isLt)).2.2.1 [] := by
  split_ifs with h0
  on_goal 1 =>
    rw [outsAt0_A m c t h0]; dsimp only; rw [out0_A_14, View.read_writes_junk_eq_canon]; refine congrArg View.canon ?_
    show (_ :: _ : List _) = _
    simp (disch := decide) only [kernelRun0_A.sl.v662, kernelRun0_A.sl.v663, kernelRun0_A.sl.v667, kernelRun0_A.sl.H14_1, show @kernelRun0_A.sl.v666 =
      @kernelRun0_B.sl.v666 from rfl]
  on_goal 2 =>
    rw [outsAt0_B m c t h0]; dsimp only; rw [out0_B_14, View.read_writes_junk_eq_canon]; refine congrArg View.canon ?_
    show (_ :: _ : List _) = _
  all_goals
    simp (disch := decide) only [kernelRun0_B.sl.r_3, kernelRun0_B.sl.r_4, kernelRun0_B.sl.r_7, kernelRun0_B.sl.v663, kernelRun0_B.sl.v664,
      kernelRun0_B.sl.v665, kernelRun0_B.sl.v666, kernelRun0_B.sl.v667, word_dvn, load, View.readCov_fill, View.readCov_skip, ld_whole]
    rfl

/-- The layer norm's shifts' gradient after a point. -/
theorem outs_dlnb : (outsAt0 m c t.val t.isLt).2.2.2.1
      = if t.val % 16 = 0 then dlnbAt m c t (k0_pay4 (F := Ideal)) [whole inb_S1x1024_S1x1024_0_0 (k0_pay4 (F := Ideal))]
        else dlnbAt m c t (outsAt0 m c (t.val - 1) (Nat.lt_of_le_of_lt (Nat.sub_le _ _) t.isLt)).2.2.2.1 [] := by
  split_ifs with h0
  on_goal 1 =>
    rw [outsAt0_A m c t h0]; dsimp only; rw [out0_A_15, View.read_writes_junk_eq_canon]; refine congrArg View.canon ?_
    show (_ :: _ : List _) = _
    simp (disch := decide) only [kernelRun0_A.sl.v656, kernelRun0_A.sl.v657, kernelRun0_A.sl.v660, kernelRun0_A.sl.H15_1, show @kernelRun0_A.sl.v659 =
      @kernelRun0_B.sl.v659 from rfl]
  on_goal 2 =>
    rw [outsAt0_B m c t h0]; dsimp only; rw [out0_B_15, View.read_writes_junk_eq_canon]; refine congrArg View.canon ?_
    show (_ :: _ : List _) = _
  all_goals
    simp (disch := decide) only [kernelRun0_B.sl.v657, kernelRun0_B.sl.v658, kernelRun0_B.sl.v659, kernelRun0_B.sl.v660, word_dvn, load,
      View.readCov_fill, View.readCov_skip, ld_whole]
    rfl

/-- The spatial weights' gradient after a point. -/
theorem outs_dws : (outsAt0 m c t.val t.isLt).2.2.2.2.1
      = if t.val % 16 = 0 then dwsAt m c t (k0_pay5 (F := Ideal)) [whole inb_S8x128x128_S8x128x128_0_0_0 (k0_pay5 (F := Ideal))]
        else dwsAt m c t (outsAt0 m c (t.val - 1) (Nat.lt_of_le_of_lt (Nat.sub_le _ _) t.isLt)).2.2.2.2.1 [] := by
  split_ifs with h0
  on_goal 1 =>
    rw [outsAt0_A m c t h0]; dsimp only; rw [out0_A_16, View.read_writes_junk_eq_canon]; refine congrArg View.canon ?_
    show (_ :: _ : List _) = _
    simp (disch := decide) only [kernelRun0_A.sl.v369, kernelRun0_A.sl.v370, kernelRun0_A.sl.v372, kernelRun0_A.sl.v375, kernelRun0_A.sl.v408,
      kernelRun0_A.sl.v409, kernelRun0_A.sl.v411, kernelRun0_A.sl.v414, kernelRun0_A.sl.v447, kernelRun0_A.sl.v448, kernelRun0_A.sl.v450,
      kernelRun0_A.sl.v453, kernelRun0_A.sl.v486, kernelRun0_A.sl.v487, kernelRun0_A.sl.v489, kernelRun0_A.sl.v492, kernelRun0_A.sl.v525,
      kernelRun0_A.sl.v526, kernelRun0_A.sl.v528, kernelRun0_A.sl.v531, kernelRun0_A.sl.v564, kernelRun0_A.sl.v565, kernelRun0_A.sl.v567,
      kernelRun0_A.sl.v570, kernelRun0_A.sl.v603, kernelRun0_A.sl.v604, kernelRun0_A.sl.v606, kernelRun0_A.sl.v609, kernelRun0_A.sl.v642,
      kernelRun0_A.sl.v643, kernelRun0_A.sl.v645, kernelRun0_A.sl.v648, kernelRun0_A.sl.H16_1, kernelRun0_A.sl.H16_2, kernelRun0_A.sl.H16_3,
      kernelRun0_A.sl.H16_4, kernelRun0_A.sl.H16_5, kernelRun0_A.sl.H16_6, kernelRun0_A.sl.H16_7, kernelRun0_A.sl.H16_8, show @kernelRun0_A.sl.v371 =
      @kernelRun0_B.sl.v371 from rfl, show @kernelRun0_A.sl.v410 = @kernelRun0_B.sl.v410 from rfl, show @kernelRun0_A.sl.v449 = @kernelRun0_B.sl.v449
      from rfl, show @kernelRun0_A.sl.v488 = @kernelRun0_B.sl.v488 from rfl, show @kernelRun0_A.sl.v527 = @kernelRun0_B.sl.v527 from rfl, show
      @kernelRun0_A.sl.v566 = @kernelRun0_B.sl.v566 from rfl, show @kernelRun0_A.sl.v605 = @kernelRun0_B.sl.v605 from rfl, show @kernelRun0_A.sl.v644
      = @kernelRun0_B.sl.v644 from rfl]
  on_goal 2 =>
    rw [outsAt0_B m c t h0]; dsimp only; rw [out0_B_16, View.read_writes_junk_eq_canon]; refine congrArg View.canon ?_
    show (_ :: _ : List _) = _
  all_goals
    simp (disch := decide) only [kernelRun0_B.sl.cst_34, kernelRun0_B.sl.cst_224, kernelRun0_B.sl.r_3, kernelRun0_B.sl.r_4, kernelRun0_B.sl.r_8,
      kernelRun0_B.sl.v87, kernelRun0_B.sl.v97, kernelRun0_B.sl.v107, kernelRun0_B.sl.v117, kernelRun0_B.sl.v127, kernelRun0_B.sl.v137,
      kernelRun0_B.sl.v147, kernelRun0_B.sl.v157, kernelRun0_B.sl.v167, kernelRun0_B.sl.v177, kernelRun0_B.sl.v187, kernelRun0_B.sl.v197,
      kernelRun0_B.sl.v207, kernelRun0_B.sl.v217, kernelRun0_B.sl.v227, kernelRun0_B.sl.v237, kernelRun0_B.sl.v289, kernelRun0_B.sl.v290,
      kernelRun0_B.sl.v291, kernelRun0_B.sl.v293, kernelRun0_B.sl.v295, kernelRun0_B.sl.v298, kernelRun0_B.sl.v305, kernelRun0_B.sl.v306,
      kernelRun0_B.sl.v310, kernelRun0_B.sl.v313, kernelRun0_B.sl.v314, kernelRun0_B.sl.v319, kernelRun0_B.sl.v322, kernelRun0_B.sl.v330,
      kernelRun0_B.sl.v334, kernelRun0_B.sl.v337, kernelRun0_B.sl.v338, kernelRun0_B.sl.v340, kernelRun0_B.sl.v341, kernelRun0_B.sl.v343,
      kernelRun0_B.sl.v345, kernelRun0_B.sl.v347, kernelRun0_B.sl.v348, kernelRun0_B.sl.v357, kernelRun0_B.sl.v359, kernelRun0_B.sl.v360,
      kernelRun0_B.sl.v370, kernelRun0_B.sl.v371, kernelRun0_B.sl.v372, kernelRun0_B.sl.v375, kernelRun0_B.sl.v384, kernelRun0_B.sl.v386,
      kernelRun0_B.sl.v387, kernelRun0_B.sl.v396, kernelRun0_B.sl.v398, kernelRun0_B.sl.v399, kernelRun0_B.sl.v408, kernelRun0_B.sl.v409,
      kernelRun0_B.sl.v410, kernelRun0_B.sl.v411, kernelRun0_B.sl.v414, kernelRun0_B.sl.v423, kernelRun0_B.sl.v425, kernelRun0_B.sl.v426,
      kernelRun0_B.sl.v435, kernelRun0_B.sl.v437, kernelRun0_B.sl.v438, kernelRun0_B.sl.v447, kernelRun0_B.sl.v448, kernelRun0_B.sl.v449,
      kernelRun0_B.sl.v450, kernelRun0_B.sl.v453, kernelRun0_B.sl.v462, kernelRun0_B.sl.v464, kernelRun0_B.sl.v465, kernelRun0_B.sl.v474,
      kernelRun0_B.sl.v476, kernelRun0_B.sl.v477, kernelRun0_B.sl.v486, kernelRun0_B.sl.v487, kernelRun0_B.sl.v488, kernelRun0_B.sl.v489,
      kernelRun0_B.sl.v492, kernelRun0_B.sl.v501, kernelRun0_B.sl.v503, kernelRun0_B.sl.v504, kernelRun0_B.sl.v513, kernelRun0_B.sl.v515,
      kernelRun0_B.sl.v516, kernelRun0_B.sl.v525, kernelRun0_B.sl.v526, kernelRun0_B.sl.v527, kernelRun0_B.sl.v528, kernelRun0_B.sl.v531,
      kernelRun0_B.sl.v540, kernelRun0_B.sl.v542, kernelRun0_B.sl.v543, kernelRun0_B.sl.v552, kernelRun0_B.sl.v554, kernelRun0_B.sl.v555,
      kernelRun0_B.sl.v564, kernelRun0_B.sl.v565, kernelRun0_B.sl.v566, kernelRun0_B.sl.v567, kernelRun0_B.sl.v570, kernelRun0_B.sl.v579,
      kernelRun0_B.sl.v581, kernelRun0_B.sl.v582, kernelRun0_B.sl.v591, kernelRun0_B.sl.v593, kernelRun0_B.sl.v594, kernelRun0_B.sl.v603,
      kernelRun0_B.sl.v604, kernelRun0_B.sl.v605, kernelRun0_B.sl.v606, kernelRun0_B.sl.v609, kernelRun0_B.sl.v618, kernelRun0_B.sl.v620,
      kernelRun0_B.sl.v621, kernelRun0_B.sl.v630, kernelRun0_B.sl.v632, kernelRun0_B.sl.v633, kernelRun0_B.sl.v642, kernelRun0_B.sl.v643,
      kernelRun0_B.sl.v644, kernelRun0_B.sl.v645, kernelRun0_B.sl.v648, kernelRun0_B.sl.HS0_1, kernelRun0_B.sl.HS2_1, word_dmix, load,
      View.readCov_fill, View.readCov_skip, ld_whole]
    rfl

/-- The biases' gradient after a point. -/
theorem outs_dbs : (outsAt0 m c t.val t.isLt).2.2.2.2.2.1
      = if t.val % 16 = 0 then dbsAt m c t (k0_pay6 (F := Ideal)) [whole inb_S8x8x128_S8x8x128_0_0_0 (k0_pay6 (F := Ideal))]
        else dbsAt m c t (outsAt0 m c (t.val - 1) (Nat.lt_of_le_of_lt (Nat.sub_le _ _) t.isLt)).2.2.2.2.2.1 [] := by
  split_ifs with h0
  on_goal 1 =>
    rw [outsAt0_A m c t h0]; dsimp only; rw [out0_A_17, View.read_writes_junk_eq_canon]; refine congrArg View.canon ?_
    show (_ :: _ : List _) = _
    simp (disch := decide) only [kernelRun0_A.sl.v376, kernelRun0_A.sl.v377, kernelRun0_A.sl.v378, kernelRun0_A.sl.v381, kernelRun0_A.sl.v415,
      kernelRun0_A.sl.v416, kernelRun0_A.sl.v417, kernelRun0_A.sl.v420, kernelRun0_A.sl.v454, kernelRun0_A.sl.v455, kernelRun0_A.sl.v456,
      kernelRun0_A.sl.v459, kernelRun0_A.sl.v493, kernelRun0_A.sl.v494, kernelRun0_A.sl.v495, kernelRun0_A.sl.v498, kernelRun0_A.sl.v532,
      kernelRun0_A.sl.v533, kernelRun0_A.sl.v534, kernelRun0_A.sl.v537, kernelRun0_A.sl.v571, kernelRun0_A.sl.v572, kernelRun0_A.sl.v573,
      kernelRun0_A.sl.v576, kernelRun0_A.sl.v610, kernelRun0_A.sl.v611, kernelRun0_A.sl.v612, kernelRun0_A.sl.v615, kernelRun0_A.sl.v649,
      kernelRun0_A.sl.v650, kernelRun0_A.sl.v651, kernelRun0_A.sl.v654, kernelRun0_A.sl.H17_1, kernelRun0_A.sl.H17_2, kernelRun0_A.sl.H17_3,
      kernelRun0_A.sl.H17_4, kernelRun0_A.sl.H17_5, kernelRun0_A.sl.H17_6, kernelRun0_A.sl.H17_7, kernelRun0_A.sl.H17_8, show @kernelRun0_A.sl.v362 =
      @kernelRun0_B.sl.v362 from rfl, show @kernelRun0_A.sl.v401 = @kernelRun0_B.sl.v401 from rfl, show @kernelRun0_A.sl.v440 = @kernelRun0_B.sl.v440
      from rfl, show @kernelRun0_A.sl.v479 = @kernelRun0_B.sl.v479 from rfl, show @kernelRun0_A.sl.v518 = @kernelRun0_B.sl.v518 from rfl, show
      @kernelRun0_A.sl.v557 = @kernelRun0_B.sl.v557 from rfl, show @kernelRun0_A.sl.v596 = @kernelRun0_B.sl.v596 from rfl, show @kernelRun0_A.sl.v635
      = @kernelRun0_B.sl.v635 from rfl]
  on_goal 2 =>
    rw [outsAt0_B m c t h0]; dsimp only; rw [out0_B_17, View.read_writes_junk_eq_canon]; refine congrArg View.canon ?_
    show (_ :: _ : List _) = _
  all_goals
    simp (disch := decide) only [kernelRun0_B.sl.cst_223, kernelRun0_B.sl.cst_224, kernelRun0_B.sl.cst_231, kernelRun0_B.sl.v342,
      kernelRun0_B.sl.v344, kernelRun0_B.sl.v345, kernelRun0_B.sl.v349, kernelRun0_B.sl.v350, kernelRun0_B.sl.v357, kernelRun0_B.sl.v361,
      kernelRun0_B.sl.v362, kernelRun0_B.sl.v377, kernelRun0_B.sl.v378, kernelRun0_B.sl.v381, kernelRun0_B.sl.v384, kernelRun0_B.sl.v388,
      kernelRun0_B.sl.v389, kernelRun0_B.sl.v396, kernelRun0_B.sl.v400, kernelRun0_B.sl.v401, kernelRun0_B.sl.v415, kernelRun0_B.sl.v416,
      kernelRun0_B.sl.v417, kernelRun0_B.sl.v420, kernelRun0_B.sl.v423, kernelRun0_B.sl.v427, kernelRun0_B.sl.v428, kernelRun0_B.sl.v435,
      kernelRun0_B.sl.v439, kernelRun0_B.sl.v440, kernelRun0_B.sl.v454, kernelRun0_B.sl.v455, kernelRun0_B.sl.v456, kernelRun0_B.sl.v459,
      kernelRun0_B.sl.v462, kernelRun0_B.sl.v466, kernelRun0_B.sl.v467, kernelRun0_B.sl.v474, kernelRun0_B.sl.v478, kernelRun0_B.sl.v479,
      kernelRun0_B.sl.v493, kernelRun0_B.sl.v494, kernelRun0_B.sl.v495, kernelRun0_B.sl.v498, kernelRun0_B.sl.v501, kernelRun0_B.sl.v505,
      kernelRun0_B.sl.v506, kernelRun0_B.sl.v513, kernelRun0_B.sl.v517, kernelRun0_B.sl.v518, kernelRun0_B.sl.v532, kernelRun0_B.sl.v533,
      kernelRun0_B.sl.v534, kernelRun0_B.sl.v537, kernelRun0_B.sl.v540, kernelRun0_B.sl.v544, kernelRun0_B.sl.v545, kernelRun0_B.sl.v552,
      kernelRun0_B.sl.v556, kernelRun0_B.sl.v557, kernelRun0_B.sl.v571, kernelRun0_B.sl.v572, kernelRun0_B.sl.v573, kernelRun0_B.sl.v576,
      kernelRun0_B.sl.v579, kernelRun0_B.sl.v583, kernelRun0_B.sl.v584, kernelRun0_B.sl.v591, kernelRun0_B.sl.v595, kernelRun0_B.sl.v596,
      kernelRun0_B.sl.v610, kernelRun0_B.sl.v611, kernelRun0_B.sl.v612, kernelRun0_B.sl.v615, kernelRun0_B.sl.v618, kernelRun0_B.sl.v622,
      kernelRun0_B.sl.v623, kernelRun0_B.sl.v630, kernelRun0_B.sl.v634, kernelRun0_B.sl.v635, kernelRun0_B.sl.v649, kernelRun0_B.sl.v650,
      kernelRun0_B.sl.v651, kernelRun0_B.sl.v654, kernelRun0_B.sl.HS2_1, word_dmix, load, View.readCov_fill, View.readCov_skip, ld_whole]
    rfl

/-- The taps' gradient after a point. -/
theorem outs_dcw : (outsAt0 m c t.val t.isLt).2.2.2.2.2.2
      = if t.val % 16 = 0 then dcwAt m c t (k0_pay7 (F := Ideal)) [whole inb_S8x1024_S8x1024_0_0 (k0_pay7 (F := Ideal))]
        else dcwAt m c t (outsAt0 m c (t.val - 1) (Nat.lt_of_le_of_lt (Nat.sub_le _ _) t.isLt)).2.2.2.2.2.2 [whole inb_S8x1024_S8x1024_0_0 (outsAt0 m c (t.val - 1) (Nat.lt_of_le_of_lt (Nat.sub_le _ _) t.isLt)).2.2.2.2.2.2] := by
  split_ifs with h0
  on_goal 1 =>
    rw [outsAt0_A m c t h0]; dsimp only; rw [out0_A_18, View.read_writes_junk_eq_canon]; refine congrArg View.canon ?_
    show (_ :: _ : List _) = _
    simp (disch := decide) only [kernelRun0_A.sl.v811, kernelRun0_A.sl.v819, kernelRun0_A.sl.v828, kernelRun0_A.sl.H18_1, kernelRun0_A.sl.H18_2,
      kernelRun0_A.sl.H18_3, show @kernelRun0_A.sl.v723 = @kernelRun0_B.sl.v723 from rfl, show @kernelRun0_A.sl.v782 = @kernelRun0_B.sl.v782 from rfl]
  on_goal 2 =>
    rw [outsAt0_B m c t h0]; dsimp only; rw [out0_B_18, read_writes_unread _ _ inb_S8x1024_S8x1024_0_0 (by decide)]; refine congrArg View.canon ?_
    show (_ :: _ : List _) = _
  all_goals
    simp (disch := decide) only [kernelRun0_B.sl.v819, kernelRun0_B.sl.v828, word_pr, word_dcv, load, View.readCov_fill, View.readCov_skip, ld_whole]
    rfl

end Cert.Mixer
end
-- ==== Proof.Mixer.Blocks.lean ====
/-
  THE BLOCKS A GRID POINT OF THE MIXER'S GRADIENT READS, when the arguments are arrays of reals.
-/
module

public import proofs.«01_k».proof.Proof.Mixer.Conv
public import proofs.«01_k».proof.Proof.Mixer.Outs

@[expose] public section

set_option maxRecDepth 16384

noncomputable section

namespace Cert.Mixer

open Cert.KernelIdeal Cert.KernelIdeal.Gen
open Idealize.ShloMosaic Idealize.ShloMosaic.TcCoe Idealize.SL.Sem
open Cert.Lift Cert.NormRow Cert.Rows

variable (m : (ℓ : Loc nD τ sig) → Buf (Elt Ideal) ℓ) (c : Dev nD) (A : Args)

/-- The program's arguments hold the reals `A`. -/
structure Holds : Prop where
  z : m ((c : Thread nD τ).loc main_arg0) = lift₂ A.z
  dy : m ((c : Thread nD τ).loc main_arg1) = lift₂ A.dy
  lnG : m ((c : Thread nD τ).loc main_arg2) = lift₁ A.lnG
  lnB : m ((c : Thread nD τ).loc main_arg3) = lift₁ A.lnB
  w : m ((c : Thread nD τ).loc main_arg4) = lift₃ A.w
  b : m ((c : Thread nD τ).loc main_arg5) = lift₂ A.b
  cw : m ((c : Thread nD τ).loc main_arg6) = lift₂ A.cw
  gn : m ((c : Thread nD τ).loc main_arg7) = lift₁ A.gn

theorem point_lt (t : Fin cfg0.N) : t.val < 16 := lt_of_lt_of_eq t.isLt N_0

/-- The block each window is on at each grid point. -/
theorem idx : ∀ t : Fin cfg0.N, win0_0.index t = ![16 * t.val - 1, 0] ∧ win0_1.index t = ![t.val, 0] ∧ win0_2.index t = ![min ((t.val + 1) * 16) 255, 0]
    ∧ win0_3.index t = ![t.val, 0] ∧ win0_4.index t = ![min ((t.val + 1) * 16) 255, 0] ∧ win0_5.index t = ![0, 0] ∧ win0_6.index t = ![0, 0]
    ∧ win0_7.index t = ![0, 0, 0] ∧ win0_8.index t = ![0, 0, 0] ∧ win0_9.index t = ![0, 0, 0] ∧ win0_10.index t = ![0, 0] ∧ win0_11.index t = ![0, 0]
    ∧ win0_12.index t = ![t.val, 0] :=
  (by decide +kernel : ∀ t : Fin grid0.N, _)
/-- The point's number, as the kernel reads it. -/
theorem coord : ∀ t : Fin cfg0.N, (BitVec.ofNat 32 (grid0.coords t 0).val) = word t.val :=
  (by decide +kernel : ∀ t : Fin grid0.N, _)

theorem extRow_first (t : Fin cfg0.N) (r : Fin 16) : (extRow (point_lt t) (first r)).val = (16 * t.val - 1) * 16 + r.val := by
  have hr := r.isLt
  show extNat t.val r.val = _
  unfold extNat; rw [if_pos hr]
theorem extRow_last (t : Fin cfg0.N) (r : Fin 16) : (extRow (point_lt t) (last r)).val = min ((t.val + 1) * 16) 255 * 16 + r.val := by
  have hr := r.isLt
  show extNat t.val (272 + r.val) = _
  unfold extNat; rw [if_neg (by omega), if_neg (by omega)]; omega

/-! ## The host's operands -/

/-- Numbers divided by 64, rounded down, as the host computes them. -/
def chunks {S : Shape} (h : S_.BroadcastsInDim S (![] : Fin 0 → Fin S.rank)) (i : IVec S 32) : IVec S 32 :=
  select (andi (cmpi .ne (signi i) (broadcastInDim S ![] h (signi (constantI S_ 32 64#32))))
      (cmpi .ne (Host.remsi i (broadcastInDim S ![] h (constantI S_ 32 64#32))) (broadcastInDim S ![] h (constantI S_ 32 0#32))))
    (subi (Host.divsi i (broadcastInDim S ![] h (constantI S_ 32 64#32))) (broadcastInDim S ![] h (constantI S_ 32 1#32)))
    (Host.divsi i (broadcastInDim S ![] h (constantI S_ 32 64#32)))

/-- Which rows a row sees. -/
def sees : IVec S128x128 1 :=
  cmpi .sle (broadcastInDim S128x128 ![0, 1] bcast_S1x128_S128x128_0_1 (chunks bcast_S_S1x128 (broadcastInDim S1x128 ![1] bcast_S128_S1x128_1 (iotaInDim S128 32 0))))
    (broadcastInDim S128x128 ![0, 1] bcast_S128x1_S128x128_0_1 (chunks bcast_S_S128x1 (broadcastInDim S128x1 ![0] bcast_S128_S128x1_0 (iotaInDim S128 32 0))))

/-- The masked spatial weights. -/
def masked (W : FVec Ideal S8x128x128 .f32) : FVec Ideal S8x128x128 .bf16 :=
  truncf .bf16 (select (broadcastInDim S8x128x128 ![0, 1, 2] bcast_S1x128x128_S8x128x128_0_1_2 (broadcastInDim S1x128x128 ![1, 2] bcast_S128x128_S1x128x128_1_2 sees))
    W (broadcastInDim S8x128x128 ![] bcast_S_S8x128x128 (constant S_ .f32 0x00000000#32))) bitsLt_bf16_f32

theorem entry_w : V m c main_v10 = masked (m ((c : Thread nD τ).loc main_arg4)) := by
  show StableHlo.after _ _ _ = _
  simp only [List.flatten_cons, List.flatten_nil, List.append_nil, List.cons_append, List.nil_append]
  entry_read
  simp only [StableHlo.TRef.ofBuf_toBuf]
  rfl
theorem entry_wt : V m c main_v11 = transpose S8x128x128 [0, 2, 1] (masked (m ((c : Thread nD τ).loc main_arg4))) transposes_S8x128x128_S8x128x128_0_2_1 := by
  show StableHlo.after _ _ _ = _
  simp only [List.flatten_cons, List.flatten_nil, List.append_nil, List.cons_append, List.nil_append]
  entry_read
  simp only [StableHlo.TRef.ofBuf_toBuf]
  rfl
theorem entry_bias : V m c main_v13 = broadcastInDim S8x128x128 ![0, 1, 2] bcast_S8x128x1_S8x128x128_0_1_2
    (broadcastInDim S8x128x1 ![0, 1] bcast_S8x128_S8x128x1_0_1 (m ((c : Thread nD τ).loc main_arg5))) := by
  show StableHlo.after _ _ _ = _
  simp only [List.flatten_cons, List.flatten_nil, List.append_nil, List.cons_append, List.nil_append]
  entry_read <;> rfl
theorem entry_cw : V m c main_v14 = pad S8x1024 ![0, 0] ![5, 0] ![0, 0] (show FVec Ideal S3x1024 .f32 from m ((c : Thread nD τ).loc main_arg6)) (sitofp (F := Ideal) .f32 (constantI S_ 32 0#32))
    pads_S3x1024_S8x1024_050_000 h_S_ := by
  show StableHlo.after _ _ _ = _
  simp only [List.flatten_cons, List.flatten_nil, List.append_nil, List.cons_append, List.nil_append]
  entry_read
  simp only [StableHlo.TRef.ofBuf_toBuf]
  rfl
theorem entry_lnG : V m c main_v15 = shapeCast S1x1024 (m ((c : Thread nD τ).loc main_arg2)) shapeCasts_S1024_S1x1024 := by
  show StableHlo.after _ _ _ = _
  simp only [List.flatten_cons, List.flatten_nil, List.append_nil, List.cons_append, List.nil_append]
  entry_read <;> rfl
theorem entry_lnB : V m c main_v16 = shapeCast S1x1024 (m ((c : Thread nD τ).loc main_arg3)) shapeCasts_S1024_S1x1024 := by
  show StableHlo.after _ _ _ = _
  simp only [List.flatten_cons, List.flatten_nil, List.append_nil, List.cons_append, List.nil_append]
  entry_read <;> rfl
theorem entry_gn : V m c main_v17 = shapeCast S1x2048 (m ((c : Thread nD τ).loc main_arg7)) shapeCasts_S2048_S1x2048 := by
  show StableHlo.after _ _ _ = _
  simp only [List.flatten_cons, List.flatten_nil, List.append_nil, List.cons_append, List.nil_append]
  entry_read <;> rfl

/-- The chunks of the columns and of the rows. -/
theorem chunks_col (q : Fin 128) : chunks bcast_S_S1x128 (broadcastInDim S1x128 ![1] bcast_S128_S1x128_1 (iotaInDim S128 32 0)) (ix2 0 q) = BitVec.ofNat 32 (q.val / 64) := by
  pointwise [chunks]
  revert q
  decide +kernel
theorem chunks_row (p : Fin 128) : chunks bcast_S_S128x1 (broadcastInDim S128x1 ![0] bcast_S128_S128x1_0 (iotaInDim S128 32 0)) (ix2 p 0) = BitVec.ofNat 32 (p.val / 64) := by
  pointwise [chunks]
  revert p
  decide +kernel
theorem sees_eq (p q : Fin 128) : sees (ix2 p q) = BitVec.ofBool (decide (q.val / 64 ≤ p.val / 64)) := by
  pointwise [sees]
  rw [chunks_col, chunks_row]
  exact chunk_le ⟨q.val / 64, by omega⟩ ⟨p.val / 64, by omega⟩
theorem masked_eq (w : Fin 8 → Fin 128 → Fin 128 → ℝ) (h : Fin 8) (p q : Fin 128) :
    masked (lift₃ w) (ix3 h p q) = ((if q.val / 64 ≤ p.val / 64 then w h p q else 0 : ℝ) : EReal) := by
  pointwise [masked]
  rw [sees_eq]
  by_cases hc : q.val / 64 ≤ p.val / 64
  · rw [if_pos hc, decide_eq_true hc]; rfl
  · rw [if_neg hc, decide_eq_false hc]; rfl

variable {m c A} (H : Holds m c A) (t : Fin cfg0.N)
include H

theorem iblk_zp : iblk m c 0 t = zpBlk A (point_lt t) := by
  funext y
  show m ((c : Thread nD τ).loc main_arg0) _ = _
  rw [H.z]
  idx_vars y
  refine congrArg (lift₂ A.z) (show _ = ix2 (extRow (point_lt t) (first y0)) y1 from ?_)
  blk_ext [idx t, extRow_first t]
theorem iblk_z : iblk m c 1 t = zBlk A (point_lt t) := by
  funext y
  show m ((c : Thread nD τ).loc main_arg0) _ = _
  rw [H.z]
  idx_vars y
  refine congrArg (lift₂ A.z) (show _ = ix2 (rowAt (point_lt t) y0) y1 from ?_)
  blk_ext [idx t, rowAt_val]
theorem iblk_zn : iblk m c 2 t = znBlk A (point_lt t) := by
  funext y
  show m ((c : Thread nD τ).loc main_arg0) _ = _
  rw [H.z]
  idx_vars y
  refine congrArg (lift₂ A.z) (show _ = ix2 (extRow (point_lt t) (last y0)) y1 from ?_)
  blk_ext [idx t, extRow_last t]
theorem iblk_dy : iblk m c 3 t = dyBlk A (point_lt t) := by
  funext y
  show m ((c : Thread nD τ).loc main_arg1) _ = _
  rw [H.dy]
  idx_vars y
  refine congrArg (lift₂ A.dy) (show _ = ix2 (rowAt (point_lt t) y0) y1 from ?_)
  blk_ext [idx t, rowAt_val]
theorem iblk_dyn : iblk m c 4 t = dynBlk A (point_lt t) := by
  funext y
  show m ((c : Thread nD τ).loc main_arg1) _ = _
  rw [H.dy]
  idx_vars y
  refine congrArg (lift₂ A.dy) (show _ = ix2 (extRow (point_lt t) (last y0)) y1 from ?_)
  blk_ext [idx t, extRow_last t]
theorem iblk_lnG : iblk m c 5 t = rowBlk A.lnG := by
  funext y
  show V m c main_v15 _ = _
  rw [entry_lnG, H.lnG]
  idx_vars y
  pointwise []
  refine congrArg (lift₁ A.lnG) (show _ = ix1 y1 from ?_)
  blk_ext [idx t]
theorem iblk_lnB : iblk m c 6 t = rowBlk A.lnB := by
  funext y
  show V m c main_v16 _ = _
  rw [entry_lnB, H.lnB]
  idx_vars y
  pointwise []
  refine congrArg (lift₁ A.lnB) (show _ = ix1 y1 from ?_)
  blk_ext [idx t]
set_option maxHeartbeats 1000000 in
theorem iblk_gn : iblk m c 11 t = rowBlk A.gn := by
  funext y
  show V m c main_v17 _ = _
  rw [entry_gn, H.gn]
  idx_vars y
  pointwise []
  refine congrArg (lift₁ A.gn) (show _ = ix1 y1 from ?_)
  blk_ext [idx t]
theorem iblk_wm : iblk m c 7 t = wmBlk A := by
  funext y
  show V m c main_v10 _ = _
  rw [entry_w, H.w]
  idx_vars y
  refine (congrArg (masked (lift₃ A.w)) (show _ = ix3 y0 y1 y2 from ?_)).trans (masked_eq A.w y0 y1 y2)
  blk_ext [idx t]
theorem iblk_wmt : iblk m c 8 t = wmtBlk A := by
  funext y
  show V m c main_v11 _ = _
  rw [entry_wt, H.w]
  idx_vars y
  refine (congrArg (transpose S8x128x128 [0, 2, 1] (masked (lift₃ A.w)) transposes_S8x128x128_S8x128x128_0_2_1) (show _ = ix3 y0 y1 y2 from ?_)).trans ?_
  · blk_ext [idx t]
  · pointwise []
    exact masked_eq A.w y0 y2 y1
theorem iblk_bias : iblk m c 9 t = biasBlk A := by
  funext y
  show V m c main_v13 _ = _
  rw [entry_bias, H.b]
  idx_vars y
  pointwise []
  refine congrArg (lift₂ A.b) (show _ = ix2 y0 y1 from ?_)
  blk_ext [idx t]
theorem iblk_cw : iblk m c 10 t = cwBlk A := by
  funext y
  show V m c main_v14 _ = _
  rw [entry_cw, H.cw]
  idx_vars y
  refine (congrArg (pad S8x1024 ![0, 0] ![5, 0] ![0, 0] (lift₂ A.cw) (sitofp (F := Ideal) .f32 (constantI S_ 32 0#32)) pads_S3x1024_S8x1024_050_000 h_S_)
    (show _ = ix2 y0 y1 from ?_)).trans ?_
  · blk_ext [idx t]
  · pointwise [lift₂, cwBlk]
    by_cases h : y0.val < 3
    · rw [dif_pos h, dif_pos h]
    · rw [dif_neg h, dif_neg h]
      show (((0#32 : BitVec 32).toInt : ℝ) : EReal) = _
      simp

end Cert.Mixer

end
-- ==== Proof.Mixer.RefForward.lean ====
/-
  THE FORWARD LINES OF THE MIXER'S REFERENCE OVER THE REALS: the gates, the layer norm, the mixing, the convolution and the two branches with their norms' scales.
-/
module

public import proofs.«01_k».proof.Proof.Gen.ReferenceIdeal.Read
public import proofs.«01_k».proof.Proof.Mixer.Blocks

@[expose] public section

set_option maxRecDepth 16384

noncomputable section

namespace Cert.Mixer

open Cert.ReferenceIdeal Cert.ReferenceIdeal.Gen Cert.ReferenceIdeal.Read
open Idealize.ShloMosaic Cert.Lift Cert.NormRow Cert.Rows

variable (A : Args)

/-! ## The gates -/

theorem geluT_ref (x : ℝ) : Real.tanh (geluC * (x + geluK * (x * x * x))) = geluT x := by
  unfold geluT; congr 1; ring
theorem gelu_ref (x : ℝ) : x * (1 / 2 * (1 + geluT x)) = gelu x := by
  unfold gelu; ring

/-- The columns the activation takes. -/
def zg (i : Fin 4096) (j : Fin 2048) : ℝ := A.z i ⟨j.val, by omega⟩

theorem ref_x (i : Fin 4096) (j : Fin 2048) : val_main_v1 (F := Ideal) (lift₂ A.z) (ix2 i j) = ((zg A i j : ℝ) : EReal) := by
  pointwise [val_main_v1, val_main_v0, lift₂]
  rfl
theorem ref_tanh (i : Fin 4096) (j : Fin 2048) : val_main_v12 (F := Ideal) (lift₂ A.z) (ix2 i j) = ((geluT (zg A i j) : ℝ) : EReal) := by
  pointwise [val_main_v12, val_main_v11, val_main_v10, val_main_v9, val_main_v8, val_main_v7, val_main_v3, val_main_v2, val_main_cst_0, val_main_cst_1]
  simp only [ref_x, word_geluC, word_geluK, ← EReal.coe_mul, ← EReal.coe_add, Ideal.tanh_coe, geluT_ref]
theorem ref_gelu (i : Fin 4096) (j : Fin 2048) : val_main_v22 (F := Ideal) (lift₂ A.z) (ix2 i j) = ((gelu (zg A i j) : ℝ) : EReal) := by
  pointwise [val_main_v22, val_main_v21, val_main_v20, val_main_v19, val_main_v18, val_main_cst_4, val_main_cst_5]
  simp only [ref_x, ref_tanh, word_half, ← EReal.coe_one, ← EReal.coe_mul, ← EReal.coe_add, gelu_ref]

theorem ref_u (i : Fin 4096) (j : Fin 1024) : val_main_v23 (F := Ideal) (lift₂ A.z) (ix2 i j) = ((A.u i j : ℝ) : EReal) := by
  pointwise [val_main_v23]
  rw [ref_gelu]
  exact congrArg (fun k => ((gelu (A.z i k) : ℝ) : EReal)) (Fin.ext (Nat.zero_add _).symm)
theorem ref_v (i : Fin 4096) (j : Fin 1024) : val_main_v24 (F := Ideal) (lift₂ A.z) (ix2 i j) = ((A.v i j : ℝ) : EReal) := by
  pointwise [val_main_v24]
  rw [ref_gelu]
  rfl
theorem ref_zb (i : Fin 4096) (j : Fin 1024) : val_main_v25 (F := Ideal) (lift₂ A.z) (ix2 i j) = ((A.z i (col 2 j) : ℝ) : EReal) := by
  pointwise [val_main_v25, val_main_v0, lift₂]
  rfl
theorem ref_zc (i : Fin 4096) (j : Fin 1024) : val_main_v26 (F := Ideal) (lift₂ A.z) (ix2 i j) = ((A.z i (col 3 j) : ℝ) : EReal) := by
  pointwise [val_main_v26, val_main_v0, lift₂]
  rfl
theorem ref_zh (i : Fin 4096) (j : Fin 1024) : val_main_v27 (F := Ideal) (lift₂ A.z) (ix2 i j) = ((A.z i (col 4 j) : ℝ) : EReal) := by
  pointwise [val_main_v27, val_main_v0, lift₂]
  rfl

/-! ## The layer norm -/

theorem ref_xc (i : Fin 4096) (j : Fin 1024) : val_main_v41 (F := Ideal) (lift₂ A.z) (ix2 i j) = ((lnXc (A.v i) j : ℝ) : EReal) := by
  pointwise [val_main_v41, val_main_v40, val_main_v39, val_main_v38, val_main_v37, val_main_v36, val_main_cst_7, val_main_cst_8]
  simp only [ref_v, word_zero, word_1024, sum_coe, ← EReal.coe_add, ← EReal.coe_sub, div_1024, zero_add]
  rfl
theorem ref_var (i : Fin 4096) (k : Fin 1) : val_main_v48 (F := Ideal) (lift₂ A.z) (ix2 i k) = ((lnVar (A.v i) : ℝ) : EReal) := by
  pointwise [val_main_v48, val_main_v47, val_main_v46, val_main_v45, val_main_v44, val_main_v43, val_main_v42, val_main_cst_9, val_main_cst_10, val_main_cst_11]
  simp only [ref_xc, word_zero, word_1024, word_lnEps, sum_coe, ← EReal.coe_add, ← EReal.coe_mul, div_1024, zero_add]
  rfl
theorem ref_rstd (i : Fin 4096) (k : Fin 1) : val_main_v49 (F := Ideal) (lift₂ A.z) (ix2 i k) = ((lnScale (A.v i) : ℝ) : EReal) := by
  pointwise [val_main_v49]
  rw [ref_var]
  exact rsqrt_lnVar (A.v i)
theorem ref_hat (i : Fin 4096) (j : Fin 1024) : val_main_v54 (F := Ideal) (lift₂ A.z) (ix2 i j) = ((lnHat (A.v i) j : ℝ) : EReal) := by
  pointwise [val_main_v54, val_main_v53]
  simp only [ref_xc, ref_rstd, ← EReal.coe_mul]
  rfl
theorem ref_vn (i : Fin 4096) (j : Fin 1024) :
    val_main_v60 (F := Ideal) (lift₂ A.z) (lift₁ A.lnG) (lift₁ A.lnB) (ix2 i j) = ((A.vn i j : ℝ) : EReal) := by
  pointwise [val_main_v60, val_main_v59, val_main_v58, val_main_v57, val_main_v56, val_main_v55, lift₁]
  simp only [ref_hat, ← EReal.coe_mul, ← EReal.coe_add]
  rfl

/-! ## The mixing -/

theorem ref_sees (p q : Fin 128) : val_main_v35 (F := Ideal) (ix2 p q) = BitVec.ofBool (decide (q.val / 64 ≤ p.val / 64)) :=
  sees_eq p q
theorem ref_wm (h : Fin 8) (p q : Fin 128) : val_main_v63_0 (F := Ideal) (lift₃ A.w) (ix3 h p q) = ((A.wm h p q : ℝ) : EReal) :=
  masked_eq A.w h p q
theorem ref_v4 (f : Fin 32) (p : Fin 128) (h : Fin 8) (d : Fin 128) :
    val_main_v61 (F := Ideal) (lift₂ A.z) (lift₁ A.lnG) (lift₁ A.lnB) (ix4 f p h d) = ((A.vn (frameRow f p) (headCol h d) : ℝ) : EReal) := by
  pointwise [val_main_v61]
  rw [ref_vn]
  exact congrArg₂ (fun i k => ((A.vn i k : ℝ) : EReal)) (Fin.ext (show f.val * 128 + p.val = 128 * f.val + p.val by omega))
    (Fin.ext (show h.val * 128 + d.val = 128 * h.val + d.val by omega))
theorem ref_mix4 (f : Fin 32) (p : Fin 128) (h : Fin 8) (d : Fin 128) :
    val_main_v69 (F := Ideal) (lift₂ A.z) (lift₁ A.lnG) (lift₁ A.lnB) (lift₃ A.w) (lift₂ A.b) (ix4 f p h d)
      = ((∑ q, A.wm h p q * A.vn (frameRow f q) (headCol h d) + A.b h p : ℝ) : EReal) := by
  pointwise [val_main_v69, val_main_v68, val_main_v67, val_main_v66, val_main_v65, val_main_v64]
  simp only [ref_v4, ref_wm, ← EReal.coe_mul, sum_coe]
  refine congrArg Real.toEReal (congrArg (· + A.b h p) (Finset.sum_congr rfl fun q _ => mul_comm _ _))
theorem ref_mixed (i : Fin 4096) (j : Fin 1024) :
    val_main_v70 (F := Ideal) (lift₂ A.z) (lift₁ A.lnG) (lift₁ A.lnB) (lift₃ A.w) (lift₂ A.b) (ix2 i j) = ((A.mixed i j : ℝ) : EReal) := by
  pointwise [val_main_v70]
  rw [ref_mix4]
  have h : headCol (head j) ⟨j.val % 128, by omega⟩ = j := Fin.ext (show 128 * (j.val / 128) + j.val % 128 = j.val by omega)
  exact congrArg (fun k => ((∑ q, A.wm (head j) (pos i) q * A.vn (frameRow (frame i) q) k + A.b (head j) (pos i) : ℝ) : EReal)) h
theorem ref_ya (i : Fin 4096) (j : Fin 1024) :
    val_main_v71 (F := Ideal) (lift₂ A.z) (lift₁ A.lnG) (lift₁ A.lnB) (lift₃ A.w) (lift₂ A.b) (ix2 i j) = ((A.ya i j : ℝ) : EReal) := by
  pointwise [val_main_v71]
  simp only [ref_u, ref_mixed, ← EReal.coe_mul]
  rfl

/-! ## The convolution -/

theorem ref_pr (i : Fin 4096) (j : Fin 1024) : val_main_v72 (F := Ideal) (lift₂ A.z) (ix2 i j) = ((A.pr i j : ℝ) : EReal) := by
  pointwise [val_main_v72]
  simp only [ref_zc, ref_zh, ← EReal.coe_mul]
  rfl
/-- What is convolved, after two rows of zeros. -/
theorem ref_padded (i : Fin 4098) (j : Fin 1024) :
    val_main_v74 (F := Ideal) (lift₂ A.z) (ix2 i j) = ((if 2 ≤ i.val then A.pr ⟨i.val - 2, by omega⟩ j else 0 : ℝ) : EReal) := by
  pointwise [val_main_v74, val_main_v73, val_main_cst_14]
  by_cases h : i.val < 2
  · rw [dif_pos h, if_neg (by omega)]; rfl
  · rw [dif_neg h]
    exact (ref_pr A ⟨i.val - 2, by omega⟩ j).trans (congrArg Real.toEReal (if_pos (by omega)).symm)
theorem ref_shift2 (i : Fin 4096) (j : Fin 1024) : val_main_v76 (F := Ideal) (lift₂ A.z) (ix2 i j) = ((before A.pr 2 i j : ℝ) : EReal) := by
  pointwise [val_main_v76]
  rw [ref_padded]
  rfl
theorem ref_shift1 (i : Fin 4096) (j : Fin 1024) : val_main_v84 (F := Ideal) (lift₂ A.z) (ix2 i j) = ((before A.pr 1 i j : ℝ) : EReal) := by
  pointwise [val_main_v84]
  rw [ref_padded]
  by_cases h : 1 ≤ i.val
  · rw [if_pos (show 2 ≤ 1 + i.val by omega), before, if_pos h]
    exact congrArg (fun k => ((A.pr k j : ℝ) : EReal)) (Fin.ext (show 1 + i.val - 2 = i.val - 1 by omega))
  · rw [if_neg (show ¬2 ≤ 1 + i.val by omega), before, if_neg h]
theorem ref_shift0 (i : Fin 4096) (j : Fin 1024) : val_main_v91 (F := Ideal) (lift₂ A.z) (ix2 i j) = ((A.pr i j : ℝ) : EReal) := by
  pointwise [val_main_v91]
  rw [ref_padded, if_pos (show 2 ≤ 2 + i.val by omega)]
  exact congrArg (fun k => ((A.pr k j : ℝ) : EReal)) (Fin.ext (show 2 + i.val - 2 = i.val by omega))
theorem ref_tap0 (i : Fin 1) (j : Fin 1024) : val_main_v79 (F := Ideal) (lift₂ A.cw) (ix2 i j) = ((A.cw 0 j : ℝ) : EReal) := by
  pointwise [val_main_v79, val_main_v78, val_main_v77, lift₂]
theorem ref_tap1 (i : Fin 1) (j : Fin 1024) : val_main_v87 (F := Ideal) (lift₂ A.cw) (ix2 i j) = ((A.cw 1 j : ℝ) : EReal) := by
  pointwise [val_main_v87, val_main_v86, val_main_v85, lift₂]
theorem ref_tap2 (i : Fin 1) (j : Fin 1024) : val_main_v94 (F := Ideal) (lift₂ A.cw) (ix2 i j) = ((A.cw 2 j : ℝ) : EReal) := by
  pointwise [val_main_v94, val_main_v93, val_main_v92, lift₂]
theorem ref_cv (i : Fin 4096) (j : Fin 1024) : val_main_v97 (F := Ideal) (lift₂ A.z) (lift₂ A.cw) (ix2 i j) = ((A.cv i j : ℝ) : EReal) := by
  pointwise [val_main_v97, val_main_v96, val_main_v95, val_main_v90, val_main_v89, val_main_v88, val_main_v83, val_main_v82, val_main_v81, val_main_v80, val_main_cst_16]
  simp only [ref_shift0, ref_shift1, ref_shift2, ref_tap0, ref_tap1, ref_tap2, word_zero, ← EReal.coe_mul, ← EReal.coe_add]
  refine congrArg Real.toEReal ?_
  unfold Args.cv; ring
theorem ref_yb (i : Fin 4096) (j : Fin 1024) : val_main_v98 (F := Ideal) (lift₂ A.z) (lift₂ A.cw) (ix2 i j) = ((A.yb i j : ℝ) : EReal) := by
  pointwise [val_main_v98]
  simp only [ref_zb, ref_cv, ← EReal.coe_mul]
  rfl

/-! ## The branches' norms -/

theorem ref_meanA (i : Fin 4096) (k : Fin 1) :
    val_main_v106 (F := Ideal) (lift₂ A.z) (lift₁ A.lnG) (lift₁ A.lnB) (lift₃ A.w) (lift₂ A.b) (ix2 i k) = ((meanSq 1024 (A.ya i) : ℝ) : EReal) := by
  pointwise [val_main_v106, val_main_v105, val_main_v104, val_main_v103, val_main_v102, val_main_v101, val_main_v100, val_main_cst_17, val_main_cst_18, val_main_cst_19]
  simp only [ref_ya, word_zero, word_1024, word_rmsEps, ← EReal.coe_mul, sum_coe, div_1024, ← EReal.coe_add, zero_add]
  rfl
theorem ref_scaleA (i : Fin 4096) (k : Fin 1) :
    val_main_v107 (F := Ideal) (lift₂ A.z) (lift₁ A.lnG) (lift₁ A.lnB) (lift₃ A.w) (lift₂ A.b) (ix2 i k) = ((scale 1024 (A.ya i) : ℝ) : EReal) := by
  pointwise [val_main_v107]
  rw [ref_meanA]
  exact rsqrt_real (meanSq_pos (by norm_num) _)
theorem ref_meanB (i : Fin 4096) (k : Fin 1) : val_main_v123 (F := Ideal) (lift₂ A.z) (lift₂ A.cw) (ix2 i k) = ((meanSq 1024 (A.yb i) : ℝ) : EReal) := by
  pointwise [val_main_v123, val_main_v122, val_main_v121, val_main_v120, val_main_v119, val_main_v118, val_main_v117, val_main_cst_21, val_main_cst_22, val_main_cst_23]
  simp only [ref_yb, word_zero, word_1024, word_rmsEps, ← EReal.coe_mul, sum_coe, div_1024, ← EReal.coe_add, zero_add]
  rfl
theorem ref_scaleB (i : Fin 4096) (k : Fin 1) : val_main_v124 (F := Ideal) (lift₂ A.z) (lift₂ A.cw) (ix2 i k) = ((scale 1024 (A.yb i) : ℝ) : EReal) := by
  pointwise [val_main_v124]
  rw [ref_meanB]
  exact rsqrt_real (meanSq_pos (by norm_num) _)
theorem ref_hatA (i : Fin 4096) (j : Fin 1024) :
    val_main_v112 (F := Ideal) (lift₂ A.z) (lift₁ A.lnG) (lift₁ A.lnB) (lift₃ A.w) (lift₂ A.b) (ix2 i j) = ((A.ya i j * scale 1024 (A.ya i) : ℝ) : EReal) := by
  pointwise [val_main_v112, val_main_v111]
  simp only [ref_ya, ref_scaleA, ← EReal.coe_mul]
theorem ref_hatB (i : Fin 4096) (j : Fin 1024) :
    val_main_v129 (F := Ideal) (lift₂ A.z) (lift₂ A.cw) (ix2 i j) = ((A.yb i j * scale 1024 (A.yb i) : ℝ) : EReal) := by
  pointwise [val_main_v129, val_main_v128]
  simp only [ref_yb, ref_scaleB, ← EReal.coe_mul]

end Cert.Mixer

end
-- ==== Proof.Mixer.Final.lean ====
/-
  WHAT THE MIXER'S GRADIENT HOLDS AFTER THE RUN: what every grid point leaves in the results' buffers, and the sums over the points.
-/
module

public import proofs.«01_k».proof.Proof.Mixer.Blocks
public import proofs.«01_k».proof.Proof.Gen.KernelIdeal.Value

@[expose] public section

set_option maxRecDepth 16384

noncomputable section

namespace Cert.Mixer

open Cert.KernelIdeal Cert.KernelIdeal.Gen
open Idealize.ShloMosaic Idealize.ShloMosaic.TcCoe Idealize.SL.Sem
open Idealize.ShloMosaic.Pipeline (Dat)
open Cert.Lift Cert.NormRow Cert.Rows

/-! ## Rows and sums -/

/-- The part a column belongs to, and its place there. -/
def partOf (j : Fin 5120) : Fin 5 := ⟨j.val / 1024, by omega⟩
def partCol (j : Fin 5120) : Fin 1024 := ⟨j.val % 1024, by omega⟩
def halfOf (j : Fin 2048) : Fin 2 := ⟨j.val / 1024, by omega⟩
def halfCol (j : Fin 2048) : Fin 1024 := ⟨j.val % 1024, by omega⟩

namespace Args
variable (A : Args)
/-- A row of the gradient. -/
def dzRow (i : Fin 4096) (j : Fin 5120) : ℝ := A.dz i (partOf j) (partCol j)
/-- What a row adds to the gradient of the norms' gains. -/
def gnRow (i : Fin 4096) (j : Fin 2048) : ℝ := (![A.gnTermA i, A.gnTermB i] : Fin 2 → Fin 1024 → ℝ) (halfOf j) (halfCol j)
/-- What a frame adds to the gradient of the spatial weights and biases. -/
def wsTerm (h : Fin 8) (p q : Fin 128) (f : Fin 32) : ℝ := ∑ d, A.dmix (frameRow f p) (headCol h d) * A.vn (frameRow f q) (headCol h d)
def bsTerm (h : Fin 8) (p : Fin 128) (f : Fin 32) : ℝ := ∑ d, A.dmix (frameRow f p) (headCol h d)
/-- What a row adds to the gradient of the taps, in eight rows. -/
def cwRow (i : Fin 4096) (k : Fin 8) (j : Fin 1024) : ℝ := if k.val < 3 then A.dcv i j * before A.pr (2 - k.val) i j else 0
end Args

/-- Frame `b` of a point. -/
def frameAt {t : ℕ} (ht : t < 16) (b : Fin 2) : Fin 32 := ⟨t * 2 + b.val, by omega⟩
theorem rowAt_tileRow {t : ℕ} (ht : t < 16) (b : Fin 2) (p : Fin 128) : rowAt ht (tileRow b p) = frameRow (frameAt ht b) p :=
  Fin.ext (show t * 256 + (128 * b.val + p.val) = 128 * (t * 2 + b.val) + p.val by omega)
/-- A sum over the points and the frames of each is the sum over the frames. -/
theorem sum_frames {N : ℕ} (hN : N = 16) (f : Fin 32 → ℝ) : ∑ t : Fin N, ∑ b : Fin 2, f (frameAt (lt_of_lt_of_eq t.isLt hN) b) = ∑ i, f i := by
  subst hN
  exact Fin.sum_mul_add_congr fun t r h => rfl

variable {m : (ℓ : Loc nD τ sig) → Buf (Elt Ideal) ℓ} {c : Dev nD} {A : Args} (H : Holds m c A) (t : Fin cfg0.N)

/-! ## The gradient of the rows -/

theorem dzPiece {t : ℕ} (ht : t < 16) (k : Fin 5) {o : ℕ} (hk : o = 1024 * k.val) (inb : ∀ a, (![0, o] : Fin 2 → ℕ) a + S256x1024.size a ≤ S256x5120.size a)
    {X : Vec Ideal S256x1024 .bf16} (hX : X = lift₂ fun r j => A.dz (rowAt ht r) k j) (x : S256x1024.Idx) :
    X x = lift₂ (fun r j => A.dzRow (rowAt ht r) j) ((Rect.unit (s := S256x5120) ![0, o] S256x1024.size inb).idx x) := by
  idx_vars x
  have h0 : ((Rect.unit (s := S256x5120) ![0, o] S256x1024.size inb).idx (ix2 x0 x1)) = ix2 x0 (col k x1) := funext fun a => Fin.ext (match a with
    | 0 => (Nat.zero_add _).trans (Nat.one_mul _)
    | 1 => congrArg₂ (· + ·) hk (Nat.one_mul _))
  rw [h0, hX]
  have h1 := x1.isLt
  have hp : partOf (col k x1) = k := Fin.ext (show (1024 * k.val + x1.val) / 1024 = k.val by omega)
  have hc : partCol (col k x1) = x1 := Fin.ext (show (1024 * k.val + x1.val) % 1024 = x1.val by omega)
  show ((A.dz (rowAt ht x0) k x1 : ℝ) : EReal) = ((A.dz (rowAt ht x0) (partOf (col k x1)) (partCol (col k x1)) : ℝ) : EReal)
  rw [hp, hc]

theorem strip (o : ℕ) (inb : ∀ a, (![0, o] : Fin 2 → ℕ) a + S256x1024.size a ≤ S256x5120.size a) (y : S256x5120.Idx) (h : o ≤ (y 1).val) (h' : (y 1).val < o + 1024) :
    y ∈ (Rect.unit (s := S256x5120) ![0, o] S256x1024.size inb).set :=
  (Rect.mem_set_unit (inb := inb)).mpr fun a => match a with
    | 0 => ⟨Nat.zero_le _, lt_of_lt_of_eq (y 0).isLt (Nat.zero_add _).symm⟩
    | 1 => ⟨h, h'⟩

include H in
theorem dzAt_eq : dzAt m c t = lift₂ fun r j => A.dzRow (rowAt (point_lt t) r) j := by
  rw [dzAt, coord, iblk_zp H, iblk_z H, iblk_zn H, iblk_dy H, iblk_dyn H, iblk_lnG H, iblk_lnB H, iblk_wm H, iblk_wmt H, iblk_bias H, iblk_cw H, iblk_gn H]
  funext y
  rw [← List.append_nil (dzParts _ _ _ _ _ _ _ _ _ _ _ _ _)]
  refine View.canon_append_of_pieces (Val := Elt Ideal) (e := .bf16) (lift₂ fun r j => A.dzRow (rowAt (point_lt t) r) j) [] _ ?_ y ?_
  · rw [dzParts]
    simp only [List.forall_mem_cons]
    exact ⟨dzPiece _ 4 rfl _ (dzH_eq A _), dzPiece _ 3 rfl _ (dzC_eq A _), dzPiece _ 2 rfl _ (dzB_eq A _), dzPiece _ 1 rfl _ (dzV_eq A _),
      dzPiece _ 0 rfl _ (dzU_eq A _), by simp⟩
  · have h1 : (y 1).val < 5120 := (y 1).isLt
    rw [dzParts]
    rcases (by omega : 4096 ≤ (y 1).val ∨ (3072 ≤ (y 1).val ∧ (y 1).val < 4096) ∨ (2048 ≤ (y 1).val ∧ (y 1).val < 3072) ∨ (1024 ≤ (y 1).val ∧ (y 1).val < 2048)
      ∨ (y 1).val < 1024) with h | h | h | h | h
    · exact ⟨_, .head _, strip 4096 inb_S256x5120_S256x1024_0_4096 y h (by omega)⟩
    · exact ⟨_, .tail _ (.head _), strip 3072 inb_S256x5120_S256x1024_0_3072 y h.1 h.2⟩
    · exact ⟨_, .tail _ (.tail _ (.head _)), strip 2048 inb_S256x5120_S256x1024_0_2048 y h.1 h.2⟩
    · exact ⟨_, .tail _ (.tail _ (.tail _ (.head _))), strip 1024 inb_S256x5120_S256x1024_0_1024 y h.1 h.2⟩
    · exact ⟨_, .tail _ (.tail _ (.tail _ (.tail _ (.head _)))), strip 0 inb_S256x5120_S256x1024_0_0 y (Nat.zero_le _) (by omega)⟩

include H in
theorem after_dz : (dats m 0 c).after 12 t = lift₂ fun r j => A.dzRow (rowAt (point_lt t) r) j := by
  rw [after0_12, outs_dz, dzAt_eq H]

/-- The gradient of the rows. -/
def dzAll (A : Args) (i : S4096x5120.Idx) : EReal := ((A.dzRow (i 0) (i 1) : ℝ) : EReal)

include H in
/-- The first result, after the run. -/
theorem final_dz : (dats m 0 c).arrAt 12 (cfgs 0).N = dzAll A := by
  refine (dats m 0 c).arrAt_eq_of_covers 12 _ (by decide +kernel) fun t _ y => ?_
  blk_simp
  rw [after_dz H]
  idx_vars y
  refine Eq.trans (b := dzAll A (ix2 (rowAt (point_lt t) y0) y1)) rfl ?_
  refine congrArg (dzAll A) ?_
  blk_ext [idx t, rowAt_val]

/-! ## The gradients the points add up -/

theorem S1_eta {n : ℕ} (y : (⟨2, ![1, n]⟩ : Shape).Idx) : y = ix2 (0 : Fin 1) (show Fin n from y 1) := funext fun a => match a with
  | 0 => Subsingleton.elim (α := Fin 1) _ _
  | 1 => rfl

/-- Half `k` of a row of 2048, stored, is that half of the row. -/
theorem half_piece (f : Fin 2048 → EReal) (k : Fin 2) {o : ℕ} (hk : o = 1024 * k.val) (inb : ∀ a, (![0, o] : Fin 2 → ℕ) a + S1x1024.size a ≤ S1x2048.size a)
    {X : Vec Ideal S1x1024 .f32} (hX : ∀ j : Fin 1024, X (ix2 0 j) = f ⟨1024 * k.val + j.val, by omega⟩) (x : S1x1024.Idx) :
    X x = f ((Rect.unit (s := S1x2048) ![0, o] S1x1024.size inb).idx x 1) := by
  subst hk
  rw [S1_eta x]
  exact (hX _).trans (congrArg f (Fin.ext (congrArg (1024 * k.val + ·) (Nat.one_mul _).symm)))

theorem ld_half (P : Vec Ideal S1x2048 .f32) (k : Fin 2) {o : ℕ} (hk : o = 1024 * k.val) (inb : ∀ a, (![0, o] : Fin 2 → ℕ) a + S1x1024.size a ≤ S1x2048.size a) (j : Fin 1024) :
    View.ld P (Rect.unit (s := S1x2048) ![0, o] S1x1024.size inb) (ix2 0 j) = P (ix2 0 ⟨1024 * k.val + j.val, by omega⟩) := by
  subst hk
  exact congrArg P (funext fun a => Fin.ext (match a with
    | 0 => rfl
    | 1 => congrArg (1024 * k.val + ·) (Nat.one_mul _)))

theorem gnRow_left (i : Fin 4096) (j : Fin 1024) : A.gnRow i ⟨1024 * (0 : Fin 2).val + j.val, by omega⟩ = A.gnTermA i j := by
  have h : halfOf ⟨1024 * (0 : Fin 2).val + j.val, by omega⟩ = 0 := Fin.ext (show (1024 * 0 + j.val) / 1024 = 0 by omega)
  have h' : halfCol ⟨1024 * (0 : Fin 2).val + j.val, by omega⟩ = j := Fin.ext (show (1024 * 0 + j.val) % 1024 = j.val by omega)
  rw [Args.gnRow, h, h']; rfl
theorem gnRow_right (i : Fin 4096) (j : Fin 1024) : A.gnRow i ⟨1024 * (1 : Fin 2).val + j.val, by omega⟩ = A.gnTermB i j := by
  have h : halfOf ⟨1024 * (1 : Fin 2).val + j.val, by omega⟩ = 1 := Fin.ext (show (1024 * 1 + j.val) / 1024 = 1 by omega)
  have h' : halfCol ⟨1024 * (1 : Fin 2).val + j.val, by omega⟩ = j := Fin.ext (show (1024 * 1 + j.val) % 1024 = j.val by omega)
  rw [Args.gnRow, h, h']; rfl

/-- What a point adds to each gradient. -/
def gnStep (A : Args) (t : Fin cfg0.N) (j : Fin 2048) : ℝ := ∑ r, A.gnRow (rowAt (point_lt t) r) j
def lngStep (A : Args) (t : Fin cfg0.N) (j : Fin 1024) : ℝ := ∑ r, A.dvn (rowAt (point_lt t) r) j * lnHat (A.v (rowAt (point_lt t) r)) j
def lnbStep (A : Args) (t : Fin cfg0.N) (j : Fin 1024) : ℝ := ∑ r, A.dvn (rowAt (point_lt t) r) j
def wsStep (A : Args) (t : Fin cfg0.N) (h : Fin 8) (p q : Fin 128) : ℝ := if q.val / 64 ≤ p.val / 64 then ∑ b, A.wsTerm h p q (frameAt (point_lt t) b) else 0
def bsStep (A : Args) (t : Fin cfg0.N) (h : Fin 8) (p : Fin 128) : ℝ := ∑ b, A.bsTerm h p (frameAt (point_lt t) b)
def cwStep (A : Args) (t : Fin cfg0.N) (k : Fin 8) (j : Fin 1024) : ℝ := ∑ r, A.cwRow (rowAt (point_lt t) r) k j

def gnNext (A : Args) (t : Fin cfg0.N) (P : Vec Ideal S1x2048 .f32) (j : Fin 2048) : EReal := P (ix2 0 j) + ((gnStep A t j : ℝ) : EReal)

include H in
theorem dgnAt_eq (P L y) : dgnAt m c t P L y = P y + ((gnStep A t (y 1) : ℝ) : EReal) := by
  rw [dgnAt, coord, iblk_zp H, iblk_z H, iblk_zn H, iblk_dy H, iblk_dyn H, iblk_lnG H, iblk_lnB H, iblk_wm H, iblk_bias H, iblk_cw H, halves]
  refine (View.canon_append_of_pieces (Val := Elt Ideal) (e := .f32) (fun y : S1x2048.Idx => gnNext A t P (y 1)) L _ ?_ y ?_).trans
    (congrArg (fun x => P x + ((gnStep A t (y 1) : ℝ) : EReal)) (S1_eta y).symm)
  · simp only [List.forall_mem_cons]
    refine ⟨half_piece (o := 1024) (gnNext A t P) 1 rfl inb_S1x2048_S1x1024_0_1024 fun j => ?_, half_piece (o := 0) (gnNext A t P) 0 rfl inb_S1x2048_S1x1024_0_0 fun j => ?_, by simp⟩
    · refine (dgnB_eq A (point_lt t) _ j).trans (congrArg₂ (fun a b : EReal => a + b) (ld_half P 1 rfl _ j) (congrArg Real.toEReal ?_))
      exact Finset.sum_congr rfl fun r _ => (gnRow_right _ j).symm
    · refine (dgnA_eq A (point_lt t) _ j).trans (congrArg₂ (fun a b : EReal => a + b) (ld_half P 0 rfl _ j) (congrArg Real.toEReal ?_))
      exact Finset.sum_congr rfl fun r _ => (gnRow_left _ j).symm
  · have h1 : (y 1).val < 2048 := (y 1).isLt
    rcases (by omega : 1024 ≤ (y 1).val ∨ (y 1).val < 1024) with h | h
    · exact ⟨_, .head _, (Rect.mem_set_unit (inb := inb_S1x2048_S1x1024_0_1024)).mpr fun a => match a with
        | 0 => ⟨Nat.zero_le _, (y 0).isLt⟩
        | 1 => ⟨h, h1⟩⟩
    · exact ⟨_, .tail _ (.head _), (Rect.mem_set_unit (inb := inb_S1x2048_S1x1024_0_0)).mpr fun a => match a with
        | 0 => ⟨Nat.zero_le _, (y 0).isLt⟩
        | 1 => ⟨Nat.zero_le _, h⟩⟩

include H in
theorem dlngAt_eq (P L y) : dlngAt m c t P L y = P y + ((lngStep A t (y 1) : ℝ) : EReal) := by
  rw [dlngAt, iblk_z H, iblk_dy H, iblk_lnG H, iblk_lnB H, iblk_wm H, iblk_wmt H, iblk_bias H, iblk_gn H, whole]
  refine (congrFun (View.canon_cons_unit_lit _ _ L (by decide)) y).trans ?_
  rw [S1_eta y]
  exact dlng_eq A (point_lt t) P _
include H in
theorem dlnbAt_eq (P L y) : dlnbAt m c t P L y = P y + ((lnbStep A t (y 1) : ℝ) : EReal) := by
  rw [dlnbAt, iblk_z H, iblk_dy H, iblk_lnG H, iblk_lnB H, iblk_wm H, iblk_wmt H, iblk_bias H, iblk_gn H, whole]
  refine (congrFun (View.canon_cons_unit_lit _ _ L (by decide)) y).trans ?_
  rw [S1_eta y]
  exact dlnb_eq A (point_lt t) P _

/-! ## The spatial weights, the biases, the taps -/

/-- Head `h` of eight squares, stored, is that head. -/
theorem head_piece {n : ℕ} (f : Fin 8 → Fin n → Fin 128 → EReal) (h : Fin 8) {X : Vec Ideal ⟨3, ![1, n, 128]⟩ .f32} (hX : ∀ p q, X (ix3 0 p q) = f h p q)
    (inb : ∀ a, (![h.val, 0, 0] : Fin 3 → ℕ) a + (![1, n, 128] : Fin 3 → ℕ) a ≤ (![8, n, 128] : Fin 3 → ℕ) a) (x : (⟨3, ![1, n, 128]⟩ : Shape).Idx) :
    X x = (fun y : (⟨3, ![8, n, 128]⟩ : Shape).Idx => f (y 0) (y 1) (y 2)) ((Rect.unit (s := ⟨3, ![8, n, 128]⟩) ![h.val, 0, 0] ![1, n, 128] inb).idx x) := by
  have hx : x = ix3 (0 : Fin 1) (show Fin n from x 1) (show Fin 128 from x 2) := funext fun a => match a with
    | 0 => Subsingleton.elim (α := Fin 1) _ _
    | 1 => rfl
    | 2 => rfl
  have h0 : (Rect.unit (s := ⟨3, ![8, n, 128]⟩) ![h.val, 0, 0] ![1, n, 128] inb).idx x = ix3 h (show Fin n from x 1) (show Fin 128 from x 2) := funext fun a => Fin.ext (match a with
    | 0 => by
      have h1 : (x 0).val < 1 := (x 0).isLt
      show h.val + 1 * (x 0).val = h.val
      omega
    | 1 => (Nat.zero_add _).trans (Nat.one_mul _)
    | 2 => (Nat.zero_add _).trans (Nat.one_mul _))
  rw [h0, hx]
  exact hX _ _
theorem ld_head {n : ℕ} (P : Vec Ideal ⟨3, ![8, n, 128]⟩ .f32) (h : Fin 8) (inb : ∀ a, (![h.val, 0, 0] : Fin 3 → ℕ) a + (![1, n, 128] : Fin 3 → ℕ) a ≤ (![8, n, 128] : Fin 3 → ℕ) a)
    (p : Fin n) (q : Fin 128) : View.ld P (Rect.unit (s := ⟨3, ![8, n, 128]⟩) ![h.val, 0, 0] ![1, n, 128] inb) (ix3 0 p q) = P (ix3 h p q) :=
  congrArg P (funext fun a => Fin.ext (match a with
    | 0 => rfl
    | 1 => (Nat.zero_add _).trans (Nat.one_mul _)
    | 2 => (Nat.zero_add _).trans (Nat.one_mul _)))
theorem mem_head {n : ℕ} (h : Fin 8) (inb : ∀ a, (![h.val, 0, 0] : Fin 3 → ℕ) a + (![1, n, 128] : Fin 3 → ℕ) a ≤ (![8, n, 128] : Fin 3 → ℕ) a)
    (y : (⟨3, ![8, n, 128]⟩ : Shape).Idx) (hy : h = y 0) : y ∈ (Rect.unit (s := ⟨3, ![8, n, 128]⟩) ![h.val, 0, 0] ![1, n, 128] inb).set := by
  subst hy
  exact (Rect.mem_set_unit (inb := inb)).mpr fun a => match a with
    | 0 => ⟨Nat.le_refl _, Nat.lt_succ_self _⟩
    | 1 => ⟨Nat.zero_le _, lt_of_lt_of_eq (y 1).isLt (Nat.zero_add _).symm⟩
    | 2 => ⟨Nat.zero_le _, lt_of_lt_of_eq (y 2).isLt (Nat.zero_add _).symm⟩
theorem head_inb (n : ℕ) (h : Fin 8) : ∀ a, (![h.val, 0, 0] : Fin 3 → ℕ) a + (![1, n, 128] : Fin 3 → ℕ) a ≤ (![8, n, 128] : Fin 3 → ℕ) a := fun a => match a with
  | 0 => h.isLt
  | 1 => le_of_eq (Nat.zero_add n)
  | 2 => le_of_eq (Nat.zero_add 128)
theorem heads_all (h : Fin 8) : h ∈ ([7, 6, 5, 4, 3, 2, 1, 0] : List (Fin 8)) := by fin_cases h <;> decide

/-- The gradients a point leaves, from those it found. -/
def wsNext (A : Args) (t : Fin cfg0.N) (P : Vec Ideal S8x128x128 .f32) (h : Fin 8) (p q : Fin 128) : EReal := P (ix3 h p q) + ((wsStep A t h p q : ℝ) : EReal)
def bsNext (A : Args) (t : Fin cfg0.N) (P : Vec Ideal S8x8x128 .f32) (h k : Fin 8) (p : Fin 128) : EReal := P (ix3 h k p) + ((bsStep A t h p : ℝ) : EReal)
def cwNext (A : Args) (t : Fin cfg0.N) (P : Vec Ideal S8x1024 .f32) (k : Fin 8) (j : Fin 1024) : EReal := P (ix2 k j) + ((cwStep A t k j : ℝ) : EReal)

theorem ws_tile (P : Vec Ideal S8x128x128 .f32) (h : Fin 8) (p q : Fin 128) :
    dwsTile (zBlk A (point_lt t)) (dyBlk A (point_lt t)) (rowBlk A.lnG) (rowBlk A.lnB) (wmBlk A) (biasBlk A) (rowBlk A.gn) h (headOf P h) (ix3 0 p q) = wsNext A t P h p q := by
  refine (dwsTile_eq A (point_lt t) h _ p q).trans (congrArg₂ (fun a b : EReal => a + b) (ld_head P h _ p q) (congrArg Real.toEReal ?_))
  rw [wsStep]
  refine if_congr Iff.rfl (Finset.sum_congr rfl fun b _ => ?_) rfl
  simp only [Args.wsTerm, rowAt_tileRow]
theorem bs_tile (P : Vec Ideal S8x8x128 .f32) (h k : Fin 8) (p : Fin 128) :
    dbsTile (zBlk A (point_lt t)) (dyBlk A (point_lt t)) (rowBlk A.lnG) (rowBlk A.lnB) (wmBlk A) (biasBlk A) (rowBlk A.gn) h (rowsOf P h) (ix3 0 k p) = bsNext A t P h k p := by
  refine (dbsTile_eq A (point_lt t) h _ k p).trans (congrArg₂ (fun a b : EReal => a + b) (ld_head P h _ k p) (congrArg Real.toEReal ?_))
  rw [bsStep]
  refine Finset.sum_congr rfl fun b _ => ?_
  simp only [Args.bsTerm, rowAt_tileRow]

include H in
theorem dwsAt_eq (P L y) : dwsAt m c t P L y = wsNext A t P (y 0) (y 1) (y 2) := by
  rw [dwsAt, iblk_z H, iblk_dy H, iblk_lnG H, iblk_lnB H, iblk_wm H, iblk_bias H, iblk_gn H, squares]
  refine View.canon_append_of_pieces (Val := Elt Ideal) (e := .f32) (fun y : S8x128x128.Idx => wsNext A t P (y 0) (y 1) (y 2)) L _ ?_ y ?_
  · intro p hp
    obtain ⟨h, -, rfl⟩ := List.mem_map.mp hp
    exact fun x => head_piece (n := 128) (wsNext A t P) h (ws_tile t P h) (head_inb 128 h) x
  · exact ⟨_, List.mem_map.mpr ⟨_, heads_all (y 0), rfl⟩, mem_head (n := 128) _ (head_inb 128 _) y rfl⟩
include H in
theorem dbsAt_eq (P L y) : dbsAt m c t P L y = bsNext A t P (y 0) (y 1) (y 2) := by
  rw [dbsAt, iblk_z H, iblk_dy H, iblk_lnG H, iblk_lnB H, iblk_wm H, iblk_bias H, iblk_gn H, layers]
  refine View.canon_append_of_pieces (Val := Elt Ideal) (e := .f32) (fun y : S8x8x128.Idx => bsNext A t P (y 0) (y 1) (y 2)) L _ ?_ y ?_
  · intro p hp
    obtain ⟨h, -, rfl⟩ := List.mem_map.mp hp
    exact fun x => head_piece (n := 8) (bsNext A t P) h (bs_tile t P h) (head_inb 8 h) x
  · exact ⟨_, List.mem_map.mpr ⟨_, heads_all (y 0), rfl⟩, mem_head (n := 8) _ (head_inb 8 _) y rfl⟩

/-- A row of eight, stored, is that row. -/
theorem tap_piece (f : Fin 8 → Fin 1024 → EReal) (k : Fin 8) {o : ℕ} (hk : o = k.val) {X : Vec Ideal S1x1024 .f32} (hX : ∀ j, X (ix2 0 j) = f k j)
    (inb : ∀ a, (![o, 0] : Fin 2 → ℕ) a + S1x1024.size a ≤ S8x1024.size a) (x : S1x1024.Idx) :
    X x = (fun y : S8x1024.Idx => f (y 0) (y 1)) ((Rect.unit (s := S8x1024) ![o, 0] S1x1024.size inb).idx x) := by
  subst hk
  have h0 : (Rect.unit (s := S8x1024) ![k.val, 0] S1x1024.size inb).idx x = ix2 k (show Fin 1024 from x 1) := funext fun a => Fin.ext (match a with
    | 0 => by
      have h1 : (x 0).val < 1 := (x 0).isLt
      show k.val + 1 * (x 0).val = k.val
      omega
    | 1 => (Nat.zero_add _).trans (Nat.one_mul _))
  rw [h0, S1_eta x]
  exact hX _
theorem ld_tap (P : Vec Ideal S8x1024 .f32) (k : Fin 8) {o : ℕ} (hk : o = k.val) (inb : ∀ a, (![o, 0] : Fin 2 → ℕ) a + S1x1024.size a ≤ S8x1024.size a) (j : Fin 1024) :
    View.ld P (Rect.unit (s := S8x1024) ![o, 0] S1x1024.size inb) (ix2 0 j) = P (ix2 k j) := by
  subst hk
  exact congrArg P (funext fun a => Fin.ext (match a with
    | 0 => rfl
    | 1 => (Nat.zero_add _).trans (Nat.one_mul _)))
theorem mem_tap (o : ℕ) (inb : ∀ a, (![o, 0] : Fin 2 → ℕ) a + S1x1024.size a ≤ S8x1024.size a) (y : S8x1024.Idx) (hy : o = (y 0).val) :
    y ∈ (Rect.unit (s := S8x1024) ![o, 0] S1x1024.size inb).set := by
  subst hy
  exact (Rect.mem_set_unit (inb := inb)).mpr fun a => match a with
    | 0 => ⟨Nat.le_refl _, Nat.lt_succ_self _⟩
    | 1 => ⟨Nat.zero_le _, lt_of_lt_of_eq (y 1).isLt (Nat.zero_add _).symm⟩

theorem not_mem_tap (o : ℕ) (inb : ∀ a, (![o, 0] : Fin 2 → ℕ) a + S1x1024.size a ≤ S8x1024.size a) (y : S8x1024.Idx) (hy : o < (y 0).val) :
    y ∉ (Rect.unit (s := S8x1024) ![o, 0] S1x1024.size inb).set := fun hm => by
  have h : (y 0).val < o + 1 := ((Rect.mem_set_unit (inb := inb)).mp hm 0).2
  omega
/-- A later row does not see the store of an earlier one. -/
theorem skip_tap (o : ℕ) (inb : ∀ a, (![o, 0] : Fin 2 → ℕ) a + S1x1024.size a ≤ S8x1024.size a) (X : Vec Ideal S1x1024 .f32)
    (L : List (View.Piece (Elt Ideal) S8x1024 .f32)) (y : S8x1024.Idx) (hy : o < (y 0).val) :
    View.canon ((⟨Rect.unit (s := S8x1024) ![o, 0] S1x1024.size inb, X⟩ : View.Piece (Elt Ideal) S8x1024 .f32) :: L) y = View.canon L y :=
  View.canon_cons_of_not_mem _ L (not_mem_tap o inb y hy)

/-- One of the first three rows, as a row of eight. -/
def tap8 (k : Fin 3) : Fin 8 := ⟨k.val, by omega⟩
theorem cw_tile (P : Vec Ideal S8x1024 .f32) (k : Fin 3) (inb : ∀ k : Fin 3, ∀ a, (![k.val, 0] : Fin 2 → ℕ) a + S1x1024.size a ≤ S8x1024.size a) (j : Fin 1024) :
    dtap (word t.val) (zpBlk A (point_lt t)) (zBlk A (point_lt t)) (znBlk A (point_lt t)) (dyBlk A (point_lt t)) (dynBlk A (point_lt t)) (cwBlk A) (rowBlk A.gn)
      (fun k => View.ld P (Rect.unit (s := S8x1024) ![k.val, 0] S1x1024.size (inb k))) k (ix2 0 j) = cwNext A t P (tap8 k) j := by
  refine (dtap_eq A (point_lt t) _ k j).trans (congrArg₂ (fun a b : EReal => a + b) (ld_tap P (tap8 k) rfl _ j) (congrArg Real.toEReal ?_))
  exact Finset.sum_congr rfl fun r _ => (if_pos (show (tap8 k).val < 3 from k.isLt)).symm
theorem cw_rest (P : Vec Ideal S8x1024 .f32) (k : Fin 8) (hk : 3 ≤ k.val) (j : Fin 1024) : cwNext A t P k j = P (ix2 k j) := by
  have h : cwStep A t k j = 0 := Finset.sum_eq_zero fun r _ => if_neg (by omega)
  rw [cwNext, h]
  exact add_zero (P (ix2 k j))

include H in
theorem dcwAt_eq (P) {off : Fin 2 → ℕ} (inb : ∀ a, off a + S8x1024.size a ≤ S8x1024.size a) (h0 : ∀ a, off a = 0) (y) :
    dcwAt m c t P [whole inb P] y = cwNext A t P (y 0) (y 1) := by
  rw [dcwAt, coord, iblk_zp H, iblk_z H, iblk_zn H, iblk_dy H, iblk_dyn H, iblk_cw H, iblk_gn H, taps]
  by_cases hy : 3 ≤ (y 0).val
  · refine (skip_tap 0 inb_S8x1024_S1x1024_0_0 _ _ y (by omega)).trans ?_
    refine (skip_tap 1 inb_S8x1024_S1x1024_1_0 _ _ y (by omega)).trans ?_
    refine (skip_tap 2 inb_S8x1024_S1x1024_2_0 _ _ y (by omega)).trans ?_
    refine (congrFun (View.canon_cons_unit_lit _ _ [] h0) y).trans ?_
    refine Eq.trans ?_ (cw_rest t P (y 0) hy (y 1)).symm
    exact congrArg P (funext fun a => match a with
      | 0 => rfl
      | 1 => rfl)
  · refine View.canon_append_of_pieces (Val := Elt Ideal) (e := .f32) (fun y : S8x1024.Idx => cwNext A t P (y 0) (y 1)) _ _ ?_ y ?_
    · simp only [List.forall_mem_cons]
      exact ⟨tap_piece (o := 0) (cwNext A t P) 0 rfl (cw_tile t P 0 _) inb_S8x1024_S1x1024_0_0, tap_piece (o := 1) (cwNext A t P) 1 rfl (cw_tile t P 1 _) inb_S8x1024_S1x1024_1_0,
        tap_piece (o := 2) (cwNext A t P) 2 rfl (cw_tile t P 2 _) inb_S8x1024_S1x1024_2_0, by simp⟩
    · rcases (by omega : 0 = (y 0).val ∨ 1 = (y 0).val ∨ 2 = (y 0).val) with h | h | h
      · exact ⟨_, .head _, mem_tap 0 inb_S8x1024_S1x1024_0_0 y h⟩
      · exact ⟨_, .tail _ (.head _), mem_tap 1 inb_S8x1024_S1x1024_1_0 y h⟩
      · exact ⟨_, .tail _ (.tail _ (.head _)), mem_tap 2 inb_S8x1024_S1x1024_2_0 y h⟩

/-! ## The results after the run -/

theorem zero2 (i) : k0_pay2 (F := Ideal) i = (0 : EReal) := by pointwise [k0_pay2]
theorem zero3 (i) : k0_pay3 (F := Ideal) i = (0 : EReal) := by pointwise [k0_pay3]
theorem zero4 (i) : k0_pay4 (F := Ideal) i = (0 : EReal) := by pointwise [k0_pay4]
theorem zero5 (i) : k0_pay5 (F := Ideal) i = (0 : EReal) := by pointwise [k0_pay5]
theorem zero6 (i) : k0_pay6 (F := Ideal) i = (0 : EReal) := by pointwise [k0_pay6]
theorem zero7 (i) : k0_pay7 (F := Ideal) i = (0 : EReal) := by pointwise [k0_pay7]

theorem ix2_eta {a b : ℕ} (y : (⟨2, ![a, b]⟩ : Shape).Idx) : ix2 (show Fin a from y 0) (show Fin b from y 1) = y := funext fun i => match i with
  | 0 => rfl
  | 1 => rfl
theorem ix3_eta {a b c : ℕ} (y : (⟨3, ![a, b, c]⟩ : Shape).Idx) : ix3 (show Fin a from y 0) (show Fin b from y 1) (show Fin c from y 2) = y := funext fun i => match i with
  | 0 => rfl
  | 1 => rfl
  | 2 => rfl

/-- A gradient that starts from zero and that every point adds its part to holds the parts' sum after the last. -/
theorem adds_up {ι : Type} (f : (n : ℕ) → n < cfg0.N → ι → EReal) (Z : ι → EReal) (hZ : ∀ i, Z i = 0) (add : Fin cfg0.N → (ι → EReal) → ι → EReal)
    (term : Fin cfg0.N → ι → ℝ) (hadd : ∀ t P i, add t P i = P i + ((term t i : ℝ) : EReal))
    (h0 : ∀ t, t.val % 16 = 0 → f t.val t.isLt = add t Z) (hs : ∀ t, ¬t.val % 16 = 0 → f t.val t.isLt = add t (f (t.val - 1) (Nat.lt_of_le_of_lt (Nat.sub_le _ _) t.isLt)))
    (i : ι) : f t0_15.val t0_15.isLt i = ((∑ t, term t i : ℝ) : EReal) := by
  rw [Pipeline.eq_sum_fin_of_reset_step_apply_last f 16 (fun _ => (0 : EReal)) (fun t i => ((term t i : ℝ) : EReal))
    (fun t h i => by rw [h0 t h, hadd, hZ]) (fun t h i => by rw [hs t h, hadd]) (le_of_eq N_0) t0_15 rfl i, sum_coe]
  exact zero_add _

/-- The gradients the points add up, over the whole arrays. -/
def dgnAll (A : Args) (i : S1x2048.Idx) : EReal := ((∑ r, A.gnRow r (i 1) : ℝ) : EReal)
def dlngAll (A : Args) (i : S1x1024.Idx) : EReal := ((∑ r, A.dvn r (i 1) * lnHat (A.v r) (i 1) : ℝ) : EReal)
def dlnbAll (A : Args) (i : S1x1024.Idx) : EReal := ((∑ r, A.dvn r (i 1) : ℝ) : EReal)
def dwsAll (A : Args) (i : S8x128x128.Idx) : EReal := ((if (i 2).val / 64 ≤ (i 1).val / 64 then ∑ f, A.wsTerm (i 0) (i 1) (i 2) f else 0 : ℝ) : EReal)
def dbsAll (A : Args) (i : S8x8x128.Idx) : EReal := ((∑ f, A.bsTerm (i 0) (i 2) f : ℝ) : EReal)
def dcwAll (A : Args) (i : S8x1024.Idx) : EReal := ((∑ r, A.cwRow r (i 0) (i 1) : ℝ) : EReal)

include H in
/-- The gradient of the norms' gains, after the run. -/
theorem final_dgn : (dats m 0 c).arrAt 13 (cfgs 0).N = dgnAll A := by
  refine (dats m 0 c).arrAt_eq_of_after_last 13 t0_15 (by decide +kernel) _ fun j => ?_
  blk_simp
  rw [after0_13, adds_up (fun n h => (outsAt0 m c n h).2.1) (k0_pay2 (F := Ideal)) zero2 (fun t P y => P y + ((gnStep A t (y 1) : ℝ) : EReal))
    (fun t y => gnStep A t (y 1)) (fun _ _ _ => rfl) (fun t h => funext fun y => by rw [outs_dgn, if_pos h]; exact dgnAt_eq H t _ _ y)
    (fun t h => funext fun y => by rw [outs_dgn, if_neg h]; exact dgnAt_eq H t _ _ y)]
  exact congrArg Real.toEReal (sum_rows N_0 fun r => A.gnRow r (j 1))

include H in
/-- The gradient of the layer norm's gains, after the run. -/
theorem final_dlng : (dats m 0 c).arrAt 14 (cfgs 0).N = dlngAll A := by
  refine (dats m 0 c).arrAt_eq_of_after_last 14 t0_15 (by decide +kernel) _ fun j => ?_
  blk_simp
  rw [after0_14, adds_up (fun n h => (outsAt0 m c n h).2.2.1) (k0_pay3 (F := Ideal)) zero3 (fun t P y => P y + ((lngStep A t (y 1) : ℝ) : EReal))
    (fun t y => lngStep A t (y 1)) (fun _ _ _ => rfl) (fun t h => funext fun y => by rw [outs_dlng, if_pos h]; exact dlngAt_eq H t _ _ y)
    (fun t h => funext fun y => by rw [outs_dlng, if_neg h]; exact dlngAt_eq H t _ _ y)]
  exact congrArg Real.toEReal (sum_rows N_0 fun r => A.dvn r (j 1) * lnHat (A.v r) (j 1))

include H in
/-- The gradient of the layer norm's shifts, after the run. -/
theorem final_dlnb : (dats m 0 c).arrAt 15 (cfgs 0).N = dlnbAll A := by
  refine (dats m 0 c).arrAt_eq_of_after_last 15 t0_15 (by decide +kernel) _ fun j => ?_
  blk_simp
  rw [after0_15, adds_up (fun n h => (outsAt0 m c n h).2.2.2.1) (k0_pay4 (F := Ideal)) zero4 (fun t P y => P y + ((lnbStep A t (y 1) : ℝ) : EReal))
    (fun t y => lnbStep A t (y 1)) (fun _ _ _ => rfl) (fun t h => funext fun y => by rw [outs_dlnb, if_pos h]; exact dlnbAt_eq H t _ _ y)
    (fun t h => funext fun y => by rw [outs_dlnb, if_neg h]; exact dlnbAt_eq H t _ _ y)]
  exact congrArg Real.toEReal (sum_rows N_0 fun r => A.dvn r (j 1))

/-- The points' parts of the spatial weights' gradient add up. -/
theorem sum_wsStep (h : Fin 8) (p q : Fin 128) : ∑ t, wsStep A t h p q = if q.val / 64 ≤ p.val / 64 then ∑ f, A.wsTerm h p q f else 0 := by
  simp only [wsStep]
  by_cases hpq : q.val / 64 ≤ p.val / 64
  · simp only [if_pos hpq]; exact sum_frames N_0 (A.wsTerm h p q)
  · simp only [if_neg hpq]; exact Finset.sum_const_zero

include H in
/-- The gradient of the spatial weights, after the run. -/
theorem final_dws : (dats m 0 c).arrAt 16 (cfgs 0).N = dwsAll A := by
  refine (dats m 0 c).arrAt_eq_of_after_last 16 t0_15 (by decide +kernel) _ fun j => ?_
  blk_simp
  rw [after0_16, adds_up (fun n h => (outsAt0 m c n h).2.2.2.2.1) (k0_pay5 (F := Ideal)) zero5 (fun t P y => wsNext A t P (y 0) (y 1) (y 2))
    (fun t y => wsStep A t (y 0) (y 1) (y 2)) (fun _ P y => congrArg (fun x => P x + _) (ix3_eta y)) (fun t h => funext fun y => by rw [outs_dws, if_pos h]; exact dwsAt_eq H t _ _ y)
    (fun t h => funext fun y => by rw [outs_dws, if_neg h]; exact dwsAt_eq H t _ _ y)]
  exact congrArg Real.toEReal (sum_wsStep (j 0) (j 1) (j 2))

include H in
/-- The gradient of the biases, after the run. -/
theorem final_dbs : (dats m 0 c).arrAt 17 (cfgs 0).N = dbsAll A := by
  refine (dats m 0 c).arrAt_eq_of_after_last 17 t0_15 (by decide +kernel) _ fun j => ?_
  blk_simp
  rw [after0_17, adds_up (fun n h => (outsAt0 m c n h).2.2.2.2.2.1) (k0_pay6 (F := Ideal)) zero6 (fun t P y => bsNext A t P (y 0) (y 1) (y 2))
    (fun t y => bsStep A t (y 0) (y 2)) (fun _ P y => congrArg (fun x => P x + _) (ix3_eta y)) (fun t h => funext fun y => by rw [outs_dbs, if_pos h]; exact dbsAt_eq H t _ _ y)
    (fun t h => funext fun y => by rw [outs_dbs, if_neg h]; exact dbsAt_eq H t _ _ y)]
  exact congrArg Real.toEReal (sum_frames N_0 (A.bsTerm (j 0) (j 2)))

include H in
/-- The gradient of the taps, after the run. -/
theorem final_dcw : (dats m 0 c).arrAt 18 (cfgs 0).N = dcwAll A := by
  refine (dats m 0 c).arrAt_eq_of_after_last 18 t0_15 (by decide +kernel) _ fun j => ?_
  blk_simp
  rw [after0_18, adds_up (fun n h => (outsAt0 m c n h).2.2.2.2.2.2) (k0_pay7 (F := Ideal)) zero7 (fun t P y => cwNext A t P (y 0) (y 1))
    (fun t y => cwStep A t (y 0) (y 1)) (fun _ P y => congrArg (fun x => P x + _) (ix2_eta y)) (fun t h => funext fun y => by rw [outs_dcw, if_pos h]; exact dcwAt_eq H t _ _ (by decide) y)
    (fun t h => funext fun y => by rw [outs_dcw, if_neg h]; exact dcwAt_eq H t _ _ (by decide) y)]
  exact congrArg Real.toEReal (sum_rows N_0 fun r => A.cwRow r (j 0) (j 1))

end Cert.Mixer

end
-- ==== Proof.Mixer.RefBackward.lean ====
/-
  THE BACKWARD LINES OF THE MIXER'S REFERENCE OVER THE REALS: the gradients of the two branches, of their norms' gains, of the convolution and of the mixing.
-/
module

public import proofs.«01_k».proof.Proof.Mixer.RefForward
public import proofs.«01_k».proof.Proof.Mixer.Final

@[expose] public section

set_option maxRecDepth 16384

noncomputable section

namespace Cert.Mixer

open Cert.ReferenceIdeal Cert.ReferenceIdeal.Gen Cert.ReferenceIdeal.Read
open Idealize.ShloMosaic Cert.Lift Cert.NormRow Cert.Rows

variable (A : Args)

/-! ## What comes back to the branches -/

theorem ref_dyA (i : Fin 4096) (j : Fin 1024) : val_main_v135 (F := Ideal) (lift₂ A.dy) (ix2 i j) = ((A.dy i (half 0 j) : ℝ) : EReal) := by
  pointwise [val_main_v135, val_main_v134, lift₂]
  exact congrArg (fun k => ((A.dy i k : ℝ) : EReal)) (Fin.ext (Nat.zero_add _).symm)
theorem ref_dyB (i : Fin 4096) (j : Fin 1024) : val_main_v136 (F := Ideal) (lift₂ A.dy) (ix2 i j) = ((A.dy i (half 1 j) : ℝ) : EReal) := by
  pointwise [val_main_v136, val_main_v134, lift₂]
  rfl
theorem ref_qa (i : Fin 4096) (j : Fin 1024) : val_main_v162 (F := Ideal) (lift₂ A.dy) (lift₁ A.gn) (ix2 i j) = ((A.qa i j : ℝ) : EReal) := by
  pointwise [val_main_v162, val_main_v161, val_main_v113, val_main_v99, lift₁]
  rw [ref_dyA]
  refine congrArg (fun k => ((A.dy i (half 0 j) : ℝ) : EReal) * ((A.gn k : ℝ) : EReal)) (show _ = half 0 j from Fin.ext (Nat.zero_add _).symm)
theorem ref_qb (i : Fin 4096) (j : Fin 1024) : val_main_v141 (F := Ideal) (lift₂ A.dy) (lift₁ A.gn) (ix2 i j) = ((A.qb i j : ℝ) : EReal) := by
  pointwise [val_main_v141, val_main_v140, val_main_v130, val_main_v116, lift₁]
  rw [ref_dyB]
  rfl

/-! ## The norms' gradients -/

theorem ref_backA (i : Fin 4096) (j : Fin 1024) :
    val_main_v173 (F := Ideal) (lift₂ A.z) (lift₂ A.dy) (lift₁ A.lnG) (lift₁ A.lnB) (lift₃ A.w) (lift₂ A.b) (lift₁ A.gn) (ix2 i j) = ((NormRow.back 1024 (A.ya i) (A.qa i) : ℝ) : EReal) := by
  pointwise [val_main_v173, val_main_v172, val_main_cst_35, val_main_v171, val_main_v170, val_main_cst_34, val_main_v169, val_main_v166, val_main_v165, val_main_cst_33, val_main_v164,
    val_main_v110, val_main_v109, val_main_cst_20, val_main_v108]
  simp only [ref_ya, ref_qa, ref_scaleA, ref_meanA]
  simp only [word_zero, word_neg_half, word_1024, ← EReal.coe_mul, sum_coe, div_real _ (meanSq_pos (N := 1024) (by norm_num) _).ne', div_1024, Finset.univ_unique,
    Finset.sum_singleton, ← EReal.coe_add, zero_add]
  rfl
theorem ref_dya (i : Fin 4096) (j : Fin 1024) :
    val_main_v177 (F := Ideal) (lift₂ A.z) (lift₂ A.dy) (lift₁ A.lnG) (lift₁ A.lnB) (lift₃ A.w) (lift₂ A.b) (lift₁ A.gn) (ix2 i j) = ((A.dya i j : ℝ) : EReal) := by
  pointwise [val_main_v177, val_main_v176, val_main_v175, val_main_v174, val_main_v168, val_main_v167]
  simp only [ref_ya, ref_qa, ref_scaleA, ref_backA, ← EReal.coe_mul, ← EReal.coe_add, grad_eq (N := 1024) (by norm_num)]
  rfl
theorem ref_backB (i : Fin 4096) (j : Fin 1024) :
    val_main_v152 (F := Ideal) (lift₂ A.z) (lift₂ A.dy) (lift₂ A.cw) (lift₁ A.gn) (ix2 i j) = ((NormRow.back 1024 (A.yb i) (A.qb i) : ℝ) : EReal) := by
  pointwise [val_main_v152, val_main_v151, val_main_cst_29, val_main_v150, val_main_v149, val_main_cst_28, val_main_v148, val_main_v145, val_main_v144, val_main_cst_27, val_main_v143,
    val_main_v127, val_main_v126, val_main_cst_24, val_main_v125]
  simp only [ref_yb, ref_qb, ref_scaleB, ref_meanB]
  simp only [word_zero, word_neg_half, word_1024, ← EReal.coe_mul, sum_coe, div_real _ (meanSq_pos (N := 1024) (by norm_num) _).ne', div_1024, Finset.univ_unique,
    Finset.sum_singleton, ← EReal.coe_add, zero_add]
  rfl
theorem ref_dyb (i : Fin 4096) (j : Fin 1024) :
    val_main_v156 (F := Ideal) (lift₂ A.z) (lift₂ A.dy) (lift₂ A.cw) (lift₁ A.gn) (ix2 i j) = ((A.dyb i j : ℝ) : EReal) := by
  pointwise [val_main_v156, val_main_v155, val_main_v154, val_main_v153, val_main_v147, val_main_v146]
  simp only [ref_yb, ref_qb, ref_scaleB, ref_backB, ← EReal.coe_mul, ← EReal.coe_add, grad_eq (N := 1024) (by norm_num)]
  rfl

/-! ## The norms' gains -/

theorem ref_gnA (j : Fin 1024) :
    val_main_v163 (F := Ideal) (lift₂ A.z) (lift₂ A.dy) (lift₁ A.lnG) (lift₁ A.lnB) (lift₃ A.w) (lift₂ A.b) (ix1 j) = ((∑ i, A.gnTermA i j : ℝ) : EReal) := by
  pointwise [val_main_v163, val_main_v160, val_main_v159, val_main_v158, val_main_cst_31, val_main_cst_32]
  simp only [ref_hatA, ref_dyA, ← EReal.coe_mul, sum_coe, word_zero, ← EReal.coe_add, Finset.univ_unique, Finset.sum_singleton, zero_add]
  exact congrArg Real.toEReal (Finset.sum_congr rfl fun i _ => mul_comm _ _)
theorem ref_gnB (j : Fin 1024) :
    val_main_v142 (F := Ideal) (lift₂ A.z) (lift₂ A.dy) (lift₂ A.cw) (ix1 j) = ((∑ i, A.gnTermB i j : ℝ) : EReal) := by
  pointwise [val_main_v142, val_main_v139, val_main_v138, val_main_v137, val_main_cst_25, val_main_cst_26]
  simp only [ref_hatB, ref_dyB, ← EReal.coe_mul, sum_coe, word_zero, ← EReal.coe_add, Finset.univ_unique, Finset.sum_singleton, zero_add]
  exact congrArg Real.toEReal (Finset.sum_congr rfl fun i _ => mul_comm _ _)
theorem ref_dgn (j : Fin 2048) :
    val_main_v287 (F := Ideal) (lift₂ A.z) (lift₂ A.dy) (lift₁ A.lnG) (lift₁ A.lnB) (lift₃ A.w) (lift₂ A.b) (lift₂ A.cw) (ix2 0 j)
      = ((∑ i, A.gnRow i j : ℝ) : EReal) := by
  pointwise [val_main_v287, val_main_v179, val_main_v178, val_main_v157, val_main_cst_30, val_main_cst_36]
  by_cases h : j.val < 1024
  · rw [dif_neg (show ¬(1024 ≤ j.val ∧ j.val - 1024 < 1024) by omega), dif_pos h, ref_gnA]
    refine (zero_add _).trans (congrArg Real.toEReal (Finset.sum_congr rfl fun i _ => ?_))
    exact (gnRow_left i ⟨j.val, h⟩).symm.trans (congrArg (A.gnRow i) (Fin.ext (show 1024 * 0 + j.val = j.val by omega)))
  · have hj := j.isLt
    rw [dif_pos (show 1024 ≤ j.val ∧ j.val - 1024 < 1024 by omega), dif_neg h, ref_gnB]
    refine (add_zero _).trans (congrArg Real.toEReal (Finset.sum_congr rfl fun i _ => ?_))
    exact (gnRow_right i ⟨j.val - 1024, by omega⟩).symm.trans (congrArg (A.gnRow i) (Fin.ext (show 1024 * 1 + (j.val - 1024) = j.val by omega)))

/-! ## The convolution -/

theorem ref_dcv (i : Fin 4096) (j : Fin 1024) :
    val_main_v180 (F := Ideal) (lift₂ A.z) (lift₂ A.dy) (lift₂ A.cw) (lift₁ A.gn) (ix2 i j) = ((A.dcv i j : ℝ) : EReal) := by
  pointwise [val_main_v180]
  simp only [ref_zb, ref_dyb, ← EReal.coe_mul]
  exact congrArg Real.toEReal (mul_comm _ _)
theorem ref_cw2 (j : Fin 1024) : val_main_v187 (F := Ideal) (lift₂ A.z) (lift₂ A.dy) (lift₂ A.cw) (lift₁ A.gn) (ix1 j) = ((∑ i, A.dcv i j * A.pr i j : ℝ) : EReal) := by
  pointwise [val_main_v187, val_main_v184, val_main_v183, val_main_v182, val_main_cst_37, val_main_cst_38]
  simp only [ref_shift0, ref_dcv, ← EReal.coe_mul, sum_coe, word_zero, ← EReal.coe_add, Finset.univ_unique, Finset.sum_singleton, zero_add]
  exact congrArg Real.toEReal (Finset.sum_congr rfl fun i _ => mul_comm _ _)
theorem ref_cw1 (j : Fin 1024) : val_main_v196 (F := Ideal) (lift₂ A.z) (lift₂ A.dy) (lift₂ A.cw) (lift₁ A.gn) (ix1 j) = ((∑ i, A.dcv i j * before A.pr 1 i j : ℝ) : EReal) := by
  pointwise [val_main_v196, val_main_v193, val_main_v192, val_main_v191, val_main_cst_41, val_main_cst_42]
  simp only [ref_shift1, ref_dcv, ← EReal.coe_mul, sum_coe, word_zero, ← EReal.coe_add, Finset.univ_unique, Finset.sum_singleton, zero_add]
  exact congrArg Real.toEReal (Finset.sum_congr rfl fun i _ => mul_comm _ _)
theorem ref_cw0 (j : Fin 1024) : val_main_v207 (F := Ideal) (lift₂ A.z) (lift₂ A.dy) (lift₂ A.cw) (lift₁ A.gn) (ix1 j) = ((∑ i, A.dcv i j * before A.pr 2 i j : ℝ) : EReal) := by
  pointwise [val_main_v207, val_main_v204, val_main_v203, val_main_v202, val_main_cst_45, val_main_cst_46]
  simp only [ref_shift2, ref_dcv, ← EReal.coe_mul, sum_coe, word_zero, ← EReal.coe_add, Finset.univ_unique, Finset.sum_singleton, zero_add]
  exact congrArg Real.toEReal (Finset.sum_congr rfl fun i _ => mul_comm _ _)
theorem ref_dcw (k : Fin 8) (j : Fin 1024) :
    val_main_v285 (F := Ideal) (lift₂ A.z) (lift₂ A.dy) (lift₂ A.cw) (lift₁ A.gn) (ix2 k j) = ((∑ i, A.cwRow i k j : ℝ) : EReal) := by
  pointwise [val_main_v285, val_main_call4_v0, val_main_c_70, val_main_v210, val_main_v209, val_main_v208, val_main_v199, val_main_v198, val_main_v197, val_main_v189, val_main_v188,
    val_main_cst_39, val_main_cst_43, val_main_cst_47]
  by_cases hk : k.val < 3
  · rw [dif_pos hk]
    rcases (by omega : k.val = 0 ∨ k.val = 1 ∨ k.val = 2) with h | h | h
    · rw [dif_neg (by omega), dif_neg (by omega), dif_pos (by omega), ref_cw0, add_zero, zero_add]
      refine congrArg Real.toEReal (Finset.sum_congr rfl fun i _ => ?_)
      rw [Args.cwRow, if_pos hk, h]
    · rw [dif_neg (by omega), dif_pos (by omega), dif_neg (by omega), ref_cw1, add_zero, zero_add]
      refine congrArg Real.toEReal (Finset.sum_congr rfl fun i _ => ?_)
      rw [Args.cwRow, if_pos hk, h]
    · rw [dif_pos (by omega), dif_neg (by omega), dif_neg (by omega), ref_cw2, add_zero, add_zero]
      refine congrArg Real.toEReal (Finset.sum_congr rfl fun i _ => ?_)
      rw [Args.cwRow, if_pos hk, h]
      rfl
  · rw [dif_neg hk]
    have h : ∑ i, A.cwRow i k j = 0 := Finset.sum_eq_zero fun i _ => if_neg hk
    rw [h]
    refine congrArg Real.toEReal (show (((0#32 : BitVec 32).toInt : ℤ) : ℝ) = 0 from ?_)
    simp

theorem ref_dp (i : Fin 4096) (j : Fin 1024) :
    val_main_v214 (F := Ideal) (lift₂ A.z) (lift₂ A.dy) (lift₂ A.cw) (lift₁ A.gn) (ix2 i j) = ((A.dp i j : ℝ) : EReal) := by
  pointwise [val_main_v214, val_main_v212, val_main_v211, val_main_v206, val_main_v205, val_main_v201, val_main_v200, val_main_v195, val_main_v194, val_main_v190, val_main_v186, val_main_v185,
    val_main_cst_40, val_main_cst_44, val_main_cst_48]
  simp only [ref_dcv, ref_tap0, ref_tap1, ref_tap2, ← EReal.coe_mul]
  have h1 : (if h : 1 ≤ 2 + i.val ∧ 2 + i.val - 1 < 4096 then ((A.dcv ⟨2 + i.val - 1, h.2⟩ j * A.cw 1 j : ℝ) : EReal) else 0) = ((A.cw 1 j * after A.dcv 1 i j : ℝ) : EReal) := by
    unfold after
    by_cases h : i.val + 1 < 4096
    · rw [dif_pos (by omega), dif_pos h, mul_comm]
      exact congrArg (fun k => ((A.cw 1 j * A.dcv k j : ℝ) : EReal)) (Fin.ext (show 2 + i.val - 1 = i.val + 1 by omega))
    · rw [dif_neg (by omega), dif_neg h, mul_zero]; rfl
  have h2 : (if h : 2 + i.val < 4096 then ((A.dcv ⟨2 + i.val, h⟩ j * A.cw 0 j : ℝ) : EReal) else 0) = ((A.cw 0 j * after A.dcv 2 i j : ℝ) : EReal) := by
    unfold after
    by_cases h : i.val + 2 < 4096
    · rw [dif_pos (by omega), dif_pos h, mul_comm]
      exact congrArg (fun k => ((A.cw 0 j * A.dcv k j : ℝ) : EReal)) (Fin.ext (show 2 + i.val = i.val + 2 by omega))
    · rw [dif_neg (by omega), dif_neg h, mul_zero]; rfl
  refine (congrArg₂ (fun a b : EReal => ((A.dcv i j * A.cw 2 j : ℝ) : EReal) + a + b) h1 h2).trans ?_
  rw [← EReal.coe_add, ← EReal.coe_add, mul_comm (A.dcv i j)]
  rfl

/-! ## The mixing -/

theorem ref_dmix (i : Fin 4096) (j : Fin 1024) :
    val_main_v217 (F := Ideal) (lift₂ A.z) (lift₂ A.dy) (lift₁ A.lnG) (lift₁ A.lnB) (lift₃ A.w) (lift₂ A.b) (lift₁ A.gn) (ix2 i j) = ((A.dmix i j : ℝ) : EReal) := by
  pointwise [val_main_v217]
  simp only [ref_u, ref_dya, ← EReal.coe_mul]
  exact congrArg Real.toEReal (mul_comm _ _)
theorem ref_dmix4 (f : Fin 32) (p : Fin 128) (h : Fin 8) (d : Fin 128) :
    val_main_v219 (F := Ideal) (lift₂ A.z) (lift₂ A.dy) (lift₁ A.lnG) (lift₁ A.lnB) (lift₃ A.w) (lift₂ A.b) (lift₁ A.gn) (ix4 f p h d)
      = ((A.dmix (frameRow f p) (headCol h d) : ℝ) : EReal) := by
  pointwise [val_main_v219]
  rw [ref_dmix]
  exact congrArg₂ (fun i k => ((A.dmix i k : ℝ) : EReal)) (Fin.ext (show f.val * 128 + p.val = 128 * f.val + p.val by omega))
    (Fin.ext (show h.val * 128 + d.val = 128 * h.val + d.val by omega))
/-- The host's sum over the first and the last axis of four. -/
theorem sum_outer {n0 n1 n2 n3 : ℕ} (h : (⟨4, ![n0, n1, n2, n3]⟩ : Shape).ReducesTo [0, 3] ⟨2, ![n1, n2]⟩) (v : (⟨4, ![n0, n1, n2, n3]⟩ : Shape).Idx → EReal) (x : EReal)
    (p : Fin n1) (k : Fin n2) : Ideal.hostReduceAdd h v x (ix2 p k) = x + ∑ a : Fin n0, ∑ d : Fin n3, v (ix4 a p k d) := by
  unfold Ideal.hostReduceAdd
  rw [← Fintype.sum_prod_type' fun a d => v (ix4 a p k d)]
  refine congrArg (x + ·) (Finset.sum_filter_eq_sum_of_fiber _ (fun e : Fin n0 × Fin n3 => ix4 e.1 p k e.2) (fun _ _ e => Prod.ext (congrFun e 0) (congrFun e 3)) (fun i => ?_) v)
  refine ⟨fun hi => ⟨(i 0, i 3), funext fun a => ?_⟩, ?_⟩
  · match a with
    | ⟨0, _⟩ => rfl
    | ⟨1, _⟩ => exact (congrFun hi 0).symm
    | ⟨2, _⟩ => exact (congrFun hi 1).symm
    | ⟨3, _⟩ => rfl
  · rintro ⟨e, rfl⟩
    funext b
    match b with
    | ⟨0, _⟩ => rfl
    | ⟨1, _⟩ => rfl
theorem ref_dbs (h k : Fin 8) (p : Fin 128) :
    val_main_v284 (F := Ideal) (lift₂ A.z) (lift₂ A.dy) (lift₁ A.lnG) (lift₁ A.lnB) (lift₃ A.w) (lift₂ A.b) (lift₁ A.gn) (ix3 h k p) = ((∑ f, A.bsTerm h p f : ℝ) : EReal) := by
  pointwise [val_main_v284, val_main_v283, val_main_v223, val_main_v222, val_main_v221, val_main_v220, val_main_cst_49, val_main_cst_50]
  refine (sum_outer _ _ _ p h).trans ?_
  simp only [Finset.univ_unique, Finset.sum_singleton, zero_add]
  refine Eq.trans (b := Ideal.hostReduceAdd reducesTo_S32x128x8x128_S128x8_d0_3
    (val_main_v219 (F := Ideal) (lift₂ A.z) (lift₂ A.dy) (lift₁ A.lnG) (lift₁ A.lnB) (lift₃ A.w) (lift₂ A.b) (lift₁ A.gn)) 0 (ix2 p h)) ?_ ?_
  · pointwise []
  refine (sum_outer _ _ _ p h).trans ?_
  simp only [ref_dmix4, sum_coe, zero_add]
  rfl
theorem ref_dws (h : Fin 8) (p q : Fin 128) :
    val_main_v228 (F := Ideal) (lift₂ A.z) (lift₂ A.dy) (lift₁ A.lnG) (lift₁ A.lnB) (lift₃ A.w) (lift₂ A.b) (lift₁ A.gn) (ix3 h p q)
      = ((if q.val / 64 ≤ p.val / 64 then ∑ f, A.wsTerm h p q f else 0 : ℝ) : EReal) := by
  pointwise [val_main_v228, val_main_v225, val_main_v224, val_main_v63_1, val_main_v62, val_main_call3_v0, val_main_call3_cst]
  simp only [ref_dmix4, ref_v4, ref_sees, ← EReal.coe_mul, sum_coe]
  by_cases hc : q.val / 64 ≤ p.val / 64
  · rw [if_pos hc, decide_eq_true hc]; rfl
  · rw [if_neg hc, decide_eq_false hc]; rfl
theorem ref_dvn (i : Fin 4096) (j : Fin 1024) :
    val_main_v229 (F := Ideal) (lift₂ A.z) (lift₂ A.dy) (lift₁ A.lnG) (lift₁ A.lnB) (lift₃ A.w) (lift₂ A.b) (lift₁ A.gn) (ix2 i j) = ((A.dvn i j : ℝ) : EReal) := by
  pointwise [val_main_v229, val_main_v227, val_main_v226, val_main_v224]
  simp only [ref_dmix4, ref_wm, ← EReal.coe_mul, sum_coe]
  have h : headCol (head j) ⟨j.val % 128, by omega⟩ = j := Fin.ext (show 128 * (j.val / 128) + j.val % 128 = j.val by omega)
  refine congrArg Real.toEReal (Finset.sum_congr rfl fun p _ => ?_)
  exact (mul_comm _ _).trans (congrArg (fun k => A.wm (head j) p (pos i) * A.dmix (frameRow (frame i) p) k) h)

/-! ## The layer norm -/

theorem ref_dlnb (j : Fin 1024) :
    val_main_v289 (F := Ideal) (lift₂ A.z) (lift₂ A.dy) (lift₁ A.lnG) (lift₁ A.lnB) (lift₃ A.w) (lift₂ A.b) (lift₁ A.gn) (ix2 0 j) = ((∑ i, A.dvn i j : ℝ) : EReal) := by
  pointwise [val_main_v289, val_main_v232, val_main_v231, val_main_v230, val_main_cst_51, val_main_cst_52]
  simp only [ref_dvn, sum_coe, word_zero, ← EReal.coe_add, Finset.univ_unique, Finset.sum_singleton, zero_add]
theorem ref_dlng (j : Fin 1024) :
    val_main_v288 (F := Ideal) (lift₂ A.z) (lift₂ A.dy) (lift₁ A.lnG) (lift₁ A.lnB) (lift₃ A.w) (lift₂ A.b) (lift₁ A.gn) (ix2 0 j)
      = ((∑ i, A.dvn i j * lnHat (A.v i) j : ℝ) : EReal) := by
  pointwise [val_main_v288, val_main_v238, val_main_v235, val_main_v234, val_main_v233, val_main_cst_53, val_main_cst_54]
  simp only [ref_dvn, ref_hat, ← EReal.coe_mul, sum_coe, word_zero, ← EReal.coe_add, Finset.univ_unique, Finset.sum_singleton, zero_add]
  exact congrArg Real.toEReal (Finset.sum_congr rfl fun i _ => mul_comm _ _)

/-- The cotangent of the normalised gate. -/
def qv (i : Fin 4096) (j : Fin 1024) : ℝ := A.dvn i j * A.lnG j
theorem ref_qv (i : Fin 4096) (j : Fin 1024) :
    val_main_v237 (F := Ideal) (lift₂ A.z) (lift₂ A.dy) (lift₁ A.lnG) (lift₁ A.lnB) (lift₃ A.w) (lift₂ A.b) (lift₁ A.gn) (ix2 i j) = ((qv A i j : ℝ) : EReal) := by
  pointwise [val_main_v237, val_main_v236, val_main_v55, lift₁]
  simp only [ref_dvn, ← EReal.coe_mul]
  rfl
/-- What comes back through the variance of a row, to every entry of the centred row before the factor of the entry. -/
def lnBack (v q : Fin 1024 → ℝ) : ℝ := (∑ k, lnXc v k * q k) * (-(1 / 2) * (lnScale v / lnVar v)) / 1024
/-- The gradient of the centred row. -/
def lnCentred (v q : Fin 1024 → ℝ) (j : Fin 1024) : ℝ := q j * lnScale v + lnXc v j * lnBack v q + lnBack v q * lnXc v j
/-- The centred row adds to nothing. -/
theorem lnXc_sum (v : Fin 1024 → ℝ) : ∑ k, lnXc v k = 0 := by
  simp only [lnXc, Finset.sum_sub_distrib, Finset.sum_const, Finset.card_univ, Fintype.card_fin, nsmul_eq_mul]
  ring
/-- The scale over the variance is the scale's cube. -/
theorem lnScale_cube (v : Fin 1024 → ℝ) : lnScale v / lnVar v = lnScale v * lnScale v * lnScale v := by
  have h : lnVar v = Real.sqrt (lnVar v) * Real.sqrt (lnVar v) := (Real.mul_self_sqrt (lnVar_pos v).le).symm
  unfold lnScale
  rw [div_eq_mul_inv]
  conv_lhs => rw [h, Real.sqrt_mul_self (Real.sqrt_nonneg _), mul_inv]
  ring
/-- The centred row's gradient, less its mean, is the gradient of the row. -/
theorem lnGrad_eq (v q : Fin 1024 → ℝ) (j : Fin 1024) : lnCentred v q j + (∑ k, -lnCentred v q k) / 1024 = lnGrad v q j := by
  have hc : ∑ k, -lnCentred v q k = -(lnScale v * ∑ k, q k) := by
    simp only [lnCentred, Finset.sum_neg_distrib, Finset.sum_add_distrib, ← Finset.sum_mul, ← Finset.mul_sum, lnXc_sum]
    ring
  have hq : ∑ k, q k * lnHat v k = lnScale v * ∑ k, lnXc v k * q k := by
    rw [Finset.mul_sum]
    exact Finset.sum_congr rfl fun k _ => by unfold lnHat; ring
  rw [hc]
  unfold lnGrad lnCentred lnBack
  rw [hq, lnScale_cube]
  unfold lnHat
  ring
theorem ref_lnBack (i : Fin 4096) (j : Fin 1024) :
    val_main_v248 (F := Ideal) (lift₂ A.z) (lift₂ A.dy) (lift₁ A.lnG) (lift₁ A.lnB) (lift₃ A.w) (lift₂ A.b) (lift₁ A.gn) (ix2 i j) = ((lnBack (A.v i) (qv A i) : ℝ) : EReal) := by
  pointwise [val_main_v248, val_main_v247, val_main_cst_57, val_main_v246, val_main_v245, val_main_cst_56, val_main_v244, val_main_v241, val_main_v240, val_main_cst_55, val_main_v239,
    val_main_v52, val_main_v51, val_main_cst_12, val_main_v50]
  simp only [ref_xc, ref_qv, ref_rstd, ref_var]
  simp only [word_zero, word_neg_half, word_1024, ← EReal.coe_mul, sum_coe, div_real _ (lnVar_pos _).ne', div_1024, Finset.univ_unique,
    Finset.sum_singleton, ← EReal.coe_add, zero_add]
  rfl
theorem ref_lnCentred (i : Fin 4096) (j : Fin 1024) :
    val_main_v252 (F := Ideal) (lift₂ A.z) (lift₂ A.dy) (lift₁ A.lnG) (lift₁ A.lnB) (lift₃ A.w) (lift₂ A.b) (lift₁ A.gn) (ix2 i j) = ((lnCentred (A.v i) (qv A i) j : ℝ) : EReal) := by
  pointwise [val_main_v252, val_main_v251, val_main_v250, val_main_v249, val_main_v243, val_main_v242]
  simp only [ref_xc, ref_qv, ref_rstd, ref_lnBack, ← EReal.coe_mul, ← EReal.coe_add]
  rfl
theorem ref_dv (i : Fin 4096) (j : Fin 1024) :
    val_main_v260 (F := Ideal) (lift₂ A.z) (lift₂ A.dy) (lift₁ A.lnG) (lift₁ A.lnB) (lift₃ A.w) (lift₂ A.b) (lift₁ A.gn) (ix2 i j) = ((A.dv i j : ℝ) : EReal) := by
  pointwise [val_main_v260, val_main_v259, val_main_v258, val_main_cst_60, val_main_v257, val_main_v256, val_main_cst_59, val_main_v255, val_main_v254, val_main_cst_58, val_main_v253]
  simp only [ref_lnCentred]
  simp only [word_zero, word_1024, ← EReal.coe_neg, sum_coe, div_1024, Finset.univ_unique, Finset.sum_singleton, ← EReal.coe_add, zero_add, lnGrad_eq]
  rfl

/-! ## The gates -/

/-- What comes back to the gates. -/
def gateCt (i : Fin 4096) (j : Fin 2048) : ℝ := (![fun j => A.dya i j * A.mixed i j, A.dv i] : Fin 2 → Fin 1024 → ℝ) (halfOf j) (halfCol j)
theorem ref_gateCt (i : Fin 4096) (j : Fin 2048) :
    val_main_v268 (F := Ideal) (lift₂ A.z) (lift₂ A.dy) (lift₁ A.lnG) (lift₁ A.lnB) (lift₃ A.w) (lift₂ A.b) (lift₁ A.gn) (ix2 i j) = ((gateCt A i j : ℝ) : EReal) := by
  pointwise [val_main_v268, val_main_v267, val_main_v266, val_main_v218, val_main_cst_64, val_main_cst_65]
  by_cases h : j.val < 1024
  · rw [dif_neg (show ¬(1024 ≤ j.val ∧ j.val - 1024 < 1024) by omega), dif_pos h, ref_dya, ref_mixed, zero_add, ← EReal.coe_mul]
    refine congrArg Real.toEReal ?_
    rw [gateCt, show halfOf j = 0 from Fin.ext (show j.val / 1024 = 0 by omega), show halfCol j = ⟨j.val, h⟩ from Fin.ext (show j.val % 1024 = j.val by omega)]
    rfl
  · have hj := j.isLt
    rw [dif_pos (show 1024 ≤ j.val ∧ j.val - 1024 < 1024 by omega), dif_neg h, ref_dv, add_zero]
    refine congrArg Real.toEReal ?_
    rw [gateCt, show halfOf j = 1 from Fin.ext (show j.val / 1024 = 1 by omega), show halfCol j = ⟨j.val - 1024, by omega⟩ from Fin.ext (show j.val % 1024 = j.val - 1024 by omega)]
    rfl
/-- The activation's gradient, as the chain of its factors. -/
theorem geluD_ref (x d : ℝ) : d * (1 / 2 * (1 + geluT x)) + geluC * (1 / 2 * (x * d) * ((1 + geluT x) * (1 - geluT x)))
      + geluK * (geluC * (1 / 2 * (x * d) * ((1 + geluT x) * (1 - geluT x)))) * (3 * (x * x)) = d * geluD x := by
  unfold geluD; ring
theorem ref_dzg (i : Fin 4096) (j : Fin 2048) :
    val_main_v280 (F := Ideal) (lift₂ A.z) (lift₂ A.dy) (lift₁ A.lnG) (lift₁ A.lnB) (lift₃ A.w) (lift₂ A.b) (lift₁ A.gn) (ix2 i j)
      = ((gateCt A i j * geluD (zg A i j) : ℝ) : EReal) := by
  pointwise [val_main_v280, val_main_v279, val_main_v278, val_main_v277, val_main_cst_68, val_main_v276, val_main_v275, val_main_v274, val_main_cst_67, val_main_v273, val_main_v272, val_main_v271,
    val_main_cst_66, val_main_v270, val_main_v269, val_main_v21, val_main_v20, val_main_v19, val_main_v18, val_main_cst_4, val_main_cst_5, val_main_v17, val_main_v16, val_main_v15, val_main_cst_3,
    val_main_v14, val_main_v13, val_main_cst_2, val_main_v6, val_main_v5, val_main_cst, val_main_v4]
  simp only [ref_x, ref_tanh, ref_gateCt, word_half, word_three, word_geluC, word_geluK, ← EReal.coe_one, ← EReal.coe_mul, ← EReal.coe_add, ← EReal.coe_sub]
  exact congrArg Real.toEReal (geluD_ref _ _)

/-! ## The rows' gradient -/

theorem ref_dz (i : Fin 4096) (j : Fin 5120) :
    val_main_v286 (F := Ideal) (lift₂ A.z) (lift₂ A.dy) (lift₁ A.lnG) (lift₁ A.lnB) (lift₃ A.w) (lift₂ A.b) (lift₂ A.cw) (lift₁ A.gn) (ix2 i j) = ((A.dzRow i j : ℝ) : EReal) := by
  pointwise [val_main_v286, val_main_v282, val_main_v281, val_main_v265, val_main_v264, val_main_v263, val_main_v262, val_main_v261, val_main_cst_61, val_main_cst_62, val_main_cst_63,
    val_main_cst_69, val_main_v215, val_main_v216, val_main_v181]
  have hj := j.isLt
  have hcol (k : Fin 5) (o : ℕ) (ho : o = 1024 * k.val) (hb : o ≤ j.val ∧ j.val - o < 1024) (x : ℝ) (hx : A.dz i k ⟨j.val - o, hb.2⟩ = x) : A.dzRow i j = x := by
    rw [Args.dzRow, show partOf j = k from Fin.ext (show j.val / 1024 = k.val by omega),
      show partCol j = ⟨j.val - o, hb.2⟩ from Fin.ext (show j.val % 1024 = j.val - o by omega)]
    exact hx
  rcases (by omega : j.val < 2048 ∨ (2048 ≤ j.val ∧ j.val < 3072) ∨ (3072 ≤ j.val ∧ j.val < 4096) ∨ 4096 ≤ j.val) with h | h | h | h
  · rw [dif_neg (by omega), dif_neg (by omega), dif_neg (by omega), dif_pos h, ref_dzg]
    simp only [zero_add]
    refine congrArg Real.toEReal ?_
    rw [gateCt]
    by_cases h' : j.val < 1024
    · refine (hcol 0 0 rfl ⟨Nat.zero_le _, h'⟩ _ ?_).symm
      rw [show halfOf ⟨j.val, h⟩ = 0 from Fin.ext (show j.val / 1024 = 0 by omega), show halfCol ⟨j.val, h⟩ = ⟨j.val - 0, h'⟩ from Fin.ext (show j.val % 1024 = j.val - 0 by omega)]
      exact congrArg (fun k => A.dya i ⟨j.val - 0, h'⟩ * A.mixed i ⟨j.val - 0, h'⟩ * geluD (A.z i k)) (Fin.ext (show 1024 * 0 + (j.val - 0) = j.val by omega))
    · have hb : j.val - 1024 < 1024 := by omega
      refine (hcol 1 1024 rfl ⟨by omega, hb⟩ _ ?_).symm
      rw [show halfOf ⟨j.val, h⟩ = 1 from Fin.ext (show j.val / 1024 = 1 by omega), show halfCol ⟨j.val, h⟩ = ⟨j.val - 1024, hb⟩ from Fin.ext (show j.val % 1024 = j.val - 1024 by omega)]
      exact congrArg (fun k => A.dv i ⟨j.val - 1024, hb⟩ * geluD (A.z i k)) (Fin.ext (show 1024 * 1 + (j.val - 1024) = j.val by omega))
  · have hb : 2048 ≤ j.val ∧ j.val - 2048 < 1024 := by omega
    rw [dif_neg (by omega), dif_neg (by omega), dif_pos hb, dif_neg (by omega), ref_dyb, ref_cv]
    simp only [zero_add, add_zero, ← EReal.coe_mul]
    exact congrArg Real.toEReal (hcol 2 2048 rfl hb _ rfl).symm
  · have hb : 3072 ≤ j.val ∧ j.val - 3072 < 1024 := by omega
    rw [dif_neg (by omega), dif_pos hb, dif_neg (by omega), dif_neg (by omega), ref_dp, ref_zh]
    simp only [zero_add, add_zero, ← EReal.coe_mul]
    exact congrArg Real.toEReal (hcol 3 3072 rfl hb _ rfl).symm
  · have hb : 4096 ≤ j.val ∧ j.val - 4096 < 1024 := by omega
    rw [dif_pos hb, dif_neg (by omega), dif_neg (by omega), dif_neg (by omega), ref_dp, ref_zc]
    simp only [add_zero, ← EReal.coe_mul]
    exact congrArg Real.toEReal (hcol 4 4096 rfl hb _ (mul_comm _ _)).symm

end Cert.Mixer

end
-- ==== Proof.Mixer.Claims.lean ====
/- The claims about the mixer's gradient: frames, the two named constants, and the equality with the reference on finite arguments. -/
module

public import proofs.«01_k».proof.Defs
public import proofs.«01_k».proof.Proof.Gen.Kernel.Frame
public import proofs.«01_k».proof.Proof.Gen.Pre_all_finite
public import proofs.«01_k».proof.Proof.Mixer.RefBackward
public import Idealize.ShloMosaic.Lib.Quiescent

@[expose] public section

set_option maxRecDepth 16384

noncomputable section

namespace Cert.Mixer

open Idealize.ShloMosaic Idealize.ShloMosaic.TcCoe Idealize.SL.Sem Cert.Lift

theorem quiescent : quiescent_Kernel (hKernel := Cert.Kernel.Gen.facts) :=
  fun m ρ _ => Cert.Kernel.Gen.frame m ρ
theorem quiescent_ideal : quiescent_KernelIdeal (hKernelIdeal := Cert.KernelIdeal.Gen.facts) :=
  fun m ρ _ => Cert.KernelIdeal.Gen.frame m ρ
theorem quiescent_ideal_pre : quiescent_KernelIdeal_pre_all_finite (hKernelIdeal := Cert.KernelIdeal.Gen.facts)
    (hPre_all_finite := Cert.Pre_all_finite.Gen.facts) :=
  fun m ρ _ => Cert.KernelIdeal.Gen.frame m ρ

section
open Cert.ReferenceIdeal Cert.ReferenceIdeal.Gen

/-- The reference ends with its arguments unchanged and every counter at zero. -/
theorem reference_frame (m : (ℓ : Loc nD τ sig) → Buf (Elt Ideal) ℓ) (ρ : Dev nD → PrngReg) :
    θ_run (defs (F := Ideal)) (onTc (τ := τ) (main (F := Ideal))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7))
      ∧ r.2.sem = fun _ => 0 :=
  (θ_run defs _ _).mono (fun r h => ⟨fun c => (h c).2.2.2.2.2.2.2, sem_eq_zero_of_no_sems (by decide) r.2⟩)
    (Cert.ReferenceIdeal.Value.run (F := Ideal) m ρ)
end

theorem quiescent_ref : quiescent_ReferenceIdeal (hReferenceIdeal := Cert.ReferenceIdeal.Gen.facts) :=
  fun m ρ _ => reference_frame m ρ
theorem quiescent_ref_pre : quiescent_ReferenceIdeal_pre_all_finite
    (hReferenceIdeal := Cert.ReferenceIdeal.Gen.facts) (hPre_all_finite := Cert.Pre_all_finite.Gen.facts) :=
  fun m ρ _ => reference_frame m ρ

/-- The two constants the kernel has rounded stand for the products they are rounded from. -/
theorem preserves : preserves_Kernel_KernelIdeal :=
  ⟨IdealRules.named_const.statement Cert.KernelIdeal.κ "gelu_ck" .f32 0x3D122279#32 _ rfl,
    IdealRules.named_const.statement Cert.KernelIdeal.κ "gelu_3ck" .f32 0x3DDB33B6#32 _ rfl⟩

/-! ## The arguments -/

section
open Cert.KernelIdeal

/-- Finite arguments are arrays of reals. -/
theorem holds (m : (ℓ : Loc nD τ sig) → Buf (Elt Ideal) ℓ)
    (h : Pre_KernelIdeal_all_finite (hPre_all_finite := Cert.Pre_all_finite.Gen.facts) m) (c : Dev nD) : ∃ A, Holds m c A := by
  obtain ⟨p0, p1, p2, p3, p4, p5, p6, p7⟩ := h c
  obtain ⟨Z, hZ⟩ := reals_of_mask_short _ _ p0
  obtain ⟨DY, hDY⟩ := reals_of_mask_short _ _ p1
  obtain ⟨LG, hLG⟩ := reals_of_mask _ _ p2
  obtain ⟨LB, hLB⟩ := reals_of_mask _ _ p3
  obtain ⟨W, hW⟩ := reals_of_mask _ _ p4
  obtain ⟨B, hB⟩ := reals_of_mask _ _ p5
  obtain ⟨CW, hCW⟩ := reals_of_mask _ _ p6
  obtain ⟨GN, hGN⟩ := reals_of_mask _ _ p7
  exact ⟨⟨fun i j => Z (ix2 i j), fun i j => DY (ix2 i j), fun i => LG (ix1 i), fun i => LB (ix1 i), fun i j k => W (ix3 i j k),
      fun i j => B (ix2 i j), fun i j => CW (ix2 i j), fun i => GN (ix1 i)⟩,
    ⟨hZ.trans (lift₂_eta Z), hDY.trans (lift₂_eta DY), hLG.trans (lift₁_eta LG), hLB.trans (lift₁_eta LB), hW.trans (lift₃_eta W),
      hB.trans (lift₂_eta B), hCW.trans (lift₂_eta CW), hGN.trans (lift₁_eta GN)⟩⟩
end

/-! ## The reference's results -/

section
open Cert.ReferenceIdeal Cert.ReferenceIdeal.Gen Cert.ReferenceIdeal.Read

/-- The reference's arguments are those of `A`. -/
structure RefHolds (V : Valuation τ sig (Elt Ideal)) (A : Args) : Prop where
  z : V (Proc.devRef .tc main_arg0) = lift₂ A.z
  dy : V (Proc.devRef .tc main_arg1) = lift₂ A.dy
  lnG : V (Proc.devRef .tc main_arg2) = lift₁ A.lnG
  lnB : V (Proc.devRef .tc main_arg3) = lift₁ A.lnB
  w : V (Proc.devRef .tc main_arg4) = lift₃ A.w
  b : V (Proc.devRef .tc main_arg5) = lift₂ A.b
  cw : V (Proc.devRef .tc main_arg6) = lift₂ A.cw
  gn : V (Proc.devRef .tc main_arg7) = lift₁ A.gn

variable {V : Valuation τ sig (Elt Ideal)} {A : Args} (H : RefHolds V A)
include H

theorem refAll_dz :
    val_main_v286 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) = dzAll A := by
  rw [H.z, H.dy, H.lnG, H.lnB, H.w, H.b, H.cw, H.gn]
  funext y
  idx_vars y
  exact ref_dz A y0 y1
theorem refAll_dgn :
    val_main_v287 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) = dgnAll A := by
  rw [H.z, H.dy, H.lnG, H.lnB, H.w, H.b, H.cw]
  funext y
  rw [S1_eta y]
  exact ref_dgn A _
theorem refAll_dlng :
    val_main_v288 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg7)) = dlngAll A := by
  rw [H.z, H.dy, H.lnG, H.lnB, H.w, H.b, H.gn]
  funext y
  rw [S1_eta y]
  exact ref_dlng A _
theorem refAll_dlnb :
    val_main_v289 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg7)) = dlnbAll A := by
  rw [H.z, H.dy, H.lnG, H.lnB, H.w, H.b, H.gn]
  funext y
  rw [S1_eta y]
  exact ref_dlnb A _
theorem refAll_dws :
    val_main_v228 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg7)) = dwsAll A := by
  rw [H.z, H.dy, H.lnG, H.lnB, H.w, H.b, H.gn]
  funext y
  idx_vars y
  exact ref_dws A y0 y1 y2
theorem refAll_dbs :
    val_main_v284 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg7)) = dbsAll A := by
  rw [H.z, H.dy, H.lnG, H.lnB, H.w, H.b, H.gn]
  funext y
  idx_vars y
  exact ref_dbs A y0 y1 y2
theorem refAll_dcw :
    val_main_v285 (F := Ideal) (V (Proc.devRef .tc main_arg0)) (V (Proc.devRef .tc main_arg1)) (V (Proc.devRef .tc main_arg6)) (V (Proc.devRef .tc main_arg7)) = dcwAll A := by
  rw [H.z, H.dy, H.cw, H.gn]
  funext y
  idx_vars y
  exact ref_dcw A y0 y1
end

/-! ## The equality -/

/-- On finite arguments the kernel computes what the reference computes. -/
theorem equal : algebraic_KernelIdeal_ReferenceIdeal_pre_all_finite
    (hKernelIdeal := Cert.KernelIdeal.Gen.facts) (hReferenceIdeal := Cert.ReferenceIdeal.Gen.facts)
    (hPre_all_finite := Cert.Pre_all_finite.Gen.facts) := by
  intro m ρ m' ρ' hpre hagree
  refine ⟨_, _, _, _, _, _, _, Cert.KernelIdeal.Value.run_blocks m ρ, (θ_run _ _ _).mono (fun r h c => ?_)
    (Cert.ReferenceIdeal.Value.run (F := Ideal) m' ρ')⟩
  obtain ⟨h0, h1, h2, h3, h4, h5, h6, hargs⟩ := h c
  obtain ⟨a0, a1, a2, a3, a4, a5, a6, a7⟩ := hagree c
  obtain ⟨A, H⟩ := holds m hpre c
  have R : RefHolds (StableHlo.launchContents m' c) A := ⟨a0.trans H.z, a1.trans H.dy, a2.trans H.lnG, a3.trans H.lnB, a4.trans H.w, a5.trans H.b, a6.trans H.cw, a7.trans H.gn⟩
  exact ⟨(h0.trans (Cert.ReferenceIdeal.Read.val_main_v286_eq _)).trans ((refAll_dz R).trans (final_dz H).symm),
    (h1.trans (Cert.ReferenceIdeal.Read.val_main_v287_eq _)).trans ((refAll_dgn R).trans (final_dgn H).symm),
    (h2.trans (Cert.ReferenceIdeal.Read.val_main_v288_eq _)).trans ((refAll_dlng R).trans (final_dlng H).symm),
    (h3.trans (Cert.ReferenceIdeal.Read.val_main_v289_eq _)).trans ((refAll_dlnb R).trans (final_dlnb H).symm),
    (h4.trans (Cert.ReferenceIdeal.Read.val_main_v228_eq _)).trans ((refAll_dws R).trans (final_dws H).symm),
    (h5.trans (Cert.ReferenceIdeal.Read.val_main_v284_eq _)).trans ((refAll_dbs R).trans (final_dbs H).symm),
    (h6.trans (Cert.ReferenceIdeal.Read.val_main_v285_eq _)).trans ((refAll_dcw R).trans (final_dcw H).symm), hargs⟩

end Cert.Mixer

end
-- ==== Proof.Rms.Kernel.lean ====
/- The kernel of the norm's gradient: what one grid point computes on arrays of reals, and the arrays it leaves. -/
module

public import proofs.«01_k».proof.Proof.Gen.Kernel2Ideal.Value
public import proofs.«01_k».proof.Proof.NormRow
public import proofs.«01_k».proof.Proof.Rows
public import Idealize.ShloMosaic.Lib.Pipeline.ValueKit

@[expose] public section

set_option maxRecDepth 16384

noncomputable section

namespace Cert.Rms

open Cert.Kernel2Ideal Cert.Kernel2Ideal.Gen Cert.Lift Cert.NormRow Cert.Rows
open Idealize.ShloMosaic Idealize.ShloMosaic.TcCoe Idealize.SL.Sem
open Idealize.ShloMosaic.Pipeline (Dat)

/-- A block's gradient of the input rows. -/
theorem block_dx (X DH : S256x2048.Idx → ℝ) (G : S1x2048.Idx → ℝ) (dres : Vec Ideal S256x2048 .f32)
    (r : Fin 256) (j : Fin 2048) :
    k0_pay5 (F := Ideal) (fun i => (X i : EReal)) (fun i => (DH i : EReal)) (fun i => (G i : EReal)) dres (ix2 r j)
      = dres (ix2 r j) + ((grad 2048 (fun k => X (ix2 r k)) (fun k => DH (ix2 r k) * G (ix2 0 k)) j : ℝ) : EReal) := by
  pointwise [k0_pay5, k0_pay4, k0_pay3, k0_pay2]
  simp only [word_2048, word_rmsEps, ← EReal.coe_mul, sum_coe, div_2048, ← EReal.coe_add,
    ← EReal.coe_sub, rsqrt_meanSq width_pos]
  rfl

/-- A block's part of the gradient of the scale. -/
theorem block_dg (X DH : S256x2048.Idx → ℝ) (j : Fin 2048) :
    k0_pay7 (F := Ideal) (fun i => (X i : EReal)) (fun i => (DH i : EReal)) (ix2 0 j)
      = ∑ r : Fin 256, ((DH (ix2 r j) * (X (ix2 r j) * scale 2048 (fun k => X (ix2 r k))) : ℝ) : EReal) := by
  pointwise [k0_pay7, k0_pay4, k0_pay3, k0_pay2]
  simp only [word_2048, word_rmsEps, ← EReal.coe_mul, sum_coe, div_2048, ← EReal.coe_add,
    rsqrt_meanSq width_pos]

variable (m : (ℓ : Loc nD τ sig) → Buf (Elt Ideal) ℓ)

/-- The block each window is on at each grid point. -/
theorem idx : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![t.val, 0]
    ∧ win0_6.index t = ![0, 0] :=
  (by decide +kernel : ∀ t : Fin grid0.N, _)

theorem point_lt (t : Fin cfg0.N) : t.val < 16 := lt_of_lt_of_eq t.isLt N_0

/-- What every grid point leaves in the first result's buffer. -/
theorem after_dx (c : Dev nD) (t : Fin cfg0.N) (y) : (dats m 0 c).after 4 t y
    = k0_pay5 (iblk m c 1 t) (iblk m c 0 t) (iblk m c 2 t) (iblk m c 3 t) y := by
  rw [after0_4]
  by_cases h : t.val % 16 = 0
  · rw [outsAt0_A m c t h (by have := point_lt t; omega)]; frame_out
  · rw [outsAt0_B m c t h (by omega)]; frame_out

/-- What every grid point leaves in the second result's buffer: the same values, in the short format. -/
theorem after_dxb (c : Dev nD) (t : Fin cfg0.N) (y) : (dats m 0 c).after 5 t y
    = k0_pay6 (iblk m c 1 t) (iblk m c 0 t) (iblk m c 2 t) (iblk m c 3 t) y := by
  rw [after0_5]
  by_cases h : t.val % 16 = 0
  · rw [outsAt0_A m c t h (by have := point_lt t; omega)]; frame_out
  · rw [outsAt0_B m c t h (by omega)]; frame_out

section
variable (c : Dev nD) (X DH : S4096x2048.Idx → ℝ) (G : S2048.Idx → ℝ)

/-- The block of the activations, of the cotangent and of the scale that a point is on. -/
theorem iblk_x (hX : m ((c : Thread nD τ).loc main_arg0) = fun i => (X i : EReal)) (t : Fin cfg0.N) :
    iblk m c 1 t = fun y => ((rows (point_lt t) X y : ℝ) : EReal) := by
  funext y
  show m ((c : Thread nD τ).loc main_arg0) _ = _
  rw [hX]
  idx_vars y
  refine congrArg (fun i => ((X i : ℝ) : EReal)) (show _ = ix2 (rowAt (point_lt t) y0) y1 from ?_)
  blk_ext [idx t, rowAt_val]
theorem iblk_dh (hDH : m ((c : Thread nD τ).loc main_arg2) = fun i => (DH i : EReal)) (t : Fin cfg0.N) :
    iblk m c 0 t = fun y => ((rows (point_lt t) DH y : ℝ) : EReal) := by
  funext y
  show m ((c : Thread nD τ).loc main_arg2) _ = _
  rw [hDH]
  idx_vars y
  refine congrArg (fun i => ((DH i : ℝ) : EReal)) (show _ = ix2 (rowAt (point_lt t) y0) y1 from ?_)
  blk_ext [idx t, rowAt_val]
theorem iblk_g (hG : m ((c : Thread nD τ).loc main_arg1) = fun i => (G i : EReal)) (t : Fin cfg0.N) :
    iblk m c 2 t = fun y : S1x2048.Idx => ((G (ix1 (show Fin 2048 from y 1)) : ℝ) : EReal) := by
  funext y
  idx_vars y
  blk_simp [iblk, idx t]
  entry_read
  pointwise []
  rw [hG]
  refine congrArg (fun i => ((G i : ℝ) : EReal)) ?_
  blk_ext [idx t]

/-- The gradient of the input rows over the whole array. -/
def dx (X DH : S4096x2048.Idx → ℝ) (G : S2048.Idx → ℝ) (dres : FVec Ideal S4096x2048 .f32) (i : S4096x2048.Idx) : EReal :=
  dres i + ((grad 2048 (fun k => X (ix2 (i 0) k)) (fun k => DH (ix2 (i 0) k) * G (ix1 k)) (i 1) : ℝ) : EReal)

/-- What the kernel stores at a point is that gradient at the point's rows. -/
theorem point_dx (hX : m ((c : Thread nD τ).loc main_arg0) = fun i => (X i : EReal))
    (hG : m ((c : Thread nD τ).loc main_arg1) = fun i => (G i : EReal))
    (hDH : m ((c : Thread nD τ).loc main_arg2) = fun i => (DH i : EReal)) (t : Fin cfg0.N) (r : Fin 256) (j : Fin 2048) :
    k0_pay5 (iblk m c 1 t) (iblk m c 0 t) (iblk m c 2 t) (iblk m c 3 t) (ix2 r j)
      = dx X DH G (m ((c : Thread nD τ).loc main_arg3)) (ix2 (rowAt (point_lt t) r) j) := by
  rw [iblk_x m c X hX, iblk_dh m c DH hDH, iblk_g m c G hG]
  refine (block_dx _ _ _ _ r j).trans (congrArg₂ (fun a b : EReal => a + b) ?_ rfl)
  blk_point [iblk, V, idx t, rowAt_val]

/-- The first result, after the run. -/
theorem final_dx (hX : m ((c : Thread nD τ).loc main_arg0) = fun i => (X i : EReal))
    (hG : m ((c : Thread nD τ).loc main_arg1) = fun i => (G i : EReal))
    (hDH : m ((c : Thread nD τ).loc main_arg2) = fun i => (DH i : EReal)) :
    (dats m 0 c).arrAt 4 (cfgs 0).N = dx X DH G (m ((c : Thread nD τ).loc main_arg3)) := by
  refine (dats m 0 c).arrAt_eq_of_covers 4 _ (by decide +kernel) fun t _ y => ?_
  blk_simp
  rw [after_dx]
  idx_vars y
  refine (point_dx m c X DH G hX hG hDH t y0 y1).trans (congrArg (dx X DH G _) ?_)
  blk_ext [idx t, rowAt_val]

/-- The second result, after the run. -/
theorem final_dxb (hX : m ((c : Thread nD τ).loc main_arg0) = fun i => (X i : EReal))
    (hG : m ((c : Thread nD τ).loc main_arg1) = fun i => (G i : EReal))
    (hDH : m ((c : Thread nD τ).loc main_arg2) = fun i => (DH i : EReal)) :
    (dats m 0 c).arrAt 5 (cfgs 0).N = dx X DH G (m ((c : Thread nD τ).loc main_arg3)) := by
  refine (dats m 0 c).arrAt_eq_of_covers 5 _ (by decide +kernel) fun t _ y => ?_
  blk_simp
  rw [after_dxb]
  idx_vars y
  refine (point_dx m c X DH G hX hG hDH t y0 y1).trans (congrArg (dx X DH G _) ?_)
  blk_ext [idx t, rowAt_val]

/-- The gradient of the scale. -/
def dg (X DH : S4096x2048.Idx → ℝ) (i : S1x2048.Idx) : EReal :=
  ∑ r : Fin 4096, ((DH (ix2 r (i 1)) * (X (ix2 r (i 1)) * scale 2048 (fun k => X (ix2 r k))) : ℝ) : EReal)

/-- The parts of the grid's points add up to it. -/
theorem sum_dg (hX : m ((c : Thread nD τ).loc main_arg0) = fun i => (X i : EReal))
    (hDH : m ((c : Thread nD τ).loc main_arg2) = fun i => (DH i : EReal)) (j : Fin 2048) :
    ∑ t : Fin cfg0.N, k0_pay7 (F := Ideal) (iblk m c 1 t) (iblk m c 0 t) (ix2 0 j) = dg X DH (ix2 0 j) := by
  have h (t : Fin cfg0.N) := block_dg (rows (point_lt t) X) (rows (point_lt t) DH) j
  simp only [← iblk_x m c X hX, ← iblk_dh m c DH hDH] at h
  rw [dg, ← sum_rows N_0]
  exact Finset.sum_congr rfl fun t _ => h t

/-- The third result, after the run: the grid's points add their parts up. -/
theorem final_dg (hX : m ((c : Thread nD τ).loc main_arg0) = fun i => (X i : EReal))
    (hDH : m ((c : Thread nD τ).loc main_arg2) = fun i => (DH i : EReal)) :
    (dats m 0 c).arrAt 6 (cfgs 0).N = dg X DH := by
  refine (dats m 0 c).arrAt_eq_of_after_last 6 t0_15 (by decide +kernel) _ fun j => ?_
  blk_simp
  rw [after0_6, Pipeline.eq_sum_fin_of_reset_step_apply_last (fun n h => (outsAt0 m c n h).2.2) 16 (fun _ => (0 : EReal))
    (fun t j => k0_pay7 (iblk m c 1 t) (iblk m c 0 t) j)
    (fun t h j => by rw [outsAt0_A m c t h (by have := point_lt t; omega)]; frame_out; exact (zero_add _).symm)
    (fun t h j => by rw [outsAt0_B m c t h (by omega)]; frame_out; pointwise [k0_pay1])
    (le_of_eq N_0) t0_15 rfl j]
  idx_vars j
  rw [Subsingleton.elim j0 0]
  show (_ : EReal) = _
  rw [zero_add]
  exact sum_dg m c X DH hX hDH j1
end

end Cert.Rms

end
-- ==== Proof.Rms.Reference.lean ====
/- The reference of the norm's gradient, read at an index, on arrays of reals. -/
module

public import proofs.«01_k».proof.Proof.Gen.Reference2Ideal.Read
public import proofs.«01_k».proof.Proof.NormRow
public import Idealize.ShloMosaic.Lib.Pointwise

@[expose] public section

set_option maxRecDepth 16384

noncomputable section

namespace Cert.Rms

open Cert.Reference2Ideal Cert.Reference2Ideal.Gen Cert.Reference2Ideal.Read Cert.Lift Cert.NormRow
open Idealize.ShloMosaic

/-- The reference's mean square of a row. -/
theorem ref_meanSq (X : S4096x2048.Idx → ℝ) (i : Fin 4096) (k : Fin 1) :
    val_main_v6 (F := Ideal) (fun i => (X i : EReal)) (ix2 i k)
      = ((meanSq 2048 (fun k => X (ix2 i k)) : ℝ) : EReal) := by
  pointwise [val_main_v6, val_main_v5, val_main_v4, val_main_v3, val_main_v2, val_main_v1, val_main_v0,
    val_main_cst, val_main_cst_0, val_main_cst_1]
  simp only [word_zero, word_2048, word_rmsEps, ← EReal.coe_mul, sum_coe, div_2048, ← EReal.coe_add, zero_add]
  rfl

/-- The reference's reciprocal root of a row's mean square. -/
theorem ref_scale (X : S4096x2048.Idx → ℝ) (i : Fin 4096) (k : Fin 1) :
    val_main_v7 (F := Ideal) (fun i => (X i : EReal)) (ix2 i k)
      = ((scale 2048 (fun k => X (ix2 i k)) : ℝ) : EReal) := by
  pointwise [val_main_v7]
  rw [ref_meanSq]
  exact rsqrt_real (meanSq_pos width_pos _)

/-- The cotangent of the mean square of a row, as the reference leaves it in every entry of the row. -/
theorem ref_back (X DH : S4096x2048.Idx → ℝ) (G : S2048.Idx → ℝ) (i : Fin 4096) (j : Fin 2048) :
    val_main_v33 (F := Ideal) (fun i => (X i : EReal)) (fun i => (G i : EReal)) (fun i => (DH i : EReal)) (ix2 i j)
      = ((back 2048 (fun k => X (ix2 i k)) (fun k => DH (ix2 i k) * G (ix1 k)) : ℝ) : EReal) := by
  pointwise [val_main_v33, val_main_v32, val_main_cst_7, val_main_v31, val_main_v30, val_main_cst_6, val_main_v29,
    val_main_v25, val_main_v24, val_main_cst_5, val_main_v23, val_main_v21, val_main_v20, val_main_v10, val_main_v9,
    val_main_cst_2, val_main_v8, val_main_v16, val_main_v15, val_main_v13]
  simp only [ref_scale, ref_meanSq]
  simp only [word_neg_half, word_2048, ← EReal.coe_mul, sum_coe, div_real _ (meanSq_pos width_pos _).ne', div_2048,
    Finset.univ_unique, Finset.sum_singleton]
  rfl

/-- The reference's gradient of the input rows. -/
theorem ref_dx (X DH : S4096x2048.Idx → ℝ) (G : S2048.Idx → ℝ) (dres : FVec Ideal S4096x2048 .f32)
    (i : Fin 4096) (j : Fin 2048) :
    val_main_v37 (F := Ideal) (fun i => (X i : EReal)) (fun i => (G i : EReal)) (fun i => (DH i : EReal)) dres (ix2 i j)
      = dres (ix2 i j) + ((grad 2048 (fun k => X (ix2 i k)) (fun k => DH (ix2 i k) * G (ix1 k)) j : ℝ) : EReal) := by
  pointwise [val_main_v37, val_main_v36, val_main_v35, val_main_v34, val_main_v28]
  pointwise [val_main_v27, val_main_v26, val_main_v21, val_main_v20, val_main_v16, val_main_v15, val_main_v13]
  simp only [ref_back, ref_scale, ← EReal.coe_mul, add_assoc, ← EReal.coe_add]
  rw [← add_assoc, grad_eq width_pos _ (fun k => DH (ix2 i k) * G (ix1 k)) j]

/-- The reference's gradient of the scale. -/
theorem ref_dg (X DH : S4096x2048.Idx → ℝ) (j : Fin 2048) :
    val_main_v39 (F := Ideal) (fun i => (X i : EReal)) (fun i => (DH i : EReal)) (ix2 0 j)
      = ∑ i : Fin 4096, ((DH (ix2 i j) * (X (ix2 i j) * scale 2048 (fun k => X (ix2 i k))) : ℝ) : EReal) := by
  pointwise [val_main_v39, val_main_v22, val_main_v19, val_main_v18, val_main_v17, val_main_v12, val_main_v11, val_main_v16, val_main_cst_3, val_main_cst_4]
  simp only [ref_scale, ← EReal.coe_mul, Finset.univ_unique, Finset.sum_singleton]
  exact Finset.sum_congr rfl fun i _ => by rw [mul_comm]

end Cert.Rms

end
-- ==== Proof.Rms.Claims.lean ====
/- The claims about the gradient of the norm: frames, and the equality with the reference on finite rows. -/
module

public import proofs.«01_k».proof.Defs
public import proofs.«01_k».proof.Proof.Gen.Kernel2.Frame
public import proofs.«01_k».proof.Proof.Gen.Pre_rows_finite
public import proofs.«01_k».proof.Proof.Rms.Kernel
public import proofs.«01_k».proof.Proof.Rms.Reference
public import Idealize.ShloMosaic.Lib.Quiescent

@[expose] public section

set_option maxRecDepth 16384

noncomputable section

namespace Cert.Rms

open Idealize.ShloMosaic Idealize.ShloMosaic.TcCoe Idealize.SL.Sem Cert.Lift Cert.NormRow

theorem quiescent : quiescent_Kernel2 (hKernel2 := Cert.Kernel2.Gen.facts) :=
  fun m ρ _ => Cert.Kernel2.Gen.frame m ρ
theorem quiescent_ideal : quiescent_Kernel2Ideal (hKernel2Ideal := Cert.Kernel2Ideal.Gen.facts) :=
  fun m ρ _ => Cert.Kernel2Ideal.Gen.frame m ρ
theorem quiescent_ideal_pre : quiescent_Kernel2Ideal_pre_rows_finite (hKernel2Ideal := Cert.Kernel2Ideal.Gen.facts)
    (hPre_rows_finite := Cert.Pre_rows_finite.Gen.facts) :=
  fun m ρ _ => Cert.Kernel2Ideal.Gen.frame m ρ

section
open Cert.Reference2Ideal Cert.Reference2Ideal.Gen

/-- The reference ends with its arguments unchanged and every counter at zero. -/
theorem reference_frame (m : (ℓ : Loc nD τ sig) → Buf (Elt Ideal) ℓ) (ρ : Dev nD → PrngReg) :
    θ_run (defs (F := Ideal)) (onTc (τ := τ) (main (F := Ideal))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
      ∧ r.2.sem = fun _ => 0 :=
  (θ_run defs _ _).mono (fun r h => ⟨fun c => (h c).2.2.2, sem_eq_zero_of_no_sems (by decide) r.2⟩)
    (Cert.Reference2Ideal.Value.run (F := Ideal) m ρ)
end

theorem quiescent_ref : quiescent_Reference2Ideal (hReference2Ideal := Cert.Reference2Ideal.Gen.facts) :=
  fun m ρ _ => reference_frame m ρ
theorem quiescent_ref_pre : quiescent_Reference2Ideal_pre_rows_finite
    (hReference2Ideal := Cert.Reference2Ideal.Gen.facts) (hPre_rows_finite := Cert.Pre_rows_finite.Gen.facts) :=
  fun m ρ _ => reference_frame m ρ

section
open Cert.Reference2Ideal Cert.Reference2Ideal.Gen Cert.Reference2Ideal.Read

/-- The reference's results as the kernel's. -/
theorem ref_dx_eq (X DH : S4096x2048.Idx → ℝ) (G : S2048.Idx → ℝ) (dres : FVec Ideal S4096x2048 .f32) :
    val_main_v37 (F := Ideal) (fun i => (X i : EReal)) (fun i => (G i : EReal)) (fun i => (DH i : EReal)) dres
      = dx X DH G dres := by
  funext i
  idx_vars i
  exact ref_dx X DH G dres i0 i1
theorem ref_dg_eq (X DH : S4096x2048.Idx → ℝ) :
    val_main_v39 (F := Ideal) (fun i => (X i : EReal)) (fun i => (DH i : EReal)) = dg X DH := by
  funext i
  idx_vars i
  rw [Subsingleton.elim i0 0]
  exact ref_dg X DH i1
end

/-- On rows of reals the kernel computes what the reference computes, whatever the residual's cotangent is. -/
theorem equal : algebraic_Kernel2Ideal_Reference2Ideal_pre_rows_finite
    (hKernel2Ideal := Cert.Kernel2Ideal.Gen.facts) (hReference2Ideal := Cert.Reference2Ideal.Gen.facts)
    (hPre_rows_finite := Cert.Pre_rows_finite.Gen.facts) := by
  intro m ρ m' ρ' hpre hagree
  refine ⟨_, _, _, Cert.Kernel2Ideal.Value.run_blocks m ρ, (θ_run _ _ _).mono (fun r h c => ?_)
    (Cert.Reference2Ideal.Value.run (F := Ideal) m' ρ')⟩
  obtain ⟨h0, h1, h2, hargs⟩ := h c
  obtain ⟨a0, a1, a2, a3⟩ := hagree c
  obtain ⟨p0, p1, p2⟩ := hpre c
  obtain ⟨X, hX⟩ := reals_of_mask _ _ p0
  obtain ⟨G, hG⟩ := reals_of_mask _ _ p1
  obtain ⟨DH, hDH⟩ := reals_of_mask_short _ _ p2
  refine ⟨h0.trans ?_, h1.trans ?_, h2.trans ?_, hargs⟩
  · rw [Cert.Reference2Ideal.Read.val_main_v37_eq, a0, a1, a2, a3, hX, hG, hDH, ref_dx_eq]
    exact (final_dx m c X DH G hX hG hDH).symm
  · rw [Cert.Reference2Ideal.Read.val_main_v38_eq, a0, a1, a2, a3, hX, hG, hDH]
    exact (ref_dx_eq X DH G _).trans (final_dxb m c X DH G hX hG hDH).symm
  · rw [Cert.Reference2Ideal.Read.val_main_v39_eq, a0, a2, hX, hDH, ref_dg_eq]
    exact (final_dg m c X DH hX hDH).symm

end Cert.Rms

end
-- ==== Proof.Loss.Row.lean ====
/- One row of the loss over the reals: the error of the normed row, its mean square, and what it leaves to the gradients. -/
module

public import proofs.«01_k».proof.Proof.NormRow

@[expose] public section

noncomputable section

namespace Cert.Loss

open Idealize.ShloMosaic Cert.Lift Cert.NormRow

/-- The error of the normed row against its target. -/
def err (x g t : Fin 2048 → ℝ) (j : Fin 2048) : ℝ := x j * scale 2048 x * g j - t j
/-- The row's loss: the mean square of the error. -/
def rowLoss (x g t : Fin 2048 → ℝ) : ℝ := (∑ j, err x g t j * err x g t j) / 2048
/-- The gradient of the normed row. -/
def dy (x g t : Fin 2048 → ℝ) (j : Fin 2048) : ℝ := err x g t j * (1 / 2048)
/-- The gradient of the row. -/
def dxRow (x g t : Fin 2048 → ℝ) (j : Fin 2048) : ℝ := grad 2048 x (fun k => dy x g t k * g k) j
/-- What the row adds to the gradient of the gains. -/
def dgRow (x g t : Fin 2048 → ℝ) (j : Fin 2048) : ℝ := dy x g t j * (x j * scale 2048 x)

/-- The words of `0.5`, `1.0`, `2.0` and `1/2048`. -/
theorem word_half : Ideal.ofBits .f32 0x3F000000#32 = ((1 / 2 : ℝ) : EReal) := by
  simp [Ideal.ofBits, Ideal.ieee, -EReal.coe_mul]; norm_num
theorem word_one : Ideal.ofBits .f32 0x3F800000#32 = ((1 : ℝ) : EReal) := by
  simp [Ideal.ofBits, Ideal.ieee, -EReal.coe_mul]; norm_num
theorem word_two : Ideal.ofBits .f32 0x40000000#32 = ((2 : ℝ) : EReal) := by
  simp [Ideal.ofBits, Ideal.ieee, -EReal.coe_mul]; norm_num
theorem word_inv : Ideal.ofBits .f32 0x3A000000#32 = ((1 / 2048 : ℝ) : EReal) := by
  simp [Ideal.ofBits, Ideal.ieee, -EReal.coe_mul]; norm_num

end Cert.Loss

end
-- ==== Proof.Loss.Kernel.lean ====
/- The kernel of the loss and its gradient: what one grid point computes on arrays of reals, and the arrays it leaves. -/
module

public import proofs.«01_k».proof.Proof.Gen.Kernel3Ideal.Value
public import proofs.«01_k».proof.Proof.Loss.Row
public import proofs.«01_k».proof.Proof.Rows
public import Idealize.ShloMosaic.Lib.Pipeline.ValueKit

@[expose] public section

set_option maxRecDepth 16384

noncomputable section

namespace Cert.Loss

open Cert.Kernel3Ideal Cert.Kernel3Ideal.Gen Cert.Lift Cert.NormRow Cert.Rows
open Idealize.ShloMosaic Idealize.ShloMosaic.TcCoe Idealize.SL.Sem
open Idealize.ShloMosaic.Pipeline (Dat)

/-! ## One block: 256 rows, the gains and the targets -/

/-- A block's rows and its row of gains, among the extended reals. -/
def rowsUp (x : Fin 256 → Fin 2048 → ℝ) : S256x2048.Idx → EReal := fun y => ((x (y 0) (y 1) : ℝ) : EReal)
def gainsUp (g : Fin 2048 → ℝ) : S1x2048.Idx → EReal := fun y => ((g (y 1) : ℝ) : EReal)

variable (x t : Fin 256 → Fin 2048 → ℝ) (g : Fin 2048 → ℝ)

theorem block_scale (r : Fin 256) (k : Fin 1) : k0_pay6 (F := Ideal) (rowsUp x) (ix2 r k) = ((scale 2048 (x r) : ℝ) : EReal) := by
  pointwise [k0_pay6, rowsUp]
  simp only [word_2048, word_rmsEps, ← EReal.coe_mul, sum_coe, div_2048, ← EReal.coe_add]
  exact rsqrt_meanSq width_pos (x r)
theorem block_hat (r : Fin 256) (j : Fin 2048) : k0_pay7 (F := Ideal) (rowsUp x) (ix2 r j) = ((x r j * scale 2048 (x r) : ℝ) : EReal) := by
  pointwise [k0_pay7]
  rw [block_scale]
  exact (EReal.coe_mul _ _).symm
theorem block_err (r : Fin 256) (j : Fin 2048) : k0_pay8 (F := Ideal) (rowsUp x) (gainsUp g) (rowsUp t) (ix2 r j) = ((err (x r) g (t r) j : ℝ) : EReal) := by
  pointwise [k0_pay8, k0_pay5]
  rw [block_hat]
  pointwise [rowsUp, gainsUp]
  simp only [← EReal.coe_mul, ← EReal.coe_sub]
  rfl
theorem block_loss (k : Fin 1) (j : Fin 128) : k0_pay9 (F := Ideal) (rowsUp x) (gainsUp g) (rowsUp t) (ix2 k j)
    = ((1 / 2 * ∑ r, rowLoss (x r) g (t r) : ℝ) : EReal) := by
  pointwise [k0_pay9]
  simp only [block_err, word_half, word_2048, ← EReal.coe_mul, sum_coe, div_2048, Finset.univ_unique, Finset.sum_singleton]
  rfl
theorem block_dy (r : Fin 256) (j : Fin 2048) : k0_pay10 (F := Ideal) (rowsUp x) (gainsUp g) (rowsUp t) (ix2 r j) = ((dy (x r) g (t r) j : ℝ) : EReal) := by
  pointwise [k0_pay10]
  rw [block_err, word_inv, ← EReal.coe_mul]
  rfl
theorem block_dx (r : Fin 256) (j : Fin 2048) : k0_pay11 (F := Ideal) (rowsUp x) (gainsUp g) (rowsUp t) (ix2 r j) = ((dxRow (x r) g (t r) j : ℝ) : EReal) := by
  pointwise [k0_pay11, k0_pay5]
  simp only [block_scale, block_hat, block_dy]
  pointwise [gainsUp]
  simp only [word_2048, ← EReal.coe_mul, sum_coe, div_2048, ← EReal.coe_sub]
  rfl
theorem block_dg (j : Fin 2048) : k0_pay2 (F := Ideal) (k0_pay7 (rowsUp x)) (k0_pay10 (rowsUp x) (gainsUp g) (rowsUp t)) (ix2 0 j)
    = ((∑ r, dgRow (x r) g (t r) j : ℝ) : EReal) := by
  pointwise [k0_pay2]
  simp only [block_hat, block_dy, ← EReal.coe_mul, sum_coe]
  rfl

/-! ## The grid -/

variable (m : (ℓ : Loc nD τ sig) → Buf (Elt Ideal) ℓ)

/-- The block each window is on at each grid point. -/
theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0]
    ∧ win0_6.index t = ![0, 0] :=
  (by decide +kernel : ∀ t : Fin grid0.N, _)

theorem point_lt (t : Fin cfg0.N) : t.val < 16 := lt_of_lt_of_eq t.isLt N_0

/-- What every grid point leaves in the rows' gradient's buffers, in the two formats. -/
theorem after_dx (c : Dev nD) (t : Fin cfg0.N) (y) : (dats m 0 c).after 4 t y = k0_pay11 (iblk m c 0 t) (iblk m c 1 t) (iblk m c 2 t) y := by
  rw [after0_4]
  by_cases h : t.val % 16 = 0
  · rw [outsAt0_A m c t h (by have := point_lt t; omega)]; frame_out
  · rw [outsAt0_B m c t h (by omega)]; frame_out
theorem after_dxb (c : Dev nD) (t : Fin cfg0.N) (y) : (dats m 0 c).after 5 t y = k0_pay11 (iblk m c 0 t) (iblk m c 1 t) (iblk m c 2 t) y := by
  rw [after0_5]
  by_cases h : t.val % 16 = 0
  · rw [outsAt0_A m c t h (by have := point_lt t; omega)]; frame_out; rfl
  · rw [outsAt0_B m c t h (by omega)]; frame_out; rfl

variable {m}

/-- The kernel's arguments are the rows `X`, the gains `G` and the targets `T`. -/
structure Holds (m : (ℓ : Loc nD τ sig) → Buf (Elt Ideal) ℓ) (c : Dev nD) (X T : Fin 4096 → Fin 2048 → ℝ) (G : Fin 2048 → ℝ) : Prop where
  x : m ((c : Thread nD τ).loc main_arg0) = fun y : S4096x2048.Idx => ((X (y 0) (y 1) : ℝ) : EReal)
  g : m ((c : Thread nD τ).loc main_arg1) = fun y : S2048.Idx => ((G (y 0) : ℝ) : EReal)
  t : m ((c : Thread nD τ).loc main_arg2) = fun y : S4096x2048.Idx => ((T (y 0) (y 1) : ℝ) : EReal)

section
variable {c : Dev nD} {X T : Fin 4096 → Fin 2048 → ℝ} {G : Fin 2048 → ℝ} (H : Holds m c X T G) (t : Fin cfg0.N)
include H

/-- The blocks a point is on. -/
theorem iblk_x : iblk m c 0 t = rowsUp fun r => X (rowAt (point_lt t) r) := by
  funext y
  show m ((c : Thread nD τ).loc main_arg0) _ = _
  rw [H.x]
  idx_vars y
  refine congrArg (fun i : S4096x2048.Idx => ((X (i 0) (i 1) : ℝ) : EReal)) (show _ = ix2 (rowAt (point_lt t) y0) y1 from ?_)
  blk_ext [idx t, rowAt_val]
theorem iblk_t : iblk m c 2 t = rowsUp fun r => T (rowAt (point_lt t) r) := by
  funext y
  show m ((c : Thread nD τ).loc main_arg2) _ = _
  rw [H.t]
  idx_vars y
  refine congrArg (fun i : S4096x2048.Idx => ((T (i 0) (i 1) : ℝ) : EReal)) (show _ = ix2 (rowAt (point_lt t) y0) y1 from ?_)
  blk_ext [idx t, rowAt_val]
theorem iblk_g : iblk m c 1 t = gainsUp G := by
  funext y
  idx_vars y
  blk_simp [iblk, idx t]
  entry_read
  pointwise []
  rw [H.g]
  refine congrArg (fun i : S2048.Idx => ((G (i 0) : ℝ) : EReal)) (show _ = ix1 y1 from ?_)
  blk_ext [idx t]
end

/-! ## The results -/

/-- The gradient of the rows, of the gains, and the loss, over the whole arrays. -/
def dxAll (X T : Fin 4096 → Fin 2048 → ℝ) (G : Fin 2048 → ℝ) (i : S4096x2048.Idx) : EReal := ((dxRow (X (i 0)) G (T (i 0)) (i 1) : ℝ) : EReal)
def dgAll (X T : Fin 4096 → Fin 2048 → ℝ) (G : Fin 2048 → ℝ) (i : S1x2048.Idx) : EReal := ((∑ r, dgRow (X r) G (T r) (i 1) : ℝ) : EReal)
def lossAll (X T : Fin 4096 → Fin 2048 → ℝ) (G : Fin 2048 → ℝ) (_ : S1x128.Idx) : EReal := ((1 / 2 * ∑ r, rowLoss (X r) G (T r) : ℝ) : EReal)

section
variable {c : Dev nD} {X T : Fin 4096 → Fin 2048 → ℝ} {G : Fin 2048 → ℝ} (H : Holds m c X T G)
include H

theorem point_dx (t : Fin cfg0.N) (r : Fin 256) (j : Fin 2048) :
    k0_pay11 (iblk m c 0 t) (iblk m c 1 t) (iblk m c 2 t) (ix2 r j) = dxAll X T G (ix2 (rowAt (point_lt t) r) j) := by
  rw [iblk_x H, iblk_g H, iblk_t H]
  exact block_dx _ _ _ r j

theorem final_dx : (dats m 0 c).arrAt 4 (cfgs 0).N = dxAll X T G := by
  refine (dats m 0 c).arrAt_eq_of_covers 4 _ (by decide +kernel) fun t _ y => ?_
  blk_simp
  rw [after_dx]
  idx_vars y
  refine (point_dx H t y0 y1).trans (congrArg (dxAll X T G) ?_)
  blk_ext [idx t, rowAt_val]
theorem final_dxb : (dats m 0 c).arrAt 5 (cfgs 0).N = dxAll X T G := by
  refine (dats m 0 c).arrAt_eq_of_covers 5 _ (by decide +kernel) fun t _ y => ?_
  blk_simp
  rw [after_dxb]
  idx_vars y
  refine (point_dx H t y0 y1).trans (congrArg (dxAll X T G) ?_)
  blk_ext [idx t, rowAt_val]

/-- The points' parts of the gains' gradient add up to it, and the points' losses to the loss. -/
theorem sum_dg (j : Fin 2048) :
    ∑ t : Fin cfg0.N, k0_pay2 (F := Ideal) (k0_pay7 (iblk m c 0 t)) (k0_pay10 (iblk m c 0 t) (iblk m c 1 t) (iblk m c 2 t)) (ix2 0 j) = dgAll X T G (ix2 0 j) := by
  simp only [iblk_x H, iblk_g H, iblk_t H, block_dg, sum_coe]
  exact congrArg Real.toEReal (sum_rows N_0 fun r => dgRow (X r) G (T r) j)
theorem sum_loss (j : Fin 128) :
    ∑ t : Fin cfg0.N, k0_pay9 (F := Ideal) (iblk m c 0 t) (iblk m c 1 t) (iblk m c 2 t) (ix2 0 j) = lossAll X T G (ix2 0 j) := by
  simp only [iblk_x H, iblk_g H, iblk_t H, block_loss, sum_coe]
  rw [← Finset.mul_sum]
  exact congrArg (fun s : ℝ => ((1 / 2 * s : ℝ) : EReal)) (sum_rows N_0 fun r => rowLoss (X r) G (T r))

theorem final_dg : (dats m 0 c).arrAt 6 (cfgs 0).N = dgAll X T G := by
  refine (dats m 0 c).arrAt_eq_of_after_last 6 t0_15 (by decide +kernel) _ fun j => ?_
  blk_simp
  rw [after0_6, Pipeline.eq_sum_fin_of_reset_step_apply_last (fun n h => (outsAt0 m c n h).2.2.2) 16 (fun _ => (0 : EReal))
    (fun t j => k0_pay2 (k0_pay7 (iblk m c 0 t)) (k0_pay10 (iblk m c 0 t) (iblk m c 1 t) (iblk m c 2 t)) j)
    (fun t h j => by rw [outsAt0_A m c t h (by have := point_lt t; omega)]; frame_out; exact (zero_add _).symm)
    (fun t h j => by rw [outsAt0_B m c t h (by omega)]; frame_out; pointwise [k0_pay4])
    (le_of_eq N_0) t0_15 rfl j]
  idx_vars j
  rw [Subsingleton.elim j0 0]
  show (_ : EReal) = _
  rw [zero_add]
  exact sum_dg H j1
theorem final_loss : (dats m 0 c).arrAt 3 (cfgs 0).N = lossAll X T G := by
  refine (dats m 0 c).arrAt_eq_of_after_last 3 t0_15 (by decide +kernel) _ fun j => ?_
  blk_simp
  rw [after0_3, Pipeline.eq_sum_fin_of_reset_step_apply_last (fun n h => (outsAt0 m c n h).1) 16 (fun _ => (0 : EReal))
    (fun t j => k0_pay9 (iblk m c 0 t) (iblk m c 1 t) (iblk m c 2 t) j)
    (fun t h j => by rw [outsAt0_A m c t h (by have := point_lt t; omega)]; frame_out; exact (zero_add _).symm)
    (fun t h j => by rw [outsAt0_B m c t h (by omega)]; frame_out; pointwise [k0_pay3])
    (le_of_eq N_0) t0_15 rfl j]
  idx_vars j
  rw [Subsingleton.elim j0 0]
  show (_ : EReal) = _
  rw [zero_add]
  exact sum_loss H j1
end

end Cert.Loss

end
-- ==== Proof.Loss.Reference.lean ====
/- The reference of the loss and its gradient, read at an index, on arrays of reals. -/
module

public import proofs.«01_k».proof.Proof.Gen.Reference3Ideal.Read
public import proofs.«01_k».proof.Proof.Loss.Row
public import Idealize.ShloMosaic.Lib.Pointwise

@[expose] public section

set_option maxRecDepth 16384

noncomputable section

namespace Cert.Loss

open Cert.Reference3Ideal Cert.Reference3Ideal.Gen Cert.Reference3Ideal.Read Cert.Lift Cert.NormRow
open Idealize.ShloMosaic

/-- Row `i` of an array, and the one row of a vector. -/
abbrev row (X : S4096x2048.Idx → ℝ) (i : Fin 4096) : Fin 2048 → ℝ := fun k => X (ix2 i k)
abbrev vec (G : S2048.Idx → ℝ) : Fin 2048 → ℝ := fun k => G (ix1 k)

/-- An array of reals among the extended reals. -/
abbrev up {S : Shape} (X : S.Idx → ℝ) : S.Idx → EReal := fun i => (X i : EReal)

variable (X T : S4096x2048.Idx → ℝ) (G : S2048.Idx → ℝ)

theorem ref_meanSq (i : Fin 4096) (k : Fin 1) : val_main_v6 (F := Ideal) (up X) (ix2 i k) = ((meanSq 2048 (row X i) : ℝ) : EReal) := by
  pointwise [val_main_v6, val_main_v5, val_main_v4, val_main_v3, val_main_v2, val_main_v1, val_main_v0, val_main_cst, val_main_cst_0, val_main_cst_1]
  simp only [word_zero, word_2048, word_rmsEps, ← EReal.coe_mul, sum_coe, div_2048, ← EReal.coe_add, zero_add]
  rfl
theorem ref_scale (i : Fin 4096) (k : Fin 1) : val_main_v7 (F := Ideal) (up X) (ix2 i k) = ((scale 2048 (row X i) : ℝ) : EReal) := by
  pointwise [val_main_v7]
  rw [ref_meanSq]
  exact rsqrt_real (meanSq_pos width_pos _)
theorem ref_err (i : Fin 4096) (j : Fin 2048) :
    val_main_v16 (F := Ideal) (up X) (up G) (up T) (ix2 i j) = ((err (row X i) (vec G) (row T i) j : ℝ) : EReal) := by
  pointwise [val_main_v16, val_main_v15, val_main_v14, val_main_v13, val_main_v12, val_main_v11]
  simp only [ref_scale, ← EReal.coe_mul, ← EReal.coe_sub]
  rfl
/-- The reference's loss. -/
theorem ref_loss (k : Fin 1) (j : Fin 128) :
    val_main_v51 (F := Ideal) (up X) (up G) (up T) (ix2 k j) = ((1 / 2 * ∑ i, rowLoss (row X i) (vec G) (row T i) : ℝ) : EReal) := by
  pointwise [val_main_v51, val_main_v24, val_main_cst_7, val_main_v23, val_main_cst_6, val_main_v22, val_main_v21, val_main_cst_5, val_main_v20, val_main_cst_4, val_main_v17]
  simp only [ref_err, word_half, word_zero, word_2048, ← EReal.coe_mul, sum_coe, ← EReal.coe_add, div_2048, zero_add]
  rfl
theorem ref_dy (i : Fin 4096) (j : Fin 2048) :
    val_main_v30 (F := Ideal) (up X) (up G) (up T) (ix2 i j) = ((dy (row X i) (vec G) (row T i) j : ℝ) : EReal) := by
  pointwise [val_main_v30, val_main_v29, val_main_v28, val_main_v27, val_main_cst_10, val_main_v26, val_main_v25, val_main_cst_8, val_main_cst_9, val_main_v19, val_main_v18, val_main_cst_3]
  simp only [ref_err, word_half, word_one, word_two, word_2048, ← EReal.coe_mul, div_2048]
  refine congrArg Real.toEReal ?_
  unfold dy
  ring
/-- The reference's gradient of the gains. -/
theorem ref_dg (j : Fin 2048) :
    val_main_v53 (F := Ideal) (up X) (up G) (up T) (ix2 0 j) = ((∑ i, dgRow (row X i) (vec G) (row T i) j : ℝ) : EReal) := by
  pointwise [val_main_v53, val_main_v36, val_main_cst_12, val_main_v33, val_main_v32, val_main_cst_11, val_main_v31, val_main_v12, val_main_v11]
  simp only [ref_dy, ref_scale, ← EReal.coe_mul, sum_coe, word_zero, ← EReal.coe_add, zero_add, Finset.univ_unique, Finset.sum_singleton]
  exact congrArg Real.toEReal (Finset.sum_congr rfl fun i _ => mul_comm _ _)
theorem ref_q (i : Fin 4096) (j : Fin 2048) :
    val_main_v35 (F := Ideal) (up X) (up G) (up T) (ix2 i j) = ((dy (row X i) (vec G) (row T i) j * vec G j : ℝ) : EReal) := by
  pointwise [val_main_v35, val_main_v34, val_main_v13]
  rw [ref_dy, ← EReal.coe_mul]
/-- What comes back through the mean square, in every entry of the row. -/
theorem ref_back (i : Fin 4096) (j : Fin 2048) :
    val_main_v46 (F := Ideal) (up X) (up G) (up T) (ix2 i j) = ((back 2048 (row X i) (fun k => dy (row X i) (vec G) (row T i) k * vec G k) : ℝ) : EReal) := by
  pointwise [val_main_v46, val_main_v45, val_main_cst_15, val_main_v44, val_main_v43, val_main_cst_14, val_main_v42, val_main_v39, val_main_v38, val_main_cst_13, val_main_v37,
    val_main_v10, val_main_v9, val_main_cst_2, val_main_v8]
  simp only [ref_scale, ref_meanSq, ref_q]
  simp only [word_zero, word_neg_half, word_2048, ← EReal.coe_mul, sum_coe, div_real _ (meanSq_pos width_pos _).ne', div_2048, ← EReal.coe_add, zero_add,
    Finset.univ_unique, Finset.sum_singleton]
  rfl
/-- The reference's gradient of the rows. -/
theorem ref_dx (i : Fin 4096) (j : Fin 2048) :
    val_main_v50 (F := Ideal) (up X) (up G) (up T) (ix2 i j) = ((dxRow (row X i) (vec G) (row T i) j : ℝ) : EReal) := by
  pointwise [val_main_v50, val_main_v49, val_main_v48, val_main_v47, val_main_v41, val_main_v40]
  simp only [ref_back, ref_scale, ref_q, ← EReal.coe_mul, ← EReal.coe_add]
  exact congrArg Real.toEReal (grad_eq width_pos (row X i) (fun k => dy (row X i) (vec G) (row T i) k * vec G k) j)

end Cert.Loss

end
-- ==== Proof.Loss.Claims.lean ====
/- The claims about the loss and its gradient: frames, and the equality with the reference on finite arrays. -/
module

public import proofs.«01_k».proof.Defs
public import proofs.«01_k».proof.Proof.Gen.Kernel3.Frame
public import proofs.«01_k».proof.Proof.Gen.Pre_head_finite
public import proofs.«01_k».proof.Proof.Loss.Kernel
public import proofs.«01_k».proof.Proof.Loss.Reference
public import Idealize.ShloMosaic.Lib.Quiescent

@[expose] public section

set_option maxRecDepth 16384

noncomputable section

namespace Cert.Loss

open Idealize.ShloMosaic Idealize.ShloMosaic.TcCoe Idealize.SL.Sem Cert.Lift

theorem quiescent : quiescent_Kernel3 (hKernel3 := Cert.Kernel3.Gen.facts) :=
  fun m ρ _ => Cert.Kernel3.Gen.frame m ρ
theorem quiescent_ideal : quiescent_Kernel3Ideal (hKernel3Ideal := Cert.Kernel3Ideal.Gen.facts) :=
  fun m ρ _ => Cert.Kernel3Ideal.Gen.frame m ρ
theorem quiescent_ideal_pre : quiescent_Kernel3Ideal_pre_head_finite (hKernel3Ideal := Cert.Kernel3Ideal.Gen.facts)
    (hPre_head_finite := Cert.Pre_head_finite.Gen.facts) :=
  fun m ρ _ => Cert.Kernel3Ideal.Gen.frame m ρ

section
open Cert.Reference3Ideal Cert.Reference3Ideal.Gen Cert.Reference3Ideal.Read

/-- The reference ends with its arguments unchanged and every counter at zero. -/
theorem reference_frame (m : (ℓ : Loc nD τ sig) → Buf (Elt Ideal) ℓ) (ρ : Dev nD → PrngReg) :
    θ_run (defs (F := Ideal)) (onTc (τ := τ) (main (F := Ideal))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
      ∧ r.2.sem = fun _ => 0 :=
  (θ_run defs _ _).mono (fun r h => ⟨fun c => (h c).2.2.2.2, sem_eq_zero_of_no_sems (by decide) r.2⟩)
    (Cert.Reference3Ideal.Value.run (F := Ideal) m ρ)
end

theorem quiescent_ref : quiescent_Reference3Ideal (hReference3Ideal := Cert.Reference3Ideal.Gen.facts) :=
  fun m ρ _ => reference_frame m ρ
theorem quiescent_ref_pre : quiescent_Reference3Ideal_pre_head_finite
    (hReference3Ideal := Cert.Reference3Ideal.Gen.facts) (hPre_head_finite := Cert.Pre_head_finite.Gen.facts) :=
  fun m ρ _ => reference_frame m ρ

section
open Cert.Reference3Ideal Cert.Reference3Ideal.Gen Cert.Reference3Ideal.Read

variable (X T : S4096x2048.Idx → ℝ) (G : S2048.Idx → ℝ)

/-- The reference's results as the kernel's. -/
theorem ref_loss_eq : val_main_v51 (F := Ideal) (up X) (up G) (up T) = lossAll (row X) (row T) (vec G) := by
  funext i
  idx_vars i
  exact ref_loss X T G i0 i1
theorem ref_dx_eq : val_main_v50 (F := Ideal) (up X) (up G) (up T) = dxAll (row X) (row T) (vec G) := by
  funext i
  idx_vars i
  exact ref_dx X T G i0 i1
theorem ref_dg_eq : val_main_v53 (F := Ideal) (up X) (up G) (up T) = dgAll (row X) (row T) (vec G) := by
  funext i
  idx_vars i
  rw [Subsingleton.elim i0 0]
  exact ref_dg X T G i1
end

/-- An array of reals, read by its rows, and a vector of reals, read by its entries. -/
theorem up_rows (X : Cert.Reference3Ideal.S4096x2048.Idx → ℝ) : up X = fun y : Cert.Reference3Ideal.S4096x2048.Idx => ((row X (y 0) (y 1) : ℝ) : EReal) := by
  funext y
  idx_vars y
theorem up_vec (G : Cert.Reference3Ideal.S2048.Idx → ℝ) : up G = fun y : Cert.Reference3Ideal.S2048.Idx => ((vec G (y 0) : ℝ) : EReal) := by
  funext y
  idx_vars y

/-- On arrays of reals the kernel computes what the reference computes. -/
theorem equal : algebraic_Kernel3Ideal_Reference3Ideal_pre_head_finite
    (hKernel3Ideal := Cert.Kernel3Ideal.Gen.facts) (hReference3Ideal := Cert.Reference3Ideal.Gen.facts)
    (hPre_head_finite := Cert.Pre_head_finite.Gen.facts) := by
  intro m ρ m' ρ' hpre hagree
  refine ⟨_, _, _, _, Cert.Kernel3Ideal.Value.run_blocks m ρ, (θ_run _ _ _).mono (fun r h c => ?_)
    (Cert.Reference3Ideal.Value.run (F := Ideal) m' ρ')⟩
  obtain ⟨h0, h1, h2, h3, hargs⟩ := h c
  obtain ⟨a0, a1, a2⟩ := hagree c
  obtain ⟨p0, p1, p2⟩ := hpre c
  obtain ⟨X, hX⟩ := reals_of_mask _ _ p0
  obtain ⟨G, hG⟩ := reals_of_mask _ _ p1
  obtain ⟨T, hT⟩ := reals_of_mask _ _ p2
  have H : Holds m c (row X) (row T) (vec G) := ⟨hX.trans (up_rows X), hG.trans (up_vec G), hT.trans (up_rows T)⟩
  refine ⟨h0.trans ?_, h1.trans ?_, h2.trans ?_, h3.trans ?_, hargs⟩
  · rw [Cert.Reference3Ideal.Read.val_main_v51_eq, a0, a1, a2, hX, hG, hT]
    exact (ref_loss_eq X T G).trans (final_loss H).symm
  · rw [Cert.Reference3Ideal.Read.val_main_v50_eq, a0, a1, a2, hX, hG, hT]
    exact (ref_dx_eq X T G).trans (final_dx H).symm
  · rw [Cert.Reference3Ideal.Read.val_main_v52_eq, a0, a1, a2, hX, hG, hT]
    exact (ref_dx_eq X T G).trans (final_dxb H).symm
  · rw [Cert.Reference3Ideal.Read.val_main_v53_eq, a0, a1, a2, hX, hG, hT]
    exact (ref_dg_eq X T G).trans (final_dg H).symm

end Cert.Loss

end
-- ==== Proof.Gate.Math.lean ====
/- The gated product of the training step over the reals: its arguments, the gate, and its gradients. -/
module

public import proofs.«01_k».proof.Proof.Lift

@[expose] public section

noncomputable section

namespace Cert.Gate

open Idealize.ShloMosaic Cert.Lift

/-- The logistic function. -/
def logistic (x : ℝ) : ℝ := 1 / (1 + Real.exp (-x))
theorem logistic_den_ne (x : ℝ) : 1 + Real.exp (-x) ≠ 0 := (add_pos one_pos (Real.exp_pos _)).ne'

/-- The gate, written out in the extended reals. -/
theorem logistic_real (x : ℝ) : Ideal.div 1 (1 + Ideal.exp ((-x : ℝ) : EReal)) = ((logistic x : ℝ) : EReal) := by
  rw [Ideal.exp_coe, ← EReal.coe_one, ← EReal.coe_add, div_real _ (logistic_den_ne x)]
  rfl

/-- The arguments: the rows, the gate's weights, the up-projection's, the down-projection's, and the incoming gradient. -/
structure Args where
  h : Fin 4096 → Fin 2048 → ℝ
  wg : Fin 2048 → Fin 5632 → ℝ
  wu : Fin 2048 → Fin 5632 → ℝ
  wd : Fin 5632 → Fin 2048 → ℝ
  dx : Fin 4096 → Fin 2048 → ℝ

namespace Args
variable (A : Args) (r : Fin 4096) (j : Fin 5632)

/-- The two projections, and the gradient that reaches their gated product. -/
def gate : ℝ := ∑ k, A.h r k * A.wg k j
def up : ℝ := ∑ k, A.h r k * A.wu k j
def da : ℝ := ∑ k, A.dx r k * A.wd j k
/-- The gated product. -/
def act : ℝ := A.gate r j * logistic (A.gate r j) * A.up r j
/-- The factors by which the gradient of the gated product reaches the gate (plane 0) and the up-projection (plane 1). -/
def facGate : ℝ := A.up r j * (logistic (A.gate r j) + A.gate r j * logistic (A.gate r j) * (1 - logistic (A.gate r j)))
def facUp : ℝ := A.gate r j * logistic (A.gate r j)
def fac (p : Fin 2) (r : Fin 4096) (j : Fin 5632) : ℝ := if p = 0 then A.facGate r j else A.facUp r j
/-- The gradients of the gate and the up-projection. -/
def grad (p : Fin 2) (r : Fin 4096) (j : Fin 5632) : ℝ := A.da r j * A.fac p r j

theorem fac_zero : A.fac 0 r j = A.facGate r j := if_pos rfl
theorem fac_one : A.fac 1 r j = A.facUp r j := if_neg (by decide)
end Args

end Cert.Gate

end
-- ==== Proof.Gate.Block.lean ====
/- The forward product of the gate on one grid point: 2048 rows against 512 columns, in eight runs of 256 rows, on arrays of reals. -/
module

public import proofs.«01_k».proof.Proof.Gen.Kernel4Ideal.Frame
public import proofs.«01_k».proof.Proof.Gate.Math
public import proofs.«01_k».proof.Proof.Arrays
public import Idealize.ShloMosaic.Lib.Pipeline.ValueKit
public import Idealize.ShloMosaic.Lib.Pipeline.CanonAppend

@[expose] public section

set_option maxRecDepth 16384

noncomputable section

namespace Cert.Gate

open Cert.Kernel4Ideal Cert.Kernel4Ideal.Gen Cert.Lift
open Idealize.ShloMosaic Idealize.ShloMosaic.TcCoe Idealize.SL.Sem

/-! ## One run of rows -/

section
variable (x : Fin 256 → Fin 2048 → ℝ) (wg wu : Fin 2048 → Fin 512 → ℝ) (r : Fin 256) (j : Fin 512)

/-- The product of a run's rows and the point's columns. -/
def dot {l m n : ℕ} (x : Fin l → Fin m → ℝ) (w : Fin m → Fin n → ℝ) (r : Fin l) (j : Fin n) : ℝ := ∑ k, x r k * w k j

theorem run_gate : k0_pay3 (F := Ideal) (lift₂ x) (lift₂ wg) (ix2 r j) = ((dot x wg r j : ℝ) : EReal) := by
  pointwise [k0_pay3, lift₂]
  simp only [word_zero, ← EReal.coe_mul, sum_coe, ← EReal.coe_add, zero_add]
  rfl
theorem run_up : k0_pay4 (F := Ideal) (lift₂ x) (lift₂ wu) (ix2 r j) = ((dot x wu r j : ℝ) : EReal) := run_gate x wu r j
theorem run_logistic : k0_pay5 (F := Ideal) (lift₂ x) (lift₂ wg) (ix2 r j) = ((logistic (dot x wg r j) : ℝ) : EReal) := by
  pointwise [k0_pay5]
  rw [run_gate, zero_sub, ← EReal.coe_neg]
  exact logistic_real _
theorem run_facUp : k0_pay6 (F := Ideal) (lift₂ x) (lift₂ wg) (ix2 r j) = ((dot x wg r j * logistic (dot x wg r j) : ℝ) : EReal) := by
  pointwise [k0_pay6]
  rw [run_gate, run_logistic, ← EReal.coe_mul]
theorem run_act : k0_pay7 (F := Ideal) (lift₂ x) (lift₂ wg) (lift₂ wu) (ix2 r j)
    = ((dot x wg r j * logistic (dot x wg r j) * dot x wu r j : ℝ) : EReal) := by
  pointwise [k0_pay7]
  rw [run_facUp, run_up, ← EReal.coe_mul]
theorem run_plane0 (p : Fin 1) : k0_pay8 (F := Ideal) (lift₂ x) (lift₂ wg) (lift₂ wu) (ix3 p r j)
    = ((dot x wu r j * (logistic (dot x wg r j) + dot x wg r j * logistic (dot x wg r j) * (1 - logistic (dot x wg r j))) : ℝ) : EReal) := by
  pointwise [k0_pay8]
  rw [run_facUp, run_up, run_logistic, ← EReal.coe_one, ← EReal.coe_sub, ← EReal.coe_mul, ← EReal.coe_add, ← EReal.coe_mul]
theorem run_plane1 (p : Fin 1) : k0_pay9 (F := Ideal) (lift₂ x) (lift₂ wg) (ix3 p r j)
    = ((dot x wg r j * logistic (dot x wg r j) : ℝ) : EReal) := by
  pointwise [k0_pay9]
  rw [run_facUp]
end

/-! ## The eight runs -/

/-- Row `r` of run `k` of a point. -/
def runRow (k : Fin 8) (r : Fin 256) : Fin 2048 := ⟨256 * k.val + r.val, by omega⟩

theorem run_inb (k : Fin 8) : ∀ a, (![256 * k.val, 0] : Fin 2 → ℕ) a + S256x512.size a ≤ S2048x512.size a :=
  fun a => match a with
  | 0 => (by omega : 256 * k.val + 256 ≤ 2048)
  | 1 => le_refl 512
theorem rows_inb (k : Fin 8) : ∀ a, (![256 * k.val, 0] : Fin 2 → ℕ) a + S256x2048.size a ≤ S2048x2048.size a :=
  fun a => match a with
  | 0 => (by omega : 256 * k.val + 256 ≤ 2048)
  | 1 => le_refl 2048
theorem plane_inb (p : Fin 2) (k : Fin 8) : ∀ a, (![p.val, 256 * k.val, 0] : Fin 3 → ℕ) a + S1x256x512.size a ≤ S2x2048x512.size a :=
  fun a => match a with
  | 0 => (by omega : p.val + 1 ≤ 2)
  | 1 => (by omega : 256 * k.val + 256 ≤ 2048)
  | 2 => le_refl 512

/-- The rows of run `k`. -/
abbrev rowsOf (x : Vec Ideal S2048x2048 .bf16) (k : Fin 8) : Vec Ideal S256x2048 .bf16 := View.ld x (Rect.unit ![256 * k.val, 0] S256x2048.size (rows_inb k))
/-- The stores of eight runs, the last first: into one array, and into the two planes of another. -/
def rowTiles (P : Fin 8 → Vec Ideal S256x512 .bf16) : List (View.Piece (Elt Ideal) S2048x512 .bf16) :=
  [7, 6, 5, 4, 3, 2, 1, 0].map fun k => ⟨Rect.unit ![256 * k.val, 0] S256x512.size (run_inb k), P k⟩
def planeTiles (P : Fin 2 → Fin 8 → Vec Ideal S1x256x512 .bf16) : List (View.Piece (Elt Ideal) S2x2048x512 .bf16) :=
  [(1, 7), (0, 7), (1, 6), (0, 6), (1, 5), (0, 5), (1, 4), (0, 4), (1, 3), (0, 3), (1, 2), (0, 2), (1, 1), (0, 1), (1, 0), (0, 0)].map
    fun pk : Fin 2 × Fin 8 => ⟨Rect.unit ![pk.1.val, 256 * pk.2.val, 0] S1x256x512.size (plane_inb pk.1 pk.2), P pk.1 pk.2⟩

section
variable (x0 : Vec Ideal S2048x2048 .bf16) (x1 x2 : Vec Ideal S2048x512 .bf16)

theorem out_act : out0_4 (F := Ideal) x0 x1 x2 = View.canon (rowTiles fun k => k0_pay7 (rowsOf x0 k) (View.ld x1 r0_1) (View.ld x2 r0_1)) := rfl
theorem out_fac : out0_3 (F := Ideal) x0 x1 x2 = View.canon (planeTiles fun p k =>
    if p = 0 then k0_pay8 (rowsOf x0 k) (View.ld x1 r0_1) (View.ld x2 r0_1) else k0_pay9 (rowsOf x0 k) (View.ld x1 r0_1)) := rfl
end

/-- Runs that agree with an array of reals make the array. -/
theorem canon_rowTiles (P : Fin 8 → Vec Ideal S256x512 .bf16) (f : Fin 2048 → Fin 512 → ℝ) (hP : ∀ k, P k = lift₂ fun r j => f (runRow k r) j) :
    View.canon (rowTiles P) = lift₂ f := by
  funext y
  rw [← List.append_nil (rowTiles P)]
  refine View.canon_append_of_pieces (Val := Elt Ideal) (e := .bf16) (lift₂ f) [] _ (fun p hp x => ?_) y ?_
  · obtain ⟨k, -, rfl⟩ := List.mem_map.mp hp
    refine (congrFun (hP k) x).trans ?_
    refine congrArg₂ (fun i j => ((f i j : ℝ) : EReal)) (Fin.ext ?_) (Fin.ext ?_)
    · exact congrArg (256 * k.val + ·) (Nat.one_mul _).symm
    · exact ((Nat.zero_add _).trans (Nat.one_mul _)).symm
  · idx_vars y
    refine ⟨_, List.mem_map.mpr ⟨⟨y0.val / 256, by omega⟩, (by decide : ∀ k : Fin 8, k ∈ [7, 6, 5, 4, 3, 2, 1, 0]) _, rfl⟩, ?_⟩
    refine (Rect.mem_set_unit (inb := run_inb _)).mpr fun a => ?_
    match a with
    | 0 => exact ⟨Nat.mul_div_le _ _, Nat.lt_mul_div_succ y0.val (by norm_num)⟩
    | 1 => exact ⟨Nat.zero_le _, (Nat.zero_add 512).symm ▸ y1.isLt⟩

theorem canon_planeTiles (P : Fin 2 → Fin 8 → Vec Ideal S1x256x512 .bf16) (f : Fin 2 → Fin 2048 → Fin 512 → ℝ)
    (hP : ∀ p k, P p k = lift₃ fun _ r j => f p (runRow k r) j) : View.canon (planeTiles P) = lift₃ f := by
  funext y
  rw [← List.append_nil (planeTiles P)]
  refine View.canon_append_of_pieces (Val := Elt Ideal) (e := .bf16) (lift₃ f) [] _ (fun p hp x => ?_) y ?_
  · obtain ⟨k, -, rfl⟩ := List.mem_map.mp hp
    refine (congrFun (hP k.1 k.2) x).trans ?_
    have h0 : (x 0).val = 0 := Nat.lt_one_iff.mp (x 0).isLt
    have e : ∀ {p p' : Fin 2} {i i' : Fin 2048} {j j' : Fin 512}, p = p' → i = i' → j = j' → ((f p i j : ℝ) : EReal) = ((f p' i' j' : ℝ) : EReal) := by
      rintro _ _ _ _ _ _ rfl rfl rfl; rfl
    refine e (Fin.ext ?_) (Fin.ext ?_) (Fin.ext ?_)
    · show k.1.val = k.1.val + 1 * (x 0).val
      rw [h0]; rfl
    · exact congrArg (256 * k.2.val + ·) (Nat.one_mul _).symm
    · exact ((Nat.zero_add _).trans (Nat.one_mul _)).symm
  · idx_vars y
    refine ⟨_, List.mem_map.mpr ⟨(y0, ⟨y1.val / 256, by omega⟩), (by decide : ∀ k : Fin 2 × Fin 8, k ∈ [(1, 7), (0, 7), (1, 6), (0, 6), (1, 5), (0, 5), (1, 4), (0, 4), (1, 3), (0, 3), (1, 2), (0, 2), (1, 1), (0, 1), (1, 0), (0, 0)]) _, rfl⟩, ?_⟩
    refine (Rect.mem_set_unit (inb := plane_inb _ _)).mpr fun a => ?_
    match a with
    | 0 => exact ⟨le_refl _, Nat.lt_succ_self _⟩
    | 1 => exact ⟨Nat.mul_div_le _ _, Nat.lt_mul_div_succ y1.val (by norm_num)⟩
    | 2 => exact ⟨Nat.zero_le _, (Nat.zero_add 512).symm ▸ y2.isLt⟩

/-! ## A whole point -/

section
variable (x : Fin 2048 → Fin 2048 → ℝ) (wg wu : Fin 2048 → Fin 512 → ℝ)

theorem rowsOf_lift (k : Fin 8) : rowsOf (lift₂ x) k = lift₂ fun r j => x (runRow k r) j :=
  ld_lift₂ (m := 2048) (n := 2048) (m' := 256) (n' := 2048) _ x (runRow k) id (fun _ => rfl) fun j => (Nat.zero_add _).symm
theorem cols_lift (w : Fin 2048 → Fin 512 → ℝ) : View.ld (Val := Elt Ideal) (e' := .bf16) (lift₂ w : Vec Ideal S2048x512 .bf16) r0_1 = lift₂ w :=
  ld_lift₂ (m := 2048) (n := 512) (m' := 2048) (n' := 512) _ w id id (fun _ => (Nat.zero_add _).symm) fun j => (Nat.zero_add _).symm

theorem point_act : out0_4 (F := Ideal) (lift₂ x) (lift₂ wg) (lift₂ wu) = lift₂ fun r j => dot x wg r j * logistic (dot x wg r j) * dot x wu r j := by
  rw [out_act]
  refine canon_rowTiles _ _ fun k => ?_
  rw [rowsOf_lift, cols_lift, cols_lift]
  funext y
  idx_vars y
  exact run_act _ _ _ y0 y1
theorem point_fac : out0_3 (F := Ideal) (lift₂ x) (lift₂ wg) (lift₂ wu) = lift₃ fun p r j =>
    if p = 0 then dot x wu r j * (logistic (dot x wg r j) + dot x wg r j * logistic (dot x wg r j) * (1 - logistic (dot x wg r j)))
    else dot x wg r j * logistic (dot x wg r j) := by
  rw [out_fac]
  refine canon_planeTiles _ _ fun p k => ?_
  rw [rowsOf_lift, cols_lift, cols_lift]
  funext y
  idx_vars y
  by_cases hp : p = 0
  · rw [if_pos hp]
    refine (run_plane0 _ _ _ y1 y2 y0).trans (congrArg Real.toEReal (if_pos hp).symm)
  · rw [if_neg hp]
    refine (run_plane1 _ _ y1 y2 y0).trans (congrArg Real.toEReal (if_neg hp).symm)
end

end Cert.Gate

end
-- ==== Proof.Gate.Final.lean ====
/- The gate's forward product and its gradient over the whole arrays: the blocks the two grids read, and the arrays they leave. -/
module

public import proofs.«01_k».proof.Proof.Gate.Block

@[expose] public section

set_option maxRecDepth 16384

noncomputable section

namespace Cert.Gate

open Cert.Kernel4Ideal Cert.Kernel4Ideal.Gen Cert.Lift
open Idealize.ShloMosaic Idealize.ShloMosaic.TcCoe Idealize.SL.Sem
open Idealize.ShloMosaic.Pipeline (Dat)

/-! ## The grids -/

/-- The row and the column that are a point's own row `r` and column `j`. -/
def rowOf {t : ℕ} (ht : t < 22) (r : Fin 2048) : Fin 4096 := ⟨t / 11 * 2048 + r.val, by omega⟩
def colOf (t : ℕ) (j : Fin 512) : Fin 5632 := ⟨t % 11 * 512 + j.val, by omega⟩
theorem rowOf_val {t : ℕ} (ht : t < 22) (r : Fin 2048) : (rowOf ht r).val = t / 11 * 2048 + r.val := rfl
theorem colOf_val (t : ℕ) (j : Fin 512) : (colOf t j).val = t % 11 * 512 + j.val := rfl

/-- The block each window is on at each grid point. -/
theorem idx0 : ∀ t : Fin cfg0.N, win0_0.index t = ![t.val / 11, 0] ∧ win0_1.index t = ![0, t.val % 11] ∧ win0_2.index t = ![0, t.val % 11 + 11]
    ∧ win0_3.index t = ![0, t.val / 11, t.val % 11] ∧ win0_4.index t = ![t.val / 11, t.val % 11] :=
  (by decide +kernel : ∀ t : Fin grid0.N, _)
theorem idx1 : ∀ t : Fin cfg1.N, win1_0.index t = ![t.val / 11, 0] ∧ win1_1.index t = ![t.val % 11, 0]
    ∧ win1_2.index t = ![0, t.val / 11, t.val % 11] ∧ win1_3.index t = ![0, t.val / 11, t.val % 11] :=
  (by decide +kernel : ∀ t : Fin grid1.N, _)
theorem lt0 (t : Fin cfg0.N) : t.val < 22 := lt_of_lt_of_eq t.isLt N_0
theorem lt1 (t : Fin cfg1.N) : t.val < 22 := lt_of_lt_of_eq t.isLt N_1

/-- The two weights side by side. -/
def Args.both (A : Args) (k : Fin 2048) (j : Fin 11264) : ℝ := if h : j.val < 5632 then A.wg k ⟨j.val, h⟩ else A.wu k ⟨j.val - 5632, by omega⟩
theorem Args.both_left (A : Args) (k : Fin 2048) {j : Fin 11264} (h : j.val < 5632) : A.both k j = A.wg k ⟨j.val, h⟩ := dif_pos h
theorem Args.both_right (A : Args) (k : Fin 2048) {j : Fin 11264} (h : ¬ j.val < 5632) : A.both k j = A.wu k ⟨j.val - 5632, by omega⟩ := dif_neg h

variable (V : (c : Dev nD) → (b : Ref sig .tc) → Buf (Elt Ideal) ((c : Thread nD τ).loc b)) (c : Dev nD) (A : Args)

/-! ## The forward product -/

section
variable {V c A} (hh : V c main_arg0 = lift₂ A.h) (hw : V c main_v0 = lift₂ A.both) (t : Fin cfg0.N)

include hh in
theorem iblk_h : iblk0 V c 0 t = lift₂ fun r k => A.h (rowOf (lt0 t) r) k := by
  funext y
  show V c main_arg0 _ = _
  rw [hh]
  idx_vars y
  refine congrArg (lift₂ A.h) (show _ = ix2 (rowOf (lt0 t) y0) y1 from ?_)
  blk_ext [idx0 t, rowOf_val]
include hw in
theorem iblk_wg : iblk0 V c 1 t = lift₂ fun k j => A.wg k (colOf t.val j) := by
  funext y
  show V c main_v0 _ = _
  rw [hw]
  idx_vars y
  refine (congrArg (lift₂ A.both) (show _ = ix2 y0 ⟨(colOf t.val y1).val, by omega⟩ from ?_)).trans (congrArg Real.toEReal (dif_pos (colOf t.val y1).isLt))
  blk_ext [idx0 t, colOf_val]
include hw in
theorem iblk_wu : iblk0 V c 2 t = lift₂ fun k j => A.wu k (colOf t.val j) := by
  funext y
  show V c main_v0 _ = _
  rw [hw]
  idx_vars y
  refine (congrArg (lift₂ A.both) (show _ = ix2 y0 ⟨(colOf t.val y1).val + 5632, by omega⟩ from ?_)).trans
    (congrArg Real.toEReal ((dif_neg (by show ¬ (colOf t.val y1).val + 5632 < 5632; omega)).trans (congrArg (A.wu y0) (Fin.ext (Nat.add_sub_cancel _ _)))))
  blk_ext [idx0 t, colOf_val]

include hh hw
/-- The gated product. -/
theorem final_act : (dat0 V c).arrAt 4 cfg0.N = lift₂ A.act := by
  refine (dat0 V c).arrAt_eq_of_covers 4 _ (by decide +kernel) fun t _ y => ?_
  blk_simp
  rw [after0_4, iblk_h hh, iblk_wg hw, iblk_wu hw, point_act]
  idx_vars y
  refine Eq.trans (b := lift₂ A.act (ix2 (rowOf (lt0 t) y0) (colOf t.val y1))) rfl (congrArg (lift₂ A.act) ?_)
  blk_ext [idx0 t, rowOf_val, colOf_val]
/-- The factors of its gradient. -/
theorem final_fac : (dat0 V c).arrAt 3 cfg0.N = lift₃ A.fac := by
  refine (dat0 V c).arrAt_eq_of_covers 3 _ (by decide +kernel) fun t _ y => ?_
  blk_simp
  rw [after0_3, iblk_h hh, iblk_wg hw, iblk_wu hw, point_fac]
  idx_vars y
  refine Eq.trans (b := lift₃ A.fac (ix3 y0 (rowOf (lt0 t) y1) (colOf t.val y2))) rfl (congrArg (lift₃ A.fac) ?_)
  blk_ext [idx0 t, rowOf_val, colOf_val]
end

/-! ## The gradient -/

section
variable (x : Fin 2048 → Fin 2048 → ℝ) (w : Fin 512 → Fin 2048 → ℝ) (f : Fin 2 → Fin 2048 → Fin 512 → ℝ) (r : Fin 2048) (j : Fin 512)

theorem grad_da : k1_pay1 (F := Ideal) (lift₂ x) (lift₂ w) (ix2 r j) = ((∑ k, x r k * w j k : ℝ) : EReal) := by
  pointwise [k1_pay1, lift₂]
  simp only [word_zero, ← EReal.coe_mul, sum_coe, ← EReal.coe_add, zero_add]
theorem grad_plane (e : Fin 2048 → Fin 512 → ℝ) (p : Fin 1) : k1_pay2 (F := Ideal) (lift₂ x) (lift₂ w) (lift₃ fun _ => e) (ix3 p r j)
    = (((∑ k, x r k * w j k) * e r j : ℝ) : EReal) := by
  pointwise [k1_pay2]
  rw [grad_da]
  exact (EReal.coe_mul _ _).symm

theorem grad_plane_of (e : Fin 2048 → Fin 512 → ℝ) (X : Vec Ideal S1x2048x512 .bf16) (hX : X = lift₃ fun _ => e) (z : S1x2048x512.Idx) :
    k1_pay2 (F := Ideal) (lift₂ x) (lift₂ w) X z = (((∑ k, x (z 1) k * w (z 2) k) * e (z 1) (z 2) : ℝ) : EReal) := by
  subst hX
  idx_vars z
  exact grad_plane x w z1 z2 e z0

/-- The stores of a point, one plane each. -/
theorem plane1_inb (p : Fin 2) : ∀ a, (![p.val, 0, 0] : Fin 3 → ℕ) a + S1x2048x512.size a ≤ S2x2048x512.size a :=
  fun a => match a with
  | 0 => (by omega : p.val + 1 ≤ 2)
  | 1 => le_refl 2048
  | 2 => le_refl 512
def gradTiles (P : Fin 2 → Vec Ideal S1x2048x512 .bf16) : List (View.Piece (Elt Ideal) S2x2048x512 .bf16) :=
  [1, 0].map fun p => ⟨Rect.unit ![p.val, 0, 0] S1x2048x512.size (plane1_inb p), P p⟩

theorem out_grad (x0 : Vec Ideal S2048x2048 .bf16) (x1 : Vec Ideal S512x2048 .bf16) (x2 : Vec Ideal S2x2048x512 .bf16) :
    out1_3 (F := Ideal) x0 x1 x2 = View.canon (gradTiles fun p => k1_pay2 (View.ld x0 r1_0) (View.ld x1 r1_1) (View.ld x2 (Rect.unit ![p.val, 0, 0] S1x2048x512.size (plane1_inb p)))) := rfl

/-- A plane of an array of reals. -/
theorem plane_idx (g : Fin 2 → Fin 2048 → Fin 512 → ℝ) (p : Fin 2) (x) :
    lift₃ g ((Rect.unit (s := S2x2048x512) ![p.val, 0, 0] S1x2048x512.size (plane1_inb p)).idx x) = ((g p (x 1) (x 2) : ℝ) : EReal) := by
  have h0 : (x 0).val = 0 := Nat.lt_one_iff.mp (x 0).isLt
  have e : ∀ {p p' : Fin 2} {i i' : Fin 2048} {j j' : Fin 512}, p = p' → i = i' → j = j' → ((g p i j : ℝ) : EReal) = ((g p' i' j' : ℝ) : EReal) := by
    rintro _ _ _ _ _ _ rfl rfl rfl; rfl
  refine e (Fin.ext ?_) (Fin.ext ?_) (Fin.ext ?_)
  · show p.val + 1 * (x 0).val = p.val
    rw [h0]; rfl
  · exact (Nat.zero_add _).trans (Nat.one_mul _)
  · exact (Nat.zero_add _).trans (Nat.one_mul _)

theorem ld_rows (x : Fin 2048 → Fin 2048 → ℝ) : View.ld (Val := Elt Ideal) (e' := .bf16) (lift₂ x : Vec Ideal S2048x2048 .bf16) r1_0 = lift₂ x :=
  ld_lift₂ (m := 2048) (n := 2048) (m' := 2048) (n' := 2048) _ x id id (fun _ => (Nat.zero_add _).symm) fun j => (Nat.zero_add _).symm
theorem ld_cols (w : Fin 512 → Fin 2048 → ℝ) : View.ld (Val := Elt Ideal) (e' := .bf16) (lift₂ w : Vec Ideal S512x2048 .bf16) r1_1 = lift₂ w :=
  ld_lift₂ (m := 512) (n := 2048) (m' := 512) (n' := 2048) _ w id id (fun _ => (Nat.zero_add _).symm) fun j => (Nat.zero_add _).symm

theorem point_grad : out1_3 (F := Ideal) (lift₂ x) (lift₂ w) (lift₃ f) = lift₃ fun p r j => (∑ k, x r k * w j k) * f p r j := by
  rw [out_grad, ld_rows, ld_cols]
  funext y
  rw [← List.append_nil (gradTiles _)]
  refine View.canon_append_of_pieces (Val := Elt Ideal) (e := .bf16) (lift₃ fun p r j => (∑ k, x r k * w j k) * f p r j) [] _ (fun q hq z => ?_) y ?_
  · obtain ⟨p, -, rfl⟩ := List.mem_map.mp hq
    refine Eq.trans ?_ (plane_idx _ p z).symm
    exact grad_plane_of x w (f p) _ (funext fun z => plane_idx f p z) z
  · idx_vars y
    refine ⟨_, List.mem_map.mpr ⟨y0, (by decide : ∀ k : Fin 2, k ∈ [1, 0]) _, rfl⟩, ?_⟩
    refine (Rect.mem_set_unit (inb := plane1_inb _)).mpr fun a => ?_
    match a with
    | 0 => exact ⟨le_refl _, Nat.lt_succ_self _⟩
    | 1 => exact ⟨Nat.zero_le _, (Nat.zero_add 2048).symm ▸ y1.isLt⟩
    | 2 => exact ⟨Nat.zero_le _, (Nat.zero_add 512).symm ▸ y2.isLt⟩
end

section
variable {V c A} (hd : V c main_arg4 = lift₂ A.dx) (hw : V c main_arg3 = lift₂ A.wd) (hf : V c main_v1_0 = lift₃ A.fac) (t : Fin cfg1.N)

include hd in
theorem iblk_dx : iblk1 V c 0 t = lift₂ fun r k => A.dx (rowOf (lt1 t) r) k := by
  funext y
  show V c main_arg4 _ = _
  rw [hd]
  idx_vars y
  refine congrArg (lift₂ A.dx) (show _ = ix2 (rowOf (lt1 t) y0) y1 from ?_)
  blk_ext [idx1 t, rowOf_val]
include hw in
theorem iblk_wd : iblk1 V c 1 t = lift₂ fun j k => A.wd (colOf t.val j) k := by
  funext y
  show V c main_arg3 _ = _
  rw [hw]
  idx_vars y
  refine congrArg (lift₂ A.wd) (show _ = ix2 (colOf t.val y0) y1 from ?_)
  blk_ext [idx1 t, colOf_val]
include hf in
theorem iblk_fac : iblk1 V c 2 t = lift₃ fun p r j => A.fac p (rowOf (lt1 t) r) (colOf t.val j) := by
  funext y
  show V c main_v1_0 _ = _
  rw [hf]
  idx_vars y
  refine congrArg (lift₃ A.fac) (show _ = ix3 y0 (rowOf (lt1 t) y1) (colOf t.val y2) from ?_)
  blk_ext [idx1 t, rowOf_val, colOf_val]

include hd hw hf
/-- The gradients of the gate and of the up-projection. -/
theorem final_grad : (dat1 V c).arrAt 3 cfg1.N = lift₃ A.grad := by
  refine (dat1 V c).arrAt_eq_of_covers 3 _ (by decide +kernel) fun t _ y => ?_
  blk_simp
  rw [after1_3, iblk_dx hd, iblk_wd hw, iblk_fac hf, point_grad]
  idx_vars y
  refine Eq.trans (b := lift₃ A.grad (ix3 y0 (rowOf (lt1 t) y1) (colOf t.val y2))) rfl (congrArg (lift₃ A.grad) ?_)
  blk_ext [idx1 t, rowOf_val, colOf_val]
end

end Cert.Gate

end
-- ==== Proof.Gate.Run.lean ====
/- The run of the gate's two grids: the arrays the program ends with, when its arguments are arrays of reals. -/
module

public import proofs.«01_k».proof.Proof.Gate.Final
public import Idealize.ShloMosaic.Lib.Claim

@[expose] public section

set_option maxRecDepth 16384

noncomputable section

namespace Cert.Gate

open Cert.Kernel4Ideal Cert.Kernel4Ideal.Gen Cert.Lift
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The kernel's arguments are the arrays `A` of reals. -/
structure Holds (c : Dev nD) (A : Args) : Prop where
  h : m ((c : Thread nD τ).loc main_arg0) = lift₂ A.h
  wg : m ((c : Thread nD τ).loc main_arg1) = lift₂ A.wg
  wu : m ((c : Thread nD τ).loc main_arg2) = lift₂ A.wu
  wd : m ((c : Thread nD τ).loc main_arg3) = lift₂ A.wd
  dx : m ((c : Thread nD τ).loc main_arg4) = lift₂ A.dx

/-! ## What each grid finds, and what the last leaves -/

section
variable {m} {c : Dev nD} {A : Args} (H : Holds m c A)
include H

theorem entry_h : V1 m ρ c main_arg0 = lift₂ A.h := (W1_args m ρ c main_arg0 (by decide)).trans H.h
theorem entry_both : V1 m ρ c main_v0 = lift₂ A.both := by
  show StableHlo.after _ _ _ = _
  entry_read
  show concatenate S2048x11264 1 [⟨S2048x5632, m ((c : Thread nD τ).loc main_arg1)⟩, ⟨S2048x5632, m ((c : Thread nD τ).loc main_arg2)⟩] _ = _
  rw [H.wg, H.wu]
  funext y
  idx_vars y
  pointwise [lift₂]
  by_cases h : y1.val < 5632
  · rw [dif_pos h]
    exact congrArg Real.toEReal (A.both_left y0 h).symm
  · rw [dif_neg h]
    exact congrArg Real.toEReal (A.both_right y0 h).symm
theorem entry_fac : V2 m ρ c main_v1_0 = lift₃ A.fac := (W2_arr m ρ c 3).trans (final_fac (entry_h ρ H) (entry_both ρ H))
theorem entry_wd : V2 m ρ c main_arg3 = lift₂ A.wd := (W2_args m ρ c main_arg3 (by decide)).trans H.wd
theorem entry_dx : V2 m ρ c main_arg4 = lift₂ A.dx := (W2_args m ρ c main_arg4 (by decide)).trans H.dx

theorem exit_act : W3 m ρ c (Proc.devRef .tc main_v1_1) = lift₂ A.act :=
  (W3_of m ρ c main_v1_1 (by decide)).trans ((W2_arr m ρ c 4).trans (final_act (entry_h ρ H) (entry_both ρ H)))
theorem exit_grad : W3 m ρ c (Proc.devRef .tc main_v2) = lift₃ A.grad :=
  (W3_arr m ρ c 3).trans (final_grad (entry_dx ρ H) (entry_wd ρ H) (entry_fac ρ H))
end

/-! ## The run -/

set_option backward.isDefEq.respectTransparency.types false in
/-- Every run ends with each array as the last grid leaves it. -/
theorem run_arrays : θ_run defs (onTc (τ := τ) (main (F := Ideal))) ⟨m, fun _ => 0, ρ⟩ (fun r => ∀ c : Dev nD,
    ∀ b ∈ Pipeline.ucRefs τ sig, r.2.mem (((c : Thread nD τ)).1, b) = W3 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => h)

/-- Every run ends with the results' arrays as the last grid leaves them and the arguments as launched. -/
theorem run : θ_run defs (onTc (τ := τ) (main (F := Ideal))) ⟨m, fun _ => 0, ρ⟩ (fun r => ∀ c : Dev nD,
    r.2.mem ((c.tc : Thread nD τ).loc main_v1_1) = W3 m ρ c (Proc.devRef .tc main_v1_1)
    ∧ r.2.mem ((c.tc : Thread nD τ).loc main_v2) = W3 m ρ c (Proc.devRef .tc main_v2)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)) :=
  (θ_run defs _ _).mono (fun r h c =>
    ⟨h c _ (mem_uc main_v1_1 (by decide)), h c _ (mem_uc main_v2 (by decide)),
      (h c _ (mem_uc main_arg0 (by decide))).trans (W3_main_arg0 m ρ c), (h c _ (mem_uc main_arg1 (by decide))).trans (W3_main_arg1 m ρ c),
      (h c _ (mem_uc main_arg2 (by decide))).trans (W3_main_arg2 m ρ c), (h c _ (mem_uc main_arg3 (by decide))).trans (W3_main_arg3 m ρ c),
      (h c _ (mem_uc main_arg4 (by decide))).trans (W3_main_arg4 m ρ c)⟩) (run_arrays m ρ)

end Cert.Gate

end
-- ==== Proof.Gate.Reference.lean ====
/- The reference of the gate and its gradient, read at an index, on arrays of reals. -/
module

public import proofs.«01_k».proof.Proof.Gen.Reference4Ideal.Read
public import proofs.«01_k».proof.Proof.Gate.Math
public import proofs.«01_k».proof.Proof.Arrays
public import Idealize.ShloMosaic.Lib.Pointwise

@[expose] public section

set_option maxRecDepth 16384

noncomputable section

namespace Cert.Gate

open Cert.Reference4Ideal Cert.Reference4Ideal.Gen Cert.Reference4Ideal.Read Cert.Lift
open Idealize.ShloMosaic

variable (A : Args) (r : Fin 4096) (j : Fin 5632)

theorem ref_gate : val_main_v2 (F := Ideal) (lift₂ A.h) (lift₂ A.wg) (ix2 r j) = ((A.gate r j : ℝ) : EReal) := by
  pointwise [val_main_v2, val_main_v1, val_main_v0, lift₂]
  simp only [← EReal.coe_mul, sum_coe]
  rfl
theorem ref_up : val_main_v5 (F := Ideal) (lift₂ A.h) (lift₂ A.wu) (ix2 r j) = ((A.up r j : ℝ) : EReal) := by
  pointwise [val_main_v5, val_main_v4, val_main_v3, lift₂]
  simp only [← EReal.coe_mul, sum_coe]
  rfl
theorem ref_da : val_main_v11 (F := Ideal) (lift₂ A.wd) (lift₂ A.dx) (ix2 r j) = ((A.da r j : ℝ) : EReal) := by
  pointwise [val_main_v11, val_main_v10, val_main_v8, lift₂]
  simp only [← EReal.coe_mul, sum_coe]
  rfl

theorem ref_logistic : val_main_v6_2 (F := Ideal) (lift₂ A.h) (lift₂ A.wg) (ix2 r j) = ((logistic (A.gate r j) : ℝ) : EReal) := by
  pointwise [val_main_v6_2, val_main_call0_v4, val_main_call0_cst_0, val_main_call0_v3, val_main_call0_v2, val_main_call0_cst, val_main_call0_v1, val_main_call0_v0]
  rw [ref_gate, ← EReal.coe_neg]
  exact logistic_real _
/-- The reference's gated product. -/
theorem ref_act : val_main_v17 (F := Ideal) (lift₂ A.h) (lift₂ A.wg) (lift₂ A.wu) (ix2 r j) = ((A.act r j : ℝ) : EReal) := by
  pointwise [val_main_v17, val_main_v16, val_main_v15]
  rw [show val_main_call2_v5 (F := Ideal) (lift₂ A.h) (lift₂ A.wg) (ix2 r j) = _ from ref_logistic A r j, ref_gate, ref_up, ← EReal.coe_mul, ← EReal.coe_mul]
  rfl
theorem ref_dup : val_main_v12 (F := Ideal) (lift₂ A.h) (lift₂ A.wg) (lift₂ A.wd) (lift₂ A.dx) (ix2 r j) = ((A.grad 1 r j : ℝ) : EReal) := by
  pointwise [val_main_v12, val_main_v6_0]
  rw [ref_gate, ref_logistic, ref_da, ← EReal.coe_mul, ← EReal.coe_mul]
  refine congrArg Real.toEReal ?_
  rw [Args.grad, Args.fac_one, Args.facUp]
  ring
theorem ref_dgate : val_main_v14 (F := Ideal) (lift₂ A.h) (lift₂ A.wg) (lift₂ A.wu) (lift₂ A.wd) (lift₂ A.dx) (ix2 r j) = ((A.grad 0 r j : ℝ) : EReal) := by
  pointwise [val_main_v14, val_main_call1_v1, val_main_call1_v2, val_main_call1_v0, val_main_v13, val_main_v6_1, val_main_call0_v7, val_main_call0_v6, val_main_call0_cst_1]
  rw [ref_gate, ref_up, ref_logistic, ref_da]
  simp only [← EReal.coe_one, ← EReal.coe_mul, ← EReal.coe_sub, ← EReal.coe_add]
  refine congrArg Real.toEReal ?_
  rw [Args.grad, Args.fac_zero, Args.facGate]
  ring
/-- The reference's gradients, stacked. -/
theorem ref_grad (p : Fin 2) : val_main_v21 (F := Ideal) (lift₂ A.h) (lift₂ A.wg) (lift₂ A.wu) (lift₂ A.wd) (lift₂ A.dx) (ix3 p r j) = ((A.grad p r j : ℝ) : EReal) := by
  pointwise [val_main_v21, val_main_v20, val_main_v19, val_main_v18]
  by_cases h : p.val < 1
  · obtain rfl : p = 0 := Fin.ext (Nat.lt_one_iff.mp h)
    rw [dif_pos h]
    exact ref_dgate A r j
  · obtain rfl : p = 1 := Fin.ext (by omega)
    rw [dif_neg h]
    exact ref_dup A r j

end Cert.Gate

end
-- ==== Proof.Gate.Claims.lean ====
/- The claims about the gate's product and its gradient: frames, and the equality with the reference on finite arrays. -/
module

public import proofs.«01_k».proof.Defs
public import proofs.«01_k».proof.Proof.Gen.Kernel4.Frame
public import proofs.«01_k».proof.Proof.Gen.Pre_gate_finite
public import proofs.«01_k».proof.Proof.Gen.Reference4Ideal.Run
public import proofs.«01_k».proof.Proof.Gate.Run
public import proofs.«01_k».proof.Proof.Gate.Reference
public import Idealize.ShloMosaic.Lib.Quiescent

@[expose] public section

set_option maxRecDepth 16384

noncomputable section

namespace Cert.Gate

open Idealize.ShloMosaic Idealize.ShloMosaic.TcCoe Idealize.SL.Sem Cert.Lift

theorem quiescent : quiescent_Kernel4 (hKernel4 := Cert.Kernel4.Gen.facts) :=
  fun m ρ _ => Cert.Kernel4.Gen.frame m ρ
theorem quiescent_ideal : quiescent_Kernel4Ideal (hKernel4Ideal := Cert.Kernel4Ideal.Gen.facts) :=
  fun m ρ _ => Cert.Kernel4Ideal.Gen.frame m ρ
theorem quiescent_ideal_pre : quiescent_Kernel4Ideal_pre_gate_finite (hKernel4Ideal := Cert.Kernel4Ideal.Gen.facts)
    (hPre_gate_finite := Cert.Pre_gate_finite.Gen.facts) :=
  fun m ρ _ => Cert.Kernel4Ideal.Gen.frame m ρ

section
open Cert.Reference4Ideal Cert.Reference4Ideal.Gen

/-- The reference ends with its arguments unchanged and every counter at zero. -/
theorem reference_frame (m : (ℓ : Loc nD τ sig) → Buf (Elt Ideal) ℓ) (ρ : Dev nD → PrngReg) :
    θ_run (defs (F := Ideal)) (onTc (τ := τ) (main (F := Ideal))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4))
      ∧ r.2.sem = fun _ => 0 :=
  (θ_run defs _ _).mono (fun r h => ⟨fun c => (h c).2.2, sem_eq_zero_of_no_sems (by decide) r.2⟩)
    (Cert.Reference4Ideal.Value.run (F := Ideal) m ρ)
end

theorem quiescent_ref : quiescent_Reference4Ideal (hReference4Ideal := Cert.Reference4Ideal.Gen.facts) :=
  fun m ρ _ => reference_frame m ρ
theorem quiescent_ref_pre : quiescent_Reference4Ideal_pre_gate_finite
    (hReference4Ideal := Cert.Reference4Ideal.Gen.facts) (hPre_gate_finite := Cert.Pre_gate_finite.Gen.facts) :=
  fun m ρ _ => reference_frame m ρ

section
open Cert.Reference4Ideal Cert.Reference4Ideal.Gen Cert.Reference4Ideal.Read

variable (A : Args)

/-- The reference's results as the kernel's. -/
theorem ref_act_eq : val_main_v17 (F := Ideal) (lift₂ A.h) (lift₂ A.wg) (lift₂ A.wu) = lift₂ A.act := by
  funext i
  idx_vars i
  exact ref_act A i0 i1
theorem ref_grad_eq : val_main_v21 (F := Ideal) (lift₂ A.h) (lift₂ A.wg) (lift₂ A.wu) (lift₂ A.wd) (lift₂ A.dx) = lift₃ A.grad := by
  funext i
  idx_vars i
  exact ref_grad A i1 i2 i0
end

/-- On arrays of reals the kernel computes what the reference computes. -/
theorem equal : algebraic_Kernel4Ideal_Reference4Ideal_pre_gate_finite
    (hKernel4Ideal := Cert.Kernel4Ideal.Gen.facts) (hReference4Ideal := Cert.Reference4Ideal.Gen.facts)
    (hPre_gate_finite := Cert.Pre_gate_finite.Gen.facts) := by
  intro m ρ m' ρ' hpre hagree
  refine ⟨_, _, run m ρ, (θ_run _ _ _).mono (fun r h c => ?_)
    (Cert.Reference4Ideal.Value.run (F := Ideal) m' ρ')⟩
  obtain ⟨h0, h1, hargs⟩ := h c
  obtain ⟨a0, a1, a2, a3, a4⟩ := hagree c
  obtain ⟨p0, p1, p2, p3, p4⟩ := hpre c
  obtain ⟨X, hX⟩ := reals_of_mask_short _ _ p0
  obtain ⟨G, hG⟩ := reals_of_mask_short _ _ p1
  obtain ⟨U, hU⟩ := reals_of_mask_short _ _ p2
  obtain ⟨D, hD⟩ := reals_of_mask_short _ _ p3
  obtain ⟨T, hT⟩ := reals_of_mask_short _ _ p4
  have H : Holds m c ⟨fun i k => X (ix2 i k), fun i k => G (ix2 i k), fun i k => U (ix2 i k), fun i k => D (ix2 i k), fun i k => T (ix2 i k)⟩ :=
    ⟨hX.trans (lift₂_eta X), hG.trans (lift₂_eta G), hU.trans (lift₂_eta U), hD.trans (lift₂_eta D), hT.trans (lift₂_eta T)⟩
  refine ⟨h0.trans ?_, h1.trans ?_, hargs⟩
  · rw [Cert.Reference4Ideal.Read.val_main_v17_eq, a0, a1, a2, H.h, H.wg, H.wu]
    exact (ref_act_eq _).trans (exit_act ρ H).symm
  · rw [Cert.Reference4Ideal.Read.val_main_v21_eq, a0, a1, a2, a3, a4, H.h, H.wg, H.wu, H.wd, H.dx]
    exact (ref_grad_eq _).trans (exit_grad ρ H).symm

end Cert.Gate

end
-- ==== Proof.NormFwd.lean ====
/- One row of a root-mean-square norm, whatever the row's entries are: the form both programs compute it in. -/
module

public import proofs.«01_k».proof.Proof.Lift

@[expose] public section

noncomputable section

namespace Cert.NormFwd

open Idealize.ShloMosaic Cert.Lift

variable {n : ℕ}

/-- An entry of a row of width `N`, divided by the root of the row's mean square and the norm's small constant. -/
def normed (N : ℝ) (x : Fin n → EReal) (j : Fin n) : EReal :=
  x j * Ideal.rsqrt (Ideal.div (∑ k, x k * x k) ((N : ℝ) : EReal) + ((rmsEps : ℝ) : EReal))

end Cert.NormFwd

end
-- ==== Proof.RmsFwd.Value.lean ====
/- The norm's forward kernel and its reference: what a grid point computes, the array the kernel leaves, and the reference read at an index, on any arrays. -/
module

public import proofs.«01_k».proof.Proof.Gen.Kernel7Ideal.Value
public import proofs.«01_k».proof.Proof.Gen.Reference7Ideal.Read
public import proofs.«01_k».proof.Proof.NormFwd
public import proofs.«01_k».proof.Proof.Rows
public import Idealize.ShloMosaic.Lib.Pipeline.ValueKit

@[expose] public section

set_option maxRecDepth 16384

noncomputable section

namespace Cert.RmsFwd

open Cert.Lift Cert.NormFwd Cert.Rows
open Idealize.ShloMosaic Idealize.ShloMosaic.TcCoe Idealize.SL.Sem
open Idealize.ShloMosaic.Pipeline (Dat)

/-- The normed rows, times the scale. -/
def out (x : (⟨2, ![4096, 2048]⟩ : Shape).Idx → EReal) (g : (⟨1, ![2048]⟩ : Shape).Idx → EReal) (i : (⟨2, ![4096, 2048]⟩ : Shape).Idx) : EReal :=
  normed 2048 (fun k => x (ix2 (show Fin 4096 from i 0) k)) (i 1) * g (ix1 (show Fin 2048 from i 1))

section
open Cert.Kernel7Ideal Cert.Kernel7Ideal.Gen

/-- A block of normed rows. -/
theorem block (x : Vec Ideal S512x2048 .f32) (g : Vec Ideal S1x2048 .f32) (r : Fin 512) (j : Fin 2048) :
    k0_pay1 x g (ix2 r j) = normed 2048 (fun k => x (ix2 r k)) j * g (ix2 0 j) := by
  pointwise [k0_pay1]
  simp only [word_2048, word_rmsEps]
  rfl

variable (m : (ℓ : Loc nD τ sig) → Buf (Elt Ideal) ℓ) (c : Dev nD)

/-- The block each window is on at each grid point. -/
theorem idx : ∀ t : Fin cfg0.N, win0_0.index t = ![t.val, 0] ∧ win0_1.index t = ![0, 0] ∧ win0_2.index t = ![t.val, 0] :=
  (by decide +kernel : ∀ t : Fin grid0.N, _)
theorem point_lt (t : Fin cfg0.N) : t.val < 8 := lt_of_lt_of_eq t.isLt N_0

theorem iblk_x (t : Fin cfg0.N) (r : Fin 512) (k : Fin 2048) :
    iblk m c 0 t (ix2 r k) = m ((c : Thread nD τ).loc main_arg0) (ix2 (rowAt8 (point_lt t) r) k) := by
  blk_point [iblk, V, idx t, rowAt8_val]
theorem iblk_g (t : Fin cfg0.N) (j : Fin 2048) : iblk m c 1 t (ix2 0 j) = m ((c : Thread nD τ).loc main_arg1) (ix1 j) := by
  blk_simp [iblk, idx t]
  entry_read
  pointwise []
  refine congrArg (m ((c : Thread nD τ).loc main_arg1)) ?_
  blk_ext [idx t]

/-- The array the kernel leaves. -/
theorem final : (dats m 0 c).arrAt 2 (cfgs 0).N = out (m ((c : Thread nD τ).loc main_arg0)) (m ((c : Thread nD τ).loc main_arg1)) := by
  refine (dats m 0 c).arrAt_eq_of_covers 2 _ (by decide +kernel) fun t _ y => ?_
  blk_simp
  rw [after0_2]
  frame_out
  idx_vars y
  refine (block (iblk m c 0 t) (iblk m c 1 t) y0 y1).trans ?_
  rw [iblk_g]
  simp only [iblk_x]
  refine Eq.trans (b := out (m ((c : Thread nD τ).loc main_arg0)) (m ((c : Thread nD τ).loc main_arg1)) (ix2 (rowAt8 (point_lt t) y0) y1)) rfl
    (congrArg (out _ _) ?_)
  blk_ext [idx t, rowAt8_val]
end

section
open Cert.Reference7Ideal Cert.Reference7Ideal.Gen Cert.Reference7Ideal.Read

/-- The reference's array. -/
theorem ref_out (x : FVec Ideal S4096x2048 .f32) (g : FVec Ideal S2048 .f32) : val_main_v13 (F := Ideal) x g = out x g := by
  funext i
  idx_vars i
  pointwise [val_main_v13, val_main_v12, val_main_v11, val_main_v10, val_main_v9, val_main_v8, val_main_v7, val_main_v6, val_main_v5, val_main_v4,
    val_main_v3, val_main_v2, val_main_v1, val_main_v0, val_main_cst, val_main_cst_0, val_main_cst_1]
  simp only [word_2048, word_rmsEps]
  rfl
end

end Cert.RmsFwd

end
-- ==== Proof.RmsFwd.Claims.lean ====
/- The claims about the norm's forward kernel: frames, and the equality with the reference on any arrays. -/
module

public import proofs.«01_k».proof.Defs
public import proofs.«01_k».proof.Proof.Gen.Kernel7.Frame
public import proofs.«01_k».proof.Proof.Gen.Reference7Ideal.Run
public import proofs.«01_k».proof.Proof.RmsFwd.Value
public import Idealize.ShloMosaic.Lib.Quiescent

@[expose] public section

set_option maxRecDepth 16384

noncomputable section

namespace Cert.RmsFwd

open Idealize.ShloMosaic Idealize.ShloMosaic.TcCoe Idealize.SL.Sem

theorem quiescent : quiescent_Kernel7 (hKernel7 := Cert.Kernel7.Gen.facts) :=
  fun m ρ _ => Cert.Kernel7.Gen.frame m ρ
theorem quiescent_ideal : quiescent_Kernel7Ideal (hKernel7Ideal := Cert.Kernel7Ideal.Gen.facts) :=
  fun m ρ _ => Cert.Kernel7Ideal.Gen.frame m ρ

section
open Cert.Reference7Ideal Cert.Reference7Ideal.Gen

/-- The reference ends with its arguments unchanged and every counter at zero. -/
theorem reference_frame (m : (ℓ : Loc nD τ sig) → Buf (Elt Ideal) ℓ) (ρ : Dev nD → PrngReg) :
    θ_run (defs (F := Ideal)) (onTc (τ := τ) (main (F := Ideal))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  (θ_run defs _ _).mono (fun r h => ⟨fun c => (h c).2, sem_eq_zero_of_no_sems (by decide) r.2⟩)
    (Cert.Reference7Ideal.Value.run (F := Ideal) m ρ)
end

theorem quiescent_ref : quiescent_Reference7Ideal (hReference7Ideal := Cert.Reference7Ideal.Gen.facts) :=
  fun m ρ _ => reference_frame m ρ

/-- The kernel computes what the reference computes. -/
theorem equal : algebraic_Kernel7Ideal_Reference7Ideal
    (hKernel7Ideal := Cert.Kernel7Ideal.Gen.facts) (hReference7Ideal := Cert.Reference7Ideal.Gen.facts) := by
  intro m ρ m' ρ' _ hagree
  refine ⟨_, Cert.Kernel7Ideal.Value.run_blocks m ρ, (θ_run _ _ _).mono (fun r h c => ?_)
    (Cert.Reference7Ideal.Value.run (F := Ideal) m' ρ')⟩
  obtain ⟨h0, hargs⟩ := h c
  obtain ⟨a0, a1⟩ := hagree c
  refine ⟨h0.trans ?_, hargs⟩
  rw [Cert.Reference7Ideal.Read.val_main_v13_eq, a0, a1]
  exact (ref_out _ _).trans (final m c).symm

end Cert.RmsFwd

end
-- ==== Proof.ResRms.Value.lean ====
/- The output product with its residual and the norm after it, and its reference: what a grid point computes, the arrays the kernel leaves, and the reference read at an
   index, on any arrays. -/
module

public import proofs.«01_k».proof.Proof.Gen.Kernel6Ideal.Value
public import proofs.«01_k».proof.Proof.Gen.Reference6Ideal.Read
public import proofs.«01_k».proof.Proof.NormFwd
public import proofs.«01_k».proof.Proof.Rows
public import Idealize.ShloMosaic.Lib.Pipeline.ValueKit

@[expose] public section

set_option maxRecDepth 16384

noncomputable section

namespace Cert.ResRms

open Cert.Lift Cert.NormFwd Cert.Rows
open Idealize.ShloMosaic Idealize.ShloMosaic.TcCoe Idealize.SL.Sem
open Idealize.ShloMosaic.Pipeline (Dat)

section
variable (y : (⟨2, ![4096, 2048]⟩ : Shape).Idx → EReal) (w : (⟨2, ![2048, 2048]⟩ : Shape).Idx → EReal) (x : (⟨2, ![4096, 2048]⟩ : Shape).Idx → EReal)
  (g : (⟨1, ![2048]⟩ : Shape).Idx → EReal)

/-- The residual plus the product. -/
def x1 (r : Fin 4096) (j : Fin 2048) : EReal := x (ix2 r j) + ∑ k : Fin 2048, y (ix2 r k) * w (ix2 k j)
/-- Its normed rows, times the scale. -/
def h (r : Fin 4096) (j : Fin 2048) : EReal := normed 2048 (x1 y w x r) j * g (ix1 j)
end

section
open Cert.Kernel6Ideal Cert.Kernel6Ideal.Gen

/-- A block of the residual plus the product. -/
theorem block_x1 (x : Vec Ideal S512x2048 .f32) (y : Vec Ideal S512x2048 .bf16) (w : Vec Ideal S2048x2048 .bf16) (r : Fin 512) (j : Fin 2048) :
    k0_pay1 x y w (ix2 r j) = x (ix2 r j) + ∑ k : Fin 2048, y (ix2 r k) * w (ix2 k j) := by
  pointwise [k0_pay1]
/-- A block of its normed rows. -/
theorem block_h (x : Vec Ideal S512x2048 .f32) (y : Vec Ideal S512x2048 .bf16) (w : Vec Ideal S2048x2048 .bf16) (g : Vec Ideal S1x2048 .f32) (r : Fin 512) (j : Fin 2048) :
    k0_pay2 x y w g (ix2 r j) = normed 2048 (fun k => k0_pay1 x y w (ix2 r k)) j * g (ix2 0 j) := by
  pointwise [k0_pay2]
  simp only [word_2048, word_rmsEps]
  rfl

variable (m : (ℓ : Loc nD τ sig) → Buf (Elt Ideal) ℓ) (c : Dev nD)

/-- The block each window is on at each grid point. -/
theorem idx : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![t.val, 0] :=
  (by decide +kernel : ∀ t : Fin grid0.N, _)
theorem point_lt (t : Fin cfg0.N) : t.val < 8 := lt_of_lt_of_eq t.isLt N_0

theorem iblk_y (t : Fin cfg0.N) (r : Fin 512) (k : Fin 2048) :
    iblk m c 0 t (ix2 r k) = m ((c : Thread nD τ).loc main_arg0) (ix2 (rowAt8 (point_lt t) r) k) := by
  blk_point [iblk, V, idx t, rowAt8_val]
theorem iblk_w (t : Fin cfg0.N) (k j : Fin 2048) : iblk m c 1 t (ix2 k j) = m ((c : Thread nD τ).loc main_arg1) (ix2 k j) := by
  blk_point [iblk, V, idx t]
theorem iblk_x (t : Fin cfg0.N) (r : Fin 512) (k : Fin 2048) :
    iblk m c 2 t (ix2 r k) = m ((c : Thread nD τ).loc main_arg2) (ix2 (rowAt8 (point_lt t) r) k) := by
  blk_point [iblk, V, idx t, rowAt8_val]
theorem iblk_g (t : Fin cfg0.N) (j : Fin 2048) : iblk m c 3 t (ix2 0 j) = m ((c : Thread nD τ).loc main_arg3) (ix1 j) := by
  blk_simp [iblk, idx t]
  entry_read
  pointwise []
  refine congrArg (m ((c : Thread nD τ).loc main_arg3)) ?_
  blk_ext [idx t]

/-- The arrays the kernel is given. -/
abbrev aY : FVec Ideal S4096x2048 .bf16 := m ((c : Thread nD τ).loc main_arg0)
abbrev aW : FVec Ideal S2048x2048 .bf16 := m ((c : Thread nD τ).loc main_arg1)
abbrev aX : FVec Ideal S4096x2048 .f32 := m ((c : Thread nD τ).loc main_arg2)
abbrev aG : FVec Ideal S2048 .f32 := m ((c : Thread nD τ).loc main_arg3)

/-- What a point computes, at the point's rows. -/
theorem point_x1 (t : Fin cfg0.N) (r : Fin 512) (j : Fin 2048) : k0_pay1 (iblk m c 2 t) (iblk m c 0 t) (iblk m c 1 t) (ix2 r j)
    = x1 (aY m c) (aW m c) (aX m c) (rowAt8 (point_lt t) r) j := by
  refine (block_x1 _ _ _ r j).trans ?_
  simp only [iblk_x, iblk_y, iblk_w]
  rfl
theorem point_h (t : Fin cfg0.N) (r : Fin 512) (j : Fin 2048) : k0_pay2 (iblk m c 2 t) (iblk m c 0 t) (iblk m c 1 t) (iblk m c 3 t) (ix2 r j)
    = h (aY m c) (aW m c) (aX m c) (aG m c) (rowAt8 (point_lt t) r) j := by
  refine (block_h _ _ _ _ r j).trans ?_
  simp only [point_x1, iblk_g]
  rfl

/-- The arrays the kernel leaves. -/
theorem final_x1 : (dats m 0 c).arrAt 4 (cfgs 0).N = fun i : S4096x2048.Idx => x1 (aY m c) (aW m c) (aX m c) (i 0) (i 1) := by
  refine (dats m 0 c).arrAt_eq_of_covers 4 _ (by decide +kernel) fun t _ y => ?_
  blk_simp
  rw [after0_4]
  frame_out
  idx_vars y
  refine (point_x1 m c t y0 y1).trans ?_
  refine congrArg₂ (x1 (aY m c) (aW m c) (aX m c)) (Fin.ext ?_) (Fin.ext ?_)
  all_goals simp [idx t, rowAt8_val]
theorem final_h : (dats m 0 c).arrAt 5 (cfgs 0).N = fun i : S4096x2048.Idx => h (aY m c) (aW m c) (aX m c) (aG m c) (i 0) (i 1) := by
  refine (dats m 0 c).arrAt_eq_of_covers 5 _ (by decide +kernel) fun t _ y => ?_
  blk_simp
  rw [after0_5]
  frame_out
  idx_vars y
  refine (point_h m c t y0 y1).trans ?_
  refine congrArg₂ (h (aY m c) (aW m c) (aX m c) (aG m c)) (Fin.ext ?_) (Fin.ext ?_)
  all_goals simp [idx t, rowAt8_val]
end

section
open Cert.Reference6Ideal Cert.Reference6Ideal.Gen Cert.Reference6Ideal.Read

variable (y : FVec Ideal S4096x2048 .bf16) (w : FVec Ideal S2048x2048 .bf16) (x : FVec Ideal S4096x2048 .f32) (g : FVec Ideal S2048 .f32)

theorem ref_x1_at (r : Fin 4096) (j : Fin 2048) : val_main_v3 (F := Ideal) y w x (ix2 r j) = x1 y w x r j := by
  pointwise [val_main_v3, val_main_v2, val_main_v1, val_main_v0]
  rfl
/-- The reference's arrays. -/
theorem ref_x1 : val_main_v3 (F := Ideal) y w x = fun i : S4096x2048.Idx => x1 y w x (i 0) (i 1) := by
  funext i
  idx_vars i
  exact ref_x1_at y w x i0 i1
theorem ref_h : val_main_v17 (F := Ideal) y w x g = fun i : S4096x2048.Idx => h y w x g (i 0) (i 1) := by
  funext i
  idx_vars i
  pointwise [val_main_v17, val_main_v16, val_main_v15, val_main_v14, val_main_v13, val_main_v12, val_main_v11, val_main_v10, val_main_v9, val_main_v8, val_main_v7, val_main_v6,
    val_main_v5, val_main_v4, val_main_cst, val_main_cst_0, val_main_cst_1]
  simp only [ref_x1_at, word_2048, word_rmsEps]
  rfl
end

end Cert.ResRms

end
-- ==== Proof.ResRms.Claims.lean ====
/- The claims about the output product with its residual and norm: frames, and the equality with the reference on any arrays. -/
module

public import proofs.«01_k».proof.Defs
public import proofs.«01_k».proof.Proof.Gen.Kernel6.Frame
public import proofs.«01_k».proof.Proof.Gen.Reference6Ideal.Run
public import proofs.«01_k».proof.Proof.ResRms.Value
public import Idealize.ShloMosaic.Lib.Quiescent

@[expose] public section

set_option maxRecDepth 16384

noncomputable section

namespace Cert.ResRms

open Idealize.ShloMosaic Idealize.ShloMosaic.TcCoe Idealize.SL.Sem

theorem quiescent : quiescent_Kernel6 (hKernel6 := Cert.Kernel6.Gen.facts) :=
  fun m ρ _ => Cert.Kernel6.Gen.frame m ρ
theorem quiescent_ideal : quiescent_Kernel6Ideal (hKernel6Ideal := Cert.Kernel6Ideal.Gen.facts) :=
  fun m ρ _ => Cert.Kernel6Ideal.Gen.frame m ρ

section
open Cert.Reference6Ideal Cert.Reference6Ideal.Gen

/-- The reference ends with its arguments unchanged and every counter at zero. -/
theorem reference_frame (m : (ℓ : Loc nD τ sig) → Buf (Elt Ideal) ℓ) (ρ : Dev nD → PrngReg) :
    θ_run (defs (F := Ideal)) (onTc (τ := τ) (main (F := Ideal))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
      ∧ r.2.sem = fun _ => 0 :=
  (θ_run defs _ _).mono (fun r h => ⟨fun c => (h c).2.2, sem_eq_zero_of_no_sems (by decide) r.2⟩)
    (Cert.Reference6Ideal.Value.run (F := Ideal) m ρ)
end

theorem quiescent_ref : quiescent_Reference6Ideal (hReference6Ideal := Cert.Reference6Ideal.Gen.facts) :=
  fun m ρ _ => reference_frame m ρ

/-- The kernel computes what the reference computes. -/
theorem equal : algebraic_Kernel6Ideal_Reference6Ideal
    (hKernel6Ideal := Cert.Kernel6Ideal.Gen.facts) (hReference6Ideal := Cert.Reference6Ideal.Gen.facts) := by
  intro m ρ m' ρ' _ hagree
  refine ⟨_, _, Cert.Kernel6Ideal.Value.run_blocks m ρ, (θ_run _ _ _).mono (fun r h c => ?_)
    (Cert.Reference6Ideal.Value.run (F := Ideal) m' ρ')⟩
  obtain ⟨h0, h1, hargs⟩ := h c
  obtain ⟨a0, a1, a2, a3⟩ := hagree c
  refine ⟨h0.trans ?_, h1.trans ?_, hargs⟩
  · rw [Cert.Reference6Ideal.Read.val_main_v3_eq, a0, a1, a2]
    exact (ref_x1 _ _ _).trans (final_x1 m c).symm
  · rw [Cert.Reference6Ideal.Read.val_main_v17_eq, a0, a1, a2, a3]
    exact (ref_h _ _ _ _).trans (final_h m c).symm

end Cert.ResRms

end
-- ==== Proof.MixerFwd.Block.lean ====
/- What a grid point of the mixer's forward pass stores, as functions of the blocks it is given. -/
module

public import proofs.«01_k».proof.Proof.Gen.Kernel5Ideal.Frame
public import proofs.«01_k».proof.Proof.Mixer.Words

@[expose] public section

set_option maxRecDepth 16384

noncomputable section

namespace Cert.MixerFwd

open Cert.Kernel5Ideal Cert.Kernel5Ideal.Gen
open Idealize.ShloMosaic Idealize.ShloMosaic.TcCoe Idealize.SL.Sem
open Cert.Mixer (tile tiles headOf mixOrder readCov_whole ld_whole load)

variable (x0 : Vec Ideal S16x5120 .bf16) (x1 : Vec Ideal S256x5120 .bf16) (x2 x3 : Vec Ideal S1x1024 .f32) (x4 : Vec Ideal S8x128x128 .bf16)
  (x5 : Vec Ideal S8x128x128 .f32) (x6 : Vec Ideal S8x1024 .f32) (x7 : Vec Ideal S1x2048 .f32) (c0 : BitVec 32)

/-- Part `k` of the columns of the block. -/
def part (k : Fin 5) : Vec Ideal S256x1024 .bf16 :=
  View.ld x1 (Rect.unit ![0, 1024 * k.val] S256x1024.size (by have := k.isLt; intro a; fin_cases a <;> simp [S256x1024, S256x5120] <;> omega))
/-- Part `k` of the columns of the rows before the block. -/
def partBefore (k : Fin 5) : Vec Ideal S16x1024 .bf16 :=
  View.ld x0 (Rect.unit ![0, 1024 * k.val] S16x1024.size (by have := k.isLt; intro a; fin_cases a <;> simp [S16x1024, S16x5120] <;> omega))
/-- A branch's half of the norms' gains. -/
def gains (k : Fin 2) : Vec Ideal S1x1024 .f32 :=
  View.ld x7 (Rect.unit ![0, 1024 * k.val] S1x1024.size (by have := k.isLt; intro a; fin_cases a <;> simp [S1x1024, S1x2048] <;> omega))
/-- The weights of a tap. -/
def tapRow (k : Fin 3) : Vec Ideal S1x1024 .f32 :=
  View.ld x6 (Rect.unit ![k.val, 0] S1x1024.size (by have h2 := k.isLt; intro a; fin_cases a <;> simp [S8x1024, S1x1024] <;> omega))

/-- The normalised gate with its gains and shifts. -/
def vn : FVec Ideal S256x1024 .bf16 := k0_pay3 (k0_pay2 (part x1 1)) x2 x3
/-- A tile of the mixed gate: the head's weights times the tile of the normalised gate, plus the bias. -/
def mixTile (b : Fin 2) (h : Fin 8) : FVec Ideal S128x128 .f32 := k0_pay4 (headOf x4 h) (tile (vn x1 x2 x3) b h) (headOf x5 h)
/-- The mixed gate. -/
def mixed : Vec Ideal S256x1024 .f32 := View.canon (tiles mixOrder (mixTile x1 x2 x3 x4 x5))
/-- The spatial branch, normed. -/
def normedA : FVec Ideal S256x1024 .bf16 := k0_pay25 (k0_pay1 (part x1 0)) (mixed x1 x2 x3 x4 x5) (gains x7 0)
/-- The convolution branch, normed. -/
def normedB : FVec Ideal S256x1024 .bf16 :=
  k0_pay28 (k0_pay26 c0 (partBefore x0 3) (partBefore x0 4)) (k0_pay27 (part x1 3) (part x1 4)) (tapRow x6 2) (tapRow x6 1) (tapRow x6 0) (part x1 2) (gains x7 1)
/-- The output block: two halves. -/
def halves (P Q : Vec Ideal S256x1024 .bf16) : List (View.Piece (Elt Ideal) S256x2048 .bf16) :=
  [⟨Rect.unit ![0, 1024] S256x1024.size inb_S256x2048_S256x1024_0_1024, Q⟩, ⟨Rect.unit ![0, 0] S256x1024.size inb_S256x2048_S256x1024_0_0, P⟩]

open kernelRun0_A

/-- The normalised gate, as the point stores it. -/
theorem word_vn {c a2 h2 a3 h3 a4 h4} : sl.v53 (F := Ideal) c a2 h2 a3 h3 a4 h4 x1 x2 x3 = vn x1 x2 x3 := by
  simp (disch := decide) only [sl.v43, sl.v44, sl.v45, sl.v47, sl.v48, sl.v49, sl.v50, sl.v52, sl.v53, sl.r_1, View.readAt_eq_ld, Memref.IsWhole.read_unread, ld_whole]
  rfl

/-- The mixed gate, as the point loads it. -/
theorem word_mixed {c a2 h2 a3 h3 a4 h4 a5 h5 a6 h6 a10 a11} :
    sl.v214 (F := Ideal) c a2 h2 a3 h3 a4 h4 a5 h5 a6 h6 a10 a11 x1 x2 x3 x4 x5 = mixed x1 x2 x3 x4 x5 := by
  refine (readCov_whole _ _ _ (by decide)).trans (congrArg View.canon ?_)
  simp (disch := decide) only [sl.v55, sl.v56, sl.v57, sl.v59, sl.v60, sl.v62, sl.v63, sl.v65, sl.v66,
    sl.v67, sl.v69, sl.v70, sl.v71, sl.v72, sl.v73, sl.v75, sl.v76, sl.v77, sl.v79, sl.v80, sl.v81, sl.v82, sl.v83, sl.v85, sl.v86, sl.v87, sl.v89,
    sl.v90, sl.v91, sl.v92, sl.v93, sl.v95, sl.v96, sl.v97, sl.v99, sl.v100, sl.v101, sl.v102, sl.v103, sl.v105, sl.v106, sl.v107, sl.v109, sl.v110,
    sl.v111, sl.v112, sl.v113, sl.v115, sl.v116, sl.v117, sl.v119, sl.v120, sl.v121, sl.v122, sl.v123, sl.v125, sl.v126, sl.v127, sl.v129, sl.v130,
    sl.v131, sl.v132, sl.v133, sl.v136, sl.v137, sl.v140, sl.v141, sl.v142, sl.v143, sl.v146, sl.v147, sl.v150, sl.v151, sl.v152, sl.v153, sl.v156,
    sl.v157, sl.v160, sl.v161, sl.v162, sl.v163, sl.v166, sl.v167, sl.v170, sl.v171, sl.v172, sl.v173, sl.v176, sl.v177, sl.v180, sl.v181, sl.v182,
    sl.v183, sl.v186, sl.v187, sl.v190, sl.v191, sl.v192, sl.v193, sl.v196, sl.v197, sl.v200, sl.v201, sl.v202, sl.v203, sl.v206, sl.v207, sl.v210,
    sl.v211, sl.v212, sl.v213, sl.HS0_1, sl.HS1_16, sl.cst_23,
    word_vn, View.readCov_fill, View.readAt_eq_ld, Memref.IsWhole.read_unread, ld_whole]
  rfl

/-- The first half. -/
theorem word_normedA {c a2 h2 a3 h3 a4 h4 a5 h5 a6 h6 a8 h8 a10 a11} :
    sl.v230 (F := Ideal) c a2 h2 a3 h3 a4 h4 a5 h5 a6 h6 a8 h8 a10 a11 x1 x2 x3 x4 x5 x7 = normedA x1 x2 x3 x4 x5 x7 := by
  simp (disch := decide) only [sl.v215, sl.v216, sl.v217, sl.v218, sl.v219, sl.v220, sl.v221, sl.v222, sl.v223, sl.v224, sl.v225, sl.v227, sl.v228, sl.v229, sl.v230, sl.cst_182,
    sl.cst_183, sl.cst_184, sl.r, sl.r_1,
    word_mixed, View.readAt_eq_ld, Memref.IsWhole.read_unread, ld_whole]
  rfl

/-- The second half. -/
theorem word_normedB {c i a1 h1 a2 h2 a7 h7 a8 h8} :
    sl.r_2 (F := Ideal) c i a1 h1 a2 h2 a7 h7 a8 h8 x0 x1 x6 x7 = normedB x0 x1 x6 x7 (BitVec.ofNat 32 (i 0).val) := by
  simp (disch := decide) only [sl.v233, sl.v235, sl.v236, sl.v237, sl.v238, sl.v239, sl.v241, sl.v243, sl.v244, sl.cst_191, sl.r_2, sl.r, sl.r_1,
    View.readAt_eq_ld, Memref.IsWhole.read_unread, ld_whole]
  rfl

/-- What the output block holds after a point. -/
theorem outsAt_eq (m : (ℓ : Loc nD τ sig) → Buf (Elt Ideal) ℓ) (c : Dev nD) (t : Fin cfg0.N) :
    outsAt0 m c t = View.canon (halves (normedA (iblk m c 1 t) (iblk m c 2 t) (iblk m c 3 t) (iblk m c 4 t) (iblk m c 5 t) (iblk m c 7 t))
      (normedB (iblk m c 0 t) (iblk m c 1 t) (iblk m c 6 t) (iblk m c 7 t) (BitVec.ofNat 32 (grid0.coords t 0).val))) := by
  rw [outsAt0, out0_A_8, View.read_writes_junk_eq_canon]
  refine congrArg View.canon ?_
  simp (disch := decide) only [kernelRun0_A, word_normedA, word_normedB]
  rfl

end Cert.MixerFwd

end
-- ==== Proof.MixerFwd.Spec.lean ====
/- The mixer's forward pass on any arrays: the gates, the layer norm, the mixing over a frame, the convolution, and the two branches' norms. -/
module

public import proofs.«01_k».proof.Proof.Mixer.Math
public import proofs.«01_k».proof.Proof.NormFwd

@[expose] public section

noncomputable section

namespace Cert.MixerFwd

open Idealize.ShloMosaic Cert.Lift Cert.NormFwd Cert.Mixer

/-- The activation. -/
def act (x : EReal) : EReal :=
  ((1 / 2 : ℝ) : EReal) * x + ((1 / 2 : ℝ) : EReal) * x * Ideal.tanh (x * (((geluC : ℝ) : EReal) + ((geluC * geluK : ℝ) : EReal) * (x * x)))

/-- On reals it is the activation of reals. -/
theorem act_real (x : ℝ) : act x = ((gelu x : ℝ) : EReal) := by
  simp only [act, ← EReal.coe_mul, ← EReal.coe_add, Ideal.tanh_coe]
  rfl

/-- A row without its mean. -/
def centred (v : Fin 1024 → EReal) (j : Fin 1024) : EReal := v j - Ideal.div (∑ k, v k) ((1024 : ℝ) : EReal)
/-- A row scaled to unit variance. -/
def standard (v : Fin 1024 → EReal) (j : Fin 1024) : EReal :=
  centred v j * Ideal.rsqrt (Ideal.div (∑ k, centred v k * centred v k) ((1024 : ℝ) : EReal) + ((lnEps : ℝ) : EReal))

/-- The rows `k` earlier, nothing before the first. -/
def earlier (P : Fin 4096 → Fin 1024 → EReal) (k : ℕ) (i : Fin 4096) (j : Fin 1024) : EReal :=
  if k ≤ i.val then P ⟨i.val - k, by omega⟩ j else 0

/-- The arguments: the rows, the layer norm's gains and shifts, the spatial weights and biases, the taps and the norms' gains. -/
structure Inputs where
  z : (⟨2, ![4096, 5120]⟩ : Shape).Idx → EReal
  lnG : (⟨1, ![1024]⟩ : Shape).Idx → EReal
  lnB : (⟨1, ![1024]⟩ : Shape).Idx → EReal
  w : (⟨3, ![8, 128, 128]⟩ : Shape).Idx → EReal
  b : (⟨2, ![8, 128]⟩ : Shape).Idx → EReal
  cw : (⟨2, ![3, 1024]⟩ : Shape).Idx → EReal
  gn : (⟨1, ![2048]⟩ : Shape).Idx → EReal

namespace Inputs

variable (A : Inputs)

/-- The first gate. -/
def u (i : Fin 4096) (j : Fin 1024) : EReal := act (A.z (ix2 i (col 0 j)))
/-- The second gate. -/
def v (i : Fin 4096) (j : Fin 1024) : EReal := act (A.z (ix2 i (col 1 j)))
/-- The second gate, normalised, with its gains and shifts. -/
def vn (i : Fin 4096) (j : Fin 1024) : EReal := standard (A.v i) j * A.lnG (ix1 j) + A.lnB (ix1 j)
/-- The spatial weights: a row sees the rows of its chunk of 64 and of those before. -/
def wm (h : Fin 8) (p q : Fin 128) : EReal := if q.val / 64 ≤ p.val / 64 then A.w (ix3 h p q) else 0
/-- The mixed gate. -/
def mixed (i : Fin 4096) (j : Fin 1024) : EReal :=
  ∑ q, A.wm (head j) (pos i) q * A.vn (frameRow (frame i) q) j + A.b (ix2 (head j) (pos i))
/-- The spatial branch. -/
def ya (i : Fin 4096) (j : Fin 1024) : EReal := A.u i j * A.mixed i j
/-- What is convolved. -/
def pr (i : Fin 4096) (j : Fin 1024) : EReal := A.z (ix2 i (col 3 j)) * A.z (ix2 i (col 4 j))
/-- The convolution. -/
def cv (i : Fin 4096) (j : Fin 1024) : EReal :=
  A.cw (ix2 2 j) * A.pr i j + A.cw (ix2 1 j) * earlier A.pr 1 i j + A.cw (ix2 0 j) * earlier A.pr 2 i j
/-- The convolution branch. -/
def yb (i : Fin 4096) (j : Fin 1024) : EReal := A.z (ix2 i (col 2 j)) * A.cv i j
/-- The two branches' norms, side by side. -/
def out (i : Fin 4096) (j : Fin 2048) : EReal :=
  if h : j.val < 1024 then normed 1024 (A.ya i) ⟨j.val, h⟩ * A.gn (ix1 j) else normed 1024 (A.yb i) ⟨j.val - 1024, by omega⟩ * A.gn (ix1 j)

end Inputs

end Cert.MixerFwd

end
-- ==== Proof.MixerFwd.Entry.lean ====
/- The blocks a grid point of the mixer's forward pass is given, in terms of the program's arguments. -/
module

public import proofs.«01_k».proof.Proof.Gen.Kernel5Ideal.Value
public import proofs.«01_k».proof.Proof.Mixer.Blocks
public import proofs.«01_k».proof.Proof.MixerFwd.Spec

@[expose] public section

set_option maxRecDepth 16384

noncomputable section

namespace Cert.MixerFwd

open Cert.Kernel5Ideal Cert.Kernel5Ideal.Gen
open Idealize.ShloMosaic Idealize.ShloMosaic.TcCoe Idealize.SL.Sem
open Cert.Lift Cert.Rows

variable (m : (ℓ : Loc nD τ sig) → Buf (Elt Ideal) ℓ) (c : Dev nD) (t : Fin cfg0.N)

/-- The program's arguments. -/
def inputs : Inputs where
  z := m ((c : Thread nD τ).loc main_arg0)
  lnG := m ((c : Thread nD τ).loc main_arg1)
  lnB := m ((c : Thread nD τ).loc main_arg2)
  w := m ((c : Thread nD τ).loc main_arg3)
  b := m ((c : Thread nD τ).loc main_arg4)
  cw := m ((c : Thread nD τ).loc main_arg5)
  gn := m ((c : Thread nD τ).loc main_arg6)

theorem point_lt : t.val < 16 := lt_of_lt_of_eq t.isLt N_0

/-- The block each window is on at each grid point. -/
theorem idx : ∀ t : Fin cfg0.N, win0_0.index t = ![16 * t.val - 1, 0] ∧ win0_1.index t = ![t.val, 0] ∧ win0_2.index t = ![0, 0] ∧ win0_3.index t = ![0, 0]
    ∧ win0_4.index t = ![0, 0, 0] ∧ win0_5.index t = ![0, 0, 0] ∧ win0_6.index t = ![0, 0] ∧ win0_7.index t = ![0, 0] ∧ win0_8.index t = ![t.val, 0] :=
  (by decide +kernel : ∀ t : Fin grid0.N, _)

/-- A row of the sixteen before the point's. -/
def rowBefore {t : ℕ} (ht : t < 16) (r : Fin 16) : Fin 4096 := ⟨(16 * t - 1) * 16 + r.val, by omega⟩
theorem rowBefore_val {t : ℕ} (ht : t < 16) (r : Fin 16) : (rowBefore ht r).val = (16 * t - 1) * 16 + r.val := rfl

theorem iblk_zp (r : Fin 16) (j : Fin 5120) : iblk m c 0 t (ix2 r j) = (inputs m c).z (ix2 (rowBefore (point_lt t) r) j) := by
  show _ = m ((c : Thread nD τ).loc main_arg0) _
  blk_point [iblk, V, idx t, rowBefore_val]
theorem iblk_z (r : Fin 256) (j : Fin 5120) : iblk m c 1 t (ix2 r j) = (inputs m c).z (ix2 (rowAt (point_lt t) r) j) := by
  show _ = m ((c : Thread nD τ).loc main_arg0) _
  blk_point [iblk, V, idx t, rowAt_val]

/-! The host's operands. -/

theorem entry_lnG : V m c main_v14 = shapeCast S1x1024 (m ((c : Thread nD τ).loc main_arg1)) shapeCasts_S1024_S1x1024 := by
  show StableHlo.after _ _ _ = _
  simp only [List.flatten_cons, List.flatten_nil, List.append_nil, List.cons_append, List.nil_append]
  entry_read <;> rfl
theorem entry_lnB : V m c main_v15 = shapeCast S1x1024 (m ((c : Thread nD τ).loc main_arg2)) shapeCasts_S1024_S1x1024 := by
  show StableHlo.after _ _ _ = _
  simp only [List.flatten_cons, List.flatten_nil, List.append_nil, List.cons_append, List.nil_append]
  entry_read <;> rfl
theorem entry_gn : V m c main_v16 = shapeCast S1x2048 (m ((c : Thread nD τ).loc main_arg6)) shapeCasts_S2048_S1x2048 := by
  show StableHlo.after _ _ _ = _
  simp only [List.flatten_cons, List.flatten_nil, List.append_nil, List.cons_append, List.nil_append]
  entry_read <;> rfl
theorem entry_bias : V m c main_v12 = broadcastInDim S8x128x128 ![0, 1, 2] bcast_S8x128x1_S8x128x128_0_1_2
    (broadcastInDim S8x128x1 ![0, 1] bcast_S8x128_S8x128x1_0_1 (m ((c : Thread nD τ).loc main_arg4))) := by
  show StableHlo.after _ _ _ = _
  simp only [List.flatten_cons, List.flatten_nil, List.append_nil, List.cons_append, List.nil_append]
  entry_read <;> rfl
theorem entry_cw : V m c main_v13 = pad S8x1024 ![0, 0] ![5, 0] ![0, 0] (show FVec Ideal S3x1024 .f32 from m ((c : Thread nD τ).loc main_arg5))
    (sitofp (F := Ideal) .f32 (constantI S_ 32 0#32)) pads_S3x1024_S8x1024_050_000 h_S_ := by
  show StableHlo.after _ _ _ = _
  simp only [List.flatten_cons, List.flatten_nil, List.append_nil, List.cons_append, List.nil_append]
  entry_read
  simp only [StableHlo.TRef.ofBuf_toBuf]
  rfl

theorem iblk_lnG (j : Fin 1024) : iblk m c 2 t (ix2 0 j) = (inputs m c).lnG (ix1 j) := by
  show V m c main_v14 _ = _
  rw [entry_lnG]
  refine (congrArg (shapeCast S1x1024 (m ((c : Thread nD τ).loc main_arg1)) shapeCasts_S1024_S1x1024) (show _ = ix2 0 j from ?_)).trans ?_
  · blk_ext [idx t]
  · pointwise []
    rfl
theorem iblk_lnB (j : Fin 1024) : iblk m c 3 t (ix2 0 j) = (inputs m c).lnB (ix1 j) := by
  show V m c main_v15 _ = _
  rw [entry_lnB]
  refine (congrArg (shapeCast S1x1024 (m ((c : Thread nD τ).loc main_arg2)) shapeCasts_S1024_S1x1024) (show _ = ix2 0 j from ?_)).trans ?_
  · blk_ext [idx t]
  · pointwise []
    rfl
theorem iblk_gn (j : Fin 2048) : iblk m c 7 t (ix2 0 j) = (inputs m c).gn (ix1 j) := by
  show V m c main_v16 _ = _
  rw [entry_gn]
  refine (congrArg (shapeCast S1x2048 (m ((c : Thread nD τ).loc main_arg6)) shapeCasts_S2048_S1x2048) (show _ = ix2 0 j from ?_)).trans ?_
  · blk_ext [idx t]
  · pointwise []
    rfl
theorem iblk_b (h : Fin 8) (p q : Fin 128) : iblk m c 5 t (ix3 h p q) = (inputs m c).b (ix2 h p) := by
  show V m c main_v12 _ = _
  rw [entry_bias]
  refine (congrArg (broadcastInDim S8x128x128 ![0, 1, 2] bcast_S8x128x1_S8x128x128_0_1_2
    (broadcastInDim S8x128x1 ![0, 1] bcast_S8x128_S8x128x1_0_1 (m ((c : Thread nD τ).loc main_arg4)))) (show _ = ix3 h p q from ?_)).trans ?_
  · blk_ext [idx t]
  · pointwise []
    rfl
/-- The taps, which the host puts in the first three of eight rows. -/
theorem iblk_cw (k : Fin 3) (j : Fin 1024) : iblk m c 6 t (ix2 ⟨k.val, by omega⟩ j) = (inputs m c).cw (ix2 k j) := by
  have hk := k.isLt
  show V m c main_v13 _ = _
  rw [entry_cw]
  refine (congrArg (pad S8x1024 ![0, 0] ![5, 0] ![0, 0] (show FVec Ideal S3x1024 .f32 from m ((c : Thread nD τ).loc main_arg5))
    (sitofp (F := Ideal) .f32 (constantI S_ 32 0#32)) pads_S3x1024_S8x1024_050_000 h_S_) (show _ = ix2 (⟨k.val, by omega⟩ : Fin 8) j from ?_)).trans ?_
  · blk_ext [idx t]
  · pointwise []
    rfl

/-- The masked spatial weights at an index. -/
theorem masked_at (W : FVec Ideal S8x128x128 .f32) (h : Fin 8) (p q : Fin 128) :
    Mixer.masked W (ix3 h p q) = if q.val / 64 ≤ p.val / 64 then W (ix3 h p q) else 0 := by
  pointwise [Mixer.masked]
  rw [Mixer.sees_eq]
  by_cases hc : q.val / 64 ≤ p.val / 64
  · rw [if_pos hc, decide_eq_true hc]; rfl
  · rw [if_neg hc, decide_eq_false hc]; rfl

theorem entry_w : V m c main_v10 = Mixer.masked (m ((c : Thread nD τ).loc main_arg3)) := by
  show StableHlo.after _ _ _ = _
  simp only [List.flatten_cons, List.flatten_nil, List.append_nil, List.cons_append, List.nil_append]
  entry_read
  simp only [StableHlo.TRef.ofBuf_toBuf]
  rfl
theorem iblk_w (h : Fin 8) (p q : Fin 128) : iblk m c 4 t (ix3 h p q) = (inputs m c).wm h p q := by
  show V m c main_v10 _ = _
  rw [entry_w]
  refine (congrArg (Mixer.masked (m ((c : Thread nD τ).loc main_arg3))) (show _ = ix3 h p q from ?_)).trans (masked_at _ h p q)
  blk_ext [idx t]

end Cert.MixerFwd

end
-- ==== Proof.MixerFwd.Point.lean ====
/- What a grid point of the mixer's forward pass computes is the forward pass at the point's rows. -/
module

public import proofs.«01_k».proof.Proof.MixerFwd.Block
public import proofs.«01_k».proof.Proof.MixerFwd.Entry

@[expose] public section

set_option maxRecDepth 16384

noncomputable section

namespace Cert.MixerFwd

open Cert.Kernel5Ideal Cert.Kernel5Ideal.Gen
open Idealize.ShloMosaic Idealize.ShloMosaic.TcCoe Idealize.SL.Sem
open Cert.Lift Cert.Rows Cert.NormFwd
open Cert.Mixer (col half head headCol pos frame frameRow tileRow tile headOf headOf_apply geluC geluK word_half word_1024 word_geluC word_lnEps
  pos_tileRow head_headCol frameRow_tileRow canon_tiles_eq mixOrder col_val half_val)

/-! ## Parts of the blocks -/

theorem part_at (X : Vec Ideal S256x5120 .bf16) (k : Fin 5) (r : Fin 256) (j : Fin 1024) : part X k (ix2 r j) = X (ix2 r (col k j)) := by
  refine congrArg X (funext fun a => Fin.ext ?_)
  match a with
  | 0 => exact (Nat.zero_add _).trans (Nat.one_mul _)
  | 1 => exact congrArg (1024 * k.val + ·) (Nat.one_mul _)
theorem partBefore_at (X : Vec Ideal S16x5120 .bf16) (k : Fin 5) (r : Fin 16) (j : Fin 1024) : partBefore X k (ix2 r j) = X (ix2 r (col k j)) := by
  refine congrArg X (funext fun a => Fin.ext ?_)
  match a with
  | 0 => exact (Nat.zero_add _).trans (Nat.one_mul _)
  | 1 => exact congrArg (1024 * k.val + ·) (Nat.one_mul _)
theorem gains_at (X : Vec Ideal S1x2048 .f32) (k : Fin 2) (j : Fin 1024) : gains X k (ix2 0 j) = X (ix2 0 (half k j)) := by
  refine congrArg X (funext fun a => Fin.ext ?_)
  match a with
  | 0 => rfl
  | 1 => exact congrArg (1024 * k.val + ·) (Nat.one_mul _)
theorem tapRow_at (X : Vec Ideal S8x1024 .f32) (k : Fin 3) (j : Fin 1024) : tapRow X k (ix2 0 j) = X (ix2 ⟨k.val, by omega⟩ j) := by
  refine congrArg X (funext fun a => Fin.ext ?_)
  match a with
  | 0 => rfl
  | 1 => exact (Nat.zero_add _).trans (Nat.one_mul _)
theorem tile_at (X : Vec Ideal S256x1024 .bf16) (b : Fin 2) (h : Fin 8) (p d : Fin 128) : tile X b h (ix2 p d) = X (ix2 (tileRow b p) (headCol h d)) := by
  refine congrArg X (funext fun a => Fin.ext ?_)
  match a with
  | 0 => exact congrArg (128 * b.val + ·) (Nat.one_mul _)
  | 1 => exact congrArg (128 * h.val + ·) (Nat.one_mul _)

/-! ## The blocks' functions at an index -/

/-- The kernel's constant in the activation is the product it was rounded from. -/
theorem named_ck : Named.named (F := Ideal) Cert.Kernel5Ideal.κ "gelu_ck" (φ := .f32) 0x3D122279#32 = ((geluC * geluK : ℝ) : EReal) :=
  (IdealRules.named_const.ideal_named_scalar _ _ _ _ rfl).trans (congrArg (fun r : ℝ => (r : EReal)) (by unfold geluC geluK; norm_num))

theorem act_at (X : Vec Ideal S256x1024 .bf16) (r : Fin 256) (j : Fin 1024) : k0_pay1 X (ix2 r j) = act (X (ix2 r j)) := by
  pointwise [k0_pay1]
  simp only [named_ck, word_half, word_geluC]
  rfl
theorem standard_at (X : Vec Ideal S256x1024 .bf16) (r : Fin 256) (j : Fin 1024) : k0_pay2 X (ix2 r j) = standard (fun k => act (X (ix2 r k))) j := by
  pointwise [k0_pay2]
  simp only [named_ck, word_half, word_geluC, word_1024, word_lnEps]
  rfl
theorem gained_at (X : FVec Ideal S256x1024 .f32) (g s : Vec Ideal S1x1024 .f32) (r : Fin 256) (j : Fin 1024) :
    k0_pay3 X g s (ix2 r j) = X (ix2 r j) * g (ix2 0 j) + s (ix2 0 j) := by
  pointwise [k0_pay3]
theorem mix_at (W : Vec Ideal S1x128x128 .bf16) (X : Vec Ideal S128x128 .bf16) (B : Vec Ideal S1x128x128 .f32) (p d : Fin 128) :
    k0_pay4 W X B (ix2 p d) = ∑ q : Fin 128, W (ix3 0 p q) * X (ix2 q d) + B (ix3 0 p d) := by
  pointwise [k0_pay4]
theorem normA_at (U M : FVec Ideal S256x1024 .f32) (g : Vec Ideal S1x1024 .f32) (r : Fin 256) (j : Fin 1024) :
    k0_pay25 U M g (ix2 r j) = normed 1024 (fun k => U (ix2 r k) * M (ix2 r k)) j * g (ix2 0 j) := by
  pointwise [k0_pay25]
  simp only [word_1024, word_rmsEps]
  rfl
/-- What is convolved in the block, read `k` rows earlier in the block and the sixteen rows before it. -/
def rolled (P : FVec Ideal S16x1024 .f32) (C : FVec Ideal S256x1024 .f32) (k : ℕ) (r : Fin 256) (j : Fin 1024) : EReal :=
  if h : (16 + r.val + 272 - k) % 272 < 16 then P (ix2 ⟨(16 + r.val + 272 - k) % 272, h⟩ j) else C (ix2 ⟨(16 + r.val + 272 - k) % 272 - 16, by omega⟩ j)
theorem normB_at (P : FVec Ideal S16x1024 .f32) (C : FVec Ideal S256x1024 .f32) (g2 g1 g0 : Vec Ideal S1x1024 .f32) (Z : Vec Ideal S256x1024 .bf16)
    (g : Vec Ideal S1x1024 .f32) (r : Fin 256) (j : Fin 1024) :
    k0_pay28 P C g2 g1 g0 Z g (ix2 r j) = normed 1024 (fun k => Z (ix2 r k) * (g2 (ix2 0 k) * C (ix2 r k)
      + g1 (ix2 0 k) * rolled P C 1 r k + g0 (ix2 0 k) * rolled P C 2 r k)) j * g (ix2 0 j) := by
  pointwise [k0_pay28]
  simp only [word_1024, word_rmsEps]
  rfl
theorem now_at (X Y : Vec Ideal S256x1024 .bf16) (r : Fin 256) (j : Fin 1024) : k0_pay27 X Y (ix2 r j) = X (ix2 r j) * Y (ix2 r j) := by
  pointwise [k0_pay27]
/-- Whether a point has rows before it. -/
theorem after_first : ∀ t : Fin 16, Scalar.cmpi .sgt (BitVec.ofNat 32 t.val) 0#32 = BitVec.ofBool (decide (0 < t.val)) := by decide +kernel
theorem before_at {t : ℕ} (ht : t < 16) (X Y : Vec Ideal S16x1024 .bf16) (r : Fin 16) (j : Fin 1024) :
    k0_pay26 (BitVec.ofNat 32 t) X Y (ix2 r j) = if 0 < t then X (ix2 r j) * Y (ix2 r j) else 0 := by
  pointwise [k0_pay26]
  rw [after_first ⟨t, ht⟩]
  by_cases h : 0 < t
  · rw [if_pos h, decide_eq_true h]; rfl
  · rw [if_neg h, decide_eq_false h]; rfl
/-- Rolling the block reads the rows before, nothing before the first. -/
theorem rolled_eq {t : ℕ} (ht : t < 16) (Q : Fin 4096 → Fin 1024 → EReal) {P : FVec Ideal S16x1024 .f32} {C : FVec Ideal S256x1024 .f32}
    (hP : ∀ r j, P (ix2 r j) = if 0 < t then Q (rowBefore ht r) j else 0) (hC : ∀ r j, C (ix2 r j) = Q (rowAt ht r) j)
    {k : ℕ} (hk : 0 < k) (hk' : k ≤ 16) (r : Fin 256) (j : Fin 1024) : rolled P C k r j = earlier Q k (rowAt ht r) j := by
  have hr := r.isLt
  have he : (16 + r.val + 272 - k) % 272 = 16 + r.val - k := by omega
  unfold rolled earlier
  by_cases h : r.val < k
  · rw [dif_pos (by omega), hP]
    by_cases h0 : 0 < t
    · rw [if_pos h0, if_pos (by rw [rowAt_val]; omega)]
      exact congrArg (fun i => Q i j) (Fin.ext (by rw [rowBefore_val]; simp only [rowAt_val, he]; omega))
    · rw [if_neg h0, if_neg (by rw [rowAt_val]; omega)]
  · rw [dif_neg (by omega), hC, if_pos (by rw [rowAt_val]; omega)]
    exact congrArg (fun i => Q i j) (Fin.ext (by simp only [rowAt_val, he]; omega))

/-! ## The point's block -/

variable (m : (ℓ : Loc nD τ sig) → Buf (Elt Ideal) ℓ) (c : Dev nD) (t : Fin cfg0.N)

theorem vn_at (r : Fin 256) (j : Fin 1024) :
    vn (iblk m c 1 t) (iblk m c 2 t) (iblk m c 3 t) (ix2 r j) = (inputs m c).vn (rowAt (point_lt t) r) j := by
  rw [vn, gained_at, standard_at, iblk_lnG, iblk_lnB]
  simp only [part_at, iblk_z]
  rfl
theorem mixTile_at (b : Fin 2) (h : Fin 8) (p d : Fin 128) :
    mixTile (iblk m c 1 t) (iblk m c 2 t) (iblk m c 3 t) (iblk m c 4 t) (iblk m c 5 t) b h (ix2 p d)
      = (inputs m c).mixed (rowAt (point_lt t) (tileRow b p)) (headCol h d) := by
  rw [mixTile, mix_at]
  simp only [headOf_apply, tile_at, vn_at, iblk_w, iblk_b]
  rw [Inputs.mixed]
  simp only [head_headCol, pos_tileRow, frameRow_tileRow]
theorem mixed_at (r : Fin 256) (j : Fin 1024) :
    mixed (iblk m c 1 t) (iblk m c 2 t) (iblk m c 3 t) (iblk m c 4 t) (iblk m c 5 t) (ix2 r j) = (inputs m c).mixed (rowAt (point_lt t) r) j :=
  congrFun (canon_tiles_eq mixOrder (by decide) _ (fun r j => (inputs m c).mixed (rowAt (point_lt t) r) j) (mixTile_at m c t)) (ix2 r j)
theorem normedA_at (r : Fin 256) (j : Fin 1024) :
    normedA (iblk m c 1 t) (iblk m c 2 t) (iblk m c 3 t) (iblk m c 4 t) (iblk m c 5 t) (iblk m c 7 t) (ix2 r j)
      = (inputs m c).out (rowAt (point_lt t) r) (half 0 j) := by
  have hj := j.isLt
  rw [normedA, normA_at, gains_at, iblk_gn, Inputs.out, dif_pos (by rw [half_val]; show 1024 * 0 + j.val < 1024; omega)]
  simp only [act_at, part_at, iblk_z, mixed_at]
  refine congrArg (fun k => normed 1024 ((inputs m c).ya (rowAt (point_lt t) r)) k * (inputs m c).gn (ix1 (half 0 j))) (Fin.ext ?_)
  show j.val = 1024 * 0 + j.val
  omega
/-- The point's number, as the kernel reads it. -/
theorem coord : ∀ t : Fin cfg0.N, BitVec.ofNat 32 (grid0.coords t 0).val = BitVec.ofNat 32 t.val :=
  (by decide +kernel : ∀ t : Fin grid0.N, _)
theorem normedB_at (r : Fin 256) (j : Fin 1024) :
    normedB (iblk m c 0 t) (iblk m c 1 t) (iblk m c 6 t) (iblk m c 7 t) (BitVec.ofNat 32 (grid0.coords t 0).val) (ix2 r j)
      = (inputs m c).out (rowAt (point_lt t) r) (half 1 j) := by
  have hj := j.isLt
  have hroll := fun k hk hk' => rolled_eq (point_lt t) (inputs m c).pr
    (P := k0_pay26 (BitVec.ofNat 32 t.val) (partBefore (iblk m c 0 t) 3) (partBefore (iblk m c 0 t) 4)) (C := k0_pay27 (part (iblk m c 1 t) 3) (part (iblk m c 1 t) 4))
    (fun r j => by rw [before_at (point_lt t)]; simp only [partBefore_at, iblk_zp]; rfl)
    (fun r j => by rw [now_at]; simp only [part_at, iblk_z]; rfl) (k := k) hk hk' r
  rw [normedB, coord, normB_at, gains_at, iblk_gn, Inputs.out, dif_neg (by rw [half_val]; show ¬ 1024 * 1 + j.val < 1024; omega)]
  simp only [hroll 1 (by norm_num) (by norm_num), hroll 2 (by norm_num) (by norm_num), tapRow_at, iblk_cw, now_at, part_at, iblk_z]
  refine congrArg (fun k => normed 1024 ((inputs m c).yb (rowAt (point_lt t) r)) k * (inputs m c).gn (ix1 (half 1 j))) (Fin.ext ?_)
  show j.val = 1024 * 1 + j.val - 1024
  omega

/-- Two halves that agree with an array make the array. -/
theorem canon_halves (P Q : Vec Ideal S256x1024 .bf16) (f : Fin 256 → Fin 2048 → EReal) (hP : ∀ r j, P (ix2 r j) = f r (half 0 j))
    (hQ : ∀ r j, Q (ix2 r j) = f r (half 1 j)) : View.canon (halves P Q) = fun y : S256x2048.Idx => f (y 0) (y 1) := by
  funext y
  rw [← List.append_nil (halves P Q)]
  refine View.canon_append_of_pieces (Val := Elt Ideal) (e := .bf16) (fun y : S256x2048.Idx => f (y 0) (y 1)) [] _ (fun p hp x => ?_) y ?_
  · rw [halves, List.mem_cons, List.mem_singleton] at hp
    obtain rfl | rfl := hp
    · refine (congrArg Q (ix2_eta x).symm).trans ((hQ _ _).trans (congrArg₂ f (Fin.ext ?_) (Fin.ext ?_)))
      · exact ((Nat.zero_add _).trans (Nat.one_mul _)).symm
      · exact congrArg (1024 + ·) (Nat.one_mul _).symm
    · refine (congrArg P (ix2_eta x).symm).trans ((hP _ _).trans (congrArg₂ f (Fin.ext ?_) (Fin.ext ?_)))
      · exact ((Nat.zero_add _).trans (Nat.one_mul _)).symm
      · exact congrArg (0 + ·) (Nat.one_mul _).symm
  · idx_vars y
    by_cases h : y1.val < 1024
    · refine ⟨_, List.mem_cons_of_mem _ List.mem_cons_self, (Rect.mem_set_unit (inb := inb_S256x2048_S256x1024_0_0)).mpr fun a => ?_⟩
      match a with
      | 0 => exact ⟨Nat.zero_le _, (Nat.zero_add 256).symm ▸ y0.isLt⟩
      | 1 => exact ⟨Nat.zero_le _, (Nat.zero_add 1024).symm ▸ h⟩
    · refine ⟨_, List.mem_cons_self, (Rect.mem_set_unit (inb := inb_S256x2048_S256x1024_0_1024)).mpr fun a => ?_⟩
      match a with
      | 0 => exact ⟨Nat.zero_le _, (Nat.zero_add 256).symm ▸ y0.isLt⟩
      | 1 => exact ⟨not_lt.mp h, y1.isLt⟩

/-- The array the kernel leaves. -/
theorem final_out : (dats m 0 c).arrAt 8 (cfgs 0).N = fun i : S4096x2048.Idx => (inputs m c).out (i 0) (i 1) := by
  refine (dats m 0 c).arrAt_eq_of_covers 8 _ (by decide +kernel) fun t _ y => ?_
  blk_simp
  rw [after0_8, outsAt_eq, canon_halves _ _ (fun r j => (inputs m c).out (rowAt (point_lt t) r) j) (normedA_at m c t) (normedB_at m c t)]
  idx_vars y
  refine congrArg₂ (inputs m c).out (Fin.ext ?_) (Fin.ext ?_)
  all_goals simp [idx t, rowAt_val]

end Cert.MixerFwd

end
-- ==== Proof.MixerFwd.Reference.lean ====
/- The mixer's reference read at an index: the forward pass of its arguments, when the rows are real. -/
module

public import proofs.«01_k».proof.Proof.Gen.Reference5Ideal.Read
public import proofs.«01_k».proof.Proof.MixerFwd.Entry
public import proofs.«01_k».proof.Proof.Mixer.RefForward

@[expose] public section

set_option maxRecDepth 16384

noncomputable section

namespace Cert.MixerFwd

open Cert.Reference5Ideal Cert.Reference5Ideal.Gen Cert.Reference5Ideal.Read
open Idealize.ShloMosaic Cert.Lift Cert.Rows Cert.NormFwd
open Cert.Mixer (col half head headCol pos frame frameRow geluC geluK geluT geluT_ref gelu_ref word_half word_1024 word_geluC word_geluK word_lnEps)

/-! ## The gates -/

/-- The reference's activation of a real. -/
theorem act_ref {x : EReal} (hx : ∃ r : ℝ, x = r) :
    x * (((1 / 2 : ℝ) : EReal) * (1 + Ideal.tanh (((geluC : ℝ) : EReal) * (x + ((geluK : ℝ) : EReal) * (x * x * x))))) = act x := by
  obtain ⟨r, rfl⟩ := hx
  rw [act_real]
  simp only [← EReal.coe_mul, ← EReal.coe_add, Ideal.tanh_coe, geluT_ref, ← EReal.coe_one, gelu_ref]

variable (A : Inputs) (hz : ∀ y, ∃ r : ℝ, A.z y = r)

section
include hz

theorem ref_act (i : Fin 4096) (j : Fin 2048) : val_main_v14 (F := Ideal) A.z (ix2 i j) = act (A.z (ix2 i ⟨j.val, by omega⟩)) := by
  pointwise [val_main_v14, val_main_v13, val_main_v12, val_main_v11, val_main_v10, val_main_v9, val_main_v8, val_main_v7, val_main_v6, val_main_v5, val_main_v4, val_main_v3,
    val_main_v2, val_main_v1, val_main_v0, val_main_cst, val_main_cst_0, val_main_cst_1, val_main_cst_2]
  simp only [word_half, word_geluC, word_geluK]
  exact act_ref (hz _)
theorem ref_u (i : Fin 4096) (j : Fin 1024) : val_main_v15 (F := Ideal) A.z (ix2 i j) = A.u i j := by
  pointwise [val_main_v15]
  rw [ref_act A hz]
  exact congrArg (fun k => act (A.z (ix2 i k))) (Fin.ext (Nat.zero_add _).symm)
theorem ref_v (i : Fin 4096) (j : Fin 1024) : val_main_v16 (F := Ideal) A.z (ix2 i j) = A.v i j := by
  pointwise [val_main_v16]
  rw [ref_act A hz]
  rfl

/-! ## The layer norm and the mixing -/

theorem ref_xc (i : Fin 4096) (j : Fin 1024) : val_main_v33 (F := Ideal) A.z (ix2 i j) = centred (A.v i) j := by
  pointwise [val_main_v33, val_main_v32, val_main_v31, val_main_v30, val_main_v29, val_main_v28, val_main_cst_4, val_main_cst_5]
  simp only [ref_v A hz, word_1024, zero_add]
  rfl
theorem ref_hat (i : Fin 4096) (j : Fin 1024) : val_main_v43 (F := Ideal) A.z (ix2 i j) = standard (A.v i) j := by
  pointwise [val_main_v43, val_main_v42, val_main_v41, val_main_v40, val_main_v39, val_main_v38, val_main_v37, val_main_v36, val_main_v35, val_main_v34, val_main_cst_6, val_main_cst_7,
    val_main_cst_8]
  simp only [ref_xc A hz, word_1024, word_lnEps, zero_add]
  rfl
theorem ref_vn (i : Fin 4096) (j : Fin 1024) : val_main_v49 (F := Ideal) A.z A.lnG A.lnB (ix2 i j) = A.vn i j := by
  pointwise [val_main_v49, val_main_v48, val_main_v47, val_main_v46, val_main_v45, val_main_v44]
  rw [ref_hat A hz]
  rfl
theorem ref_vn4 (f : Fin 32) (p : Fin 128) (h : Fin 8) (d : Fin 128) :
    val_main_v50 (F := Ideal) A.z A.lnG A.lnB (ix4 f p h d) = A.vn (frameRow f p) (headCol h d) := by
  pointwise [val_main_v50]
  rw [ref_vn A hz]
  exact congrArg₂ A.vn (Fin.ext (show f.val * 128 + p.val = 128 * f.val + p.val by omega)) (Fin.ext (show h.val * 128 + d.val = 128 * h.val + d.val by omega))
omit hz in
theorem ref_wm (h : Fin 8) (p q : Fin 128) : val_main_v52 (F := Ideal) A.w (ix3 h p q) = A.wm h p q := masked_at A.w h p q
theorem ref_mix4 (f : Fin 32) (p : Fin 128) (h : Fin 8) (d : Fin 128) :
    val_main_v58 (F := Ideal) A.z A.lnG A.lnB A.w A.b (ix4 f p h d) = ∑ q, A.wm h p q * A.vn (frameRow f q) (headCol h d) + A.b (ix2 h p) := by
  pointwise [val_main_v58, val_main_v57, val_main_v56, val_main_v55, val_main_v54, val_main_v53]
  simp only [ref_vn4 A hz, ref_wm]
  exact congrArg (· + A.b (ix2 h p)) (Finset.sum_congr rfl fun q _ => mul_comm _ _)
theorem ref_mixed (i : Fin 4096) (j : Fin 1024) : val_main_v59 (F := Ideal) A.z A.lnG A.lnB A.w A.b (ix2 i j) = A.mixed i j := by
  pointwise [val_main_v59]
  rw [ref_mix4 A hz]
  have h : headCol (head j) ⟨j.val % 128, by omega⟩ = j := Fin.ext (show 128 * (j.val / 128) + j.val % 128 = j.val by omega)
  exact congrArg (fun k => ∑ q, A.wm (head j) (pos i) q * A.vn (frameRow (frame i) q) k + A.b (ix2 (head j) (pos i))) h
theorem ref_ya (i : Fin 4096) (j : Fin 1024) : val_main_v60 (F := Ideal) A.z A.lnG A.lnB A.w A.b (ix2 i j) = A.ya i j := by
  pointwise [val_main_v60]
  rw [ref_u A hz, ref_mixed A hz]
  rfl
end

/-! ## The convolution -/

theorem ref_pr (i : Fin 4096) (j : Fin 1024) : val_main_v61 (F := Ideal) A.z (ix2 i j) = A.pr i j := by
  pointwise [val_main_v61, val_main_v18, val_main_v19, val_main_v0]
  rfl
/-- What is convolved, after two rows of zeros. -/
theorem ref_padded (i : Fin 4098) (j : Fin 1024) : val_main_v63 (F := Ideal) A.z (ix2 i j) = if 2 ≤ i.val then A.pr ⟨i.val - 2, by omega⟩ j else 0 := by
  pointwise [val_main_v63, val_main_v62, val_main_cst_10]
  by_cases h : i.val < 2
  · rw [dif_pos h, if_neg (by omega)]
  · rw [dif_neg h]
    exact (ref_pr A ⟨i.val - 2, by omega⟩ j).trans (if_pos (by omega)).symm
theorem ref_earlier2 (i : Fin 4096) (j : Fin 1024) : val_main_v64 (F := Ideal) A.z (ix2 i j) = earlier A.pr 2 i j := by
  pointwise [val_main_v64]
  rw [ref_padded]
  rfl
theorem ref_earlier1 (i : Fin 4096) (j : Fin 1024) : val_main_v72 (F := Ideal) A.z (ix2 i j) = earlier A.pr 1 i j := by
  pointwise [val_main_v72]
  rw [ref_padded, earlier]
  by_cases h : 1 ≤ i.val
  · rw [if_pos (show 2 ≤ 1 + i.val by omega), if_pos h]
    exact congrArg (fun k => A.pr k j) (Fin.ext (show 1 + i.val - 2 = i.val - 1 by omega))
  · rw [if_neg (show ¬2 ≤ 1 + i.val by omega), if_neg h]
theorem ref_now (i : Fin 4096) (j : Fin 1024) : val_main_v79 (F := Ideal) A.z (ix2 i j) = A.pr i j := by
  pointwise [val_main_v79]
  rw [ref_padded, if_pos (show 2 ≤ 2 + i.val by omega)]
  exact congrArg (fun k => A.pr k j) (Fin.ext (show 2 + i.val - 2 = i.val by omega))
theorem ref_cv (i : Fin 4096) (j : Fin 1024) : val_main_v85 (F := Ideal) A.z A.cw (ix2 i j) = A.cv i j := by
  pointwise [val_main_v85, val_main_v84, val_main_v83, val_main_v82, val_main_v81, val_main_v80, val_main_v78, val_main_v77, val_main_v76, val_main_v75, val_main_v74, val_main_v73,
    val_main_v71, val_main_v70, val_main_v69, val_main_v68, val_main_v67, val_main_v66, val_main_v65, val_main_cst_11]
  simp only [ref_earlier2, ref_earlier1, ref_now, zero_add]
  rw [Inputs.cv, mul_comm (A.pr i j), mul_comm (earlier A.pr 1 i j), mul_comm (earlier A.pr 2 i j), add_comm (_ + _) (_ * A.pr i j), add_comm (_ * earlier A.pr 2 i j), ← add_assoc]
theorem ref_yb (i : Fin 4096) (j : Fin 1024) : val_main_v86 (F := Ideal) A.z A.cw (ix2 i j) = A.yb i j := by
  pointwise [val_main_v86, val_main_v17, val_main_v0]
  rw [ref_cv]
  rfl

/-! ## The output -/

theorem ref_normA (i : Fin 4096) (j : Fin 1024) (hz : ∀ y, ∃ r : ℝ, A.z y = r) :
    val_main_v100 (F := Ideal) A.z A.lnG A.lnB A.w A.b A.gn (ix2 i j) = normed 1024 (A.ya i) j * A.gn (ix1 ⟨j.val, by omega⟩) := by
  pointwise [val_main_v100, val_main_v99, val_main_v98, val_main_v97, val_main_v96, val_main_v95, val_main_v94, val_main_v93, val_main_v92, val_main_v91, val_main_v90, val_main_v89,
    val_main_v88, val_main_v87, val_main_cst_12, val_main_cst_13, val_main_cst_14]
  simp only [ref_ya A hz, word_1024, word_rmsEps, zero_add]
  rfl
theorem ref_normB (i : Fin 4096) (j : Fin 1024) :
    val_main_v114 (F := Ideal) A.z A.cw A.gn (ix2 i j) = normed 1024 (A.yb i) j * A.gn (ix1 ⟨1024 + j.val, by omega⟩) := by
  pointwise [val_main_v114, val_main_v113, val_main_v112, val_main_v111, val_main_v110, val_main_v109, val_main_v108, val_main_v107, val_main_v106, val_main_v105, val_main_v104,
    val_main_v103, val_main_v102, val_main_v101, val_main_cst_15, val_main_cst_16, val_main_cst_17]
  simp only [ref_yb, word_1024, word_rmsEps, zero_add]
  rfl

/-- The reference's array. -/
theorem ref_out (hz : ∀ y, ∃ r : ℝ, A.z y = r) :
    val_main_v116 (F := Ideal) A.z A.lnG A.lnB A.w A.b A.cw A.gn = fun i : S4096x2048.Idx => A.out (i 0) (i 1) := by
  funext y
  idx_vars y
  pointwise [val_main_v116, val_main_v115]
  rw [Inputs.out]
  by_cases h : y1.val < 1024
  · rw [dif_pos h, dif_pos h, ref_normA A _ _ hz]
  · rw [dif_neg h, dif_neg h, ref_normB]
    exact congrArg (fun k => normed 1024 (A.yb y0) ⟨y1.val - 1024, by omega⟩ * A.gn (ix1 k)) (Fin.ext (show 1024 + (y1.val - 1024) = y1.val by omega))

end Cert.MixerFwd

end
-- ==== Proof.MixerFwd.Claims.lean ====
/- The claims about the mixer's forward pass: frames, the named constant, and the equality with the reference on finite rows. -/
module

public import proofs.«01_k».proof.Defs
public import proofs.«01_k».proof.Proof.Gen.Kernel5.Frame
public import proofs.«01_k».proof.Proof.Gen.Pre_gates_finite
public import proofs.«01_k».proof.Proof.Gen.Reference5Ideal.Run
public import proofs.«01_k».proof.Proof.MixerFwd.Point
public import proofs.«01_k».proof.Proof.MixerFwd.Reference
public import Idealize.ShloMosaic.Lib.Quiescent

@[expose] public section

set_option maxRecDepth 16384

noncomputable section

namespace Cert.MixerFwd

open Idealize.ShloMosaic Idealize.ShloMosaic.TcCoe Idealize.SL.Sem

theorem quiescent : quiescent_Kernel5 (hKernel5 := Cert.Kernel5.Gen.facts) :=
  fun m ρ _ => Cert.Kernel5.Gen.frame m ρ
theorem quiescent_ideal : quiescent_Kernel5Ideal (hKernel5Ideal := Cert.Kernel5Ideal.Gen.facts) :=
  fun m ρ _ => Cert.Kernel5Ideal.Gen.frame m ρ
theorem quiescent_ideal_pre : quiescent_Kernel5Ideal_pre_gates_finite (hKernel5Ideal := Cert.Kernel5Ideal.Gen.facts)
    (hPre_gates_finite := Cert.Pre_gates_finite.Gen.facts) :=
  fun m ρ _ => Cert.Kernel5Ideal.Gen.frame m ρ

section
open Cert.Reference5Ideal Cert.Reference5Ideal.Gen

/-- The reference ends with its arguments unchanged and every counter at zero. -/
theorem reference_frame (m : (ℓ : Loc nD τ sig) → Buf (Elt Ideal) ℓ) (ρ : Dev nD → PrngReg) :
    θ_run (defs (F := Ideal)) (onTc (τ := τ) (main (F := Ideal))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6))
      ∧ r.2.sem = fun _ => 0 :=
  (θ_run defs _ _).mono (fun r h => ⟨fun c => (h c).2, sem_eq_zero_of_no_sems (by decide) r.2⟩)
    (Cert.Reference5Ideal.Value.run (F := Ideal) m ρ)
end

theorem quiescent_ref : quiescent_Reference5Ideal (hReference5Ideal := Cert.Reference5Ideal.Gen.facts) :=
  fun m ρ _ => reference_frame m ρ
theorem quiescent_ref_pre : quiescent_Reference5Ideal_pre_gates_finite
    (hReference5Ideal := Cert.Reference5Ideal.Gen.facts) (hPre_gates_finite := Cert.Pre_gates_finite.Gen.facts) :=
  fun m ρ _ => reference_frame m ρ

/-- The kernel's folded constant is the number it is named for. -/
theorem preserves : preserves_Kernel5_Kernel5Ideal :=
  IdealRules.named_const.statement Cert.Kernel5Ideal.κ "gelu_ck" .f32 0x3D122279#32 _ rfl

section
open Cert.Reference5Ideal Cert.Reference5Ideal.Gen Cert.Reference5Ideal.Read

/-- The reference is given the arrays of `A`. -/
structure RefHolds (V : Valuation τ sig (Elt Ideal)) (A : Inputs) : Prop where
  z : V (Proc.devRef .tc main_arg0) = A.z
  lnG : V (Proc.devRef .tc main_arg1) = A.lnG
  lnB : V (Proc.devRef .tc main_arg2) = A.lnB
  w : V (Proc.devRef .tc main_arg3) = A.w
  b : V (Proc.devRef .tc main_arg4) = A.b
  cw : V (Proc.devRef .tc main_arg5) = A.cw
  gn : V (Proc.devRef .tc main_arg6) = A.gn

theorem refAll_out {V : Valuation τ sig (Elt Ideal)} {A : Inputs} (H : RefHolds V A) (hz : ∀ y, ∃ r : ℝ, A.z y = r) :
    val_main_v116 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6))
      = fun i : S4096x2048.Idx => A.out (i 0) (i 1) := by
  rw [H.z, H.lnG, H.lnB, H.w, H.b, H.cw, H.gn]
  exact ref_out A hz
end

/-- On finite rows the kernel computes what the reference computes. -/
theorem equal : algebraic_Kernel5Ideal_Reference5Ideal_pre_gates_finite
    (hKernel5Ideal := Cert.Kernel5Ideal.Gen.facts) (hReference5Ideal := Cert.Reference5Ideal.Gen.facts)
    (hPre_gates_finite := Cert.Pre_gates_finite.Gen.facts) := by
  intro m ρ m' ρ' hpre hagree
  refine ⟨_, Cert.Kernel5Ideal.Value.run_blocks m ρ, (θ_run _ _ _).mono (fun r h c => ?_)
    (Cert.Reference5Ideal.Value.run (F := Ideal) m' ρ')⟩
  obtain ⟨h0, hargs⟩ := h c
  obtain ⟨a0, a1, a2, a3, a4, a5, a6⟩ := hagree c
  obtain ⟨Z, hZ⟩ := Cert.Lift.reals_of_mask_short _ _ (hpre c)
  have R : RefHolds (StableHlo.launchContents m' c) (inputs m c) := ⟨a0, a1, a2, a3, a4, a5, a6⟩
  exact ⟨(h0.trans (Cert.Reference5Ideal.Read.val_main_v116_eq _ _)).trans ((refAll_out R fun y => ⟨Z y, congrFun hZ y⟩).trans (final_out m c).symm), hargs⟩

end Cert.MixerFwd

end
-- ==== Proof.Products.Tiles.lean ====
/- The entries of a 4096 × 2048 array that a grid point of a product works on: the points walk tiles of 1024 × 512, four to a band of rows. -/
module

public import Idealize.ShloMosaic.Lib.ValueIdx

@[expose] public section

namespace Cert.Products

/-- A row of the point's tile. -/
def tileRow {t : ℕ} (h : t < 16) (r : Fin 1024) : Fin 4096 := ⟨t / 4 * 1024 + r.val, by omega⟩
/-- A column of the point's tile. -/
def tileCol {t : ℕ} (h : t < 16) (j : Fin 512) : Fin 2048 := ⟨t % 4 * 512 + j.val, by omega⟩

theorem tileRow_val {t : ℕ} (h : t < 16) (r : Fin 1024) : (tileRow h r).val = t / 4 * 1024 + r.val := rfl
theorem tileCol_val {t : ℕ} (h : t < 16) (j : Fin 512) : (tileCol h j).val = t % 4 * 512 + j.val := rfl

end Cert.Products
-- ==== Proof.Products.Down.lean ====
/- The down product with its residual, and its reference: what a grid point computes, the array the kernel leaves, and the reference read at an index, on any arrays. -/
module

public import proofs.«01_k».proof.Proof.Gen.Kernel8Ideal.Value
public import proofs.«01_k».proof.Proof.Gen.Reference8Ideal.Read
public import proofs.«01_k».proof.Proof.Products.Tiles
public import Idealize.ShloMosaic.Lib.Pipeline.ValueKit

@[expose] public section

set_option maxRecDepth 16384

noncomputable section

namespace Cert.Products.Down

open Cert.Products
open Idealize.ShloMosaic Idealize.ShloMosaic.TcCoe Idealize.SL.Sem
open Idealize.ShloMosaic.Pipeline (Dat)

/-- The residual plus the product. -/
def out (a : (⟨2, ![4096, 5632]⟩ : Shape).Idx → EReal) (w : (⟨2, ![5632, 2048]⟩ : Shape).Idx → EReal) (x : (⟨2, ![4096, 2048]⟩ : Shape).Idx → EReal)
    (r : Fin 4096) (j : Fin 2048) : EReal :=
  x (ix2 r j) + ∑ k : Fin 5632, a (ix2 r k) * w (ix2 k j)

section
open Cert.Kernel8Ideal Cert.Kernel8Ideal.Gen

theorem block (a : Vec Ideal S1024x5632 .bf16) (w : Vec Ideal S5632x512 .bf16) (x : Vec Ideal S1024x512 .f32) (r : Fin 1024) (j : Fin 512) :
    k0_pay1 a w x (ix2 r j) = x (ix2 r j) + ∑ k : Fin 5632, a (ix2 r k) * w (ix2 k j) := by
  pointwise [k0_pay1]

variable (m : (ℓ : Loc nD τ sig) → Buf (Elt Ideal) ℓ) (c : Dev nD)

/-- The block each window is on at each grid point. -/
theorem idx : ∀ t : Fin cfg0.N, win0_0.index t = ![t.val / 4, 0] ∧ win0_1.index t = ![0, t.val % 4] ∧ win0_2.index t = ![t.val / 4, t.val % 4]
    ∧ win0_3.index t = ![t.val / 4, t.val % 4] :=
  (by decide +kernel : ∀ t : Fin grid0.N, _)
theorem point_lt (t : Fin cfg0.N) : t.val < 16 := lt_of_lt_of_eq t.isLt N_0

theorem iblk_a (t : Fin cfg0.N) (r : Fin 1024) (k : Fin 5632) :
    iblk m c 0 t (ix2 r k) = m ((c : Thread nD τ).loc main_arg0) (ix2 (tileRow (point_lt t) r) k) := by
  blk_point [iblk, V, idx t, tileRow_val]
theorem iblk_w (t : Fin cfg0.N) (k : Fin 5632) (j : Fin 512) :
    iblk m c 1 t (ix2 k j) = m ((c : Thread nD τ).loc main_arg1) (ix2 k (tileCol (point_lt t) j)) := by
  blk_point [iblk, V, idx t, tileCol_val]
theorem iblk_x (t : Fin cfg0.N) (r : Fin 1024) (j : Fin 512) :
    iblk m c 2 t (ix2 r j) = m ((c : Thread nD τ).loc main_arg2) (ix2 (tileRow (point_lt t) r) (tileCol (point_lt t) j)) := by
  blk_point [iblk, V, idx t, tileRow_val, tileCol_val]

/-- The arrays the kernel is given. -/
abbrev aA : FVec Ideal S4096x5632 .bf16 := m ((c : Thread nD τ).loc main_arg0)
abbrev aW : FVec Ideal S5632x2048 .bf16 := m ((c : Thread nD τ).loc main_arg1)
abbrev aX : FVec Ideal S4096x2048 .f32 := m ((c : Thread nD τ).loc main_arg2)

/-- What a point computes. -/
theorem point (t : Fin cfg0.N) (r : Fin 1024) (j : Fin 512) :
    k0_pay1 (iblk m c 0 t) (iblk m c 1 t) (iblk m c 2 t) (ix2 r j) = out (aA m c) (aW m c) (aX m c) (tileRow (point_lt t) r) (tileCol (point_lt t) j) := by
  refine (block _ _ _ r j).trans ?_
  simp only [iblk_a, iblk_w, iblk_x]
  rfl

/-- The array the kernel leaves. -/
theorem final : (dats m 0 c).arrAt 3 (cfgs 0).N = fun i : S4096x2048.Idx => out (aA m c) (aW m c) (aX m c) (i 0) (i 1) := by
  refine (dats m 0 c).arrAt_eq_of_covers 3 _ (by decide +kernel) fun t _ y => ?_
  blk_simp
  rw [after0_3]
  frame_out
  idx_vars y
  refine (point m c t y0 y1).trans ?_
  refine congrArg₂ (out (aA m c) (aW m c) (aX m c)) (Fin.ext ?_) (Fin.ext ?_)
  all_goals simp [idx t, tileRow_val, tileCol_val]
end

section
open Cert.Reference8Ideal Cert.Reference8Ideal.Gen Cert.Reference8Ideal.Read

/-- The reference's array. -/
theorem ref (a : FVec Ideal S4096x5632 .bf16) (w : FVec Ideal S5632x2048 .bf16) (x : FVec Ideal S4096x2048 .f32) :
    val_main_v3 (F := Ideal) a w x = fun i : S4096x2048.Idx => out a w x (i 0) (i 1) := by
  funext i
  idx_vars i
  pointwise [val_main_v3, val_main_v2, val_main_v1, val_main_v0]
  rfl
end

end Cert.Products.Down

end
-- ==== Proof.Products.Down.Claims.lean ====
/- The claims about the down product with its residual: frames, and the equality with the reference on any arrays. -/
module

public import proofs.«01_k».proof.Defs
public import proofs.«01_k».proof.Proof.Gen.Kernel8.Frame
public import proofs.«01_k».proof.Proof.Gen.Reference8Ideal.Run
public import proofs.«01_k».proof.Proof.Products.Down
public import Idealize.ShloMosaic.Lib.Quiescent

@[expose] public section

set_option maxRecDepth 16384

noncomputable section

namespace Cert.Products.Down

open Idealize.ShloMosaic Idealize.ShloMosaic.TcCoe Idealize.SL.Sem

theorem quiescent : quiescent_Kernel8 (hKernel8 := Cert.Kernel8.Gen.facts) :=
  fun m ρ _ => Cert.Kernel8.Gen.frame m ρ
theorem quiescent_ideal : quiescent_Kernel8Ideal (hKernel8Ideal := Cert.Kernel8Ideal.Gen.facts) :=
  fun m ρ _ => Cert.Kernel8Ideal.Gen.frame m ρ

section
open Cert.Reference8Ideal Cert.Reference8Ideal.Gen

/-- The reference ends with its arguments unchanged and every counter at zero. -/
theorem reference_frame (m : (ℓ : Loc nD τ sig) → Buf (Elt Ideal) ℓ) (ρ : Dev nD → PrngReg) :
    θ_run (defs (F := Ideal)) (onTc (τ := τ) (main (F := Ideal))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
      ∧ r.2.sem = fun _ => 0 :=
  (θ_run defs _ _).mono (fun r h => ⟨fun c => (h c).2, sem_eq_zero_of_no_sems (by decide) r.2⟩)
    (Cert.Reference8Ideal.Value.run (F := Ideal) m ρ)
end

theorem quiescent_ref : quiescent_Reference8Ideal (hReference8Ideal := Cert.Reference8Ideal.Gen.facts) :=
  fun m ρ _ => reference_frame m ρ

/-- The kernel computes what the reference computes. -/
theorem equal : algebraic_Kernel8Ideal_Reference8Ideal
    (hKernel8Ideal := Cert.Kernel8Ideal.Gen.facts) (hReference8Ideal := Cert.Reference8Ideal.Gen.facts) := by
  intro m ρ m' ρ' _ hagree
  refine ⟨_, Cert.Kernel8Ideal.Value.run_blocks m ρ, (θ_run _ _ _).mono (fun r h c => ?_)
    (Cert.Reference8Ideal.Value.run (F := Ideal) m' ρ')⟩
  obtain ⟨h0, hargs⟩ := h c
  obtain ⟨a0, a1, a2⟩ := hagree c
  refine ⟨h0.trans ?_, hargs⟩
  rw [Cert.Reference8Ideal.Read.val_main_v3_eq, a0, a1, a2]
  exact (ref _ _ _ ).trans (final m c).symm

end Cert.Products.Down

end
-- ==== Proof.Products.In.lean ====
/- The product with the transposed input weight, and its reference: what a grid point computes, the array the kernel leaves, and the reference read at an index, on any arrays. -/
module

public import proofs.«01_k».proof.Proof.Gen.Kernel9Ideal.Value
public import proofs.«01_k».proof.Proof.Gen.Reference9Ideal.Read
public import proofs.«01_k».proof.Proof.Products.Tiles
public import Idealize.ShloMosaic.Lib.Pipeline.ValueKit

@[expose] public section

set_option maxRecDepth 16384

noncomputable section

namespace Cert.Products.In

open Cert.Products
open Idealize.ShloMosaic Idealize.ShloMosaic.TcCoe Idealize.SL.Sem
open Idealize.ShloMosaic.Pipeline (Dat)

/-- An entry of the product with the transpose. -/
def out (a : (⟨2, ![4096, 5120]⟩ : Shape).Idx → EReal) (w : (⟨2, ![2048, 5120]⟩ : Shape).Idx → EReal) (r : Fin 4096) (j : Fin 2048) : EReal :=
  ∑ k : Fin 5120, a (ix2 r k) * w (ix2 j k)

section
open Cert.Kernel9Ideal Cert.Kernel9Ideal.Gen

theorem block (a : Vec Ideal S1024x5120 .bf16) (w : Vec Ideal S512x5120 .bf16) (r : Fin 1024) (j : Fin 512) :
    k0_pay1 a w (ix2 r j) = ∑ k : Fin 5120, a (ix2 r k) * w (ix2 j k) := by
  pointwise [k0_pay1]

variable (m : (ℓ : Loc nD τ sig) → Buf (Elt Ideal) ℓ) (c : Dev nD)

/-- The block each window is on at each grid point. -/
theorem idx : ∀ t : Fin cfg0.N, win0_0.index t = ![t.val / 4, 0] ∧ win0_1.index t = ![t.val % 4, 0] ∧ win0_2.index t = ![t.val / 4, t.val % 4] :=
  (by decide +kernel : ∀ t : Fin grid0.N, _)
theorem point_lt (t : Fin cfg0.N) : t.val < 16 := lt_of_lt_of_eq t.isLt N_0

theorem iblk_a (t : Fin cfg0.N) (r : Fin 1024) (k : Fin 5120) :
    iblk m c 0 t (ix2 r k) = m ((c : Thread nD τ).loc main_arg0) (ix2 (tileRow (point_lt t) r) k) := by
  blk_point [iblk, V, idx t, tileRow_val]
theorem iblk_w (t : Fin cfg0.N) (j : Fin 512) (k : Fin 5120) :
    iblk m c 1 t (ix2 j k) = m ((c : Thread nD τ).loc main_arg1) (ix2 (tileCol (point_lt t) j) k) := by
  blk_point [iblk, V, idx t, tileCol_val]

/-- The arrays the kernel is given. -/
abbrev aA : FVec Ideal S4096x5120 .bf16 := m ((c : Thread nD τ).loc main_arg0)
abbrev aW : FVec Ideal S2048x5120 .bf16 := m ((c : Thread nD τ).loc main_arg1)

/-- What a point computes. -/
theorem point (t : Fin cfg0.N) (r : Fin 1024) (j : Fin 512) :
    k0_pay1 (iblk m c 0 t) (iblk m c 1 t) (ix2 r j) = out (aA m c) (aW m c) (tileRow (point_lt t) r) (tileCol (point_lt t) j) := by
  refine (block _ _ r j).trans ?_
  simp only [iblk_a, iblk_w]
  rfl

/-- The array the kernel leaves. -/
theorem final : (dats m 0 c).arrAt 2 (cfgs 0).N = fun i : S4096x2048.Idx => out (aA m c) (aW m c) (i 0) (i 1) := by
  refine (dats m 0 c).arrAt_eq_of_covers 2 _ (by decide +kernel) fun t _ y => ?_
  blk_simp
  rw [after0_2]
  frame_out
  idx_vars y
  refine (point m c t y0 y1).trans ?_
  refine congrArg₂ (out (aA m c) (aW m c)) (Fin.ext ?_) (Fin.ext ?_)
  all_goals simp [idx t, tileRow_val, tileCol_val]
end

section
open Cert.Reference9Ideal Cert.Reference9Ideal.Gen Cert.Reference9Ideal.Read

/-- The reference's array. -/
theorem ref (a : FVec Ideal S4096x5120 .bf16) (w : FVec Ideal S2048x5120 .bf16) :
    val_main_v3 (F := Ideal) a w = fun i : S4096x2048.Idx => out a w (i 0) (i 1) := by
  funext i
  idx_vars i
  pointwise [val_main_v3, val_main_v2, val_main_v1, val_main_v0]
  rfl
end

end Cert.Products.In

end
-- ==== Proof.Products.In.Claims.lean ====
/- The claims about the product with the transposed input weight: frames, and the equality with the reference on any arrays. -/
module

public import proofs.«01_k».proof.Defs
public import proofs.«01_k».proof.Proof.Gen.Kernel9.Frame
public import proofs.«01_k».proof.Proof.Gen.Reference9Ideal.Run
public import proofs.«01_k».proof.Proof.Products.In
public import Idealize.ShloMosaic.Lib.Quiescent

@[expose] public section

set_option maxRecDepth 16384

noncomputable section

namespace Cert.Products.In

open Idealize.ShloMosaic Idealize.ShloMosaic.TcCoe Idealize.SL.Sem

theorem quiescent : quiescent_Kernel9 (hKernel9 := Cert.Kernel9.Gen.facts) :=
  fun m ρ _ => Cert.Kernel9.Gen.frame m ρ
theorem quiescent_ideal : quiescent_Kernel9Ideal (hKernel9Ideal := Cert.Kernel9Ideal.Gen.facts) :=
  fun m ρ _ => Cert.Kernel9Ideal.Gen.frame m ρ

section
open Cert.Reference9Ideal Cert.Reference9Ideal.Gen

/-- The reference ends with its arguments unchanged and every counter at zero. -/
theorem reference_frame (m : (ℓ : Loc nD τ sig) → Buf (Elt Ideal) ℓ) (ρ : Dev nD → PrngReg) :
    θ_run (defs (F := Ideal)) (onTc (τ := τ) (main (F := Ideal))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  (θ_run defs _ _).mono (fun r h => ⟨fun c => (h c).2, sem_eq_zero_of_no_sems (by decide) r.2⟩)
    (Cert.Reference9Ideal.Value.run (F := Ideal) m ρ)
end

theorem quiescent_ref : quiescent_Reference9Ideal (hReference9Ideal := Cert.Reference9Ideal.Gen.facts) :=
  fun m ρ _ => reference_frame m ρ

/-- The kernel computes what the reference computes. -/
theorem equal : algebraic_Kernel9Ideal_Reference9Ideal
    (hKernel9Ideal := Cert.Kernel9Ideal.Gen.facts) (hReference9Ideal := Cert.Reference9Ideal.Gen.facts) := by
  intro m ρ m' ρ' _ hagree
  refine ⟨_, Cert.Kernel9Ideal.Value.run_blocks m ρ, (θ_run _ _ _).mono (fun r h c => ?_)
    (Cert.Reference9Ideal.Value.run (F := Ideal) m' ρ')⟩
  obtain ⟨h0, hargs⟩ := h c
  obtain ⟨a0, a1⟩ := hagree c
  refine ⟨h0.trans ?_, hargs⟩
  rw [Cert.Reference9Ideal.Read.val_main_v3_eq, a0, a1]
  exact (ref _ _ ).trans (final m c).symm

end Cert.Products.In

end
-- ==== Proof.Products.Pair.lean ====
/- The products that give the gradients of the gate and up weights, stacked, and their reference: what a grid point computes, the array the kernel leaves, and the reference read at an index, on any arrays. -/
module

public import proofs.«01_k».proof.Proof.Gen.Kernel10Ideal.Value
public import proofs.«01_k».proof.Proof.Gen.Reference10Ideal.Read
public import Idealize.ShloMosaic.Lib.Pipeline.ValueKit

@[expose] public section

set_option maxRecDepth 16384

noncomputable section

namespace Cert.Products.Pair

open Idealize.ShloMosaic Idealize.ShloMosaic.TcCoe Idealize.SL.Sem
open Idealize.ShloMosaic.Pipeline (Dat)

/-- The product of the transposed rows with one gradient. -/
def prod (h : (⟨2, ![4096, 2048]⟩ : Shape).Idx → EReal) (d : (⟨2, ![4096, 5632]⟩ : Shape).Idx → EReal) (r : Fin 2048) (j : Fin 5632) : EReal :=
  ∑ s : Fin 4096, h (ix2 s r) * d (ix2 s j)

/-- The two products side by side. -/
def out (h : (⟨2, ![4096, 2048]⟩ : Shape).Idx → EReal) (g u : (⟨2, ![4096, 5632]⟩ : Shape).Idx → EReal) (r : Fin 2048) (j : Fin 11264) : EReal :=
  if hj : j.val < 5632 then prod h g r ⟨j.val, hj⟩ else prod h u r ⟨j.val - 5632, by omega⟩

section
open Cert.Kernel10Ideal Cert.Kernel10Ideal.Gen

theorem block (h : Vec Ideal S4096x1024 .bf16) (d : Vec Ideal S1x4096x512 .bf16) (r : Fin 1024) (j : Fin 512) :
    k0_pay1 h d (ix2 r j) = ∑ s : Fin 4096, h (ix2 s r) * d (ix3 0 s j) := by
  pointwise [k0_pay1]

variable (m : (ℓ : Loc nD τ sig) → Buf (Elt Ideal) ℓ) (c : Dev nD)

/-- The block each window is on at each grid point. -/
theorem idx : ∀ t : Fin cfg0.N, win0_0.index t = ![0, t.val / 22] ∧ win0_1.index t = ![t.val % 22 / 11, 0, t.val % 22 % 11]
    ∧ win0_2.index t = ![t.val / 22, t.val % 22] :=
  (by decide +kernel : ∀ t : Fin grid0.N, _)
theorem point_lt (t : Fin cfg0.N) : t.val < 44 := lt_of_lt_of_eq t.isLt N_0

/-- The row of the weights that is row `r` of the point's block. -/
def row {t : ℕ} (h : t < 44) (r : Fin 1024) : Fin 2048 := ⟨t / 22 * 1024 + r.val, by omega⟩
/-- The column of the two weights side by side that is column `j` of the point's block. -/
def col (t : ℕ) (j : Fin 512) : Fin 11264 := ⟨t % 22 * 512 + j.val, by omega⟩
/-- The same column within its weight. -/
def inner (t : ℕ) (j : Fin 512) : Fin 5632 := ⟨t % 22 % 11 * 512 + j.val, by omega⟩
theorem row_val {t : ℕ} (h : t < 44) (r : Fin 1024) : (row h r).val = t / 22 * 1024 + r.val := rfl
theorem col_val (t : ℕ) (j : Fin 512) : (col t j).val = t % 22 * 512 + j.val := rfl
theorem inner_val (t : ℕ) (j : Fin 512) : (inner t j).val = t % 22 % 11 * 512 + j.val := rfl

/-- The arrays the kernel is given. -/
abbrev aH : FVec Ideal S4096x2048 .bf16 := m ((c : Thread nD τ).loc main_arg0)
abbrev aG : FVec Ideal S4096x5632 .bf16 := m ((c : Thread nD τ).loc main_arg1)
abbrev aU : FVec Ideal S4096x5632 .bf16 := m ((c : Thread nD τ).loc main_arg2)

theorem iblk_h (t : Fin cfg0.N) (s : Fin 4096) (r : Fin 1024) : iblk m c 0 t (ix2 s r) = aH m c (ix2 s (row (point_lt t) r)) := by
  blk_point [iblk, V, idx t, row_val]

/-- The stack of the two gradients as the kernel is handed it. -/
theorem stack (q : Fin 2) (s : Fin 4096) (j : Fin 5632) :
    V m c main_v2 (ix3 q s j) = if q.val = 0 then aG m c (ix2 s j) else aU m c (ix2 s j) := by
  entry_read
  pointwise []
  fin_cases q <;> rfl

theorem iblk_d (t : Fin cfg0.N) (s : Fin 4096) (j : Fin 512) :
    iblk m c 1 t (ix3 0 s j) = if t.val % 22 / 11 = 0 then aG m c (ix2 s (inner t.val j)) else aU m c (ix2 s (inner t.val j)) := by
  refine Eq.trans ?_ (stack m c ⟨t.val % 22 / 11, by omega⟩ s (inner t.val j))
  blk_point [iblk, idx t, inner_val]

/-- What a point computes. -/
theorem point (t : Fin cfg0.N) (r : Fin 1024) (j : Fin 512) :
    k0_pay1 (iblk m c 0 t) (iblk m c 1 t) (ix2 r j) = out (aH m c) (aG m c) (aU m c) (row (point_lt t) r) (col t.val j) := by
  refine (block _ _ r j).trans ?_
  simp only [iblk_h, iblk_d]
  have hj := j.isLt
  by_cases h : t.val % 22 < 11
  · have h0 : t.val % 22 / 11 = 0 := by omega
    have hc : (col t.val j).val < 5632 := by rw [col_val]; omega
    rw [out, dif_pos hc, show (⟨(col t.val j).val, hc⟩ : Fin 5632) = inner t.val j from Fin.ext (by simp only [col_val, inner_val]; omega)]
    simp only [if_pos h0]
    rfl
  · have h0 : ¬ t.val % 22 / 11 = 0 := by omega
    have hc : ¬ (col t.val j).val < 5632 := by rw [col_val]; omega
    rw [out, dif_neg hc, show (⟨(col t.val j).val - 5632, by omega⟩ : Fin 5632) = inner t.val j from Fin.ext (by simp only [col_val, inner_val]; omega)]
    simp only [if_neg h0]
    rfl

/-- The array the kernel leaves. -/
theorem final : (dats m 0 c).arrAt 2 (cfgs 0).N = fun i : S2048x11264.Idx => out (aH m c) (aG m c) (aU m c) (i 0) (i 1) := by
  refine (dats m 0 c).arrAt_eq_of_covers 2 _ (by decide +kernel) fun t _ y => ?_
  blk_simp
  rw [after0_2]
  frame_out
  idx_vars y
  refine (point m c t y0 y1).trans ?_
  refine congrArg₂ (out (aH m c) (aG m c) (aU m c)) (Fin.ext ?_) (Fin.ext ?_)
  all_goals simp [idx t, row_val, col_val]
end

section
open Cert.Reference10Ideal Cert.Reference10Ideal.Gen Cert.Reference10Ideal.Read

/-- The reference's array. -/
theorem ref (h : FVec Ideal S4096x2048 .bf16) (g u : FVec Ideal S4096x5632 .bf16) :
    val_main_v8 (F := Ideal) h g u = fun i : S2048x11264.Idx => out h g u (i 0) (i 1) := by
  funext i
  idx_vars i
  pointwise [val_main_v8, val_main_v7, val_main_v6, val_main_v5, val_main_v4, val_main_v3, val_main_v2, val_main_v1, val_main_v0]
  rfl
end

end Cert.Products.Pair

end
-- ==== Proof.Products.Pair.Claims.lean ====
/- The claims about the gradients of the gate and up weights: frames, and the equality with the reference on any arrays. -/
module

public import proofs.«01_k».proof.Defs
public import proofs.«01_k».proof.Proof.Gen.Kernel10.Frame
public import proofs.«01_k».proof.Proof.Gen.Reference10Ideal.Run
public import proofs.«01_k».proof.Proof.Products.Pair
public import Idealize.ShloMosaic.Lib.Quiescent

@[expose] public section

set_option maxRecDepth 16384

noncomputable section

namespace Cert.Products.Pair

open Idealize.ShloMosaic Idealize.ShloMosaic.TcCoe Idealize.SL.Sem

theorem quiescent : quiescent_Kernel10 (hKernel10 := Cert.Kernel10.Gen.facts) :=
  fun m ρ _ => Cert.Kernel10.Gen.frame m ρ
theorem quiescent_ideal : quiescent_Kernel10Ideal (hKernel10Ideal := Cert.Kernel10Ideal.Gen.facts) :=
  fun m ρ _ => Cert.Kernel10Ideal.Gen.frame m ρ

section
open Cert.Reference10Ideal Cert.Reference10Ideal.Gen

/-- The reference ends with its arguments unchanged and every counter at zero. -/
theorem reference_frame (m : (ℓ : Loc nD τ sig) → Buf (Elt Ideal) ℓ) (ρ : Dev nD → PrngReg) :
    θ_run (defs (F := Ideal)) (onTc (τ := τ) (main (F := Ideal))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
      ∧ r.2.sem = fun _ => 0 :=
  (θ_run defs _ _).mono (fun r h => ⟨fun c => (h c).2, sem_eq_zero_of_no_sems (by decide) r.2⟩)
    (Cert.Reference10Ideal.Value.run (F := Ideal) m ρ)
end

theorem quiescent_ref : quiescent_Reference10Ideal (hReference10Ideal := Cert.Reference10Ideal.Gen.facts) :=
  fun m ρ _ => reference_frame m ρ

/-- The kernel computes what the reference computes. -/
theorem equal : algebraic_Kernel10Ideal_Reference10Ideal
    (hKernel10Ideal := Cert.Kernel10Ideal.Gen.facts) (hReference10Ideal := Cert.Reference10Ideal.Gen.facts) := by
  intro m ρ m' ρ' _ hagree
  refine ⟨_, Cert.Kernel10Ideal.Value.run_blocks m ρ, (θ_run _ _ _).mono (fun r h c => ?_)
    (Cert.Reference10Ideal.Value.run (F := Ideal) m' ρ')⟩
  obtain ⟨h0, hargs⟩ := h c
  obtain ⟨a0, a1, a2⟩ := hagree c
  refine ⟨h0.trans ?_, hargs⟩
  rw [Cert.Reference10Ideal.Read.val_main_v8_eq, a0, a1, a2]
  exact (ref _ _ _ ).trans (final m c).symm

end Cert.Products.Pair

end
-- ==== Proof.Products.BackGu.lean ====
/- The products of the gate and up gradients with the transposed weights, added up over four grid points, and their reference: what a grid point adds, the array the kernel leaves, and the reference read at an index, on any arrays. -/
module

public import proofs.«01_k».proof.Proof.Gen.Kernel11Ideal.Value
public import proofs.«01_k».proof.Proof.Gen.Reference11Ideal.Read
public import Idealize.ShloMosaic.Lib.Pipeline.ValueKit

@[expose] public section

set_option maxRecDepth 16384

noncomputable section

namespace Cert.Products.BackGu

open Idealize.ShloMosaic Idealize.ShloMosaic.TcCoe Idealize.SL.Sem
open Idealize.ShloMosaic.Pipeline (Dat)

/-- One of the two products with a transpose. -/
def prod (d : (⟨2, ![4096, 5632]⟩ : Shape).Idx → EReal) (w : (⟨2, ![2048, 5632]⟩ : Shape).Idx → EReal) (r : Fin 4096) (j : Fin 2048) : EReal :=
  ∑ k : Fin 5632, d (ix2 r k) * w (ix2 j k)

/-- Column `k` of the first or second half of the 5632 columns. -/
def half (p : ℕ) (k : Fin 2816) : Fin 5632 := ⟨p % 2 * 2816 + k.val, by omega⟩
theorem half_val (p : ℕ) (k : Fin 2816) : (half p k).val = p % 2 * 2816 + k.val := rfl

/-- Half of a product's sum. -/
def part (p : ℕ) (d : (⟨2, ![4096, 5632]⟩ : Shape).Idx → EReal) (w : (⟨2, ![2048, 5632]⟩ : Shape).Idx → EReal) (r : Fin 4096) (j : Fin 2048) : EReal :=
  ∑ k : Fin 2816, d (ix2 r (half p k)) * w (ix2 j (half p k))

/-- A product is the sum of its halves. -/
theorem prod_eq (d : (⟨2, ![4096, 5632]⟩ : Shape).Idx → EReal) (w : (⟨2, ![2048, 5632]⟩ : Shape).Idx → EReal) (r : Fin 4096) (j : Fin 2048) :
    prod d w r j = part 0 d w r j + part 1 d w r j := by
  have key (f : Fin (2816 + 2816) → EReal) : ∑ k, f k = (∑ k : Fin 2816, f (half 0 k)) + ∑ k : Fin 2816, f (half 1 k) := by
    rw [Fin.sum_univ_add]
    exact congrArg₂ (· + ·) (Finset.sum_congr rfl fun k _ => congrArg f (Fin.ext (by simp [half])))
      (Finset.sum_congr rfl fun k _ => congrArg f (Fin.ext (by simp [half, Nat.add_comm])))
  exact key fun k => d (ix2 r k) * w (ix2 j k)

section
open Cert.Kernel11Ideal Cert.Kernel11Ideal.Gen

theorem block (d : Vec Ideal S1x1024x2816 .bf16) (w : Vec Ideal S1024x2816 .bf16) (r j : Fin 1024) :
    k0_pay1 d w (ix2 r j) = ∑ k : Fin 2816, d (ix3 0 r k) * w (ix2 j k) := by
  pointwise [k0_pay1]
theorem start_pay (d : Vec Ideal S1x1024x2816 .bf16) (w : Vec Ideal S1024x2816 .bf16) (r j : Fin 1024) :
    k0_pay2 d w (ix2 r j) = k0_pay1 d w (ix2 r j) := by
  pointwise [k0_pay2]
theorem add_pay (d : Vec Ideal S1x1024x2816 .bf16) (w : Vec Ideal S1024x2816 .bf16) (a : Vec Ideal S1024x1024 .f32) (r j : Fin 1024) :
    k0_pay3 d w a (ix2 r j) = a (ix2 r j) + k0_pay1 d w (ix2 r j) := by
  pointwise [k0_pay3]
theorem last_pay (d : Vec Ideal S1x1024x2816 .bf16) (w : Vec Ideal S1024x2816 .bf16) (a : Vec Ideal S1024x1024 .f32) (r j : Fin 1024) :
    k0_pay4 d w a (ix2 r j) = a (ix2 r j) + k0_pay1 d w (ix2 r j) := by
  pointwise [k0_pay4]

variable (m : (ℓ : Loc nD τ sig) → Buf (Elt Ideal) ℓ) (c : Dev nD)

/-- The block each window is on at each grid point. -/
theorem idx : ∀ t : Fin cfg0.N, win0_0.index t = ![t.val % 4 / 2, t.val / 8, t.val % 4 % 2] ∧ win0_1.index t = ![t.val % 8 / 4, t.val % 4]
    ∧ win0_2.index t = ![t.val / 8, t.val % 8 / 4] :=
  (by decide +kernel : ∀ t : Fin grid0.N, _)
/-- A block is written back at the last of its four points. -/
theorem flush_last : ∀ t : Fin cfg0.N, (cfg0.win 2).flush t = true → t.val % 4 = 3 :=
  (by decide +kernel : ∀ t : Fin grid0.N, _)
theorem point_lt (t : Fin cfg0.N) : t.val < 32 := lt_of_lt_of_eq t.isLt N_0

/-- The rows and columns of the result a point's block holds. -/
def row {t : ℕ} (h : t < 32) (r : Fin 1024) : Fin 4096 := ⟨t / 8 * 1024 + r.val, by omega⟩
def col (t : ℕ) (j : Fin 1024) : Fin 2048 := ⟨t % 8 / 4 * 1024 + j.val, by omega⟩
theorem row_val {t : ℕ} (h : t < 32) (r : Fin 1024) : (row h r).val = t / 8 * 1024 + r.val := rfl
theorem col_val (t : ℕ) (j : Fin 1024) : (col t j).val = t % 8 / 4 * 1024 + j.val := rfl

/-- The arrays the kernel is given. -/
abbrev aG : FVec Ideal S4096x5632 .bf16 := m ((c : Thread nD τ).loc main_arg0)
abbrev aU : FVec Ideal S4096x5632 .bf16 := m ((c : Thread nD τ).loc main_arg1)
abbrev aWg : FVec Ideal S2048x5632 .bf16 := m ((c : Thread nD τ).loc main_arg2)
abbrev aWu : FVec Ideal S2048x5632 .bf16 := m ((c : Thread nD τ).loc main_arg3)

/-- The stack of the two gradients as the kernel is handed it. -/
theorem stack (q : Fin 2) (r : Fin 4096) (k : Fin 5632) :
    V m c main_v2 (ix3 q r k) = if q.val = 0 then aG m c (ix2 r k) else aU m c (ix2 r k) := by
  entry_read
  pointwise []
  fin_cases q <;> rfl

/-- The two weights side by side as the kernel is handed them. -/
theorem beside (j : Fin 2048) (k : Fin 11264) :
    V m c main_v3 (ix2 j k) = if h : k.val < 5632 then aWg m c (ix2 j ⟨k.val, h⟩) else aWu m c (ix2 j ⟨k.val - 5632, by omega⟩) := by
  entry_read
  pointwise []

theorem iblk_d (t : Fin cfg0.N) (r : Fin 1024) (k : Fin 2816) : iblk m c 0 t (ix3 0 r k)
    = if t.val % 4 / 2 = 0 then aG m c (ix2 (row (point_lt t) r) (half t.val k)) else aU m c (ix2 (row (point_lt t) r) (half t.val k)) := by
  refine Eq.trans ?_ (stack m c ⟨t.val % 4 / 2, by omega⟩ (row (point_lt t) r) (half t.val k))
  blk_point [iblk, idx t, row_val, half_val]
theorem iblk_w (t : Fin cfg0.N) (j : Fin 1024) (k : Fin 2816) : iblk m c 1 t (ix2 j k)
    = if t.val % 4 / 2 = 0 then aWg m c (ix2 (col t.val j) (half t.val k)) else aWu m c (ix2 (col t.val j) (half t.val k)) := by
  have hk := k.isLt
  refine Eq.trans (b := V m c main_v3 (ix2 (col t.val j) ⟨t.val % 4 * 2816 + k.val, by omega⟩)) ?_ ((beside m c _ _).trans ?_)
  · blk_point [iblk, idx t, col_val]
  · by_cases h : t.val % 4 / 2 = 0
    · rw [dif_pos (by dsimp only; omega), if_pos h]
      exact congrArg (fun q => aWg m c (ix2 (col t.val j) q)) (Fin.ext (by simp only [half_val]; omega))
    · rw [dif_neg (by dsimp only; omega), if_neg h]
      exact congrArg (fun q => aWu m c (ix2 (col t.val j) q)) (Fin.ext (by simp only [half_val]; omega))

/-- What a point adds: half of the gate's product at the first two of its four points, half of the up product at the last two. -/
theorem adds (t : Fin cfg0.N) (r j : Fin 1024) : k0_pay1 (iblk m c 0 t) (iblk m c 1 t) (ix2 r j)
    = if t.val % 4 / 2 = 0 then part t.val (aG m c) (aWg m c) (row (point_lt t) r) (col t.val j)
      else part t.val (aU m c) (aWu m c) (row (point_lt t) r) (col t.val j) := by
  refine (block _ _ r j).trans ?_
  simp only [iblk_d, iblk_w]
  by_cases h : t.val % 4 / 2 = 0
  · simp only [if_pos h]; rfl
  · simp only [if_neg h]; rfl

/-- The sum a point leaves in the accumulator: what it adds, at the first of four points; over what was there, at the next two. -/
theorem acc_first (t : Fin cfg0.N) (h : t.val % 4 = 0) (r j : Fin 1024) :
    (outsAt0 m c t.val t.isLt).2 (ix2 r j) = k0_pay1 (iblk m c 0 t) (iblk m c 1 t) (ix2 r j) := by
  refine Eq.trans ?_ (start_pay _ _ r j)
  rw [outsAt0_A m c t h (by omega) (by omega)]; frame_out
theorem acc_next (t : Fin cfg0.N) (h : 1 ≤ t.val % 4 ∧ t.val % 4 ≤ 2) (r j : Fin 1024) :
    (outsAt0 m c t.val t.isLt).2 (ix2 r j)
      = (outsAt0 m c (t.val - 1) (Nat.lt_of_le_of_lt (Nat.sub_le _ _) t.isLt)).2 (ix2 r j) + k0_pay1 (iblk m c 0 t) (iblk m c 1 t) (ix2 r j) := by
  refine Eq.trans ?_ (add_pay _ _ _ r j)
  rw [outsAt0_B m c t (by omega) h (by omega)]; frame_out
  exact congrArg (fun v => k0_pay3 (iblk m c 0 t) (iblk m c 1 t) v (ix2 r j)) (Memref.IsWhole.read_unread _ _)
/-- What the last of four points writes. -/
theorem written (t : Fin cfg0.N) (h : t.val % 4 = 3) (r j : Fin 1024) :
    (outsAt0 m c t.val t.isLt).1 (ix2 r j)
      = (outsAt0 m c (t.val - 1) (Nat.lt_of_le_of_lt (Nat.sub_le _ _) t.isLt)).2 (ix2 r j) + k0_pay1 (iblk m c 0 t) (iblk m c 1 t) (ix2 r j) := by
  refine Eq.trans ?_ (last_pay _ _ _ r j)
  rw [outsAt0_C m c t (by omega) (by omega) h]; frame_out
  exact congrArg (fun v => k0_pay4 (iblk m c 0 t) (iblk m c 1 t) v (ix2 r j)) (Memref.IsWhole.read_unread _ _)

/-- The two products added. -/
def out (g u : (⟨2, ![4096, 5632]⟩ : Shape).Idx → EReal) (wg wu : (⟨2, ![2048, 5632]⟩ : Shape).Idx → EReal) (r : Fin 4096) (j : Fin 2048) : EReal :=
  prod g wg r j + prod u wu r j

/-- What a point adds, by its place among the four of its block. -/
theorem adds_at (n q : ℕ) (hq : q < 4) (hn : 4 * n + q < cfg0.N) (r j : Fin 1024) (hr : 4 * n < 32) :
    k0_pay1 (iblk m c 0 ⟨4 * n + q, hn⟩) (iblk m c 1 ⟨4 * n + q, hn⟩) (ix2 r j)
      = if q / 2 = 0 then part q (aG m c) (aWg m c) (row hr r) (col (4 * n) j) else part q (aU m c) (aWu m c) (row hr r) (col (4 * n) j) := by
  refine (adds m c ⟨4 * n + q, hn⟩ r j).trans ?_
  have e1 : (4 * n + q) % 4 = q := by omega
  have e2 : row (point_lt ⟨4 * n + q, hn⟩) r = row hr r := Fin.ext (by simp only [row_val]; omega)
  have e3 : col (4 * n + q) j = col (4 * n) j := Fin.ext (by simp only [col_val]; omega)
  have e4 : ∀ k, half (4 * n + q) k = half q k := fun k => Fin.ext (by simp only [half_val]; omega)
  simp only [part, e1, e2, e3, e4]

/-- What the last point of a block writes is the two products. -/
theorem point (n : ℕ) (hn : 4 * n + 3 < cfg0.N) (r j : Fin 1024) (hr : 4 * n < 32) :
    (outsAt0 m c (4 * n + 3) hn).1 (ix2 r j) = out (aG m c) (aU m c) (aWg m c) (aWu m c) (row hr r) (col (4 * n) j) := by
  refine (written m c ⟨4 * n + 3, hn⟩ (by dsimp only; omega) r j).trans ?_
  refine (congrArg₂ (· + ·) ((acc_next m c ⟨4 * n + 2, by omega⟩ (by dsimp only; omega) r j).trans (congrArg₂ (· + ·)
    ((acc_next m c ⟨4 * n + 1, by omega⟩ (by dsimp only; omega) r j).trans (congrArg₂ (· + ·)
      ((acc_first m c ⟨4 * n + 0, by omega⟩ (by dsimp only; omega) r j).trans (adds_at m c n 0 (by omega) _ r j hr))
      (adds_at m c n 1 (by omega) _ r j hr))) (adds_at m c n 2 (by omega) _ r j hr))) (adds_at m c n 3 (by omega) _ r j hr)).trans ?_
  rw [out, prod_eq, prod_eq, if_pos rfl, if_pos rfl, if_neg (by decide), if_neg (by decide)]
  exact add_assoc _ _ _

/-- The array the kernel leaves. -/
theorem final : (dats m 0 c).arrAt 2 (cfgs 0).N = fun i : S4096x2048.Idx => out (aG m c) (aU m c) (aWg m c) (aWu m c) (i 0) (i 1) := by
  refine (dats m 0 c).arrAt_eq_of_covers 2 _ (by decide +kernel) fun t hf y => ?_
  have h3 := flush_last t hf
  have ht := point_lt t
  blk_simp
  rw [after0_2]
  idx_vars y
  have e : t = ⟨4 * (t.val / 4) + 3, lt_of_eq_of_lt (by omega) t.isLt⟩ := Fin.ext (by dsimp only; omega)
  have key := point m c (t.val / 4) (lt_of_eq_of_lt (by omega) t.isLt) y0 y1 (by omega)
  refine Eq.trans ?_ (key.trans ?_)
  · exact congrArg (fun s : Fin cfg0.N => (outsAt0 m c s.val s.isLt).1 (ix2 y0 y1)) e
  refine congrArg₂ (out (aG m c) (aU m c) (aWg m c) (aWu m c)) (Fin.ext ?_) (Fin.ext ?_)
  all_goals simp [idx t, row_val, col_val]
  all_goals omega
end

section
open Cert.Reference11Ideal Cert.Reference11Ideal.Gen Cert.Reference11Ideal.Read

/-- The reference's array. -/
theorem ref (g u : FVec Ideal S4096x5632 .bf16) (wg wu : FVec Ideal S2048x5632 .bf16) :
    val_main_v7 (F := Ideal) g u wg wu = fun i : S4096x2048.Idx => out g u wg wu (i 0) (i 1) := by
  funext i
  idx_vars i
  pointwise [val_main_v7, val_main_v6, val_main_v5, val_main_v4, val_main_v3, val_main_v2, val_main_v1, val_main_v0]
  rfl
end

end Cert.Products.BackGu

end
-- ==== Proof.Products.BackGu.Claims.lean ====
/- The claims about the products of the gate and up gradients with the transposed weights: frames, and the equality with the reference on any arrays. -/
module

public import proofs.«01_k».proof.Defs
public import proofs.«01_k».proof.Proof.Gen.Kernel11.Frame
public import proofs.«01_k».proof.Proof.Gen.Reference11Ideal.Run
public import proofs.«01_k».proof.Proof.Products.BackGu
public import Idealize.ShloMosaic.Lib.Quiescent

@[expose] public section

set_option maxRecDepth 16384

noncomputable section

namespace Cert.Products.BackGu

open Idealize.ShloMosaic Idealize.ShloMosaic.TcCoe Idealize.SL.Sem

theorem quiescent : quiescent_Kernel11 (hKernel11 := Cert.Kernel11.Gen.facts) :=
  fun m ρ _ => Cert.Kernel11.Gen.frame m ρ
theorem quiescent_ideal : quiescent_Kernel11Ideal (hKernel11Ideal := Cert.Kernel11Ideal.Gen.facts) :=
  fun m ρ _ => Cert.Kernel11Ideal.Gen.frame m ρ

section
open Cert.Reference11Ideal Cert.Reference11Ideal.Gen

/-- The reference ends with its arguments unchanged and every counter at zero. -/
theorem reference_frame (m : (ℓ : Loc nD τ sig) → Buf (Elt Ideal) ℓ) (ρ : Dev nD → PrngReg) :
    θ_run (defs (F := Ideal)) (onTc (τ := τ) (main (F := Ideal))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
      ∧ r.2.sem = fun _ => 0 :=
  (θ_run defs _ _).mono (fun r h => ⟨fun c => (h c).2, sem_eq_zero_of_no_sems (by decide) r.2⟩)
    (Cert.Reference11Ideal.Value.run (F := Ideal) m ρ)
end

theorem quiescent_ref : quiescent_Reference11Ideal (hReference11Ideal := Cert.Reference11Ideal.Gen.facts) :=
  fun m ρ _ => reference_frame m ρ

/-- The kernel computes what the reference computes. -/
theorem equal : algebraic_Kernel11Ideal_Reference11Ideal
    (hKernel11Ideal := Cert.Kernel11Ideal.Gen.facts) (hReference11Ideal := Cert.Reference11Ideal.Gen.facts) := by
  intro m ρ m' ρ' _ hagree
  refine ⟨_, Cert.Kernel11Ideal.Value.run_blocks m ρ, (θ_run _ _ _).mono (fun r h c => ?_)
    (Cert.Reference11Ideal.Value.run (F := Ideal) m' ρ')⟩
  obtain ⟨h0, hargs⟩ := h c
  obtain ⟨a0, a1, a2, a3⟩ := hagree c
  refine ⟨h0.trans ?_, hargs⟩
  rw [Cert.Reference11Ideal.Read.val_main_v7_eq, a0, a1, a2, a3]
  exact (ref _ _ _ _ ).trans (final m c).symm

end Cert.Products.BackGu

end
-- ==== Proof.Adam.Value.lean ====
/- One layer's optimiser step, and its reference: the three updates, what a grid point writes, the arrays the kernel leaves (the other layer keeps what it held), and the reference read at an index, on any arrays. -/
module

public import proofs.«01_k».proof.Proof.Gen.Kernel12Ideal.Value
public import proofs.«01_k».proof.Proof.Gen.Reference12Ideal.Read
public import Idealize.ShloMosaic.Lib.Pipeline.ValueKit

@[expose] public section

set_option maxRecDepth 16384

noncomputable section

namespace Cert.Adam

open Idealize.ShloMosaic Idealize.ShloMosaic.TcCoe Idealize.SL.Sem
open Idealize.ShloMosaic.Pipeline (Dat)

/-- The real number an f32 word stands for. -/
abbrev word (b : BitVec 32) : EReal := Ideal.ofBits .f32 b

/-- The first moment after the step. -/
def moment1 (g m : EReal) : EReal := word 0x3F666666#32 * m + word 0x3DCCCCCD#32 * g
/-- The second moment after the step. -/
def moment2 (g v : EReal) : EReal := word 0x3F7FBE77#32 * v + word 0x3A83126F#32 * (g * g)
/-- What the step adds to a weight: the corrected moments' quotient and the weight decay. -/
def change (w g m v : EReal) : EReal :=
  word 0xBA83126F#32 * (Ideal.div (Ideal.div (moment1 g m) (word 0x3F26BD02#32))
    (Ideal.sqrt (Ideal.div (moment2 g v) (word 0x3C231ACC#32)) + word 0x322BCC77#32) + word 0x3C23D70A#32 * w)

/-- An array of two layers whose first is `new` and whose second is that of `old`. -/
def placed (new : Fin 2048 → Fin 1408 → EReal) (old : (⟨3, ![2, 2048, 1408]⟩ : Shape).Idx → EReal)
    (l : Fin 2) (r : Fin 2048) (j : Fin 1408) : EReal :=
  if l.val = 0 then new r j else old (ix3 l r j)

section
open Cert.Kernel12Ideal Cert.Kernel12Ideal.Gen

theorem block_m (g : Vec Ideal S256x1408 .f32) (m : Vec Ideal S1x256x1408 .f32) (r : Fin 256) (j : Fin 1408) :
    k0_pay4 g m (ix2 r j) = moment1 (g (ix2 r j)) (m (ix3 0 r j)) := by
  pointwise [k0_pay4]
  rfl
theorem block_v (g : Vec Ideal S256x1408 .f32) (v : Vec Ideal S1x256x1408 .f32) (r : Fin 256) (j : Fin 1408) :
    k0_pay5 g v (ix2 r j) = moment2 (g (ix2 r j)) (v (ix3 0 r j)) := by
  pointwise [k0_pay5]
  rfl
theorem block_d (g : Vec Ideal S256x1408 .f32) (w m v : Vec Ideal S1x256x1408 .f32) (r : Fin 256) (j : Fin 1408) :
    k0_pay6 g w m v (ix2 r j) = change (w (ix3 0 r j)) (g (ix2 r j)) (m (ix3 0 r j)) (v (ix3 0 r j)) := by
  pointwise [k0_pay6]
  rw [block_m, block_v]
  rfl

variable (m : (ℓ : Loc nD τ sig) → Buf (Elt Ideal) ℓ) (c : Dev nD)

/-- The row of the array that row `r` of block `t` is. -/
def rowAt (t : Fin cfg0.N) (r : Fin 256) : Fin 2048 := ⟨t.val * 256 + r.val, by
  have := t.isLt; have h : cfg0.N = 8 := rfl; omega⟩
theorem rowAt_val (t : Fin cfg0.N) (r : Fin 256) : (rowAt t r).val = t.val * 256 + r.val := rfl

theorem idx : ∀ t : Fin cfg0.N, win0_0.index t = ![0, t.val, 0] ∧ win0_1.index t = ![t.val, 0] ∧
    win0_2.index t = ![0, t.val, 0] ∧ win0_3.index t = ![0, t.val, 0] ∧ win0_4.index t = ![0, t.val, 0] ∧
    win0_5.index t = ![0, t.val, 0] ∧ win0_6.index t = ![0, t.val, 0] ∧ win0_7.index t = ![0, t.val, 0] := by
  decide +kernel

/-- The arrays the kernel is given: weights, gradient, moments. -/
abbrev aW : FVec Ideal S2x2048x1408 .f32 := m ((c : Thread nD τ).loc main_arg0)
abbrev aG : FVec Ideal S2048x1408 .f32 := m ((c : Thread nD τ).loc main_arg1)
abbrev aM : FVec Ideal S2x2048x1408 .f32 := m ((c : Thread nD τ).loc main_arg2)
abbrev aV : FVec Ideal S2x2048x1408 .f32 := m ((c : Thread nD τ).loc main_arg3)

theorem iblk_w (t : Fin cfg0.N) (r : Fin 256) (j : Fin 1408) : iblk m c 0 t (ix3 0 r j) = aW m c (ix3 0 (rowAt t r) j) := by
  blk_point [iblk, V, idx t, rowAt_val]
theorem iblk_g (t : Fin cfg0.N) (r : Fin 256) (j : Fin 1408) : iblk m c 1 t (ix2 r j) = aG m c (ix2 (rowAt t r) j) := by
  blk_point [iblk, V, idx t, rowAt_val]
theorem iblk_m (t : Fin cfg0.N) (r : Fin 256) (j : Fin 1408) : iblk m c 2 t (ix3 0 r j) = aM m c (ix3 0 (rowAt t r) j) := by
  blk_point [iblk, V, idx t, rowAt_val]
theorem iblk_v (t : Fin cfg0.N) (r : Fin 256) (j : Fin 1408) : iblk m c 3 t (ix3 0 r j) = aV m c (ix3 0 (rowAt t r) j) := by
  blk_point [iblk, V, idx t, rowAt_val]

/-- The first layer's new values: the gradient itself, the change, the two moments. -/
def newG (g : S2048x1408.Idx → EReal) (r : Fin 2048) (j : Fin 1408) : EReal := g (ix2 r j)
def newD (w : S2x2048x1408.Idx → EReal) (g : S2048x1408.Idx → EReal) (m v : S2x2048x1408.Idx → EReal) (r : Fin 2048)
    (j : Fin 1408) : EReal :=
  change (w (ix3 0 r j)) (g (ix2 r j)) (m (ix3 0 r j)) (v (ix3 0 r j))
def newM (g : S2048x1408.Idx → EReal) (m : S2x2048x1408.Idx → EReal) (r : Fin 2048) (j : Fin 1408) : EReal :=
  moment1 (g (ix2 r j)) (m (ix3 0 r j))
def newV (g : S2048x1408.Idx → EReal) (v : S2x2048x1408.Idx → EReal) (r : Fin 2048) (j : Fin 1408) : EReal :=
  moment2 (g (ix2 r j)) (v (ix3 0 r j))

/-- What a point writes to each result. -/
theorem point_g (t : Fin cfg0.N) (r : Fin 256) (j : Fin 1408) :
    k0_pay7 (iblk m c 1 t) (ix3 0 r j) = newG (aG m c) (rowAt t r) j := by
  pointwise [k0_pay7]
  exact iblk_g m c t r j
theorem point_d (t : Fin cfg0.N) (r : Fin 256) (j : Fin 1408) :
    k0_pay1 (k0_pay6 (iblk m c 1 t) (iblk m c 0 t) (iblk m c 2 t) (iblk m c 3 t)) (ix3 0 r j)
      = newD (aW m c) (aG m c) (aM m c) (aV m c) (rowAt t r) j := by
  pointwise [k0_pay1]
  rw [block_d, iblk_w, iblk_g, iblk_m, iblk_v]
  rfl
theorem point_m (t : Fin cfg0.N) (r : Fin 256) (j : Fin 1408) :
    k0_pay2 (k0_pay4 (iblk m c 1 t) (iblk m c 2 t)) (ix3 0 r j) = newM (aG m c) (aM m c) (rowAt t r) j := by
  pointwise [k0_pay2]
  rw [block_m, iblk_g, iblk_m]
  rfl
theorem point_v (t : Fin cfg0.N) (r : Fin 256) (j : Fin 1408) :
    k0_pay3 (k0_pay5 (iblk m c 1 t) (iblk m c 3 t)) (ix3 0 r j) = newV (aG m c) (aV m c) (rowAt t r) j := by
  pointwise [k0_pay3]
  rw [block_v, iblk_g, iblk_v]
  rfl

/-- The block a row of the first layer lies in, and its row there. -/
def blockOf (r : Fin 2048) : Fin cfg0.N := ⟨r.val / 256, by have := r.isLt; have h : cfg0.N = 8 := rfl; omega⟩
theorem blockOf_val (r : Fin 2048) : (blockOf r).val = r.val / 256 := rfl
def inBlock (r : Fin 2048) : Fin 256 := ⟨r.val % 256, by omega⟩
theorem inBlock_val (r : Fin 2048) : (inBlock r).val = r.val % 256 := rfl

/-- Every point writes its blocks back. -/
theorem flushes : ∀ t : Fin cfg0.N, (cfg0.win 4).flush t = true ∧ (cfg0.win 5).flush t = true ∧ (cfg0.win 6).flush t = true ∧
    (cfg0.win 7).flush t = true := by
  decide +kernel

/-- Every row of the first layer lies in a block of each result. -/
theorem covered (r : Fin 2048) (j : Fin 1408) :
    (ix3 0 r j : S2x2048x1408.Idx) ∈ ((cfg0.win 4).blk (blockOf r)).view.set ∧
    (ix3 0 r j : S2x2048x1408.Idx) ∈ ((cfg0.win 5).blk (blockOf r)).view.set ∧
    (ix3 0 r j : S2x2048x1408.Idx) ∈ ((cfg0.win 6).blk (blockOf r)).view.set ∧
    (ix3 0 r j : S2x2048x1408.Idx) ∈ ((cfg0.win 7).blk (blockOf r)).view.set := by
  have e4 : ((cfg0.win 4).blk (blockOf r)).view.emb (ix3 0 (inBlock r) j : S1x256x1408.Idx) = (ix3 0 r j : S2x2048x1408.Idx) := by
    blk_ext [idx, blockOf_val, inBlock_val]
  have e5 : ((cfg0.win 5).blk (blockOf r)).view.emb (ix3 0 (inBlock r) j : S1x256x1408.Idx) = (ix3 0 r j : S2x2048x1408.Idx) := by
    blk_ext [idx, blockOf_val, inBlock_val]
  have e6 : ((cfg0.win 6).blk (blockOf r)).view.emb (ix3 0 (inBlock r) j : S1x256x1408.Idx) = (ix3 0 r j : S2x2048x1408.Idx) := by
    blk_ext [idx, blockOf_val, inBlock_val]
  have e7 : ((cfg0.win 7).blk (blockOf r)).view.emb (ix3 0 (inBlock r) j : S1x256x1408.Idx) = (ix3 0 r j : S2x2048x1408.Idx) := by
    blk_ext [idx, blockOf_val, inBlock_val]
  exact ⟨e4 ▸ View.emb_mem_set _ _, e5 ▸ View.emb_mem_set _ _, e6 ▸ View.emb_mem_set _ _, e7 ▸ View.emb_mem_set _ _⟩

theorem placed_first (new : Fin 2048 → Fin 1408 → EReal) (old : S2x2048x1408.Idx → EReal) (l : Fin 2) (hl : l.val = 0)
    (r r' : Fin 2048) (hr : r'.val = r.val) (j j' : Fin 1408) (hj : j'.val = j.val) :
    new r j = placed new old l r' j' := by
  obtain rfl := Fin.ext hr
  obtain rfl := Fin.ext hj
  exact (if_pos hl).symm
theorem settle (P : Prop) [Decidable P] (new : Fin 2048 → Fin 1408 → EReal) (old : S2x2048x1408.Idx → EReal) (l : Fin 2)
    (r : Fin 2048) (j : Fin 1408) {x : EReal} (hx : x = old (ix3 l r j)) (hP : l.val = 0 → P) :
    (if P then placed new old l r j else x) = placed new old l r j :=
  ite_eq_left_iff.2 fun h => hx.trans (if_neg fun h0 => h (hP h0)).symm

/-- The results start as the arrays given for them. -/
theorem kept : V m c main_v0_0 = m ((c : Thread nD τ).loc main_arg4) ∧ V m c main_v0_1 = m ((c : Thread nD τ).loc main_arg5) ∧
    V m c main_v0_2 = m ((c : Thread nD τ).loc main_arg6) ∧ V m c main_v0_3 = m ((c : Thread nD τ).loc main_arg7) := by
  refine ⟨?_, ?_, ?_, ?_⟩ <;> entry_read
  all_goals rfl

/-- The stacked gradients: the first layer is the new one, the second is kept. -/
theorem final_g : (dats m 0 c).arrAt 4 (cfgs 0).N = fun i : S2x2048x1408.Idx =>
    placed (newG (aG m c)) (m ((c : Thread nD τ).loc main_arg4)) (i 0) (i 1) (i 2) := by
  funext i
  refine (Dat.arrAt_eq_piecewise (dats m 0 c) 4 (fun i : S2x2048x1408.Idx =>
    placed (newG (aG m c)) (m ((c : Thread nD τ).loc main_arg4)) (i 0) (i 1) (i 2)) (fun t _ => ?_) i).trans ?_
  · funext y
    blk_simp
    rw [after0_4, outsAt0]
    frame_out
    idx_vars y
    obtain rfl : y0 = 0 := Subsingleton.elim _ _
    refine (point_g m c t y1 y2).trans (placed_first _ _ _ ?_ _ _ ?_ _ _ ?_)
    all_goals simp [idx t, rowAt_val]
  · idx_vars i
    refine settle _ _ _ _ _ _ (congrFun ((A_eq m c 4).trans (kept m c).1) _) fun h0 => ⟨blockOf i1, (flushes _).1, ?_⟩
    obtain rfl : i0 = 0 := Fin.ext h0
    exact (covered i1 i2).1

/-- The stacked changes: the first layer is the new one, the second is kept. -/
theorem final_d : (dats m 0 c).arrAt 5 (cfgs 0).N = fun i : S2x2048x1408.Idx =>
    placed (newD (aW m c) (aG m c) (aM m c) (aV m c)) (m ((c : Thread nD τ).loc main_arg5)) (i 0) (i 1) (i 2) := by
  funext i
  refine (Dat.arrAt_eq_piecewise (dats m 0 c) 5 (fun i : S2x2048x1408.Idx =>
    placed (newD (aW m c) (aG m c) (aM m c) (aV m c)) (m ((c : Thread nD τ).loc main_arg5)) (i 0) (i 1) (i 2)) (fun t _ => ?_) i).trans ?_
  · funext y
    blk_simp
    rw [after0_5, outsAt0]
    frame_out
    idx_vars y
    obtain rfl : y0 = 0 := Subsingleton.elim _ _
    refine (point_d m c t y1 y2).trans (placed_first _ _ _ ?_ _ _ ?_ _ _ ?_)
    all_goals simp [idx t, rowAt_val]
  · idx_vars i
    refine settle _ _ _ _ _ _ (congrFun ((A_eq m c 5).trans (kept m c).2.1) _) fun h0 => ⟨blockOf i1, (flushes _).2.1, ?_⟩
    obtain rfl : i0 = 0 := Fin.ext h0
    exact (covered i1 i2).2.1

/-- The stacked first moments: the first layer is the new one, the second is kept. -/
theorem final_m : (dats m 0 c).arrAt 6 (cfgs 0).N = fun i : S2x2048x1408.Idx =>
    placed (newM (aG m c) (aM m c)) (m ((c : Thread nD τ).loc main_arg6)) (i 0) (i 1) (i 2) := by
  funext i
  refine (Dat.arrAt_eq_piecewise (dats m 0 c) 6 (fun i : S2x2048x1408.Idx =>
    placed (newM (aG m c) (aM m c)) (m ((c : Thread nD τ).loc main_arg6)) (i 0) (i 1) (i 2)) (fun t _ => ?_) i).trans ?_
  · funext y
    blk_simp
    rw [after0_6, outsAt0]
    frame_out
    idx_vars y
    obtain rfl : y0 = 0 := Subsingleton.elim _ _
    refine (point_m m c t y1 y2).trans (placed_first _ _ _ ?_ _ _ ?_ _ _ ?_)
    all_goals simp [idx t, rowAt_val]
  · idx_vars i
    refine settle _ _ _ _ _ _ (congrFun ((A_eq m c 6).trans (kept m c).2.2.1) _) fun h0 => ⟨blockOf i1, (flushes _).2.2.1, ?_⟩
    obtain rfl : i0 = 0 := Fin.ext h0
    exact (covered i1 i2).2.2.1

/-- The stacked second moments: the first layer is the new one, the second is kept. -/
theorem final_v : (dats m 0 c).arrAt 7 (cfgs 0).N = fun i : S2x2048x1408.Idx =>
    placed (newV (aG m c) (aV m c)) (m ((c : Thread nD τ).loc main_arg7)) (i 0) (i 1) (i 2) := by
  funext i
  refine (Dat.arrAt_eq_piecewise (dats m 0 c) 7 (fun i : S2x2048x1408.Idx =>
    placed (newV (aG m c) (aV m c)) (m ((c : Thread nD τ).loc main_arg7)) (i 0) (i 1) (i 2)) (fun t _ => ?_) i).trans ?_
  · funext y
    blk_simp
    rw [after0_7, outsAt0]
    frame_out
    idx_vars y
    obtain rfl : y0 = 0 := Subsingleton.elim _ _
    refine (point_v m c t y1 y2).trans (placed_first _ _ _ ?_ _ _ ?_ _ _ ?_)
    all_goals simp [idx t, rowAt_val]
  · idx_vars i
    refine settle _ _ _ _ _ _ (congrFun ((A_eq m c 7).trans (kept m c).2.2.2) _) fun h0 => ⟨blockOf i1, (flushes _).2.2.2, ?_⟩
    obtain rfl : i0 = 0 := Fin.ext h0
    exact (covered i1 i2).2.2.2

end

section
open Cert.Reference12Ideal Cert.Reference12Ideal.Gen Cert.Reference12Ideal.Read

/-- A new first layer before the second of an array. -/
theorem stack (a b : S1x2048x1408.Idx → EReal) (new : Fin 2048 → Fin 1408 → EReal) (old : S2x2048x1408.Idx → EReal)
    (ha : ∀ r j, a (ix3 0 r j) = new r j) (hb : ∀ r j, b (ix3 0 r j) = old (ix3 1 r j)) :
    (concatenate S2x2048x1408 0 [⟨S1x2048x1408, a⟩, ⟨S1x2048x1408, b⟩]
      concatenates_S1x2048x1408_S1x2048x1408_S2x2048x1408_d0) = fun i : S2x2048x1408.Idx => placed new old (i 0) (i 1) (i 2) := by
  funext i
  idx_vars i
  pointwise []
  by_cases h : i0.val = 0
  · obtain rfl : i0 = 0 := Fin.ext h
    exact (ha i1 i2).trans (if_pos rfl).symm
  · obtain rfl : i0 = 1 := Fin.ext (by have := i0.isLt; show i0.val = 1; omega)
    exact (hb i1 i2).trans (if_neg h).symm

variable (w m v o : S2x2048x1408.Idx → EReal) (g : S2048x1408.Idx → EReal)

theorem ref_moment1 (r : Fin 2048) (j : Fin 1408) : val_main_v10 (F := Ideal) g m (ix2 r j) = newM g m r j := by
  pointwise [val_main_v10, val_main_v9, val_main_v8, val_main_v7, val_main_v6, val_main_v3, val_main_v2, val_main_cst, val_main_cst_0]
  rfl
theorem ref_moment2 (r : Fin 2048) (j : Fin 1408) : val_main_v16 (F := Ideal) g v (ix2 r j) = newV g v r j := by
  pointwise [val_main_v16, val_main_v15, val_main_v14, val_main_v13, val_main_v12, val_main_v11, val_main_v5, val_main_v4, val_main_cst_1, val_main_cst_2]
  rfl
theorem ref_change (r : Fin 2048) (j : Fin 1408) : val_main_v29 (F := Ideal) w g m v (ix2 r j) = newD w g m v r j := by
  pointwise [val_main_v29, val_main_v28, val_main_v27, val_main_v26, val_main_v25, val_main_v24, val_main_v23, val_main_v22,
    val_main_v21, val_main_v20, val_main_v19, val_main_v18, val_main_v17, val_main_v1, val_main_v0, val_main_cst_3, val_main_cst_4,
    val_main_cst_5, val_main_cst_6, val_main_cst_7]
  rw [ref_moment1, ref_moment2]
  rfl

/-- The reference's four arrays. -/
theorem ref_g : val_main_v32 (F := Ideal) g o = fun i : S2x2048x1408.Idx => placed (newG g) o (i 0) (i 1) (i 2) :=
  stack _ _ _ o (fun r j => by pointwise [val_main_v30]; rfl) (fun r j => by pointwise [val_main_v31])
theorem ref_d : val_main_v35 (F := Ideal) w g m v o = fun i : S2x2048x1408.Idx => placed (newD w g m v) o (i 0) (i 1) (i 2) :=
  stack _ _ _ o (fun r j => by pointwise [val_main_v33]; exact ref_change w m v g r j) (fun r j => by pointwise [val_main_v34])
theorem ref_m : val_main_v38 (F := Ideal) g m o = fun i : S2x2048x1408.Idx => placed (newM g m) o (i 0) (i 1) (i 2) :=
  stack _ _ _ o (fun r j => by pointwise [val_main_v36]; exact ref_moment1 m g r j) (fun r j => by pointwise [val_main_v37])
theorem ref_v : val_main_v41 (F := Ideal) g v o = fun i : S2x2048x1408.Idx => placed (newV g v) o (i 0) (i 1) (i 2) :=
  stack _ _ _ o (fun r j => by pointwise [val_main_v39]; exact ref_moment2 v g r j) (fun r j => by pointwise [val_main_v40])
end

end Cert.Adam

end
-- ==== Proof.Adam.Claims.lean ====
/- The claims about one layer's optimiser step: frames, and the equality with the reference on any arrays. -/
module

public import proofs.«01_k».proof.Defs
public import proofs.«01_k».proof.Proof.Gen.Kernel12.Frame
public import proofs.«01_k».proof.Proof.Gen.Reference12Ideal.Run
public import proofs.«01_k».proof.Proof.Adam.Value
public import Idealize.ShloMosaic.Lib.Quiescent

@[expose] public section

set_option maxRecDepth 16384

noncomputable section

namespace Cert.Adam

open Idealize.ShloMosaic Idealize.ShloMosaic.TcCoe Idealize.SL.Sem

theorem quiescent : quiescent_Kernel12 (hKernel12 := Cert.Kernel12.Gen.facts) :=
  fun m ρ _ => Cert.Kernel12.Gen.frame m ρ
theorem quiescent_ideal : quiescent_Kernel12Ideal (hKernel12Ideal := Cert.Kernel12Ideal.Gen.facts) :=
  fun m ρ _ => Cert.Kernel12Ideal.Gen.frame m ρ

section
open Cert.Reference12Ideal Cert.Reference12Ideal.Gen

/-- The reference ends with its arguments unchanged and every counter at zero. -/
theorem reference_frame (m : (ℓ : Loc nD τ sig) → Buf (Elt Ideal) ℓ) (ρ : Dev nD → PrngReg) :
    θ_run (defs (F := Ideal)) (onTc (τ := τ) (main (F := Ideal))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7))
      ∧ r.2.sem = fun _ => 0 :=
  (θ_run defs _ _).mono (fun r h => ⟨fun c => (h c).2.2.2.2, sem_eq_zero_of_no_sems (by decide) r.2⟩)
    (Cert.Reference12Ideal.Value.run (F := Ideal) m ρ)
end

theorem quiescent_ref : quiescent_Reference12Ideal (hReference12Ideal := Cert.Reference12Ideal.Gen.facts) :=
  fun m ρ _ => reference_frame m ρ

/-- The kernel computes what the reference computes. -/
theorem equal : algebraic_Kernel12Ideal_Reference12Ideal
    (hKernel12Ideal := Cert.Kernel12Ideal.Gen.facts) (hReference12Ideal := Cert.Reference12Ideal.Gen.facts) := by
  intro m ρ m' ρ' _ hagree
  refine ⟨_, _, _, _, Cert.Kernel12Ideal.Value.run_blocks m ρ, (θ_run _ _ _).mono (fun r h c => ?_)
    (Cert.Reference12Ideal.Value.run (F := Ideal) m' ρ')⟩
  obtain ⟨h0, h1, h2, h3, hargs⟩ := h c
  obtain ⟨a0, a1, a2, a3, a4, a5, a6, a7⟩ := hagree c
  refine ⟨h0.trans ?_, h1.trans ?_, h2.trans ?_, h3.trans ?_, hargs⟩
  · rw [Cert.Reference12Ideal.Read.val_main_v32_eq, a1, a4]
    exact (ref_g _ _).trans (final_g m c).symm
  · rw [Cert.Reference12Ideal.Read.val_main_v35_eq, a0, a1, a2, a3, a5]
    exact (ref_d _ _ _ _ _).trans (final_d m c).symm
  · rw [Cert.Reference12Ideal.Read.val_main_v38_eq, a1, a2, a6]
    exact (ref_m _ _ _).trans (final_m m c).symm
  · rw [Cert.Reference12Ideal.Read.val_main_v41_eq, a1, a3, a7]
    exact (ref_v _ _ _).trans (final_v m c).symm

end Cert.Adam

end
-- ==== Proof.Pair.Value.lean ====
/- The sum of a core's own half with the received one, and its reference: the core's number out of the table, the half it names, the array the kernel leaves, and the reference read at an index. -/
module

public import proofs.«01_k».proof.Defs
public import proofs.«01_k».proof.Proof.Gen.Kernel13.Frame
public import proofs.«01_k».proof.Proof.Gen.Kernel13Ideal.Frame
public import proofs.«01_k».proof.Proof.Gen.Reference13Ideal.Read
public import proofs.«01_k».proof.Proof.Gen.Pre_core_of_two
public import Idealize.ShloMosaic.Lib.Pipeline.ValueKit
public import Idealize.ShloMosaic.Lib.DynamicIndex

@[expose] public section

set_option maxRecDepth 16384

noncomputable section

namespace Cert.Pair

open Idealize.ShloMosaic Idealize.ShloMosaic.TcCoe Idealize.SL.Sem
open Idealize.ShloMosaic.Pipeline (Dat)

/-- The number of the core: the second word of the table. -/
abbrev coreWord (t : IVec ⟨1, ![2]⟩ 32) : BitVec 32 := t (ix1 1)

/-- A word at least 0 and less than 2 is 0 or 1. -/
theorem two (w : BitVec 32) (h : IntOp.andi (IntOp.cmpi .sge w 0#32) (IntOp.cmpi .slt w 2#32) = 1#1) : w = 0#32 ∨ w = 1#32 := by
  have hand : ∀ p q : Bool, IntOp.andi (BitVec.ofBool p) (BitVec.ofBool q) = 1#1 → p = true ∧ q = true := by decide
  obtain ⟨h1, h2⟩ := hand _ _ h
  simp only [BitVec.sle, BitVec.slt, decide_eq_true_eq] at h1 h2
  have e0 : (0#32 : BitVec 32).toInt = 0 := rfl
  have e2 : (2#32 : BitVec 32).toInt = 2 := rfl
  rw [e0] at h1
  rw [e2] at h2
  have h3 : w.toInt = 0 ∨ w.toInt = 1 := by omega
  rcases h3 with h3 | h3
  · exact .inl (BitVec.eq_of_toInt_eq (h3.trans rfl))
  · exact .inr (BitVec.eq_of_toInt_eq (h3.trans rfl))

/-- The precondition: the core's number is 0 or 1. -/
theorem core_two {F : FTy → Type} [FloatOps F] (a : FVec F ⟨2, ![2048, 11264]⟩ .bf16) (b : FVec F ⟨2, ![1024, 11264]⟩ .bf16)
    (t : IVec ⟨1, ![2]⟩ 32) (h : Cert.Pre_core_of_two.fn (F := F) a b t = fun _ => 1#1) : coreWord t = 0#32 ∨ coreWord t = 1#32 := by
  refine two _ (Eq.trans ?_ (congrFun h fun a => a.elim0))
  pointwise [Cert.Pre_core_of_two.fn]

/-- The table's second word, read through the rectangle of that one word. -/
theorem at_one (t : IVec ⟨1, ![2]⟩ 32) (h : ∀ a, (![1] : Fin 1 → Nat) a + (![1] : Fin 1 → Nat) a ≤ (![2] : Fin 1 → Nat) a)
    (y : (Rect.unit (s := ⟨1, ![2]⟩) ![1] ![1] h).shape.Idx) : t ((Rect.unit (s := ⟨1, ![2]⟩) ![1] ![1] h).emb y) = coreWord t := by
  refine congrArg t (funext fun (a : Fin 1) => Fin.ext ?_)
  obtain rfl : a = 0 := Subsingleton.elim _ _
  have hy : (y 0).val < 1 := (y 0).isLt
  show 1 + 1 * (y 0).val = 1
  omega

/-- Eight times such a number and a block's number, as a word and as a number. -/
theorem block_word (w : BitVec 32) (hw : w = 0#32 ∨ w = 1#32) (n : Nat) (hn : n < 8) :
    (Scalar.addi (Scalar.muli w 8#32) (BitVec.ofNat 32 n)).toNat = w.toNat * 8 + n := by
  rcases hw with rfl | rfl <;> simp [Scalar.addi, IntOp.addi, Scalar.muli, IntOp.muli] <;> omega
theorem core_lt (w : BitVec 32) (hw : w = 0#32 ∨ w = 1#32) : w.toNat < 2 := by
  rcases hw with rfl | rfl <;> decide

section
open Cert.Kernel13 Cert.Kernel13.Gen
/-- The block of the own half that a point reads. -/
theorem place (m : (ℓ : Loc nD τ sig) → Buf (Elt Bits) ℓ)
    (hw : coreWord (m (((0 : Dev nD) : Thread nD τ).loc main_arg2)) = 0#32 ∨ coreWord (m (((0 : Dev nD) : Thread nD τ).loc main_arg2)) = 1#32)
    (i : grid0.Coords) : cc0_transform_0 inb_S2_S1_1 numel1_S1 (tbl m) i
      = ![(coreWord (m (((0 : Dev nD) : Thread nD τ).loc main_arg2))).toNat * 8 + (i 0).val, 0] :=
  (congrArg (fun w => ![(Scalar.addi (Scalar.muli w 8#32) (BitVec.ofNat 32 (i 0).val)).toNat, (0#32 : BitVec 32).toNat]) (at_one _ _ _)).trans
    (congrArg (fun n => ![n, 0]) (block_word _ hw _ (i 0).isLt))
/-- Every block of the own half lies in the array. -/
theorem inside (m : (ℓ : Loc nD τ sig) → Buf (Elt Bits) ℓ) (h : Cert.Pre_Kernel13 m) : Ok m := fun i => by
  have hw := core_two _ _ _ (h 0)
  have hl := core_lt _ hw
  have e := place m hw i
  have hi : (i 0).val < 8 := (i 0).isLt
  refine ⟨fun (a : Fin 2) => ?_, .inr (Affine.block_words_dvd (of_decide_eq_true rfl) (by decide))⟩
  rw [e]
  obtain rfl | rfl : a = 0 ∨ a = 1 := by omega
  · show (_ * 8 + _ + 1) * 128 ≤ 2048
    omega
  · show (0 + 1) * 11264 ≤ 11264
    omega
end

section
open Cert.Kernel13Ideal Cert.Kernel13Ideal.Gen
/-- The block of the own half that a point reads. -/
theorem place_ideal (m : (ℓ : Loc nD τ sig) → Buf (Elt Ideal) ℓ)
    (hw : coreWord (m (((0 : Dev nD) : Thread nD τ).loc main_arg2)) = 0#32 ∨ coreWord (m (((0 : Dev nD) : Thread nD τ).loc main_arg2)) = 1#32)
    (i : grid0.Coords) : cc0_transform_0 inb_S2_S1_1 numel1_S1 (tbl m) i
      = ![(coreWord (m (((0 : Dev nD) : Thread nD τ).loc main_arg2))).toNat * 8 + (i 0).val, 0] :=
  (congrArg (fun w => ![(Scalar.addi (Scalar.muli w 8#32) (BitVec.ofNat 32 (i 0).val)).toNat, (0#32 : BitVec 32).toNat]) (at_one _ _ _)).trans
    (congrArg (fun n => ![n, 0]) (block_word _ hw _ (i 0).isLt))
/-- Every block of the own half lies in the array. -/
theorem inside_ideal (m : (ℓ : Loc nD τ sig) → Buf (Elt Ideal) ℓ) (h : Cert.Pre_Kernel13Ideal m) : Ok m := fun i => by
  have hw := core_two _ _ _ (h 0)
  have hl := core_lt _ hw
  have e := place_ideal m hw i
  have hi : (i 0).val < 8 := (i 0).isLt
  refine ⟨fun (a : Fin 2) => ?_, .inr (Affine.block_words_dvd (of_decide_eq_true rfl) (by decide))⟩
  rw [e]
  obtain rfl | rfl : a = 0 ∨ a = 1 := by omega
  · show (_ * 8 + _ + 1) * 128 ≤ 2048
    omega
  · show (0 + 1) * 11264 ≤ 11264
    omega
end

/-- The own half is the first or the second of the array. -/
def half (t : IVec ⟨1, ![2]⟩ 32) : Fin 2 := if coreWord t = 0#32 then 0 else 1
theorem half_val (t : IVec ⟨1, ![2]⟩ 32) (hw : coreWord t = 0#32 ∨ coreWord t = 1#32) : (coreWord t).toNat = (half t).val := by
  unfold half
  rcases hw with h | h <;> rw [h] <;> rfl

/-- Row `r` of half `k`, as a row of the array. -/
def rowOf (k : Fin 2) (r : Fin 1024) : Fin 2048 := ⟨k.val * 1024 + r.val, by omega⟩
theorem rowOf_val (k : Fin 2) (r : Fin 1024) : (rowOf k r).val = k.val * 1024 + r.val := rfl

/-- The sum of half `k` of an array with the received half. -/
def total (x : (⟨2, ![2048, 11264]⟩ : Shape).Idx → EReal) (y : (⟨2, ![1024, 11264]⟩ : Shape).Idx → EReal) (k : Fin 2)
    (r : Fin 1024) (j : Fin 11264) : EReal :=
  x (ix2 (rowOf k r) j) + y (ix2 r j)

section
open Cert.Kernel13Ideal Cert.Kernel13Ideal.Gen

theorem block (x y : Vec Ideal S128x11264 .bf16) (r : Fin 128) (j : Fin 11264) :
    k0_pay1 x y (ix2 r j) = x (ix2 r j) + y (ix2 r j) := by
  pointwise [k0_pay1]

variable (m : (ℓ : Loc nD τ sig) → Buf (Elt Ideal) ℓ) (hO : Ok m)

/-- The arrays the kernel is given: the gradient, the received half, the table. -/
abbrev aX : FVec Ideal S2048x11264 .bf16 := m (((0 : Dev nD) : Thread nD τ).loc main_arg0)
abbrev aY : FVec Ideal S1024x11264 .bf16 := m (((0 : Dev nD) : Thread nD τ).loc main_arg1)
abbrev aT : IVec S2 32 := m (((0 : Dev nD) : Thread nD τ).loc main_arg2)

theorem coord : ∀ t : Fin grid0.N, (grid0.coords t 0).val = t.val := by decide +kernel

theorem idx_own (hw : coreWord (aT m) = 0#32 ∨ coreWord (aT m) = 1#32) (t : Fin (cfgM m hO).N) :
    ((pcfg0 (F := Ideal)).win (adm m hO) 0).index t = ![(half (aT m)).val * 8 + t.val, 0] := by
  refine (place_ideal m hw (grid0.coords t)).trans ?_
  rw [half_val _ hw, show (grid0.coords t 0).val = t.val from coord t]
theorem idx_same (t : Fin (cfgM m hO).N) :
    ((pcfg0 (F := Ideal)).win (adm m hO) 1).index t = ![t.val, 0] ∧ ((pcfg0 (F := Ideal)).win (adm m hO) 2).index t = ![t.val, 0] := by
  have hi : t.val < 8 := t.isLt
  have hc : (grid0.coords t 0).val = t.val := coord t
  have e : (BitVec.ofNat 32 (grid0.coords t 0).val).toNat = t.val := by rw [hc]; simp; omega
  constructor <;> (refine funext fun (a : Fin 2) => ?_; obtain rfl | rfl : a = 0 ∨ a = 1 := by omega)
  · exact e
  · rfl
  · exact e
  · rfl

/-- The row of the half that row `r` of block `t` is. -/
def rowAt (t : Fin 8) (r : Fin 128) : Fin 1024 := ⟨t.val * 128 + r.val, by omega⟩
theorem rowAt_val (t : Fin 8) (r : Fin 128) : (rowAt t r).val = t.val * 128 + r.val := rfl

theorem iblk_own (hw : coreWord (aT m) = 0#32 ∨ coreWord (aT m) = 1#32) (t : Fin (cfgM m hO).N) (r : Fin 128) (j : Fin 11264) :
    iblk m hO 0 0 t (ix2 r j) = aX m (ix2 (rowOf (half (aT m)) (rowAt t r)) j) := by
  have e := idx_own m hO hw t
  blk_point [iblk, V]
  · refine (congrArg (· * 128 + r.val) (congrFun e (0 : Fin 2))).trans ?_
    show ((half (aT m)).val * 8 + t.val) * 128 + r.val = (half (aT m)).val * 1024 + (t.val * 128 + r.val)
    omega
  · refine (congrArg (· * 11264 + j.val) (congrFun e (1 : Fin 2))).trans ?_
    show 0 * 11264 + j.val = j.val
    omega
theorem iblk_recv (t : Fin (cfgM m hO).N) (r : Fin 128) (j : Fin 11264) :
    iblk m hO 0 1 t (ix2 r j) = aY m (ix2 (rowAt t r) j) := by
  have e := (idx_same m hO t).1
  blk_point [iblk, V]
  · exact congrArg (· * 128 + r.val) (congrFun e (0 : Fin 2))
  · refine (congrArg (· * 11264 + j.val) (congrFun e (1 : Fin 2))).trans ?_
    show 0 * 11264 + j.val = j.val
    omega

/-- What a point writes. -/
theorem point (hw : coreWord (aT m) = 0#32 ∨ coreWord (aT m) = 1#32) (t : Fin (cfgM m hO).N) (r : Fin 128) (j : Fin 11264) :
    k0_pay1 (iblk m hO 0 0 t) (iblk m hO 0 1 t) (ix2 r j) = total (aX m) (aY m) (half (aT m)) (rowAt t r) j := by
  refine (block _ _ r j).trans ?_
  exact congrArg₂ (· + ·) (iblk_own m hO hw t r j) (iblk_recv m hO t r j)

/-- Every point writes its block back. -/
theorem flushes_all : ∀ t : Fin grid0.N, Pipeline.Window.flushOf grid0 true cc0_transform_2 t = true := by decide +kernel
theorem flushes (t : Fin (cfgM m hO).N) : ((cfgM m hO).win 2).flush t = true := flushes_all t

/-- The block a row of the half lies in, and its row there. -/
def blockOf (r : Fin 1024) : Fin 8 := ⟨r.val / 128, by omega⟩
def inBlock (r : Fin 1024) : Fin 128 := ⟨r.val % 128, by omega⟩

theorem covered (r : Fin 1024) (j : Fin 11264) :
    (ix2 r j : S1024x11264.Idx) ∈ (((cfgM m hO).win 2).blk (blockOf r)).view.set := by
  have e := (idx_same m hO (blockOf r)).2
  have e4 : (((cfgM m hO).win 2).blk (blockOf r)).view.emb (ix2 (inBlock r) j : S128x11264.Idx) = (ix2 r j : S1024x11264.Idx) := by
    blk_ext []
    · refine (congrArg (· * 128 + (inBlock r).val) (congrFun e (0 : Fin 2))).trans ?_
      show r.val / 128 * 128 + r.val % 128 = r.val
      omega
    · refine (congrArg (· * 11264 + j.val) (congrFun e (1 : Fin 2))).trans ?_
      show 0 * 11264 + j.val = j.val
      omega
  exact e4 ▸ View.emb_mem_set _ _

/-- The array the kernel leaves. -/
theorem final (hw : coreWord (aT m) = 0#32 ∨ coreWord (aT m) = 1#32) :
    (dats m hO 0 0).arrAt 2 (cfgM m hO).N = fun i : S1024x11264.Idx => total (aX m) (aY m) (half (aT m)) (i 0) (i 1) := by
  refine funext fun (i : S1024x11264.Idx) => ?_
  refine (Dat.arrAt_eq_piecewise (dats m hO 0 0) 2 (fun i : S1024x11264.Idx => total (aX m) (aY m) (half (aT m)) (i 0) (i 1))
    (fun t _ => ?_) i).trans ?_
  · have e := (idx_same m hO t).2
    funext y
    blk_simp
    rw [after0_2, outsAt0]
    frame_out
    revert y
    refine fun (y : S128x11264.Idx) => ?_
    idx_vars y
    refine (congrArg₂ (fun a b => k0_pay1 a b (ix2 y0 y1)) ((hs0_0 m hO t).read_unread _) ((hs0_1 m hO t).read_unread _)).trans ?_
    refine (point m hO hw t y0 y1).trans (congrArg₂ (total _ _ _) (Fin.ext ?_) (Fin.ext ?_))
    · blk_simp
      exact (congrArg (· * 128 + y0.val) (congrFun e (0 : Fin 2))).symm
    · blk_simp
      refine Eq.symm ((congrArg (· * 11264 + y1.val) (congrFun e (1 : Fin 2))).trans ?_)
      show 0 * 11264 + y1.val = y1.val
      omega
  · idx_vars i
    exact if_pos ⟨blockOf i0, flushes m hO _, covered m hO i0 i1⟩
end

section
open Cert.Reference13Ideal Cert.Reference13Ideal.Gen Cert.Reference13Ideal.Read

/-- The reference's array. -/
theorem ref (x : S2048x11264.Idx → EReal) (y : S1024x11264.Idx → EReal) (t : IVec S2 32) :
    val_main_v9 (F := Ideal) x y t = fun i : S1024x11264.Idx => total x y (half t) (i 0) (i 1) := by
  funext i
  idx_vars i
  pointwise [val_main_v9, val_main_v8, val_main_v7, val_main_v6, val_main_v5, val_main_v4, val_main_v3, val_main_v2, val_main_v1, val_main_v0, val_main_c]
  refine congrArg (· + y (ix2 i0 i1)) ?_
  unfold half
  by_cases h : coreWord t = 0#32
  · rw [if_pos h, show t (ix1 1) = 0#32 from h]
    exact congrArg (fun r => x (ix2 r i1)) (Fin.ext (Nat.zero_add _).symm)
  · have e : IntOp.cmpi .eq (t (ix1 1)) 0#32 = 0#1 := congrArg BitVec.ofBool (beq_false_of_ne h)
    rw [if_neg h, e]
    rfl
end

end Cert.Pair

end
-- ==== Proof.Pair.Claims.lean ====
/- The claims about the sum of a core's own half with the received one: frames, and the equality with the reference, for either core. -/
module

public import proofs.«01_k».proof.Defs
public import proofs.«01_k».proof.Proof.Gen.Kernel13.Frame
public import proofs.«01_k».proof.Proof.Gen.Reference13Ideal.Run
public import proofs.«01_k».proof.Proof.Gen.Pre_core_of_two
public import proofs.«01_k».proof.Proof.Pair.Value
public import Idealize.ShloMosaic.Lib.Quiescent

@[expose] public section

set_option maxRecDepth 16384

noncomputable section

namespace Cert.Pair

open Idealize.ShloMosaic Idealize.ShloMosaic.TcCoe Idealize.SL.Sem

theorem quiescent : quiescent_Kernel13 (hKernel13 := Cert.Kernel13.Gen.facts) (hPre_core_of_two := Cert.Pre_core_of_two.Gen.facts) :=
  fun m ρ h => Cert.Kernel13.Gen.frame m ρ (inside m h)
theorem quiescent_ideal : quiescent_Kernel13Ideal (hKernel13Ideal := Cert.Kernel13Ideal.Gen.facts)
    (hPre_core_of_two := Cert.Pre_core_of_two.Gen.facts) :=
  fun m ρ h => Cert.Kernel13Ideal.Gen.frame m ρ (inside_ideal m h)

section
open Cert.Reference13Ideal Cert.Reference13Ideal.Gen

/-- The reference ends with its arguments unchanged and every counter at zero. -/
theorem reference_frame (m : (ℓ : Loc nD τ sig) → Buf (Elt Ideal) ℓ) (ρ : Dev nD → PrngReg) :
    θ_run (defs (F := Ideal)) (onTc (τ := τ) (main (F := Ideal))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
      ∧ r.2.sem = fun _ => 0 :=
  (θ_run defs _ _).mono (fun r h => ⟨fun c => (h c).2, sem_eq_zero_of_no_sems (by decide) r.2⟩)
    (Cert.Reference13Ideal.Value.run (F := Ideal) m ρ)
end

theorem quiescent_ref : quiescent_Reference13Ideal (hReference13Ideal := Cert.Reference13Ideal.Gen.facts) :=
  fun m ρ _ => reference_frame m ρ
theorem quiescent_ref_pre : quiescent_Reference13Ideal_pre_core_of_two
    (hReference13Ideal := Cert.Reference13Ideal.Gen.facts) (hPre_core_of_two := Cert.Pre_core_of_two.Gen.facts) :=
  fun m ρ _ => reference_frame m ρ

section
open Cert.Kernel13Ideal Cert.Kernel13Ideal.Gen

/-- What the kernel leaves in its result and in its arguments. -/
theorem kernel_run (m : (ℓ : Loc nD τ sig) → Buf (Elt Ideal) ℓ) (ρ : Dev nD → PrngReg) (hO : Ok m) :
    θ_run (defs (F := Ideal)) (onTc (τ := τ) (main (F := Ideal))) ⟨m, fun _ => 0, ρ⟩ fun r => ∀ c : Dev nD,
      r.2.mem ((c.tc : Thread nD τ).loc main_v0) = (dats m hO 0 c).arrAt 2 (cfgM m hO).N
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2) :=
  have hv : θ_run (defs (F := Ideal)) (onTc (τ := τ) (main (F := Ideal))) ⟨m, fun _ => 0, ρ⟩ fun r => ∀ c : Dev nD,
      r.2.mem ((c.tc : Thread nD τ).loc main_v0) = (dats m hO 0 c).arrAt 2 (cfgM m hO).N :=
    (θ_run defs _ _).mono (fun _ h c => (h c).1 2) (run_main m ρ hO)
  (θ_run defs _ _).mono (fun _ h c => ⟨h.1 c, h.2 c⟩) (θ_run_and hv (unchanged m ρ hO))
end

/-- The kernel computes what the reference computes. -/
theorem equal : algebraic_Kernel13Ideal_Reference13Ideal
    (hKernel13Ideal := Cert.Kernel13Ideal.Gen.facts) (hReference13Ideal := Cert.Reference13Ideal.Gen.facts)
    (hPre_core_of_two := Cert.Pre_core_of_two.Gen.facts) := by
  intro m ρ m' ρ' hp hagree
  refine ⟨_, kernel_run m ρ (inside_ideal m hp), (θ_run _ _ _).mono (fun r h c => ?_)
    (Cert.Reference13Ideal.Value.run (F := Ideal) m' ρ')⟩
  obtain ⟨h0, hargs⟩ := h c
  obtain ⟨a0, a1, a2⟩ := hagree c
  obtain rfl : c = 0 := Subsingleton.elim _ _
  refine ⟨h0.trans ?_, hargs⟩
  rw [Cert.Reference13Ideal.Read.val_main_v9_eq, a0, a1, a2]
  exact (ref _ _ _).trans (final m (inside_ideal m hp) (core_two _ _ _ (hp 0))).symm

end Cert.Pair

end
-- ==== Proof.Place.Value.lean ====
/- The placing of a device's part of a weight, and its reference: the chip's number out of the table, the columns it names, the array the kernel leaves (the other columns keep what they held), and the reference read at an index. -/
module

public import proofs.«01_k».proof.Defs
public import proofs.«01_k».proof.Proof.Gen.Kernel14.Frame
public import proofs.«01_k».proof.Proof.Gen.Kernel14Ideal.Frame
public import proofs.«01_k».proof.Proof.Gen.Reference14Ideal.Read
public import proofs.«01_k».proof.Proof.Gen.Pre_chip_of_four
public import Idealize.ShloMosaic.Lib.Pipeline.ValueKit
public import Idealize.ShloMosaic.Lib.DynamicIndex

@[expose] public section

set_option maxRecDepth 16384

noncomputable section

namespace Cert.Place

open Idealize.ShloMosaic Idealize.ShloMosaic.TcCoe Idealize.SL.Sem
open Idealize.ShloMosaic.Pipeline (Dat)

/-- The number of the chip: the first word of the table. -/
abbrev chipWord (t : IVec ⟨1, ![2]⟩ 32) : BitVec 32 := t (ix1 0)

/-- A word at least 0 and less than 4 is a number less than 4. -/
theorem four (w : BitVec 32) (h : IntOp.andi (IntOp.cmpi .sge w 0#32) (IntOp.cmpi .slt w 4#32) = 1#1) : w.toNat < 4 := by
  have hand : ∀ p q : Bool, IntOp.andi (BitVec.ofBool p) (BitVec.ofBool q) = 1#1 → p = true ∧ q = true := by decide
  obtain ⟨h1, h2⟩ := hand _ _ h
  simp only [BitVec.sle, BitVec.slt, decide_eq_true_eq] at h1 h2
  have e0 : (0#32 : BitVec 32).toInt = 0 := rfl
  have e4 : (4#32 : BitVec 32).toInt = 4 := rfl
  rw [e0] at h1
  rw [e4] at h2
  have h3 := BitVec.toInt_eq_toNat_cond w
  have h4 := w.isLt
  split at h3 <;> omega

/-- The precondition: the chip's number is less than 4. -/
theorem chip_four {F : FTy → Type} [FloatOps F] (a : FVec F ⟨3, ![2, 2048, 1408]⟩ .f32) (b : FVec F ⟨2, ![2048, 11264]⟩ .bf16)
    (t : IVec ⟨1, ![2]⟩ 32) (h : Cert.Pre_chip_of_four.fn (F := F) a b t = fun _ => 1#1) : (chipWord t).toNat < 4 := by
  refine four _ (Eq.trans ?_ (congrFun h fun a => a.elim0))
  pointwise [Cert.Pre_chip_of_four.fn]

/-- The table's first word, read through the rectangle of that one word. -/
theorem at_zero (t : IVec ⟨1, ![2]⟩ 32) (h : ∀ a, (![0] : Fin 1 → Nat) a + (![1] : Fin 1 → Nat) a ≤ (![2] : Fin 1 → Nat) a)
    (y : (Rect.unit (s := ⟨1, ![2]⟩) ![0] ![1] h).shape.Idx) : t ((Rect.unit (s := ⟨1, ![2]⟩) ![0] ![1] h).emb y) = chipWord t := by
  refine congrArg t (funext fun (a : Fin 1) => Fin.ext ?_)
  obtain rfl : a = 0 := Subsingleton.elim _ _
  have hy : (y 0).val < 1 := (y 0).isLt
  show 0 + 1 * (y 0).val = 0
  omega

/-- Four added to such a number, as a word and as a number. -/
theorem block_word (w : BitVec 32) (hw : w.toNat < 4) : (Scalar.addi 4#32 w).toNat = 4 + w.toNat := by
  simp [Scalar.addi, IntOp.addi, BitVec.toNat_add]
  omega
theorem point_word (n : Nat) (hn : n < 4) : (BitVec.ofNat 32 n).toNat = n := by
  simp
  omega

section
open Cert.Kernel14 Cert.Kernel14.Gen
/-- The block that a point writes. -/
theorem place (m : (ℓ : Loc nD τ sig) → Buf (Elt Bits) ℓ) (hw : (chipWord (m (((0 : Dev nD) : Thread nD τ).loc main_arg2))).toNat < 4)
    (i : grid0.Coords) : cc0_transform_2 inb_S2_S1_0 numel1_S1 (tbl m) i
      = ![(i 0).val, 4 + (chipWord (m (((0 : Dev nD) : Thread nD τ).loc main_arg2))).toNat] :=
  (congrArg (fun w => ![(BitVec.ofNat 32 (i 0).val).toNat, (Scalar.addi 4#32 w).toNat]) (at_zero _ _ _)).trans
    (congrArg₂ (fun a n => ![a, n]) (point_word _ (i 0).isLt) (block_word _ hw))
/-- Every block that is written lies in the array. -/
theorem inside (m : (ℓ : Loc nD τ sig) → Buf (Elt Bits) ℓ) (h : Cert.Pre_Kernel14 m) : Ok m := fun i => by
  have hw := chip_four _ _ _ (h 0)
  have e := place m hw i
  have hi : (i 0).val < 4 := (i 0).isLt
  refine ⟨fun (a : Fin 2) => ?_, .inr (Affine.block_words_dvd (of_decide_eq_true rfl) (by decide))⟩
  rw [e]
  obtain rfl | rfl : a = 0 ∨ a = 1 := by omega
  · show ((i 0).val + 1) * 512 ≤ 2048
    omega
  · show (4 + _ + 1) * 1408 ≤ 11264
    omega
end

section
open Cert.Kernel14Ideal Cert.Kernel14Ideal.Gen
/-- The block that a point writes. -/
theorem place_ideal (m : (ℓ : Loc nD τ sig) → Buf (Elt Ideal) ℓ)
    (hw : (chipWord (m (((0 : Dev nD) : Thread nD τ).loc main_arg2))).toNat < 4)
    (i : grid0.Coords) : cc0_transform_2 inb_S2_S1_0 numel1_S1 (tbl m) i
      = ![(i 0).val, 4 + (chipWord (m (((0 : Dev nD) : Thread nD τ).loc main_arg2))).toNat] :=
  (congrArg (fun w => ![(BitVec.ofNat 32 (i 0).val).toNat, (Scalar.addi 4#32 w).toNat]) (at_zero _ _ _)).trans
    (congrArg₂ (fun a n => ![a, n]) (point_word _ (i 0).isLt) (block_word _ hw))
/-- Every block that is written lies in the array. -/
theorem inside_ideal (m : (ℓ : Loc nD τ sig) → Buf (Elt Ideal) ℓ) (h : Cert.Pre_Kernel14Ideal m) : Ok m := fun i => by
  have hw := chip_four _ _ _ (h 0)
  have e := place_ideal m hw i
  have hi : (i 0).val < 4 := (i 0).isLt
  refine ⟨fun (a : Fin 2) => ?_, .inr (Affine.block_words_dvd (of_decide_eq_true rfl) (by decide))⟩
  rw [e]
  obtain rfl | rfl : a = 0 ∨ a = 1 := by omega
  · show ((i 0).val + 1) * 512 ≤ 2048
    omega
  · show (4 + _ + 1) * 1408 ≤ 11264
    omega
end

/-- A column's place inside its block of 1408. -/
def inCols (j : Fin 11264) : Fin 1408 := ⟨j.val % 1408, by omega⟩
theorem inCols_val (j : Fin 11264) : (inCols j).val = j.val % 1408 := rfl

/-- The array `p` with the columns of block `4 + k` taken from the first layer of `w`. -/
def placed (w : (⟨3, ![2, 2048, 1408]⟩ : Shape).Idx → EReal) (p : (⟨2, ![2048, 11264]⟩ : Shape).Idx → EReal) (k : Nat)
    (r : Fin 2048) (j : Fin 11264) : EReal :=
  if j.val / 1408 = 4 + k then w (ix3 0 r (inCols j)) else p (ix2 r j)

section
open Cert.Kernel14Ideal Cert.Kernel14Ideal.Gen

theorem block (x : Vec Ideal S1x512x1408 .f32) (r : Fin 512) (j : Fin 1408) : k0_pay1 x (ix2 r j) = x (ix3 0 r j) := by
  pointwise [k0_pay1]

variable (m : (ℓ : Loc nD τ sig) → Buf (Elt Ideal) ℓ) (hO : Ok m)

/-- The arrays the kernel is given: the weights, the array to place in, the table. -/
abbrev aW : FVec Ideal S2x2048x1408 .f32 := m (((0 : Dev nD) : Thread nD τ).loc main_arg0)
abbrev aP : FVec Ideal S2048x11264 .bf16 := m (((0 : Dev nD) : Thread nD τ).loc main_arg1)
abbrev aT : IVec S2 32 := m (((0 : Dev nD) : Thread nD τ).loc main_arg2)
/-- The chip's number. -/
abbrev chip : Nat := (chipWord (aT m)).toNat

theorem coord : ∀ t : Fin grid0.N, (grid0.coords t 0).val = t.val := by decide +kernel

theorem idx_w (t : Fin (cfgM m hO).N) : ((pcfg0 (F := Ideal)).win (adm m hO) 0).index t = ![0, t.val, 0] := by
  have hi : t.val < 4 := t.isLt
  have hc : (grid0.coords t 0).val = t.val := coord t
  refine funext fun (a : Fin 3) => ?_
  obtain rfl | rfl | rfl : a = 0 ∨ a = 1 ∨ a = 2 := by omega
  · rfl
  · show (BitVec.ofNat 32 (grid0.coords t 0).val).toNat = t.val
    rw [hc, point_word _ hi]
  · rfl
theorem idx_out (hw : chip m < 4) (t : Fin (cfgM m hO).N) :
    ((pcfg0 (F := Ideal)).win (adm m hO) 1).index t = ![t.val, 4 + chip m] := by
  refine (place_ideal m hw (grid0.coords t)).trans ?_
  rw [show (grid0.coords t 0).val = t.val from coord t]

/-- The row of the array that row `r` of block `t` is. -/
def rowAt (t : Fin 4) (r : Fin 512) : Fin 2048 := ⟨t.val * 512 + r.val, by omega⟩
theorem rowAt_val (t : Fin 4) (r : Fin 512) : (rowAt t r).val = t.val * 512 + r.val := rfl

theorem iblk_w (t : Fin (cfgM m hO).N) (r : Fin 512) (j : Fin 1408) : iblk m hO 0 0 t (ix3 0 r j) = aW m (ix3 0 (rowAt t r) j) := by
  have e := idx_w m hO t
  blk_point [iblk, V]
  · exact (congrArg (· * 1 + 0) (congrFun e (0 : Fin 3))).trans rfl
  · exact congrArg (· * 512 + r.val) (congrFun e (1 : Fin 3))
  · refine (congrArg (· * 1408 + j.val) (congrFun e (2 : Fin 3))).trans ?_
    show 0 * 1408 + j.val = j.val
    omega

/-- The block a row lies in, and its row there. -/
def blockOf (r : Fin 2048) : Fin 4 := ⟨r.val / 512, by omega⟩
def inBlock (r : Fin 2048) : Fin 512 := ⟨r.val % 512, by omega⟩

theorem covered (hw : chip m < 4) (r : Fin 2048) (j : Fin 11264) (hj : j.val / 1408 = 4 + chip m) :
    (ix2 r j : S2048x11264.Idx) ∈ (((cfgM m hO).win 1).blk (blockOf r)).view.set := by
  have e := idx_out m hO hw (blockOf r)
  have e4 : (((cfgM m hO).win 1).blk (blockOf r)).view.emb (ix2 (inBlock r) (inCols j) : S512x1408.Idx) = (ix2 r j : S2048x11264.Idx) := by
    blk_ext []
    · refine (congrArg (· * 512 + (inBlock r).val) (congrFun e (0 : Fin 2))).trans ?_
      show r.val / 512 * 512 + r.val % 512 = r.val
      omega
    · refine (congrArg (· * 1408 + (inCols j).val) (congrFun e (1 : Fin 2))).trans ?_
      show (4 + chip m) * 1408 + j.val % 1408 = j.val
      omega
  exact e4 ▸ View.emb_mem_set _ _

/-- Every point writes its block back. -/
theorem flushes_all : ∀ (k : Fin 4) (t : Fin grid0.N),
    Pipeline.Window.flushOf grid0 true (fun i : grid0.Coords => (![(i 0).val, 4 + k.val] : Fin 2 → Nat)) t = true := by
  decide +kernel
theorem flushes (hw : chip m < 4) (t : Fin (cfgM m hO).N) : ((cfgM m hO).win 1).flush t = true :=
  (congrArg (fun ix => Pipeline.Window.flushOf grid0 true ix t) (funext (place_ideal m hw))).trans (flushes_all ⟨chip m, hw⟩ t)

theorem settle (w : S2x2048x1408.Idx → EReal) (p : S2048x11264.Idx → EReal) (k : Nat) (P : Prop) {_ : Decidable P}
    (r : Fin 2048) (j : Fin 11264) {x : EReal} (hx : x = p (ix2 r j)) (hP : j.val / 1408 = 4 + k → P) :
    (if P then placed w p k r j else x) = placed w p k r j :=
  ite_eq_left_iff.2 fun h => hx.trans (if_neg fun h0 => h (hP h0)).symm
theorem placed_in (w : S2x2048x1408.Idx → EReal) (p : S2048x11264.Idx → EReal) (k : Nat) (r r' : Fin 2048) (j : Fin 1408)
    (j' : Fin 11264) (hr : r'.val = r.val) (hj : j'.val = (4 + k) * 1408 + j.val) : w (ix3 0 r j) = placed w p k r' j' := by
  obtain rfl := Fin.ext hr
  have h1 := j.isLt
  have e : inCols j' = j := Fin.ext (by show j'.val % 1408 = j.val; omega)
  refine Eq.symm ((if_pos (by omega)).trans ?_)
  rw [e]

/-- The result starts as the array given for it. -/
theorem kept : V m 0 main_v0 = aP m := by
  entry_read
  rfl

/-- The array the kernel leaves. -/
theorem final (hw : chip m < 4) :
    (dats m hO 0 0).arrAt 1 (cfgM m hO).N = fun i : S2048x11264.Idx => placed (aW m) (aP m) (chip m) (i 0) (i 1) := by
  refine funext fun (i : S2048x11264.Idx) => ?_
  refine (Dat.arrAt_eq_piecewise (dats m hO 0 0) 1 (fun i : S2048x11264.Idx => placed (aW m) (aP m) (chip m) (i 0) (i 1))
    (fun t _ => ?_) i).trans ?_
  · have e := idx_out m hO hw t
    funext y
    blk_simp
    rw [after0_1, outsAt0]
    frame_out
    revert y
    refine fun (y : S512x1408.Idx) => ?_
    idx_vars y
    refine (congrArg (fun a => k0_pay1 a (ix2 y0 y1)) ((hs0_0 m hO t).read_unread _)).trans ?_
    refine ((block _ y0 y1).trans (iblk_w m hO t y0 y1)).trans (placed_in _ _ _ _ _ _ _ ?_ ?_)
    · blk_simp
      exact congrArg (· * 512 + y0.val) (congrFun e (0 : Fin 2))
    · blk_simp
      exact congrArg (· * 1408 + y1.val) (congrFun e (1 : Fin 2))
  · idx_vars i
    exact settle _ _ _ _ _ _ (congrFun ((A_eq m hO 0 1).trans (kept m)) _) fun h0 =>
      ⟨blockOf i0, flushes m hO hw _, covered m hO hw i0 i1 h0⟩
end

section
open Cert.Reference14Ideal Cert.Reference14Ideal.Gen Cert.Reference14Ideal.Read

/-- The reference's array. -/
theorem ref (w : S2x2048x1408.Idx → EReal) (p : S2048x11264.Idx → EReal) (t : IVec S2 32) (hw : (chipWord t).toNat < 4) :
    val_main_v13 (F := Ideal) w p t = fun i : S2048x11264.Idx => placed w p (chipWord t).toNat (i 0) (i 1) := by
  funext i
  idx_vars i
  pointwise [val_main_v13, val_main_v12, val_main_call0_v0, val_main_call0_v1, val_main_v11, val_main_v10, val_main_v9, val_main_v8, val_main_v7, val_main_v6, val_main_v5, val_main_v4, val_main_v3, val_main_v2, val_main_v1, val_main_v0, val_main_c]
  have h1 := i1.isLt
  have e : (BitVec.ofNat 32 (i1.val / 1408) = IntOp.addi (chipWord t) 4#32) ↔ i1.val / 1408 = 4 + (chipWord t).toNat := by
    rw [← BitVec.toNat_inj]
    simp [IntOp.addi, BitVec.toNat_add]
    omega
  by_cases h : i1.val / 1408 = 4 + (chipWord t).toNat
  · rw [show IntOp.cmpi .eq (BitVec.ofNat 32 (i1.val / 1408)) (IntOp.addi (chipWord t) 4#32) = 1#1 from
      congrArg BitVec.ofBool (beq_iff_eq.2 (e.2 h))]
    exact (if_pos h).symm
  · rw [show IntOp.cmpi .eq (BitVec.ofNat 32 (i1.val / 1408)) (IntOp.addi (chipWord t) 4#32) = 0#1 from
      congrArg BitVec.ofBool (beq_false_of_ne fun h' => h (e.1 h'))]
    exact (if_neg h).symm
end

end Cert.Place

end
-- ==== Proof.Place.Claims.lean ====
/- The claims about the placing of a device's part of a weight: frames, and the equality with the reference, for every chip. -/
module

public import proofs.«01_k».proof.Defs
public import proofs.«01_k».proof.Proof.Gen.Kernel14.Frame
public import proofs.«01_k».proof.Proof.Gen.Reference14Ideal.Run
public import proofs.«01_k».proof.Proof.Gen.Pre_chip_of_four
public import proofs.«01_k».proof.Proof.Place.Value
public import Idealize.ShloMosaic.Lib.Quiescent

@[expose] public section

set_option maxRecDepth 16384

noncomputable section

namespace Cert.Place

open Idealize.ShloMosaic Idealize.ShloMosaic.TcCoe Idealize.SL.Sem

theorem quiescent : quiescent_Kernel14 (hKernel14 := Cert.Kernel14.Gen.facts) (hPre_chip_of_four := Cert.Pre_chip_of_four.Gen.facts) :=
  fun m ρ h => Cert.Kernel14.Gen.frame m ρ (inside m h)
theorem quiescent_ideal : quiescent_Kernel14Ideal (hKernel14Ideal := Cert.Kernel14Ideal.Gen.facts)
    (hPre_chip_of_four := Cert.Pre_chip_of_four.Gen.facts) :=
  fun m ρ h => Cert.Kernel14Ideal.Gen.frame m ρ (inside_ideal m h)

section
open Cert.Reference14Ideal Cert.Reference14Ideal.Gen

/-- The reference ends with its arguments unchanged and every counter at zero. -/
theorem reference_frame (m : (ℓ : Loc nD τ sig) → Buf (Elt Ideal) ℓ) (ρ : Dev nD → PrngReg) :
    θ_run (defs (F := Ideal)) (onTc (τ := τ) (main (F := Ideal))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
      ∧ r.2.sem = fun _ => 0 :=
  (θ_run defs _ _).mono (fun r h => ⟨fun c => (h c).2, sem_eq_zero_of_no_sems (by decide) r.2⟩)
    (Cert.Reference14Ideal.Value.run (F := Ideal) m ρ)
end

theorem quiescent_ref : quiescent_Reference14Ideal (hReference14Ideal := Cert.Reference14Ideal.Gen.facts) :=
  fun m ρ _ => reference_frame m ρ
theorem quiescent_ref_pre : quiescent_Reference14Ideal_pre_chip_of_four
    (hReference14Ideal := Cert.Reference14Ideal.Gen.facts) (hPre_chip_of_four := Cert.Pre_chip_of_four.Gen.facts) :=
  fun m ρ _ => reference_frame m ρ

section
open Cert.Kernel14Ideal Cert.Kernel14Ideal.Gen

/-- What the kernel leaves in its result and in its arguments. -/
theorem kernel_run (m : (ℓ : Loc nD τ sig) → Buf (Elt Ideal) ℓ) (ρ : Dev nD → PrngReg) (hO : Ok m) :
    θ_run (defs (F := Ideal)) (onTc (τ := τ) (main (F := Ideal))) ⟨m, fun _ => 0, ρ⟩ fun r => ∀ c : Dev nD,
      r.2.mem ((c.tc : Thread nD τ).loc main_v0) = (dats m hO 0 c).arrAt 1 (cfgM m hO).N
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2) :=
  have hv : θ_run (defs (F := Ideal)) (onTc (τ := τ) (main (F := Ideal))) ⟨m, fun _ => 0, ρ⟩ fun r => ∀ c : Dev nD,
      r.2.mem ((c.tc : Thread nD τ).loc main_v0) = (dats m hO 0 c).arrAt 1 (cfgM m hO).N :=
    (θ_run defs _ _).mono (fun _ h c => (h c).1 1) (run_main m ρ hO)
  (θ_run defs _ _).mono (fun _ h c => ⟨h.1 c, h.2 c⟩) (θ_run_and hv (unchanged m ρ hO))
end

/-- The kernel computes what the reference computes. -/
theorem equal : algebraic_Kernel14Ideal_Reference14Ideal
    (hKernel14Ideal := Cert.Kernel14Ideal.Gen.facts) (hReference14Ideal := Cert.Reference14Ideal.Gen.facts)
    (hPre_chip_of_four := Cert.Pre_chip_of_four.Gen.facts) := by
  intro m ρ m' ρ' hp hagree
  refine ⟨_, kernel_run m ρ (inside_ideal m hp), (θ_run _ _ _).mono (fun r h c => ?_)
    (Cert.Reference14Ideal.Value.run (F := Ideal) m' ρ')⟩
  obtain ⟨h0, hargs⟩ := h c
  obtain ⟨a0, a1, a2⟩ := hagree c
  obtain rfl : c = 0 := Subsingleton.elim _ _
  refine ⟨h0.trans ?_, hargs⟩
  rw [Cert.Reference14Ideal.Read.val_main_v13_eq, a0, a1, a2]
  have hw := chip_four _ _ _ (hp 0)
  exact (ref _ _ _ hw).trans (final m (inside_ideal m hp) hw).symm

end Cert.Place

end
-- ==== Proof.Chips.Value.lean ====
/- The sum over the chips of a device's own part and the three received ones, and its reference: the device's numbers out of the table, the columns and the rows they name, the rows the kernel leaves, and the reference read at an index. -/
module

public import proofs.«01_k».proof.Defs
public import proofs.«01_k».proof.Proof.Gen.Kernel15.Frame
public import proofs.«01_k».proof.Proof.Gen.Kernel15Ideal.Frame
public import proofs.«01_k».proof.Proof.Gen.Reference15Ideal.Read
public import proofs.«01_k».proof.Proof.Gen.Pre_device_of_eight
public import proofs.«01_k».proof.Proof.Gen.On_rows_of_core
public import proofs.«01_k».proof.Proof.Pair.Value
public import proofs.«01_k».proof.Proof.Place.Value
public import Idealize.ShloMosaic.Lib.Pipeline.ValueKit
public import Idealize.ShloMosaic.Lib.DynamicIndex

@[expose] public section

set_option maxRecDepth 16384

noncomputable section

namespace Cert.Chips

open Idealize.ShloMosaic Idealize.ShloMosaic.TcCoe Idealize.SL.Sem
open Idealize.ShloMosaic.Pipeline (Dat)
open Cert.Pair (coreWord two at_one)
open Cert.Place (chipWord four at_zero)

/-- The precondition: the chip's number is less than 4, the core's is 0 or 1. -/
theorem device {F : FTy → Type} [FloatOps F] (a : FVec F ⟨2, ![1024, 11264]⟩ .bf16) (b : FVec F ⟨3, ![3, 1024, 1408]⟩ .bf16)
    (t : IVec ⟨1, ![2]⟩ 32) (h : Cert.Pre_device_of_eight.fn (F := F) a b t = fun _ => 1#1) :
    (chipWord t).toNat < 4 ∧ (coreWord t = 0#32 ∨ coreWord t = 1#32) := by
  have hand : ∀ p q : BitVec 1, IntOp.andi p q = 1#1 → p = 1#1 ∧ q = 1#1 := by decide
  have hboth : ∀ p q : BitVec 1, p = 1#1 → q = 1#1 → IntOp.andi p q = 1#1 := by decide
  have e : IntOp.andi (IntOp.andi (IntOp.andi (IntOp.cmpi .sge (chipWord t) 0#32) (IntOp.cmpi .slt (chipWord t) 4#32))
      (IntOp.cmpi .sge (coreWord t) 0#32)) (IntOp.cmpi .slt (coreWord t) 2#32) = 1#1 := by
    refine Eq.trans ?_ (congrFun h fun a => a.elim0)
    pointwise [Cert.Pre_device_of_eight.fn]
  obtain ⟨h1, h2⟩ := hand _ _ e
  obtain ⟨h3, h4⟩ := hand _ _ h1
  exact ⟨four _ h3, two _ (hboth _ _ h4 h2)⟩

theorem zero_word (w : BitVec 32) : (Scalar.addi 0#32 w).toNat = w.toNat := by
  simp [Scalar.addi, IntOp.addi]
theorem point_word (n : Nat) (hn : n < 2) : (BitVec.ofNat 32 n).toNat = n := by
  simp
  omega
/-- Twice the core's number and a block's number, as a word and as a number. -/
theorem half_word (w : BitVec 32) (hw : w = 0#32 ∨ w = 1#32) (n : Nat) (hn : n < 2) :
    (Scalar.addi (Scalar.muli w 2#32) (BitVec.ofNat 32 n)).toNat = w.toNat * 2 + n := by
  rcases hw with rfl | rfl <;> simp [Scalar.addi, IntOp.addi, Scalar.muli, IntOp.muli] <;> omega

section
open Cert.Kernel15 Cert.Kernel15.Gen
/-- The block of the device's own part that a point reads, and the block that it writes. -/
theorem place_own (m : (ℓ : Loc nD τ sig) → Buf (Elt Bits) ℓ) (i : grid0.Coords) :
    cc0_transform_0 inb_S2_S1_0 numel1_S1 (tbl m) i = ![(i 0).val, (chipWord (m (((0 : Dev nD) : Thread nD τ).loc main_arg2))).toNat] :=
  (congrArg (fun w => ![(BitVec.ofNat 32 (i 0).val).toNat, (Scalar.addi 0#32 w).toNat]) (at_zero _ _ _)).trans
    (congrArg₂ (fun a n => ![a, n]) (point_word _ (i 0).isLt) (zero_word _))
theorem place_out (m : (ℓ : Loc nD τ sig) → Buf (Elt Bits) ℓ)
    (hw : coreWord (m (((0 : Dev nD) : Thread nD τ).loc main_arg2)) = 0#32 ∨ coreWord (m (((0 : Dev nD) : Thread nD τ).loc main_arg2)) = 1#32)
    (i : grid0.Coords) : cc0_transform_2 inb_S2_S1_1 numel1_S1 (tbl m) i
      = ![(coreWord (m (((0 : Dev nD) : Thread nD τ).loc main_arg2))).toNat * 2 + (i 0).val, 0] :=
  (congrArg (fun w => ![(Scalar.addi (Scalar.muli w 2#32) (BitVec.ofNat 32 (i 0).val)).toNat, (0#32 : BitVec 32).toNat]) (at_one _ _ _)).trans
    (congrArg (fun n => ![n, 0]) (half_word _ hw _ (i 0).isLt))
/-- Every block that is read or written lies in its array. -/
theorem inside (m : (ℓ : Loc nD τ sig) → Buf (Elt Bits) ℓ) (h : Cert.Pre_Kernel15 m) : Ok m := by
  obtain ⟨hc, hw⟩ := device _ _ _ (h 0)
  have hl := Cert.Pair.core_lt _ hw
  refine ⟨fun i => ⟨fun (a : Fin 2) => ?_, .inr (Affine.block_words_dvd (of_decide_eq_true rfl) (by decide))⟩,
    fun i => ⟨fun (a : Fin 2) => ?_, .inl rfl⟩⟩ <;> have hi : (i 0).val < 2 := (i 0).isLt
  · rw [place_own m i]
    obtain rfl | rfl : a = 0 ∨ a = 1 := by omega
    · show ((i 0).val + 1) * 512 ≤ 1024
      omega
    · show ((chipWord (m (((0 : Dev nD) : Thread nD τ).loc main_arg2))).toNat + 1) * 1408 ≤ 11264
      omega
  · rw [place_out m hw i]
    obtain rfl | rfl : a = 0 ∨ a = 1 := by omega
    · show (_ * 2 + _ + 1) * 512 ≤ 2048
      omega
    · show (0 + 1) * 1408 ≤ 1408
      omega
end

section
open Cert.Kernel15Ideal Cert.Kernel15Ideal.Gen
/-- The block of the device's own part that a point reads, and the block that it writes. -/
theorem place_ideal_own (m : (ℓ : Loc nD τ sig) → Buf (Elt Ideal) ℓ) (i : grid0.Coords) :
    cc0_transform_0 inb_S2_S1_0 numel1_S1 (tbl m) i = ![(i 0).val, (chipWord (m (((0 : Dev nD) : Thread nD τ).loc main_arg2))).toNat] :=
  (congrArg (fun w => ![(BitVec.ofNat 32 (i 0).val).toNat, (Scalar.addi 0#32 w).toNat]) (at_zero _ _ _)).trans
    (congrArg₂ (fun a n => ![a, n]) (point_word _ (i 0).isLt) (zero_word _))
theorem place_ideal_out (m : (ℓ : Loc nD τ sig) → Buf (Elt Ideal) ℓ)
    (hw : coreWord (m (((0 : Dev nD) : Thread nD τ).loc main_arg2)) = 0#32 ∨ coreWord (m (((0 : Dev nD) : Thread nD τ).loc main_arg2)) = 1#32)
    (i : grid0.Coords) : cc0_transform_2 inb_S2_S1_1 numel1_S1 (tbl m) i
      = ![(coreWord (m (((0 : Dev nD) : Thread nD τ).loc main_arg2))).toNat * 2 + (i 0).val, 0] :=
  (congrArg (fun w => ![(Scalar.addi (Scalar.muli w 2#32) (BitVec.ofNat 32 (i 0).val)).toNat, (0#32 : BitVec 32).toNat]) (at_one _ _ _)).trans
    (congrArg (fun n => ![n, 0]) (half_word _ hw _ (i 0).isLt))
/-- Every block that is read or written lies in its array. -/
theorem inside_ideal (m : (ℓ : Loc nD τ sig) → Buf (Elt Ideal) ℓ) (h : Cert.Pre_Kernel15Ideal m) : Ok m := by
  obtain ⟨hc, hw⟩ := device _ _ _ (h 0)
  have hl := Cert.Pair.core_lt _ hw
  refine ⟨fun i => ⟨fun (a : Fin 2) => ?_, .inr (Affine.block_words_dvd (of_decide_eq_true rfl) (by decide))⟩,
    fun i => ⟨fun (a : Fin 2) => ?_, .inl rfl⟩⟩ <;> have hi : (i 0).val < 2 := (i 0).isLt
  · rw [place_ideal_own m i]
    obtain rfl | rfl : a = 0 ∨ a = 1 := by omega
    · show ((i 0).val + 1) * 512 ≤ 1024
      omega
    · show ((chipWord (m (((0 : Dev nD) : Thread nD τ).loc main_arg2))).toNat + 1) * 1408 ≤ 11264
      omega
  · rw [place_ideal_out m hw i]
    obtain rfl | rfl : a = 0 ∨ a = 1 := by omega
    · show (_ * 2 + _ + 1) * 512 ≤ 2048
      omega
    · show (0 + 1) * 1408 ≤ 1408
      omega
end

/-- Column `j` of chip `k`'s part, as a column of the array. -/
def colOf (k : Fin 4) (j : Fin 1408) : Fin 11264 := ⟨k.val * 1408 + j.val, by omega⟩
theorem colOf_val (k : Fin 4) (j : Fin 1408) : (colOf k j).val = k.val * 1408 + j.val := rfl
/-- The row of its half that a row is. -/
def inHalf (r : Fin 2048) : Fin 1024 := ⟨r.val % 1024, by omega⟩

/-- The sum of chip `k`'s part of an array with the three received parts. -/
def total (x : (⟨2, ![1024, 11264]⟩ : Shape).Idx → EReal) (y : (⟨3, ![3, 1024, 1408]⟩ : Shape).Idx → EReal) (k : Fin 4)
    (r : Fin 1024) (j : Fin 1408) : EReal :=
  x (ix2 r (colOf k j)) + y (ix3 0 r j) + y (ix3 1 r j) + y (ix3 2 r j)

/-- The rows the claim is about are those of the core's half. -/
theorem rows {F : FTy → Type} [FloatOps F] (a : FVec F ⟨2, ![1024, 11264]⟩ .bf16) (b : FVec F ⟨3, ![3, 1024, 1408]⟩ .bf16)
    (t : IVec ⟨1, ![2]⟩ 32) (hw : coreWord t = 0#32 ∨ coreWord t = 1#32) (r : Fin 2048) (j : Fin 1408)
    (h : Cert.On_rows_of_core.fn (F := F) a b t (ix2 r j) = 1#1) : r.val / 1024 = (coreWord t).toNat := by
  have e : IntOp.cmpi .eq (IntOp.cmpi .slt (BitVec.ofNat 32 r.val) 1024#32) (IntOp.cmpi .eq (coreWord t) 0#32) = 1#1 := by
    refine Eq.trans ?_ h
    pointwise [Cert.On_rows_of_core.fn]
  have same : ∀ p q : BitVec 1, IntOp.cmpi .eq p q = 1#1 → p = q := by decide
  have bits : ∀ p : Bool, BitVec.ofBool p = 1#1 ↔ p = true := by decide
  have hr := r.isLt
  have hn : (BitVec.ofNat 32 r.val).toInt = r.val := by
    rw [BitVec.toInt_eq_toNat_of_lt] <;> simp <;> omega
  have hs : IntOp.cmpi .slt (BitVec.ofNat 32 r.val) 1024#32 = 1#1 ↔ r.val < 1024 := by
    refine (bits _).trans ?_
    simp only [BitVec.slt, decide_eq_true_eq]
    rw [hn, show (1024#32 : BitVec 32).toInt = 1024 from rfl]
    omega
  have e' := same _ _ e
  rcases hw with h0 | h0 <;> rw [h0] at e' ⊢
  · have := hs.1 (e'.trans rfl)
    show r.val / 1024 = 0
    omega
  · have : ¬ r.val < 1024 := fun hl => absurd ((hs.2 hl).symm.trans e') (by decide)
    show r.val / 1024 = 1
    omega

section
open Cert.Kernel15Ideal Cert.Kernel15Ideal.Gen

theorem block (x : Vec Ideal S512x1408 .bf16) (y0 y1 y2 : Vec Ideal S1x512x1408 .bf16) (r : Fin 512) (j : Fin 1408) :
    k0_pay1 x y0 y1 y2 (ix2 r j) = x (ix2 r j) + y0 (ix3 0 r j) + y1 (ix3 0 r j) + y2 (ix3 0 r j) := by
  pointwise [k0_pay1]

/-- One of the three received parts, out of the block that has them. -/
theorem layer (w : Vec Ideal S3x512x1408 .bf16) (k : Fin 3) (h : ∀ a, (![k.val, 0, 0] : Fin 3 → Nat) a + (![1, 512, 1408] : Fin 3 → Nat) a ≤ S3x512x1408.size a)
    (r : Fin 512) (j : Fin 1408) : View.ld w (Rect.unit ![k.val, 0, 0] ![1, 512, 1408] h) (ix3 0 r j) = w (ix3 k r j) := by
  refine congrArg w (funext fun (a : Fin 3) => Fin.ext ?_)
  obtain rfl | rfl | rfl : a = 0 ∨ a = 1 ∨ a = 2 := by omega
  · show k.val + 1 * 0 = k.val
    omega
  · show 0 + 1 * r.val = r.val
    omega
  · show 0 + 1 * j.val = j.val
    omega

variable (m : (ℓ : Loc nD τ sig) → Buf (Elt Ideal) ℓ) (hO : Ok m)

/-- The arrays the kernel is given: the half summed over the cores, the three received parts, the table. -/
abbrev aX : FVec Ideal S1024x11264 .bf16 := m (((0 : Dev nD) : Thread nD τ).loc main_arg0)
abbrev aY : FVec Ideal S3x1024x1408 .bf16 := m (((0 : Dev nD) : Thread nD τ).loc main_arg1)
abbrev aT : IVec S2 32 := m (((0 : Dev nD) : Thread nD τ).loc main_arg2)
/-- The core's number. -/
abbrev core : Nat := (coreWord (aT m)).toNat

theorem coord : ∀ t : Fin grid0.N, (grid0.coords t 0).val = t.val := by decide +kernel

theorem idx_own (t : Fin (cfgM m hO).N) :
    ((pcfg0 (F := Ideal)).win (adm m hO) 0).index t = ![t.val, (chipWord (aT m)).toNat] := by
  refine (place_ideal_own m (grid0.coords t)).trans ?_
  rw [show (grid0.coords t 0).val = t.val from coord t]
theorem idx_recv (t : Fin (cfgM m hO).N) : ((pcfg0 (F := Ideal)).win (adm m hO) 1).index t = ![0, t.val, 0] := by
  have hi : t.val < 2 := t.isLt
  have hc : (grid0.coords t 0).val = t.val := coord t
  refine funext fun (a : Fin 3) => ?_
  obtain rfl | rfl | rfl : a = 0 ∨ a = 1 ∨ a = 2 := by omega
  · rfl
  · show (BitVec.ofNat 32 (grid0.coords t 0).val).toNat = t.val
    rw [hc, point_word _ hi]
  · rfl
theorem idx_out (hw : coreWord (aT m) = 0#32 ∨ coreWord (aT m) = 1#32) (t : Fin (cfgM m hO).N) :
    ((pcfg0 (F := Ideal)).win (adm m hO) 2).index t = ![core m * 2 + t.val, 0] := by
  refine (place_ideal_out m hw (grid0.coords t)).trans ?_
  rw [show (grid0.coords t 0).val = t.val from coord t]

/-- The row of the half that row `r` of block `t` is. -/
def rowAt (t : Fin 2) (r : Fin 512) : Fin 1024 := ⟨t.val * 512 + r.val, by omega⟩
theorem rowAt_val (t : Fin 2) (r : Fin 512) : (rowAt t r).val = t.val * 512 + r.val := rfl

theorem iblk_own (hc : (chipWord (aT m)).toNat < 4) (t : Fin (cfgM m hO).N) (r : Fin 512) (j : Fin 1408) :
    iblk m hO 0 0 t (ix2 r j) = aX m (ix2 (rowAt t r) (colOf ⟨(chipWord (aT m)).toNat, hc⟩ j)) := by
  have e := idx_own m hO t
  blk_point [iblk, V]
  · exact congrArg (· * 512 + r.val) (congrFun e (0 : Fin 2))
  · exact congrArg (· * 1408 + j.val) (congrFun e (1 : Fin 2))
theorem iblk_recv (t : Fin (cfgM m hO).N) (k : Fin 3) (r : Fin 512) (j : Fin 1408) :
    iblk m hO 0 1 t (ix3 k r j) = aY m (ix3 k (rowAt t r) j) := by
  have e := idx_recv m hO t
  blk_point [iblk, V]
  · refine (congrArg (· * 3 + k.val) (congrFun e (0 : Fin 3))).trans ?_
    show 0 * 3 + k.val = k.val
    omega
  · exact congrArg (· * 512 + r.val) (congrFun e (1 : Fin 3))
  · refine (congrArg (· * 1408 + j.val) (congrFun e (2 : Fin 3))).trans ?_
    show 0 * 1408 + j.val = j.val
    omega

/-- Every point writes its block back. -/
theorem flushes_all : ∀ (k : Fin 2) (t : Fin grid0.N),
    Pipeline.Window.flushOf grid0 true (fun i : grid0.Coords => (![k.val * 2 + (i 0).val, 0] : Fin 2 → Nat)) t = true := by
  decide +kernel
theorem flushes (hw : coreWord (aT m) = 0#32 ∨ coreWord (aT m) = 1#32) (t : Fin (cfgM m hO).N) : ((cfgM m hO).win 2).flush t = true :=
  (congrArg (fun ix => Pipeline.Window.flushOf grid0 true ix t) (funext (place_ideal_out m hw))).trans
    (flushes_all ⟨core m, Cert.Pair.core_lt _ hw⟩ t)

/-- The block a row lies in, and its row there. -/
def blockOf (r : Fin 2048) : Fin 2 := ⟨r.val % 1024 / 512, by omega⟩
def inBlock (r : Fin 2048) : Fin 512 := ⟨r.val % 512, by omega⟩

theorem covered (hw : coreWord (aT m) = 0#32 ∨ coreWord (aT m) = 1#32) (r : Fin 2048) (j : Fin 1408) (hr : r.val / 1024 = core m) :
    (ix2 r j : S2048x1408.Idx) ∈ (((cfgM m hO).win 2).blk (blockOf r)).view.set := by
  have e := idx_out m hO hw (blockOf r)
  have e4 : (((cfgM m hO).win 2).blk (blockOf r)).view.emb (ix2 (inBlock r) j : S512x1408.Idx) = (ix2 r j : S2048x1408.Idx) := by
    blk_ext []
    · refine (congrArg (· * 512 + (inBlock r).val) (congrFun e (0 : Fin 2))).trans ?_
      show (core m * 2 + r.val % 1024 / 512) * 512 + r.val % 512 = r.val
      omega
    · refine (congrArg (· * 1408 + j.val) (congrFun e (1 : Fin 2))).trans ?_
      show 0 * 1408 + j.val = j.val
      omega
  exact e4 ▸ View.emb_mem_set _ _

/-- The rows of the core's half of the array the kernel leaves. -/
theorem final (hc : (chipWord (aT m)).toNat < 4) (hw : coreWord (aT m) = 0#32 ∨ coreWord (aT m) = 1#32) (r : Fin 2048)
    (j : Fin 1408) (hr : r.val / 1024 = core m) :
    (dats m hO 0 0).arrAt 2 (cfgM m hO).N (ix2 r j : S2048x1408.Idx) = total (aX m) (aY m) ⟨(chipWord (aT m)).toNat, hc⟩ (inHalf r) j := by
  refine (Dat.arrAt_eq_piecewise (dats m hO 0 0) 2
    (fun i : S2048x1408.Idx => total (aX m) (aY m) ⟨(chipWord (aT m)).toNat, hc⟩ (inHalf (i 0)) (i 1))
    (fun t _ => ?_) (ix2 r j : S2048x1408.Idx)).trans (if_pos ⟨blockOf r, flushes m hO hw _, covered m hO hw r j hr⟩)
  have e := idx_out m hO hw t
  funext y
  blk_simp
  rw [after0_2, outsAt0]
  frame_out
  revert y
  refine fun (y : S512x1408.Idx) => ?_
  idx_vars y
  refine (congrArg₂ (fun (a : Vec Ideal S512x1408 .bf16) (b : Vec Ideal S3x512x1408 .bf16) =>
    k0_pay1 a (View.ld b (Rect.unit ![0, 0, 0] ![1, 512, 1408] inb_S3x512x1408_S1x512x1408_0_0_0))
      (View.ld b (Rect.unit ![1, 0, 0] ![1, 512, 1408] inb_S3x512x1408_S1x512x1408_1_0_0))
      (View.ld b (Rect.unit ![2, 0, 0] ![1, 512, 1408] inb_S3x512x1408_S1x512x1408_2_0_0)) (ix2 y0 y1))
    ((hs0_0 m hO t).read_unread _) ((hs0_1 m hO t).read_unread _)).trans ((block _ _ _ _ y0 y1).trans ?_)
  refine (congrArg₂ (fun a b : EReal => a + b) (congrArg₂ (fun a b : EReal => a + b)
    (congrArg₂ (fun a b : EReal => a + b) (iblk_own m hO hc t y0 y1)
    ((layer _ 0 _ y0 y1).trans (iblk_recv m hO t 0 y0 y1))) ((layer _ 1 _ y0 y1).trans (iblk_recv m hO t 1 y0 y1)))
    ((layer _ 2 _ y0 y1).trans (iblk_recv m hO t 2 y0 y1))).trans ?_
  have ht : t.val < 2 := t.isLt
  refine congrArg₂ (total (aX m) (aY m) ⟨(chipWord (aT m)).toNat, hc⟩) (Fin.ext ?_) (Fin.ext ?_)
  · show t.val * 512 + y0.val = (_ : Nat) % 1024
    blk_simp
    refine Eq.symm ((congrArg (fun n => (n * 512 + y0.val) % 1024) (congrFun e (0 : Fin 2))).trans ?_)
    show ((core m * 2 + t.val) * 512 + y0.val) % 1024 = t.val * 512 + y0.val
    omega
  · blk_simp
    refine Eq.symm ((congrArg (· * 1408 + y1.val) (congrFun e (1 : Fin 2))).trans ?_)
    show 0 * 1408 + y1.val = y1.val
    omega
end

section
open Cert.Reference15Ideal Cert.Reference15Ideal.Gen Cert.Reference15Ideal.Read

/-- The choice between four values by a number less than 4. -/
theorem pick (w : BitVec 32) (hc : w.toNat < 4) (f : Fin 4 → EReal) {v0 v1 v2 v3 : EReal} (h0 : v0 = f 0) (h1 : v1 = f 1)
    (h2 : v2 = f 2) (h3 : v3 = f 3) :
    Scalar.select (IntOp.cmpi .eq w 3#32) v3 (Scalar.select (IntOp.cmpi .eq w 2#32) v2
      (Scalar.select (IntOp.cmpi .eq w 1#32) v1 v0)) = f ⟨w.toNat, hc⟩ := by
  subst h0 h1 h2 h3
  have h : w.toNat = 0 ∨ w.toNat = 1 ∨ w.toNat = 2 ∨ w.toNat = 3 := by omega
  rcases h with h | h | h | h
  · obtain rfl : w = 0#32 := BitVec.eq_of_toNat_eq h
    rfl
  · obtain rfl : w = 1#32 := BitVec.eq_of_toNat_eq h
    rfl
  · obtain rfl : w = 2#32 := BitVec.eq_of_toNat_eq h
    rfl
  · obtain rfl : w = 3#32 := BitVec.eq_of_toNat_eq h
    rfl

/-- The sum written out, with the device's own part chosen among the four. -/
theorem chosen (x : S1024x11264.Idx → EReal) (y : S3x1024x1408.Idx → EReal) (w : BitVec 32) (hc : w.toNat < 4)
    (r : Fin 1024) (j : Fin 1408) (b0 b1 b2 b3 : Fin 11264) (h0 : b0.val = j.val) (h1 : b1.val = 1408 + j.val)
    (h2 : b2.val = 2816 + j.val) (h3 : b3.val = 4224 + j.val) :
    Scalar.select (IntOp.cmpi .eq w 3#32) (x (ix2 r b3)) (Scalar.select (IntOp.cmpi .eq w 2#32) (x (ix2 r b2))
      (Scalar.select (IntOp.cmpi .eq w 1#32) (x (ix2 r b1)) (x (ix2 r b0)))) + ∑ k, y (ix3 k r j)
      = total x y ⟨w.toNat, hc⟩ r j := by
  rw [pick w hc (fun k => x (ix2 r (colOf k j)))
    (congrArg (fun b => x (ix2 r b)) (Fin.ext (by rw [h0, colOf_val]; show _ = 0 * 1408 + j.val; omega)))
    (congrArg (fun b => x (ix2 r b)) (Fin.ext (by rw [h1, colOf_val]; show _ = 1 * 1408 + j.val; omega)))
    (congrArg (fun b => x (ix2 r b)) (Fin.ext (by rw [h2, colOf_val]; show _ = 2 * 1408 + j.val; omega)))
    (congrArg (fun b => x (ix2 r b)) (Fin.ext (by rw [h3, colOf_val]; show _ = 3 * 1408 + j.val; omega))),
    Fin.sum_univ_three, total]
  simp only [add_assoc]

/-- The reference's array. -/
theorem ref (x : S1024x11264.Idx → EReal) (y : S3x1024x1408.Idx → EReal) (t : IVec S2 32) (hc : (chipWord t).toNat < 4)
    (r : Fin 2048) (j : Fin 1408) :
    val_main_v20 (F := Ideal) x y t (ix2 r j) = total x y ⟨(chipWord t).toNat, hc⟩ (inHalf r) j := by
  pointwise [val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_c, val_main_c_0, val_main_c_1, val_main_cst]
  have hr := r.isLt
  by_cases h : r.val < 1024
  · rw [dif_pos h]
    refine (chosen x y (chipWord t) hc ⟨r.val, h⟩ j _ _ _ _ rfl rfl rfl rfl).trans (congrArg (fun r => total x y _ r j) (Fin.ext ?_))
    show r.val = r.val % 1024
    omega
  · rw [dif_neg h]
    refine (chosen x y (chipWord t) hc ⟨r.val - 1024, by omega⟩ j _ _ _ _ rfl rfl rfl rfl).trans (congrArg (fun r => total x y _ r j) (Fin.ext ?_))
    show r.val - 1024 = r.val % 1024
    omega
end

end Cert.Chips

end
-- ==== Proof.Chips.Claims.lean ====
/- The claims about the sum over the chips: frames, and the equality with the reference on the rows of the core's half, for every device. -/
module

public import proofs.«01_k».proof.Defs
public import proofs.«01_k».proof.Proof.Gen.Kernel15.Frame
public import proofs.«01_k».proof.Proof.Gen.Reference15Ideal.Run
public import proofs.«01_k».proof.Proof.Gen.On_rows_of_core
public import proofs.«01_k».proof.Proof.Gen.Pre_device_of_eight
public import proofs.«01_k».proof.Proof.Chips.Value
public import Idealize.ShloMosaic.Lib.Quiescent

@[expose] public section

set_option maxRecDepth 16384

noncomputable section

namespace Cert.Chips

open Idealize.ShloMosaic Idealize.ShloMosaic.TcCoe Idealize.SL.Sem

theorem quiescent : quiescent_Kernel15 (hKernel15 := Cert.Kernel15.Gen.facts) (hPre_device_of_eight := Cert.Pre_device_of_eight.Gen.facts) :=
  fun m ρ h => Cert.Kernel15.Gen.frame m ρ (inside m h)
theorem quiescent_ideal : quiescent_Kernel15Ideal (hKernel15Ideal := Cert.Kernel15Ideal.Gen.facts)
    (hPre_device_of_eight := Cert.Pre_device_of_eight.Gen.facts) :=
  fun m ρ h => Cert.Kernel15Ideal.Gen.frame m ρ (inside_ideal m h)

section
open Cert.Reference15Ideal Cert.Reference15Ideal.Gen

/-- The reference ends with its arguments unchanged and every counter at zero. -/
theorem reference_frame (m : (ℓ : Loc nD τ sig) → Buf (Elt Ideal) ℓ) (ρ : Dev nD → PrngReg) :
    θ_run (defs (F := Ideal)) (onTc (τ := τ) (main (F := Ideal))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
      ∧ r.2.sem = fun _ => 0 :=
  (θ_run defs _ _).mono (fun r h => ⟨fun c => (h c).2, sem_eq_zero_of_no_sems (by decide) r.2⟩)
    (Cert.Reference15Ideal.Value.run (F := Ideal) m ρ)
end

theorem quiescent_ref : quiescent_Reference15Ideal (hReference15Ideal := Cert.Reference15Ideal.Gen.facts) :=
  fun m ρ _ => reference_frame m ρ
theorem quiescent_ref_pre : quiescent_Reference15Ideal_pre_device_of_eight
    (hReference15Ideal := Cert.Reference15Ideal.Gen.facts) (hPre_device_of_eight := Cert.Pre_device_of_eight.Gen.facts) :=
  fun m ρ _ => reference_frame m ρ

section
open Cert.Kernel15Ideal Cert.Kernel15Ideal.Gen

/-- What the kernel leaves in its result and in its arguments. -/
theorem kernel_run (m : (ℓ : Loc nD τ sig) → Buf (Elt Ideal) ℓ) (ρ : Dev nD → PrngReg) (hO : Ok m) :
    θ_run (defs (F := Ideal)) (onTc (τ := τ) (main (F := Ideal))) ⟨m, fun _ => 0, ρ⟩ fun r => ∀ c : Dev nD,
      r.2.mem ((c.tc : Thread nD τ).loc main_v0) = (dats m hO 0 c).arrAt 2 (cfgM m hO).N
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2) :=
  have hv : θ_run (defs (F := Ideal)) (onTc (τ := τ) (main (F := Ideal))) ⟨m, fun _ => 0, ρ⟩ fun r => ∀ c : Dev nD,
      r.2.mem ((c.tc : Thread nD τ).loc main_v0) = (dats m hO 0 c).arrAt 2 (cfgM m hO).N :=
    (θ_run defs _ _).mono (fun _ h c => (h c).1 2) (run_main m ρ hO)
  (θ_run defs _ _).mono (fun _ h c => ⟨h.1 c, h.2 c⟩) (θ_run_and hv (unchanged m ρ hO))
end

/-- On the rows of the core's half the kernel computes what the reference computes. -/
theorem equal : algebraic_Kernel15Ideal_Reference15Ideal_on_rows_of_core
    (hKernel15Ideal := Cert.Kernel15Ideal.Gen.facts) (hReference15Ideal := Cert.Reference15Ideal.Gen.facts)
    (hPre_device_of_eight := Cert.Pre_device_of_eight.Gen.facts) (hOn_rows_of_core := Cert.On_rows_of_core.Gen.facts) := by
  intro m ρ m' ρ' hp hagree
  obtain ⟨hc, hw⟩ := device _ _ _ (hp 0)
  refine ⟨fun c => fun i : (⟨2, ![2048, 1408]⟩ : Shape).Idx => total (aX m) (aY m) ⟨_, hc⟩ (inHalf (i 0)) (i 1),
    (θ_run _ _ _).mono (fun r h c => ?_) (kernel_run m ρ (inside_ideal m hp)),
    (θ_run _ _ _).mono (fun r h c => ?_) (Cert.Reference15Ideal.Value.run (F := Ideal) m' ρ')⟩
  · obtain ⟨h0, hargs⟩ := h c
    obtain rfl : c = 0 := Subsingleton.elim _ _
    refine ⟨fun i hi => ?_, hargs⟩
    idx_vars i
    exact (congrFun h0 _).trans (final m (inside_ideal m hp) hc hw i0 i1 (rows _ _ _ hw i0 i1 hi))
  · obtain ⟨h0, hargs⟩ := h c
    obtain ⟨a0, a1, a2⟩ := hagree c
    obtain rfl : c = 0 := Subsingleton.elim _ _
    refine ⟨fun i _ => (congrFun h0 i).trans ?_, hargs⟩
    rw [Cert.Reference15Ideal.Read.val_main_v20_eq, a0, a1, a2]
    idx_vars i
    exact ref _ _ _ hc i0 i1

end Cert.Chips

end
-- ==== Proof.lean ====
/- The claims of this directory, put together. -/
module

public import proofs.«01_k».proof.Proof.Mixer.Claims
public import proofs.«01_k».proof.Proof.Rms.Claims
public import proofs.«01_k».proof.Proof.Loss.Claims
public import proofs.«01_k».proof.Proof.Gate.Claims
public import proofs.«01_k».proof.Proof.RmsFwd.Claims
public import proofs.«01_k».proof.Proof.ResRms.Claims
public import proofs.«01_k».proof.Proof.MixerFwd.Claims
public import proofs.«01_k».proof.Proof.Products.Down.Claims
public import proofs.«01_k».proof.Proof.Products.In.Claims
public import proofs.«01_k».proof.Proof.Products.Pair.Claims
public import proofs.«01_k».proof.Proof.Products.BackGu.Claims
public import proofs.«01_k».proof.Proof.Adam.Claims
public import proofs.«01_k».proof.Proof.Pair.Claims
public import proofs.«01_k».proof.Proof.Place.Claims
public import proofs.«01_k».proof.Proof.Chips.Claims

@[expose] public section

noncomputable section

namespace Cert.Proof

/-- The side conditions of the programs and of the preconditions, and then the claims in the order they are stated in. -/
theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel7.Gen.facts, Cert.Kernel7Ideal.Gen.facts, Cert.Reference7Ideal.Gen.facts, Cert.Kernel6.Gen.facts, Cert.Kernel6Ideal.Gen.facts, Cert.Reference6Ideal.Gen.facts, Cert.Kernel5.Gen.facts, Cert.Kernel5Ideal.Gen.facts, Cert.Reference5Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Pre_all_finite.Gen.facts, Cert.Pre_rows_finite.Gen.facts, Cert.Pre_head_finite.Gen.facts, Cert.Pre_gate_finite.Gen.facts, Cert.Pre_gates_finite.Gen.facts, Cert.Pre_core_of_two.Gen.facts, Cert.Pre_chip_of_four.Gen.facts, Cert.Pre_device_of_eight.Gen.facts, Cert.On_rows_of_core.Gen.facts,
    Mixer.quiescent, Mixer.quiescent_ideal, Mixer.quiescent_ideal_pre, Mixer.quiescent_ref, Mixer.quiescent_ref_pre,
    Rms.quiescent, Rms.quiescent_ideal, Rms.quiescent_ideal_pre, Rms.quiescent_ref, Rms.quiescent_ref_pre,
    Loss.quiescent, Loss.quiescent_ideal, Loss.quiescent_ideal_pre, Loss.quiescent_ref, Loss.quiescent_ref_pre,
    Gate.quiescent, Gate.quiescent_ideal, Gate.quiescent_ideal_pre, Gate.quiescent_ref, Gate.quiescent_ref_pre,
    RmsFwd.quiescent, RmsFwd.quiescent_ideal, RmsFwd.quiescent_ref,
    ResRms.quiescent, ResRms.quiescent_ideal, ResRms.quiescent_ref,
    MixerFwd.quiescent, MixerFwd.quiescent_ideal, MixerFwd.quiescent_ideal_pre, MixerFwd.quiescent_ref, MixerFwd.quiescent_ref_pre,
    Products.Down.quiescent, Products.Down.quiescent_ideal, Products.Down.quiescent_ref,
    Products.In.quiescent, Products.In.quiescent_ideal, Products.In.quiescent_ref,
    Products.Pair.quiescent, Products.Pair.quiescent_ideal, Products.Pair.quiescent_ref,
    Products.BackGu.quiescent, Products.BackGu.quiescent_ideal, Products.BackGu.quiescent_ref,
    Adam.quiescent, Adam.quiescent_ideal, Adam.quiescent_ref,
    Pair.quiescent, Pair.quiescent_ideal, Pair.quiescent_ref, Pair.quiescent_ref_pre,
    Place.quiescent, Place.quiescent_ideal, Place.quiescent_ref, Place.quiescent_ref_pre,
    Chips.quiescent, Chips.quiescent_ideal, Chips.quiescent_ref, Chips.quiescent_ref_pre,
    Mixer.preserves, Mixer.equal,
    trivial, Rms.equal,
    trivial, Loss.equal,
    trivial, Gate.equal,
    trivial, RmsFwd.equal,
    trivial, ResRms.equal,
    MixerFwd.preserves, MixerFwd.equal,
    trivial, Products.Down.equal,
    trivial, Products.In.equal,
    trivial, Products.Pair.equal,
    trivial, Products.BackGu.equal,
    trivial, Adam.equal,
    trivial, Pair.equal,
    trivial, Place.equal,
    trivial, Chips.equal⟩

end Cert.Proof

end
